-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18)) (m ((c.tc : Thread Cert.Kernel2Ideal.nD Cert.Kernel2Ideal.τ).loc Cert.Kernel2Ideal.main_arg19)) (m ((c.tc : Thread Cert.Kernel2Ideal.nD Cert.Kernel2Ideal.τ).loc Cert.Kernel2Ideal.main_arg20)) (m ((c.tc : Thread Cert.Kernel2Ideal.nD Cert.Kernel2Ideal.τ).loc Cert.Kernel2Ideal.main_arg21)) (m ((c.tc : Thread Cert.Kernel2Ideal.nD Cert.Kernel2Ideal.τ).loc Cert.Kernel2Ideal.main_arg22)) (m ((c.tc : Thread Cert.Kernel2Ideal.nD Cert.Kernel2Ideal.τ).loc Cert.Kernel2Ideal.main_arg23)) (m ((c.tc : Thread Cert.Kernel2Ideal.nD Cert.Kernel2Ideal.τ).loc Cert.Kernel2Ideal.main_arg24)) (m ((c.tc : Thread Cert.Kernel2Ideal.nD Cert.Kernel2Ideal.τ).loc Cert.Kernel2Ideal.main_arg25)) (m ((c.tc : Thread Cert.Kernel2Ideal.nD Cert.Kernel2Ideal.τ).loc Cert.Kernel2Ideal.main_arg26)) (m ((c.tc : Thread Cert.Kernel2Ideal.nD Cert.Kernel2Ideal.τ).loc Cert.Kernel2Ideal.main_arg27)) (m ((c.tc : Thread Cert.Kernel2Ideal.nD Cert.Kernel2Ideal.τ).loc Cert.Kernel2Ideal.main_arg28)) (m ((c.tc : Thread Cert.Kernel2Ideal.nD Cert.Kernel2Ideal.τ).loc Cert.Kernel2Ideal.main_arg29)) (m ((c.tc : Thread Cert.Kernel2Ideal.nD Cert.Kernel2Ideal.τ).loc Cert.Kernel2Ideal.main_arg30))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18)) (m ((c.tc : Thread Cert.Reference2Ideal.nD Cert.Reference2Ideal.τ).loc Cert.Reference2Ideal.main_arg19)) (m ((c.tc : Thread Cert.Reference2Ideal.nD Cert.Reference2Ideal.τ).loc Cert.Reference2Ideal.main_arg20)) (m ((c.tc : Thread Cert.Reference2Ideal.nD Cert.Reference2Ideal.τ).loc Cert.Reference2Ideal.main_arg21)) (m ((c.tc : Thread Cert.Reference2Ideal.nD Cert.Reference2Ideal.τ).loc Cert.Reference2Ideal.main_arg22)) (m ((c.tc : Thread Cert.Reference2Ideal.nD Cert.Reference2Ideal.τ).loc Cert.Reference2Ideal.main_arg23)) (m ((c.tc : Thread Cert.Reference2Ideal.nD Cert.Reference2Ideal.τ).loc Cert.Reference2Ideal.main_arg24)) (m ((c.tc : Thread Cert.Reference2Ideal.nD Cert.Reference2Ideal.τ).loc Cert.Reference2Ideal.main_arg25)) (m ((c.tc : Thread Cert.Reference2Ideal.nD Cert.Reference2Ideal.τ).loc Cert.Reference2Ideal.main_arg26)) (m ((c.tc : Thread Cert.Reference2Ideal.nD Cert.Reference2Ideal.τ).loc Cert.Reference2Ideal.main_arg27)) (m ((c.tc : Thread Cert.Reference2Ideal.nD Cert.Reference2Ideal.τ).loc Cert.Reference2Ideal.main_arg28)) (m ((c.tc : Thread Cert.Reference2Ideal.nD Cert.Reference2Ideal.τ).loc Cert.Reference2Ideal.main_arg29)) (m ((c.tc : Thread Cert.Reference2Ideal.nD Cert.Reference2Ideal.τ).loc Cert.Reference2Ideal.main_arg30))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16)
      ∧ r.2.mem ((c.tc : Thread Cert.Kernel2.nD Cert.Kernel2.τ).loc Cert.Kernel2.main_arg17) = m ((c.tc : Thread Cert.Kernel2.nD Cert.Kernel2.τ).loc Cert.Kernel2.main_arg17)
      ∧ r.2.mem ((c.tc : Thread Cert.Kernel2.nD Cert.Kernel2.τ).loc Cert.Kernel2.main_arg18) = m ((c.tc : Thread Cert.Kernel2.nD Cert.Kernel2.τ).loc Cert.Kernel2.main_arg18)
      ∧ r.2.mem ((c.tc : Thread Cert.Kernel2.nD Cert.Kernel2.τ).loc Cert.Kernel2.main_arg19) = m ((c.tc : Thread Cert.Kernel2.nD Cert.Kernel2.τ).loc Cert.Kernel2.main_arg19)
      ∧ r.2.mem ((c.tc : Thread Cert.Kernel2.nD Cert.Kernel2.τ).loc Cert.Kernel2.main_arg20) = m ((c.tc : Thread Cert.Kernel2.nD Cert.Kernel2.τ).loc Cert.Kernel2.main_arg20)
      ∧ r.2.mem ((c.tc : Thread Cert.Kernel2.nD Cert.Kernel2.τ).loc Cert.Kernel2.main_arg21) = m ((c.tc : Thread Cert.Kernel2.nD Cert.Kernel2.τ).loc Cert.Kernel2.main_arg21)
      ∧ r.2.mem ((c.tc : Thread Cert.Kernel2.nD Cert.Kernel2.τ).loc Cert.Kernel2.main_arg22) = m ((c.tc : Thread Cert.Kernel2.nD Cert.Kernel2.τ).loc Cert.Kernel2.main_arg22)
      ∧ r.2.mem ((c.tc : Thread Cert.Kernel2.nD Cert.Kernel2.τ).loc Cert.Kernel2.main_arg23) = m ((c.tc : Thread Cert.Kernel2.nD Cert.Kernel2.τ).loc Cert.Kernel2.main_arg23)
      ∧ r.2.mem ((c.tc : Thread Cert.Kernel2.nD Cert.Kernel2.τ).loc Cert.Kernel2.main_arg24) = m ((c.tc : Thread Cert.Kernel2.nD Cert.Kernel2.τ).loc Cert.Kernel2.main_arg24)
      ∧ r.2.mem ((c.tc : Thread Cert.Kernel2.nD Cert.Kernel2.τ).loc Cert.Kernel2.main_arg25) = m ((c.tc : Thread Cert.Kernel2.nD Cert.Kernel2.τ).loc Cert.Kernel2.main_arg25)
      ∧ r.2.mem ((c.tc : Thread Cert.Kernel2.nD Cert.Kernel2.τ).loc Cert.Kernel2.main_arg26) = m ((c.tc : Thread Cert.Kernel2.nD Cert.Kernel2.τ).loc Cert.Kernel2.main_arg26)
      ∧ r.2.mem ((c.tc : Thread Cert.Kernel2.nD Cert.Kernel2.τ).loc Cert.Kernel2.main_arg27) = m ((c.tc : Thread Cert.Kernel2.nD Cert.Kernel2.τ).loc Cert.Kernel2.main_arg27)
      ∧ r.2.mem ((c.tc : Thread Cert.Kernel2.nD Cert.Kernel2.τ).loc Cert.Kernel2.main_arg28) = m ((c.tc : Thread Cert.Kernel2.nD Cert.Kernel2.τ).loc Cert.Kernel2.main_arg28)
      ∧ r.2.mem ((c.tc : Thread Cert.Kernel2.nD Cert.Kernel2.τ).loc Cert.Kernel2.main_arg29) = m ((c.tc : Thread Cert.Kernel2.nD Cert.Kernel2.τ).loc Cert.Kernel2.main_arg29)
      ∧ r.2.mem ((c.tc : Thread Cert.Kernel2.nD Cert.Kernel2.τ).loc Cert.Kernel2.main_arg30) = m ((c.tc : Thread Cert.Kernel2.nD Cert.Kernel2.τ).loc Cert.Kernel2.main_arg30))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
      ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
      ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19)
      ∧ r.2.mem ((c.tc : Thread Cert.Kernel2Ideal.nD Cert.Kernel2Ideal.τ).loc Cert.Kernel2Ideal.main_arg20) = m ((c.tc : Thread Cert.Kernel2Ideal.nD Cert.Kernel2Ideal.τ).loc Cert.Kernel2Ideal.main_arg20)
      ∧ r.2.mem ((c.tc : Thread Cert.Kernel2Ideal.nD Cert.Kernel2Ideal.τ).loc Cert.Kernel2Ideal.main_arg21) = m ((c.tc : Thread Cert.Kernel2Ideal.nD Cert.Kernel2Ideal.τ).loc Cert.Kernel2Ideal.main_arg21)
      ∧ r.2.mem ((c.tc : Thread Cert.Kernel2Ideal.nD Cert.Kernel2Ideal.τ).loc Cert.Kernel2Ideal.main_arg22) = m ((c.tc : Thread Cert.Kernel2Ideal.nD Cert.Kernel2Ideal.τ).loc Cert.Kernel2Ideal.main_arg22)
      ∧ r.2.mem ((c.tc : Thread Cert.Kernel2Ideal.nD Cert.Kernel2Ideal.τ).loc Cert.Kernel2Ideal.main_arg23) = m ((c.tc : Thread Cert.Kernel2Ideal.nD Cert.Kernel2Ideal.τ).loc Cert.Kernel2Ideal.main_arg23)
      ∧ r.2.mem ((c.tc : Thread Cert.Kernel2Ideal.nD Cert.Kernel2Ideal.τ).loc Cert.Kernel2Ideal.main_arg24) = m ((c.tc : Thread Cert.Kernel2Ideal.nD Cert.Kernel2Ideal.τ).loc Cert.Kernel2Ideal.main_arg24)
      ∧ r.2.mem ((c.tc : Thread Cert.Kernel2Ideal.nD Cert.Kernel2Ideal.τ).loc Cert.Kernel2Ideal.main_arg25) = m ((c.tc : Thread Cert.Kernel2Ideal.nD Cert.Kernel2Ideal.τ).loc Cert.Kernel2Ideal.main_arg25)
      ∧ r.2.mem ((c.tc : Thread Cert.Kernel2Ideal.nD Cert.Kernel2Ideal.τ).loc Cert.Kernel2Ideal.main_arg26) = m ((c.tc : Thread Cert.Kernel2Ideal.nD Cert.Kernel2Ideal.τ).loc Cert.Kernel2Ideal.main_arg26)
      ∧ r.2.mem ((c.tc : Thread Cert.Kernel2Ideal.nD Cert.Kernel2Ideal.τ).loc Cert.Kernel2Ideal.main_arg27) = m ((c.tc : Thread Cert.Kernel2Ideal.nD Cert.Kernel2Ideal.τ).loc Cert.Kernel2Ideal.main_arg27)
      ∧ r.2.mem ((c.tc : Thread Cert.Kernel2Ideal.nD Cert.Kernel2Ideal.τ).loc Cert.Kernel2Ideal.main_arg28) = m ((c.tc : Thread Cert.Kernel2Ideal.nD Cert.Kernel2Ideal.τ).loc Cert.Kernel2Ideal.main_arg28)
      ∧ r.2.mem ((c.tc : Thread Cert.Kernel2Ideal.nD Cert.Kernel2Ideal.τ).loc Cert.Kernel2Ideal.main_arg29) = m ((c.tc : Thread Cert.Kernel2Ideal.nD Cert.Kernel2Ideal.τ).loc Cert.Kernel2Ideal.main_arg29)
      ∧ r.2.mem ((c.tc : Thread Cert.Kernel2Ideal.nD Cert.Kernel2Ideal.τ).loc Cert.Kernel2Ideal.main_arg30) = m ((c.tc : Thread Cert.Kernel2Ideal.nD Cert.Kernel2Ideal.τ).loc Cert.Kernel2Ideal.main_arg30))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
      ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
      ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19)
      ∧ r.2.mem ((c.tc : Thread Cert.Kernel2Ideal.nD Cert.Kernel2Ideal.τ).loc Cert.Kernel2Ideal.main_arg20) = m ((c.tc : Thread Cert.Kernel2Ideal.nD Cert.Kernel2Ideal.τ).loc Cert.Kernel2Ideal.main_arg20)
      ∧ r.2.mem ((c.tc : Thread Cert.Kernel2Ideal.nD Cert.Kernel2Ideal.τ).loc Cert.Kernel2Ideal.main_arg21) = m ((c.tc : Thread Cert.Kernel2Ideal.nD Cert.Kernel2Ideal.τ).loc Cert.Kernel2Ideal.main_arg21)
      ∧ r.2.mem ((c.tc : Thread Cert.Kernel2Ideal.nD Cert.Kernel2Ideal.τ).loc Cert.Kernel2Ideal.main_arg22) = m ((c.tc : Thread Cert.Kernel2Ideal.nD Cert.Kernel2Ideal.τ).loc Cert.Kernel2Ideal.main_arg22)
      ∧ r.2.mem ((c.tc : Thread Cert.Kernel2Ideal.nD Cert.Kernel2Ideal.τ).loc Cert.Kernel2Ideal.main_arg23) = m ((c.tc : Thread Cert.Kernel2Ideal.nD Cert.Kernel2Ideal.τ).loc Cert.Kernel2Ideal.main_arg23)
      ∧ r.2.mem ((c.tc : Thread Cert.Kernel2Ideal.nD Cert.Kernel2Ideal.τ).loc Cert.Kernel2Ideal.main_arg24) = m ((c.tc : Thread Cert.Kernel2Ideal.nD Cert.Kernel2Ideal.τ).loc Cert.Kernel2Ideal.main_arg24)
      ∧ r.2.mem ((c.tc : Thread Cert.Kernel2Ideal.nD Cert.Kernel2Ideal.τ).loc Cert.Kernel2Ideal.main_arg25) = m ((c.tc : Thread Cert.Kernel2Ideal.nD Cert.Kernel2Ideal.τ).loc Cert.Kernel2Ideal.main_arg25)
      ∧ r.2.mem ((c.tc : Thread Cert.Kernel2Ideal.nD Cert.Kernel2Ideal.τ).loc Cert.Kernel2Ideal.main_arg26) = m ((c.tc : Thread Cert.Kernel2Ideal.nD Cert.Kernel2Ideal.τ).loc Cert.Kernel2Ideal.main_arg26)
      ∧ r.2.mem ((c.tc : Thread Cert.Kernel2Ideal.nD Cert.Kernel2Ideal.τ).loc Cert.Kernel2Ideal.main_arg27) = m ((c.tc : Thread Cert.Kernel2Ideal.nD Cert.Kernel2Ideal.τ).loc Cert.Kernel2Ideal.main_arg27)
      ∧ r.2.mem ((c.tc : Thread Cert.Kernel2Ideal.nD Cert.Kernel2Ideal.τ).loc Cert.Kernel2Ideal.main_arg28) = m ((c.tc : Thread Cert.Kernel2Ideal.nD Cert.Kernel2Ideal.τ).loc Cert.Kernel2Ideal.main_arg28)
      ∧ r.2.mem ((c.tc : Thread Cert.Kernel2Ideal.nD Cert.Kernel2Ideal.τ).loc Cert.Kernel2Ideal.main_arg29) = m ((c.tc : Thread Cert.Kernel2Ideal.nD Cert.Kernel2Ideal.τ).loc Cert.Kernel2Ideal.main_arg29)
      ∧ r.2.mem ((c.tc : Thread Cert.Kernel2Ideal.nD Cert.Kernel2Ideal.τ).loc Cert.Kernel2Ideal.main_arg30) = m ((c.tc : Thread Cert.Kernel2Ideal.nD Cert.Kernel2Ideal.τ).loc Cert.Kernel2Ideal.main_arg30))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17)
      ∧ r.2.mem ((c.tc : Thread Cert.Reference2Ideal.nD Cert.Reference2Ideal.τ).loc Cert.Reference2Ideal.main_arg18) = m ((c.tc : Thread Cert.Reference2Ideal.nD Cert.Reference2Ideal.τ).loc Cert.Reference2Ideal.main_arg18)
      ∧ r.2.mem ((c.tc : Thread Cert.Reference2Ideal.nD Cert.Reference2Ideal.τ).loc Cert.Reference2Ideal.main_arg19) = m ((c.tc : Thread Cert.Reference2Ideal.nD Cert.Reference2Ideal.τ).loc Cert.Reference2Ideal.main_arg19)
      ∧ r.2.mem ((c.tc : Thread Cert.Reference2Ideal.nD Cert.Reference2Ideal.τ).loc Cert.Reference2Ideal.main_arg20) = m ((c.tc : Thread Cert.Reference2Ideal.nD Cert.Reference2Ideal.τ).loc Cert.Reference2Ideal.main_arg20)
      ∧ r.2.mem ((c.tc : Thread Cert.Reference2Ideal.nD Cert.Reference2Ideal.τ).loc Cert.Reference2Ideal.main_arg21) = m ((c.tc : Thread Cert.Reference2Ideal.nD Cert.Reference2Ideal.τ).loc Cert.Reference2Ideal.main_arg21)
      ∧ r.2.mem ((c.tc : Thread Cert.Reference2Ideal.nD Cert.Reference2Ideal.τ).loc Cert.Reference2Ideal.main_arg22) = m ((c.tc : Thread Cert.Reference2Ideal.nD Cert.Reference2Ideal.τ).loc Cert.Reference2Ideal.main_arg22)
      ∧ r.2.mem ((c.tc : Thread Cert.Reference2Ideal.nD Cert.Reference2Ideal.τ).loc Cert.Reference2Ideal.main_arg23) = m ((c.tc : Thread Cert.Reference2Ideal.nD Cert.Reference2Ideal.τ).loc Cert.Reference2Ideal.main_arg23)
      ∧ r.2.mem ((c.tc : Thread Cert.Reference2Ideal.nD Cert.Reference2Ideal.τ).loc Cert.Reference2Ideal.main_arg24) = m ((c.tc : Thread Cert.Reference2Ideal.nD Cert.Reference2Ideal.τ).loc Cert.Reference2Ideal.main_arg24)
      ∧ r.2.mem ((c.tc : Thread Cert.Reference2Ideal.nD Cert.Reference2Ideal.τ).loc Cert.Reference2Ideal.main_arg25) = m ((c.tc : Thread Cert.Reference2Ideal.nD Cert.Reference2Ideal.τ).loc Cert.Reference2Ideal.main_arg25)
      ∧ r.2.mem ((c.tc : Thread Cert.Reference2Ideal.nD Cert.Reference2Ideal.τ).loc Cert.Reference2Ideal.main_arg26) = m ((c.tc : Thread Cert.Reference2Ideal.nD Cert.Reference2Ideal.τ).loc Cert.Reference2Ideal.main_arg26)
      ∧ r.2.mem ((c.tc : Thread Cert.Reference2Ideal.nD Cert.Reference2Ideal.τ).loc Cert.Reference2Ideal.main_arg27) = m ((c.tc : Thread Cert.Reference2Ideal.nD Cert.Reference2Ideal.τ).loc Cert.Reference2Ideal.main_arg27)
      ∧ r.2.mem ((c.tc : Thread Cert.Reference2Ideal.nD Cert.Reference2Ideal.τ).loc Cert.Reference2Ideal.main_arg28) = m ((c.tc : Thread Cert.Reference2Ideal.nD Cert.Reference2Ideal.τ).loc Cert.Reference2Ideal.main_arg28)
      ∧ r.2.mem ((c.tc : Thread Cert.Reference2Ideal.nD Cert.Reference2Ideal.τ).loc Cert.Reference2Ideal.main_arg29) = m ((c.tc : Thread Cert.Reference2Ideal.nD Cert.Reference2Ideal.τ).loc Cert.Reference2Ideal.main_arg29)
      ∧ r.2.mem ((c.tc : Thread Cert.Reference2Ideal.nD Cert.Reference2Ideal.τ).loc Cert.Reference2Ideal.main_arg30) = m ((c.tc : Thread Cert.Reference2Ideal.nD Cert.Reference2Ideal.τ).loc Cert.Reference2Ideal.main_arg30))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17)
      ∧ r.2.mem ((c.tc : Thread Cert.Reference2Ideal.nD Cert.Reference2Ideal.τ).loc Cert.Reference2Ideal.main_arg18) = m ((c.tc : Thread Cert.Reference2Ideal.nD Cert.Reference2Ideal.τ).loc Cert.Reference2Ideal.main_arg18)
      ∧ r.2.mem ((c.tc : Thread Cert.Reference2Ideal.nD Cert.Reference2Ideal.τ).loc Cert.Reference2Ideal.main_arg19) = m ((c.tc : Thread Cert.Reference2Ideal.nD Cert.Reference2Ideal.τ).loc Cert.Reference2Ideal.main_arg19)
      ∧ r.2.mem ((c.tc : Thread Cert.Reference2Ideal.nD Cert.Reference2Ideal.τ).loc Cert.Reference2Ideal.main_arg20) = m ((c.tc : Thread Cert.Reference2Ideal.nD Cert.Reference2Ideal.τ).loc Cert.Reference2Ideal.main_arg20)
      ∧ r.2.mem ((c.tc : Thread Cert.Reference2Ideal.nD Cert.Reference2Ideal.τ).loc Cert.Reference2Ideal.main_arg21) = m ((c.tc : Thread Cert.Reference2Ideal.nD Cert.Reference2Ideal.τ).loc Cert.Reference2Ideal.main_arg21)
      ∧ r.2.mem ((c.tc : Thread Cert.Reference2Ideal.nD Cert.Reference2Ideal.τ).loc Cert.Reference2Ideal.main_arg22) = m ((c.tc : Thread Cert.Reference2Ideal.nD Cert.Reference2Ideal.τ).loc Cert.Reference2Ideal.main_arg22)
      ∧ r.2.mem ((c.tc : Thread Cert.Reference2Ideal.nD Cert.Reference2Ideal.τ).loc Cert.Reference2Ideal.main_arg23) = m ((c.tc : Thread Cert.Reference2Ideal.nD Cert.Reference2Ideal.τ).loc Cert.Reference2Ideal.main_arg23)
      ∧ r.2.mem ((c.tc : Thread Cert.Reference2Ideal.nD Cert.Reference2Ideal.τ).loc Cert.Reference2Ideal.main_arg24) = m ((c.tc : Thread Cert.Reference2Ideal.nD Cert.Reference2Ideal.τ).loc Cert.Reference2Ideal.main_arg24)
      ∧ r.2.mem ((c.tc : Thread Cert.Reference2Ideal.nD Cert.Reference2Ideal.τ).loc Cert.Reference2Ideal.main_arg25) = m ((c.tc : Thread Cert.Reference2Ideal.nD Cert.Reference2Ideal.τ).loc Cert.Reference2Ideal.main_arg25)
      ∧ r.2.mem ((c.tc : Thread Cert.Reference2Ideal.nD Cert.Reference2Ideal.τ).loc Cert.Reference2Ideal.main_arg26) = m ((c.tc : Thread Cert.Reference2Ideal.nD Cert.Reference2Ideal.τ).loc Cert.Reference2Ideal.main_arg26)
      ∧ r.2.mem ((c.tc : Thread Cert.Reference2Ideal.nD Cert.Reference2Ideal.τ).loc Cert.Reference2Ideal.main_arg27) = m ((c.tc : Thread Cert.Reference2Ideal.nD Cert.Reference2Ideal.τ).loc Cert.Reference2Ideal.main_arg27)
      ∧ r.2.mem ((c.tc : Thread Cert.Reference2Ideal.nD Cert.Reference2Ideal.τ).loc Cert.Reference2Ideal.main_arg28) = m ((c.tc : Thread Cert.Reference2Ideal.nD Cert.Reference2Ideal.τ).loc Cert.Reference2Ideal.main_arg28)
      ∧ r.2.mem ((c.tc : Thread Cert.Reference2Ideal.nD Cert.Reference2Ideal.τ).loc Cert.Reference2Ideal.main_arg29) = m ((c.tc : Thread Cert.Reference2Ideal.nD Cert.Reference2Ideal.τ).loc Cert.Reference2Ideal.main_arg29)
      ∧ r.2.mem ((c.tc : Thread Cert.Reference2Ideal.nD Cert.Reference2Ideal.τ).loc Cert.Reference2Ideal.main_arg30) = m ((c.tc : Thread Cert.Reference2Ideal.nD Cert.Reference2Ideal.τ).loc Cert.Reference2Ideal.main_arg30))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal_on_rows_real_pre_finite [hKernelIdeal : Cert.KernelIdeal.Facts] [hReferenceIdeal : Cert.ReferenceIdeal.Facts] [hPre_finite : Cert.Pre_finite.Facts] [hOn_rows_real : Cert.On_rows_real.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v196_0)) (v1 : (c : Dev Cert.KernelIdeal.nD) → Buf (Elt Ideal) ((c.tc : Thread Cert.KernelIdeal.nD Cert.KernelIdeal.τ).loc Cert.KernelIdeal.main_v196_1)) (v2 : (c : Dev Cert.KernelIdeal.nD) → Buf (Elt Ideal) ((c.tc : Thread Cert.KernelIdeal.nD Cert.KernelIdeal.τ).loc Cert.KernelIdeal.main_v196_2)) (v3 : (c : Dev Cert.KernelIdeal.nD) → Buf (Elt Ideal) ((c.tc : Thread Cert.KernelIdeal.nD Cert.KernelIdeal.τ).loc Cert.KernelIdeal.main_v196_3)) (v4 : (c : Dev Cert.KernelIdeal.nD) → Buf (Elt Ideal) ((c.tc : Thread Cert.KernelIdeal.nD Cert.KernelIdeal.τ).loc Cert.KernelIdeal.main_v196_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![32, 8, 768]⟩ : Shape).Idx, (Cert.On_rows_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v196_0) i = v0 c i)
          ∧ (∀ i : (⟨3, ![32, 8, 768]⟩ : Shape).Idx, (Cert.On_rows_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.KernelIdeal.nD Cert.KernelIdeal.τ).loc Cert.KernelIdeal.main_v196_1) i = v1 c i)
          ∧ (∀ i : (⟨3, ![32, 512, 128]⟩ : Shape).Idx, (Cert.On_rows_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.KernelIdeal.nD Cert.KernelIdeal.τ).loc Cert.KernelIdeal.main_v196_2) i = v2 c i)
          ∧ (∀ i : (⟨3, ![32, 512, 512]⟩ : Shape).Idx, (Cert.On_rows_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.KernelIdeal.nD Cert.KernelIdeal.τ).loc Cert.KernelIdeal.main_v196_3) i = v3 c i)
          ∧ (∀ i : (⟨3, ![32, 512, 2048]⟩ : Shape).Idx, (Cert.On_rows_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 i = 1#1 → r.2.mem ((c.tc : Thread Cert.KernelIdeal.nD Cert.KernelIdeal.τ).loc Cert.KernelIdeal.main_v196_4) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![32, 8, 768]⟩ : Shape).Idx, (Cert.On_rows_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v249) i = v0 c i)
          ∧ (∀ i : (⟨3, ![32, 8, 768]⟩ : Shape).Idx, (Cert.On_rows_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.ReferenceIdeal.nD Cert.ReferenceIdeal.τ).loc Cert.ReferenceIdeal.main_v251) i = v1 c i)
          ∧ (∀ i : (⟨3, ![32, 512, 128]⟩ : Shape).Idx, (Cert.On_rows_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.ReferenceIdeal.nD Cert.ReferenceIdeal.τ).loc Cert.ReferenceIdeal.main_v85) i = v2 c i)
          ∧ (∀ i : (⟨3, ![32, 512, 512]⟩ : Shape).Idx, (Cert.On_rows_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.ReferenceIdeal.nD Cert.ReferenceIdeal.τ).loc Cert.ReferenceIdeal.main_v166) i = v3 c i)
          ∧ (∀ i : (⟨3, ![32, 512, 2048]⟩ : Shape).Idx, (Cert.On_rows_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 i = 1#1 → r.2.mem ((c.tc : Thread Cert.ReferenceIdeal.nD Cert.ReferenceIdeal.τ).loc Cert.ReferenceIdeal.main_v247) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)
      ∧ m' ((c.tc : Thread Cert.Reference2Ideal.nD Cert.Reference2Ideal.τ).loc Cert.Reference2Ideal.main_arg17) = m ((c.tc : Thread Cert.Kernel2Ideal.nD Cert.Kernel2Ideal.τ).loc Cert.Kernel2Ideal.main_arg17)
      ∧ m' ((c.tc : Thread Cert.Reference2Ideal.nD Cert.Reference2Ideal.τ).loc Cert.Reference2Ideal.main_arg18) = m ((c.tc : Thread Cert.Kernel2Ideal.nD Cert.Kernel2Ideal.τ).loc Cert.Kernel2Ideal.main_arg18)
      ∧ m' ((c.tc : Thread Cert.Reference2Ideal.nD Cert.Reference2Ideal.τ).loc Cert.Reference2Ideal.main_arg19) = m ((c.tc : Thread Cert.Kernel2Ideal.nD Cert.Kernel2Ideal.τ).loc Cert.Kernel2Ideal.main_arg19)
      ∧ m' ((c.tc : Thread Cert.Reference2Ideal.nD Cert.Reference2Ideal.τ).loc Cert.Reference2Ideal.main_arg20) = m ((c.tc : Thread Cert.Kernel2Ideal.nD Cert.Kernel2Ideal.τ).loc Cert.Kernel2Ideal.main_arg20)
      ∧ m' ((c.tc : Thread Cert.Reference2Ideal.nD Cert.Reference2Ideal.τ).loc Cert.Reference2Ideal.main_arg21) = m ((c.tc : Thread Cert.Kernel2Ideal.nD Cert.Kernel2Ideal.τ).loc Cert.Kernel2Ideal.main_arg21)
      ∧ m' ((c.tc : Thread Cert.Reference2Ideal.nD Cert.Reference2Ideal.τ).loc Cert.Reference2Ideal.main_arg22) = m ((c.tc : Thread Cert.Kernel2Ideal.nD Cert.Kernel2Ideal.τ).loc Cert.Kernel2Ideal.main_arg22)
      ∧ m' ((c.tc : Thread Cert.Reference2Ideal.nD Cert.Reference2Ideal.τ).loc Cert.Reference2Ideal.main_arg23) = m ((c.tc : Thread Cert.Kernel2Ideal.nD Cert.Kernel2Ideal.τ).loc Cert.Kernel2Ideal.main_arg23)
      ∧ m' ((c.tc : Thread Cert.Reference2Ideal.nD Cert.Reference2Ideal.τ).loc Cert.Reference2Ideal.main_arg24) = m ((c.tc : Thread Cert.Kernel2Ideal.nD Cert.Kernel2Ideal.τ).loc Cert.Kernel2Ideal.main_arg24)
      ∧ m' ((c.tc : Thread Cert.Reference2Ideal.nD Cert.Reference2Ideal.τ).loc Cert.Reference2Ideal.main_arg25) = m ((c.tc : Thread Cert.Kernel2Ideal.nD Cert.Kernel2Ideal.τ).loc Cert.Kernel2Ideal.main_arg25)
      ∧ m' ((c.tc : Thread Cert.Reference2Ideal.nD Cert.Reference2Ideal.τ).loc Cert.Reference2Ideal.main_arg26) = m ((c.tc : Thread Cert.Kernel2Ideal.nD Cert.Kernel2Ideal.τ).loc Cert.Kernel2Ideal.main_arg26)
      ∧ m' ((c.tc : Thread Cert.Reference2Ideal.nD Cert.Reference2Ideal.τ).loc Cert.Reference2Ideal.main_arg27) = m ((c.tc : Thread Cert.Kernel2Ideal.nD Cert.Kernel2Ideal.τ).loc Cert.Kernel2Ideal.main_arg27)
      ∧ m' ((c.tc : Thread Cert.Reference2Ideal.nD Cert.Reference2Ideal.τ).loc Cert.Reference2Ideal.main_arg28) = m ((c.tc : Thread Cert.Kernel2Ideal.nD Cert.Kernel2Ideal.τ).loc Cert.Kernel2Ideal.main_arg28)
      ∧ m' ((c.tc : Thread Cert.Reference2Ideal.nD Cert.Reference2Ideal.τ).loc Cert.Reference2Ideal.main_arg29) = m ((c.tc : Thread Cert.Kernel2Ideal.nD Cert.Kernel2Ideal.τ).loc Cert.Kernel2Ideal.main_arg29)
      ∧ m' ((c.tc : Thread Cert.Reference2Ideal.nD Cert.Reference2Ideal.τ).loc Cert.Reference2Ideal.main_arg30) = m ((c.tc : Thread Cert.Kernel2Ideal.nD Cert.Kernel2Ideal.τ).loc Cert.Kernel2Ideal.main_arg30)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
          ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
          ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
          ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19)
          ∧ r.2.mem ((c.tc : Thread Cert.Kernel2Ideal.nD Cert.Kernel2Ideal.τ).loc Cert.Kernel2Ideal.main_arg20) = m ((c.tc : Thread Cert.Kernel2Ideal.nD Cert.Kernel2Ideal.τ).loc Cert.Kernel2Ideal.main_arg20)
          ∧ r.2.mem ((c.tc : Thread Cert.Kernel2Ideal.nD Cert.Kernel2Ideal.τ).loc Cert.Kernel2Ideal.main_arg21) = m ((c.tc : Thread Cert.Kernel2Ideal.nD Cert.Kernel2Ideal.τ).loc Cert.Kernel2Ideal.main_arg21)
          ∧ r.2.mem ((c.tc : Thread Cert.Kernel2Ideal.nD Cert.Kernel2Ideal.τ).loc Cert.Kernel2Ideal.main_arg22) = m ((c.tc : Thread Cert.Kernel2Ideal.nD Cert.Kernel2Ideal.τ).loc Cert.Kernel2Ideal.main_arg22)
          ∧ r.2.mem ((c.tc : Thread Cert.Kernel2Ideal.nD Cert.Kernel2Ideal.τ).loc Cert.Kernel2Ideal.main_arg23) = m ((c.tc : Thread Cert.Kernel2Ideal.nD Cert.Kernel2Ideal.τ).loc Cert.Kernel2Ideal.main_arg23)
          ∧ r.2.mem ((c.tc : Thread Cert.Kernel2Ideal.nD Cert.Kernel2Ideal.τ).loc Cert.Kernel2Ideal.main_arg24) = m ((c.tc : Thread Cert.Kernel2Ideal.nD Cert.Kernel2Ideal.τ).loc Cert.Kernel2Ideal.main_arg24)
          ∧ r.2.mem ((c.tc : Thread Cert.Kernel2Ideal.nD Cert.Kernel2Ideal.τ).loc Cert.Kernel2Ideal.main_arg25) = m ((c.tc : Thread Cert.Kernel2Ideal.nD Cert.Kernel2Ideal.τ).loc Cert.Kernel2Ideal.main_arg25)
          ∧ r.2.mem ((c.tc : Thread Cert.Kernel2Ideal.nD Cert.Kernel2Ideal.τ).loc Cert.Kernel2Ideal.main_arg26) = m ((c.tc : Thread Cert.Kernel2Ideal.nD Cert.Kernel2Ideal.τ).loc Cert.Kernel2Ideal.main_arg26)
          ∧ r.2.mem ((c.tc : Thread Cert.Kernel2Ideal.nD Cert.Kernel2Ideal.τ).loc Cert.Kernel2Ideal.main_arg27) = m ((c.tc : Thread Cert.Kernel2Ideal.nD Cert.Kernel2Ideal.τ).loc Cert.Kernel2Ideal.main_arg27)
          ∧ r.2.mem ((c.tc : Thread Cert.Kernel2Ideal.nD Cert.Kernel2Ideal.τ).loc Cert.Kernel2Ideal.main_arg28) = m ((c.tc : Thread Cert.Kernel2Ideal.nD Cert.Kernel2Ideal.τ).loc Cert.Kernel2Ideal.main_arg28)
          ∧ r.2.mem ((c.tc : Thread Cert.Kernel2Ideal.nD Cert.Kernel2Ideal.τ).loc Cert.Kernel2Ideal.main_arg29) = m ((c.tc : Thread Cert.Kernel2Ideal.nD Cert.Kernel2Ideal.τ).loc Cert.Kernel2Ideal.main_arg29)
          ∧ r.2.mem ((c.tc : Thread Cert.Kernel2Ideal.nD Cert.Kernel2Ideal.τ).loc Cert.Kernel2Ideal.main_arg30) = m ((c.tc : Thread Cert.Kernel2Ideal.nD Cert.Kernel2Ideal.τ).loc Cert.Kernel2Ideal.main_arg30))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v135) = v0 c
          ∧ r.2.mem ((c.tc : Thread Cert.Reference2Ideal.nD Cert.Reference2Ideal.τ).loc Cert.Reference2Ideal.main_v136) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16)
          ∧ r.2.mem ((c.tc : Thread Cert.Reference2Ideal.nD Cert.Reference2Ideal.τ).loc Cert.Reference2Ideal.main_arg17) = m' ((c.tc : Thread Cert.Reference2Ideal.nD Cert.Reference2Ideal.τ).loc Cert.Reference2Ideal.main_arg17)
          ∧ r.2.mem ((c.tc : Thread Cert.Reference2Ideal.nD Cert.Reference2Ideal.τ).loc Cert.Reference2Ideal.main_arg18) = m' ((c.tc : Thread Cert.Reference2Ideal.nD Cert.Reference2Ideal.τ).loc Cert.Reference2Ideal.main_arg18)
          ∧ r.2.mem ((c.tc : Thread Cert.Reference2Ideal.nD Cert.Reference2Ideal.τ).loc Cert.Reference2Ideal.main_arg19) = m' ((c.tc : Thread Cert.Reference2Ideal.nD Cert.Reference2Ideal.τ).loc Cert.Reference2Ideal.main_arg19)
          ∧ r.2.mem ((c.tc : Thread Cert.Reference2Ideal.nD Cert.Reference2Ideal.τ).loc Cert.Reference2Ideal.main_arg20) = m' ((c.tc : Thread Cert.Reference2Ideal.nD Cert.Reference2Ideal.τ).loc Cert.Reference2Ideal.main_arg20)
          ∧ r.2.mem ((c.tc : Thread Cert.Reference2Ideal.nD Cert.Reference2Ideal.τ).loc Cert.Reference2Ideal.main_arg21) = m' ((c.tc : Thread Cert.Reference2Ideal.nD Cert.Reference2Ideal.τ).loc Cert.Reference2Ideal.main_arg21)
          ∧ r.2.mem ((c.tc : Thread Cert.Reference2Ideal.nD Cert.Reference2Ideal.τ).loc Cert.Reference2Ideal.main_arg22) = m' ((c.tc : Thread Cert.Reference2Ideal.nD Cert.Reference2Ideal.τ).loc Cert.Reference2Ideal.main_arg22)
          ∧ r.2.mem ((c.tc : Thread Cert.Reference2Ideal.nD Cert.Reference2Ideal.τ).loc Cert.Reference2Ideal.main_arg23) = m' ((c.tc : Thread Cert.Reference2Ideal.nD Cert.Reference2Ideal.τ).loc Cert.Reference2Ideal.main_arg23)
          ∧ r.2.mem ((c.tc : Thread Cert.Reference2Ideal.nD Cert.Reference2Ideal.τ).loc Cert.Reference2Ideal.main_arg24) = m' ((c.tc : Thread Cert.Reference2Ideal.nD Cert.Reference2Ideal.τ).loc Cert.Reference2Ideal.main_arg24)
          ∧ r.2.mem ((c.tc : Thread Cert.Reference2Ideal.nD Cert.Reference2Ideal.τ).loc Cert.Reference2Ideal.main_arg25) = m' ((c.tc : Thread Cert.Reference2Ideal.nD Cert.Reference2Ideal.τ).loc Cert.Reference2Ideal.main_arg25)
          ∧ r.2.mem ((c.tc : Thread Cert.Reference2Ideal.nD Cert.Reference2Ideal.τ).loc Cert.Reference2Ideal.main_arg26) = m' ((c.tc : Thread Cert.Reference2Ideal.nD Cert.Reference2Ideal.τ).loc Cert.Reference2Ideal.main_arg26)
          ∧ r.2.mem ((c.tc : Thread Cert.Reference2Ideal.nD Cert.Reference2Ideal.τ).loc Cert.Reference2Ideal.main_arg27) = m' ((c.tc : Thread Cert.Reference2Ideal.nD Cert.Reference2Ideal.τ).loc Cert.Reference2Ideal.main_arg27)
          ∧ r.2.mem ((c.tc : Thread Cert.Reference2Ideal.nD Cert.Reference2Ideal.τ).loc Cert.Reference2Ideal.main_arg28) = m' ((c.tc : Thread Cert.Reference2Ideal.nD Cert.Reference2Ideal.τ).loc Cert.Reference2Ideal.main_arg28)
          ∧ r.2.mem ((c.tc : Thread Cert.Reference2Ideal.nD Cert.Reference2Ideal.τ).loc Cert.Reference2Ideal.main_arg29) = m' ((c.tc : Thread Cert.Reference2Ideal.nD Cert.Reference2Ideal.τ).loc Cert.Reference2Ideal.main_arg29)
          ∧ r.2.mem ((c.tc : Thread Cert.Reference2Ideal.nD Cert.Reference2Ideal.τ).loc Cert.Reference2Ideal.main_arg30) = m' ((c.tc : Thread Cert.Reference2Ideal.nD Cert.Reference2Ideal.τ).loc Cert.Reference2Ideal.main_arg30))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)) (v2 : (c : Dev Cert.Kernel4Ideal.nD) → Buf (Elt Ideal) ((c.tc : Thread Cert.Kernel4Ideal.nD Cert.Kernel4Ideal.τ).loc Cert.Kernel4Ideal.main_v5_2)) (v3 : (c : Dev Cert.Kernel4Ideal.nD) → Buf (Elt Ideal) ((c.tc : Thread Cert.Kernel4Ideal.nD Cert.Kernel4Ideal.τ).loc Cert.Kernel4Ideal.main_v5_3)) (v4 : (c : Dev Cert.Kernel4Ideal.nD) → Buf (Elt Ideal) ((c.tc : Thread Cert.Kernel4Ideal.nD Cert.Kernel4Ideal.τ).loc Cert.Kernel4Ideal.main_v5_4)) (v5 : (c : Dev Cert.Kernel4Ideal.nD) → Buf (Elt Ideal) ((c.tc : Thread Cert.Kernel4Ideal.nD Cert.Kernel4Ideal.τ).loc Cert.Kernel4Ideal.main_v5_5)) (v6 : (c : Dev Cert.Kernel4Ideal.nD) → Buf (Elt Ideal) ((c.tc : Thread Cert.Kernel4Ideal.nD Cert.Kernel4Ideal.τ).loc Cert.Kernel4Ideal.main_v5_6)) (v7 : (c : Dev Cert.Kernel4Ideal.nD) → Buf (Elt Ideal) ((c.tc : Thread Cert.Kernel4Ideal.nD Cert.Kernel4Ideal.τ).loc Cert.Kernel4Ideal.main_v5_7)) (v8 : (c : Dev Cert.Kernel4Ideal.nD) → Buf (Elt Ideal) ((c.tc : Thread Cert.Kernel4Ideal.nD Cert.Kernel4Ideal.τ).loc Cert.Kernel4Ideal.main_v5_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_v5_2) = v2 c
          ∧ r.2.mem ((c.tc : Thread Cert.Kernel4Ideal.nD Cert.Kernel4Ideal.τ).loc Cert.Kernel4Ideal.main_v5_3) = v3 c
          ∧ r.2.mem ((c.tc : Thread Cert.Kernel4Ideal.nD Cert.Kernel4Ideal.τ).loc Cert.Kernel4Ideal.main_v5_4) = v4 c
          ∧ r.2.mem ((c.tc : Thread Cert.Kernel4Ideal.nD Cert.Kernel4Ideal.τ).loc Cert.Kernel4Ideal.main_v5_5) = v5 c
          ∧ r.2.mem ((c.tc : Thread Cert.Kernel4Ideal.nD Cert.Kernel4Ideal.τ).loc Cert.Kernel4Ideal.main_v5_6) = v6 c
          ∧ r.2.mem ((c.tc : Thread Cert.Kernel4Ideal.nD Cert.Kernel4Ideal.τ).loc Cert.Kernel4Ideal.main_v5_7) = v7 c
          ∧ r.2.mem ((c.tc : Thread Cert.Kernel4Ideal.nD Cert.Kernel4Ideal.τ).loc Cert.Kernel4Ideal.main_v5_8) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_v18) = v1 c
          ∧ r.2.mem ((c.tc : Thread Cert.Reference4Ideal.nD Cert.Reference4Ideal.τ).loc Cert.Reference4Ideal.main_v21) = v2 c
          ∧ r.2.mem ((c.tc : Thread Cert.Reference4Ideal.nD Cert.Reference4Ideal.τ).loc Cert.Reference4Ideal.main_v24) = v3 c
          ∧ r.2.mem ((c.tc : Thread Cert.Reference4Ideal.nD Cert.Reference4Ideal.τ).loc Cert.Reference4Ideal.main_v28) = v4 c
          ∧ r.2.mem ((c.tc : Thread Cert.Reference4Ideal.nD Cert.Reference4Ideal.τ).loc Cert.Reference4Ideal.main_v29) = v5 c
          ∧ r.2.mem ((c.tc : Thread Cert.Reference4Ideal.nD Cert.Reference4Ideal.τ).loc Cert.Reference4Ideal.main_v30) = v6 c
          ∧ r.2.mem ((c.tc : Thread Cert.Reference4Ideal.nD Cert.Reference4Ideal.τ).loc Cert.Reference4Ideal.main_v31) = v7 c
          ∧ r.2.mem ((c.tc : Thread Cert.Reference4Ideal.nD Cert.Reference4Ideal.τ).loc Cert.Reference4Ideal.main_v32) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_on_rows_step [hKernel5Ideal : Cert.Kernel5Ideal.Facts] [hReference5Ideal : Cert.Reference5Ideal.Facts] [hOn_rows_step : Cert.On_rows_step.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v15_0)) (v1 : (c : Dev Cert.Kernel5Ideal.nD) → Buf (Elt Ideal) ((c.tc : Thread Cert.Kernel5Ideal.nD Cert.Kernel5Ideal.τ).loc Cert.Kernel5Ideal.main_v15_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          (∀ i : (⟨3, ![1, 256, 1024]⟩ : Shape).Idx, (Cert.On_rows_step.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).1 i = 1#1 → r.2.mem ((c.tc : Thread Cert.Kernel5Ideal.nD Cert.Kernel5Ideal.τ).loc Cert.Kernel5Ideal.main_v15_0) i = v0 c i)
          ∧ (∀ i : (⟨3, ![1, 256, 2816]⟩ : Shape).Idx, (Cert.On_rows_step.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2 i = 1#1 → r.2.mem ((c.tc : Thread Cert.Kernel5Ideal.nD Cert.Kernel5Ideal.τ).loc Cert.Kernel5Ideal.main_v15_1) i = v1 c i)
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          (∀ i : (⟨3, ![1, 256, 1024]⟩ : Shape).Idx, (Cert.On_rows_step.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).1 i = 1#1 → r.2.mem ((c.tc : Thread Cert.Reference5Ideal.nD Cert.Reference5Ideal.τ).loc Cert.Reference5Ideal.main_v63) i = v0 c i)
          ∧ (∀ i : (⟨3, ![1, 256, 2816]⟩ : Shape).Idx, (Cert.On_rows_step.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2 i = 1#1 → r.2.mem ((c.tc : Thread Cert.Reference5Ideal.nD Cert.Reference5Ideal.τ).loc Cert.Reference5Ideal.main_v65) i = v1 c i)
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v31_0)) (v1 : (c : Dev Cert.Kernel6Ideal.nD) → Buf (Elt Ideal) ((c.tc : Thread Cert.Kernel6Ideal.nD Cert.Kernel6Ideal.τ).loc Cert.Kernel6Ideal.main_v31_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v31_0) = v0 c
          ∧ r.2.mem ((c.tc : Thread Cert.Kernel6Ideal.nD Cert.Kernel6Ideal.τ).loc Cert.Kernel6Ideal.main_v31_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v32) = v0 c
          ∧ r.2.mem ((c.tc : Thread Cert.Reference6Ideal.nD Cert.Reference6Ideal.τ).loc Cert.Reference6Ideal.main_v47) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v16) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite2 : Cert.Pre_finite2.Facts) (hPre_finite6 : Cert.Pre_finite6.Facts) (hPre_finite7 : Cert.Pre_finite7.Facts) (hOn_rows_real : Cert.On_rows_real.Facts) (hOn_rows_step : Cert.On_rows_step.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ preserves_Kernel_KernelIdeal
    ∧ algebraic_KernelIdeal_ReferenceIdeal_on_rows_real_pre_finite (hKernelIdeal := hKernelIdeal) (hReferenceIdeal := hReferenceIdeal) (hPre_finite := hPre_finite) (hOn_rows_real := hOn_rows_real)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_on_rows_step (hKernel5Ideal := hKernel5Ideal) (hReference5Ideal := hReference5Ideal) (hOn_rows_step := hOn_rows_step)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
-- ==== On_rows_real.lean ====
abbrev S32x8x768 : Shape := ⟨3, ![32, 8, 768]⟩
abbrev S32x8x512 : Shape := ⟨3, ![32, 8, 512]⟩
abbrev S1x32x128x2x4x64 : Shape := ⟨6, ![1, 32, 128, 2, 4, 64]⟩
abbrev S1x32x512x2x4x64 : Shape := ⟨6, ![1, 32, 512, 2, 4, 64]⟩
abbrev S1x32x2048x2x4x64 : Shape := ⟨6, ![1, 32, 2048, 2, 4, 64]⟩
abbrev S32x12 : Shape := ⟨2, ![32, 12]⟩
abbrev S_ : Shape := ⟨0, ![]⟩
abbrev S32x512x128 : Shape := ⟨3, ![32, 512, 128]⟩
abbrev S32x512x512 : Shape := ⟨3, ![32, 512, 512]⟩
abbrev S32x512x2048 : Shape := ⟨3, ![32, 512, 2048]⟩

class Facts : Prop where
  bcast_S_S32x8x768 : S_.BroadcastsInDim S32x8x768 (![] : Fin 0 → Fin S32x8x768.rank)
  bcast_S_S32x512x128 : S_.BroadcastsInDim S32x512x128 (![] : Fin 0 → Fin S32x512x128.rank)
  bcast_S_S32x512x512 : S_.BroadcastsInDim S32x512x512 (![] : Fin 0 → Fin S32x512x512.rank)
  bcast_S_S32x512x2048 : S_.BroadcastsInDim S32x512x2048 (![] : Fin 0 → Fin S32x512x2048.rank)

variable [Facts]

def fn {F : FTy → Type} [FloatOps F] (main_arg0 : FVec F S32x8x768 .f32) (main_arg1 : FVec F S32x8x512 .f32) (main_arg2 : FVec F S32x8x512 .f32) (main_arg3 : FVec F S32x8x512 .f32) (main_arg4 : FVec F S1x32x128x2x4x64 .f32) (main_arg5 : FVec F S1x32x512x2x4x64 .f32) (main_arg6 : FVec F S1x32x2048x2x4x64 .f32) (main_arg7 : FVec F S32x12 .f32) : IVec S32x8x768 1 × IVec S32x8x768 1 × IVec S32x512x128 1 × IVec S32x512x512 1 × IVec S32x512x2048 1 :=
  let main_v0 : IVec S32x8x768 32 := iotaInDim S32x8x768 32 1
  let main_c : IVec S_ 32 := constantI S_ 32 4#32
  let main_v1 : IVec S32x8x768 32 := broadcastInDim S32x8x768 ![] bcast_S_S32x8x768 main_c
  let main_v2 : IVec S32x8x768 1 := cmpi .slt main_v0 main_v1
  let main_v3 : IVec S32x512x128 32 := iotaInDim S32x512x128 32 1
  let main_c_0 : IVec S_ 32 := constantI S_ 32 512#32
  let main_v4 : IVec S32x512x128 32 := broadcastInDim S32x512x128 ![] bcast_S_S32x512x128 main_c_0
  let main_v5 : IVec S32x512x128 1 := cmpi .slt main_v3 main_v4
  let main_v6 : IVec S32x512x512 32 := iotaInDim S32x512x512 32 1
  let main_c_1 : IVec S_ 32 := constantI S_ 32 512#32
  let main_v7 : IVec S32x512x512 32 := broadcastInDim S32x512x512 ![] bcast_S_S32x512x512 main_c_1
  let main_v8 : IVec S32x512x512 1 := cmpi .slt main_v6 main_v7
  let main_v9 : IVec S32x512x2048 32 := iotaInDim S32x512x2048 32 1
  let main_c_2 : IVec S_ 32 := constantI S_ 32 512#32
  let main_v10 : IVec S32x512x2048 32 := broadcastInDim S32x512x2048 ![] bcast_S_S32x512x2048 main_c_2
  let main_v11 : IVec S32x512x2048 1 := cmpi .slt main_v9 main_v10
  (main_v2, main_v2, main_v5, main_v8, main_v11)
-- ==== On_rows_step.lean ====
abbrev S256x1024 : Shape := ⟨2, ![256, 1024]⟩
abbrev S32x8x512 : Shape := ⟨3, ![32, 8, 512]⟩
abbrev S32x2x2816 : Shape := ⟨3, ![32, 2, 2816]⟩
abbrev S512x1024 : Shape := ⟨2, ![512, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x256x1024 : Shape := ⟨3, ![1, 256, 1024]⟩
abbrev S_ : Shape := ⟨0, ![]⟩
abbrev S1x256x2816 : Shape := ⟨3, ![1, 256, 2816]⟩

class Facts : Prop where
  bcast_S_S1x256x1024 : S_.BroadcastsInDim S1x256x1024 (![] : Fin 0 → Fin S1x256x1024.rank)
  bcast_S_S1x256x2816 : S_.BroadcastsInDim S1x256x2816 (![] : Fin 0 → Fin S1x256x2816.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S1x256x1024 32) (arg1 : IVec S_ 32) : IVec S1x256x1024 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S1x256x1024 32 := broadcastInDim S1x256x1024 ![] bcast_S_S1x256x1024 v2
  let v4 : IVec S1x256x1024 32 := Host.remsi arg0 v3
  let c_1 : IVec S_ 32 := constantI S_ 32 0#32
  let v5 : IVec S1x256x1024 32 := broadcastInDim S1x256x1024 ![] bcast_S_S1x256x1024 c_1
  let v6 : IVec S1x256x1024 1 := cmpi .ne v4 v5
  let c_2 : IVec S_ 32 := constantI S_ 32 0#32
  let v7 : IVec S1x256x1024 32 := broadcastInDim S1x256x1024 ![] bcast_S_S1x256x1024 c_2
  let v8 : IVec S1x256x1024 1 := cmpi .slt v4 v7
  let c_3 : IVec S_ 32 := constantI S_ 32 0#32
  let v9 : IVec S_ 1 := cmpi .slt v2 c_3
  let v10 : IVec S1x256x1024 1 := broadcastInDim S1x256x1024 ![] bcast_S_S1x256x1024 v9
  let v11 : IVec S1x256x1024 1 := cmpi .ne v8 v10
  let v12 : IVec S1x256x1024 1 := andi v11 v6
  let v13 : IVec S1x256x1024 32 := broadcastInDim S1x256x1024 ![] bcast_S_S1x256x1024 v2
  let v14 : IVec S1x256x1024 32 := addi v4 v13
  let v15 : IVec S1x256x1024 32 := select v12 v14 v4
  v15

def fn_remainder_0 {F : FTy → Type} [FloatOps F] (arg0 : IVec S1x256x2816 32) (arg1 : IVec S_ 32) : IVec S1x256x2816 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S1x256x2816 32 := broadcastInDim S1x256x2816 ![] bcast_S_S1x256x2816 v2
  let v4 : IVec S1x256x2816 32 := Host.remsi arg0 v3
  let c_1 : IVec S_ 32 := constantI S_ 32 0#32
  let v5 : IVec S1x256x2816 32 := broadcastInDim S1x256x2816 ![] bcast_S_S1x256x2816 c_1
  let v6 : IVec S1x256x2816 1 := cmpi .ne v4 v5
  let c_2 : IVec S_ 32 := constantI S_ 32 0#32
  let v7 : IVec S1x256x2816 32 := broadcastInDim S1x256x2816 ![] bcast_S_S1x256x2816 c_2
  let v8 : IVec S1x256x2816 1 := cmpi .slt v4 v7
  let c_3 : IVec S_ 32 := constantI S_ 32 0#32
  let v9 : IVec S_ 1 := cmpi .slt v2 c_3
  let v10 : IVec S1x256x2816 1 := broadcastInDim S1x256x2816 ![] bcast_S_S1x256x2816 v9
  let v11 : IVec S1x256x2816 1 := cmpi .ne v8 v10
  let v12 : IVec S1x256x2816 1 := andi v11 v6
  let v13 : IVec S1x256x2816 32 := broadcastInDim S1x256x2816 ![] bcast_S_S1x256x2816 v2
  let v14 : IVec S1x256x2816 32 := addi v4 v13
  let v15 : IVec S1x256x2816 32 := select v12 v14 v4
  v15

def fn {F : FTy → Type} [FloatOps F] (main_arg0 : FVec F S256x1024 .f32) (main_arg1 : FVec F S32x8x512 .f32) (main_arg2 : FVec F S32x2x2816 .f32) (main_arg3 : FVec F S512x1024 .f32) (main_arg4 : FVec F S1024 .f32) (main_arg5 : FVec F S1024x5632 .f32) (main_arg6 : FVec F S3x2816 .f32) (main_arg7 : FVec F S2816 .f32) (main_arg8 : FVec F S2816x1024 .f32) (main_arg9 : FVec F S1024 .f32) : IVec S1x256x1024 1 × IVec S1x256x2816 1 :=
  let main_v0 : IVec S1x256x1024 32 := iotaInDim S1x256x1024 32 1
  let main_c : IVec S_ 32 := constantI S_ 32 8#32
  let main_v1 : IVec S1x256x1024 32 := fn_remainder (F := F) main_v0 main_c
  let main_c_0 : IVec S_ 32 := constantI S_ 32 4#32
  let main_v2 : IVec S1x256x1024 32 := broadcastInDim S1x256x1024 ![] bcast_S_S1x256x1024 main_c_0
  let main_v3 : IVec S1x256x1024 1 := cmpi .slt main_v1 main_v2
  let main_v4 : IVec S1x256x2816 32 := iotaInDim S1x256x2816 32 1
  let main_c_1 : IVec S_ 32 := constantI S_ 32 8#32
  let main_v5 : IVec S1x256x2816 32 := fn_remainder_0 (F := F) main_v4 main_c_1
  let main_c_2 : IVec S_ 32 := constantI S_ 32 4#32
  let main_v6 : IVec S1x256x2816 32 := broadcastInDim S1x256x2816 ![] bcast_S_S1x256x2816 main_c_2
  let main_v7 : IVec S1x256x2816 1 := cmpi .slt main_v5 main_v6
  (main_v3, main_v7)
-- ==== Pre_finite.lean ====
abbrev S32x8x768 : Shape := ⟨3, ![32, 8, 768]⟩
abbrev S32x8x512 : Shape := ⟨3, ![32, 8, 512]⟩
abbrev S1x32x128x2x4x64 : Shape := ⟨6, ![1, 32, 128, 2, 4, 64]⟩
abbrev S1x32x512x2x4x64 : Shape := ⟨6, ![1, 32, 512, 2, 4, 64]⟩
abbrev S1x32x2048x2x4x64 : Shape := ⟨6, ![1, 32, 2048, 2, 4, 64]⟩
abbrev S32x12 : Shape := ⟨2, ![32, 12]⟩
abbrev S_ : Shape := ⟨0, ![]⟩

class Facts : Prop where
  bcast_S_S32x8x768 : S_.BroadcastsInDim S32x8x768 (![] : Fin 0 → Fin S32x8x768.rank)
  reducesTo_S32x8x768_S_d0_1_2 : S32x8x768.ReducesTo [0, 1, 2] S_
  h_S_ : 0 < S_.numel
  bcast_S_S32x8x512 : S_.BroadcastsInDim S32x8x512 (![] : Fin 0 → Fin S32x8x512.rank)
  reducesTo_S32x8x512_S_d0_1_2 : S32x8x512.ReducesTo [0, 1, 2] S_
  bcast_S_S1x32x128x2x4x64 : S_.BroadcastsInDim S1x32x128x2x4x64 (![] : Fin 0 → Fin S1x32x128x2x4x64.rank)
  reducesTo_S1x32x128x2x4x64_S_d0_1_2_3_4_5 : S1x32x128x2x4x64.ReducesTo [0, 1, 2, 3, 4, 5] S_
  bcast_S_S1x32x512x2x4x64 : S_.BroadcastsInDim S1x32x512x2x4x64 (![] : Fin 0 → Fin S1x32x512x2x4x64.rank)
  reducesTo_S1x32x512x2x4x64_S_d0_1_2_3_4_5 : S1x32x512x2x4x64.ReducesTo [0, 1, 2, 3, 4, 5] S_
  bcast_S_S1x32x2048x2x4x64 : S_.BroadcastsInDim S1x32x2048x2x4x64 (![] : Fin 0 → Fin S1x32x2048x2x4x64.rank)
  reducesTo_S1x32x2048x2x4x64_S_d0_1_2_3_4_5 : S1x32x2048x2x4x64.ReducesTo [0, 1, 2, 3, 4, 5] S_
  bcast_S_S32x12 : S_.BroadcastsInDim S32x12 (![] : Fin 0 → Fin S32x12.rank)
  reducesTo_S32x12_S_d0_1 : S32x12.ReducesTo [0, 1] S_

variable [Facts]

def fn_part2 {F : FTy → Type} [FloatOps F] (main_arg7 : FVec F S32x12 .f32) (main_v33 : IVec S_ 1) : IVec S_ 1 :=
  let main_v34 : FVec F S32x12 .f32 := Host.absf main_arg7
  let main_cst_12 : FVec F S_ .f32 := constant S_ .f32 0x7F800000#32
  let main_v35 : FVec F S32x12 .f32 := broadcastInDim S32x12 ![] bcast_S_S32x12 main_cst_12
  let main_v36 : IVec S32x12 1 := cmpf .olt main_v34 main_v35
  let main_c_13 : IVec S_ 1 := constantI S_ 1 1#1
  let main_v37 : IVec S_ 1 := (fun x v => Host.reduce IntOp.andi x v reducesTo_S32x12_S_d0_1 h_S_) main_v36 main_c_13
  let main_v38 : IVec S_ 1 := andi main_v33 main_v37
  main_v38

def fn_part1 {F : FTy → Type} [FloatOps F] (main_arg4 : FVec F S1x32x128x2x4x64 .f32) (main_arg5 : FVec F S1x32x512x2x4x64 .f32) (main_arg6 : FVec F S1x32x2048x2x4x64 .f32) (main_arg7 : FVec F S32x12 .f32) (main_v13 : IVec S_ 1) (main_v16 : IVec S32x8x512 1) : IVec S_ 1 :=
  let main_c_5 : IVec S_ 1 := constantI S_ 1 1#1
  let main_v17 : IVec S_ 1 := (fun x v => Host.reduce IntOp.andi x v reducesTo_S32x8x512_S_d0_1_2 h_S_) main_v16 main_c_5
  let main_v18 : IVec S_ 1 := andi main_v13 main_v17
  let main_v19 : FVec F S1x32x128x2x4x64 .f32 := Host.absf main_arg4
  let main_cst_6 : FVec F S_ .f32 := constant S_ .f32 0x7F800000#32
  let main_v20 : FVec F S1x32x128x2x4x64 .f32 := broadcastInDim S1x32x128x2x4x64 ![] bcast_S_S1x32x128x2x4x64 main_cst_6
  let main_v21 : IVec S1x32x128x2x4x64 1 := cmpf .olt main_v19 main_v20
  let main_c_7 : IVec S_ 1 := constantI S_ 1 1#1
  let main_v22 : IVec S_ 1 := (fun x v => Host.reduce IntOp.andi x v reducesTo_S1x32x128x2x4x64_S_d0_1_2_3_4_5 h_S_) main_v21 main_c_7
  let main_v23 : IVec S_ 1 := andi main_v18 main_v22
  let main_v24 : FVec F S1x32x512x2x4x64 .f32 := Host.absf main_arg5
  let main_cst_8 : FVec F S_ .f32 := constant S_ .f32 0x7F800000#32
  let main_v25 : FVec F S1x32x512x2x4x64 .f32 := broadcastInDim S1x32x512x2x4x64 ![] bcast_S_S1x32x512x2x4x64 main_cst_8
  let main_v26 : IVec S1x32x512x2x4x64 1 := cmpf .olt main_v24 main_v25
  let main_c_9 : IVec S_ 1 := constantI S_ 1 1#1
  let main_v27 : IVec S_ 1 := (fun x v => Host.reduce IntOp.andi x v reducesTo_S1x32x512x2x4x64_S_d0_1_2_3_4_5 h_S_) main_v26 main_c_9
  let main_v28 : IVec S_ 1 := andi main_v23 main_v27
  let main_v29 : FVec F S1x32x2048x2x4x64 .f32 := Host.absf main_arg6
  let main_cst_10 : FVec F S_ .f32 := constant S_ .f32 0x7F800000#32
  let main_v30 : FVec F S1x32x2048x2x4x64 .f32 := broadcastInDim S1x32x2048x2x4x64 ![] bcast_S_S1x32x2048x2x4x64 main_cst_10
  let main_v31 : IVec S1x32x2048x2x4x64 1 := cmpf .olt main_v29 main_v30
  let main_c_11 : IVec S_ 1 := constantI S_ 1 1#1
  let main_v32 : IVec S_ 1 := (fun x v => Host.reduce IntOp.andi x v reducesTo_S1x32x2048x2x4x64_S_d0_1_2_3_4_5 h_S_) main_v31 main_c_11
  let main_v33 : IVec S_ 1 := andi main_v28 main_v32
  fn_part2 (F := F) main_arg7 main_v33

def fn {F : FTy → Type} [FloatOps F] (main_arg0 : FVec F S32x8x768 .f32) (main_arg1 : FVec F S32x8x512 .f32) (main_arg2 : FVec F S32x8x512 .f32) (main_arg3 : FVec F S32x8x512 .f32) (main_arg4 : FVec F S1x32x128x2x4x64 .f32) (main_arg5 : FVec F S1x32x512x2x4x64 .f32) (main_arg6 : FVec F S1x32x2048x2x4x64 .f32) (main_arg7 : FVec F S32x12 .f32) : IVec S_ 1 :=
  let main_v0 : FVec F S32x8x768 .f32 := Host.absf main_arg0
  let main_cst : FVec F S_ .f32 := constant S_ .f32 0x7F800000#32
  let main_v1 : FVec F S32x8x768 .f32 := broadcastInDim S32x8x768 ![] bcast_S_S32x8x768 main_cst
  let main_v2 : IVec S32x8x768 1 := cmpf .olt main_v0 main_v1
  let main_c : IVec S_ 1 := constantI S_ 1 1#1
  let main_v3 : IVec S_ 1 := (fun x v => Host.reduce IntOp.andi x v reducesTo_S32x8x768_S_d0_1_2 h_S_) main_v2 main_c
  let main_v4 : FVec F S32x8x512 .f32 := Host.absf main_arg1
  let main_cst_0 : FVec F S_ .f32 := constant S_ .f32 0x7F800000#32
  let main_v5 : FVec F S32x8x512 .f32 := broadcastInDim S32x8x512 ![] bcast_S_S32x8x512 main_cst_0
  let main_v6 : IVec S32x8x512 1 := cmpf .olt main_v4 main_v5
  let main_c_1 : IVec S_ 1 := constantI S_ 1 1#1
  let main_v7 : IVec S_ 1 := (fun x v => Host.reduce IntOp.andi x v reducesTo_S32x8x512_S_d0_1_2 h_S_) main_v6 main_c_1
  let main_v8 : IVec S_ 1 := andi main_v3 main_v7
  let main_v9 : FVec F S32x8x512 .f32 := Host.absf main_arg2
  let main_cst_2 : FVec F S_ .f32 := constant S_ .f32 0x7F800000#32
  let main_v10 : FVec F S32x8x512 .f32 := broadcastInDim S32x8x512 ![] bcast_S_S32x8x512 main_cst_2
  let main_v11 : IVec S32x8x512 1 := cmpf .olt main_v9 main_v10
  let main_c_3 : IVec S_ 1 := constantI S_ 1 1#1
  let main_v12 : IVec S_ 1 := (fun x v => Host.reduce IntOp.andi x v reducesTo_S32x8x512_S_d0_1_2 h_S_) main_v11 main_c_3
  let main_v13 : IVec S_ 1 := andi main_v8 main_v12
  let main_v14 : FVec F S32x8x512 .f32 := Host.absf main_arg3
  let main_cst_4 : FVec F S_ .f32 := constant S_ .f32 0x7F800000#32
  let main_v15 : FVec F S32x8x512 .f32 := broadcastInDim S32x8x512 ![] bcast_S_S32x8x512 main_cst_4
  let main_v16 : IVec S32x8x512 1 := cmpf .olt main_v14 main_v15
  fn_part1 (F := F) main_arg4 main_arg5 main_arg6 main_arg7 main_v13 main_v16
-- ==== Pre_finite2.lean ====
abbrev S8x2048x128 : Shape := ⟨3, ![8, 2048, 128]⟩
abbrev S8x2048x1024 : Shape := ⟨3, ![8, 2048, 1024]⟩
abbrev S8x1024x128 : Shape := ⟨3, ![8, 1024, 128]⟩
abbrev S8x2x2816 : Shape := ⟨3, ![8, 2, 2816]⟩
abbrev S256x1024 : Shape := ⟨2, ![256, 1024]⟩
abbrev S1024x1024 : Shape := ⟨2, ![1024, 1024]⟩
abbrev S1024 : Shape := ⟨1, ![1024]⟩
abbrev S1024x512 : Shape := ⟨2, ![1024, 512]⟩
abbrev S512x1024 : Shape := ⟨2, ![512, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩

class Facts : Prop where
  bitsLt_bf16_f32 : FTy.bits .bf16 < FTy.bits .f32
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x2048x128 : S_.BroadcastsInDim S8x2048x128 (![] : Fin 0 → Fin S8x2048x128.rank)
  reducesTo_S8x2048x128_S_d0_1_2 : S8x2048x128.ReducesTo [0, 1, 2] S_
  bcast_S_S8x1024x128 : S_.BroadcastsInDim S8x1024x128 (![] : Fin 0 → Fin S8x1024x128.rank)
  reducesTo_S8x1024x128_S_d0_1_2 : S8x1024x128.ReducesTo [0, 1, 2] S_
  bcast_S_S256x1024 : S_.BroadcastsInDim S256x1024 (![] : Fin 0 → Fin S256x1024.rank)
  reducesTo_S256x1024_S_d0_1 : S256x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_

variable [Facts]

def fn_part6 {F : FTy → Type} [FloatOps F] (main_arg23 : FVec F S1024x512 .f32) (main_v99 : IVec S_ 1) (main_v102 : IVec S1024 1) : IVec S_ 1 :=
  let main_c_39 : IVec S_ 1 := constantI S_ 1 1#1
  let main_v103 : IVec S_ 1 := (fun x v => Host.reduce IntOp.andi x v reducesTo_S1024_S_d0 h_S_) main_v102 main_c_39
  let main_v104 : IVec S_ 1 := andi main_v99 main_v103
  let main_v105 : FVec F S1024x512 .f32 := Host.absf main_arg23
  let main_cst_40 : FVec F S_ .f32 := constant S_ .f32 0x7F800000#32
  let main_v106 : FVec F S1024x512 .f32 := broadcastInDim S1024x512 ![] bcast_S_S1024x512 main_cst_40
  let main_v107 : IVec S1024x512 1 := cmpf .olt main_v105 main_v106
  let main_c_41 : IVec S_ 1 := constantI S_ 1 1#1
  let main_v108 : IVec S_ 1 := (fun x v => Host.reduce IntOp.andi x v reducesTo_S1024x512_S_d0_1 h_S_) main_v107 main_c_41
  let main_v109 : IVec S_ 1 := andi main_v104 main_v108
  main_v109

def fn_part5 {F : FTy → Type} [FloatOps F] (main_arg20 : FVec F S1024x1024 .f32) (main_arg21 : FVec F S1024x1024 .f32) (main_arg22 : FVec F S1024 .f32) (main_arg23 : FVec F S1024x512 .f32) (main_v84 : IVec S_ 1) (main_v85 : FVec F S256x1024 .f32) : IVec S_ 1 :=
  let main_cst_32 : FVec F S_ .f32 := constant S_ .f32 0x7F800000#32
  let main_v86 : FVec F S256x1024 .f32 := broadcastInDim S256x1024 ![] bcast_S_S256x1024 main_cst_32
  let main_v87 : IVec S256x1024 1 := cmpf .olt main_v85 main_v86
  let main_c_33 : IVec S_ 1 := constantI S_ 1 1#1
  let main_v88 : IVec S_ 1 := (fun x v => Host.reduce IntOp.andi x v reducesTo_S256x1024_S_d0_1 h_S_) main_v87 main_c_33
  let main_v89 : IVec S_ 1 := andi main_v84 main_v88
  let main_v90 : FVec F S1024x1024 .f32 := Host.absf main_arg20
  let main_cst_34 : FVec F S_ .f32 := constant S_ .f32 0x7F800000#32
  let main_v91 : FVec F S1024x1024 .f32 := broadcastInDim S1024x1024 ![] bcast_S_S1024x1024 main_cst_34
  let main_v92 : IVec S1024x1024 1 := cmpf .olt main_v90 main_v91
  let main_c_35 : IVec S_ 1 := constantI S_ 1 1#1
  let main_v93 : IVec S_ 1 := (fun x v => Host.reduce IntOp.andi x v reducesTo_S1024x1024_S_d0_1 h_S_) main_v92 main_c_35
  let main_v94 : IVec S_ 1 := andi main_v89 main_v93
  let main_v95 : FVec F S1024x1024 .f32 := Host.absf main_arg21
  let main_cst_36 : FVec F S_ .f32 := constant S_ .f32 0x7F800000#32
  let main_v96 : FVec F S1024x1024 .f32 := broadcastInDim S1024x1024 ![] bcast_S_S1024x1024 main_cst_36
  let main_v97 : IVec S1024x1024 1 := cmpf .olt main_v95 main_v96
  let main_c_37 : IVec S_ 1 := constantI S_ 1 1#1
  let main_v98 : IVec S_ 1 := (fun x v => Host.reduce IntOp.andi x v reducesTo_S1024x1024_S_d0_1 h_S_) main_v97 main_c_37
  let main_v99 : IVec S_ 1 := andi main_v94 main_v98
  let main_v100 : FVec F S1024 .f32 := Host.absf main_arg22
  let main_cst_38 : FVec F S_ .f32 := constant S_ .f32 0x7F800000#32
  let main_v101 : FVec F S1024 .f32 := broadcastInDim S1024 ![] bcast_S_S1024 main_cst_38
  let main_v102 : IVec S1024 1 := cmpf .olt main_v100 main_v101
  fn_part6 (F := F) main_arg23 main_v99 main_v102

def fn_part4 {F : FTy → Type} [FloatOps F] (main_arg14 : FVec F S8x2048x1024 .f32) (main_arg15 : FVec F S8x2048x1024 .f32) (main_arg16 : FVec F S8x1024x128 .f32) (main_arg19 : FVec F S256x1024 .f32) (main_arg20 : FVec F S1024x1024 .f32) (main_arg21 : FVec F S1024x1024 .f32) (main_arg22 : FVec F S1024 .f32) (main_arg23 : FVec F S1024x512 .f32) (main_v64 : IVec S_ 1) (main_v67 : IVec S8x2048x1024 1) (main_c_25 : IVec S_ 1) : IVec S_ 1 :=
  let main_v68 : IVec S_ 1 := (fun x v => Host.reduce IntOp.andi x v reducesTo_S8x2048x1024_S_d0_1_2 h_S_) main_v67 main_c_25
  let main_v69 : IVec S_ 1 := andi main_v64 main_v68
  let main_v70 : FVec F S8x2048x1024 .f32 := Host.absf main_arg14
  let main_cst_26 : FVec F S_ .f32 := constant S_ .f32 0x7F800000#32
  let main_v71 : FVec F S8x2048x1024 .f32 := broadcastInDim S8x2048x1024 ![] bcast_S_S8x2048x1024 main_cst_26
  let main_v72 : IVec S8x2048x1024 1 := cmpf .olt main_v70 main_v71
  let main_c_27 : IVec S_ 1 := constantI S_ 1 1#1
  let main_v73 : IVec S_ 1 := (fun x v => Host.reduce IntOp.andi x v reducesTo_S8x2048x1024_S_d0_1_2 h_S_) main_v72 main_c_27
  let main_v74 : IVec S_ 1 := andi main_v69 main_v73
  let main_v75 : FVec F S8x2048x1024 .f32 := Host.absf main_arg15
  let main_cst_28 : FVec F S_ .f32 := constant S_ .f32 0x7F800000#32
  let main_v76 : FVec F S8x2048x1024 .f32 := broadcastInDim S8x2048x1024 ![] bcast_S_S8x2048x1024 main_cst_28
  let main_v77 : IVec S8x2048x1024 1 := cmpf .olt main_v75 main_v76
  let main_c_29 : IVec S_ 1 := constantI S_ 1 1#1
  let main_v78 : IVec S_ 1 := (fun x v => Host.reduce IntOp.andi x v reducesTo_S8x2048x1024_S_d0_1_2 h_S_) main_v77 main_c_29
  let main_v79 : IVec S_ 1 := andi main_v74 main_v78
  let main_v80 : FVec F S8x1024x128 .f32 := Host.absf main_arg16
  let main_cst_30 : FVec F S_ .f32 := constant S_ .f32 0x7F800000#32
  let main_v81 : FVec F S8x1024x128 .f32 := broadcastInDim S8x1024x128 ![] bcast_S_S8x1024x128 main_cst_30
  let main_v82 : IVec S8x1024x128 1 := cmpf .olt main_v80 main_v81
  let main_c_31 : IVec S_ 1 := constantI S_ 1 1#1
  let main_v83 : IVec S_ 1 := (fun x v => Host.reduce IntOp.andi x v reducesTo_S8x1024x128_S_d0_1_2 h_S_) main_v82 main_c_31
  let main_v84 : IVec S_ 1 := andi main_v79 main_v83
  let main_v85 : FVec F S256x1024 .f32 := Host.absf main_arg19
  fn_part5 (F := F) main_arg20 main_arg21 main_arg22 main_arg23 main_v84 main_v85

def fn_part3 {F : FTy → Type} [FloatOps F] (main_arg10 : FVec F S8x2048x128 .f32) (main_arg11 : FVec F S8x2048x128 .f32) (main_arg13 : FVec F S8x2048x1024 .f32) (main_arg14 : FVec F S8x2048x1024 .f32) (main_arg15 : FVec F S8x2048x1024 .f32) (main_arg16 : FVec F S8x1024x128 .f32) (main_arg19 : FVec F S256x1024 .f32) (main_arg20 : FVec F S1024x1024 .f32) (main_arg21 : FVec F S1024x1024 .f32) (main_arg22 : FVec F S1024 .f32) (main_arg23 : FVec F S1024x512 .f32) (main_v49 : IVec S_ 1) (main_v50 : FVec F S8x2048x128 .f32) (main_cst_18 : FVec F S_ .f32) : IVec S_ 1 :=
  let main_v51 : FVec F S8x2048x128 .f32 := broadcastInDim S8x2048x128 ![] bcast_S_S8x2048x128 main_cst_18
  let main_v52 : IVec S8x2048x128 1 := cmpf .olt main_v50 main_v51
  let main_c_19 : IVec S_ 1 := constantI S_ 1 1#1
  let main_v53 : IVec S_ 1 := (fun x v => Host.reduce IntOp.andi x v reducesTo_S8x2048x128_S_d0_1_2 h_S_) main_v52 main_c_19
  let main_v54 : IVec S_ 1 := andi main_v49 main_v53
  let main_v55 : FVec F S8x2048x128 .f32 := Host.absf main_arg10
  let main_cst_20 : FVec F S_ .f32 := constant S_ .f32 0x7F800000#32
  let main_v56 : FVec F S8x2048x128 .f32 := broadcastInDim S8x2048x128 ![] bcast_S_S8x2048x128 main_cst_20
  let main_v57 : IVec S8x2048x128 1 := cmpf .olt main_v55 main_v56
  let main_c_21 : IVec S_ 1 := constantI S_ 1 1#1
  let main_v58 : IVec S_ 1 := (fun x v => Host.reduce IntOp.andi x v reducesTo_S8x2048x128_S_d0_1_2 h_S_) main_v57 main_c_21
  let main_v59 : IVec S_ 1 := andi main_v54 main_v58
  let main_v60 : FVec F S8x2048x128 .f32 := Host.absf main_arg11
  let main_cst_22 : FVec F S_ .f32 := constant S_ .f32 0x7F800000#32
  let main_v61 : FVec F S8x2048x128 .f32 := broadcastInDim S8x2048x128 ![] bcast_S_S8x2048x128 main_cst_22
  let main_v62 : IVec S8x2048x128 1 := cmpf .olt main_v60 main_v61
  let main_c_23 : IVec S_ 1 := constantI S_ 1 1#1
  let main_v63 : IVec S_ 1 := (fun x v => Host.reduce IntOp.andi x v reducesTo_S8x2048x128_S_d0_1_2 h_S_) main_v62 main_c_23
  let main_v64 : IVec S_ 1 := andi main_v59 main_v63
  let main_v65 : FVec F S8x2048x1024 .f32 := Host.absf main_arg13
  let main_cst_24 : FVec F S_ .f32 := constant S_ .f32 0x7F800000#32
  let main_v66 : FVec F S8x2048x1024 .f32 := broadcastInDim S8x2048x1024 ![] bcast_S_S8x2048x1024 main_cst_24
  let main_v67 : IVec S8x2048x1024 1 := cmpf .olt main_v65 main_v66
  let main_c_25 : IVec S_ 1 := constantI S_ 1 1#1
  fn_part4 (F := F) main_arg14 main_arg15 main_arg16 main_arg19 main_arg20 main_arg21 main_arg22 main_arg23 main_v64 main_v67 main_c_25

def fn_part2 {F : FTy → Type} [FloatOps F] (main_arg6 : FVec F S8x2048x128 .f32) (main_arg7 : FVec F S8x2048x128 .f32) (main_arg8 : FVec F S8x2048x128 .f32) (main_arg9 : FVec F S8x2048x128 .f32) (main_arg10 : FVec F S8x2048x128 .f32) (main_arg11 : FVec F S8x2048x128 .f32) (main_arg13 : FVec F S8x2048x1024 .f32) (main_arg14 : FVec F S8x2048x1024 .f32) (main_arg15 : FVec F S8x2048x1024 .f32) (main_arg16 : FVec F S8x1024x128 .f32) (main_arg19 : FVec F S256x1024 .f32) (main_arg20 : FVec F S1024x1024 .f32) (main_arg21 : FVec F S1024x1024 .f32) (main_arg22 : FVec F S1024 .f32) (main_arg23 : FVec F S1024x512 .f32) (main_v29 : IVec S_ 1) (main_v33 : IVec S_ 1) : IVec S_ 1 :=
  let main_v34 : IVec S_ 1 := andi main_v29 main_v33
  let main_v35 : FVec F S8x2048x128 .f32 := Host.absf main_arg6
  let main_cst_12 : FVec F S_ .f32 := constant S_ .f32 0x7F800000#32
  let main_v36 : FVec F S8x2048x128 .f32 := broadcastInDim S8x2048x128 ![] bcast_S_S8x2048x128 main_cst_12
  let main_v37 : IVec S8x2048x128 1 := cmpf .olt main_v35 main_v36
  let main_c_13 : IVec S_ 1 := constantI S_ 1 1#1
  let main_v38 : IVec S_ 1 := (fun x v => Host.reduce IntOp.andi x v reducesTo_S8x2048x128_S_d0_1_2 h_S_) main_v37 main_c_13
  let main_v39 : IVec S_ 1 := andi main_v34 main_v38
  let main_v40 : FVec F S8x2048x128 .f32 := Host.absf main_arg7
  let main_cst_14 : FVec F S_ .f32 := constant S_ .f32 0x7F800000#32
  let main_v41 : FVec F S8x2048x128 .f32 := broadcastInDim S8x2048x128 ![] bcast_S_S8x2048x128 main_cst_14
  let main_v42 : IVec S8x2048x128 1 := cmpf .olt main_v40 main_v41
  let main_c_15 : IVec S_ 1 := constantI S_ 1 1#1
  let main_v43 : IVec S_ 1 := (fun x v => Host.reduce IntOp.andi x v reducesTo_S8x2048x128_S_d0_1_2 h_S_) main_v42 main_c_15
  let main_v44 : IVec S_ 1 := andi main_v39 main_v43
  let main_v45 : FVec F S8x2048x128 .f32 := Host.absf main_arg8
  let main_cst_16 : FVec F S_ .f32 := constant S_ .f32 0x7F800000#32
  let main_v46 : FVec F S8x2048x128 .f32 := broadcastInDim S8x2048x128 ![] bcast_S_S8x2048x128 main_cst_16
  let main_v47 : IVec S8x2048x128 1 := cmpf .olt main_v45 main_v46
  let main_c_17 : IVec S_ 1 := constantI S_ 1 1#1
  let main_v48 : IVec S_ 1 := (fun x v => Host.reduce IntOp.andi x v reducesTo_S8x2048x128_S_d0_1_2 h_S_) main_v47 main_c_17
  let main_v49 : IVec S_ 1 := andi main_v44 main_v48
  let main_v50 : FVec F S8x2048x128 .f32 := Host.absf main_arg9
  let main_cst_18 : FVec F S_ .f32 := constant S_ .f32 0x7F800000#32
  fn_part3 (F := F) main_arg10 main_arg11 main_arg13 main_arg14 main_arg15 main_arg16 main_arg19 main_arg20 main_arg21 main_arg22 main_arg23 main_v49 main_v50 main_cst_18

def fn_part1 {F : FTy → Type} [FloatOps F] (main_arg3 : FVec F S8x2048x128 .f32) (main_arg4 : FVec F S8x2048x128 .f32) (main_arg5 : FVec F S8x2048x128 .f32) (main_arg6 : FVec F S8x2048x128 .f32) (main_arg7 : FVec F S8x2048x128 .f32) (main_arg8 : FVec F S8x2048x128 .f32) (main_arg9 : FVec F S8x2048x128 .f32) (main_arg10 : FVec F S8x2048x128 .f32) (main_arg11 : FVec F S8x2048x128 .f32) (main_arg13 : FVec F S8x2048x1024 .f32) (main_arg14 : FVec F S8x2048x1024 .f32) (main_arg15 : FVec F S8x2048x1024 .f32) (main_arg16 : FVec F S8x1024x128 .f32) (main_arg19 : FVec F S256x1024 .f32) (main_arg20 : FVec F S1024x1024 .f32) (main_arg21 : FVec F S1024x1024 .f32) (main_arg22 : FVec F S1024 .f32) (main_arg23 : FVec F S1024x512 .f32) (main_v14 : IVec S_ 1) (main_v15 : FVec F S8x2048x128 .f32) (main_v16 : FVec F S8x2048x128 .f32) : IVec S_ 1 :=
  let main_v17 : IVec S8x2048x128 1 := cmpf .olt main_v15 main_v16
  let main_c_5 : IVec S_ 1 := constantI S_ 1 1#1
  let main_v18 : IVec S_ 1 := (fun x v => Host.reduce IntOp.andi x v reducesTo_S8x2048x128_S_d0_1_2 h_S_) main_v17 main_c_5
  let main_v19 : IVec S_ 1 := andi main_v14 main_v18
  let main_v20 : FVec F S8x2048x128 .f32 := Host.absf main_arg3
  let main_cst_6 : FVec F S_ .f32 := constant S_ .f32 0x7F800000#32
  let main_v21 : FVec F S8x2048x128 .f32 := broadcastInDim S8x2048x128 ![] bcast_S_S8x2048x128 main_cst_6
  let main_v22 : IVec S8x2048x128 1 := cmpf .olt main_v20 main_v21
  let main_c_7 : IVec S_ 1 := constantI S_ 1 1#1
  let main_v23 : IVec S_ 1 := (fun x v => Host.reduce IntOp.andi x v reducesTo_S8x2048x128_S_d0_1_2 h_S_) main_v22 main_c_7
  let main_v24 : IVec S_ 1 := andi main_v19 main_v23
  let main_v25 : FVec F S8x2048x128 .f32 := Host.absf main_arg4
  let main_cst_8 : FVec F S_ .f32 := constant S_ .f32 0x7F800000#32
  let main_v26 : FVec F S8x2048x128 .f32 := broadcastInDim S8x2048x128 ![] bcast_S_S8x2048x128 main_cst_8
  let main_v27 : IVec S8x2048x128 1 := cmpf .olt main_v25 main_v26
  let main_c_9 : IVec S_ 1 := constantI S_ 1 1#1
  let main_v28 : IVec S_ 1 := (fun x v => Host.reduce IntOp.andi x v reducesTo_S8x2048x128_S_d0_1_2 h_S_) main_v27 main_c_9
  let main_v29 : IVec S_ 1 := andi main_v24 main_v28
  let main_v30 : FVec F S8x2048x128 .f32 := Host.absf main_arg5
  let main_cst_10 : FVec F S_ .f32 := constant S_ .f32 0x7F800000#32
  let main_v31 : FVec F S8x2048x128 .f32 := broadcastInDim S8x2048x128 ![] bcast_S_S8x2048x128 main_cst_10
  let main_v32 : IVec S8x2048x128 1 := cmpf .olt main_v30 main_v31
  let main_c_11 : IVec S_ 1 := constantI S_ 1 1#1
  let main_v33 : IVec S_ 1 := (fun x v => Host.reduce IntOp.andi x v reducesTo_S8x2048x128_S_d0_1_2 h_S_) main_v32 main_c_11
  fn_part2 (F := F) main_arg6 main_arg7 main_arg8 main_arg9 main_arg10 main_arg11 main_arg13 main_arg14 main_arg15 main_arg16 main_arg19 main_arg20 main_arg21 main_arg22 main_arg23 main_v29 main_v33

def fn {F : FTy → Type} [FloatOps F] (main_arg0 : FVec F S8x2048x128 .f32) (main_arg1 : FVec F S8x2048x128 .f32) (main_arg2 : FVec F S8x2048x128 .f32) (main_arg3 : FVec F S8x2048x128 .f32) (main_arg4 : FVec F S8x2048x128 .f32) (main_arg5 : FVec F S8x2048x128 .f32) (main_arg6 : FVec F S8x2048x128 .f32) (main_arg7 : FVec F S8x2048x128 .f32) (main_arg8 : FVec F S8x2048x128 .f32) (main_arg9 : FVec F S8x2048x128 .f32) (main_arg10 : FVec F S8x2048x128 .f32) (main_arg11 : FVec F S8x2048x128 .f32) (main_arg12 : FVec F S8x2048x1024 .bf16) (main_arg13 : FVec F S8x2048x1024 .f32) (main_arg14 : FVec F S8x2048x1024 .f32) (main_arg15 : FVec F S8x2048x1024 .f32) (main_arg16 : FVec F S8x1024x128 .f32) (main_arg17 : FVec F S8x1024x128 .f32) (main_arg18 : FVec F S8x2x2816 .f32) (main_arg19 : FVec F S256x1024 .f32) (main_arg20 : FVec F S1024x1024 .f32) (main_arg21 : FVec F S1024x1024 .f32) (main_arg22 : FVec F S1024 .f32) (main_arg23 : FVec F S1024x512 .f32) (main_arg24 : FVec F S512x1024 .f32) (main_arg25 : FVec F S1024 .f32) (main_arg26 : FVec F S1024x5632 .f32) (main_arg27 : FVec F S3x2816 .f32) (main_arg28 : FVec F S2816 .f32) (main_arg29 : FVec F S2816x1024 .f32) (main_arg30 : FVec F S1024 .f32) : IVec S_ 1 :=
  let main_v0 : FVec F S8x2048x1024 .f32 := (extf .f32 · bitsLt_bf16_f32) main_arg12
  let main_v1 : FVec F S8x2048x1024 .f32 := Host.absf main_v0
  let main_cst : FVec F S_ .f32 := constant S_ .f32 0x7F800000#32
  let main_v2 : FVec F S8x2048x1024 .f32 := broadcastInDim S8x2048x1024 ![] bcast_S_S8x2048x1024 main_cst
  let main_v3 : IVec S8x2048x1024 1 := cmpf .olt main_v1 main_v2
  let main_c : IVec S_ 1 := constantI S_ 1 1#1
  let main_v4 : IVec S_ 1 := (fun x v => Host.reduce IntOp.andi x v reducesTo_S8x2048x1024_S_d0_1_2 h_S_) main_v3 main_c
  let main_v5 : FVec F S8x2048x128 .f32 := Host.absf main_arg0
  let main_cst_0 : FVec F S_ .f32 := constant S_ .f32 0x7F800000#32
  let main_v6 : FVec F S8x2048x128 .f32 := broadcastInDim S8x2048x128 ![] bcast_S_S8x2048x128 main_cst_0
  let main_v7 : IVec S8x2048x128 1 := cmpf .olt main_v5 main_v6
  let main_c_1 : IVec S_ 1 := constantI S_ 1 1#1
  let main_v8 : IVec S_ 1 := (fun x v => Host.reduce IntOp.andi x v reducesTo_S8x2048x128_S_d0_1_2 h_S_) main_v7 main_c_1
  let main_v9 : IVec S_ 1 := andi main_v4 main_v8
  let main_v10 : FVec F S8x2048x128 .f32 := Host.absf main_arg1
  let main_cst_2 : FVec F S_ .f32 := constant S_ .f32 0x7F800000#32
  let main_v11 : FVec F S8x2048x128 .f32 := broadcastInDim S8x2048x128 ![] bcast_S_S8x2048x128 main_cst_2
  let main_v12 : IVec S8x2048x128 1 := cmpf .olt main_v10 main_v11
  let main_c_3 : IVec S_ 1 := constantI S_ 1 1#1
  let main_v13 : IVec S_ 1 := (fun x v => Host.reduce IntOp.andi x v reducesTo_S8x2048x128_S_d0_1_2 h_S_) main_v12 main_c_3
  let main_v14 : IVec S_ 1 := andi main_v9 main_v13
  let main_v15 : FVec F S8x2048x128 .f32 := Host.absf main_arg2
  let main_cst_4 : FVec F S_ .f32 := constant S_ .f32 0x7F800000#32
  let main_v16 : FVec F S8x2048x128 .f32 := broadcastInDim S8x2048x128 ![] bcast_S_S8x2048x128 main_cst_4
  fn_part1 (F := F) main_arg3 main_arg4 main_arg5 main_arg6 main_arg7 main_arg8 main_arg9 main_arg10 main_arg11 main_arg13 main_arg14 main_arg15 main_arg16 main_arg19 main_arg20 main_arg21 main_arg22 main_arg23 main_v14 main_v15 main_v16
-- ==== Pre_finite6.lean ====
abbrev S32x8x768 : Shape := ⟨3, ![32, 8, 768]⟩
abbrev S32x8x1024 : Shape := ⟨3, ![32, 8, 1024]⟩
abbrev S256x1024 : Shape := ⟨2, ![256, 1024]⟩
abbrev S1024x1024 : Shape := ⟨2, ![1024, 1024]⟩
abbrev S1024 : Shape := ⟨1, ![1024]⟩
abbrev S1024x512 : Shape := ⟨2, ![1024, 512]⟩
abbrev S_ : Shape := ⟨0, ![]⟩

class Facts : Prop where
  bcast_S_S32x8x768 : S_.BroadcastsInDim S32x8x768 (![] : Fin 0 → Fin S32x8x768.rank)
  reducesTo_S32x8x768_S_d0_1_2 : S32x8x768.ReducesTo [0, 1, 2] S_
  h_S_ : 0 < S_.numel

variable [Facts]

def fn {F : FTy → Type} [FloatOps F] (main_arg0 : FVec F S32x8x768 .f32) (main_arg1 : FVec F S32x8x768 .f32) (main_arg2 : FVec F S32x8x1024 .f32) (main_arg3 : FVec F S256x1024 .f32) (main_arg4 : FVec F S256x1024 .f32) (main_arg5 : FVec F S256x1024 .f32) (main_arg6 : FVec F S256x1024 .f32) (main_arg7 : FVec F S1024x1024 .f32) (main_arg8 : FVec F S1024x1024 .f32) (main_arg9 : FVec F S1024 .f32) (main_arg10 : FVec F S1024x512 .f32) : IVec S_ 1 :=
  let main_v0 : FVec F S32x8x768 .f32 := Host.absf main_arg1
  let main_cst : FVec F S_ .f32 := constant S_ .f32 0x7F800000#32
  let main_v1 : FVec F S32x8x768 .f32 := broadcastInDim S32x8x768 ![] bcast_S_S32x8x768 main_cst
  let main_v2 : IVec S32x8x768 1 := cmpf .olt main_v0 main_v1
  let main_c : IVec S_ 1 := constantI S_ 1 1#1
  let main_v3 : IVec S_ 1 := (fun x v => Host.reduce IntOp.andi x v reducesTo_S32x8x768_S_d0_1_2 h_S_) main_v2 main_c
  main_v3
-- ==== Pre_finite7.lean ====
abbrev S256x512 : Shape := ⟨2, ![256, 512]⟩
abbrev S32x256x4x128 : Shape := ⟨4, ![32, 256, 4, 128]⟩
abbrev S_ : Shape := ⟨0, ![]⟩

class Facts : Prop where
  bitsLt_bf16_f32 : FTy.bits .bf16 < FTy.bits .f32
  bcast_S_S256x512 : S_.BroadcastsInDim S256x512 (![] : Fin 0 → Fin S256x512.rank)
  reducesTo_S256x512_S_d0_1 : S256x512.ReducesTo [0, 1] S_
  h_S_ : 0 < S_.numel
  bcast_S_S32x256x4x128 : S_.BroadcastsInDim S32x256x4x128 (![] : Fin 0 → Fin S32x256x4x128.rank)
  reducesTo_S32x256x4x128_S_d0_1_2_3 : S32x256x4x128.ReducesTo [0, 1, 2, 3] S_

variable [Facts]

def fn {F : FTy → Type} [FloatOps F] (main_arg0 : FVec F S256x512 .bf16) (main_arg1 : FVec F S32x256x4x128 .f32) (main_arg2 : FVec F S32x256x4x128 .f32) : IVec S_ 1 :=
  let main_v0 : FVec F S256x512 .f32 := (extf .f32 · bitsLt_bf16_f32) main_arg0
  let main_v1 : FVec F S256x512 .f32 := Host.absf main_v0
  let main_cst : FVec F S_ .f32 := constant S_ .f32 0x7F800000#32
  let main_v2 : FVec F S256x512 .f32 := broadcastInDim S256x512 ![] bcast_S_S256x512 main_cst
  let main_v3 : IVec S256x512 1 := cmpf .olt main_v1 main_v2
  let main_c : IVec S_ 1 := constantI S_ 1 1#1
  let main_v4 : IVec S_ 1 := (fun x v => Host.reduce IntOp.andi x v reducesTo_S256x512_S_d0_1 h_S_) main_v3 main_c
  let main_v5 : FVec F S32x256x4x128 .f32 := Host.absf main_arg1
  let main_cst_0 : FVec F S_ .f32 := constant S_ .f32 0x7F800000#32
  let main_v6 : FVec F S32x256x4x128 .f32 := broadcastInDim S32x256x4x128 ![] bcast_S_S32x256x4x128 main_cst_0
  let main_v7 : IVec S32x256x4x128 1 := cmpf .olt main_v5 main_v6
  let main_c_1 : IVec S_ 1 := constantI S_ 1 1#1
  let main_v8 : IVec S_ 1 := (fun x v => Host.reduce IntOp.andi x v reducesTo_S32x256x4x128_S_d0_1_2_3 h_S_) main_v7 main_c_1
  let main_v9 : IVec S_ 1 := andi main_v4 main_v8
  main_v9
-- ==== Kernel.lean ====
abbrev S32x8x768 : Shape := ⟨3, ![32, 8, 768]⟩
abbrev S32x8x512 : Shape := ⟨3, ![32, 8, 512]⟩
abbrev S1x32x128x2x4x64 : Shape := ⟨6, ![1, 32, 128, 2, 4, 64]⟩
abbrev S1x32x512x2x4x64 : Shape := ⟨6, ![1, 32, 512, 2, 4, 64]⟩
abbrev S1x32x2048x2x4x64 : Shape := ⟨6, ![1, 32, 2048, 2, 4, 64]⟩
abbrev S32x12 : Shape := ⟨2, ![32, 12]⟩
abbrev S8x1 : Shape := ⟨2, ![8, 1]⟩
abbrev S1x8x1 : Shape := ⟨3, ![1, 8, 1]⟩
abbrev S8x8 : Shape := ⟨2, ![8, 8]⟩
abbrev S1x8x8 : Shape := ⟨3, ![1, 8, 8]⟩
abbrev S32x128x2x4x64 : Shape := ⟨5, ![32, 128, 2, 4, 64]⟩
abbrev S32x2x4x64x128 : Shape := ⟨5, ![32, 2, 4, 64, 128]⟩
abbrev S32x512x128 : Shape := ⟨3, ![32, 512, 128]⟩
abbrev S32x512x2x4x64 : Shape := ⟨5, ![32, 512, 2, 4, 64]⟩
abbrev S32x2x4x64x512 : Shape := ⟨5, ![32, 2, 4, 64, 512]⟩
abbrev S32x512x512 : Shape := ⟨3, ![32, 512, 512]⟩
abbrev S32x2048x2x4x64 : Shape := ⟨5, ![32, 2048, 2, 4, 64]⟩
abbrev S32x2x4x64x2048 : Shape := ⟨5, ![32, 2, 4, 64, 2048]⟩
abbrev S32x512x2048 : Shape := ⟨3, ![32, 512, 2048]⟩
abbrev S129 : Shape := ⟨1, ![129]⟩
abbrev S_ : Shape := ⟨0, ![]⟩
abbrev S129x1 : Shape := ⟨2, ![129, 1]⟩
abbrev S129x12 : Shape := ⟨2, ![129, 12]⟩
abbrev S129x4 : Shape := ⟨2, ![129, 4]⟩
abbrev S4x129 : Shape := ⟨2, ![4, 129]⟩
abbrev S4x128 : Shape := ⟨2, ![4, 128]⟩
abbrev S4x128x1 : Shape := ⟨3, ![4, 128, 1]⟩
abbrev S4x128x0 : Shape := ⟨3, ![4, 128, 0]⟩
abbrev S4x8 : Shape := ⟨2, ![4, 8]⟩
abbrev S4x136 : Shape := ⟨2, ![4, 136]⟩
abbrev S1x4x1x136 : Shape := ⟨4, ![1, 4, 1, 136]⟩
abbrev S1x4x8x136 : Shape := ⟨4, ![1, 4, 8, 136]⟩
abbrev S4x1088 : Shape := ⟨2, ![4, 1088]⟩
abbrev S4x1080 : Shape := ⟨2, ![4, 1080]⟩
abbrev S4x8x135 : Shape := ⟨3, ![4, 8, 135]⟩
abbrev S4x8x128 : Shape := ⟨3, ![4, 8, 128]⟩
abbrev S32x128 : Shape := ⟨2, ![32, 128]⟩
abbrev S4x8x8 : Shape := ⟨3, ![4, 8, 8]⟩
abbrev S4x1 : Shape := ⟨2, ![4, 1]⟩
abbrev S4 : Shape := ⟨1, ![4]⟩
abbrev S4x1x1 : Shape := ⟨3, ![4, 1, 1]⟩
abbrev S32x8 : Shape := ⟨2, ![32, 8]⟩
abbrev S4x128x3 : Shape := ⟨3, ![4, 128, 3]⟩
abbrev S4x128x4 : Shape := ⟨3, ![4, 128, 4]⟩
abbrev S4x512 : Shape := ⟨2, ![4, 512]⟩
abbrev S4x520 : Shape := ⟨2, ![4, 520]⟩
abbrev S1x4x1x520 : Shape := ⟨4, ![1, 4, 1, 520]⟩
abbrev S1x4x8x520 : Shape := ⟨4, ![1, 4, 8, 520]⟩
abbrev S4x4160 : Shape := ⟨2, ![4, 4160]⟩
abbrev S4x4152 : Shape := ⟨2, ![4, 4152]⟩
abbrev S4x8x519 : Shape := ⟨3, ![4, 8, 519]⟩
abbrev S4x8x512 : Shape := ⟨3, ![4, 8, 512]⟩
abbrev S32x512 : Shape := ⟨2, ![32, 512]⟩
abbrev S4x128x15 : Shape := ⟨3, ![4, 128, 15]⟩
abbrev S4x128x16 : Shape := ⟨3, ![4, 128, 16]⟩
abbrev S4x2048 : Shape := ⟨2, ![4, 2048]⟩
abbrev S4x2056 : Shape := ⟨2, ![4, 2056]⟩
abbrev S1x4x1x2056 : Shape := ⟨4, ![1, 4, 1, 2056]⟩
abbrev S1x4x8x2056 : Shape := ⟨4, ![1, 4, 8, 2056]⟩
abbrev S4x16448 : Shape := ⟨2, ![4, 16448]⟩
abbrev S4x16440 : Shape := ⟨2, ![4, 16440]⟩
abbrev S4x8x2055 : Shape := ⟨3, ![4, 8, 2055]⟩
abbrev S4x8x2048 : Shape := ⟨3, ![4, 8, 2048]⟩
abbrev S32x2048 : Shape := ⟨2, ![32, 2048]⟩
abbrev S1x32x8 : Shape := ⟨3, ![1, 32, 8]⟩
abbrev S3x32x8 : Shape := ⟨3, ![3, 32, 8]⟩
abbrev S1x8x768 : Shape := ⟨3, ![1, 8, 768]⟩
abbrev S1x8x512 : Shape := ⟨3, ![1, 8, 512]⟩
abbrev S1x512x128 : Shape := ⟨3, ![1, 512, 128]⟩
abbrev S1x512x512 : Shape := ⟨3, ![1, 512, 512]⟩
abbrev S1x512x2048 : Shape := ⟨3, ![1, 512, 2048]⟩
abbrev S32x256 : Shape := ⟨2, ![32, 256]⟩
abbrev S512x128 : Shape := ⟨2, ![512, 128]⟩
abbrev S128x8 : Shape := ⟨2, ![128, 8]⟩
abbrev S8x512 : Shape := ⟨2, ![8, 512]⟩
abbrev S1x8x256 : Shape := ⟨3, ![1, 8, 256]⟩
abbrev S8x256 : Shape := ⟨2, ![8, 256]⟩
abbrev S1x256x128 : Shape := ⟨3, ![1, 256, 128]⟩
abbrev S256x128 : Shape := ⟨2, ![256, 128]⟩
abbrev S1x256x512 : Shape := ⟨3, ![1, 256, 512]⟩
abbrev S256x512 : Shape := ⟨2, ![256, 512]⟩
abbrev S1x256x2048 : Shape := ⟨3, ![1, 256, 2048]⟩
abbrev S256x2048 : Shape := ⟨2, ![256, 2048]⟩
abbrev S32 : Shape := ⟨1, ![32]⟩
abbrev S32x1 : Shape := ⟨2, ![32, 1]⟩
abbrev S128x512 : Shape := ⟨2, ![128, 512]⟩

abbrev nBuf : Space → Nat
  | .hbm => 296
  | .vmem => 28
  | .smem => 0
  | _ => 0

abbrev hbmTy0_0 (i : Nat) : BufTy := match i % 128 with
  | 0 => ⟨S32x8x768, .f32⟩
  | 1 => ⟨S32x8x512, .f32⟩
  | 2 => ⟨S32x8x512, .f32⟩
  | 3 => ⟨S32x8x512, .f32⟩
  | 4 => ⟨S1x32x128x2x4x64, .f32⟩
  | 5 => ⟨S1x32x512x2x4x64, .f32⟩
  | 6 => ⟨S1x32x2048x2x4x64, .f32⟩
  | 7 => ⟨S32x12, .f32⟩
  | 8 => ⟨S8x1, .i1⟩
  | 9 => ⟨S1x8x1, .i1⟩
  | 10 => ⟨S8x8, .i1⟩
  | 11 => ⟨S1x8x8, .i1⟩
  | 12 => ⟨S8x8, .i1⟩
  | 13 => ⟨S1x8x8, .i1⟩
  | 14 => ⟨S8x8, .i1⟩
  | 15 => ⟨S1x8x8, .i1⟩
  | 16 => ⟨S8x8, .i1⟩
  | 17 => ⟨S1x8x8, .i1⟩
  | 18 => ⟨S8x1, .i1⟩
  | 19 => ⟨S1x8x1, .i1⟩
  | 20 => ⟨S8x1, .i1⟩
  | 21 => ⟨S1x8x1, .i1⟩
  | 22 => ⟨S8x8, .i1⟩
  | 23 => ⟨S1x8x8, .i1⟩
  | 24 => ⟨S8x1, .i1⟩
  | 25 => ⟨S1x8x1, .i1⟩
  | 26 => ⟨S8x1, .i1⟩
  | 27 => ⟨S1x8x1, .i1⟩
  | 28 => ⟨S8x8, .i1⟩
  | 29 => ⟨S1x8x8, .i1⟩
  | 30 => ⟨S8x1, .i1⟩
  | 31 => ⟨S1x8x1, .i1⟩
  | 32 => ⟨S32x128x2x4x64, .f32⟩
  | 33 => ⟨S32x2x4x64x128, .f32⟩
  | 34 => ⟨S32x512x128, .f32⟩
  | 35 => ⟨S32x512x2x4x64, .f32⟩
  | 36 => ⟨S32x2x4x64x512, .f32⟩
  | 37 => ⟨S32x512x512, .f32⟩
  | 38 => ⟨S32x2048x2x4x64, .f32⟩
  | 39 => ⟨S32x2x4x64x2048, .f32⟩
  | 40 => ⟨S32x512x2048, .f32⟩
  | 41 => ⟨S129, .i32⟩
  | 42 => ⟨S_, .i32⟩
  | 43 => ⟨S129, .i32⟩
  | 44 => ⟨S129, .i32⟩
  | 45 => ⟨S_, .i32⟩
  | 46 => ⟨S129, .i32⟩
  | 47 => ⟨S129, .i32⟩
  | 48 => ⟨S129, .f32⟩
  | 49 => ⟨S_, .f32⟩
  | 50 => ⟨S129, .f32⟩
  | 51 => ⟨S129, .f32⟩
  | 52 => ⟨S129, .f32⟩
  | 53 => ⟨S_, .f32⟩
  | 54 => ⟨S129, .f32⟩
  | 55 => ⟨S129, .f32⟩
  | 56 => ⟨S_, .f32⟩
  | 57 => ⟨S129, .f32⟩
  | 58 => ⟨S129, .f32⟩
  | 59 => ⟨S129, .i32⟩
  | 60 => ⟨S_, .i32⟩
  | 61 => ⟨S129, .i32⟩
  | 62 => ⟨S129, .i32⟩
  | 63 => ⟨S_, .i32⟩
  | 64 => ⟨S129, .i32⟩
  | 65 => ⟨S129, .i1⟩
  | 66 => ⟨S_, .i32⟩
  | 67 => ⟨S129, .i32⟩
  | 68 => ⟨S129, .i32⟩
  | 69 => ⟨S129, .i32⟩
  | 70 => ⟨S_, .i32⟩
  | 71 => ⟨S129, .i32⟩
  | 72 => ⟨S129, .i1⟩
  | 73 => ⟨S_, .i32⟩
  | 74 => ⟨S129, .i32⟩
  | 75 => ⟨S129, .i32⟩
  | 76 => ⟨S129, .i32⟩
  | 77 => ⟨S129x1, .i32⟩
  | 78 => ⟨S129x12, .f32⟩
  | 79 => ⟨S129x4, .f32⟩
  | 80 => ⟨S4x129, .f32⟩
  | 81 => ⟨S4x129, .f32⟩
  | 82 => ⟨S4x128, .f32⟩
  | 83 => ⟨S4x128x1, .f32⟩
  | 84 => ⟨S_, .f32⟩
  | 85 => ⟨S4x128x0, .f32⟩
  | 86 => ⟨S4x128x1, .f32⟩
  | 87 => ⟨S4x128, .f32⟩
  | 88 => ⟨S_, .f32⟩
  | 89 => ⟨S4x8, .f32⟩
  | 90 => ⟨S4x136, .f32⟩
  | 91 => ⟨S1x4x1x136, .f32⟩
  | 92 => ⟨S1x4x8x136, .f32⟩
  | 93 => ⟨S4x1088, .f32⟩
  | 94 => ⟨S4x1080, .f32⟩
  | 95 => ⟨S4x8x135, .f32⟩
  | 96 => ⟨S4x8x128, .f32⟩
  | 97 => ⟨S_, .f32⟩
  | 98 => ⟨S_, .f32⟩
  | 99 => ⟨S4x8x128, .i1⟩
  | 100 => ⟨S4x8x128, .f32⟩
  | 101 => ⟨S4x8x128, .f32⟩
  | 102 => ⟨S32x128, .f32⟩
  | 103 => ⟨S_, .f32⟩
  | 104 => ⟨S4x8x8, .f32⟩
  | 105 => ⟨S4x1, .f32⟩
  | 106 => ⟨S4, .f32⟩
  | 107 => ⟨S4x1x1, .f32⟩
  | 108 => ⟨S4x8x8, .i1⟩
  | 109 => ⟨S4x8x8, .f32⟩
  | 110 => ⟨S4x8x8, .f32⟩
  | 111 => ⟨S4x1, .f32⟩
  | 112 => ⟨S4, .f32⟩
  | 113 => ⟨S4x1x1, .f32⟩
  | 114 => ⟨S4x8x8, .i1⟩
  | 115 => ⟨S4x8x8, .f32⟩
  | 116 => ⟨S4x8x8, .f32⟩
  | 117 => ⟨S4x1, .f32⟩
  | 118 => ⟨S4, .f32⟩
  | 119 => ⟨S4x1x1, .f32⟩
  | 120 => ⟨S4x8x8, .i1⟩
  | 121 => ⟨S4x8x8, .f32⟩
  | 122 => ⟨S4x8x8, .f32⟩
  | 123 => ⟨S4x1, .f32⟩
  | 124 => ⟨S4, .f32⟩
  | 125 => ⟨S4x1x1, .f32⟩
  | 126 => ⟨S4x8x8, .i1⟩
  | 127 => ⟨S4x8x8, .f32⟩
  | _ => ⟨S32x8x768, .f32⟩

abbrev hbmTy0_1 (i : Nat) : BufTy := match i % 128 with
  | 0 => ⟨S4x8x8, .f32⟩
  | 1 => ⟨S_, .f32⟩
  | 2 => ⟨S_, .f32⟩
  | 3 => ⟨S4x8x8, .i1⟩
  | 4 => ⟨S4x8x8, .f32⟩
  | 5 => ⟨S4x8x8, .f32⟩
  | 6 => ⟨S32x8, .f32⟩
  | 7 => ⟨S129, .i32⟩
  | 8 => ⟨S_, .i32⟩
  | 9 => ⟨S129, .i32⟩
  | 10 => ⟨S129, .i32⟩
  | 11 => ⟨S_, .i32⟩
  | 12 => ⟨S129, .i32⟩
  | 13 => ⟨S129, .i32⟩
  | 14 => ⟨S129, .f32⟩
  | 15 => ⟨S_, .f32⟩
  | 16 => ⟨S129, .f32⟩
  | 17 => ⟨S129, .f32⟩
  | 18 => ⟨S129, .f32⟩
  | 19 => ⟨S_, .f32⟩
  | 20 => ⟨S129, .f32⟩
  | 21 => ⟨S129, .f32⟩
  | 22 => ⟨S_, .f32⟩
  | 23 => ⟨S129, .f32⟩
  | 24 => ⟨S129, .f32⟩
  | 25 => ⟨S129, .i32⟩
  | 26 => ⟨S_, .i32⟩
  | 27 => ⟨S129, .i32⟩
  | 28 => ⟨S129, .i32⟩
  | 29 => ⟨S_, .i32⟩
  | 30 => ⟨S129, .i32⟩
  | 31 => ⟨S129, .i1⟩
  | 32 => ⟨S_, .i32⟩
  | 33 => ⟨S129, .i32⟩
  | 34 => ⟨S129, .i32⟩
  | 35 => ⟨S129, .i32⟩
  | 36 => ⟨S_, .i32⟩
  | 37 => ⟨S129, .i32⟩
  | 38 => ⟨S129, .i1⟩
  | 39 => ⟨S_, .i32⟩
  | 40 => ⟨S129, .i32⟩
  | 41 => ⟨S129, .i32⟩
  | 42 => ⟨S129, .i32⟩
  | 43 => ⟨S129x1, .i32⟩
  | 44 => ⟨S129x12, .f32⟩
  | 45 => ⟨S129x4, .f32⟩
  | 46 => ⟨S4x129, .f32⟩
  | 47 => ⟨S4x129, .f32⟩
  | 48 => ⟨S4x128, .f32⟩
  | 49 => ⟨S4x128x1, .f32⟩
  | 50 => ⟨S_, .f32⟩
  | 51 => ⟨S4x128x3, .f32⟩
  | 52 => ⟨S4x128x4, .f32⟩
  | 53 => ⟨S4x512, .f32⟩
  | 54 => ⟨S_, .f32⟩
  | 55 => ⟨S4x8, .f32⟩
  | 56 => ⟨S4x520, .f32⟩
  | 57 => ⟨S1x4x1x520, .f32⟩
  | 58 => ⟨S1x4x8x520, .f32⟩
  | 59 => ⟨S4x4160, .f32⟩
  | 60 => ⟨S4x4152, .f32⟩
  | 61 => ⟨S4x8x519, .f32⟩
  | 62 => ⟨S4x8x512, .f32⟩
  | 63 => ⟨S_, .f32⟩
  | 64 => ⟨S_, .f32⟩
  | 65 => ⟨S4x8x512, .i1⟩
  | 66 => ⟨S4x8x512, .f32⟩
  | 67 => ⟨S4x8x512, .f32⟩
  | 68 => ⟨S32x512, .f32⟩
  | 69 => ⟨S_, .f32⟩
  | 70 => ⟨S4x8x8, .f32⟩
  | 71 => ⟨S4x1, .f32⟩
  | 72 => ⟨S4, .f32⟩
  | 73 => ⟨S4x1x1, .f32⟩
  | 74 => ⟨S4x8x8, .i1⟩
  | 75 => ⟨S4x8x8, .f32⟩
  | 76 => ⟨S4x8x8, .f32⟩
  | 77 => ⟨S_, .f32⟩
  | 78 => ⟨S_, .f32⟩
  | 79 => ⟨S4x8x8, .i1⟩
  | 80 => ⟨S4x8x8, .f32⟩
  | 81 => ⟨S4x8x8, .f32⟩
  | 82 => ⟨S32x8, .f32⟩
  | 83 => ⟨S129, .i32⟩
  | 84 => ⟨S_, .i32⟩
  | 85 => ⟨S129, .i32⟩
  | 86 => ⟨S129, .i32⟩
  | 87 => ⟨S_, .i32⟩
  | 88 => ⟨S129, .i32⟩
  | 89 => ⟨S129, .i32⟩
  | 90 => ⟨S129, .f32⟩
  | 91 => ⟨S_, .f32⟩
  | 92 => ⟨S129, .f32⟩
  | 93 => ⟨S129, .f32⟩
  | 94 => ⟨S129, .f32⟩
  | 95 => ⟨S_, .f32⟩
  | 96 => ⟨S129, .f32⟩
  | 97 => ⟨S129, .f32⟩
  | 98 => ⟨S_, .f32⟩
  | 99 => ⟨S129, .f32⟩
  | 100 => ⟨S129, .f32⟩
  | 101 => ⟨S129, .i32⟩
  | 102 => ⟨S_, .i32⟩
  | 103 => ⟨S129, .i32⟩
  | 104 => ⟨S129, .i32⟩
  | 105 => ⟨S_, .i32⟩
  | 106 => ⟨S129, .i32⟩
  | 107 => ⟨S129, .i1⟩
  | 108 => ⟨S_, .i32⟩
  | 109 => ⟨S129, .i32⟩
  | 110 => ⟨S129, .i32⟩
  | 111 => ⟨S129, .i32⟩
  | 112 => ⟨S_, .i32⟩
  | 113 => ⟨S129, .i32⟩
  | 114 => ⟨S129, .i1⟩
  | 115 => ⟨S_, .i32⟩
  | 116 => ⟨S129, .i32⟩
  | 117 => ⟨S129, .i32⟩
  | 118 => ⟨S129, .i32⟩
  | 119 => ⟨S129x1, .i32⟩
  | 120 => ⟨S129x12, .f32⟩
  | 121 => ⟨S129x4, .f32⟩
  | 122 => ⟨S4x129, .f32⟩
  | 123 => ⟨S4x129, .f32⟩
  | 124 => ⟨S4x128, .f32⟩
  | 125 => ⟨S4x128x1, .f32⟩
  | 126 => ⟨S_, .f32⟩
  | 127 => ⟨S4x128x15, .f32⟩
  | _ => ⟨S32x8x768, .f32⟩

abbrev hbmTy0_2 (i : Nat) : BufTy := match i % 128 with
  | 0 => ⟨S4x128x16, .f32⟩
  | 1 => ⟨S4x2048, .f32⟩
  | 2 => ⟨S_, .f32⟩
  | 3 => ⟨S4x8, .f32⟩
  | 4 => ⟨S4x2056, .f32⟩
  | 5 => ⟨S1x4x1x2056, .f32⟩
  | 6 => ⟨S1x4x8x2056, .f32⟩
  | 7 => ⟨S4x16448, .f32⟩
  | 8 => ⟨S4x16440, .f32⟩
  | 9 => ⟨S4x8x2055, .f32⟩
  | 10 => ⟨S4x8x2048, .f32⟩
  | 11 => ⟨S_, .f32⟩
  | 12 => ⟨S_, .f32⟩
  | 13 => ⟨S4x8x2048, .i1⟩
  | 14 => ⟨S4x8x2048, .f32⟩
  | 15 => ⟨S4x8x2048, .f32⟩
  | 16 => ⟨S32x2048, .f32⟩
  | 17 => ⟨S_, .f32⟩
  | 18 => ⟨S4x8x8, .f32⟩
  | 19 => ⟨S4x1, .f32⟩
  | 20 => ⟨S4, .f32⟩
  | 21 => ⟨S4x1x1, .f32⟩
  | 22 => ⟨S4x8x8, .i1⟩
  | 23 => ⟨S4x8x8, .f32⟩
  | 24 => ⟨S4x8x8, .f32⟩
  | 25 => ⟨S_, .f32⟩
  | 26 => ⟨S_, .f32⟩
  | 27 => ⟨S4x8x8, .i1⟩
  | 28 => ⟨S4x8x8, .f32⟩
  | 29 => ⟨S4x8x8, .f32⟩
  | 30 => ⟨S32x8, .f32⟩
  | 31 => ⟨S1x32x8, .f32⟩
  | 32 => ⟨S1x32x8, .f32⟩
  | 33 => ⟨S1x32x8, .f32⟩
  | 34 => ⟨S3x32x8, .f32⟩
  | 35 => ⟨S32x8x768, .f32⟩
  | 36 => ⟨S32x8x768, .f32⟩
  | 37 => ⟨S32x512x128, .f32⟩
  | 38 => ⟨S32x512x512, .f32⟩
  | 39 => ⟨S32x512x2048, .f32⟩
  | _ => ⟨S32x8x768, .f32⟩

abbrev hbmTy (i : Nat) : BufTy := match i / 128 with
  | 0 => hbmTy0_0 i
  | 1 => hbmTy0_1 i
  | 2 => hbmTy0_2 i
  | _ => ⟨S32x8x768, .f32⟩

abbrev bufTy : (tb : Table) → Fin (tcTables nBuf tb) → BufTy
  | .hbm, ⟨i, _⟩ => hbmTy i
  | .local _ .vmem, ⟨0, _⟩ => ⟨S1x8x768, .f32⟩
  | .local _ .vmem, ⟨1, _⟩ => ⟨S1x8x768, .f32⟩
  | .local _ .vmem, ⟨2, _⟩ => ⟨S1x8x512, .f32⟩
  | .local _ .vmem, ⟨3, _⟩ => ⟨S1x8x512, .f32⟩
  | .local _ .vmem, ⟨4, _⟩ => ⟨S1x8x512, .f32⟩
  | .local _ .vmem, ⟨5, _⟩ => ⟨S1x8x512, .f32⟩
  | .local _ .vmem, ⟨6, _⟩ => ⟨S1x8x512, .f32⟩
  | .local _ .vmem, ⟨7, _⟩ => ⟨S1x8x512, .f32⟩
  | .local _ .vmem, ⟨8, _⟩ => ⟨S1x512x128, .f32⟩
  | .local _ .vmem, ⟨9, _⟩ => ⟨S1x512x128, .f32⟩
  | .local _ .vmem, ⟨10, _⟩ => ⟨S1x512x512, .f32⟩
  | .local _ .vmem, ⟨11, _⟩ => ⟨S1x512x512, .f32⟩
  | .local _ .vmem, ⟨12, _⟩ => ⟨S1x512x2048, .f32⟩
  | .local _ .vmem, ⟨13, _⟩ => ⟨S1x512x2048, .f32⟩
  | .local _ .vmem, ⟨14, _⟩ => ⟨S32x128, .f32⟩
  | .local _ .vmem, ⟨15, _⟩ => ⟨S32x512, .f32⟩
  | .local _ .vmem, ⟨16, _⟩ => ⟨S32x2048, .f32⟩
  | .local _ .vmem, ⟨17, _⟩ => ⟨S3x32x8, .f32⟩
  | .local _ .vmem, ⟨18, _⟩ => ⟨S1x8x768, .f32⟩
  | .local _ .vmem, ⟨19, _⟩ => ⟨S1x8x768, .f32⟩
  | .local _ .vmem, ⟨20, _⟩ => ⟨S1x8x768, .f32⟩
  | .local _ .vmem, ⟨21, _⟩ => ⟨S1x8x768, .f32⟩
  | .local _ .vmem, ⟨22, _⟩ => ⟨S1x512x128, .f32⟩
  | .local _ .vmem, ⟨23, _⟩ => ⟨S1x512x128, .f32⟩
  | .local _ .vmem, ⟨24, _⟩ => ⟨S1x512x512, .f32⟩
  | .local _ .vmem, ⟨25, _⟩ => ⟨S1x512x512, .f32⟩
  | .local _ .vmem, ⟨26, _⟩ => ⟨S1x512x2048, .f32⟩
  | .local _ .vmem, ⟨27, _⟩ => ⟨S1x512x2048, .f32⟩
  | _, _ => ⟨S32x8x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_c_0 : Ref sig .tc := ⟨.hbm, 10, rfl⟩
abbrev main_v1 : Ref sig .tc := ⟨.hbm, 11, rfl⟩
abbrev main_c_1 : Ref sig .tc := ⟨.hbm, 12, rfl⟩
abbrev main_v2 : Ref sig .tc := ⟨.hbm, 13, rfl⟩
abbrev main_c_2 : Ref sig .tc := ⟨.hbm, 14, rfl⟩
abbrev main_v3 : Ref sig .tc := ⟨.hbm, 15, rfl⟩
abbrev main_c_3 : Ref sig .tc := ⟨.hbm, 16, rfl⟩
abbrev main_v4 : Ref sig .tc := ⟨.hbm, 17, rfl⟩
abbrev main_c_4 : Ref sig .tc := ⟨.hbm, 18, rfl⟩
abbrev main_v5 : Ref sig .tc := ⟨.hbm, 19, rfl⟩
abbrev main_c_5 : Ref sig .tc := ⟨.hbm, 20, rfl⟩
abbrev main_v6 : Ref sig .tc := ⟨.hbm, 21, rfl⟩
abbrev main_c_6 : Ref sig .tc := ⟨.hbm, 22, rfl⟩
abbrev main_v7 : Ref sig .tc := ⟨.hbm, 23, rfl⟩
abbrev main_c_7 : Ref sig .tc := ⟨.hbm, 24, rfl⟩
abbrev main_v8 : Ref sig .tc := ⟨.hbm, 25, rfl⟩
abbrev main_c_8 : Ref sig .tc := ⟨.hbm, 26, rfl⟩
abbrev main_v9 : Ref sig .tc := ⟨.hbm, 27, rfl⟩
abbrev main_c_9 : Ref sig .tc := ⟨.hbm, 28, rfl⟩
abbrev main_v10 : Ref sig .tc := ⟨.hbm, 29, rfl⟩
abbrev main_c_10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_11 : Ref sig .tc := ⟨.hbm, 42, rfl⟩
abbrev main_v22 : Ref sig .tc := ⟨.hbm, 43, rfl⟩
abbrev main_v23 : Ref sig .tc := ⟨.hbm, 44, rfl⟩
abbrev main_c_12 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_13 : Ref sig .tc := ⟨.hbm, 53, rfl⟩
abbrev main_v30 : Ref sig .tc := ⟨.hbm, 54, rfl⟩
abbrev main_v31 : Ref sig .tc := ⟨.hbm, 55, rfl⟩
abbrev main_cst_14 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_15 : Ref sig .tc := ⟨.hbm, 60, rfl⟩
abbrev main_v35 : Ref sig .tc := ⟨.hbm, 61, rfl⟩
abbrev main_v36 : Ref sig .tc := ⟨.hbm, 62, rfl⟩
abbrev main_c_16 : Ref sig .tc := ⟨.hbm, 63, rfl⟩
abbrev main_v37 : Ref sig .tc := ⟨.hbm, 64, rfl⟩
abbrev main_v38 : Ref sig .tc := ⟨.hbm, 65, rfl⟩
abbrev main_c_17 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_18 : Ref sig .tc := ⟨.hbm, 70, rfl⟩
abbrev main_v42 : Ref sig .tc := ⟨.hbm, 71, rfl⟩
abbrev main_v43 : Ref sig .tc := ⟨.hbm, 72, rfl⟩
abbrev main_c_19 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_20 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_21 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_22 : Ref sig .tc := ⟨.hbm, 97, rfl⟩
abbrev main_call1_v0 : Ref sig .tc := ⟨.hbm, 98, rfl⟩
abbrev main_call1_v1 : Ref sig .tc := ⟨.hbm, 99, rfl⟩
abbrev main_call1_v2 : Ref sig .tc := ⟨.hbm, 100, rfl⟩
abbrev main_v65 : Ref sig .tc := ⟨.hbm, 101, rfl⟩
abbrev main_v66 : Ref sig .tc := ⟨.hbm, 102, rfl⟩
abbrev main_cst_23 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_call2_v0 : Ref sig .tc := ⟨.hbm, 108, rfl⟩
abbrev main_call2_v1 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_call3_v0 : Ref sig .tc := ⟨.hbm, 114, rfl⟩
abbrev main_call3_v1 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_call4_v0 : Ref sig .tc := ⟨.hbm, 120, rfl⟩
abbrev main_call4_v1 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_call5_v0 : Ref sig .tc := ⟨.hbm, 126, rfl⟩
abbrev main_call5_v1 : Ref sig .tc := ⟨.hbm, 127, rfl⟩
abbrev main_v83 : Ref sig .tc := ⟨.hbm, 128, rfl⟩
abbrev main_cst_24 : Ref sig .tc := ⟨.hbm, 129, rfl⟩
abbrev main_call6_v0 : Ref sig .tc := ⟨.hbm, 130, rfl⟩
abbrev main_call6_v1 : Ref sig .tc := ⟨.hbm, 131, rfl⟩
abbrev main_call6_v2 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_c_25 : Ref sig .tc := ⟨.hbm, 136, rfl⟩
abbrev main_v87 : Ref sig .tc := ⟨.hbm, 137, rfl⟩
abbrev main_v88 : Ref sig .tc := ⟨.hbm, 138, rfl⟩
abbrev main_c_26 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_cst_27 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_cst_28 : Ref sig .tc := ⟨.hbm, 147, rfl⟩
abbrev main_v95 : Ref sig .tc := ⟨.hbm, 148, rfl⟩
abbrev main_v96 : Ref sig .tc := ⟨.hbm, 149, rfl⟩
abbrev main_cst_29 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_c_30 : Ref sig .tc := ⟨.hbm, 154, rfl⟩
abbrev main_v100 : Ref sig .tc := ⟨.hbm, 155, rfl⟩
abbrev main_v101 : Ref sig .tc := ⟨.hbm, 156, rfl⟩
abbrev main_c_31 : Ref sig .tc := ⟨.hbm, 157, rfl⟩
abbrev main_v102 : Ref sig .tc := ⟨.hbm, 158, rfl⟩
abbrev main_v103 : Ref sig .tc := ⟨.hbm, 159, rfl⟩
abbrev main_c_32 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_c_33 : Ref sig .tc := ⟨.hbm, 164, rfl⟩
abbrev main_v107 : Ref sig .tc := ⟨.hbm, 165, rfl⟩
abbrev main_v108 : Ref sig .tc := ⟨.hbm, 166, rfl⟩
abbrev main_c_34 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_cst_35 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_cst_36 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_cst_37 : Ref sig .tc := ⟨.hbm, 191, rfl⟩
abbrev main_call8_v0 : Ref sig .tc := ⟨.hbm, 192, rfl⟩
abbrev main_call8_v1 : Ref sig .tc := ⟨.hbm, 193, rfl⟩
abbrev main_call8_v2 : Ref sig .tc := ⟨.hbm, 194, rfl⟩
abbrev main_v130 : Ref sig .tc := ⟨.hbm, 195, rfl⟩
abbrev main_v131 : Ref sig .tc := ⟨.hbm, 196, rfl⟩
abbrev main_cst_38 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_call9_v0 : Ref sig .tc := ⟨.hbm, 202, rfl⟩
abbrev main_call9_v1 : Ref sig .tc := ⟨.hbm, 203, rfl⟩
abbrev main_v136 : Ref sig .tc := ⟨.hbm, 204, rfl⟩
abbrev main_cst_39 : Ref sig .tc := ⟨.hbm, 205, rfl⟩
abbrev main_call10_v0 : Ref sig .tc := ⟨.hbm, 206, rfl⟩
abbrev main_call10_v1 : Ref sig .tc := ⟨.hbm, 207, rfl⟩
abbrev main_call10_v2 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_c_40 : Ref sig .tc := ⟨.hbm, 212, rfl⟩
abbrev main_v140 : Ref sig .tc := ⟨.hbm, 213, rfl⟩
abbrev main_v141 : Ref sig .tc := ⟨.hbm, 214, rfl⟩
abbrev main_c_41 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_cst_42 : Ref sig .tc := ⟨.hbm, 219, rfl⟩
abbrev main_v145 : Ref sig .tc := ⟨.hbm, 220, rfl⟩
abbrev main_v146 : Ref sig .tc := ⟨.hbm, 221, rfl⟩
abbrev main_v147 : Ref sig .tc := ⟨.hbm, 222, rfl⟩
abbrev main_cst_43 : Ref sig .tc := ⟨.hbm, 223, rfl⟩
abbrev main_v148 : Ref sig .tc := ⟨.hbm, 224, rfl⟩
abbrev main_v149 : Ref sig .tc := ⟨.hbm, 225, rfl⟩
abbrev main_cst_44 : Ref sig .tc := ⟨.hbm, 226, rfl⟩
abbrev main_v150 : Ref sig .tc := ⟨.hbm, 227, rfl⟩
abbrev main_v151 : Ref sig .tc := ⟨.hbm, 228, rfl⟩
abbrev main_v152 : Ref sig .tc := ⟨.hbm, 229, rfl⟩
abbrev main_c_45 : Ref sig .tc := ⟨.hbm, 230, rfl⟩
abbrev main_v153 : Ref sig .tc := ⟨.hbm, 231, rfl⟩
abbrev main_v154 : Ref sig .tc := ⟨.hbm, 232, rfl⟩
abbrev main_c_46 : Ref sig .tc := ⟨.hbm, 233, rfl⟩
abbrev main_v155 : Ref sig .tc := ⟨.hbm, 234, rfl⟩
abbrev main_v156 : Ref sig .tc := ⟨.hbm, 235, rfl⟩
abbrev main_c_47 : Ref sig .tc := ⟨.hbm, 236, rfl⟩
abbrev main_v157 : Ref sig .tc := ⟨.hbm, 237, rfl⟩
abbrev main_v158 : Ref sig .tc := ⟨.hbm, 238, rfl⟩
abbrev main_v159 : Ref sig .tc := ⟨.hbm, 239, rfl⟩
abbrev main_c_48 : Ref sig .tc := ⟨.hbm, 240, rfl⟩
abbrev main_v160 : Ref sig .tc := ⟨.hbm, 241, rfl⟩
abbrev main_v161 : Ref sig .tc := ⟨.hbm, 242, rfl⟩
abbrev main_c_49 : Ref sig .tc := ⟨.hbm, 243, rfl⟩
abbrev main_v162 : Ref sig .tc := ⟨.hbm, 244, rfl⟩
abbrev main_v163 : Ref sig .tc := ⟨.hbm, 245, rfl⟩
abbrev main_v164 : Ref sig .tc := ⟨.hbm, 246, rfl⟩
abbrev main_v165 : Ref sig .tc := ⟨.hbm, 247, rfl⟩
abbrev main_v166 : Ref sig .tc := ⟨.hbm, 248, rfl⟩
abbrev main_v167 : Ref sig .tc := ⟨.hbm, 249, rfl⟩
abbrev main_v168 : Ref sig .tc := ⟨.hbm, 250, rfl⟩
abbrev main_v169 : Ref sig .tc := ⟨.hbm, 251, rfl⟩
abbrev main_v170 : Ref sig .tc := ⟨.hbm, 252, rfl⟩
abbrev main_v171 : Ref sig .tc := ⟨.hbm, 253, rfl⟩
abbrev main_cst_50 : Ref sig .tc := ⟨.hbm, 254, rfl⟩
abbrev main_v172 : Ref sig .tc := ⟨.hbm, 255, rfl⟩
abbrev main_v173 : Ref sig .tc := ⟨.hbm, 256, rfl⟩
abbrev main_v174 : Ref sig .tc := ⟨.hbm, 257, rfl⟩
abbrev main_cst_51 : Ref sig .tc := ⟨.hbm, 258, rfl⟩
abbrev main_v175 : Ref sig .tc := ⟨.hbm, 259, rfl⟩
abbrev main_v176 : Ref sig .tc := ⟨.hbm, 260, rfl⟩
abbrev main_v177 : Ref sig .tc := ⟨.hbm, 261, rfl⟩
abbrev main_v178 : Ref sig .tc := ⟨.hbm, 262, rfl⟩
abbrev main_v179 : Ref sig .tc := ⟨.hbm, 263, rfl⟩
abbrev main_v180 : Ref sig .tc := ⟨.hbm, 264, rfl⟩
abbrev main_v181 : Ref sig .tc := ⟨.hbm, 265, rfl⟩
abbrev main_v182 : Ref sig .tc := ⟨.hbm, 266, rfl⟩
abbrev main_cst_52 : Ref sig .tc := ⟨.hbm, 267, rfl⟩
abbrev main_call12_v0 : Ref sig .tc := ⟨.hbm, 268, rfl⟩
abbrev main_call12_v1 : Ref sig .tc := ⟨.hbm, 269, rfl⟩
abbrev main_call12_v2 : Ref sig .tc := ⟨.hbm, 270, rfl⟩
abbrev main_v183 : Ref sig .tc := ⟨.hbm, 271, rfl⟩
abbrev main_v184 : Ref sig .tc := ⟨.hbm, 272, rfl⟩
abbrev main_cst_53 : Ref sig .tc := ⟨.hbm, 273, rfl⟩
abbrev main_v185 : Ref sig .tc := ⟨.hbm, 274, rfl⟩
abbrev main_v186 : Ref sig .tc := ⟨.hbm, 275, rfl⟩
abbrev main_v187 : Ref sig .tc := ⟨.hbm, 276, rfl⟩
abbrev main_v188 : Ref sig .tc := ⟨.hbm, 277, rfl⟩
abbrev main_call13_v0 : Ref sig .tc := ⟨.hbm, 278, rfl⟩
abbrev main_call13_v1 : Ref sig .tc := ⟨.hbm, 279, rfl⟩
abbrev main_v189 : Ref sig .tc := ⟨.hbm, 280, rfl⟩
abbrev main_cst_54 : Ref sig .tc := ⟨.hbm, 281, rfl⟩
abbrev main_call14_v0 : Ref sig .tc := ⟨.hbm, 282, rfl⟩
abbrev main_call14_v1 : Ref sig .tc := ⟨.hbm, 283, rfl⟩
abbrev main_call14_v2 : Ref sig .tc := ⟨.hbm, 284, rfl⟩
abbrev main_v190 : Ref sig .tc := ⟨.hbm, 285, rfl⟩
abbrev main_v191 : Ref sig .tc := ⟨.hbm, 286, rfl⟩
abbrev main_v192 : Ref sig .tc := ⟨.hbm, 287, rfl⟩
abbrev main_v193 : Ref sig .tc := ⟨.hbm, 288, rfl⟩
abbrev main_v194 : Ref sig .tc := ⟨.hbm, 289, rfl⟩
abbrev main_v195 : Ref sig .tc := ⟨.hbm, 290, rfl⟩
abbrev main_v196_0 : Ref sig .tc := ⟨.hbm, 291, rfl⟩
abbrev main_v196_1 : Ref sig .tc := ⟨.hbm, 292, rfl⟩
abbrev main_v196_2 : Ref sig .tc := ⟨.hbm, 293, rfl⟩
abbrev main_v196_3 : Ref sig .tc := ⟨.hbm, 294, rfl⟩
abbrev main_v196_4 : Ref sig .tc := ⟨.hbm, 295, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x32x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x8x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x512x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S32x8x768 : Shape := ⟨3, ![32, 8, 768]⟩
abbrev S32x8x512 : Shape := ⟨3, ![32, 8, 512]⟩
abbrev S1x32x128x2x4x64 : Shape := ⟨6, ![1, 32, 128, 2, 4, 64]⟩
abbrev S1x32x512x2x4x64 : Shape := ⟨6, ![1, 32, 512, 2, 4, 64]⟩
abbrev S1x32x2048x2x4x64 : Shape := ⟨6, ![1, 32, 2048, 2, 4, 64]⟩
abbrev S32x12 : Shape := ⟨2, ![32, 12]⟩
abbrev S4 : Shape := ⟨1, ![4]⟩
abbrev S_ : Shape := ⟨0, ![]⟩
abbrev S32x4x768 : Shape := ⟨3, ![32, 4, 768]⟩
abbrev S32x4x3x4x64 : Shape := ⟨5, ![32, 4, 3, 4, 64]⟩
abbrev S129 : Shape := ⟨1, ![129]⟩
abbrev S129x1 : Shape := ⟨2, ![129, 1]⟩
abbrev S129x12 : Shape := ⟨2, ![129, 12]⟩
abbrev S129x4 : Shape := ⟨2, ![129, 4]⟩
abbrev S4x129 : Shape := ⟨2, ![4, 129]⟩
abbrev S32x128x2x4x64 : Shape := ⟨5, ![32, 128, 2, 4, 64]⟩
abbrev S32x4x512 : Shape := ⟨3, ![32, 4, 512]⟩
abbrev S32x4x2x4x64 : Shape := ⟨5, ![32, 4, 2, 4, 64]⟩
abbrev S32x132x2x4x64 : Shape := ⟨5, ![32, 132, 2, 4, 64]⟩
abbrev S32x4x1x4x64 : Shape := ⟨5, ![32, 4, 1, 4, 64]⟩
abbrev S32x4x4x64 : Shape := ⟨4, ![32, 4, 4, 64]⟩
abbrev S4x1 : Shape := ⟨2, ![4, 1]⟩
abbrev S1x129 : Shape := ⟨2, ![1, 129]⟩
abbrev S4x129x1 : Shape := ⟨3, ![4, 129, 1]⟩
abbrev S32x4x129x2x4x64 : Shape := ⟨6, ![32, 4, 129, 2, 4, 64]⟩
abbrev S32x4x129x1x4x64 : Shape := ⟨6, ![32, 4, 129, 1, 4, 64]⟩
abbrev S32x4x129x4x64 : Shape := ⟨5, ![32, 4, 129, 4, 64]⟩
abbrev S32x4x4x129 : Shape := ⟨4, ![32, 4, 4, 129]⟩
abbrev S1x1x4x129 : Shape := ⟨4, ![1, 1, 4, 129]⟩
abbrev S1x4x1x129 : Shape := ⟨4, ![1, 4, 1, 129]⟩
abbrev S32x4x4 : Shape := ⟨3, ![32, 4, 4]⟩
abbrev S32x4x4x1 : Shape := ⟨4, ![32, 4, 4, 1]⟩
abbrev S32x4x256 : Shape := ⟨3, ![32, 4, 256]⟩
abbrev S32x2x4x64x128 : Shape := ⟨5, ![32, 2, 4, 64, 128]⟩
abbrev S32x512x128 : Shape := ⟨3, ![32, 512, 128]⟩
abbrev S32x512x2x4x64 : Shape := ⟨5, ![32, 512, 2, 4, 64]⟩
abbrev S32x516x2x4x64 : Shape := ⟨5, ![32, 516, 2, 4, 64]⟩
abbrev S32x2x4x64x512 : Shape := ⟨5, ![32, 2, 4, 64, 512]⟩
abbrev S32x512x512 : Shape := ⟨3, ![32, 512, 512]⟩
abbrev S32x2048x2x4x64 : Shape := ⟨5, ![32, 2048, 2, 4, 64]⟩
abbrev S32x2052x2x4x64 : Shape := ⟨5, ![32, 2052, 2, 4, 64]⟩
abbrev S32x2x4x64x2048 : Shape := ⟨5, ![32, 2, 4, 64, 2048]⟩
abbrev S32x512x2048 : Shape := ⟨3, ![32, 512, 2048]⟩

abbrev nBuf : Space → Nat
  | .hbm => 346
  | .vmem => 0
  | .smem => 0
  | _ => 0

abbrev hbmTy0_0 (i : Nat) : BufTy := match i % 128 with
  | 0 => ⟨S32x8x768, .f32⟩
  | 1 => ⟨S32x8x512, .f32⟩
  | 2 => ⟨S32x8x512, .f32⟩
  | 3 => ⟨S32x8x512, .f32⟩
  | 4 => ⟨S1x32x128x2x4x64, .f32⟩
  | 5 => ⟨S1x32x512x2x4x64, .f32⟩
  | 6 => ⟨S1x32x2048x2x4x64, .f32⟩
  | 7 => ⟨S32x12, .f32⟩
  | 8 => ⟨S4, .i32⟩
  | 9 => ⟨S_, .i32⟩
  | 10 => ⟨S4, .i32⟩
  | 11 => ⟨S4, .i32⟩
  | 12 => ⟨S32x4x768, .f32⟩
  | 13 => ⟨S32x4x3x4x64, .f32⟩
  | 14 => ⟨S129, .i32⟩
  | 15 => ⟨S_, .i32⟩
  | 16 => ⟨S129, .i32⟩
  | 17 => ⟨S129, .i32⟩
  | 18 => ⟨S_, .i32⟩
  | 19 => ⟨S129, .i32⟩
  | 20 => ⟨S129, .i32⟩
  | 21 => ⟨S129, .f32⟩
  | 22 => ⟨S_, .f32⟩
  | 23 => ⟨S129, .f32⟩
  | 24 => ⟨S129, .f32⟩
  | 25 => ⟨S129, .f32⟩
  | 26 => ⟨S_, .f32⟩
  | 27 => ⟨S129, .f32⟩
  | 28 => ⟨S129, .f32⟩
  | 29 => ⟨S_, .f32⟩
  | 30 => ⟨S129, .f32⟩
  | 31 => ⟨S129, .f32⟩
  | 32 => ⟨S129, .i32⟩
  | 33 => ⟨S_, .i32⟩
  | 34 => ⟨S129, .i32⟩
  | 35 => ⟨S129, .i32⟩
  | 36 => ⟨S_, .i32⟩
  | 37 => ⟨S129, .i32⟩
  | 38 => ⟨S129, .i1⟩
  | 39 => ⟨S_, .i32⟩
  | 40 => ⟨S129, .i32⟩
  | 41 => ⟨S129, .i32⟩
  | 42 => ⟨S129, .i32⟩
  | 43 => ⟨S_, .i32⟩
  | 44 => ⟨S129, .i32⟩
  | 45 => ⟨S129, .i1⟩
  | 46 => ⟨S_, .i32⟩
  | 47 => ⟨S129, .i32⟩
  | 48 => ⟨S129, .i32⟩
  | 49 => ⟨S129, .i32⟩
  | 50 => ⟨S129x1, .i32⟩
  | 51 => ⟨S129x12, .f32⟩
  | 52 => ⟨S129x4, .f32⟩
  | 53 => ⟨S4x129, .f32⟩
  | 54 => ⟨S32x128x2x4x64, .f32⟩
  | 55 => ⟨S32x4x512, .f32⟩
  | 56 => ⟨S32x4x2x4x64, .f32⟩
  | 57 => ⟨S32x132x2x4x64, .f32⟩
  | 58 => ⟨S32x4x1x4x64, .f32⟩
  | 59 => ⟨S32x4x4x64, .f32⟩
  | 60 => ⟨S4x1, .i32⟩
  | 61 => ⟨S129, .i32⟩
  | 62 => ⟨S1x129, .i32⟩
  | 63 => ⟨S_, .i32⟩
  | 64 => ⟨S1x129, .i32⟩
  | 65 => ⟨S1x129, .i32⟩
  | 66 => ⟨S4x129, .i32⟩
  | 67 => ⟨S4x129, .i32⟩
  | 68 => ⟨S4x129, .i32⟩
  | 69 => ⟨S_, .i32⟩
  | 70 => ⟨S4x129, .i32⟩
  | 71 => ⟨S4x129, .i1⟩
  | 72 => ⟨S_, .i32⟩
  | 73 => ⟨S4x129, .i32⟩
  | 74 => ⟨S4x129, .i32⟩
  | 75 => ⟨S_, .i32⟩
  | 76 => ⟨S_, .i32⟩
  | 77 => ⟨S_, .i32⟩
  | 78 => ⟨S4x129, .i32⟩
  | 79 => ⟨S4x129, .i32⟩
  | 80 => ⟨S_, .i32⟩
  | 81 => ⟨S4x129, .i32⟩
  | 82 => ⟨S4x129, .i32⟩
  | 83 => ⟨S4x129x1, .i32⟩
  | 84 => ⟨S32x4x129x2x4x64, .f32⟩
  | 85 => ⟨S32x4x129x1x4x64, .f32⟩
  | 86 => ⟨S32x4x129x4x64, .f32⟩
  | 87 => ⟨S32x4x4x129, .f32⟩
  | 88 => ⟨S1x1x4x129, .i1⟩
  | 89 => ⟨S1x4x1x129, .f32⟩
  | 90 => ⟨S32x4x4x129, .f32⟩
  | 91 => ⟨S32x4x4x129, .f32⟩
  | 92 => ⟨S_, .f32⟩
  | 93 => ⟨S_, .f32⟩
  | 94 => ⟨S32x4x4x129, .i1⟩
  | 95 => ⟨S32x4x4x129, .f32⟩
  | 96 => ⟨S32x4x4x129, .f32⟩
  | 97 => ⟨S_, .f32⟩
  | 98 => ⟨S32x4x4, .f32⟩
  | 99 => ⟨S32x4x4x1, .f32⟩
  | 100 => ⟨S32x4x4x129, .f32⟩
  | 101 => ⟨S32x4x4x129, .f32⟩
  | 102 => ⟨S32x4x4x129, .f32⟩
  | 103 => ⟨S_, .f32⟩
  | 104 => ⟨S32x4x4, .f32⟩
  | 105 => ⟨S32x4x4, .f32⟩
  | 106 => ⟨S32x4x4, .f32⟩
  | 107 => ⟨S32x4x4x1, .f32⟩
  | 108 => ⟨S32x4x4x129, .f32⟩
  | 109 => ⟨S32x4x4x129, .f32⟩
  | 110 => ⟨S32x4x4x129, .f32⟩
  | 111 => ⟨S32x4x129x1x4x64, .f32⟩
  | 112 => ⟨S32x4x129x4x64, .f32⟩
  | 113 => ⟨S32x4x4x64, .f32⟩
  | 114 => ⟨S32x4x256, .f32⟩
  | 115 => ⟨S32x4x4, .f32⟩
  | 116 => ⟨S32x4x4x1, .f32⟩
  | 117 => ⟨S32x4x4x64, .f32⟩
  | 118 => ⟨S32x4x256, .f32⟩
  | 119 => ⟨S32x128x2x4x64, .f32⟩
  | 120 => ⟨S32x2x4x64x128, .f32⟩
  | 121 => ⟨S32x512x128, .f32⟩
  | 122 => ⟨S129, .i32⟩
  | 123 => ⟨S_, .i32⟩
  | 124 => ⟨S129, .i32⟩
  | 125 => ⟨S129, .i32⟩
  | 126 => ⟨S_, .i32⟩
  | 127 => ⟨S129, .i32⟩
  | _ => ⟨S32x8x768, .f32⟩

abbrev hbmTy0_1 (i : Nat) : BufTy := match i % 128 with
  | 0 => ⟨S129, .i32⟩
  | 1 => ⟨S129, .f32⟩
  | 2 => ⟨S_, .f32⟩
  | 3 => ⟨S129, .f32⟩
  | 4 => ⟨S129, .f32⟩
  | 5 => ⟨S129, .f32⟩
  | 6 => ⟨S_, .f32⟩
  | 7 => ⟨S129, .f32⟩
  | 8 => ⟨S129, .f32⟩
  | 9 => ⟨S_, .f32⟩
  | 10 => ⟨S129, .f32⟩
  | 11 => ⟨S129, .f32⟩
  | 12 => ⟨S129, .i32⟩
  | 13 => ⟨S_, .i32⟩
  | 14 => ⟨S129, .i32⟩
  | 15 => ⟨S129, .i32⟩
  | 16 => ⟨S_, .i32⟩
  | 17 => ⟨S129, .i32⟩
  | 18 => ⟨S129, .i1⟩
  | 19 => ⟨S_, .i32⟩
  | 20 => ⟨S129, .i32⟩
  | 21 => ⟨S129, .i32⟩
  | 22 => ⟨S129, .i32⟩
  | 23 => ⟨S_, .i32⟩
  | 24 => ⟨S129, .i32⟩
  | 25 => ⟨S129, .i1⟩
  | 26 => ⟨S_, .i32⟩
  | 27 => ⟨S129, .i32⟩
  | 28 => ⟨S129, .i32⟩
  | 29 => ⟨S129, .i32⟩
  | 30 => ⟨S129x1, .i32⟩
  | 31 => ⟨S129x12, .f32⟩
  | 32 => ⟨S129x4, .f32⟩
  | 33 => ⟨S4x129, .f32⟩
  | 34 => ⟨S32x512x2x4x64, .f32⟩
  | 35 => ⟨S32x4x512, .f32⟩
  | 36 => ⟨S32x4x2x4x64, .f32⟩
  | 37 => ⟨S32x516x2x4x64, .f32⟩
  | 38 => ⟨S32x4x1x4x64, .f32⟩
  | 39 => ⟨S32x4x4x64, .f32⟩
  | 40 => ⟨S4x1, .i32⟩
  | 41 => ⟨S129, .i32⟩
  | 42 => ⟨S1x129, .i32⟩
  | 43 => ⟨S_, .i32⟩
  | 44 => ⟨S1x129, .i32⟩
  | 45 => ⟨S1x129, .i32⟩
  | 46 => ⟨S4x129, .i32⟩
  | 47 => ⟨S4x129, .i32⟩
  | 48 => ⟨S4x129, .i32⟩
  | 49 => ⟨S_, .i32⟩
  | 50 => ⟨S4x129, .i32⟩
  | 51 => ⟨S4x129, .i1⟩
  | 52 => ⟨S_, .i32⟩
  | 53 => ⟨S4x129, .i32⟩
  | 54 => ⟨S4x129, .i32⟩
  | 55 => ⟨S_, .i32⟩
  | 56 => ⟨S_, .i32⟩
  | 57 => ⟨S_, .i32⟩
  | 58 => ⟨S4x129, .i32⟩
  | 59 => ⟨S4x129, .i32⟩
  | 60 => ⟨S_, .i32⟩
  | 61 => ⟨S4x129, .i32⟩
  | 62 => ⟨S4x129, .i32⟩
  | 63 => ⟨S4x129x1, .i32⟩
  | 64 => ⟨S32x4x129x2x4x64, .f32⟩
  | 65 => ⟨S32x4x129x1x4x64, .f32⟩
  | 66 => ⟨S32x4x129x4x64, .f32⟩
  | 67 => ⟨S32x4x4x129, .f32⟩
  | 68 => ⟨S1x1x4x129, .i1⟩
  | 69 => ⟨S1x4x1x129, .f32⟩
  | 70 => ⟨S32x4x4x129, .f32⟩
  | 71 => ⟨S32x4x4x129, .f32⟩
  | 72 => ⟨S_, .f32⟩
  | 73 => ⟨S_, .f32⟩
  | 74 => ⟨S32x4x4x129, .i1⟩
  | 75 => ⟨S32x4x4x129, .f32⟩
  | 76 => ⟨S32x4x4x129, .f32⟩
  | 77 => ⟨S_, .f32⟩
  | 78 => ⟨S32x4x4, .f32⟩
  | 79 => ⟨S32x4x4x1, .f32⟩
  | 80 => ⟨S32x4x4x129, .f32⟩
  | 81 => ⟨S32x4x4x129, .f32⟩
  | 82 => ⟨S32x4x4x129, .f32⟩
  | 83 => ⟨S_, .f32⟩
  | 84 => ⟨S32x4x4, .f32⟩
  | 85 => ⟨S32x4x4, .f32⟩
  | 86 => ⟨S32x4x4, .f32⟩
  | 87 => ⟨S32x4x4x1, .f32⟩
  | 88 => ⟨S32x4x4x129, .f32⟩
  | 89 => ⟨S32x4x4x129, .f32⟩
  | 90 => ⟨S32x4x4x129, .f32⟩
  | 91 => ⟨S32x4x129x1x4x64, .f32⟩
  | 92 => ⟨S32x4x129x4x64, .f32⟩
  | 93 => ⟨S32x4x4x64, .f32⟩
  | 94 => ⟨S32x4x256, .f32⟩
  | 95 => ⟨S32x4x4, .f32⟩
  | 96 => ⟨S32x4x4x1, .f32⟩
  | 97 => ⟨S32x4x4x64, .f32⟩
  | 98 => ⟨S32x4x256, .f32⟩
  | 99 => ⟨S32x512x2x4x64, .f32⟩
  | 100 => ⟨S32x2x4x64x512, .f32⟩
  | 101 => ⟨S32x512x512, .f32⟩
  | 102 => ⟨S129, .i32⟩
  | 103 => ⟨S_, .i32⟩
  | 104 => ⟨S129, .i32⟩
  | 105 => ⟨S129, .i32⟩
  | 106 => ⟨S_, .i32⟩
  | 107 => ⟨S129, .i32⟩
  | 108 => ⟨S129, .i32⟩
  | 109 => ⟨S129, .f32⟩
  | 110 => ⟨S_, .f32⟩
  | 111 => ⟨S129, .f32⟩
  | 112 => ⟨S129, .f32⟩
  | 113 => ⟨S129, .f32⟩
  | 114 => ⟨S_, .f32⟩
  | 115 => ⟨S129, .f32⟩
  | 116 => ⟨S129, .f32⟩
  | 117 => ⟨S_, .f32⟩
  | 118 => ⟨S129, .f32⟩
  | 119 => ⟨S129, .f32⟩
  | 120 => ⟨S129, .i32⟩
  | 121 => ⟨S_, .i32⟩
  | 122 => ⟨S129, .i32⟩
  | 123 => ⟨S129, .i32⟩
  | 124 => ⟨S_, .i32⟩
  | 125 => ⟨S129, .i32⟩
  | 126 => ⟨S129, .i1⟩
  | 127 => ⟨S_, .i32⟩
  | _ => ⟨S32x8x768, .f32⟩

abbrev hbmTy0_2 (i : Nat) : BufTy := match i % 128 with
  | 0 => ⟨S129, .i32⟩
  | 1 => ⟨S129, .i32⟩
  | 2 => ⟨S129, .i32⟩
  | 3 => ⟨S_, .i32⟩
  | 4 => ⟨S129, .i32⟩
  | 5 => ⟨S129, .i1⟩
  | 6 => ⟨S_, .i32⟩
  | 7 => ⟨S129, .i32⟩
  | 8 => ⟨S129, .i32⟩
  | 9 => ⟨S129, .i32⟩
  | 10 => ⟨S129x1, .i32⟩
  | 11 => ⟨S129x12, .f32⟩
  | 12 => ⟨S129x4, .f32⟩
  | 13 => ⟨S4x129, .f32⟩
  | 14 => ⟨S32x2048x2x4x64, .f32⟩
  | 15 => ⟨S32x4x512, .f32⟩
  | 16 => ⟨S32x4x2x4x64, .f32⟩
  | 17 => ⟨S32x2052x2x4x64, .f32⟩
  | 18 => ⟨S32x4x1x4x64, .f32⟩
  | 19 => ⟨S32x4x4x64, .f32⟩
  | 20 => ⟨S4x1, .i32⟩
  | 21 => ⟨S129, .i32⟩
  | 22 => ⟨S1x129, .i32⟩
  | 23 => ⟨S_, .i32⟩
  | 24 => ⟨S1x129, .i32⟩
  | 25 => ⟨S1x129, .i32⟩
  | 26 => ⟨S4x129, .i32⟩
  | 27 => ⟨S4x129, .i32⟩
  | 28 => ⟨S4x129, .i32⟩
  | 29 => ⟨S_, .i32⟩
  | 30 => ⟨S4x129, .i32⟩
  | 31 => ⟨S4x129, .i1⟩
  | 32 => ⟨S_, .i32⟩
  | 33 => ⟨S4x129, .i32⟩
  | 34 => ⟨S4x129, .i32⟩
  | 35 => ⟨S_, .i32⟩
  | 36 => ⟨S_, .i32⟩
  | 37 => ⟨S_, .i32⟩
  | 38 => ⟨S4x129, .i32⟩
  | 39 => ⟨S4x129, .i32⟩
  | 40 => ⟨S_, .i32⟩
  | 41 => ⟨S4x129, .i32⟩
  | 42 => ⟨S4x129, .i32⟩
  | 43 => ⟨S4x129x1, .i32⟩
  | 44 => ⟨S32x4x129x2x4x64, .f32⟩
  | 45 => ⟨S32x4x129x1x4x64, .f32⟩
  | 46 => ⟨S32x4x129x4x64, .f32⟩
  | 47 => ⟨S32x4x4x129, .f32⟩
  | 48 => ⟨S1x1x4x129, .i1⟩
  | 49 => ⟨S1x4x1x129, .f32⟩
  | 50 => ⟨S32x4x4x129, .f32⟩
  | 51 => ⟨S32x4x4x129, .f32⟩
  | 52 => ⟨S_, .f32⟩
  | 53 => ⟨S_, .f32⟩
  | 54 => ⟨S32x4x4x129, .i1⟩
  | 55 => ⟨S32x4x4x129, .f32⟩
  | 56 => ⟨S32x4x4x129, .f32⟩
  | 57 => ⟨S_, .f32⟩
  | 58 => ⟨S32x4x4, .f32⟩
  | 59 => ⟨S32x4x4x1, .f32⟩
  | 60 => ⟨S32x4x4x129, .f32⟩
  | 61 => ⟨S32x4x4x129, .f32⟩
  | 62 => ⟨S32x4x4x129, .f32⟩
  | 63 => ⟨S_, .f32⟩
  | 64 => ⟨S32x4x4, .f32⟩
  | 65 => ⟨S32x4x4, .f32⟩
  | 66 => ⟨S32x4x4, .f32⟩
  | 67 => ⟨S32x4x4x1, .f32⟩
  | 68 => ⟨S32x4x4x129, .f32⟩
  | 69 => ⟨S32x4x4x129, .f32⟩
  | 70 => ⟨S32x4x4x129, .f32⟩
  | 71 => ⟨S32x4x129x1x4x64, .f32⟩
  | 72 => ⟨S32x4x129x4x64, .f32⟩
  | 73 => ⟨S32x4x4x64, .f32⟩
  | 74 => ⟨S32x4x256, .f32⟩
  | 75 => ⟨S32x4x4, .f32⟩
  | 76 => ⟨S32x4x4x1, .f32⟩
  | 77 => ⟨S32x4x4x64, .f32⟩
  | 78 => ⟨S32x4x256, .f32⟩
  | 79 => ⟨S32x2048x2x4x64, .f32⟩
  | 80 => ⟨S32x2x4x64x2048, .f32⟩
  | 81 => ⟨S32x512x2048, .f32⟩
  | 82 => ⟨S32x4x768, .f32⟩
  | 83 => ⟨S_, .i32⟩
  | 84 => ⟨S_, .f32⟩
  | 85 => ⟨S32x8x768, .f32⟩
  | 86 => ⟨S32x4x768, .f32⟩
  | 87 => ⟨S_, .i32⟩
  | 88 => ⟨S_, .f32⟩
  | 89 => ⟨S32x8x768, .f32⟩
  | _ => ⟨S32x8x768, .f32⟩

abbrev hbmTy (i : Nat) : BufTy := match i / 128 with
  | 0 => hbmTy0_0 i
  | 1 => hbmTy0_1 i
  | 2 => hbmTy0_2 i
  | _ => ⟨S32x8x768, .f32⟩

abbrev bufTy : (tb : Table) → Fin (tcTables nBuf tb) → BufTy
  | .hbm, ⟨i, _⟩ => hbmTy i
  | _, _ => ⟨S32x8x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_7 : Ref sig .tc := ⟨.hbm, 43, rfl⟩
abbrev main_v26 : Ref sig .tc := ⟨.hbm, 44, rfl⟩
abbrev main_v27 : Ref sig .tc := ⟨.hbm, 45, rfl⟩
abbrev main_c_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_c_12 : Ref sig .tc := ⟨.hbm, 75, rfl⟩
abbrev main_c_13 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_v53 : Ref sig .tc := ⟨.hbm, 82, rfl⟩
abbrev main_call2_v0 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_14 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v62 : Ref sig .tc := ⟨.hbm, 96, rfl⟩
abbrev main_cst_15 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_16 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_c_17 : Ref sig .tc := ⟨.hbm, 123, rfl⟩
abbrev main_v87 : Ref sig .tc := ⟨.hbm, 124, rfl⟩
abbrev main_v88 : Ref sig .tc := ⟨.hbm, 125, rfl⟩
abbrev main_c_18 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_19 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_20 : Ref sig .tc := ⟨.hbm, 134, rfl⟩
abbrev main_v95 : Ref sig .tc := ⟨.hbm, 135, rfl⟩
abbrev main_v96 : Ref sig .tc := ⟨.hbm, 136, rfl⟩
abbrev main_cst_21 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_c_22 : Ref sig .tc := ⟨.hbm, 141, rfl⟩
abbrev main_v100 : Ref sig .tc := ⟨.hbm, 142, rfl⟩
abbrev main_v101 : Ref sig .tc := ⟨.hbm, 143, rfl⟩
abbrev main_c_23 : Ref sig .tc := ⟨.hbm, 144, rfl⟩
abbrev main_v102 : Ref sig .tc := ⟨.hbm, 145, rfl⟩
abbrev main_v103 : Ref sig .tc := ⟨.hbm, 146, rfl⟩
abbrev main_c_24 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_c_25 : Ref sig .tc := ⟨.hbm, 151, rfl⟩
abbrev main_v107 : Ref sig .tc := ⟨.hbm, 152, rfl⟩
abbrev main_v108 : Ref sig .tc := ⟨.hbm, 153, rfl⟩
abbrev main_c_26 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_c_27 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_c_28 : Ref sig .tc := ⟨.hbm, 177, rfl⟩
abbrev main_v130 : Ref sig .tc := ⟨.hbm, 178, rfl⟩
abbrev main_v131 : Ref sig .tc := ⟨.hbm, 179, rfl⟩
abbrev main_c_29 : Ref sig .tc := ⟨.hbm, 180, rfl⟩
abbrev main_v132 : Ref sig .tc := ⟨.hbm, 181, rfl⟩
abbrev main_v133 : Ref sig .tc := ⟨.hbm, 182, rfl⟩
abbrev main_c_30 : Ref sig .tc := ⟨.hbm, 183, rfl⟩
abbrev main_c_31 : Ref sig .tc := ⟨.hbm, 184, rfl⟩
abbrev main_call5_v0 : Ref sig .tc := ⟨.hbm, 185, rfl⟩
abbrev main_call5_v1 : Ref sig .tc := ⟨.hbm, 186, rfl⟩
abbrev main_call5_v2 : Ref sig .tc := ⟨.hbm, 187, rfl⟩
abbrev main_call5_v3 : Ref sig .tc := ⟨.hbm, 188, rfl⟩
abbrev main_call5_v4 : Ref sig .tc := ⟨.hbm, 189, rfl⟩
abbrev main_v134 : Ref sig .tc := ⟨.hbm, 190, rfl⟩
abbrev main_call6_v0 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_cst_32 : Ref sig .tc := ⟨.hbm, 200, rfl⟩
abbrev main_call7_v0 : Ref sig .tc := ⟨.hbm, 201, rfl⟩
abbrev main_call7_v1 : Ref sig .tc := ⟨.hbm, 202, rfl⟩
abbrev main_call7_v2 : Ref sig .tc := ⟨.hbm, 203, rfl⟩
abbrev main_v143 : Ref sig .tc := ⟨.hbm, 204, rfl⟩
abbrev main_cst_33 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_cst_34 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_c_35 : Ref sig .tc := ⟨.hbm, 231, rfl⟩
abbrev main_v168 : Ref sig .tc := ⟨.hbm, 232, rfl⟩
abbrev main_v169 : Ref sig .tc := ⟨.hbm, 233, rfl⟩
abbrev main_c_36 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_cst_37 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_cst_38 : Ref sig .tc := ⟨.hbm, 242, rfl⟩
abbrev main_v176 : Ref sig .tc := ⟨.hbm, 243, rfl⟩
abbrev main_v177 : Ref sig .tc := ⟨.hbm, 244, rfl⟩
abbrev main_cst_39 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_c_40 : Ref sig .tc := ⟨.hbm, 249, rfl⟩
abbrev main_v181 : Ref sig .tc := ⟨.hbm, 250, rfl⟩
abbrev main_v182 : Ref sig .tc := ⟨.hbm, 251, rfl⟩
abbrev main_c_41 : Ref sig .tc := ⟨.hbm, 252, rfl⟩
abbrev main_v183 : Ref sig .tc := ⟨.hbm, 253, rfl⟩
abbrev main_v184 : Ref sig .tc := ⟨.hbm, 254, rfl⟩
abbrev main_c_42 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_c_43 : Ref sig .tc := ⟨.hbm, 259, rfl⟩
abbrev main_v188 : Ref sig .tc := ⟨.hbm, 260, rfl⟩
abbrev main_v189 : Ref sig .tc := ⟨.hbm, 261, rfl⟩
abbrev main_c_44 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩
abbrev main_c_45 : Ref sig .tc := ⟨.hbm, 279, rfl⟩
abbrev main_v206 : Ref sig .tc := ⟨.hbm, 280, rfl⟩
abbrev main_v207 : Ref sig .tc := ⟨.hbm, 281, rfl⟩
abbrev main_v208 : Ref sig .tc := ⟨.hbm, 282, rfl⟩
abbrev main_v209 : Ref sig .tc := ⟨.hbm, 283, rfl⟩
abbrev main_v210 : Ref sig .tc := ⟨.hbm, 284, rfl⟩
abbrev main_c_46 : Ref sig .tc := ⟨.hbm, 285, rfl⟩
abbrev main_v211 : Ref sig .tc := ⟨.hbm, 286, rfl⟩
abbrev main_v212 : Ref sig .tc := ⟨.hbm, 287, rfl⟩
abbrev main_c_47 : Ref sig .tc := ⟨.hbm, 288, rfl⟩
abbrev main_v213 : Ref sig .tc := ⟨.hbm, 289, rfl⟩
abbrev main_v214 : Ref sig .tc := ⟨.hbm, 290, rfl⟩
abbrev main_c_48 : Ref sig .tc := ⟨.hbm, 291, rfl⟩
abbrev main_c_49 : Ref sig .tc := ⟨.hbm, 292, rfl⟩
abbrev main_call9_v0 : Ref sig .tc := ⟨.hbm, 293, rfl⟩
abbrev main_call9_v1 : Ref sig .tc := ⟨.hbm, 294, rfl⟩
abbrev main_call9_v2 : Ref sig .tc := ⟨.hbm, 295, rfl⟩
abbrev main_call9_v3 : Ref sig .tc := ⟨.hbm, 296, rfl⟩
abbrev main_call9_v4 : Ref sig .tc := ⟨.hbm, 297, rfl⟩
abbrev main_v215 : Ref sig .tc := ⟨.hbm, 298, rfl⟩
abbrev main_call10_v0 : Ref sig .tc := ⟨.hbm, 299, rfl⟩
abbrev main_v216 : Ref sig .tc := ⟨.hbm, 300, rfl⟩
abbrev main_v217 : Ref sig .tc := ⟨.hbm, 301, rfl⟩
abbrev main_v218 : Ref sig .tc := ⟨.hbm, 302, rfl⟩
abbrev main_v219 : Ref sig .tc := ⟨.hbm, 303, rfl⟩
abbrev main_v220 : Ref sig .tc := ⟨.hbm, 304, rfl⟩
abbrev main_v221 : Ref sig .tc := ⟨.hbm, 305, rfl⟩
abbrev main_v222 : Ref sig .tc := ⟨.hbm, 306, rfl⟩
abbrev main_v223 : Ref sig .tc := ⟨.hbm, 307, rfl⟩
abbrev main_cst_50 : Ref sig .tc := ⟨.hbm, 308, rfl⟩
abbrev main_call11_v0 : Ref sig .tc := ⟨.hbm, 309, rfl⟩
abbrev main_call11_v1 : Ref sig .tc := ⟨.hbm, 310, rfl⟩
abbrev main_call11_v2 : Ref sig .tc := ⟨.hbm, 311, rfl⟩
abbrev main_v224 : Ref sig .tc := ⟨.hbm, 312, rfl⟩
abbrev main_cst_51 : Ref sig .tc := ⟨.hbm, 313, rfl⟩
abbrev main_v225 : Ref sig .tc := ⟨.hbm, 314, rfl⟩
abbrev main_v226 : Ref sig .tc := ⟨.hbm, 315, rfl⟩
abbrev main_v227 : Ref sig .tc := ⟨.hbm, 316, rfl⟩
abbrev main_v228 : Ref sig .tc := ⟨.hbm, 317, rfl⟩
abbrev main_v229 : Ref sig .tc := ⟨.hbm, 318, rfl⟩
abbrev main_cst_52 : Ref sig .tc := ⟨.hbm, 319, rfl⟩
abbrev main_v230 : Ref sig .tc := ⟨.hbm, 320, rfl⟩
abbrev main_v231 : Ref sig .tc := ⟨.hbm, 321, rfl⟩
abbrev main_v232 : Ref sig .tc := ⟨.hbm, 322, rfl⟩
abbrev main_v233 : Ref sig .tc := ⟨.hbm, 323, rfl⟩
abbrev main_v234 : Ref sig .tc := ⟨.hbm, 324, rfl⟩
abbrev main_v235 : Ref sig .tc := ⟨.hbm, 325, rfl⟩
abbrev main_v236 : Ref sig .tc := ⟨.hbm, 326, rfl⟩
abbrev main_v237 : Ref sig .tc := ⟨.hbm, 327, rfl⟩
abbrev main_v238 : Ref sig .tc := ⟨.hbm, 328, rfl⟩
abbrev main_v239 : Ref sig .tc := ⟨.hbm, 329, rfl⟩
abbrev main_v240 : Ref sig .tc := ⟨.hbm, 330, rfl⟩
abbrev main_v241 : Ref sig .tc := ⟨.hbm, 331, rfl⟩
abbrev main_v242 : Ref sig .tc := ⟨.hbm, 332, rfl⟩
abbrev main_v243 : Ref sig .tc := ⟨.hbm, 333, rfl⟩
abbrev main_v244 : Ref sig .tc := ⟨.hbm, 334, rfl⟩
abbrev main_v245 : Ref sig .tc := ⟨.hbm, 335, rfl⟩
abbrev main_v246 : Ref sig .tc := ⟨.hbm, 336, rfl⟩
abbrev main_v247 : Ref sig .tc := ⟨.hbm, 337, rfl⟩
abbrev main_v248 : Ref sig .tc := ⟨.hbm, 338, rfl⟩
abbrev main_c_53 : Ref sig .tc := ⟨.hbm, 339, rfl⟩
abbrev main_call12_v0 : Ref sig .tc := ⟨.hbm, 340, rfl⟩
abbrev main_v249 : Ref sig .tc := ⟨.hbm, 341, rfl⟩
abbrev main_v250 : Ref sig .tc := ⟨.hbm, 342, rfl⟩
abbrev main_c_54 : Ref sig .tc := ⟨.hbm, 343, rfl⟩
abbrev main_call13_v0 : Ref sig .tc := ⟨.hbm, 344, rfl⟩
abbrev main_v251 : Ref sig .tc := ⟨.hbm, 345, rfl⟩

abbrev nD : Nat := 1
abbrev τ : Topo := Topo.v7x

variable {F : FTy → Type} [FloatOps F]
-- ==== Kernel2.lean ====
abbrev S8x2048x128 : Shape := ⟨3, ![8, 2048, 128]⟩
abbrev S8x2048x1024 : Shape := ⟨3, ![8, 2048, 1024]⟩
abbrev S8x1024x128 : Shape := ⟨3, ![8, 1024, 128]⟩
abbrev S8x2x2816 : Shape := ⟨3, ![8, 2, 2816]⟩
abbrev S256x1024 : Shape := ⟨2, ![256, 1024]⟩
abbrev S1024x1024 : Shape := ⟨2, ![1024, 1024]⟩
abbrev S1024 : Shape := ⟨1, ![1024]⟩
abbrev S1024x512 : Shape := ⟨2, ![1024, 512]⟩
abbrev S512x1024 : Shape := ⟨2, ![512, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1x2816 : Shape := ⟨2, ![1, 2816]⟩
abbrev S1x256x128 : Shape := ⟨3, ![1, 256, 128]⟩
abbrev S1x256x1024 : Shape := ⟨3, ![1, 256, 1024]⟩
abbrev S1x1024x128 : Shape := ⟨3, ![1, 1024, 128]⟩
abbrev S1x2x2816 : Shape := ⟨3, ![1, 2, 2816]⟩
abbrev S264x2816 : Shape := ⟨2, ![264, 2816]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S256x512 : Shape := ⟨2, ![256, 512]⟩
abbrev S2x2816 : Shape := ⟨2, ![2, 2816]⟩
abbrev S1024x2816 : Shape := ⟨2, ![1024, 2816]⟩
abbrev S256x2816 : Shape := ⟨2, ![256, 2816]⟩

abbrev nBuf : Space → Nat
  | .hbm => 44
  | .vmem => 55
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x128, .f32⟩
  | .hbm, ⟨3, _⟩ => ⟨S8x2048x128, .f32⟩
  | .hbm, ⟨4, _⟩ => ⟨S8x2048x128, .f32⟩
  | .hbm, ⟨5, _⟩ => ⟨S8x2048x128, .f32⟩
  | .hbm, ⟨6, _⟩ => ⟨S8x2048x128, .f32⟩
  | .hbm, ⟨7, _⟩ => ⟨S8x2048x128, .f32⟩
  | .hbm, ⟨8, _⟩ => ⟨S8x2048x128, .f32⟩
  | .hbm, ⟨9, _⟩ => ⟨S8x2048x128, .f32⟩
  | .hbm, ⟨10, _⟩ => ⟨S8x2048x128, .f32⟩
  | .hbm, ⟨11, _⟩ => ⟨S8x2048x128, .f32⟩
  | .hbm, ⟨12, _⟩ => ⟨S8x2048x1024, .bf16⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S8x1024x128, .f32⟩
  | .hbm, ⟨17, _⟩ => ⟨S8x1024x128, .f32⟩
  | .hbm, ⟨18, _⟩ => ⟨S8x2x2816, .f32⟩
  | .hbm, ⟨19, _⟩ => ⟨S256x1024, .f32⟩
  | .hbm, ⟨20, _⟩ => ⟨S1024x1024, .f32⟩
  | .hbm, ⟨21, _⟩ => ⟨S1024x1024, .f32⟩
  | .hbm, ⟨22, _⟩ => ⟨S1024, .f32⟩
  | .hbm, ⟨23, _⟩ => ⟨S1024x512, .f32⟩
  | .hbm, ⟨24, _⟩ => ⟨S512x1024, .f32⟩
  | .hbm, ⟨25, _⟩ => ⟨S1024, .f32⟩
  | .hbm, ⟨26, _⟩ => ⟨S1024x5632, .f32⟩
  | .hbm, ⟨27, _⟩ => ⟨S3x2816, .f32⟩
  | .hbm, ⟨28, _⟩ => ⟨S2816, .f32⟩
  | .hbm, ⟨29, _⟩ => ⟨S2816x1024, .f32⟩
  | .hbm, ⟨30, _⟩ => ⟨S1024, .f32⟩
  | .hbm, ⟨31, _⟩ => ⟨S256x1024, .bf16⟩
  | .hbm, ⟨32, _⟩ => ⟨S1024x1024, .bf16⟩
  | .hbm, ⟨33, _⟩ => ⟨S1024x1024, .bf16⟩
  | .hbm, ⟨34, _⟩ => ⟨S1024x512, .bf16⟩
  | .hbm, ⟨35, _⟩ => ⟨S512x1024, .bf16⟩
  | .hbm, ⟨36, _⟩ => ⟨S1024x5632, .bf16⟩
  | .hbm, ⟨37, _⟩ => ⟨S2816x1024, .bf16⟩
  | .hbm, ⟨38, _⟩ => ⟨S1x1024, .f32⟩
  | .hbm, ⟨39, _⟩ => ⟨S1x1024, .f32⟩
  | .hbm, ⟨40, _⟩ => ⟨S1x2816, .f32⟩
  | .hbm, ⟨41, _⟩ => ⟨S1x1024, .f32⟩
  | .hbm, ⟨42, _⟩ => ⟨S8x2048x1024, .f32⟩
  | .hbm, ⟨43, _⟩ => ⟨S8x2x2816, .f32⟩
  | .local _ .vmem, ⟨0, _⟩ => ⟨S1x256x128, .f32⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | .local _ .vmem, ⟨18, _⟩ => ⟨S1x256x128, .f32⟩
  | .local _ .vmem, ⟨19, _⟩ => ⟨S1x256x128, .f32⟩
  | .local _ .vmem, ⟨20, _⟩ => ⟨S1x256x128, .f32⟩
  | .local _ .vmem, ⟨21, _⟩ => ⟨S1x256x128, .f32⟩
  | .local _ .vmem, ⟨22, _⟩ => ⟨S1x256x128, .f32⟩
  | .local _ .vmem, ⟨23, _⟩ => ⟨S1x256x128, .f32⟩
  | .local _ .vmem, ⟨24, _⟩ => ⟨S1x256x1024, .bf16⟩
  | .local _ .vmem, ⟨25, _⟩ => ⟨S1x256x1024, .bf16⟩
  | .local _ .vmem, ⟨26, _⟩ => ⟨S1x256x1024, .f32⟩
  | .local _ .vmem, ⟨27, _⟩ => ⟨S1x256x1024, .f32⟩
  | .local _ .vmem, ⟨28, _⟩ => ⟨S1x256x1024, .f32⟩
  | .local _ .vmem, ⟨29, _⟩ => ⟨S1x256x1024, .f32⟩
  | .local _ .vmem, ⟨30, _⟩ => ⟨S1x256x1024, .f32⟩
  | .local _ .vmem, ⟨31, _⟩ => ⟨S1x256x1024, .f32⟩
  | .local _ .vmem, ⟨32, _⟩ => ⟨S1x1024x128, .f32⟩
  | .local _ .vmem, ⟨33, _⟩ => ⟨S1x1024x128, .f32⟩
  | .local _ .vmem, ⟨34, _⟩ => ⟨S1x1024x128, .f32⟩
  | .local _ .vmem, ⟨35, _⟩ => ⟨S1x1024x128, .f32⟩
  | .local _ .vmem, ⟨36, _⟩ => ⟨S1x2x2816, .f32⟩
  | .local _ .vmem, ⟨37, _⟩ => ⟨S1x2x2816, .f32⟩
  | .local _ .vmem, ⟨38, _⟩ => ⟨S256x1024, .bf16⟩
  | .local _ .vmem, ⟨39, _⟩ => ⟨S1024x1024, .bf16⟩
  | .local _ .vmem, ⟨40, _⟩ => ⟨S1024x1024, .bf16⟩
  | .local _ .vmem, ⟨41, _⟩ => ⟨S1x1024, .f32⟩
  | .local _ .vmem, ⟨42, _⟩ => ⟨S1024x512, .bf16⟩
  | .local _ .vmem, ⟨43, _⟩ => ⟨S512x1024, .bf16⟩
  | .local _ .vmem, ⟨44, _⟩ => ⟨S1x1024, .f32⟩
  | .local _ .vmem, ⟨45, _⟩ => ⟨S1024x5632, .bf16⟩
  | .local _ .vmem, ⟨46, _⟩ => ⟨S3x2816, .f32⟩
  | .local _ .vmem, ⟨47, _⟩ => ⟨S1x2816, .f32⟩
  | .local _ .vmem, ⟨48, _⟩ => ⟨S2816x1024, .bf16⟩
  | .local _ .vmem, ⟨49, _⟩ => ⟨S1x1024, .f32⟩
  | .local _ .vmem, ⟨50, _⟩ => ⟨S1x256x1024, .f32⟩
  | .local _ .vmem, ⟨51, _⟩ => ⟨S1x256x1024, .f32⟩
  | .local _ .vmem, ⟨52, _⟩ => ⟨S1x2x2816, .f32⟩
  | .local _ .vmem, ⟨53, _⟩ => ⟨S1x2x2816, .f32⟩
  | .local _ .vmem, ⟨54, _⟩ => ⟨S264x2816, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11_0 : Ref sig .tc := ⟨.hbm, 42, rfl⟩
abbrev main_v11_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg20_0 : Ref sig .tc := ⟨.vmem, 39, rfl⟩
abbrev cc0_stg21_0 : Ref sig .tc := ⟨.vmem, 40, rfl⟩
abbrev cc0_stg22_0 : Ref sig .tc := ⟨.vmem, 41, rfl⟩
abbrev cc0_stg23_0 : Ref sig .tc := ⟨.vmem, 42, rfl⟩
abbrev cc0_stg24_0 : Ref sig .tc := ⟨.vmem, 43, rfl⟩
abbrev cc0_stg25_0 : Ref sig .tc := ⟨.vmem, 44, rfl⟩
abbrev cc0_stg26_0 : Ref sig .tc := ⟨.vmem, 45, rfl⟩
abbrev cc0_stg27_0 : Ref sig .tc := ⟨.vmem, 46, rfl⟩
abbrev cc0_stg28_0 : Ref sig .tc := ⟨.vmem, 47, rfl⟩
abbrev cc0_stg29_0 : Ref sig .tc := ⟨.vmem, 48, rfl⟩
abbrev cc0_stg30_0 : Ref sig .tc := ⟨.vmem, 49, rfl⟩
abbrev cc0_stg31_0 : Ref sig .tc := ⟨.vmem, 50, rfl⟩
abbrev cc0_stg31_1 : Ref sig .tc := ⟨.vmem, 51, rfl⟩
abbrev cc0_stg32_0 : Ref sig .tc := ⟨.vmem, 52, rfl⟩
abbrev cc0_stg32_1 : Ref sig .tc := ⟨.vmem, 53, rfl⟩
abbrev cc0_scratch0 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem20_0 : DmaSem sig := 39
abbrev cc0_sem21_0 : DmaSem sig := 40
abbrev cc0_sem22_0 : DmaSem sig := 41
abbrev cc0_sem23_0 : DmaSem sig := 42
abbrev cc0_sem24_0 : DmaSem sig := 43
abbrev cc0_sem25_0 : DmaSem sig := 44
abbrev cc0_sem26_0 : DmaSem sig := 45
abbrev cc0_sem27_0 : DmaSem sig := 46
abbrev cc0_sem28_0 : DmaSem sig := 47
abbrev cc0_sem29_0 : DmaSem sig := 48
abbrev cc0_sem30_0 : DmaSem sig := 49
abbrev cc0_sem31_0 : DmaSem sig := 50
abbrev cc0_sem31_1 : DmaSem sig := 51
abbrev cc0_sem32_0 : DmaSem sig := 52
abbrev cc0_sem32_1 : DmaSem sig := 53

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_32 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x1024x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x2x2816 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 1 → Memref sig .tc .vmem S256x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1024x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1024x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S1024x512 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S512x1024 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 1 → Memref sig .tc .vmem S1024x5632 .bf16 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false, false]

abbrev stage0_27 : Fin 1 → Memref sig .tc .vmem S3x2816 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false, false]

abbrev stage0_28 : Fin 1 → Memref sig .tc .vmem S1x2816 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false, false]

abbrev stage0_29 : Fin 1 → Memref sig .tc .vmem S2816x1024 .bf16 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false, false]

abbrev stage0_30 : Fin 1 → Memref sig .tc .vmem S1x1024 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false, false]

abbrev stage0_31 : Fin 2 → Memref sig .tc .vmem S1x256x1024 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true, true]

abbrev stage0_32 : Fin 2 → Memref sig .tc .vmem S1x2x2816 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true, false]
-- ==== Reference2Ideal.lean ====
abbrev S8x2048x128 : Shape := ⟨3, ![8, 2048, 128]⟩
abbrev S8x2048x1024 : Shape := ⟨3, ![8, 2048, 1024]⟩
abbrev S8x1024x128 : Shape := ⟨3, ![8, 1024, 128]⟩
abbrev S8x2x2816 : Shape := ⟨3, ![8, 2, 2816]⟩
abbrev S256x1024 : Shape := ⟨2, ![256, 1024]⟩
abbrev S1024x1024 : Shape := ⟨2, ![1024, 1024]⟩
abbrev S1024 : Shape := ⟨1, ![1024]⟩
abbrev S1024x512 : Shape := ⟨2, ![1024, 512]⟩
abbrev S512x1024 : Shape := ⟨2, ![512, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S8x2048x256 : Shape := ⟨3, ![8, 2048, 256]⟩
abbrev S1x8x2048x256 : Shape := ⟨4, ![1, 8, 2048, 256]⟩
abbrev S3x8x2048x256 : Shape := ⟨4, ![3, 8, 2048, 256]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x512 : Shape := ⟨3, ![8, 2048, 512]⟩
abbrev S8x2048x4x128 : Shape := ⟨4, ![8, 2048, 4, 128]⟩
abbrev S8x256x4x128 : Shape := ⟨4, ![8, 256, 4, 128]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩
abbrev S8x2048x5632 : Shape := ⟨3, ![8, 2048, 5632]⟩
abbrev S8x2048x2816 : Shape := ⟨3, ![8, 2048, 2816]⟩
abbrev S8x2050x2816 : Shape := ⟨3, ![8, 2050, 2816]⟩
abbrev S1x2816 : Shape := ⟨2, ![1, 2816]⟩
abbrev S1x1x2816 : Shape := ⟨3, ![1, 1, 2816]⟩

abbrev nBuf : Space → Nat
  | .hbm => 195
  | .vmem => 0
  | .smem => 0
  | _ => 0

abbrev hbmTy0_0 (i : Nat) : BufTy := match i % 128 with
  | 0 => ⟨S8x2048x128, .f32⟩
  | 1 => ⟨S8x2048x128, .f32⟩
  | 2 => ⟨S8x2048x128, .f32⟩
  | 3 => ⟨S8x2048x128, .f32⟩
  | 4 => ⟨S8x2048x128, .f32⟩
  | 5 => ⟨S8x2048x128, .f32⟩
  | 6 => ⟨S8x2048x128, .f32⟩
  | 7 => ⟨S8x2048x128, .f32⟩
  | 8 => ⟨S8x2048x128, .f32⟩
  | 9 => ⟨S8x2048x128, .f32⟩
  | 10 => ⟨S8x2048x128, .f32⟩
  | 11 => ⟨S8x2048x128, .f32⟩
  | 12 => ⟨S8x2048x1024, .bf16⟩
  | 13 => ⟨S8x2048x1024, .f32⟩
  | 14 => ⟨S8x2048x1024, .f32⟩
  | 15 => ⟨S8x2048x1024, .f32⟩
  | 16 => ⟨S8x1024x128, .f32⟩
  | 17 => ⟨S8x1024x128, .f32⟩
  | 18 => ⟨S8x2x2816, .f32⟩
  | 19 => ⟨S256x1024, .f32⟩
  | 20 => ⟨S1024x1024, .f32⟩
  | 21 => ⟨S1024x1024, .f32⟩
  | 22 => ⟨S1024, .f32⟩
  | 23 => ⟨S1024x512, .f32⟩
  | 24 => ⟨S512x1024, .f32⟩
  | 25 => ⟨S1024, .f32⟩
  | 26 => ⟨S1024x5632, .f32⟩
  | 27 => ⟨S3x2816, .f32⟩
  | 28 => ⟨S2816, .f32⟩
  | 29 => ⟨S2816x1024, .f32⟩
  | 30 => ⟨S1024, .f32⟩
  | 31 => ⟨S8x2048x256, .f32⟩
  | 32 => ⟨S8x2048x256, .f32⟩
  | 33 => ⟨S8x2048x256, .f32⟩
  | 34 => ⟨S1x8x2048x256, .f32⟩
  | 35 => ⟨S1x8x2048x256, .f32⟩
  | 36 => ⟨S1x8x2048x256, .f32⟩
  | 37 => ⟨S3x8x2048x256, .f32⟩
  | 38 => ⟨S8x2048x256, .f32⟩
  | 39 => ⟨S8x2048x256, .f32⟩
  | 40 => ⟨S8x2048x256, .f32⟩
  | 41 => ⟨S1x8x2048x256, .f32⟩
  | 42 => ⟨S1x8x2048x256, .f32⟩
  | 43 => ⟨S1x8x2048x256, .f32⟩
  | 44 => ⟨S3x8x2048x256, .f32⟩
  | 45 => ⟨S_, .f32⟩
  | 46 => ⟨S8x2048x256, .f32⟩
  | 47 => ⟨S1x8x2048x256, .f32⟩
  | 48 => ⟨S3x8x2048x256, .f32⟩
  | 49 => ⟨S3x8x2048x256, .f32⟩
  | 50 => ⟨S3x8x2048x256, .f32⟩
  | 51 => ⟨S_, .f32⟩
  | 52 => ⟨S8x2048x256, .f32⟩
  | 53 => ⟨S1x8x2048x256, .f32⟩
  | 54 => ⟨S3x8x2048x256, .f32⟩
  | 55 => ⟨S3x8x2048x256, .f32⟩
  | 56 => ⟨S3x8x2048x256, .f32⟩
  | 57 => ⟨S_, .f32⟩
  | 58 => ⟨S8x2048x256, .f32⟩
  | 59 => ⟨S8x2048x1024, .f32⟩
  | 60 => ⟨S8x2048x1024, .f32⟩
  | 61 => ⟨S_, .f32⟩
  | 62 => ⟨S8x2048x1024, .f32⟩
  | 63 => ⟨S8x2048x1024, .f32⟩
  | 64 => ⟨S_, .f32⟩
  | 65 => ⟨S8x2048x1024, .f32⟩
  | 66 => ⟨S8x2048x1024, .f32⟩
  | 67 => ⟨S8x2048x1024, .f32⟩
  | 68 => ⟨S8x2048x1024, .f32⟩
  | 69 => ⟨S8x2048x1024, .f32⟩
  | 70 => ⟨S8x2048x1024, .f32⟩
  | 71 => ⟨S_, .f32⟩
  | 72 => ⟨S8x2048x1024, .f32⟩
  | 73 => ⟨S8x2048x1024, .f32⟩
  | 74 => ⟨S_, .f32⟩
  | 75 => ⟨S8x2048x1024, .f32⟩
  | 76 => ⟨S8x2048x1024, .f32⟩
  | 77 => ⟨S8x2048x1024, .f32⟩
  | 78 => ⟨S8x2048x1024, .f32⟩
  | 79 => ⟨S8x2048x1024, .f32⟩
  | 80 => ⟨S8x2048x1024, .f32⟩
  | 81 => ⟨S8x2048x1024, .f32⟩
  | 82 => ⟨S8x2048x1024, .f32⟩
  | 83 => ⟨S8x2048x1024, .f32⟩
  | 84 => ⟨S_, .f32⟩
  | 85 => ⟨S8x2048, .f32⟩
  | 86 => ⟨S8x2048x1, .f32⟩
  | 87 => ⟨S_, .f32⟩
  | 88 => ⟨S8x2048x1, .f32⟩
  | 89 => ⟨S8x2048x1, .f32⟩
  | 90 => ⟨S_, .f32⟩
  | 91 => ⟨S8x2048x1, .f32⟩
  | 92 => ⟨S8x2048x1, .f32⟩
  | 93 => ⟨S8x2048x1, .f32⟩
  | 94 => ⟨S8x2048x1024, .f32⟩
  | 95 => ⟨S8x2048x1024, .f32⟩
  | 96 => ⟨S1x1x1024, .f32⟩
  | 97 => ⟨S8x2048x1024, .f32⟩
  | 98 => ⟨S8x2048x1024, .f32⟩
  | 99 => ⟨S8x2048x512, .f32⟩
  | 100 => ⟨S8x2048x4x128, .f32⟩
  | 101 => ⟨S8x256x4x128, .f32⟩
  | 102 => ⟨S8x4x2048x256, .f32⟩
  | 103 => ⟨S_, .f32⟩
  | 104 => ⟨S8x4x2048x256, .f32⟩
  | 105 => ⟨S8x4x2048x256, .f32⟩
  | 106 => ⟨S_, .f32⟩
  | 107 => ⟨S8x4x2048, .f32⟩
  | 108 => ⟨S8x4x2048x1, .f32⟩
  | 109 => ⟨S8x4x2048x256, .f32⟩
  | 110 => ⟨S8x4x2048x256, .f32⟩
  | 111 => ⟨S8x4x2048x256, .f32⟩
  | 112 => ⟨S_, .f32⟩
  | 113 => ⟨S8x4x2048, .f32⟩
  | 114 => ⟨S8x4x2048x1, .f32⟩
  | 115 => ⟨S8x4x2048x256, .f32⟩
  | 116 => ⟨S8x4x2048x256, .f32⟩
  | 117 => ⟨S8x256x4x128, .f32⟩
  | 118 => ⟨S8x4x128x2048, .f32⟩
  | 119 => ⟨S8x2048x4x128, .f32⟩
  | 120 => ⟨S8x2048x512, .f32⟩
  | 121 => ⟨S8x2048x1024, .f32⟩
  | 122 => ⟨S8x2048x1024, .f32⟩
  | 123 => ⟨S8x2048x1024, .f32⟩
  | 124 => ⟨S_, .f32⟩
  | 125 => ⟨S8x2048, .f32⟩
  | 126 => ⟨S8x2048x1, .f32⟩
  | 127 => ⟨S_, .f32⟩
  | _ => ⟨S8x2048x128, .f32⟩

abbrev hbmTy0_1 (i : Nat) : BufTy := match i % 128 with
  | 0 => ⟨S8x2048x1, .f32⟩
  | 1 => ⟨S8x2048x1, .f32⟩
  | 2 => ⟨S_, .f32⟩
  | 3 => ⟨S8x2048x1, .f32⟩
  | 4 => ⟨S8x2048x1, .f32⟩
  | 5 => ⟨S8x2048x1, .f32⟩
  | 6 => ⟨S8x2048x1024, .f32⟩
  | 7 => ⟨S8x2048x1024, .f32⟩
  | 8 => ⟨S1x1x1024, .f32⟩
  | 9 => ⟨S8x2048x1024, .f32⟩
  | 10 => ⟨S8x2048x1024, .f32⟩
  | 11 => ⟨S8x2048x5632, .f32⟩
  | 12 => ⟨S8x2048x2816, .f32⟩
  | 13 => ⟨S8x2048x2816, .f32⟩
  | 14 => ⟨S8x2050x2816, .f32⟩
  | 15 => ⟨S8x2048x2816, .f32⟩
  | 16 => ⟨S1x2816, .f32⟩
  | 17 => ⟨S2816, .f32⟩
  | 18 => ⟨S1x1x2816, .f32⟩
  | 19 => ⟨S8x2048x2816, .f32⟩
  | 20 => ⟨S8x2048x2816, .f32⟩
  | 21 => ⟨S8x2048x2816, .f32⟩
  | 22 => ⟨S1x2816, .f32⟩
  | 23 => ⟨S2816, .f32⟩
  | 24 => ⟨S1x1x2816, .f32⟩
  | 25 => ⟨S8x2048x2816, .f32⟩
  | 26 => ⟨S8x2048x2816, .f32⟩
  | 27 => ⟨S8x2048x2816, .f32⟩
  | 28 => ⟨S8x2048x2816, .f32⟩
  | 29 => ⟨S1x2816, .f32⟩
  | 30 => ⟨S2816, .f32⟩
  | 31 => ⟨S1x1x2816, .f32⟩
  | 32 => ⟨S8x2048x2816, .f32⟩
  | 33 => ⟨S8x2048x2816, .f32⟩
  | 34 => ⟨S8x2048x2816, .f32⟩
  | 35 => ⟨S1x1x2816, .f32⟩
  | 36 => ⟨S8x2048x2816, .f32⟩
  | 37 => ⟨S8x2048x2816, .f32⟩
  | 38 => ⟨S8x2048x2816, .f32⟩
  | 39 => ⟨S8x2048x2816, .f32⟩
  | 40 => ⟨S_, .f32⟩
  | 41 => ⟨S8x2048x2816, .f32⟩
  | 42 => ⟨S8x2048x2816, .f32⟩
  | 43 => ⟨S_, .f32⟩
  | 44 => ⟨S8x2048x2816, .f32⟩
  | 45 => ⟨S8x2048x2816, .f32⟩
  | 46 => ⟨S8x2048x2816, .f32⟩
  | 47 => ⟨S8x2048x2816, .f32⟩
  | 48 => ⟨S8x2048x1024, .f32⟩
  | 49 => ⟨S8x2048x1024, .f32⟩
  | 50 => ⟨S8x2048x1024, .f32⟩
  | 51 => ⟨S_, .f32⟩
  | 52 => ⟨S8x2048, .f32⟩
  | 53 => ⟨S8x2048x1, .f32⟩
  | 54 => ⟨S_, .f32⟩
  | 55 => ⟨S8x2048x1, .f32⟩
  | 56 => ⟨S8x2048x1, .f32⟩
  | 57 => ⟨S_, .f32⟩
  | 58 => ⟨S8x2048x1, .f32⟩
  | 59 => ⟨S8x2048x1, .f32⟩
  | 60 => ⟨S8x2048x1, .f32⟩
  | 61 => ⟨S8x2048x1024, .f32⟩
  | 62 => ⟨S8x2048x1024, .f32⟩
  | 63 => ⟨S1x1x1024, .f32⟩
  | 64 => ⟨S8x2048x1024, .f32⟩
  | 65 => ⟨S8x2048x1024, .f32⟩
  | 66 => ⟨S8x2x2816, .f32⟩
  | _ => ⟨S8x2048x128, .f32⟩

abbrev hbmTy (i : Nat) : BufTy := match i / 128 with
  | 0 => hbmTy0_0 i
  | 1 => hbmTy0_1 i
  | _ => ⟨S8x2048x128, .f32⟩

abbrev bufTy : (tb : Table) → Fin (tcTables nBuf tb) → BufTy
  | .hbm, ⟨i, _⟩ => hbmTy i
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_cst_0 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_1 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_2 : Ref sig .tc := ⟨.hbm, 61, rfl⟩
abbrev main_v27 : Ref sig .tc := ⟨.hbm, 62, rfl⟩
abbrev main_v28 : Ref sig .tc := ⟨.hbm, 63, rfl⟩
abbrev main_cst_3 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst_4 : Ref sig .tc := ⟨.hbm, 71, rfl⟩
abbrev main_v35 : Ref sig .tc := ⟨.hbm, 72, rfl⟩
abbrev main_v36 : Ref sig .tc := ⟨.hbm, 73, rfl⟩
abbrev main_cst_5 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_6 : Ref sig .tc := ⟨.hbm, 84, rfl⟩
abbrev main_v46 : Ref sig .tc := ⟨.hbm, 85, rfl⟩
abbrev main_v47 : Ref sig .tc := ⟨.hbm, 86, rfl⟩
abbrev main_cst_7 : Ref sig .tc := ⟨.hbm, 87, rfl⟩
abbrev main_v48 : Ref sig .tc := ⟨.hbm, 88, rfl⟩
abbrev main_v49 : Ref sig .tc := ⟨.hbm, 89, rfl⟩
abbrev main_cst_8 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_9 : Ref sig .tc := ⟨.hbm, 103, rfl⟩
abbrev main_v62 : Ref sig .tc := ⟨.hbm, 104, rfl⟩
abbrev main_v63 : Ref sig .tc := ⟨.hbm, 105, rfl⟩
abbrev main_cst_10 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_cst_11 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_12 : Ref sig .tc := ⟨.hbm, 124, rfl⟩
abbrev main_v80 : Ref sig .tc := ⟨.hbm, 125, rfl⟩
abbrev main_v81 : Ref sig .tc := ⟨.hbm, 126, rfl⟩
abbrev main_cst_13 : Ref sig .tc := ⟨.hbm, 127, rfl⟩
abbrev main_v82 : Ref sig .tc := ⟨.hbm, 128, rfl⟩
abbrev main_v83 : Ref sig .tc := ⟨.hbm, 129, rfl⟩
abbrev main_cst_14 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_call0_v0 : Ref sig .tc := ⟨.hbm, 166, rfl⟩
abbrev main_call0_v1 : Ref sig .tc := ⟨.hbm, 167, rfl⟩
abbrev main_call0_cst : Ref sig .tc := ⟨.hbm, 168, rfl⟩
abbrev main_call0_v2 : Ref sig .tc := ⟨.hbm, 169, rfl⟩
abbrev main_call0_v3 : Ref sig .tc := ⟨.hbm, 170, rfl⟩
abbrev main_call0_cst_0 : Ref sig .tc := ⟨.hbm, 171, rfl⟩
abbrev main_call0_v4 : Ref sig .tc := ⟨.hbm, 172, rfl⟩
abbrev main_call0_v5 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_cst_15 : Ref sig .tc := ⟨.hbm, 179, rfl⟩
abbrev main_v124 : Ref sig .tc := ⟨.hbm, 180, rfl⟩
abbrev main_v125 : Ref sig .tc := ⟨.hbm, 181, rfl⟩
abbrev main_cst_16 : Ref sig .tc := ⟨.hbm, 182, rfl⟩
abbrev main_v126 : Ref sig .tc := ⟨.hbm, 183, rfl⟩
abbrev main_v127 : Ref sig .tc := ⟨.hbm, 184, rfl⟩
abbrev main_cst_17 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩

abbrev nD : Nat := 1
abbrev τ : Topo := Topo.v7x

variable {F : FTy → Type} [FloatOps F]
-- ==== Kernel3.lean ====
abbrev S8x256x1024 : Shape := ⟨3, ![8, 256, 1024]⟩
abbrev S1024 : Shape := ⟨1, ![1024]⟩
abbrev S1024x1024 : Shape := ⟨2, ![1024, 1024]⟩
abbrev S2048x1024 : Shape := ⟨2, ![2048, 1024]⟩
abbrev S1x1024 : Shape := ⟨2, ![1, 1024]⟩
abbrev S8192x128 : Shape := ⟨2, ![8192, 128]⟩
abbrev S256x1024 : Shape := ⟨2, ![256, 1024]⟩
abbrev S1024x128 : Shape := ⟨2, ![1024, 128]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S256x128 : Shape := ⟨2, ![256, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S2048x1024, .f32⟩
  | .hbm, ⟨4, _⟩ => ⟨S1024x1024, .bf16⟩
  | .hbm, ⟨5, _⟩ => ⟨S1x1024, .f32⟩
  | .hbm, ⟨6, _⟩ => ⟨S8192x128, .f32⟩
  | .hbm, ⟨7, _⟩ => ⟨S8192x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S8x256x1024 : Shape := ⟨3, ![8, 256, 1024]⟩
abbrev S1024 : Shape := ⟨1, ![1024]⟩
abbrev S1024x1024 : Shape := ⟨2, ![1024, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x512 : Shape := ⟨3, ![8, 256, 512]⟩
abbrev S8192x128 : Shape := ⟨2, ![8192, 128]⟩

abbrev nBuf : Space → Nat
  | .hbm => 24
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S8x256x1024, .f32⟩
  | .hbm, ⟨4, _⟩ => ⟨S_, .f32⟩
  | .hbm, ⟨5, _⟩ => ⟨S8x256, .f32⟩
  | .hbm, ⟨6, _⟩ => ⟨S8x256x1, .f32⟩
  | .hbm, ⟨7, _⟩ => ⟨S_, .f32⟩
  | .hbm, ⟨8, _⟩ => ⟨S8x256x1, .f32⟩
  | .hbm, ⟨9, _⟩ => ⟨S8x256x1, .f32⟩
  | .hbm, ⟨10, _⟩ => ⟨S_, .f32⟩
  | .hbm, ⟨11, _⟩ => ⟨S8x256x1, .f32⟩
  | .hbm, ⟨12, _⟩ => ⟨S8x256x1, .f32⟩
  | .hbm, ⟨13, _⟩ => ⟨S8x256x1, .f32⟩
  | .hbm, ⟨14, _⟩ => ⟨S8x256x1024, .f32⟩
  | .hbm, ⟨15, _⟩ => ⟨S8x256x1024, .f32⟩
  | .hbm, ⟨16, _⟩ => ⟨S1x1x1024, .f32⟩
  | .hbm, ⟨17, _⟩ => ⟨S8x256x1024, .f32⟩
  | .hbm, ⟨18, _⟩ => ⟨S8x256x1024, .f32⟩
  | .hbm, ⟨19, _⟩ => ⟨S8x256x1024, .f32⟩
  | .hbm, ⟨20, _⟩ => ⟨S8x256x512, .f32⟩
  | .hbm, ⟨21, _⟩ => ⟨S8x256x512, .f32⟩
  | .hbm, ⟨22, _⟩ => ⟨S8192x128, .f32⟩
  | .hbm, ⟨23, _⟩ => ⟨S8192x128, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel4.lean ====
abbrev S32x4x1024 : Shape := ⟨3, ![32, 4, 1024]⟩
abbrev S1024 : Shape := ⟨1, ![1024]⟩
abbrev S1024x8464 : Shape := ⟨2, ![1024, 8464]⟩
abbrev S_ : Shape := ⟨0, ![]⟩
abbrev S32x8x1024 : Shape := ⟨3, ![32, 8, 1024]⟩
abbrev S256x1024 : Shape := ⟨2, ![256, 1024]⟩
abbrev S1024x2048 : Shape := ⟨2, ![1024, 2048]⟩
abbrev S1x1024 : Shape := ⟨2, ![1, 1024]⟩
abbrev S256x768 : Shape := ⟨2, ![256, 768]⟩
abbrev S256x512 : Shape := ⟨2, ![256, 512]⟩
abbrev S256x3072 : Shape := ⟨2, ![256, 3072]⟩
abbrev S256x128 : Shape := ⟨2, ![256, 128]⟩
abbrev S256 : Shape := ⟨1, ![256]⟩
abbrev S256x1 : Shape := ⟨2, ![256, 1]⟩
abbrev S1024x768 : Shape := ⟨2, ![1024, 768]⟩
abbrev S1024x256 : Shape := ⟨2, ![1024, 256]⟩
abbrev S256x256 : Shape := ⟨2, ![256, 256]⟩
abbrev S1024x1024 : Shape := ⟨2, ![1024, 1024]⟩
abbrev S1024x128 : Shape := ⟨2, ![1024, 128]⟩

abbrev nBuf : Space → Nat
  | .hbm => 19
  | .vmem => 13
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x8464, .f32⟩
  | .hbm, ⟨3, _⟩ => ⟨S_, .i32⟩
  | .hbm, ⟨4, _⟩ => ⟨S_, .f32⟩
  | .hbm, ⟨5, _⟩ => ⟨S32x8x1024, .f32⟩
  | .hbm, ⟨6, _⟩ => ⟨S256x1024, .f32⟩
  | .hbm, ⟨7, _⟩ => ⟨S1024x8464, .bf16⟩
  | .hbm, ⟨8, _⟩ => ⟨S1024x2048, .bf16⟩
  | .hbm, ⟨9, _⟩ => ⟨S1x1024, .f32⟩
  | .hbm, ⟨10, _⟩ => ⟨S256x768, .f32⟩
  | .hbm, ⟨11, _⟩ => ⟨S256x512, .f32⟩
  | .hbm, ⟨12, _⟩ => ⟨S256x512, .f32⟩
  | .hbm, ⟨13, _⟩ => ⟨S256x512, .f32⟩
  | .hbm, ⟨14, _⟩ => ⟨S256x3072, .f32⟩
  | .hbm, ⟨15, _⟩ => ⟨S256x1024, .f32⟩
  | .hbm, ⟨16, _⟩ => ⟨S256x128, .f32⟩
  | .hbm, ⟨17, _⟩ => ⟨S256x1024, .f32⟩
  | .hbm, ⟨18, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S1024x8464, .bf16⟩
  | .local _ .vmem, ⟨3, _⟩ => ⟨S1024x2048, .bf16⟩
  | .local _ .vmem, ⟨4, _⟩ => ⟨S256x768, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x3072, .f32⟩
  | .local _ .vmem, ⟨9, _⟩ => ⟨S256x1024, .f32⟩
  | .local _ .vmem, ⟨10, _⟩ => ⟨S256x128, .f32⟩
  | .local _ .vmem, ⟨11, _⟩ => ⟨S256x1024, .f32⟩
  | .local _ .vmem, ⟨12, _⟩ => ⟨S256x1024, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev main_v5_5 : Ref sig .tc := ⟨.hbm, 15, rfl⟩
abbrev main_v5_6 : Ref sig .tc := ⟨.hbm, 16, rfl⟩
abbrev main_v5_7 : Ref sig .tc := ⟨.hbm, 17, rfl⟩
abbrev main_v5_8 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x8464 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== Reference4Ideal.lean ====
abbrev S32x4x1024 : Shape := ⟨3, ![32, 4, 1024]⟩
abbrev S1024 : Shape := ⟨1, ![1024]⟩
abbrev S1024x8464 : Shape := ⟨2, ![1024, 8464]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x8464 : Shape := ⟨3, ![32, 4, 8464]⟩
abbrev S32x8x8464 : Shape := ⟨3, ![32, 8, 8464]⟩
abbrev S256x8464 : Shape := ⟨2, ![256, 8464]⟩
abbrev S256x256 : Shape := ⟨2, ![256, 256]⟩
abbrev S256x512 : Shape := ⟨2, ![256, 512]⟩
abbrev S256x768 : Shape := ⟨2, ![256, 768]⟩
abbrev S256x3072 : Shape := ⟨2, ![256, 3072]⟩
abbrev S256x1024 : Shape := ⟨2, ![256, 1024]⟩
abbrev S256x128 : Shape := ⟨2, ![256, 128]⟩

abbrev nBuf : Space → Nat
  | .hbm => 42
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x8464, .f32⟩
  | .hbm, ⟨3, _⟩ => ⟨S32x4x1024, .f32⟩
  | .hbm, ⟨4, _⟩ => ⟨S_, .f32⟩
  | .hbm, ⟨5, _⟩ => ⟨S32x4, .f32⟩
  | .hbm, ⟨6, _⟩ => ⟨S32x4x1, .f32⟩
  | .hbm, ⟨7, _⟩ => ⟨S_, .f32⟩
  | .hbm, ⟨8, _⟩ => ⟨S32x4x1, .f32⟩
  | .hbm, ⟨9, _⟩ => ⟨S32x4x1, .f32⟩
  | .hbm, ⟨10, _⟩ => ⟨S_, .f32⟩
  | .hbm, ⟨11, _⟩ => ⟨S32x4x1, .f32⟩
  | .hbm, ⟨12, _⟩ => ⟨S32x4x1, .f32⟩
  | .hbm, ⟨13, _⟩ => ⟨S32x4x1, .f32⟩
  | .hbm, ⟨14, _⟩ => ⟨S32x4x1024, .f32⟩
  | .hbm, ⟨15, _⟩ => ⟨S32x4x1024, .f32⟩
  | .hbm, ⟨16, _⟩ => ⟨S1x1x1024, .f32⟩
  | .hbm, ⟨17, _⟩ => ⟨S32x4x1024, .f32⟩
  | .hbm, ⟨18, _⟩ => ⟨S32x4x1024, .f32⟩
  | .hbm, ⟨19, _⟩ => ⟨S32x4x8464, .f32⟩
  | .hbm, ⟨20, _⟩ => ⟨S_, .i32⟩
  | .hbm, ⟨21, _⟩ => ⟨S_, .f32⟩
  | .hbm, ⟨22, _⟩ => ⟨S32x8x8464, .f32⟩
  | .hbm, ⟨23, _⟩ => ⟨S256x8464, .f32⟩
  | .hbm, ⟨24, _⟩ => ⟨S256x256, .f32⟩
  | .hbm, ⟨25, _⟩ => ⟨S256x256, .f32⟩
  | .hbm, ⟨26, _⟩ => ⟨S256x512, .f32⟩
  | .hbm, ⟨27, _⟩ => ⟨S256x256, .f32⟩
  | .hbm, ⟨28, _⟩ => ⟨S256x256, .f32⟩
  | .hbm, ⟨29, _⟩ => ⟨S256x512, .f32⟩
  | .hbm, ⟨30, _⟩ => ⟨S256x256, .f32⟩
  | .hbm, ⟨31, _⟩ => ⟨S256x256, .f32⟩
  | .hbm, ⟨32, _⟩ => ⟨S256x512, .f32⟩
  | .hbm, ⟨33, _⟩ => ⟨S256x768, .f32⟩
  | .hbm, ⟨34, _⟩ => ⟨S_, .f32⟩
  | .hbm, ⟨35, _⟩ => ⟨S256x768, .f32⟩
  | .hbm, ⟨36, _⟩ => ⟨S256x768, .f32⟩
  | .hbm, ⟨37, _⟩ => ⟨S256x3072, .f32⟩
  | .hbm, ⟨38, _⟩ => ⟨S256x1024, .f32⟩
  | .hbm, ⟨39, _⟩ => ⟨S256x128, .f32⟩
  | .hbm, ⟨40, _⟩ => ⟨S256x1024, .f32⟩
  | .hbm, ⟨41, _⟩ => ⟨S256x1024, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Kernel5.lean ====
abbrev S256x1024 : Shape := ⟨2, ![256, 1024]⟩
abbrev S32x8x512 : Shape := ⟨3, ![32, 8, 512]⟩
abbrev S32x2x2816 : Shape := ⟨3, ![32, 2, 2816]⟩
abbrev S512x1024 : Shape := ⟨2, ![512, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S32x6x2816 : Shape := ⟨3, ![32, 6, 2816]⟩
abbrev S31x2x2816 : Shape := ⟨3, ![31, 2, 2816]⟩
abbrev S1x2x2816 : Shape := ⟨3, ![1, 2, 2816]⟩
abbrev S32x8x2816 : Shape := ⟨3, ![32, 8, 2816]⟩
abbrev S1x256x1024 : Shape := ⟨3, ![1, 256, 1024]⟩
abbrev S1x256x512 : Shape := ⟨3, ![1, 256, 512]⟩
abbrev S1x256x2816 : Shape := ⟨3, ![1, 256, 2816]⟩
abbrev S1x1024 : Shape := ⟨2, ![1, 1024]⟩
abbrev S1x2816 : Shape := ⟨2, ![1, 2816]⟩
abbrev S264x2816 : Shape := ⟨2, ![264, 2816]⟩
abbrev S256x512 : Shape := ⟨2, ![256, 512]⟩
abbrev S2x2816 : Shape := ⟨2, ![2, 2816]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩

abbrev nBuf : Space → Nat
  | .hbm => 29
  | .vmem => 14
  | .smem => 0
  | _ => 0

abbrev bufTy : (tb : Table) → Fin (tcTables nBuf tb) → BufTy
  | .hbm, ⟨0, _⟩ => ⟨S256x1024, .f32⟩
  | .hbm, ⟨1, _⟩ => ⟨S32x8x512, .f32⟩
  | .hbm, ⟨2, _⟩ => ⟨S32x2x2816, .f32⟩
  | .hbm, ⟨3, _⟩ => ⟨S512x1024, .f32⟩
  | .hbm, ⟨4, _⟩ => ⟨S1024, .f32⟩
  | .hbm, ⟨5, _⟩ => ⟨S1024x5632, .f32⟩
  | .hbm, ⟨6, _⟩ => ⟨S3x2816, .f32⟩
  | .hbm, ⟨7, _⟩ => ⟨S2816, .f32⟩
  | .hbm, ⟨8, _⟩ => ⟨S2816x1024, .f32⟩
  | .hbm, ⟨9, _⟩ => ⟨S1024, .f32⟩
  | .hbm, ⟨10, _⟩ => ⟨S_, .f32⟩
  | .hbm, ⟨11, _⟩ => ⟨S32x6x2816, .f32⟩
  | .hbm, ⟨12, _⟩ => ⟨S31x2x2816, .f32⟩
  | .hbm, ⟨13, _⟩ => ⟨S_, .f32⟩
  | .hbm, ⟨14, _⟩ => ⟨S1x2x2816, .f32⟩
  | .hbm, ⟨15, _⟩ => ⟨S32x2x2816, .f32⟩
  | .hbm, ⟨16, _⟩ => ⟨S32x8x2816, .f32⟩
  | .hbm, ⟨17, _⟩ => ⟨S1x256x1024, .f32⟩
  | .hbm, ⟨18, _⟩ => ⟨S1x256x512, .f32⟩
  | .hbm, ⟨19, _⟩ => ⟨S1x2x2816, .f32⟩
  | .hbm, ⟨20, _⟩ => ⟨S1x256x2816, .f32⟩
  | .hbm, ⟨21, _⟩ => ⟨S512x1024, .bf16⟩
  | .hbm, ⟨22, _⟩ => ⟨S1024x5632, .bf16⟩
  | .hbm, ⟨23, _⟩ => ⟨S2816x1024, .bf16⟩
  | .hbm, ⟨24, _⟩ => ⟨S1x1024, .f32⟩
  | .hbm, ⟨25, _⟩ => ⟨S1x2816, .f32⟩
  | .hbm, ⟨26, _⟩ => ⟨S1x1024, .f32⟩
  | .hbm, ⟨27, _⟩ => ⟨S1x256x1024, .f32⟩
  | .hbm, ⟨28, _⟩ => ⟨S1x256x2816, .f32⟩
  | .local _ .vmem, ⟨0, _⟩ => ⟨S1x256x1024, .f32⟩
  | .local _ .vmem, ⟨1, _⟩ => ⟨S1x256x512, .f32⟩
  | .local _ .vmem, ⟨2, _⟩ => ⟨S1x2x2816, .f32⟩
  | .local _ .vmem, ⟨3, _⟩ => ⟨S1x256x2816, .f32⟩
  | .local _ .vmem, ⟨4, _⟩ => ⟨S512x1024, .bf16⟩
  | .local _ .vmem, ⟨5, _⟩ => ⟨S1x1024, .f32⟩
  | .local _ .vmem, ⟨6, _⟩ => ⟨S1024x5632, .bf16⟩
  | .local _ .vmem, ⟨7, _⟩ => ⟨S3x2816, .f32⟩
  | .local _ .vmem, ⟨8, _⟩ => ⟨S1x2816, .f32⟩
  | .local _ .vmem, ⟨9, _⟩ => ⟨S2816x1024, .bf16⟩
  | .local _ .vmem, ⟨10, _⟩ => ⟨S1x1024, .f32⟩
  | .local _ .vmem, ⟨11, _⟩ => ⟨S1x256x1024, .f32⟩
  | .local _ .vmem, ⟨12, _⟩ => ⟨S1x256x2816, .f32⟩
  | .local _ .vmem, ⟨13, _⟩ => ⟨S264x2816, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x256x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S1x256x2816 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]
-- ==== Reference5Ideal.lean ====
abbrev S256x1024 : Shape := ⟨2, ![256, 1024]⟩
abbrev S32x8x512 : Shape := ⟨3, ![32, 8, 512]⟩
abbrev S32x2x2816 : Shape := ⟨3, ![32, 2, 2816]⟩
abbrev S512x1024 : Shape := ⟨2, ![512, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S32x8x1024 : Shape := ⟨3, ![32, 8, 1024]⟩
abbrev S32x4x1024 : Shape := ⟨3, ![32, 4, 1024]⟩
abbrev S32x4x512 : Shape := ⟨3, ![32, 4, 512]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x5632 : Shape := ⟨3, ![32, 4, 5632]⟩
abbrev S32x4x2816 : Shape := ⟨3, ![32, 4, 2816]⟩
abbrev S32x6x2816 : Shape := ⟨3, ![32, 6, 2816]⟩
abbrev S1x2816 : Shape := ⟨2, ![1, 2816]⟩
abbrev S1x1x2816 : Shape := ⟨3, ![1, 1, 2816]⟩
abbrev S1x256x1024 : Shape := ⟨3, ![1, 256, 1024]⟩
abbrev S32x8x2816 : Shape := ⟨3, ![32, 8, 2816]⟩
abbrev S1x256x2816 : Shape := ⟨3, ![1, 256, 2816]⟩

abbrev nBuf : Space → Nat
  | .hbm => 94
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S32x8x512, .f32⟩
  | .hbm, ⟨2, _⟩ => ⟨S32x2x2816, .f32⟩
  | .hbm, ⟨3, _⟩ => ⟨S512x1024, .f32⟩
  | .hbm, ⟨4, _⟩ => ⟨S1024, .f32⟩
  | .hbm, ⟨5, _⟩ => ⟨S1024x5632, .f32⟩
  | .hbm, ⟨6, _⟩ => ⟨S3x2816, .f32⟩
  | .hbm, ⟨7, _⟩ => ⟨S2816, .f32⟩
  | .hbm, ⟨8, _⟩ => ⟨S2816x1024, .f32⟩
  | .hbm, ⟨9, _⟩ => ⟨S1024, .f32⟩
  | .hbm, ⟨10, _⟩ => ⟨S32x8x1024, .f32⟩
  | .hbm, ⟨11, _⟩ => ⟨S32x4x1024, .f32⟩
  | .hbm, ⟨12, _⟩ => ⟨S32x4x512, .f32⟩
  | .hbm, ⟨13, _⟩ => ⟨S32x4x1024, .f32⟩
  | .hbm, ⟨14, _⟩ => ⟨S32x4x1024, .f32⟩
  | .hbm, ⟨15, _⟩ => ⟨S32x4x1024, .f32⟩
  | .hbm, ⟨16, _⟩ => ⟨S_, .f32⟩
  | .hbm, ⟨17, _⟩ => ⟨S32x4, .f32⟩
  | .hbm, ⟨18, _⟩ => ⟨S32x4x1, .f32⟩
  | .hbm, ⟨19, _⟩ => ⟨S_, .f32⟩
  | .hbm, ⟨20, _⟩ => ⟨S32x4x1, .f32⟩
  | .hbm, ⟨21, _⟩ => ⟨S32x4x1, .f32⟩
  | .hbm, ⟨22, _⟩ => ⟨S_, .f32⟩
  | .hbm, ⟨23, _⟩ => ⟨S32x4x1, .f32⟩
  | .hbm, ⟨24, _⟩ => ⟨S32x4x1, .f32⟩
  | .hbm, ⟨25, _⟩ => ⟨S32x4x1, .f32⟩
  | .hbm, ⟨26, _⟩ => ⟨S32x4x1024, .f32⟩
  | .hbm, ⟨27, _⟩ => ⟨S32x4x1024, .f32⟩
  | .hbm, ⟨28, _⟩ => ⟨S1x1x1024, .f32⟩
  | .hbm, ⟨29, _⟩ => ⟨S32x4x1024, .f32⟩
  | .hbm, ⟨30, _⟩ => ⟨S32x4x1024, .f32⟩
  | .hbm, ⟨31, _⟩ => ⟨S32x4x5632, .f32⟩
  | .hbm, ⟨32, _⟩ => ⟨S32x4x2816, .f32⟩
  | .hbm, ⟨33, _⟩ => ⟨S32x4x2816, .f32⟩
  | .hbm, ⟨34, _⟩ => ⟨S32x6x2816, .f32⟩
  | .hbm, ⟨35, _⟩ => ⟨S32x4x2816, .f32⟩
  | .hbm, ⟨36, _⟩ => ⟨S1x2816, .f32⟩
  | .hbm, ⟨37, _⟩ => ⟨S2816, .f32⟩
  | .hbm, ⟨38, _⟩ => ⟨S1x1x2816, .f32⟩
  | .hbm, ⟨39, _⟩ => ⟨S32x4x2816, .f32⟩
  | .hbm, ⟨40, _⟩ => ⟨S32x4x2816, .f32⟩
  | .hbm, ⟨41, _⟩ => ⟨S32x4x2816, .f32⟩
  | .hbm, ⟨42, _⟩ => ⟨S1x2816, .f32⟩
  | .hbm, ⟨43, _⟩ => ⟨S2816, .f32⟩
  | .hbm, ⟨44, _⟩ => ⟨S1x1x2816, .f32⟩
  | .hbm, ⟨45, _⟩ => ⟨S32x4x2816, .f32⟩
  | .hbm, ⟨46, _⟩ => ⟨S32x4x2816, .f32⟩
  | .hbm, ⟨47, _⟩ => ⟨S32x4x2816, .f32⟩
  | .hbm, ⟨48, _⟩ => ⟨S32x4x2816, .f32⟩
  | .hbm, ⟨49, _⟩ => ⟨S1x2816, .f32⟩
  | .hbm, ⟨50, _⟩ => ⟨S2816, .f32⟩
  | .hbm, ⟨51, _⟩ => ⟨S1x1x2816, .f32⟩
  | .hbm, ⟨52, _⟩ => ⟨S32x4x2816, .f32⟩
  | .hbm, ⟨53, _⟩ => ⟨S32x4x2816, .f32⟩
  | .hbm, ⟨54, _⟩ => ⟨S32x4x2816, .f32⟩
  | .hbm, ⟨55, _⟩ => ⟨S1x1x2816, .f32⟩
  | .hbm, ⟨56, _⟩ => ⟨S32x4x2816, .f32⟩
  | .hbm, ⟨57, _⟩ => ⟨S32x4x2816, .f32⟩
  | .hbm, ⟨58, _⟩ => ⟨S32x4x2816, .f32⟩
  | .hbm, ⟨59, _⟩ => ⟨S32x4x2816, .f32⟩
  | .hbm, ⟨60, _⟩ => ⟨S_, .f32⟩
  | .hbm, ⟨61, _⟩ => ⟨S32x4x2816, .f32⟩
  | .hbm, ⟨62, _⟩ => ⟨S32x4x2816, .f32⟩
  | .hbm, ⟨63, _⟩ => ⟨S_, .f32⟩
  | .hbm, ⟨64, _⟩ => ⟨S32x4x2816, .f32⟩
  | .hbm, ⟨65, _⟩ => ⟨S32x4x2816, .f32⟩
  | .hbm, ⟨66, _⟩ => ⟨S32x4x2816, .f32⟩
  | .hbm, ⟨67, _⟩ => ⟨S32x4x2816, .f32⟩
  | .hbm, ⟨68, _⟩ => ⟨S32x4x1024, .f32⟩
  | .hbm, ⟨69, _⟩ => ⟨S32x4x1024, .f32⟩
  | .hbm, ⟨70, _⟩ => ⟨S32x4x1024, .f32⟩
  | .hbm, ⟨71, _⟩ => ⟨S_, .f32⟩
  | .hbm, ⟨72, _⟩ => ⟨S32x4, .f32⟩
  | .hbm, ⟨73, _⟩ => ⟨S32x4x1, .f32⟩
  | .hbm, ⟨74, _⟩ => ⟨S_, .f32⟩
  | .hbm, ⟨75, _⟩ => ⟨S32x4x1, .f32⟩
  | .hbm, ⟨76, _⟩ => ⟨S32x4x1, .f32⟩
  | .hbm, ⟨77, _⟩ => ⟨S_, .f32⟩
  | .hbm, ⟨78, _⟩ => ⟨S32x4x1, .f32⟩
  | .hbm, ⟨79, _⟩ => ⟨S32x4x1, .f32⟩
  | .hbm, ⟨80, _⟩ => ⟨S32x4x1, .f32⟩
  | .hbm, ⟨81, _⟩ => ⟨S32x4x1024, .f32⟩
  | .hbm, ⟨82, _⟩ => ⟨S32x4x1024, .f32⟩
  | .hbm, ⟨83, _⟩ => ⟨S1x1x1024, .f32⟩
  | .hbm, ⟨84, _⟩ => ⟨S32x4x1024, .f32⟩
  | .hbm, ⟨85, _⟩ => ⟨S32x4x1024, .f32⟩
  | .hbm, ⟨86, _⟩ => ⟨S_, .i32⟩
  | .hbm, ⟨87, _⟩ => ⟨S_, .f32⟩
  | .hbm, ⟨88, _⟩ => ⟨S32x8x1024, .f32⟩
  | .hbm, ⟨89, _⟩ => ⟨S1x256x1024, .f32⟩
  | .hbm, ⟨90, _⟩ => ⟨S_, .i32⟩
  | .hbm, ⟨91, _⟩ => ⟨S_, .f32⟩
  | .hbm, ⟨92, _⟩ => ⟨S32x8x2816, .f32⟩
  | .hbm, ⟨93, _⟩ => ⟨S1x256x2816, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_2 : Ref sig .tc := ⟨.hbm, 71, rfl⟩
abbrev main_v50 : Ref sig .tc := ⟨.hbm, 72, rfl⟩
abbrev main_v51 : Ref sig .tc := ⟨.hbm, 73, rfl⟩
abbrev main_cst_3 : Ref sig .tc := ⟨.hbm, 74, rfl⟩
abbrev main_v52 : Ref sig .tc := ⟨.hbm, 75, rfl⟩
abbrev main_v53 : Ref sig .tc := ⟨.hbm, 76, rfl⟩
abbrev main_cst_4 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c : Ref sig .tc := ⟨.hbm, 86, rfl⟩
abbrev main_call1_v0 : Ref sig .tc := ⟨.hbm, 87, rfl⟩
abbrev main_v62 : Ref sig .tc := ⟨.hbm, 88, rfl⟩
abbrev main_v63 : Ref sig .tc := ⟨.hbm, 89, rfl⟩
abbrev main_c_5 : Ref sig .tc := ⟨.hbm, 90, rfl⟩
abbrev main_call2_v0 : Ref sig .tc := ⟨.hbm, 91, rfl⟩
abbrev main_v64 : Ref sig .tc := ⟨.hbm, 92, rfl⟩
abbrev main_v65 : Ref sig .tc := ⟨.hbm, 93, rfl⟩

abbrev nD : Nat := 1
abbrev τ : Topo := Topo.v7x

variable {F : FTy → Type} [FloatOps F]
-- ==== Kernel6.lean ====
abbrev S32x8x768 : Shape := ⟨3, ![32, 8, 768]⟩
abbrev S32x8x1024 : Shape := ⟨3, ![32, 8, 1024]⟩
abbrev S256x1024 : Shape := ⟨2, ![256, 1024]⟩
abbrev S1024x1024 : Shape := ⟨2, ![1024, 1024]⟩
abbrev S1024 : Shape := ⟨1, ![1024]⟩
abbrev S1024x512 : Shape := ⟨2, ![1024, 512]⟩
abbrev S256x768 : Shape := ⟨2, ![256, 768]⟩
abbrev S256x128 : Shape := ⟨2, ![256, 128]⟩
abbrev S1x1024 : Shape := ⟨2, ![1, 1024]⟩
abbrev S256x512 : Shape := ⟨2, ![256, 512]⟩
abbrev S256x256 : Shape := ⟨2, ![256, 256]⟩
abbrev S256 : Shape := ⟨1, ![256]⟩
abbrev S256x1 : Shape := ⟨2, ![256, 1]⟩

abbrev nBuf : Space → Nat
  | .hbm => 44
  | .vmem => 23
  | .smem => 0
  | _ => 0

abbrev bufTy : (tb : Table) → Fin (tcTables nBuf tb) → BufTy
  | .hbm, ⟨0, _⟩ => ⟨S32x8x768, .f32⟩
  | .hbm, ⟨1, _⟩ => ⟨S32x8x768, .f32⟩
  | .hbm, ⟨2, _⟩ => ⟨S32x8x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024x512, .f32⟩
  | .hbm, ⟨11, _⟩ => ⟨S256x768, .f32⟩
  | .hbm, ⟨12, _⟩ => ⟨S256x128, .f32⟩
  | .hbm, ⟨13, _⟩ => ⟨S256x768, .f32⟩
  | .hbm, ⟨14, _⟩ => ⟨S256x128, .f32⟩
  | .hbm, ⟨15, _⟩ => ⟨S256x768, .f32⟩
  | .hbm, ⟨16, _⟩ => ⟨S256x128, .f32⟩
  | .hbm, ⟨17, _⟩ => ⟨S256x768, .f32⟩
  | .hbm, ⟨18, _⟩ => ⟨S256x128, .f32⟩
  | .hbm, ⟨19, _⟩ => ⟨S256x768, .f32⟩
  | .hbm, ⟨20, _⟩ => ⟨S256x128, .f32⟩
  | .hbm, ⟨21, _⟩ => ⟨S256x768, .f32⟩
  | .hbm, ⟨22, _⟩ => ⟨S256x128, .f32⟩
  | .hbm, ⟨23, _⟩ => ⟨S256x768, .f32⟩
  | .hbm, ⟨24, _⟩ => ⟨S256x128, .f32⟩
  | .hbm, ⟨25, _⟩ => ⟨S256x768, .f32⟩
  | .hbm, ⟨26, _⟩ => ⟨S256x128, .f32⟩
  | .hbm, ⟨27, _⟩ => ⟨S256x768, .f32⟩
  | .hbm, ⟨28, _⟩ => ⟨S256x128, .f32⟩
  | .hbm, ⟨29, _⟩ => ⟨S256x768, .f32⟩
  | .hbm, ⟨30, _⟩ => ⟨S256x128, .f32⟩
  | .hbm, ⟨31, _⟩ => ⟨S256x768, .f32⟩
  | .hbm, ⟨32, _⟩ => ⟨S256x128, .f32⟩
  | .hbm, ⟨33, _⟩ => ⟨S256x768, .f32⟩
  | .hbm, ⟨34, _⟩ => ⟨S256x128, .f32⟩
  | .hbm, ⟨35, _⟩ => ⟨S256x1024, .f32⟩
  | .hbm, ⟨36, _⟩ => ⟨S256x1024, .bf16⟩
  | .hbm, ⟨37, _⟩ => ⟨S256x1024, .bf16⟩
  | .hbm, ⟨38, _⟩ => ⟨S1024x1024, .bf16⟩
  | .hbm, ⟨39, _⟩ => ⟨S1024x1024, .bf16⟩
  | .hbm, ⟨40, _⟩ => ⟨S1024x512, .bf16⟩
  | .hbm, ⟨41, _⟩ => ⟨S1x1024, .f32⟩
  | .hbm, ⟨42, _⟩ => ⟨S256x1024, .f32⟩
  | .hbm, ⟨43, _⟩ => ⟨S256x512, .bf16⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1x1024, .f32⟩
  | .local _ .vmem, ⟨20, _⟩ => ⟨S1024x512, .bf16⟩
  | .local _ .vmem, ⟨21, _⟩ => ⟨S256x1024, .f32⟩
  | .local _ .vmem, ⟨22, _⟩ => ⟨S256x512, .bf16⟩
  | _, _ => ⟨S32x8x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31_0 : Ref sig .tc := ⟨.hbm, 42, rfl⟩
abbrev main_v31_1 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S256x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S256x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x512 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]

abbrev stage0_22 : Fin 1 → Memref sig .tc .vmem S256x512 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true]
-- ==== Reference6Ideal.lean ====
abbrev S32x8x768 : Shape := ⟨3, ![32, 8, 768]⟩
abbrev S32x8x1024 : Shape := ⟨3, ![32, 8, 1024]⟩
abbrev S256x1024 : Shape := ⟨2, ![256, 1024]⟩
abbrev S1024x1024 : Shape := ⟨2, ![1024, 1024]⟩
abbrev S1024 : Shape := ⟨1, ![1024]⟩
abbrev S1024x512 : Shape := ⟨2, ![1024, 512]⟩
abbrev S256x3x256 : Shape := ⟨3, ![256, 3, 256]⟩
abbrev S_ : Shape := ⟨0, ![]⟩
abbrev S256x256 : Shape := ⟨2, ![256, 256]⟩
abbrev S256x1x256 : Shape := ⟨3, ![256, 1, 256]⟩
abbrev S256 : Shape := ⟨1, ![256]⟩
abbrev S256x1 : Shape := ⟨2, ![256, 1]⟩
abbrev S1x1024 : Shape := ⟨2, ![1, 1024]⟩
abbrev S256x512 : Shape := ⟨2, ![256, 512]⟩

abbrev nBuf : Space → Nat
  | .hbm => 69
  | .vmem => 0
  | .smem => 0
  | _ => 0

abbrev bufTy : (tb : Table) → Fin (tcTables nBuf tb) → BufTy
  | .hbm, ⟨0, _⟩ => ⟨S32x8x768, .f32⟩
  | .hbm, ⟨1, _⟩ => ⟨S32x8x768, .f32⟩
  | .hbm, ⟨2, _⟩ => ⟨S32x8x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024x512, .f32⟩
  | .hbm, ⟨11, _⟩ => ⟨S256x3x256, .f32⟩
  | .hbm, ⟨12, _⟩ => ⟨S256x3x256, .f32⟩
  | .hbm, ⟨13, _⟩ => ⟨S_, .f32⟩
  | .hbm, ⟨14, _⟩ => ⟨S256x256, .f32⟩
  | .hbm, ⟨15, _⟩ => ⟨S256x1x256, .f32⟩
  | .hbm, ⟨16, _⟩ => ⟨S256x3x256, .f32⟩
  | .hbm, ⟨17, _⟩ => ⟨S256x3x256, .f32⟩
  | .hbm, ⟨18, _⟩ => ⟨S256x3x256, .f32⟩
  | .hbm, ⟨19, _⟩ => ⟨S_, .f32⟩
  | .hbm, ⟨20, _⟩ => ⟨S256x256, .f32⟩
  | .hbm, ⟨21, _⟩ => ⟨S256x1x256, .f32⟩
  | .hbm, ⟨22, _⟩ => ⟨S256x3x256, .f32⟩
  | .hbm, ⟨23, _⟩ => ⟨S256x3x256, .f32⟩
  | .hbm, ⟨24, _⟩ => ⟨S256x3x256, .f32⟩
  | .hbm, ⟨25, _⟩ => ⟨S_, .f32⟩
  | .hbm, ⟨26, _⟩ => ⟨S256x256, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S256x1024, .f32⟩
  | .hbm, ⟨39, _⟩ => ⟨S_, .f32⟩
  | .hbm, ⟨40, _⟩ => ⟨S256x1024, .f32⟩
  | .hbm, ⟨41, _⟩ => ⟨S256x1024, .f32⟩
  | .hbm, ⟨42, _⟩ => ⟨S_, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S256x1024, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S_, .f32⟩
  | .hbm, ⟨53, _⟩ => ⟨S256, .f32⟩
  | .hbm, ⟨54, _⟩ => ⟨S256x1, .f32⟩
  | .hbm, ⟨55, _⟩ => ⟨S_, .f32⟩
  | .hbm, ⟨56, _⟩ => ⟨S256x1, .f32⟩
  | .hbm, ⟨57, _⟩ => ⟨S256x1, .f32⟩
  | .hbm, ⟨58, _⟩ => ⟨S_, .f32⟩
  | .hbm, ⟨59, _⟩ => ⟨S256x1, .f32⟩
  | .hbm, ⟨60, _⟩ => ⟨S256x1, .f32⟩
  | .hbm, ⟨61, _⟩ => ⟨S256x1, .f32⟩
  | .hbm, ⟨62, _⟩ => ⟨S256x1024, .f32⟩
  | .hbm, ⟨63, _⟩ => ⟨S256x1024, .f32⟩
  | .hbm, ⟨64, _⟩ => ⟨S1x1024, .f32⟩
  | .hbm, ⟨65, _⟩ => ⟨S256x1024, .f32⟩
  | .hbm, ⟨66, _⟩ => ⟨S256x1024, .f32⟩
  | .hbm, ⟨67, _⟩ => ⟨S256x512, .f32⟩
  | .hbm, ⟨68, _⟩ => ⟨S256x512, .bf16⟩
  | _, _ => ⟨S32x8x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]
-- ==== Kernel7.lean ====
abbrev S256x512 : Shape := ⟨2, ![256, 512]⟩
abbrev S32x256x4x128 : Shape := ⟨4, ![32, 256, 4, 128]⟩
abbrev S32x8x512 : Shape := ⟨3, ![32, 8, 512]⟩
abbrev S32x1024x128 : Shape := ⟨3, ![32, 1024, 128]⟩
abbrev S8x8x512 : Shape := ⟨3, ![8, 8, 512]⟩
abbrev S8x1024x128 : Shape := ⟨3, ![8, 1024, 128]⟩
abbrev S1x8x512 : Shape := ⟨3, ![1, 8, 512]⟩
abbrev S8x512 : Shape := ⟨2, ![8, 512]⟩
abbrev S8x128 : Shape := ⟨2, ![8, 128]⟩
abbrev S1x1024x128 : Shape := ⟨3, ![1, 1024, 128]⟩
abbrev S1024x128 : Shape := ⟨2, ![1024, 128]⟩
abbrev S256x128 : Shape := ⟨2, ![256, 128]⟩
abbrev S8x256 : Shape := ⟨2, ![8, 256]⟩
abbrev S8 : Shape := ⟨1, ![8]⟩
abbrev S8x1 : Shape := ⟨2, ![8, 1]⟩

abbrev nBuf : Space → Nat
  | .hbm => 7
  | .vmem => 8
  | .smem => 0
  | _ => 0

abbrev bufTy : (tb : Table) → Fin (tcTables nBuf tb) → BufTy
  | .hbm, ⟨0, _⟩ => ⟨S256x512, .bf16⟩
  | .hbm, ⟨1, _⟩ => ⟨S32x256x4x128, .f32⟩
  | .hbm, ⟨2, _⟩ => ⟨S32x256x4x128, .f32⟩
  | .hbm, ⟨3, _⟩ => ⟨S32x8x512, .bf16⟩
  | .hbm, ⟨4, _⟩ => ⟨S32x1024x128, .f32⟩
  | .hbm, ⟨5, _⟩ => ⟨S32x1024x128, .f32⟩
  | .hbm, ⟨6, _⟩ => ⟨S32x8x512, .f32⟩
  | .local _ .vmem, ⟨0, _⟩ => ⟨S8x8x512, .bf16⟩
  | .local _ .vmem, ⟨1, _⟩ => ⟨S8x8x512, .bf16⟩
  | .local _ .vmem, ⟨2, _⟩ => ⟨S8x1024x128, .f32⟩
  | .local _ .vmem, ⟨3, _⟩ => ⟨S8x1024x128, .f32⟩
  | .local _ .vmem, ⟨4, _⟩ => ⟨S8x1024x128, .f32⟩
  | .local _ .vmem, ⟨5, _⟩ => ⟨S8x1024x128, .f32⟩
  | .local _ .vmem, ⟨6, _⟩ => ⟨S8x8x512, .f32⟩
  | .local _ .vmem, ⟨7, _⟩ => ⟨S8x8x512, .f32⟩
  | _, _ => ⟨S256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x8x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S256x512 : Shape := ⟨2, ![256, 512]⟩
abbrev S32x256x4x128 : Shape := ⟨4, ![32, 256, 4, 128]⟩
abbrev S32x8x4x128 : Shape := ⟨4, ![32, 8, 4, 128]⟩
abbrev S32x4x8x256 : Shape := ⟨4, ![32, 4, 8, 256]⟩
abbrev S_ : Shape := ⟨0, ![]⟩
abbrev S32x4x8 : Shape := ⟨3, ![32, 4, 8]⟩
abbrev S32x4x8x1 : Shape := ⟨4, ![32, 4, 8, 1]⟩
abbrev S32x4x128x8 : Shape := ⟨4, ![32, 4, 128, 8]⟩
abbrev S32x8x512 : Shape := ⟨3, ![32, 8, 512]⟩

abbrev nBuf : Space → Nat
  | .hbm => 23
  | .vmem => 0
  | .smem => 0
  | _ => 0

abbrev bufTy : (tb : Table) → Fin (tcTables nBuf tb) → BufTy
  | .hbm, ⟨0, _⟩ => ⟨S256x512, .bf16⟩
  | .hbm, ⟨1, _⟩ => ⟨S32x256x4x128, .f32⟩
  | .hbm, ⟨2, _⟩ => ⟨S32x256x4x128, .f32⟩
  | .hbm, ⟨3, _⟩ => ⟨S256x512, .f32⟩
  | .hbm, ⟨4, _⟩ => ⟨S32x8x4x128, .f32⟩
  | .hbm, ⟨5, _⟩ => ⟨S32x4x8x256, .f32⟩
  | .hbm, ⟨6, _⟩ => ⟨S_, .f32⟩
  | .hbm, ⟨7, _⟩ => ⟨S32x4x8x256, .f32⟩
  | .hbm, ⟨8, _⟩ => ⟨S32x4x8x256, .f32⟩
  | .hbm, ⟨9, _⟩ => ⟨S_, .f32⟩
  | .hbm, ⟨10, _⟩ => ⟨S32x4x8, .f32⟩
  | .hbm, ⟨11, _⟩ => ⟨S32x4x8x1, .f32⟩
  | .hbm, ⟨12, _⟩ => ⟨S32x4x8x256, .f32⟩
  | .hbm, ⟨13, _⟩ => ⟨S32x4x8x256, .f32⟩
  | .hbm, ⟨14, _⟩ => ⟨S32x4x8x256, .f32⟩
  | .hbm, ⟨15, _⟩ => ⟨S_, .f32⟩
  | .hbm, ⟨16, _⟩ => ⟨S32x4x8, .f32⟩
  | .hbm, ⟨17, _⟩ => ⟨S32x4x8x1, .f32⟩
  | .hbm, ⟨18, _⟩ => ⟨S32x4x8x256, .f32⟩
  | .hbm, ⟨19, _⟩ => ⟨S32x4x8x256, .f32⟩
  | .hbm, ⟨20, _⟩ => ⟨S32x4x128x8, .f32⟩
  | .hbm, ⟨21, _⟩ => ⟨S32x8x4x128, .f32⟩
  | .hbm, ⟨22, _⟩ => ⟨S32x8x512, .f32⟩
  | _, _ => ⟨S256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Softmax.lean ====
/- Softmax-weighted averages over extended reals.

   The kernel takes its softmax over every cached key and every new row, with a score of `-∞` off the keys that
   the dilation reaches; the reference takes it over the reached keys alone.  Both are the same real numbers:
   the log-sum-exp `lse x` of the reached scores `x`, and the average `wavg x y` of their values `y` with the
   weights `exp (x j) / ∑ exp`. -/
module

public import Idealize.ShloMosaic.PureOps.Ideal.Laws

@[expose] public section

noncomputable section

namespace Cert.Proof.Softmax

open Idealize.ShloMosaic

variable {ι κ J : Type} [Fintype ι] [Fintype κ] [Fintype J]

/-- The logarithm of the sum of the exponentials of the scores. -/
def lse (x : J → ℝ) : ℝ := Real.log (∑ j, Real.exp (x j))

/-- The average of `y` with weights proportional to the exponentials of the scores `x`. -/
def wavg (x y : J → ℝ) : ℝ := ∑ j, Real.exp (x j - lse x) * y j

theorem coe_sum {α : Type} (s : Finset α) (g : α → ℝ) : ((∑ j ∈ s, g j : ℝ) : EReal) = ∑ j ∈ s, (g j : EReal) := by
  classical
  induction s using Finset.induction_on with
  | empty => simp
  | insert a s ha ih => rw [Finset.sum_insert ha, Finset.sum_insert ha, EReal.coe_add, ih]

theorem sum_exp_pos [Nonempty J] (x : J → ℝ) : 0 < ∑ j, Real.exp (x j) :=
  Finset.sum_pos (fun _ _ => Real.exp_pos _) Finset.univ_nonempty

/-- The sum of the shifted exponentials, times the exponential of the shift. -/
theorem sum_exp_shift (x : J → ℝ) (M : ℝ) : ∑ j, Real.exp (x j - M) = Real.exp (-M) * ∑ j, Real.exp (x j) := by
  rw [Finset.mul_sum]
  exact Finset.sum_congr rfl fun j _ => by rw [← Real.exp_add]; congr 1; ring

theorem lse_shift [Nonempty J] (x : J → ℝ) (M : ℝ) : Real.log (∑ j, Real.exp (x j - M)) = lse x - M := by
  rw [sum_exp_shift, Real.log_mul (Real.exp_pos _).ne' (sum_exp_pos x).ne', Real.log_exp, lse]; ring

theorem wavg_shift [Nonempty J] (x y : J → ℝ) (M : ℝ) :
    (∑ j, Real.exp (x j - M) * y j) * (1 / ∑ j, Real.exp (x j - M)) = wavg x y := by
  have hS := sum_exp_pos x
  have h1 : ∀ j, Real.exp (x j - lse x) = Real.exp (x j) / ∑ j, Real.exp (x j) := fun j => by
    rw [Real.exp_sub, lse, Real.exp_log hS]
  have h2 : ∀ j, Real.exp (x j - M) = Real.exp (-M) * Real.exp (x j) := fun j => by
    rw [← Real.exp_add]; congr 1; ring
  simp only [wavg, h1, sum_exp_shift, Finset.sum_mul]
  refine Finset.sum_congr rfl fun j _ => ?_
  rw [h2]
  have hM := (Real.exp_pos (-M)).ne'
  field_simp

/-! ## The reference's form: over the reached keys alone -/

/-- The largest of finitely many reals is a real. -/
theorem fold_max_real [Nonempty J] (x : J → ℝ) :
    ∃ M : ℝ, (Finset.univ : Finset J).fold max (⊥ : EReal) (fun j => (x j : EReal)) = M := by
  obtain ⟨j, -, hj⟩ := Finset.exists_mem_eq_sup (Finset.univ : Finset J) Finset.univ_nonempty (fun j => (x j : EReal))
  exact ⟨x j, hj⟩

theorem ref_sum (x : J → ℝ) (M : ℝ) :
    ∑ j, Ideal.exp ((x j : EReal) - (M : EReal)) = ((∑ j, Real.exp (x j - M) : ℝ) : EReal) := by
  rw [coe_sum]
  exact Finset.sum_congr rfl fun j _ => by rw [← EReal.coe_sub, Ideal.exp_coe]

theorem log_real [Nonempty J] (x : J → ℝ) (M : ℝ) :
    Ideal.log ((∑ j, Real.exp (x j - M) : ℝ) : EReal) = ((lse x - M : ℝ) : EReal) := by
  rw [Ideal.log_coe, if_neg (not_le.mpr (sum_exp_pos _)), lse_shift]

/-- The reference's log-sum-exp, from the maximum that it subtracts. -/
theorem ref_lse [Nonempty J] (s : J → EReal) (x : J → ℝ) (hs : ∀ j, s j = x j) :
    Ideal.log (∑ j, Ideal.exp (s j - (Finset.univ : Finset J).fold max (⊥ : EReal) s))
      + (Finset.univ : Finset J).fold max (⊥ : EReal) s = (lse x : EReal) := by
  obtain rfl : s = fun j => (x j : EReal) := funext hs
  obtain ⟨M, hM⟩ := fold_max_real x
  rw [hM, ref_sum, log_real, ← EReal.coe_add]
  congr 1; ring

/-- The reference's weighted sum. -/
theorem ref_wavg (s v : J → EReal) (x y : J → ℝ) (hs : ∀ j, s j = x j) (hv : ∀ j, v j = y j) :
    ∑ j, Ideal.exp (s j - (lse x : EReal)) * v j = (wavg x y : EReal) := by
  rw [wavg, coe_sum]
  exact Finset.sum_congr rfl fun j _ => by rw [hs, hv, ← EReal.coe_sub, Ideal.exp_coe, ← EReal.coe_mul]

/-! ## The kernel's form: over all keys, in two parts, `-∞` off the reached ones -/

/-- A sum over all keys, in two parts, of terms that vanish off the reached keys is the sum over the reached ones. -/
theorem sum_reached (f : J → ι ⊕ κ) (hf : Function.Injective f) (a : ι → EReal) (b : κ → EReal) (z : J → ℝ)
    (hon : ∀ j, Sum.elim a b (f j) = z j) (hoff : ∀ i, (∀ j, f j ≠ i) → Sum.elim a b i = 0) :
    (∑ i, a i) + ∑ k, b k = ((∑ j, z j : ℝ) : EReal) := by
  classical
  have h : (∑ i, a i) + ∑ k, b k = ∑ i : ι ⊕ κ, Sum.elim a b i := by rw [Fintype.sum_sum_type]; rfl
  rw [h, coe_sum]
  have h2 : ∑ i ∈ Finset.univ.image f, Sum.elim a b i = ∑ i : ι ⊕ κ, Sum.elim a b i :=
    Finset.sum_subset (Finset.subset_univ _) fun i _ hi => hoff i fun j hj =>
      hi (Finset.mem_image.mpr ⟨j, Finset.mem_univ _, hj⟩)
  rw [← h2, Finset.sum_image fun _ _ _ _ h => hf h]
  exact Finset.sum_congr rfl fun j _ => hon j

/-- The larger of the two parts' maxima is a real. -/
theorem max_reached [Nonempty J] (f : J → ι ⊕ κ) (a : ι → EReal) (b : κ → EReal) (x : J → ℝ)
    (hon : ∀ j, Sum.elim a b (f j) = x j) (hoff : ∀ i, (∀ j, f j ≠ i) → Sum.elim a b i = ⊥) :
    ∃ M : ℝ, max ((Finset.univ : Finset ι).fold max (⊥ : EReal) a) ((Finset.univ : Finset κ).fold max (⊥ : EReal) b) = M := by
  have hreal : ∀ i, Sum.elim a b i = ⊥ ∨ ∃ r : ℝ, Sum.elim a b i = r := fun i => by
    by_cases h : ∃ j, f j = i
    · obtain ⟨j, rfl⟩ := h; exact .inr ⟨x j, hon j⟩
    · exact .inl (hoff i (by simpa using h))
  have hlt : ∀ i, Sum.elim a b i < ⊤ := fun i => by
    rcases hreal i with h | ⟨r, h⟩ <;> rw [h]
    · exact bot_lt_top
    · exact EReal.coe_lt_top r
  have ha : (Finset.univ : Finset ι).sup a < ⊤ := (Finset.sup_lt_iff bot_lt_top).mpr fun i _ => hlt (.inl i)
  have hb : (Finset.univ : Finset κ).sup b < ⊤ := (Finset.sup_lt_iff bot_lt_top).mpr fun i _ => hlt (.inr i)
  have hbot : (⊥ : EReal) < max ((Finset.univ : Finset ι).sup a) ((Finset.univ : Finset κ).sup b) := by
    obtain ⟨j⟩ := ‹Nonempty J›
    refine lt_of_lt_of_le (EReal.bot_lt_coe (x j)) ?_
    rw [← hon j]
    cases f j with
    | inl i => exact le_max_of_le_left (Finset.le_sup (f := a) (Finset.mem_univ i))
    | inr k => exact le_max_of_le_right (Finset.le_sup (f := b) (Finset.mem_univ k))
  exact ⟨_, (EReal.coe_toReal (max_lt ha hb).ne hbot.ne').symm⟩

theorem exp_bot_sub (M : ℝ) : Ideal.exp ((⊥ : EReal) - (M : EReal)) = 0 := by
  rw [EReal.bot_sub, Ideal.exp_bot]

/-- The kernel's sum of weights. -/
theorem ker_sum (f : J → ι ⊕ κ) (hf : Function.Injective f) (a : ι → EReal) (b : κ → EReal) (x : J → ℝ)
    (hon : ∀ j, Sum.elim a b (f j) = x j) (hoff : ∀ i, (∀ j, f j ≠ i) → Sum.elim a b i = ⊥) (M : ℝ) :
    (∑ i, Ideal.exp (a i - M)) + ∑ k, Ideal.exp (b k - M) = ((∑ j, Real.exp (x j - M) : ℝ) : EReal) := by
  have he : ∀ i, Sum.elim (fun i => Ideal.exp (a i - M)) (fun k => Ideal.exp (b k - M)) i
      = Ideal.exp (Sum.elim a b i - M) := fun i => by cases i <;> rfl
  refine sum_reached f hf _ _ _ (fun j => ?_) (fun i hi => ?_)
  · rw [he, hon, ← EReal.coe_sub, Ideal.exp_coe]
  · rw [he, hoff i hi, exp_bot_sub]

/-- The kernel's sum of weighted values. -/
theorem ker_sum_mul (f : J → ι ⊕ κ) (hf : Function.Injective f) (a va : ι → EReal) (b vb : κ → EReal) (x y : J → ℝ)
    (hon : ∀ j, Sum.elim a b (f j) = x j) (hoff : ∀ i, (∀ j, f j ≠ i) → Sum.elim a b i = ⊥)
    (hv : ∀ j, Sum.elim va vb (f j) = y j) (M : ℝ) :
    (∑ i, Ideal.exp (a i - M) * va i) + ∑ k, Ideal.exp (b k - M) * vb k
      = ((∑ j, Real.exp (x j - M) * y j : ℝ) : EReal) := by
  have he : ∀ i, Sum.elim (fun i => Ideal.exp (a i - M) * va i) (fun k => Ideal.exp (b k - M) * vb k) i
      = Ideal.exp (Sum.elim a b i - M) * Sum.elim va vb i := fun i => by cases i <;> rfl
  refine sum_reached f hf _ _ _ (fun j => ?_) (fun i hi => ?_)
  · rw [he, hon, hv, ← EReal.coe_sub, Ideal.exp_coe, ← EReal.coe_mul]
  · rw [he, hoff i hi, exp_bot_sub, zero_mul]

/-- The maximum that the kernel subtracts: over the cached keys and over the new rows. -/
def kmax (a : ι → EReal) (b : κ → EReal) : EReal :=
  max ((Finset.univ : Finset ι).fold max (⊥ : EReal) a) ((Finset.univ : Finset κ).fold max (⊥ : EReal) b)

/-- The kernel's sum of weights, the maximum subtracted. -/
def ksum (a : ι → EReal) (b : κ → EReal) : EReal :=
  (∑ i, Ideal.exp (a i - kmax a b)) + ∑ k, Ideal.exp (b k - kmax a b)

/-- The kernel's weighted sum of values, the maximum subtracted. -/
def kacc (a va : ι → EReal) (b vb : κ → EReal) : EReal :=
  (∑ i, Ideal.exp (a i - kmax a b) * va i) + ∑ k, Ideal.exp (b k - kmax a b) * vb k

/-- The kernel's log-sum-exp is that of the reached scores. -/
theorem ker_lse [Nonempty J] (f : J → ι ⊕ κ) (hf : Function.Injective f) (a : ι → EReal) (b : κ → EReal) (x : J → ℝ)
    (hon : ∀ j, Sum.elim a b (f j) = x j) (hoff : ∀ i, (∀ j, f j ≠ i) → Sum.elim a b i = ⊥) :
    kmax a b + Ideal.log (ksum a b) = (lse x : EReal) := by
  obtain ⟨M, hM⟩ := max_reached f a b x hon hoff
  have hM' : kmax a b = M := hM
  rw [ksum, hM', ker_sum f hf a b x hon hoff, log_real, ← EReal.coe_add]
  congr 1; ring

/-- The kernel's quotient is the average of the reached values. -/
theorem ker_wavg [Nonempty J] (f : J → ι ⊕ κ) (hf : Function.Injective f) (a va : ι → EReal) (b vb : κ → EReal)
    (x y : J → ℝ) (hon : ∀ j, Sum.elim a b (f j) = x j) (hoff : ∀ i, (∀ j, f j ≠ i) → Sum.elim a b i = ⊥)
    (hv : ∀ j, Sum.elim va vb (f j) = y j) :
    Ideal.div (kacc a va b vb) (ksum a b) = (wavg x y : EReal) := by
  obtain ⟨M, hM⟩ := max_reached f a b x hon hoff
  have hM' : kmax a b = M := hM
  rw [kacc, ksum, hM', ker_sum f hf a b x hon hoff, ker_sum_mul f hf a va b vb x y hon hoff hv,
    Ideal.div_coe (sum_exp_pos _).ne', ← EReal.coe_mul, wavg_shift]

end Cert.Proof.Softmax

end
-- ==== Proof.Pays.lean ====
module
public import proofs.«01_k».proof.Proof.Gen.KernelIdeal.Skeleton
public import proofs.«01_k».proof.Proof.Softmax
public import Idealize.ShloMosaic.Lib.Pointwise
@[expose] public section
noncomputable section
namespace Cert.Proof.Pays
open Cert.KernelIdeal Cert.KernelIdeal.Gen Idealize.ShloMosaic Idealize.ShloMosaic.TcCoe
set_option maxHeartbeats 2000000
/-- Row `8 h + t` of the 32 rows: head `h`, step row `t`. -/
abbrev row (h : Fin 4) (t : Fin 8) : Fin 32 := ⟨8 * h + t, by omega⟩
/-- Lane `64 h + d` of the 256 lanes of a group: head `h`, coordinate `d`. -/
abbrev lane (h : Fin 4) (d : Fin 64) : Fin 256 := ⟨64 * h + d, by omega⟩

theorem colWord (r : Fin 32) (w : Fin 256) : k0_pay3 (ix2 r w) = BitVec.ofNat 32 (w.val / 64) := by
  unfold k0_pay3
  pointwise
  revert w
  decide

theorem rowWord (r : Fin 32) (w : Fin 256) :
    Scalar.select (IntOp.andi (k0_pay5 (ix2 r w)) (k0_pay6 (ix2 r w))) (IntOp.subi (k0_pay4 (ix2 r w)) 1#32) (k0_pay4 (ix2 r w))
      = BitVec.ofNat 32 (r.val / 8) := by
  unfold k0_pay4 k0_pay5 k0_pay6
  pointwise
  revert r
  decide

theorem headMask (r : Fin 32) (w : Fin 256) :
    k0_pay7 k0_pay3 k0_pay4 k0_pay5 k0_pay6 (ix2 r w) = if w.val / 64 = r.val / 8 then 1#1 else 0#1 := by
  unfold k0_pay7
  pointwise
  rw [rowWord, colWord]
  have : ∀ (a : Fin 4) (b : Fin 4), IntOp.cmpi CmpIPredicate.eq (BitVec.ofNat 32 a.val) (BitVec.ofNat 32 b.val) = if a.val = b.val then 1#1 else 0#1 := by decide
  exact this ⟨w.val / 64, by omega⟩ ⟨r.val / 8, by omega⟩

/-- A mask's choice. -/
theorem select_ite {α : Type} (p : Prop) [Decidable p] (a b : α) :
    Scalar.select (if p then 1#1 else 0#1) a b = if p then a else b := by
  by_cases h : p <;> simp [h, Scalar.select]

theorem fold_rows (v : Fin 32 → Fin 256 → EReal) (t : Fin 8) (h : Fin 4) (d : Fin 64) :
    (if (lane h d).val / 64 = (⟨t, by omega⟩ : Fin 32).val / 8 then v ⟨t, by omega⟩ (lane h d) else 0)
      + (if (lane h d).val / 64 = (⟨8 + t, by omega⟩ : Fin 32).val / 8 then v ⟨8 + t, by omega⟩ (lane h d) else 0)
      + (if (lane h d).val / 64 = (⟨16 + t, by omega⟩ : Fin 32).val / 8 then v ⟨16 + t, by omega⟩ (lane h d) else 0)
      + (if (lane h d).val / 64 = (⟨24 + t, by omega⟩ : Fin 32).val / 8 then v ⟨24 + t, by omega⟩ (lane h d) else 0)
      = v (row h t) (lane h d) := by
  have e : (lane h d).val / 64 = h.val := by simp only [lane]; omega
  have e0 : t.val / 8 = 0 := by omega
  have e1 : (8 + t.val) / 8 = 1 := by omega
  have e2 : (16 + t.val) / 8 = 2 := by omega
  have e3 : (24 + t.val) / 8 = 3 := by omega
  rw [e]
  simp only [e0, e1, e2, e3]
  obtain ⟨h, hh⟩ := h
  interval_cases h <;> simp [row]

theorem fold0 (v50 : IVec S32x256 1) (v : FVec Ideal S32x256 .f32) (t : Fin 8) (h : Fin 4) (d : Fin 64)
   (hm : ∀ r w, v50 (ix2 r w) = if w.val / 64 = r.val / 8 then 1#1 else 0#1) :
  k0_pay40 v50 v (ix3 0 t (lane h d)) = v (ix2 (row h t) (lane h d)) := by
  unfold k0_pay40
  pointwise
  simp only [hm, select_ite]
  exact fold_rows (fun r w => v (ix2 r w)) t h d
theorem fold1 (v50 : IVec S32x256 1) (v : FVec Ideal S32x256 .f32) (t : Fin 8) (h : Fin 4) (d : Fin 64)
   (hm : ∀ r w, v50 (ix2 r w) = if w.val / 64 = r.val / 8 then 1#1 else 0#1) :
  k0_pay44 (k0_pay42 v50 v) (k0_pay43 v50 v) (ix3 0 t (lane h d)) = v (ix2 (row h t) (lane h d)) := by
  unfold k0_pay44 k0_pay43 k0_pay42
  pointwise
  simp only [hm, select_ite]
  exact fold_rows (fun r w => v (ix2 r w)) t h d
theorem fold2 (v50 : IVec S32x256 1) (v : FVec Ideal S32x256 .f32) (t : Fin 8) (h : Fin 4) (d : Fin 64)
   (hm : ∀ r w, v50 (ix2 r w) = if w.val / 64 = r.val / 8 then 1#1 else 0#1) :
  k0_pay46 v50 v (ix3 0 t (lane h d)) = v (ix2 (row h t) (lane h d)) := by
  unfold k0_pay46
  pointwise
  simp only [hm, select_ite]
  exact fold_rows (fun r w => v (ix2 r w)) t h d
theorem lfold0 (v50 : IVec S32x256 1) (v137 v170 : FVec Ideal S32x1 .f32) (t : Fin 8) (h : Fin 4) (d : Fin 64)
   (hm : ∀ r w, v50 (ix2 r w) = if w.val / 64 = r.val / 8 then 1#1 else 0#1) :
  k0_pay41 v50 v137 v170 (ix3 0 t (lane h d)) = v137 (ix2 (row h t) 0) + Ideal.log (v170 (ix2 (row h t) 0)) := by
  unfold k0_pay41
  pointwise
  simp only [hm, select_ite]
  exact fold_rows (fun r _ => v137 (ix2 r 0) + Ideal.log (v170 (ix2 r 0))) t h d
theorem lfold1 (v50 : IVec S32x256 1) (v137 v170 : FVec Ideal S32x1 .f32) (t : Fin 8) (h : Fin 4) (d : Fin 64)
   (hm : ∀ r w, v50 (ix2 r w) = if w.val / 64 = r.val / 8 then 1#1 else 0#1) :
  k0_pay45 v50 v137 v170 (ix3 0 t (lane h d)) = v137 (ix2 (row h t) 0) + Ideal.log (v170 (ix2 (row h t) 0)) := by
  unfold k0_pay45
  pointwise
  simp only [hm, select_ite]
  exact fold_rows (fun r _ => v137 (ix2 r 0) + Ideal.log (v170 (ix2 r 0))) t h d
theorem lfold2 (v50 : IVec S32x256 1) (v137 v170 : FVec Ideal S32x1 .f32) (t : Fin 8) (h : Fin 4) (d : Fin 64)
   (hm : ∀ r w, v50 (ix2 r w) = if w.val / 64 = r.val / 8 then 1#1 else 0#1) :
  k0_pay50 (k0_pay48 v50 v137 v170) (k0_pay49 v50 v137 v170) (ix3 0 t (lane h d)) = v137 (ix2 (row h t) 0) + Ideal.log (v170 (ix2 (row h t) 0)) := by
  unfold k0_pay50 k0_pay48 k0_pay49 k0_pay47
  pointwise
  simp only [hm, select_ite]
  exact fold_rows (fun r _ => v137 (ix2 r 0) + Ideal.log (v170 (ix2 r 0))) t h d

theorem cat_rows (y : Fin 8 → EReal) (t : Fin 8) (h : Fin 4) (k : Fin 256) :
 (if k.val / 64 = (row h t).val / 8 then
      (if h_1 : 8 * h.val + t.val < 8 then y ⟨8 * h.val + t.val, h_1⟩
      else
        if h_2 : 8 * h.val + t.val - 8 < 8 then y ⟨8 * h.val + t.val - 8, h_2⟩
        else
          if h_3 : 8 * h.val + t.val - 8 - 8 < 8 then y ⟨8 * h.val + t.val - 8 - 8, h_3⟩
          else y ⟨8 * h.val + t.val - 8 - 8 - 8, by omega⟩) else 0) =
    if k.val / 64 = h.val then y t else 0 := by
  have e1 : (row h t).val / 8 = h.val := by simp only [row]; omega
  rw [e1]
  congr 1
  split_ifs <;> congr 1 <;> ext <;> simp only <;> omega

theorem qbd0 (x : Vec Ideal S1x8x256 .f32) (v25 v27 v41 v45) (t : Fin 8) (h : Fin 4) (k : Fin 256)
   (hm : ∀ r w, k0_pay7 v25 v27 v41 v45 (ix2 r w) = if w.val / 64 = r.val / 8 then 1#1 else 0#1) :
  k0_pay13 v25 v27 v41 v45 x (ix2 (row h t) k) = if k.val / 64 = h.val then x (ix3 0 t k) else 0 := by
  unfold k0_pay13
  pointwise
  simp only [hm, select_ite]
  exact cat_rows (fun t => x (ix3 0 t k)) t h k
theorem qbd1 (x : Vec Ideal S1x8x256 .f32) (v25 v27 v41 v45) (t : Fin 8) (h : Fin 4) (k : Fin 256)
   (hm : ∀ r w, k0_pay7 v25 v27 v41 v45 (ix2 r w) = if w.val / 64 = r.val / 8 then 1#1 else 0#1) :
  k0_pay14 v25 v27 v41 v45 x (ix2 (row h t) k) = if k.val / 64 = h.val then x (ix3 0 t k) else 0 := by
  unfold k0_pay14
  pointwise
  simp only [hm, select_ite]
  exact cat_rows (fun t => x (ix3 0 t k)) t h k
theorem qbd2 (x : Vec Ideal S1x8x256 .f32) (v50) (t : Fin 8) (h : Fin 4) (k : Fin 256)
   (hm : ∀ r w, v50 (ix2 r w) = if w.val / 64 = r.val / 8 then 1#1 else 0#1) :
  k0_pay15 v50 x (ix2 (row h t) k) = if k.val / 64 = h.val then x (ix3 0 t k) else 0 := by
  unfold k0_pay15
  pointwise
  simp only [hm, select_ite]
  exact cat_rows (fun t => x (ix3 0 t k)) t h k

/-- A product with a row that vanishes off one head's lanes. -/
theorem head_sum (q K : Fin 256 → EReal) (h : Fin 4) :
    ∑ k : Fin 256, (if k.val / 64 = h.val then q k else 0) * K k = ∑ d : Fin 64, q (lane h d) * K (lane h d) := by
  have e : ∀ f : Fin 256 → EReal, ∑ k : Fin 256, f k = ∑ p : Fin 4 × Fin 64, f (lane p.1 p.2) := fun f => by
    rw [← (finProdFinEquiv : Fin 4 × Fin 64 ≃ Fin 256).sum_comp]
    refine Finset.sum_congr rfl fun p _ => congrArg f (Fin.ext ?_)
    show p.2.val + 64 * p.1.val = 64 * p.1.val + p.2.val
    omega
  rw [e, Fintype.sum_prod_type, Finset.sum_eq_single h]
  · refine Finset.sum_congr rfl fun d _ => ?_
    rw [if_pos (by simp only [lane]; omega)]
  · intro b _ hb
    refine Finset.sum_eq_zero fun d _ => ?_
    rw [if_neg (fun hc => hb (Fin.ext (by simp only [lane] at hc; omega))), zero_mul]
  · intro hc; exact absurd (Finset.mem_univ _) hc

theorem sc0 (q : FVec Ideal S32x256 .f32) (K : Vec Ideal S1x256x128 .f32) (T : Vec Ideal S32x128 .f32) (r : Fin 32) (w : Fin 128) :
    k0_pay16 q K T (ix2 r w) = (∑ k : Fin 256, q (ix2 r k) * K (ix3 0 k w)) + T (ix2 r w) := by
  unfold k0_pay16; pointwise
theorem sc1 (q : FVec Ideal S32x256 .f32) (K : Vec Ideal S1x256x512 .f32) (T : Vec Ideal S32x512 .f32) (r : Fin 32) (w : Fin 512) :
    k0_pay17 q K T (ix2 r w) = (∑ k : Fin 256, q (ix2 r k) * K (ix3 0 k w)) + T (ix2 r w) := by
  unfold k0_pay17; pointwise
theorem sc2 (v50) (x : Vec Ideal S1x8x256 .f32) (K : Vec Ideal S1x256x2048 .f32) (T : Vec Ideal S32x2048 .f32) (r : Fin 32) (w : Fin 2048) :
    k0_pay18 v50 x K T (ix2 r w) = (∑ k : Fin 256, k0_pay15 v50 x (ix2 r k) * K (ix3 0 k w)) + T (ix2 r w) := by
  unfold k0_pay18; pointwise
theorem sn0 (N : FVec Ideal S8x512 .f32) (q : FVec Ideal S32x256 .f32) (T : Vec Ideal S1x32x8 .f32) (r : Fin 32) (u : Fin 8) :
    k0_pay21 (k0_pay19 N q) (k0_pay20 T) (ix2 r u) = (∑ k : Fin 256, q (ix2 r k) * N (ix2 u ⟨k, by omega⟩)) + T (ix3 0 r u) := by
  unfold k0_pay21 k0_pay19 k0_pay20; pointwise
theorem sn1 (N : FVec Ideal S8x512 .f32) (q : FVec Ideal S32x256 .f32) (T : Vec Ideal S1x32x8 .f32) (r : Fin 32) (u : Fin 8) :
    k0_pay22 N q T (ix2 r u) = (∑ k : Fin 256, q (ix2 r k) * N (ix2 u ⟨k, by omega⟩)) + T (ix3 0 r u) := by
  unfold k0_pay22; pointwise
theorem sn2 (N : FVec Ideal S8x512 .f32) (q : FVec Ideal S32x256 .f32) (T : Vec Ideal S1x32x8 .f32) (r : Fin 32) (u : Fin 8) :
    k0_pay23 N q T (ix2 r u) = (∑ k : Fin 256, q (ix2 r k) * N (ix2 u ⟨k, by omega⟩)) + T (ix3 0 r u) := by
  unfold k0_pay23; pointwise

open Softmax
theorem ninf : Ideal.ofBits .f32 0xFF800000#32 = ⊥ := by
  simp [Ideal.ofBits, Ideal.ieee]
theorem mx0 (a : FVec Ideal S32x128 .f32) (b c : FVec Ideal S32x8 .f32) (r : Fin 32) :
    k0_pay24 a b c (ix2 r 0) = kmax (fun w => a (ix2 r w)) (fun u => k0_pay21 b c (ix2 r u)) := by
  unfold k0_pay24; pointwise; simp only [kmax, ninf]
theorem mx1 (N q) (a : FVec Ideal S32x512 .f32) (T) (r : Fin 32) :
    k0_pay25 N q a T (ix2 r 0) = kmax (fun w => a (ix2 r w)) (fun u => k0_pay22 N q T (ix2 r u)) := by
  unfold k0_pay25; pointwise; simp only [kmax, ninf]
theorem mx2 (N q) (a : FVec Ideal S32x2048 .f32) (T) (r : Fin 32) :
    k0_pay26 N q a T (ix2 r 0) = kmax (fun w => a (ix2 r w)) (fun u => k0_pay23 N q T (ix2 r u)) := by
  unfold k0_pay26; pointwise; simp only [kmax, ninf]

theorem pc0 (a : FVec Ideal S32x128 .f32) (b c : FVec Ideal S32x8 .f32) (r : Fin 32) (w : Fin 128) :
    k0_pay27 a b c (ix2 r w) = Ideal.exp (a (ix2 r w) - k0_pay24 a b c (ix2 r 0)) := by
  unfold k0_pay27; pointwise
theorem pn0 (a : FVec Ideal S32x128 .f32) (b c : FVec Ideal S32x8 .f32) (r : Fin 32) (u : Fin 8) :
    k0_pay30 a b c (ix2 r u) = Ideal.exp (k0_pay21 b c (ix2 r u) - k0_pay24 a b c (ix2 r 0)) := by
  unfold k0_pay30; pointwise
theorem den0 (a : FVec Ideal S32x128 .f32) (b c : FVec Ideal S32x8 .f32) (r : Fin 32) :
    k0_pay34 (k0_pay27 a b c) (k0_pay30 a b c) (ix2 r 0) = ksum (fun w => a (ix2 r w)) (fun u => k0_pay21 b c (ix2 r u)) := by
  have h : k0_pay34 (k0_pay27 a b c) (k0_pay30 a b c) (ix2 r 0) = (∑ w, k0_pay27 a b c (ix2 r w)) + ∑ u, k0_pay30 a b c (ix2 r u) := by
    unfold k0_pay34; pointwise
  rw [h]; simp only [pc0, pn0, mx0]; rfl
theorem att0 (a : FVec Ideal S32x128 .f32) (b c : FVec Ideal S32x8 .f32) (N2 : FVec Ideal S8x512 .f32) (X : Vec Ideal S1x256x128 .f32) (r : Fin 32) (k : Fin 256) :
    k0_pay37 N2 (k0_pay27 a b c) (k0_pay30 a b c) X (ix2 r k)
      = Ideal.div (kacc (fun w => a (ix2 r w)) (fun w => X (ix3 0 k w)) (fun u => k0_pay21 b c (ix2 r u)) (fun u => N2 (ix2 u ⟨256 + k, by omega⟩)))
          (ksum (fun w => a (ix2 r w)) (fun u => k0_pay21 b c (ix2 r u))) := by
  have h : k0_pay37 N2 (k0_pay27 a b c) (k0_pay30 a b c) X (ix2 r k) = Ideal.div ((∑ w, k0_pay27 a b c (ix2 r w) * X (ix3 0 k w))
      + ∑ u, k0_pay30 a b c (ix2 r u) * N2 (ix2 u ⟨256 + k, by omega⟩)) (k0_pay34 (k0_pay27 a b c) (k0_pay30 a b c) (ix2 r 0)) := by
    unfold k0_pay37; pointwise
  rw [h, den0]; simp only [pc0, pn0, mx0]; rfl

theorem pc1 (a : FVec Ideal S32x512 .f32) (N : FVec Ideal S8x512 .f32) (q : FVec Ideal S32x256 .f32) (T : Vec Ideal S1x32x8 .f32) (r : Fin 32) (w : Fin 512) :
    k0_pay28 N q a T (ix2 r w) = Ideal.exp (a (ix2 r w) - k0_pay25 N q a T (ix2 r 0)) := by
  unfold k0_pay28; pointwise
theorem pn1 (a : FVec Ideal S32x512 .f32) (N : FVec Ideal S8x512 .f32) (q : FVec Ideal S32x256 .f32) (T : Vec Ideal S1x32x8 .f32) (r : Fin 32) (u : Fin 8) :
    k0_pay31 N q a T (ix2 r u) = Ideal.exp (k0_pay22 N q T (ix2 r u) - k0_pay25 N q a T (ix2 r 0)) := by
  unfold k0_pay31; pointwise
theorem den1 (a : FVec Ideal S32x512 .f32) (N : FVec Ideal S8x512 .f32) (q : FVec Ideal S32x256 .f32) (T : Vec Ideal S1x32x8 .f32) (r : Fin 32) :
    k0_pay35 (k0_pay28 N q a T) (k0_pay31 N q a T) (ix2 r 0) = ksum (fun w => a (ix2 r w)) (fun u => k0_pay22 N q T (ix2 r u)) := by
  have h : k0_pay35 (k0_pay28 N q a T) (k0_pay31 N q a T) (ix2 r 0) = (∑ w, k0_pay28 N q a T (ix2 r w)) + ∑ u, k0_pay31 N q a T (ix2 r u) := by
    unfold k0_pay35; pointwise
  rw [h]; simp only [pc1, pn1, mx1]; rfl
theorem att1 (a : FVec Ideal S32x512 .f32) (N : FVec Ideal S8x512 .f32) (q : FVec Ideal S32x256 .f32) (T : Vec Ideal S1x32x8 .f32) (N2 : FVec Ideal S8x512 .f32) (X : Vec Ideal S1x256x512 .f32) (r : Fin 32) (k : Fin 256) :
    k0_pay38 N2 (k0_pay28 N q a T) (k0_pay31 N q a T) X (ix2 r k)
      = Ideal.div (kacc (fun w => a (ix2 r w)) (fun w => X (ix3 0 k w)) (fun u => k0_pay22 N q T (ix2 r u)) (fun u => N2 (ix2 u ⟨256 + k, by omega⟩)))
          (ksum (fun w => a (ix2 r w)) (fun u => k0_pay22 N q T (ix2 r u))) := by
  have h : k0_pay38 N2 (k0_pay28 N q a T) (k0_pay31 N q a T) X (ix2 r k) = Ideal.div ((∑ w, k0_pay28 N q a T (ix2 r w) * X (ix3 0 k w))
      + ∑ u, k0_pay31 N q a T (ix2 r u) * N2 (ix2 u ⟨256 + k, by omega⟩)) (k0_pay35 (k0_pay28 N q a T) (k0_pay31 N q a T) (ix2 r 0)) := by
    unfold k0_pay38; pointwise
  rw [h, den1]; simp only [pc1, pn1, mx1]; rfl

theorem pc2 (a : FVec Ideal S32x2048 .f32) (N : FVec Ideal S8x512 .f32) (q : FVec Ideal S32x256 .f32) (T : Vec Ideal S1x32x8 .f32) (r : Fin 32) (w : Fin 2048) :
    k0_pay29 N q a T (ix2 r w) = Ideal.exp (a (ix2 r w) - k0_pay26 N q a T (ix2 r 0)) := by
  unfold k0_pay29; pointwise
theorem pn2 (a : FVec Ideal S32x2048 .f32) (N : FVec Ideal S8x512 .f32) (q : FVec Ideal S32x256 .f32) (T : Vec Ideal S1x32x8 .f32) (r : Fin 32) (u : Fin 8) :
    k0_pay33 (k0_pay23 N q T) (k0_pay32 N q a T) (ix2 r u) = Ideal.exp (k0_pay23 N q T (ix2 r u) - k0_pay26 N q a T (ix2 r 0)) := by
  unfold k0_pay33 k0_pay32; pointwise
theorem den2 (a : FVec Ideal S32x2048 .f32) (N : FVec Ideal S8x512 .f32) (q : FVec Ideal S32x256 .f32) (T : Vec Ideal S1x32x8 .f32) (r : Fin 32) :
    k0_pay36 (k0_pay23 N q T) (k0_pay29 N q a T) (k0_pay32 N q a T) (ix2 r 0) = ksum (fun w => a (ix2 r w)) (fun u => k0_pay23 N q T (ix2 r u)) := by
  have h : k0_pay36 (k0_pay23 N q T) (k0_pay29 N q a T) (k0_pay32 N q a T) (ix2 r 0) = (∑ w, k0_pay29 N q a T (ix2 r w)) + ∑ u, k0_pay33 (k0_pay23 N q T) (k0_pay32 N q a T) (ix2 r u) := by
    unfold k0_pay36; pointwise
  rw [h]; simp only [pc2, pn2, mx2]; rfl
theorem att2 (a : FVec Ideal S32x2048 .f32) (N : FVec Ideal S8x512 .f32) (q : FVec Ideal S32x256 .f32) (T : Vec Ideal S1x32x8 .f32) (N2 : FVec Ideal S8x512 .f32) (X : Vec Ideal S1x256x2048 .f32) (r : Fin 32) (k : Fin 256) :
    k0_pay39 N2 (k0_pay29 N q a T) (k0_pay33 (k0_pay23 N q T) (k0_pay32 N q a T)) (k0_pay36 (k0_pay23 N q T) (k0_pay29 N q a T) (k0_pay32 N q a T)) X (ix2 r k)
      = Ideal.div (kacc (fun w => a (ix2 r w)) (fun w => X (ix3 0 k w)) (fun u => k0_pay23 N q T (ix2 r u)) (fun u => N2 (ix2 u ⟨256 + k, by omega⟩)))
          (ksum (fun w => a (ix2 r w)) (fun u => k0_pay23 N q T (ix2 r u))) := by
  have h : k0_pay39 N2 (k0_pay29 N q a T) (k0_pay33 (k0_pay23 N q T) (k0_pay32 N q a T)) (k0_pay36 (k0_pay23 N q T) (k0_pay29 N q a T) (k0_pay32 N q a T)) X (ix2 r k) = Ideal.div ((∑ w, k0_pay29 N q a T (ix2 r w) * X (ix3 0 k w))
      + ∑ u, k0_pay33 (k0_pay23 N q T) (k0_pay32 N q a T) (ix2 r u) * N2 (ix2 u ⟨256 + k, by omega⟩)) (k0_pay36 (k0_pay23 N q T) (k0_pay29 N q a T) (k0_pay32 N q a T) (ix2 r 0)) := by
    unfold k0_pay39; pointwise
  rw [h, den2]; simp only [pc2, pn2, mx2]; rfl
end Cert.Proof.Pays
end
-- ==== Proof.Block.lean ====
module
public import proofs.«01_k».proof.Proof.Gen.KernelIdeal.Frame
public import proofs.«01_k».proof.Proof.Pays
public import Idealize.ShloMosaic.Lib.Pipeline.ValueKit
@[expose] public section
noncomputable section
/-! What one block's run leaves in its two attention outputs: per head and step row, the weighted average of the values
    and the logarithm of the sum of the weights, over all cached positions and all new rows. -/
namespace Cert.Proof.Block
open Cert.KernelIdeal Cert.KernelIdeal.Gen Idealize.ShloMosaic Idealize.ShloMosaic.TcCoe Cert.Proof.Pays Cert.Proof.Softmax
set_option maxHeartbeats 2000000

/-- The scores of the keys `w`: the query's products with the keys' columns plus the table's row. -/
def score {n : ℕ} (q : Fin 64 → EReal) (K : Fin 64 → Fin n → EReal) (T : Fin n → EReal) (w : Fin n) : EReal :=
  (∑ d, q d * K d w) + T w

/-- Two indices of one array with equal coordinates: what a load through a unit rectangle reads. -/
theorem ld_at {S : Shape} {off size : Fin S.rank → ℕ} {inb} (X : Vec Ideal S .f32) (x : (Rect.unit (s := S) off size inb).shape.Idx)
    (i : S.Idx) (hi : ∀ a, (i a : ℕ) = off a + x a) : View.ld X (Rect.unit off size inb) x = X i :=
  View.ld_unit_apply_of _ _ _ _ _ _ hi

variable (x0 : Vec Ideal S1x8x768 .f32) (x1 x2 x3 : Vec Ideal S1x8x512 .f32) (x4 : Vec Ideal S1x512x128 .f32)
  (x5 : Vec Ideal S1x512x512 .f32) (x6 : Vec Ideal S1x512x2048 .f32) (x7 : Vec Ideal S32x128 .f32)
  (x8 : Vec Ideal S32x512 .f32) (x9 : Vec Ideal S32x2048 .f32) (x10 : Vec Ideal S3x32x8 .f32)

/-- Group `g`'s query of head `h` and step row `t`. -/
def qry (g : Fin 3) (h : Fin 4) (t : Fin 8) (d : Fin 64) : EReal := x0 (ix3 0 t ⟨256 * g + (64 * h + d), by omega⟩)
/-- A cached coordinate, `o = 0` of a key and `o = 1` of a value. -/
def cch {n : ℕ} (x : (⟨3, ![1, 512, n]⟩ : Shape).Idx → EReal) (o : Fin 2) (h : Fin 4) (d : Fin 64) (w : Fin n) : EReal :=
  x (ix3 0 ⟨256 * o + (64 * h + d), by omega⟩ w)
/-- A new row's coordinate, `o = 0` of a key and `o = 1` of a value. -/
def nrw (x : (⟨3, ![1, 8, 512]⟩ : Shape).Idx → EReal) (o : Fin 2) (h : Fin 4) (d : Fin 64) (u : Fin 8) : EReal :=
  x (ix3 0 u ⟨256 * o + (64 * h + d), by omega⟩)

/-- The scores against the cache. -/
def sC {n : ℕ} (g : Fin 3) (x : (⟨3, ![1, 512, n]⟩ : Shape).Idx → EReal) (T : (⟨2, ![32, n]⟩ : Shape).Idx → EReal) (h : Fin 4) (t : Fin 8) :
    Fin n → EReal := score (qry x0 g h t) (cch x 0 h) (fun w => T (ix2 (row h t) w))
/-- The scores against the new rows. -/
def sN (g : Fin 3) (x : (⟨3, ![1, 8, 512]⟩ : Shape).Idx → EReal) (h : Fin 4) (t : Fin 8) :
    Fin 8 → EReal := score (qry x0 g h t) (nrw x 0 h) (fun u => x10 (ix3 g (row h t) u))

theorem a0 (h : Fin 4) (t : Fin 8) (w : Fin 128) :
    k0_pay112 x0 x1 x2 x3 x4 x5 x6 x7 x8 x9 x10 (ix2 (row h t) w) = sC x0 0 x4 x7 h t w := by
  unfold k0_pay112 k0_pay109 k0_pay102 k0_pay101 k0_pay100 k0_pay99
  rw [sc0]
  simp only [qbd0 _ _ _ _ _ t h _ headMask]
  rw [head_sum (fun k => View.ld x0 r0_1 (ix3 0 t k)) (fun k => View.ld x4 r0_4 (ix3 0 k w))]
  exact congrArg₂ _ (Finset.sum_congr rfl fun d _ => congrArg₂ _
    (ld_at _ _ _ (by intro a; fin_cases a <;> simp <;> rfl))
    (ld_at _ _ _ (by intro a; fin_cases a <;> simp <;> rfl)))
    (ld_at _ _ _ (by intro a; fin_cases a <;> simp <;> rfl))

theorem nv0 (u : Fin 8) (k : Fin 512) : k0_pay106 x0 x1 x2 x3 x4 x5 x6 x7 x8 x9 x10 (ix2 u k) = x1 (ix3 0 u k) := by
  unfold k0_pay106 k0_pay10
  pointwise

theorem b0 (h : Fin 4) (t : Fin 8) (u : Fin 8) :
    k0_pay21 (k0_pay115 x0 x1 x2 x3 x4 x5 x6 x7 x8 x9 x10) (k0_pay116 x0 x1 x2 x3 x4 x5 x6 x7 x8 x9 x10) (ix2 (row h t) u) = sN x0 x10 0 x1 h t u := by
  unfold k0_pay115 k0_pay116 k0_pay109 k0_pay102 k0_pay101 k0_pay100 k0_pay99
  rw [sn0]
  simp only [qbd0 _ _ _ _ _ t h _ headMask]
  rw [head_sum (fun k => View.ld x0 r0_1 (ix3 0 t k)) (fun k => k0_pay106 x0 x1 x2 x3 x4 x5 x6 x7 x8 x9 x10 (ix2 u ⟨k, by omega⟩))]
  simp only [nv0]
  exact congrArg₂ _ (Finset.sum_congr rfl fun d _ => congrArg₂ _
    (ld_at _ _ _ (by intro a; fin_cases a <;> simp <;> rfl))
    (congrArg x1 (by congr 1; simp)))
    (ld_at _ _ _ (by intro a; fin_cases a <;> simp <;> rfl))

theorem a1 (h : Fin 4) (t : Fin 8) (w : Fin 512) :
    k0_pay113 x0 x1 x2 x3 x4 x5 x6 x7 x8 x9 x10 (ix2 (row h t) w) = sC x0 1 x5 x8 h t w := by
  unfold k0_pay113 k0_pay110 k0_pay102 k0_pay101 k0_pay100 k0_pay99
  rw [sc1]
  simp only [qbd1 _ _ _ _ _ t h _ headMask]
  rw [head_sum (fun k => View.ld x0 r0_2 (ix3 0 t k)) (fun k => View.ld x5 r0_6 (ix3 0 k w))]
  exact congrArg₂ _ (Finset.sum_congr rfl fun d _ => congrArg₂ _
    (ld_at _ _ _ (by intro a; fin_cases a <;> simp <;> rfl))
    (ld_at _ _ _ (by intro a; fin_cases a <;> simp <;> rfl)))
    (ld_at _ _ _ (by intro a; fin_cases a <;> simp <;> rfl))

theorem nv1 (u : Fin 8) (k : Fin 512) : k0_pay107 x0 x1 x2 x3 x4 x5 x6 x7 x8 x9 x10 (ix2 u k) = x2 (ix3 0 u k) := by
  unfold k0_pay107 k0_pay11
  pointwise

theorem b1 (h : Fin 4) (t : Fin 8) (u : Fin 8) :
    k0_pay22 (k0_pay107 x0 x1 x2 x3 x4 x5 x6 x7 x8 x9 x10) (k0_pay110 x0 x1 x2 x3 x4 x5 x6 x7 x8 x9 x10) (View.ld x10 r0_11) (ix2 (row h t) u) = sN x0 x10 1 x2 h t u := by
  unfold  k0_pay110 k0_pay102 k0_pay101 k0_pay100 k0_pay99
  rw [sn1]
  simp only [qbd1 _ _ _ _ _ t h _ headMask]
  rw [head_sum (fun k => View.ld x0 r0_2 (ix3 0 t k)) (fun k => k0_pay107 x0 x1 x2 x3 x4 x5 x6 x7 x8 x9 x10 (ix2 u ⟨k, by omega⟩))]
  simp only [nv1]
  exact congrArg₂ _ (Finset.sum_congr rfl fun d _ => congrArg₂ _
    (ld_at _ _ _ (by intro a; fin_cases a <;> simp <;> rfl))
    (congrArg x2 (by congr 1; simp)))
    (ld_at _ _ _ (by intro a; fin_cases a <;> simp <;> rfl))

theorem a2 (h : Fin 4) (t : Fin 8) (w : Fin 2048) :
    k0_pay114 x0 x1 x2 x3 x4 x5 x6 x7 x8 x9 x10 (ix2 (row h t) w) = sC x0 2 x6 x9 h t w := by
  unfold k0_pay114 k0_pay103 k0_pay102 k0_pay101 k0_pay100 k0_pay99
  rw [sc2]
  simp only [qbd2 _ _ t h _ headMask]
  rw [head_sum (fun k => View.ld x0 r0_3 (ix3 0 t k)) (fun k => View.ld x6 r0_8 (ix3 0 k w))]
  exact congrArg₂ _ (Finset.sum_congr rfl fun d _ => congrArg₂ _
    (ld_at _ _ _ (by intro a; fin_cases a <;> simp <;> rfl))
    (ld_at _ _ _ (by intro a; fin_cases a <;> simp <;> rfl)))
    (ld_at _ _ _ (by intro a; fin_cases a <;> simp <;> rfl))

theorem nv2 (u : Fin 8) (k : Fin 512) : k0_pay108 x0 x1 x2 x3 x4 x5 x6 x7 x8 x9 x10 (ix2 u k) = x3 (ix3 0 u k) := by
  unfold k0_pay108 k0_pay12
  pointwise

theorem b2 (h : Fin 4) (t : Fin 8) (u : Fin 8) :
    k0_pay117 x0 x1 x2 x3 x4 x5 x6 x7 x8 x9 x10 (ix2 (row h t) u) = sN x0 x10 2 x3 h t u := by
  unfold k0_pay117 k0_pay111 k0_pay103 k0_pay102 k0_pay101 k0_pay100 k0_pay99
  rw [sn2]
  simp only [qbd2 _ _ t h _ headMask]
  rw [head_sum (fun k => View.ld x0 r0_3 (ix3 0 t k)) (fun k => k0_pay108 x0 x1 x2 x3 x4 x5 x6 x7 x8 x9 x10 (ix2 u ⟨k, by omega⟩))]
  simp only [nv2]
  exact congrArg₂ _ (Finset.sum_congr rfl fun d _ => congrArg₂ _
    (ld_at _ _ _ (by intro a; fin_cases a <;> simp <;> rfl))
    (congrArg x3 (by congr 1; simp)))
    (ld_at _ _ _ (by intro a; fin_cases a <;> simp <;> rfl))

/-- A piece that does not hold the index, its lanes being others. -/
theorem tile_off {g g' : ℕ} (hg : g ≠ g') (t : Fin 8) (k : Fin 256) (hk) (w : (⟨3, ![1, 8, 256]⟩ : Shape).Idx → EReal) (v : EReal) :
    View.TileAt (Val := Elt Ideal) (e := .f32) (S := S1x8x768) (ix3 0 t ⟨256 * g + k, hk⟩) ![0, 0, 256 * g'] ![1, 8, 256] w v := by
  intro x hx
  have h2 := hx 2
  have : (x 2).val < 256 := (x 2).isLt
  simp only [ix3_2] at h2
  change 256 * g + k.val = 256 * g' + (x 2).val at h2
  omega

/-- A piece that holds the index. -/
theorem tile_on {g : ℕ} (t : Fin 8) (k : Fin 256) (hk) (w : (⟨3, ![1, 8, 256]⟩ : Shape).Idx → EReal) (v : EReal) (h : w (ix3 0 t k) = v) :
    View.TileAt (Val := Elt Ideal) (e := .f32) (S := S1x8x768) (ix3 0 t ⟨256 * g + k, hk⟩) ![0, 0, 256 * g] ![1, 8, 256] w v := by
  intro x hx
  have h1 := hx 1
  have h2 := hx 2
  have e : x = ix3 0 t k := by
    funext a
    refine Fin.ext ?_
    fin_cases a
    · have : (x 0).val < 1 := (x 0).isLt
      show (x 0).val = 0
      omega
    · change t.val = 0 + (x 1).val at h1
      show (x 1).val = t.val
      omega
    · change 256 * g + k.val = 256 * g + (x 2).val at h2
      show (x 2).val = k.val
      omega
  rw [e, h]

theorem o0 (h : Fin 4) (t : Fin 8) (d : Fin 64) :
    out0_11 x0 x1 x2 x3 x4 x5 x6 x7 x8 x9 x10 (ix3 0 t ⟨256 * 0 + lane h d, by simp only [lane]; omega⟩)
      = Ideal.div (kacc (sC x0 0 x4 x7 h t) (cch x4 1 h d) (sN x0 x10 0 x1 h t) (nrw x1 1 h d)) (ksum (sC x0 0 x4 x7 h t) (sN x0 x10 0 x1 h t)) := by
  unfold out0_11
  refine View.canon_eq_of_allAt _ _ _ (cover0_11 _ _ _ _)
    (View.allAt_cons_unit _ _ _ _ _ (tile_off (g := 0) (g' := 2) (by decide) t (lane h d) _ _ _)
      (View.allAt_cons_unit _ _ _ _ _ (tile_off (g := 0) (g' := 1) (by decide) t (lane h d) _ _ _)
        (View.allAt_cons_unit _ _ _ _ _ (tile_on (g := 0) t (lane h d) _ _ _ ?_) (View.allAt_nil _ _))))
  rw [fold0 _ _ t h d (show ∀ r w, k0_pay103 x0 x1 x2 x3 x4 x5 x6 x7 x8 x9 x10 (ix2 r w) = _ from headMask)]
  unfold k0_pay119 k0_pay122
  rw [att0]
  refine congrArg₂ _ ?_ ?_
  · refine congr (congr (congr (congrArg _ ?_) ?_) ?_) ?_
    · funext w; exact a0 x0 x1 x2 x3 x4 x5 x6 x7 x8 x9 x10 h t w
    · funext w; exact ld_at _ _ _ (by intro a; fin_cases a <;> simp <;> rfl)
    · funext u; exact b0 x0 x1 x2 x3 x4 x5 x6 x7 x8 x9 x10 h t u
    · funext u; rw [nv0]; exact congrArg x1 (by congr 1)
  · refine congrArg₂ _ ?_ ?_
    · funext w; exact a0 x0 x1 x2 x3 x4 x5 x6 x7 x8 x9 x10 h t w
    · funext u; exact b0 x0 x1 x2 x3 x4 x5 x6 x7 x8 x9 x10 h t u

theorem l0 (h : Fin 4) (t : Fin 8) (d : Fin 64) :
    out0_12 x0 x1 x2 x3 x4 x5 x6 x7 x8 x9 x10 (ix3 0 t ⟨256 * 0 + lane h d, by simp only [lane]; omega⟩)
      = kmax (sC x0 0 x4 x7 h t) (sN x0 x10 0 x1 h t) + Ideal.log (ksum (sC x0 0 x4 x7 h t) (sN x0 x10 0 x1 h t)) := by
  unfold out0_12
  refine View.canon_eq_of_allAt _ _ _ (cover0_12 _ _ _ _)
    (View.allAt_cons_unit _ _ _ _ _ (tile_off (g := 0) (g' := 2) (by decide) t (lane h d) _ _ _)
      (View.allAt_cons_unit _ _ _ _ _ (tile_off (g := 0) (g' := 1) (by decide) t (lane h d) _ _ _)
        (View.allAt_cons_unit _ _ _ _ _ (tile_on (g := 0) t (lane h d) _ _ _ ?_) (View.allAt_nil _ _))))
  rw [lfold0 _ _ _ t h d (show ∀ r w, k0_pay103 x0 x1 x2 x3 x4 x5 x6 x7 x8 x9 x10 (ix2 r w) = _ from headMask)]
  unfold k0_pay119 k0_pay122
  rw [den0, mx0]
  refine congrArg₂ _ (congrArg₂ _ ?_ ?_) (congrArg Ideal.log (congrArg₂ _ ?_ ?_))
  · funext w; exact a0 x0 x1 x2 x3 x4 x5 x6 x7 x8 x9 x10 h t w
  · funext u; exact b0 x0 x1 x2 x3 x4 x5 x6 x7 x8 x9 x10 h t u
  · funext w; exact a0 x0 x1 x2 x3 x4 x5 x6 x7 x8 x9 x10 h t w
  · funext u; exact b0 x0 x1 x2 x3 x4 x5 x6 x7 x8 x9 x10 h t u

theorem o1 (h : Fin 4) (t : Fin 8) (d : Fin 64) :
    out0_11 x0 x1 x2 x3 x4 x5 x6 x7 x8 x9 x10 (ix3 0 t ⟨256 * 1 + lane h d, by simp only [lane]; omega⟩)
      = Ideal.div (kacc (sC x0 1 x5 x8 h t) (cch x5 1 h d) (sN x0 x10 1 x2 h t) (nrw x2 1 h d)) (ksum (sC x0 1 x5 x8 h t) (sN x0 x10 1 x2 h t)) := by
  unfold out0_11
  refine View.canon_eq_of_allAt _ _ _ (cover0_11 _ _ _ _)
    (View.allAt_cons_unit _ _ _ _ _ (tile_off (g := 1) (g' := 2) (by decide) t (lane h d) _ _ _)
      (View.allAt_cons_unit _ _ _ _ _ (tile_on (g := 1) t (lane h d) _ _ _ ?_)
        (View.allAt_cons_unit _ _ _ _ _ (tile_off (g := 1) (g' := 0) (by decide) t (lane h d) _ _ _) (View.allAt_nil _ _))))
  rw [fold1 _ _ t h d (show ∀ r w, k0_pay103 x0 x1 x2 x3 x4 x5 x6 x7 x8 x9 x10 (ix2 r w) = _ from headMask)]
  unfold k0_pay126 k0_pay120 k0_pay123
  rw [att1]
  refine congrArg₂ _ ?_ ?_
  · refine congr (congr (congr (congrArg _ ?_) ?_) ?_) ?_
    · funext w; exact a1 x0 x1 x2 x3 x4 x5 x6 x7 x8 x9 x10 h t w
    · funext w; exact ld_at _ _ _ (by intro a; fin_cases a <;> simp <;> rfl)
    · funext u; exact b1 x0 x1 x2 x3 x4 x5 x6 x7 x8 x9 x10 h t u
    · funext u; rw [nv1]; exact congrArg x2 (by congr 1)
  · refine congrArg₂ _ ?_ ?_
    · funext w; exact a1 x0 x1 x2 x3 x4 x5 x6 x7 x8 x9 x10 h t w
    · funext u; exact b1 x0 x1 x2 x3 x4 x5 x6 x7 x8 x9 x10 h t u

theorem l1 (h : Fin 4) (t : Fin 8) (d : Fin 64) :
    out0_12 x0 x1 x2 x3 x4 x5 x6 x7 x8 x9 x10 (ix3 0 t ⟨256 * 1 + lane h d, by simp only [lane]; omega⟩)
      = kmax (sC x0 1 x5 x8 h t) (sN x0 x10 1 x2 h t) + Ideal.log (ksum (sC x0 1 x5 x8 h t) (sN x0 x10 1 x2 h t)) := by
  unfold out0_12
  refine View.canon_eq_of_allAt _ _ _ (cover0_12 _ _ _ _)
    (View.allAt_cons_unit _ _ _ _ _ (tile_off (g := 1) (g' := 2) (by decide) t (lane h d) _ _ _)
      (View.allAt_cons_unit _ _ _ _ _ (tile_on (g := 1) t (lane h d) _ _ _ ?_)
        (View.allAt_cons_unit _ _ _ _ _ (tile_off (g := 1) (g' := 0) (by decide) t (lane h d) _ _ _) (View.allAt_nil _ _))))
  rw [lfold1 _ _ _ t h d (show ∀ r w, k0_pay103 x0 x1 x2 x3 x4 x5 x6 x7 x8 x9 x10 (ix2 r w) = _ from headMask)]
  unfold k0_pay120 k0_pay123
  rw [den1, mx1]
  refine congrArg₂ _ (congrArg₂ _ ?_ ?_) (congrArg Ideal.log (congrArg₂ _ ?_ ?_))
  · funext w; exact a1 x0 x1 x2 x3 x4 x5 x6 x7 x8 x9 x10 h t w
  · funext u; exact b1 x0 x1 x2 x3 x4 x5 x6 x7 x8 x9 x10 h t u
  · funext w; exact a1 x0 x1 x2 x3 x4 x5 x6 x7 x8 x9 x10 h t w
  · funext u; exact b1 x0 x1 x2 x3 x4 x5 x6 x7 x8 x9 x10 h t u

theorem o2 (h : Fin 4) (t : Fin 8) (d : Fin 64) :
    out0_11 x0 x1 x2 x3 x4 x5 x6 x7 x8 x9 x10 (ix3 0 t ⟨256 * 2 + lane h d, by simp only [lane]; omega⟩)
      = Ideal.div (kacc (sC x0 2 x6 x9 h t) (cch x6 1 h d) (sN x0 x10 2 x3 h t) (nrw x3 1 h d)) (ksum (sC x0 2 x6 x9 h t) (sN x0 x10 2 x3 h t)) := by
  unfold out0_11
  refine View.canon_eq_of_allAt _ _ _ (cover0_11 _ _ _ _)
    (View.allAt_cons_unit _ _ _ _ _ (tile_on (g := 2) t (lane h d) _ _ _ ?_)
      (View.allAt_cons_unit _ _ _ _ _ (tile_off (g := 2) (g' := 1) (by decide) t (lane h d) _ _ _)
        (View.allAt_cons_unit _ _ _ _ _ (tile_off (g := 2) (g' := 0) (by decide) t (lane h d) _ _ _) (View.allAt_nil _ _))))
  rw [fold2 _ _ t h d (show ∀ r w, k0_pay103 x0 x1 x2 x3 x4 x5 x6 x7 x8 x9 x10 (ix2 r w) = _ from headMask)]
  unfold k0_pay125 k0_pay121 k0_pay124 k0_pay117
  rw [att2]
  refine congrArg₂ _ ?_ ?_
  · refine congr (congr (congr (congrArg _ ?_) ?_) ?_) ?_
    · funext w; exact a2 x0 x1 x2 x3 x4 x5 x6 x7 x8 x9 x10 h t w
    · funext w; exact ld_at _ _ _ (by intro a; fin_cases a <;> simp <;> rfl)
    · funext u; exact b2 x0 x1 x2 x3 x4 x5 x6 x7 x8 x9 x10 h t u
    · funext u; rw [nv2]; exact congrArg x3 (by congr 1)
  · refine congrArg₂ _ ?_ ?_
    · funext w; exact a2 x0 x1 x2 x3 x4 x5 x6 x7 x8 x9 x10 h t w
    · funext u; exact b2 x0 x1 x2 x3 x4 x5 x6 x7 x8 x9 x10 h t u

theorem l2 (h : Fin 4) (t : Fin 8) (d : Fin 64) :
    out0_12 x0 x1 x2 x3 x4 x5 x6 x7 x8 x9 x10 (ix3 0 t ⟨256 * 2 + lane h d, by simp only [lane]; omega⟩)
      = kmax (sC x0 2 x6 x9 h t) (sN x0 x10 2 x3 h t) + Ideal.log (ksum (sC x0 2 x6 x9 h t) (sN x0 x10 2 x3 h t)) := by
  unfold out0_12
  refine View.canon_eq_of_allAt _ _ _ (cover0_12 _ _ _ _)
    (View.allAt_cons_unit _ _ _ _ _ (tile_on (g := 2) t (lane h d) _ _ _ ?_)
      (View.allAt_cons_unit _ _ _ _ _ (tile_off (g := 2) (g' := 1) (by decide) t (lane h d) _ _ _)
        (View.allAt_cons_unit _ _ _ _ _ (tile_off (g := 2) (g' := 0) (by decide) t (lane h d) _ _ _) (View.allAt_nil _ _))))
  rw [lfold2 _ _ _ t h d (show ∀ r w, k0_pay103 x0 x1 x2 x3 x4 x5 x6 x7 x8 x9 x10 (ix2 r w) = _ from headMask)]
  unfold k0_pay118 k0_pay125 k0_pay121 k0_pay124 k0_pay117
  rw [den2, mx2]
  refine congrArg₂ _ (congrArg₂ _ ?_ ?_) (congrArg Ideal.log (congrArg₂ _ ?_ ?_))
  · funext w; exact a2 x0 x1 x2 x3 x4 x5 x6 x7 x8 x9 x10 h t w
  · funext u; exact b2 x0 x1 x2 x3 x4 x5 x6 x7 x8 x9 x10 h t u
  · funext w; exact a2 x0 x1 x2 x3 x4 x5 x6 x7 x8 x9 x10 h t w
  · funext u; exact b2 x0 x1 x2 x3 x4 x5 x6 x7 x8 x9 x10 h t u
end Cert.Proof.Block
end
-- ==== Proof.Host.lean ====
module
public import proofs.«01_k».proof.Proof.Block
public import Idealize.ShloMosaic.Lib.StableHlo.RunRead
@[expose] public section
noncomputable section
/-! The host's arrays before the call: the caches with the position last, and the bias tables of the cached positions
    and of the new rows. -/
namespace Cert.Proof.Host
open Cert.KernelIdeal Cert.KernelIdeal.Gen Idealize.ShloMosaic Idealize.ShloMosaic.TcCoe Cert.Proof.Pays Cert.Proof.Block
set_option maxHeartbeats 4000000
variable (m : (ℓ : Loc nD τ sig) → Buf (Elt Ideal) ℓ)

/-! The concatenations by name. -/
def cat128 (a : FVec Ideal S4x128x1 .f32) (b : FVec Ideal S4x128x0 .f32) : FVec Ideal S4x128x1 .f32 :=
  concatenate S4x128x1 2 [⟨S4x128x1, a⟩, ⟨S4x128x0, b⟩] concatenates_S4x128x1_S4x128x0_S4x128x1_d2
def cat136 (a : FVec Ideal S4x128 .f32) (b : FVec Ideal S4x8 .f32) : FVec Ideal S4x136 .f32 :=
  concatenate S4x136 1 [⟨S4x128, a⟩, ⟨S4x8, b⟩] concatenates_S4x128_S4x8_S4x136_d1
def cat512 (a : FVec Ideal S4x128x1 .f32) (b : FVec Ideal S4x128x3 .f32) : FVec Ideal S4x128x4 .f32 :=
  concatenate S4x128x4 2 [⟨S4x128x1, a⟩, ⟨S4x128x3, b⟩] concatenates_S4x128x1_S4x128x3_S4x128x4_d2
def cat520 (a : FVec Ideal S4x512 .f32) (b : FVec Ideal S4x8 .f32) : FVec Ideal S4x520 .f32 :=
  concatenate S4x520 1 [⟨S4x512, a⟩, ⟨S4x8, b⟩] concatenates_S4x512_S4x8_S4x520_d1
def cat2048 (a : FVec Ideal S4x128x1 .f32) (b : FVec Ideal S4x128x15 .f32) : FVec Ideal S4x128x16 .f32 :=
  concatenate S4x128x16 2 [⟨S4x128x1, a⟩, ⟨S4x128x15, b⟩] concatenates_S4x128x1_S4x128x15_S4x128x16_d2
def cat2056 (a : FVec Ideal S4x2048 .f32) (b : FVec Ideal S4x8 .f32) : FVec Ideal S4x2056 .f32 :=
  concatenate S4x2056 1 [⟨S4x2048, a⟩, ⟨S4x8, b⟩] concatenates_S4x2048_S4x8_S4x2056_d1
def stack3 (a b c : FVec Ideal S1x32x8 .f32) : FVec Ideal S3x32x8 .f32 :=
  concatenate S3x32x8 0 [⟨S1x32x8, a⟩, ⟨S1x32x8, b⟩, ⟨S1x32x8, c⟩] concatenates_S1x32x8_S1x32x8_S1x32x8_S3x32x8_d0

theorem select_one {α : Type} (a b : α) : Scalar.select 1#1 a b = a := rfl

/-- The bias, its distances from the far end. -/
def turned (bg : FVec Ideal S4x129 .f32) : FVec Ideal S4x129 .f32 := fun i => bg (ix2 (i 0) (i 1).rev)
theorem turn (bg : FVec Ideal S4x129 .f32) : Host.reverse [1] bg = turned bg := by
  funext i
  refine congrArg bg ?_
  funext a
  fin_cases a <;> rfl

theorem turned_apply (bg : FVec Ideal S4x129 .f32) (h : Fin 4) (j : Fin 129) : turned bg (ix2 h j) = bg (ix2 h j.rev) := rfl

/-- The table's entry of step row `t` for position `w`: the bias of the distance, where the distance is one of the window's. -/
def tcol {n : ℕ} (dil : ℕ) (bg : S4x129.Idx → EReal) (h t : Fin 4) (w : Fin n) : EReal :=
  if t.val ≤ w.val ∧ dil ∣ w.val - t.val then bg (ix2 h ⟨128 - (w.val - t.val) / dil, lt_of_le_of_lt (Nat.sub_le _ _) (by decide)⟩) else ⊥

/-- The table's entry of step row `t` for new row `u`. -/
def tnew (dil : ℕ) (bg : S4x129.Idx → EReal) (h t : Fin 4) (u : Fin 8) : EReal :=
  if u.val ≤ t.val ∧ dil ∣ t.val - u.val then bg (ix2 h ⟨(t.val - u.val) / dil, lt_of_le_of_lt (Nat.div_le_self _ _) (by omega)⟩) else ⊥

theorem toep0 (bg : S4x129.Idx → EReal) (h t : Fin 4) (w : Fin 128) (N : EReal) (hN : N = ⊥) (A : (t.val * 135 + w.val) % 136 < 128 → EReal)
    (hA : ∀ h1, A h1 = bg (ix2 h ⟨128 - (t.val * 135 + w.val) % 136, by omega⟩)) : (if h1 : (t.val * 135 + w.val) % 136 < 128 then A h1 else N) = tcol 1 bg h t w := by
  unfold tcol
  by_cases hw : t.val ≤ w.val
  · have hx : (t.val * 135 + w.val) % 136 < 128 := by omega
    rw [dif_pos hx, if_pos ⟨hw, one_dvd _⟩, hA hx]
    exact congrArg bg (congrArg (ix2 h) (Fin.ext (by show 128 - (t.val * 135 + w.val) % 136 = 128 - (w.val - t.val) / 1; omega)))
  · have hx : ¬ (t.val * 135 + w.val) % 136 < 128 := by omega
    rw [dif_neg hx, if_neg (fun h => hw h.1), hN]

theorem pick0 (bg : S4x129.Idx → EReal) (h t : Fin 4) (w : Fin 128) (L : Fin 8 → BitVec 1) (z : EReal) (a : h.val < 4) (b : (t.val * 135 + w.val) % 136 < 128 → (t.val * 135 + w.val) % 136 < 129) (e : t.val < 8)
    (hL : ∀ t : Fin 4, L (S8x1.rowMajor (ix2 ⟨t.val, by omega⟩ 0)) = 1#1) :
    Scalar.select (L (S8x1.rowMajor (ix2 ⟨t.val, e⟩ 0))) (if h1 : (t.val * 135 + w.val) % 136 < 128 then turned bg (ix2 ⟨h.val, a⟩ ⟨(t.val * 135 + w.val) % 136, b h1⟩) else Ideal.ofBits FTy.f32 4286578688#32) z = tcol 1 bg h t w := by
  rw [hL, select_one]
  refine toep0 bg h t w _ ninf _ ?_
  intro h1
  rw [turned_apply]
  refine congrArg bg (congrArg (ix2 h) (Fin.ext ?_))
  simp only [Fin.val_rev]
  omega

theorem tcache0 (c : Dev nD) (b : Fin 32) (o : Fin 2) (h : Fin 4) (d : Fin 64) (w : Fin 128) :
    (V m c main_v14 : Vec Ideal S32x512x128 .f32) (ix3 b ⟨256 * o + (64 * h + d), by omega⟩ w)
      = (V m c main_arg4 : Vec Ideal S1x32x128x2x4x64 .f32) (ix6 0 b w o h d) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30,
    List.flatten_cons, List.flatten_nil, List.append_nil, List.cons_append, List.nil_append]
  simp only [← cat128.eq_def, ← cat136.eq_def, ← cat512.eq_def, ← cat520.eq_def, ← cat2048.eq_def, ← cat2056.eq_def, ← stack3.eq_def]
  after_reads_simp
  pointwise

theorem lit_row0 : ∀ t : Fin 4, lit0 (S8x1.rowMajor (ix2 ⟨t.val, by omega⟩ 0)) = 1#1 := by decide +kernel

theorem tc0 (c : Dev nD) (h t : Fin 4) (w : Fin 128) :
    (V m c main_v66 : Vec Ideal S32x128 .f32) (ix2 (row h ⟨t, by omega⟩) w) = tcol 1 (V m c main_v50 : Vec Ideal S4x129 .f32) h t w := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30,
    List.flatten_cons, List.flatten_nil, List.append_nil, List.cons_append, List.nil_append]
  simp only [← cat128.eq_def, ← cat136.eq_def, ← cat512.eq_def, ← cat520.eq_def, ← cat2048.eq_def, ← cat2056.eq_def, ← stack3.eq_def]
  after_reads_simp
  generalize (transpose S4x129 [1, 0] _ transposes_S129x4_S4x129_1_0) = bg
  have hL := lit_row0
  generalize lit0 = L at hL ⊢
  simp -implicitDefEqProofs only [StableHlo.TRef.toBuf, StableHlo.TRef.ofBuf, cast_cast, cast_eq]
  rw [turn]
  pointwise
  unfold cat136 cat128
  pointwise
  simp only [show (8 * h.val + t.val) % 8 = t.val by omega, show (8 * h.val + t.val) / 8 = h.val by omega]
  have key := pick0 bg h t w L (id (constant (F := Ideal) S_ .f32 0#32) ix0) h.isLt (fun h1 => by omega) (by omega) hL
  convert key

theorem toep1 (bg : S4x129.Idx → EReal) (h t : Fin 4) (w : Fin 512) (N : EReal) (hN : N = ⊥) (A : (t.val * 519 + w.val) % 520 < 512 → (t.val * 519 + w.val) % 520 % 4 < 1 → EReal)
    (hA : ∀ h1 h2, A h1 h2 = bg (ix2 h ⟨128 - (t.val * 519 + w.val) % 520 / 4, by omega⟩)) :
    (if h1 : (t.val * 519 + w.val) % 520 < 512 then if h2 : (t.val * 519 + w.val) % 520 % 4 < 1 then A h1 h2 else N else N) = tcol 4 bg h t w := by
  unfold tcol
  by_cases hw : t.val ≤ w.val
  · have hx : (t.val * 519 + w.val) % 520 < 512 := by omega
    rw [dif_pos hx]
    by_cases hd : 4 ∣ w.val - t.val
    · have hy : (t.val * 519 + w.val) % 520 % 4 < 1 := by omega
      rw [dif_pos hy, if_pos ⟨hw, hd⟩, hA hx hy]
      exact congrArg bg (congrArg (ix2 h) (Fin.ext (by show 128 - (t.val * 519 + w.val) % 520 / 4 = 128 - (w.val - t.val) / 4; omega)))
    · have hy : ¬ (t.val * 519 + w.val) % 520 % 4 < 1 := by omega
      rw [dif_neg hy, if_neg (fun h => hd h.2), hN]
  · have hx : ¬ (t.val * 519 + w.val) % 520 < 512 := by omega
    rw [dif_neg hx, if_neg (fun h => hw h.1), hN]

theorem pick1 (bg : S4x129.Idx → EReal) (h t : Fin 4) (w : Fin 512) (L : Fin 8 → BitVec 1) (z : EReal) (a : h.val < 4) (b : (t.val * 519 + w.val) % 520 < 512 → (t.val * 519 + w.val) % 520 / 4 < 129) (e : t.val < 8)
    (hL : ∀ t : Fin 4, L (S8x1.rowMajor (ix2 ⟨t.val, by omega⟩ 0)) = 1#1) :
    Scalar.select (L (S8x1.rowMajor (ix2 ⟨t.val, e⟩ 0))) (if h1 : (t.val * 519 + w.val) % 520 < 512 then if h2 : (t.val * 519 + w.val) % 520 % 4 < 1 then turned bg (ix2 ⟨h.val, a⟩ ⟨(t.val * 519 + w.val) % 520 / 4, b h1⟩) else Ideal.ofBits FTy.f32 4286578688#32 else Ideal.ofBits FTy.f32 4286578688#32) z = tcol 4 bg h t w := by
  rw [hL, select_one]
  refine toep1 bg h t w _ ninf _ ?_
  intro h1 h2
  rw [turned_apply]
  refine congrArg bg (congrArg (ix2 h) (Fin.ext ?_))
  simp only [Fin.val_rev]
  omega

theorem tcache1 (c : Dev nD) (b : Fin 32) (o : Fin 2) (h : Fin 4) (d : Fin 64) (w : Fin 512) :
    (V m c main_v17 : Vec Ideal S32x512x512 .f32) (ix3 b ⟨256 * o + (64 * h + d), by omega⟩ w)
      = (V m c main_arg5 : Vec Ideal S1x32x512x2x4x64 .f32) (ix6 0 b w o h d) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30,
    List.flatten_cons, List.flatten_nil, List.append_nil, List.cons_append, List.nil_append]
  simp only [← cat128.eq_def, ← cat136.eq_def, ← cat512.eq_def, ← cat520.eq_def, ← cat2048.eq_def, ← cat2056.eq_def, ← stack3.eq_def]
  after_reads_simp
  pointwise

theorem lit_row1 : ∀ t : Fin 4, lit6 (S8x1.rowMajor (ix2 ⟨t.val, by omega⟩ 0)) = 1#1 := by decide +kernel

theorem tc1 (c : Dev nD) (h t : Fin 4) (w : Fin 512) :
    (V m c main_v131 : Vec Ideal S32x512 .f32) (ix2 (row h ⟨t, by omega⟩) w) = tcol 4 (V m c main_v115 : Vec Ideal S4x129 .f32) h t w := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30,
    List.flatten_cons, List.flatten_nil, List.append_nil, List.cons_append, List.nil_append]
  simp only [← cat128.eq_def, ← cat136.eq_def, ← cat512.eq_def, ← cat520.eq_def, ← cat2048.eq_def, ← cat2056.eq_def, ← stack3.eq_def]
  after_reads_simp
  generalize (transpose S4x129 [1, 0] _ transposes_S129x4_S4x129_1_0) = bg
  have hL := lit_row1
  generalize lit6 = L at hL ⊢
  simp -implicitDefEqProofs only [StableHlo.TRef.toBuf, StableHlo.TRef.ofBuf, cast_cast, cast_eq]
  rw [turn]
  pointwise
  unfold cat520 cat512
  pointwise
  simp only [show (8 * h.val + t.val) % 8 = t.val by omega, show (8 * h.val + t.val) / 8 = h.val by omega]
  have key := pick1 bg h t w L (id (constant (F := Ideal) S_ .f32 0#32) ix0) h.isLt (fun h1 => by omega) (by omega) hL
  convert key

theorem toep2 (bg : S4x129.Idx → EReal) (h t : Fin 4) (w : Fin 2048) (N : EReal) (hN : N = ⊥) (A : (t.val * 2055 + w.val) % 2056 < 2048 → (t.val * 2055 + w.val) % 2056 % 16 < 1 → EReal)
    (hA : ∀ h1 h2, A h1 h2 = bg (ix2 h ⟨128 - (t.val * 2055 + w.val) % 2056 / 16, by omega⟩)) :
    (if h1 : (t.val * 2055 + w.val) % 2056 < 2048 then if h2 : (t.val * 2055 + w.val) % 2056 % 16 < 1 then A h1 h2 else N else N) = tcol 16 bg h t w := by
  unfold tcol
  by_cases hw : t.val ≤ w.val
  · have hx : (t.val * 2055 + w.val) % 2056 < 2048 := by omega
    rw [dif_pos hx]
    by_cases hd : 16 ∣ w.val - t.val
    · have hy : (t.val * 2055 + w.val) % 2056 % 16 < 1 := by omega
      rw [dif_pos hy, if_pos ⟨hw, hd⟩, hA hx hy]
      exact congrArg bg (congrArg (ix2 h) (Fin.ext (by show 128 - (t.val * 2055 + w.val) % 2056 / 16 = 128 - (w.val - t.val) / 16; omega)))
    · have hy : ¬ (t.val * 2055 + w.val) % 2056 % 16 < 1 := by omega
      rw [dif_neg hy, if_neg (fun h => hd h.2), hN]
  · have hx : ¬ (t.val * 2055 + w.val) % 2056 < 2048 := by omega
    rw [dif_neg hx, if_neg (fun h => hw h.1), hN]

theorem pick2 (bg : S4x129.Idx → EReal) (h t : Fin 4) (w : Fin 2048) (L : Fin 8 → BitVec 1) (z : EReal) (a : h.val < 4) (b : (t.val * 2055 + w.val) % 2056 < 2048 → (t.val * 2055 + w.val) % 2056 / 16 < 129) (e : t.val < 8)
    (hL : ∀ t : Fin 4, L (S8x1.rowMajor (ix2 ⟨t.val, by omega⟩ 0)) = 1#1) :
    Scalar.select (L (S8x1.rowMajor (ix2 ⟨t.val, e⟩ 0))) (if h1 : (t.val * 2055 + w.val) % 2056 < 2048 then if h2 : (t.val * 2055 + w.val) % 2056 % 16 < 1 then turned bg (ix2 ⟨h.val, a⟩ ⟨(t.val * 2055 + w.val) % 2056 / 16, b h1⟩) else Ideal.ofBits FTy.f32 4286578688#32 else Ideal.ofBits FTy.f32 4286578688#32) z = tcol 16 bg h t w := by
  rw [hL, select_one]
  refine toep2 bg h t w _ ninf _ ?_
  intro h1 h2
  rw [turned_apply]
  refine congrArg bg (congrArg (ix2 h) (Fin.ext ?_))
  simp only [Fin.val_rev]
  omega

theorem tcache2 (c : Dev nD) (b : Fin 32) (o : Fin 2) (h : Fin 4) (d : Fin 64) (w : Fin 2048) :
    (V m c main_v20 : Vec Ideal S32x512x2048 .f32) (ix3 b ⟨256 * o + (64 * h + d), by omega⟩ w)
      = (V m c main_arg6 : Vec Ideal S1x32x2048x2x4x64 .f32) (ix6 0 b w o h d) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30,
    List.flatten_cons, List.flatten_nil, List.append_nil, List.cons_append, List.nil_append]
  simp only [← cat128.eq_def, ← cat136.eq_def, ← cat512.eq_def, ← cat520.eq_def, ← cat2048.eq_def, ← cat2056.eq_def, ← stack3.eq_def]
  after_reads_simp
  pointwise

theorem lit_row2 : ∀ t : Fin 4, lit9 (S8x1.rowMajor (ix2 ⟨t.val, by omega⟩ 0)) = 1#1 := by decide +kernel

theorem tc2 (c : Dev nD) (h t : Fin 4) (w : Fin 2048) :
    (V m c main_v184 : Vec Ideal S32x2048 .f32) (ix2 (row h ⟨t, by omega⟩) w) = tcol 16 (V m c main_v168 : Vec Ideal S4x129 .f32) h t w := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30,
    List.flatten_cons, List.flatten_nil, List.append_nil, List.cons_append, List.nil_append]
  simp only [← cat128.eq_def, ← cat136.eq_def, ← cat512.eq_def, ← cat520.eq_def, ← cat2048.eq_def, ← cat2056.eq_def, ← stack3.eq_def]
  after_reads_simp
  generalize (transpose S4x129 [1, 0] _ transposes_S129x4_S4x129_1_0) = bg
  have hL := lit_row2
  generalize lit9 = L at hL ⊢
  simp -implicitDefEqProofs only [StableHlo.TRef.toBuf, StableHlo.TRef.ofBuf, cast_cast, cast_eq]
  rw [turn]
  pointwise
  unfold cat2056 cat2048
  pointwise
  simp only [show (8 * h.val + t.val) % 8 = t.val by omega, show (8 * h.val + t.val) / 8 = h.val by omega]
  have key := pick2 bg h t w L (id (constant (F := Ideal) S_ .f32 0#32) ix0) h.isLt (fun h1 => by omega) (by omega) hL
  convert key
end Cert.Proof.Host
end
-- ==== Proof.HostNew.lean ====
module
public import proofs.«01_k».proof.Proof.Host
@[expose] public section
noncomputable section
/-! The host's tables of the new rows. -/
namespace Cert.Proof.Host
open Cert.KernelIdeal Cert.KernelIdeal.Gen Idealize.ShloMosaic Idealize.ShloMosaic.TcCoe Cert.Proof.Pays Cert.Proof.Block
set_option maxHeartbeats 4000000
variable (m : (ℓ : Loc nD τ sig) → Buf (Elt Ideal) ℓ)

theorem select_zero {α : Type} (a b : α) : Scalar.select 0#1 a b = b := rfl

/-- Two lines of operations, one after the other. -/
theorem after_two (a b : List (HloOp τ sig (Elt Ideal))) (X : Valuation τ sig (Elt Ideal)) :
    StableHlo.after (a ++ b) X = StableHlo.after b (StableHlo.after a X) := by
  induction a generalizing X with
  | nil => rfl
  | cons op l ih => exact ih _

theorem last_line : (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30] : List (HloOp τ sig (Elt Ideal))) = List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29] ++ hostOps0_30 := by
  simp only [List.flatten_cons, List.flatten_nil, List.append_nil, List.append_assoc]

theorem stacked (c : Dev nD) : (V m c main_v195 : Vec Ideal S3x32x8 .f32) = stack3 (V m c main_v192) (V m c main_v193) (V m c main_v194) := by
  unfold V
  rw [last_line, after_two]
  generalize StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29]) (fun b => m (c, b)) = X
  rfl

theorem lit1_at : ∀ (t : Fin 4) (u : Fin 8), lit1 (S8x8.rowMajor (ix2 ⟨t.val, by omega⟩ u)) = if t.val = u.val + 0 then 1#1 else 0#1 := by decide +kernel
theorem lit2_at : ∀ (t : Fin 4) (u : Fin 8), lit2 (S8x8.rowMajor (ix2 ⟨t.val, by omega⟩ u)) = if t.val = u.val + 1 then 1#1 else 0#1 := by decide +kernel
theorem lit3_at : ∀ (t : Fin 4) (u : Fin 8), lit3 (S8x8.rowMajor (ix2 ⟨t.val, by omega⟩ u)) = if t.val = u.val + 2 then 1#1 else 0#1 := by decide +kernel
theorem lit4_at : ∀ (t : Fin 4) (u : Fin 8), lit4 (S8x8.rowMajor (ix2 ⟨t.val, by omega⟩ u)) = if t.val = u.val + 3 then 1#1 else 0#1 := by decide +kernel
theorem lit5_at : ∀ t : Fin 4, lit5 (S8x1.rowMajor (ix2 ⟨t.val, by omega⟩ 0)) = 0#1 := by decide +kernel

theorem new0 (bg : S4x129.Idx → EReal) (h t : Fin 4) (u : Fin 8) : (if t.val = u.val + 3 then bg (ix2 h 3) else if t.val = u.val + 2 then bg (ix2 h 2) else if t.val = u.val + 1 then bg (ix2 h 1) else if t.val = u.val + 0 then bg (ix2 h 0) else ⊥) = tnew 1 bg h t u := by
  unfold tnew
  split_ifs
  all_goals first
    | rfl
    | exact congrArg bg (congrArg (ix2 h) (Fin.ext (by simp only [Fin.val_zero, Fin.val_one]; omega)))
    | exact congrArg bg (congrArg (ix2 h) (Fin.ext (by simp; omega)))
    | omega

theorem tn0 (c : Dev nD) (h t : Fin 4) (u : Fin 8) :
    (V m c main_v192 : Vec Ideal S1x32x8 .f32) (ix3 0 (row h ⟨t, by omega⟩) u) = tnew 1 (V m c main_v50 : Vec Ideal S4x129 .f32) h t u := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30,
    List.flatten_cons, List.flatten_nil, List.append_nil, List.cons_append, List.nil_append]
  simp only [← cat128.eq_def, ← cat136.eq_def, ← cat512.eq_def, ← cat520.eq_def, ← cat2048.eq_def, ← cat2056.eq_def, ← stack3.eq_def]
  after_reads_simp
  generalize (transpose S4x129 [1, 0] _ transposes_S129x4_S4x129_1_0) = bg
  have hlit1 := lit1_at
  generalize lit1 = LIT1 at hlit1 ⊢
  have hlit2 := lit2_at
  generalize lit2 = LIT2 at hlit2 ⊢
  have hlit3 := lit3_at
  generalize lit3 = LIT3 at hlit3 ⊢
  have hlit4 := lit4_at
  generalize lit4 = LIT4 at hlit4 ⊢
  have hlit5 := lit5_at
  generalize lit5 = LIT5 at hlit5 ⊢
  simp -implicitDefEqProofs only [StableHlo.TRef.toBuf, StableHlo.TRef.ofBuf, cast_cast, cast_eq]
  pointwise
  simp only [show (8 * h.val + t.val) % 8 = t.val by omega, show (8 * h.val + t.val) / 8 = h.val by omega]
  simp only [hlit1, hlit2, hlit3, hlit4, hlit5, select_ite, select_zero, ninf]
  exact new0 bg h t u

theorem lit7_at : ∀ (t : Fin 4) (u : Fin 8), lit7 (S8x8.rowMajor (ix2 ⟨t.val, by omega⟩ u)) = if t.val = u.val + 0 then 1#1 else 0#1 := by decide +kernel
theorem lit8_at : ∀ t : Fin 4, lit8 (S8x1.rowMajor (ix2 ⟨t.val, by omega⟩ 0)) = 0#1 := by decide +kernel

theorem new1 (bg : S4x129.Idx → EReal) (h t : Fin 4) (u : Fin 8) : (if t.val = u.val + 0 then bg (ix2 h 0) else ⊥) = tnew 4 bg h t u := by
  unfold tnew
  split_ifs
  all_goals first
    | rfl
    | exact congrArg bg (congrArg (ix2 h) (Fin.ext (by simp only [Fin.val_zero, Fin.val_one]; omega)))
    | exact congrArg bg (congrArg (ix2 h) (Fin.ext (by simp; omega)))
    | omega

theorem tn1 (c : Dev nD) (h t : Fin 4) (u : Fin 8) :
    (V m c main_v193 : Vec Ideal S1x32x8 .f32) (ix3 0 (row h ⟨t, by omega⟩) u) = tnew 4 (V m c main_v115 : Vec Ideal S4x129 .f32) h t u := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30,
    List.flatten_cons, List.flatten_nil, List.append_nil, List.cons_append, List.nil_append]
  simp only [← cat128.eq_def, ← cat136.eq_def, ← cat512.eq_def, ← cat520.eq_def, ← cat2048.eq_def, ← cat2056.eq_def, ← stack3.eq_def]
  after_reads_simp
  generalize (transpose S4x129 [1, 0] _ transposes_S129x4_S4x129_1_0) = bg
  have hlit7 := lit7_at
  generalize lit7 = LIT7 at hlit7 ⊢
  have hlit8 := lit8_at
  generalize lit8 = LIT8 at hlit8 ⊢
  simp -implicitDefEqProofs only [StableHlo.TRef.toBuf, StableHlo.TRef.ofBuf, cast_cast, cast_eq]
  pointwise
  simp only [show (8 * h.val + t.val) % 8 = t.val by omega, show (8 * h.val + t.val) / 8 = h.val by omega]
  simp only [hlit7, hlit8, select_ite, select_zero, ninf]
  exact new1 bg h t u

theorem lit10_at : ∀ (t : Fin 4) (u : Fin 8), lit10 (S8x8.rowMajor (ix2 ⟨t.val, by omega⟩ u)) = if t.val = u.val + 0 then 1#1 else 0#1 := by decide +kernel
theorem lit11_at : ∀ t : Fin 4, lit11 (S8x1.rowMajor (ix2 ⟨t.val, by omega⟩ 0)) = 0#1 := by decide +kernel

theorem new2 (bg : S4x129.Idx → EReal) (h t : Fin 4) (u : Fin 8) : (if t.val = u.val + 0 then bg (ix2 h 0) else ⊥) = tnew 16 bg h t u := by
  unfold tnew
  split_ifs
  all_goals first
    | rfl
    | exact congrArg bg (congrArg (ix2 h) (Fin.ext (by simp only [Fin.val_zero, Fin.val_one]; omega)))
    | exact congrArg bg (congrArg (ix2 h) (Fin.ext (by simp; omega)))
    | omega

theorem tn2 (c : Dev nD) (h t : Fin 4) (u : Fin 8) :
    (V m c main_v194 : Vec Ideal S1x32x8 .f32) (ix3 0 (row h ⟨t, by omega⟩) u) = tnew 16 (V m c main_v168 : Vec Ideal S4x129 .f32) h t u := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30,
    List.flatten_cons, List.flatten_nil, List.append_nil, List.cons_append, List.nil_append]
  simp only [← cat128.eq_def, ← cat136.eq_def, ← cat512.eq_def, ← cat520.eq_def, ← cat2048.eq_def, ← cat2056.eq_def, ← stack3.eq_def]
  after_reads_simp
  generalize (transpose S4x129 [1, 0] _ transposes_S129x4_S4x129_1_0) = bg
  have hlit10 := lit10_at
  generalize lit10 = LIT10 at hlit10 ⊢
  have hlit11 := lit11_at
  generalize lit11 = LIT11 at hlit11 ⊢
  simp -implicitDefEqProofs only [StableHlo.TRef.toBuf, StableHlo.TRef.ofBuf, cast_cast, cast_eq]
  pointwise
  simp only [show (8 * h.val + t.val) % 8 = t.val by omega, show (8 * h.val + t.val) / 8 = h.val by omega]
  simp only [hlit10, hlit11, select_ite, select_zero, ninf]
  exact new2 bg h t u

theorem tabn0 (c : Dev nD) (r : Fin 32) (u : Fin 8) :
    (V m c main_v195 : Vec Ideal S3x32x8 .f32) (ix3 0 r u) = (V m c main_v192 : Vec Ideal S1x32x8 .f32) (ix3 0 r u) := by
  rw [stacked]
  generalize (V m c main_v192 : Vec Ideal S1x32x8 .f32) = a
  generalize (V m c main_v193 : Vec Ideal S1x32x8 .f32) = b
  generalize (V m c main_v194 : Vec Ideal S1x32x8 .f32) = d
  unfold stack3
  pointwise
theorem tabn1 (c : Dev nD) (r : Fin 32) (u : Fin 8) :
    (V m c main_v195 : Vec Ideal S3x32x8 .f32) (ix3 1 r u) = (V m c main_v193 : Vec Ideal S1x32x8 .f32) (ix3 0 r u) := by
  rw [stacked]
  generalize (V m c main_v192 : Vec Ideal S1x32x8 .f32) = a
  generalize (V m c main_v193 : Vec Ideal S1x32x8 .f32) = b
  generalize (V m c main_v194 : Vec Ideal S1x32x8 .f32) = d
  unfold stack3
  pointwise
theorem tabn2 (c : Dev nD) (r : Fin 32) (u : Fin 8) :
    (V m c main_v195 : Vec Ideal S3x32x8 .f32) (ix3 2 r u) = (V m c main_v194 : Vec Ideal S1x32x8 .f32) (ix3 0 r u) := by
  rw [stacked]
  generalize (V m c main_v192 : Vec Ideal S1x32x8 .f32) = a
  generalize (V m c main_v193 : Vec Ideal S1x32x8 .f32) = b
  generalize (V m c main_v194 : Vec Ideal S1x32x8 .f32) = d
  unfold stack3
  pointwise
end Cert.Proof.Host
end
-- ==== Proof.Reach.lean ====
module
public import proofs.«01_k».proof.Proof.Pays
@[expose] public section
noncomputable section
/-! The keys that a step row reaches: one every `dil` positions back from its own, in the cache of `128 · dil` rows
    and among the new rows. -/
namespace Cert.Proof.Reach
open Idealize.ShloMosaic

/-- Key `j` of step row `t`: a new row when it is not before the step, and otherwise a row of the cache. -/
def reach (dil W : ℕ) (t : Fin 4) (j : Fin 129) : Fin W ⊕ Fin 8 :=
  if h : dil * j.val ≤ t.val then .inr ⟨t.val - dil * j.val, by omega⟩
  else if h' : W + t.val - dil * j.val < W then .inl ⟨W + t.val - dil * j.val, h'⟩ else .inr 7

theorem reach_new {dil W : ℕ} {t : Fin 4} {j : Fin 129} (h : dil * j.val ≤ t.val) :
    reach dil W t j = .inr ⟨t.val - dil * j.val, by omega⟩ := dif_pos h

theorem reach_old {dil W : ℕ} (hW : 0 < W) {t : Fin 4} {j : Fin 129} (h : ¬ dil * j.val ≤ t.val) :
    reach dil W t j = .inl ⟨W + t.val - dil * j.val, by omega⟩ := by
  unfold reach
  rw [dif_neg h, dif_pos (by omega)]

theorem reach_inj {dil W : ℕ} (hd : 0 < dil) (hW : W = 128 * dil) (t : Fin 4) : Function.Injective (reach dil W t) := by
  intro i j e
  have key : ∀ a : ℕ, a < 129 → dil * a ≤ W := fun a ha => by
    rw [hW, Nat.mul_comm 128]; exact Nat.mul_le_mul_left _ (by omega)
  have hi := key i.val i.isLt
  have hj := key j.val j.isLt
  have hW0 : 0 < W := by omega
  have fin : dil * i.val = dil * j.val → i = j := fun h => Fin.ext (Nat.eq_of_mul_eq_mul_left hd h)
  by_cases h1 : dil * i.val ≤ t.val <;> by_cases h2 : dil * j.val ≤ t.val
  · rw [reach_new h1, reach_new h2] at e
    have := congrArg Fin.val (Sum.inr.inj e); simp only at this; exact fin (by omega)
  · rw [reach_new h1, reach_old hW0 h2] at e; cases e
  · rw [reach_old hW0 h1, reach_new h2] at e; cases e
  · rw [reach_old hW0 h1, reach_old hW0 h2] at e
    have := congrArg Fin.val (Sum.inl.inj e); simp only at this; exact fin (by omega)

/-- A lane of a packed pair of rows: keys first, values after, four heads of 64 each. -/
def lane2 (o : Fin 2) (h : Fin 4) (d : Fin 64) : Fin 512 := ⟨256 * o.val + (64 * h.val + d.val), by omega⟩

/-- The key (`o = 0`) or value (`o = 1`) entry of a reached row. -/
def kvOf {W : ℕ} (C : (⟨6, ![1, 32, W, 2, 4, 64]⟩ : Shape).Idx → EReal) (N : (⟨3, ![32, 8, 512]⟩ : Shape).Idx → EReal)
    (b : Fin 32) (o : Fin 2) (h : Fin 4) (d : Fin 64) : Fin W ⊕ Fin 8 → EReal :=
  Sum.elim (fun w => C (ix6 0 b w o h d)) (fun u => N (ix3 b u (lane2 o h d)))

/-- A cache and the step's rows, one after the other. -/
def joined {W : ℕ} (C : (⟨6, ![1, 32, W, 2, 4, 64]⟩ : Shape).Idx → EReal) (N : (⟨3, ![32, 8, 512]⟩ : Shape).Idx → EReal)
    (b : Fin 32) (o : Fin 2) (h : Fin 4) (d : Fin 64) (r : Fin (W + 4)) : EReal :=
  if h' : r.val < W then C (ix6 0 b ⟨r.val, h'⟩ o h d) else N (ix3 b ⟨r.val - W, by omega⟩ (lane2 o h d))

/-- The reference's row is the reached one. -/
theorem joined_reach {dil W : ℕ} (hd : 0 < dil) (hW : W = 128 * dil) (C : (⟨6, ![1, 32, W, 2, 4, 64]⟩ : Shape).Idx → EReal)
    (N : (⟨3, ![32, 8, 512]⟩ : Shape).Idx → EReal) (b : Fin 32) (o : Fin 2) (h : Fin 4) (d : Fin 64) (t : Fin 4) (j : Fin 129)
    (r : Fin (W + 4)) (hr : r.val = W + t.val - dil * j.val) : joined C N b o h d r = kvOf C N b o h d (reach dil W t j) := by
  have hj : dil * j.val ≤ W := by rw [hW, Nat.mul_comm 128]; exact Nat.mul_le_mul_left _ (by omega)
  unfold joined
  by_cases h1 : dil * j.val ≤ t.val
  · rw [reach_new h1, dif_neg (by omega)]
    exact congrArg (fun u => N (ix3 b u (lane2 o h d))) (Fin.ext (by show r.val - W = t.val - dil * j.val; omega))
  · rw [reach_old (by omega) h1, dif_pos (by omega)]
    exact congrArg (fun w => C (ix6 0 b w o h d)) (Fin.ext hr)

end Cert.Proof.Reach
end
-- ==== Proof.Eq.lean ====
module
public import proofs.«01_k».proof.Proof.Block
public import proofs.«01_k».proof.Proof.HostNew
public import proofs.«01_k».proof.Proof.Reach
@[expose] public section
noncomputable section
/-! The kernel's scores in two parts against the reached keys: on a reached key they are the reference's score, and off
    the reached keys they are `-∞`. -/
namespace Cert.Proof.Eq
open Idealize.ShloMosaic Cert.Proof.Softmax Cert.Proof.Reach Cert.Proof.Host Cert.Proof.Block

/-- A score with all its parts real. -/
theorem real_score {q k : Fin 64 → EReal} {b : EReal} (qr kr : Fin 64 → ℝ) (br : ℝ) (hq : ∀ d, q d = qr d) (hk : ∀ d, k d = kr d) (hb : b = br) :
    (∑ d, q d * k d) + b = (((∑ d, qr d * kr d) + br : ℝ) : EReal) := by
  rw [EReal.coe_add, coe_sum, hb]
  exact congrArg (· + _) (Finset.sum_congr rfl fun d _ => by rw [hq, hk, EReal.coe_mul])

variable {dil W : ℕ} (hd : 0 < dil) (hW : W = 128 * dil) (bg : (⟨2, ![4, 129]⟩ : Shape).Idx → EReal) (h t : Fin 4)
include hd hW

/-- The tables hold the bias of distance `j` at key `j`. -/
theorem table_on (j : Fin 129) : Sum.elim (tcol dil bg h t) (tnew dil bg h t) (reach dil W t j) = bg (ix2 h j) := by
  have hj : dil * j.val ≤ W := by rw [hW, Nat.mul_comm 128]; exact Nat.mul_le_mul_left _ (by omega)
  by_cases h1 : dil * j.val ≤ t.val
  · rw [reach_new h1]
    show tnew dil bg h t _ = _
    unfold tnew
    have e : t.val - (t.val - dil * j.val) = dil * j.val := by omega
    simp only [e]
    rw [if_pos ⟨by omega, Nat.dvd_mul_right _ _⟩]
    exact congrArg (fun y => bg (ix2 h y)) (Fin.ext (Nat.mul_div_cancel_left _ hd))
  · rw [reach_old (by omega) h1]
    show tcol dil bg h t _ = _
    unfold tcol
    have e : W + t.val - dil * j.val - t.val = dil * (128 - j.val) := by
      rw [Nat.mul_sub, Nat.mul_comm dil 128, ← hW]; omega
    simp only [e]
    rw [if_pos ⟨by omega, Nat.dvd_mul_right _ _⟩]
    refine congrArg (fun y => bg (ix2 h y)) (Fin.ext ?_)
    show 128 - dil * (128 - j.val) / dil = j.val
    rw [Nat.mul_div_cancel_left _ hd]
    omega

/-- They hold `-∞` at every row that is no key. -/
theorem table_off (i : Fin W ⊕ Fin 8) (hi : ∀ j, reach dil W t j ≠ i) : Sum.elim (tcol dil bg h t) (tnew dil bg h t) i = ⊥ := by
  cases i with
  | inl w =>
    show tcol dil bg h t w = ⊥
    unfold tcol
    refine if_neg fun hc => ?_
    obtain ⟨h1, k, hk⟩ := hc
    have hkW : dil * k < dil * 128 := by rw [← hk, Nat.mul_comm dil 128, ← hW]; omega
    have hk128 : k < 128 := Nat.lt_of_mul_lt_mul_left hkW
    have e : dil * (128 - k) = W - (w.val - t.val) := by rw [Nat.mul_sub, hk, Nat.mul_comm dil 128, ← hW]
    have hw := w.isLt
    have hp : dil * (128 - k) + (w.val - t.val) = W := by omega
    have h2 : ¬ dil * (128 - k) ≤ t.val := by omega
    refine hi ⟨128 - k, by omega⟩ ?_
    rw [reach_old (by omega) h2]
    exact congrArg Sum.inl (Fin.ext (by show W + t.val - dil * (128 - k) = w.val; omega))
  | inr u =>
    show tnew dil bg h t u = ⊥
    unfold tnew
    refine if_neg fun hc => ?_
    obtain ⟨h1, k, hk⟩ := hc
    have hle : k ≤ dil * k := Nat.le_mul_of_pos_left _ hd
    have h2 : dil * k ≤ t.val := by omega
    refine hi ⟨k, by omega⟩ ?_
    rw [reach_new h2]
    exact congrArg Sum.inr (Fin.ext (by show t.val - dil * k = u.val; omega))

variable (q : Fin 64 → EReal) (C : Fin 64 → Fin W → EReal) (N : Fin 64 → Fin 8 → EReal)

omit hd hW in
/-- A score over both parts, in one. -/
theorem elim_score (T : Fin W → EReal) (U : Fin 8 → EReal) (i : Fin W ⊕ Fin 8) :
    Sum.elim (score q C T) (score q N U) i = (∑ d, q d * Sum.elim (C d) (N d) i) + Sum.elim T U i := by
  cases i <;> rfl

/-- The kernel's log-sum-exp and average, over the reached keys. -/
theorem ker (kv : Fin 129 → Fin 64 → ℝ) (qr : Fin 64 → ℝ) (br vr : Fin 129 → ℝ) (va : Fin W → EReal) (vb : Fin 8 → EReal)
    (hq : ∀ d, q d = qr d) (hk : ∀ j d, Sum.elim (C d) (N d) (reach dil W t j) = kv j d) (hb : ∀ j, bg (ix2 h j) = br j)
    (hv : ∀ j, Sum.elim va vb (reach dil W t j) = vr j) :
    (kmax (score q C (tcol dil bg h t)) (score q N (tnew dil bg h t)) + Ideal.log (ksum (score q C (tcol dil bg h t)) (score q N (tnew dil bg h t)))
      = (lse (fun j => (∑ d, qr d * kv j d) + br j) : EReal))
    ∧ (Ideal.div (kacc (score q C (tcol dil bg h t)) va (score q N (tnew dil bg h t)) vb) (ksum (score q C (tcol dil bg h t)) (score q N (tnew dil bg h t)))
      = (wavg (fun j => (∑ d, qr d * kv j d) + br j) vr : EReal)) := by
  have hon : ∀ j, Sum.elim (score q C (tcol dil bg h t)) (score q N (tnew dil bg h t)) (reach dil W t j) = (((∑ d, qr d * kv j d) + br j : ℝ) : EReal) := fun j => by
    rw [elim_score, table_on hd hW]
    exact real_score _ _ _ hq (hk j) (hb j)
  have hoff : ∀ i, (∀ j, reach dil W t j ≠ i) → Sum.elim (score q C (tcol dil bg h t)) (score q N (tnew dil bg h t)) i = ⊥ := fun i hi => by
    rw [elim_score, table_off hd hW bg h t i hi, EReal.add_bot]
  exact ⟨ker_lse _ (reach_inj hd hW t) _ _ _ hon hoff, ker_wavg _ (reach_inj hd hW t) _ _ _ _ _ _ hon hoff hv⟩
end Cert.Proof.Eq
end
-- ==== Proof.RefOps.lean ====
module
public import proofs.«01_k».proof.Proof.Gen.ReferenceIdeal.Read
public import proofs.«01_k».proof.Proof.Softmax
public import proofs.«01_k».proof.Proof.Pays
public import Idealize.ShloMosaic.Lib.Pointwise
@[expose] public section
noncomputable section
/-! The reference's operations that its three groups share: the row gather, the log-sum-exp and the weighted average,
    each read at an index. -/
namespace Cert.Proof.RefOps
open Cert.ReferenceIdeal Cert.ReferenceIdeal.Gen Idealize.ShloMosaic Idealize.ShloMosaic.TcCoe Cert.Proof.Softmax
set_option maxHeartbeats 4000000

/-- A gather of whole rows along axis 1, the row of each of `4 × 129` places named by an index. -/
abbrev kvDims (N : ℕ) (wf : GatherDims.WF ⟨5, ![32, N, 2, 4, 64]⟩ S4x129x1 S32x4x129x2x4x64 [0, 3, 4, 5] [1] [] [1] [] 2 ![32, 1, 2, 4, 64]) :
    GatherDims ⟨5, ![32, N, 2, 4, 64]⟩ S4x129x1 S32x4x129x2x4x64 where
  offsetDims := [0, 3, 4, 5]
  collapsedSliceDims := [1]
  operandBatchingDims := []
  startIndicesBatchingDims := []
  startIndexMap := [1]
  indexVectorDim := 2
  sliceSizes := ![32, 1, 2, 4, 64]
  wf := wf

theorem kv_gather {N : ℕ} (wf) (x : (⟨5, ![32, N, 2, 4, 64]⟩ : Shape).Idx → EReal) (idx : IVec S4x129x1 32)
    (b : Fin 32) (t : Fin 4) (j : Fin 129) (o : Fin 2) (h : Fin 4) (d : Fin 64) (r : Fin N)
    (hr : (idx (ix3 t j 0)).toInt = r.val) :
    Host.gather (kvDims N wf) x idx (ix6 b t j o h d) = x (ix5 b r o h d) := by
  unfold Host.gather
  congr 1
  funext a
  refine Fin.ext ?_
  show (kvDims N wf).start (ix6 b t j o h d) idx a + (kvDims N wf).batchCoord (ix6 b t j o h d) a + (kvDims N wf).offCoord (ix6 b t j o h d) a = _
  rw [GatherDims.batchCoord_eq_zero _ _ _ List.not_mem_nil]
  have hs : ∀ a : Fin 5, a ≠ 1 → (kvDims N wf).start (ix6 b t j o h d) idx a = 0 := fun a ha => by
    unfold GatherDims.start
    exact dif_neg (fun hm => ha (List.mem_singleton.mp hm))
  have hc : a = 0 ∨ a = 1 ∨ a = 2 ∨ a = 3 ∨ a = 4 := by
    match a with
    | ⟨0, _⟩ => exact .inl rfl
    | ⟨1, _⟩ => exact .inr (.inl rfl)
    | ⟨2, _⟩ => exact .inr (.inr (.inl rfl))
    | ⟨3, _⟩ => exact .inr (.inr (.inr (.inl rfl)))
    | ⟨4, _⟩ => exact .inr (.inr (.inr (.inr rfl)))
  rcases hc with rfl | rfl | rfl | rfl | rfl
  · rw [hs 0 (by decide)]; simp only [Nat.zero_add]; rfl
  · rw [GatherDims.offCoord_eq_zero _ _ _ (fun hm => ((GatherDims.mem_sKept _ _).mp hm).1 (List.mem_singleton.mpr rfl))]
    simp only [Nat.add_zero]
    unfold GatherDims.start
    rw [dif_pos (show (1 : Fin 5) ∈ (kvDims N wf).startIndexMap from List.mem_singleton.mpr rfl)]
    have hsi : (kvDims N wf).siIdx (ix6 b t j o h d) ⟨List.idxOf (1 : Fin 5) (kvDims N wf).startIndexMap,
        List.idxOf_lt_length_iff.2 (List.mem_singleton.mpr rfl)⟩ = ix3 t j 0 := by
      funext q; refine Fin.ext ?_
      match q with
      | ⟨0, _⟩ => rfl
      | ⟨1, _⟩ => rfl
      | ⟨2, _⟩ => rfl
    refine (congrArg (fun y => min (idx y).toInt.toNat (N - 1)) hsi).trans ?_
    show min (idx (ix3 t j 0)).toInt.toNat (N - 1) = r.val
    rw [hr]
    have := r.isLt
    omega
  · rw [hs 2 (by decide)]; simp only [Nat.zero_add]; rfl
  · rw [hs 3 (by decide)]; simp only [Nat.zero_add]; rfl
  · rw [hs 4 (by decide)]; simp only [Nat.zero_add]; rfl

/-- The largest score of each query. -/
def refMax (X : FVec Ideal S32x4x4x129 .f32) : FVec Ideal S32x4x4 .f32 :=
  Host.reduce FloatOps.maximumf X (constant S_ .f32 0xFF800000#32) reducesTo_S32x4x4x129_S32x4x4_d3 h_S_

theorem refMax_apply (X : FVec Ideal S32x4x4x129 .f32) (b : Fin 32) (h t : Fin 4) :
    refMax X (ix3 b h t) = (Finset.univ : Finset (Fin 129)).fold max (⊥ : EReal) (fun j => X (ix4 b h t j)) := by
  unfold refMax
  pointwise
  rw [Pays.ninf]

/-- The log-sum-exp of each query's scores, as the reference writes it. -/
def refLse (X : FVec Ideal S32x4x4x129 .f32) : FVec Ideal S32x4x4 .f32 :=
  addf (Host.log (Host.reduceAdd (Host.exp (subf X (broadcastInDim S32x4x4x129 ![0, 1, 2, 3] bcast_S32x4x4x1_S32x4x4x129_0_1_2_3
    (broadcastInDim S32x4x4x1 ![0, 1, 2] bcast_S32x4x4_S32x4x4x1_0_1_2 (refMax X))))) (constant S_ .f32 0x00000000#32)
    reducesTo_S32x4x4x129_S32x4x4_d3 h_S_)) (refMax X)

theorem refLse_apply (X : FVec Ideal S32x4x4x129 .f32) (b : Fin 32) (h t : Fin 4) (x : Fin 129 → ℝ) (hx : ∀ j, X (ix4 b h t j) = x j) :
    refLse X (ix3 b h t) = (lse x : EReal) := by
  rw [← ref_lse (fun j => X (ix4 b h t j)) x hx, ← refMax_apply]
  unfold refLse
  generalize refMax X = M
  pointwise

/-- The average of the values `V` of each query, weighted by the normalised scores, as the reference writes it. -/
def refAvg (X : FVec Ideal S32x4x4x129 .f32) (V : FVec Ideal S32x4x129x4x64 .f32) : FVec Ideal S32x4x4x64 .f32 :=
  Host.dotGeneral dot_S32x4x4x129_S32x4x129x4x64_S32x4x4x64_3_2_n_4_021_013 none
    (Host.exp (subf X (broadcastInDim S32x4x4x129 ![0, 1, 2, 3] bcast_S32x4x4x1_S32x4x4x129_0_1_2_3
      (broadcastInDim S32x4x4x1 ![0, 1, 2] bcast_S32x4x4_S32x4x4x1_0_1_2 (refLse X))))) V

theorem refAvg_apply (X : FVec Ideal S32x4x4x129 .f32) (V : FVec Ideal S32x4x129x4x64 .f32) (b : Fin 32) (h t : Fin 4) (d : Fin 64)
    (x y : Fin 129 → ℝ) (hx : ∀ j, X (ix4 b h t j) = x j) (hy : ∀ j, V (ix5 b t j h d) = y j) :
    refAvg X V (ix4 b t h d) = (wavg x y : EReal) := by
  rw [← ref_wavg (fun j => X (ix4 b h t j)) (fun j => V (ix5 b t j h d)) x y hx hy, ← refLse_apply X b h t x hx]
  unfold refAvg
  generalize refLse X = L
  pointwise

/-- The scores of the gathered keys `K` with a bias table. -/
def refScore (Q : FVec Ideal S32x4x4x64 .f32) (K : FVec Ideal S32x4x129x4x64 .f32) (bg : FVec Ideal S4x129 .f32) (ok : IVec S4x129 1) :
    FVec Ideal S32x4x4x129 .f32 :=
  select (broadcastInDim S32x4x4x129 ![0, 1, 2, 3] bcast_S1x1x4x129_S32x4x4x129_0_1_2_3
      (broadcastInDim S1x1x4x129 ![2, 3] bcast_S4x129_S1x1x4x129_2_3 ok))
    (addf (Host.dotGeneral dot_S32x4x4x64_S32x4x129x4x64_S32x4x4x129_3_4_n_2_021_031 none Q K)
      (broadcastInDim S32x4x4x129 ![0, 1, 2, 3] bcast_S1x4x1x129_S32x4x4x129_0_1_2_3
        (broadcastInDim S1x4x1x129 ![1, 3] bcast_S4x129_S1x4x1x129_1_3 bg)))
    (broadcastInDim S32x4x4x129 ![] bcast_S_S32x4x4x129 (constant S_ .f32 0xFF800000#32))

theorem refScore_apply (Q : FVec Ideal S32x4x4x64 .f32) (K : FVec Ideal S32x4x129x4x64 .f32) (bg : FVec Ideal S4x129 .f32) (ok : IVec S4x129 1)
    (b : Fin 32) (h t : Fin 4) (j : Fin 129) (hok : ok (ix2 t j) = 1#1) :
    refScore Q K bg ok (ix4 b h t j) = (∑ d : Fin 64, Q (ix4 b t h d) * K (ix5 b t j h d)) + bg (ix2 h j) := by
  unfold refScore
  pointwise
  rw [hok]
  rfl
end Cert.Proof.RefOps
end
-- ==== Proof.Tiles.lean ====
module
public import proofs.«01_k».proof.Proof.Block
@[expose] public section
noncomputable section
/-! What one block's run leaves in its three cache outputs: the cache moved on by four positions, the four new rows behind it. -/
namespace Cert.Proof.Tiles
open Cert.KernelIdeal Cert.KernelIdeal.Gen Idealize.ShloMosaic Idealize.ShloMosaic.TcCoe Cert.Proof.Pays Cert.Proof.Block
set_option maxHeartbeats 2000000

/-- The new cache: position `w + 4` of the old one, or else the new row behind it. -/
def moved {n : ℕ} (x : (⟨3, ![1, 512, n]⟩ : Shape).Idx → EReal) (N : (⟨3, ![1, 8, 512]⟩ : Shape).Idx → EReal) (k : Fin 512) (w : Fin n) : EReal :=
  if h : w.val + 4 < n then x (ix3 0 k ⟨w.val + 4, h⟩) else N (ix3 0 ⟨w.val + 4 - n, by omega⟩ k)

theorem keep_apply (k : Fin 512) (l : Fin 128) : k0_pay8 (ix2 k l) = if l.val < 124 then 1#1 else 0#1 := by
  unfold k0_pay8
  pointwise
  exact (by decide +kernel : ∀ l : Fin 128, Scalar.cmpi .slt (BitVec.ofNat 32 l.val) 124#32 = if l.val < 124 then 1#1 else 0#1) l

theorem shift_apply (a b : Vec Ideal S1x512x128 .f32) (k : Fin 512) (l : Fin 128) :
    k0_pay67 k0_pay8 a b (ix3 0 k l) = if l.val < 124 then a (ix3 0 k ⟨(l.val + 4) % 128, by omega⟩) else b (ix3 0 k ⟨(l.val + 4) % 128, by omega⟩) := by
  have e : (⟨(l.val + 128 - 124) % 128, by omega⟩ : Fin 128) = ⟨(l.val + 4) % 128, by omega⟩ := Fin.ext (by show (l.val + 128 - 124) % 128 = (l.val + 4) % 128; omega)
  have : k0_pay67 k0_pay8 a b (ix3 0 k l) = Scalar.select (k0_pay8 (ix2 k l)) (a (ix3 0 k ⟨(l.val + 128 - 124) % 128, by omega⟩)) (b (ix3 0 k ⟨(l.val + 128 - 124) % 128, by omega⟩)) := by
    unfold k0_pay67 k0_pay66
    pointwise
  rw [this, keep_apply, e, select_ite]

theorem last_apply (v : Vec Ideal S512x128 .f32) (a : Vec Ideal S1x512x128 .f32) (k : Fin 512) (l : Fin 128) :
    k0_pay60 k0_pay8 v a (ix3 0 k l) = if l.val < 124 then a (ix3 0 k ⟨(l.val + 4) % 128, by omega⟩) else v (ix2 k l) := by
  have e : (⟨(l.val + 128 - 124) % 128, by omega⟩ : Fin 128) = ⟨(l.val + 4) % 128, by omega⟩ := Fin.ext (by show (l.val + 128 - 124) % 128 = (l.val + 4) % 128; omega)
  have : k0_pay60 k0_pay8 v a (ix3 0 k l) = Scalar.select (k0_pay8 (ix2 k l)) (a (ix3 0 k ⟨(l.val + 128 - 124) % 128, by omega⟩)) (v (ix2 k l)) := by
    unfold k0_pay60 k0_pay58
    pointwise
  rw [this, keep_apply, e, select_ite]

theorem pick_apply (l : Fin 128) (u : Fin 8) : k0_pay9 (F := Ideal) (ix2 l u) = if l.val = u.val + 124 ∧ u.val < 4 then (1 : EReal) else 0 := by
  unfold k0_pay9
  pointwise
  rw [(by decide +kernel : ∀ (l : Fin 128) (u : Fin 8), (BitVec.setWidth 32 (IntOp.andi
      (IntOp.cmpi CmpIPredicate.eq (BitVec.ofNat 32 l.val) (IntOp.subi (IntOp.addi (BitVec.ofNat 32 u.val) 128#32) 4#32))
      (IntOp.cmpi CmpIPredicate.slt (BitVec.ofNat 32 u.val) 4#32))) = if l.val = u.val + 124 ∧ u.val < 4 then 1#32 else 0#32) l u]
  split <;> simp [FloatOps.sitofp]

theorem new_apply (N : FVec Ideal S8x512 .f32) (hN : ∀ u k, ∃ r : ℝ, N (ix2 u k) = r) (k : Fin 512) (l : Fin 128) (hl : 124 ≤ l.val) :
    k0_pay52 k0_pay9 N (ix2 k l) = N (ix2 ⟨l.val - 124, by omega⟩ k) := by
  unfold k0_pay52
  pointwise
  simp only [pick_apply]
  have z : ∀ u, N (ix2 u k) - N (ix2 u k) = 0 := fun u => by
    obtain ⟨r, hr⟩ := hN u k
    rw [hr, ← EReal.coe_sub, sub_self, EReal.coe_zero]
  simp only [z, sub_zero, mul_zero, Finset.sum_const_zero, add_zero]
  rw [Finset.sum_eq_single (⟨l.val - 124, by omega⟩ : Fin 8), if_pos ⟨by show l.val = l.val - 124 + 124; omega, by show l.val - 124 < 4; omega⟩, one_mul]
  · intro b _ hb
    rw [if_neg, zero_mul]
    exact fun h => hb (Fin.ext (by show b.val = l.val - 124; omega))
  · intro h
    exact absurd (Finset.mem_univ _) h

/-- One tile of the moved cache from two neighbouring tiles of the old one. -/
theorem tile_shift {n : ℕ} (j : ℕ) (hj : 128 * (j + 2) ≤ n) (x : Vec Ideal (⟨3, ![1, 512, n]⟩ : Shape) .f32) (N) (k : Fin 512) (w : Fin n) (i1) (i2) :
    View.TileAt (Val := Elt Ideal) (e := .f32) (S := (⟨3, ![1, 512, n]⟩ : Shape)) (ix3 0 k w) ![0, 0, 128 * j] ![1, 512, 128]
      (k0_pay67 k0_pay8 (View.ld x (Rect.unit (s := (⟨3, ![1, 512, n]⟩ : Shape)) ![0, 0, 128 * j] ![1, 512, 128] i1))
        (View.ld x (Rect.unit (s := (⟨3, ![1, 512, n]⟩ : Shape)) ![0, 0, 128 * (j + 1)] ![1, 512, 128] i2))) (moved x N k w) := by
  intro y hy
  obtain ⟨l, e, hl⟩ : ∃ l : Fin 128, y = ix3 0 k l ∧ w.val = 128 * j + l.val := by
    refine ⟨y 2, ?_, hy 2⟩
    have h1 := hy 1
    have : (y 0).val < 1 := (y 0).isLt
    change k.val = 0 + (y 1).val at h1
    funext a
    refine Fin.ext ?_
    fin_cases a
    · show (y 0).val = 0
      omega
    · show (y 1).val = k.val
      omega
    · rfl
  rw [e, shift_apply]
  have hw : w.val + 4 < n := by omega
  rw [moved, dif_pos hw]
  split
  · rw [ld_at (i := ix3 0 k ⟨w.val + 4, hw⟩)]
    intro a
    fin_cases a
    · rfl
    · show k.val = 0 + k.val; omega
    · show w.val + 4 = 128 * j + (l.val + 4) % 128; omega
  · rw [ld_at (i := ix3 0 k ⟨w.val + 4, hw⟩)]
    intro a
    fin_cases a
    · rfl
    · show k.val = 0 + k.val; omega
    · show w.val + 4 = 128 * (j + 1) + (l.val + 4) % 128; omega

/-- The last tile, the new rows behind the old one's rest. -/
theorem tile_last {n : ℕ} (j : ℕ) (hj : 128 * (j + 1) = n) (x : Vec Ideal (⟨3, ![1, 512, n]⟩ : Shape) .f32)
    (N : (⟨3, ![1, 8, 512]⟩ : Shape).Idx → EReal) (hN : ∀ i, ∃ r : ℝ, N i = r)
    (M : FVec Ideal S8x512 .f32) (hM : ∀ u k, M (ix2 u k) = N (ix3 0 u k)) (k : Fin 512) (w : Fin n) (i1) :
    View.TileAt (Val := Elt Ideal) (e := .f32) (S := (⟨3, ![1, 512, n]⟩ : Shape)) (ix3 0 k w) ![0, 0, 128 * j] ![1, 512, 128]
      (k0_pay60 k0_pay8 (k0_pay52 k0_pay9 M) (View.ld x (Rect.unit (s := (⟨3, ![1, 512, n]⟩ : Shape)) ![0, 0, 128 * j] ![1, 512, 128] i1))) (moved x N k w) := by
  intro y hy
  obtain ⟨l, e, hl⟩ : ∃ l : Fin 128, y = ix3 0 k l ∧ w.val = 128 * j + l.val := by
    refine ⟨y 2, ?_, hy 2⟩
    have h1 := hy 1
    have : (y 0).val < 1 := (y 0).isLt
    change k.val = 0 + (y 1).val at h1
    funext a
    refine Fin.ext ?_
    fin_cases a
    · show (y 0).val = 0
      omega
    · show (y 1).val = k.val
      omega
    · rfl
  rw [e, last_apply]
  split
  · have hw : w.val + 4 < n := by omega
    rw [moved, dif_pos hw, ld_at (i := ix3 0 k ⟨w.val + 4, hw⟩)]
    intro a
    fin_cases a
    · rfl
    · show k.val = 0 + k.val; omega
    · show w.val + 4 = 128 * j + (l.val + 4) % 128; omega
  · rw [new_apply M (fun u k => by rw [hM]; exact hN _) k l (by omega), moved, dif_neg (by omega), hM]
    exact congrArg N (congrArg (fun u => ix3 0 u k) (Fin.ext (by show l.val - 124 = w.val + 4 - n; omega)))

variable (x0 : Vec Ideal S1x8x768 .f32) (x1 x2 x3 : Vec Ideal S1x8x512 .f32) (x4 : Vec Ideal S1x512x128 .f32)
  (x5 : Vec Ideal S1x512x512 .f32) (x6 : Vec Ideal S1x512x2048 .f32) (x7 : Vec Ideal S32x128 .f32)
  (x8 : Vec Ideal S32x512 .f32) (x9 : Vec Ideal S32x2048 .f32) (x10 : Vec Ideal S3x32x8 .f32)

theorem cache0 (hN : ∀ i, ∃ r : ℝ, x1 i = r) (k : Fin 512) (w : Fin 128) : out0_13 x0 x1 x2 x3 x4 x5 x6 x7 x8 x9 x10 (ix3 0 k w) = moved x4 x1 k w := by
  unfold out0_13
  exact View.canon_eq_of_allAt _ _ _ (cover0_13 _ _)
    (View.allAt_cons_unit _ _ _ _ _ (tile_last 0 rfl _ _ hN _ (nv0 x0 x1 x2 x3 x4 x5 x6 x7 x8 x9 x10) k w _)
      (View.allAt_nil _ _))

theorem cache1 (hN : ∀ i, ∃ r : ℝ, x2 i = r) (k : Fin 512) (w : Fin 512) : out0_14 x0 x1 x2 x3 x4 x5 x6 x7 x8 x9 x10 (ix3 0 k w) = moved x5 x2 k w := by
  unfold out0_14
  exact View.canon_eq_of_allAt _ _ _ (cover0_14 _ _ _ _ _)
    (View.allAt_cons_unit _ _ _ _ _ (tile_last 3 rfl _ _ hN _ (nv1 x0 x1 x2 x3 x4 x5 x6 x7 x8 x9 x10) k w _)
      (View.allAt_cons_unit _ _ _ _ _ (tile_shift 2 (by decide) _ _ k w _ _)
      (View.allAt_cons_unit _ _ _ _ _ (tile_shift 1 (by decide) _ _ k w _ _)
      (View.allAt_cons_unit _ _ _ _ _ (tile_shift 0 (by decide) _ _ k w _ _)
      (View.allAt_nil _ _)))))

theorem cache2 (hN : ∀ i, ∃ r : ℝ, x3 i = r) (k : Fin 512) (w : Fin 2048) : out0_15 x0 x1 x2 x3 x4 x5 x6 x7 x8 x9 x10 (ix3 0 k w) = moved x6 x3 k w := by
  unfold out0_15
  exact View.canon_eq_of_allAt _ _ _ (cover0_15 _ _ _ _ _ _ _ _ _ _ _ _ _ _ _ _ _)
    (View.allAt_cons_unit _ _ _ _ _ (tile_last 15 rfl _ _ hN _ (nv2 x0 x1 x2 x3 x4 x5 x6 x7 x8 x9 x10) k w _)
      (View.allAt_cons_unit _ _ _ _ _ (tile_shift 14 (by decide) _ _ k w _ _)
      (View.allAt_cons_unit _ _ _ _ _ (tile_shift 13 (by decide) _ _ k w _ _)
      (View.allAt_cons_unit _ _ _ _ _ (tile_shift 12 (by decide) _ _ k w _ _)
      (View.allAt_cons_unit _ _ _ _ _ (tile_shift 11 (by decide) _ _ k w _ _)
      (View.allAt_cons_unit _ _ _ _ _ (tile_shift 10 (by decide) _ _ k w _ _)
      (View.allAt_cons_unit _ _ _ _ _ (tile_shift 9 (by decide) _ _ k w _ _)
      (View.allAt_cons_unit _ _ _ _ _ (tile_shift 8 (by decide) _ _ k w _ _)
      (View.allAt_cons_unit _ _ _ _ _ (tile_shift 7 (by decide) _ _ k w _ _)
      (View.allAt_cons_unit _ _ _ _ _ (tile_shift 6 (by decide) _ _ k w _ _)
      (View.allAt_cons_unit _ _ _ _ _ (tile_shift 5 (by decide) _ _ k w _ _)
      (View.allAt_cons_unit _ _ _ _ _ (tile_shift 4 (by decide) _ _ k w _ _)
      (View.allAt_cons_unit _ _ _ _ _ (tile_shift 3 (by decide) _ _ k w _ _)
      (View.allAt_cons_unit _ _ _ _ _ (tile_shift 2 (by decide) _ _ k w _ _)
      (View.allAt_cons_unit _ _ _ _ _ (tile_shift 1 (by decide) _ _ k w _ _)
      (View.allAt_cons_unit _ _ _ _ _ (tile_shift 0 (by decide) _ _ k w _ _)
      (View.allAt_nil _ _)))))))))))))))))

end Cert.Proof.Tiles
end
-- ==== Proof.Group.lean ====
module
public import proofs.«01_k».proof.Proof.Eq
public import proofs.«01_k».proof.Proof.RefOps
public import proofs.«01_k».proof.Proof.Tiles
@[expose] public section
noncomputable section
/-! One group of heads, whatever its spacing: what the kernel computes from the blocks of a sequence is what the reference
    computes from the arrays. -/
namespace Cert.Proof.Group
open Idealize.ShloMosaic Cert.Proof.Softmax Cert.Proof.Reach Cert.Proof.Host Cert.Proof.Block Cert.Proof.RefOps Cert.Proof.Pays Cert.Proof.Tiles
set_option maxHeartbeats 4000000

variable {dil W : ℕ} (hd : 0 < dil) (hW : W = 128 * dil) (g : Fin 3) (b : Fin 32)
  (x0 : (⟨3, ![1, 8, 768]⟩ : Shape).Idx → EReal) (xN : (⟨3, ![1, 8, 512]⟩ : Shape).Idx → EReal) (xC : (⟨3, ![1, 512, W]⟩ : Shape).Idx → EReal)
  (T : (⟨2, ![32, W]⟩ : Shape).Idx → EReal) (x10 : (⟨3, ![3, 32, 8]⟩ : Shape).Idx → EReal)
  (X0 : (⟨3, ![32, 8, 768]⟩ : Shape).Idx → EReal) (XN : (⟨3, ![32, 8, 512]⟩ : Shape).Idx → EReal)
  (XC : (⟨6, ![1, 32, W, 2, 4, 64]⟩ : Shape).Idx → EReal) (bg : (⟨2, ![4, 129]⟩ : Shape).Idx → EReal)
  (eN : ∀ k l, xN (ix3 0 k l) = XN (ix3 b k l)) (eC : ∀ o h d w, xC (ix3 0 (lane2 o h d) w) = XC (ix6 0 b w o h d))

include eN eC in
/-- The cache that the kernel writes is the reference's. -/
theorem cache (o : Fin 2) (h : Fin 4) (d : Fin 64) (w : Fin W) : moved xC xN (lane2 o h d) w = joined XC XN b o h d ⟨w.val + 4, by omega⟩ := by
  unfold moved joined
  by_cases hw : w.val + 4 < W
  · rw [dif_pos hw, dif_pos hw, eC]
  · rw [dif_neg hw, dif_neg hw, eN]

/-- The arrays of one group: the blocks' entries, the tables' entries, and that the arguments are real. -/
structure Blocks : Prop where
  query : ∀ k l, x0 (ix3 0 k l) = X0 (ix3 b k l)
  new : ∀ k l, xN (ix3 0 k l) = XN (ix3 b k l)
  cached : ∀ o h d w, xC (ix3 0 (lane2 o h d) w) = XC (ix6 0 b w o h d)
  tcol : ∀ (h t : Fin 4) w, T (ix2 (row h ⟨t.val, by omega⟩) w) = tcol dil bg h t w
  tnew : ∀ (h t : Fin 4) u, x10 (ix3 g (row h ⟨t.val, by omega⟩) u) = tnew dil bg h t u
  rq : ∃ r : _ → ℝ, ∀ i, X0 i = (r i : EReal)
  rn : ∃ r : _ → ℝ, ∀ i, XN i = (r i : EReal)
  rc : ∃ r : _ → ℝ, ∀ i, XC i = (r i : EReal)
  rb : ∀ h j, ∃ r : ℝ, bg (ix2 h j) = r

theorem real_elim {A B : Type} {a : A → EReal} {b : B → EReal} (ha : ∀ i, ∃ r : ℝ, a i = r) (hb : ∀ i, ∃ r : ℝ, b i = r) (i : A ⊕ B) :
    ∃ r : ℝ, Sum.elim a b i = r := by
  cases i with
  | inl i => exact ha i
  | inr i => exact hb i

variable (H : Blocks (dil := dil) g b x0 xN xC T x10 X0 XN XC bg) (h t : Fin 4)
  (S : FVec Ideal ⟨4, ![32, 4, 4, 129]⟩ .f32) (V : FVec Ideal ⟨5, ![32, 4, 129, 4, 64]⟩ .f32)
include hd hW H

theorem both
    (hS : ∀ j, S (ix4 b h t j) = (∑ d : Fin 64, X0 (ix3 b ⟨t.val, by omega⟩ ⟨256 * g.val + (64 * h.val + d.val), by omega⟩) * kvOf XC XN b 0 h d (reach dil W t j)) + bg (ix2 h j))
    (d : Fin 64) (hV : ∀ j, V (ix5 b t j h d) = kvOf XC XN b 1 h d (reach dil W t j)) :
    (kmax (sC x0 g xC T h ⟨t.val, by omega⟩) (sN x0 x10 g xN h ⟨t.val, by omega⟩)
        + Ideal.log (ksum (sC x0 g xC T h ⟨t.val, by omega⟩) (sN x0 x10 g xN h ⟨t.val, by omega⟩)) = refLse S (ix3 b h t))
    ∧ Ideal.div (kacc (sC x0 g xC T h ⟨t.val, by omega⟩) (cch xC 1 h d) (sN x0 x10 g xN h ⟨t.val, by omega⟩) (nrw xN 1 h d))
        (ksum (sC x0 g xC T h ⟨t.val, by omega⟩) (sN x0 x10 g xN h ⟨t.val, by omega⟩)) = refAvg S V (ix4 b t h d) := by
  have ec : sC x0 g xC T h ⟨t.val, by omega⟩ = score (qry x0 g h ⟨t.val, by omega⟩) (cch xC 0 h) (tcol dil bg h t) :=
    congrArg (score _ _) (funext (H.tcol h t))
  have en : sN x0 x10 g xN h ⟨t.val, by omega⟩ = score (qry x0 g h ⟨t.val, by omega⟩) (nrw xN 0 h) (tnew dil bg h t) :=
    congrArg (score _ _) (funext (H.tnew h t))
  have ek : ∀ o d, Sum.elim (cch xC o h d) (nrw xN o h d) = kvOf XC XN b o h d := fun o d =>
    congrArg₂ Sum.elim (funext (H.cached o h d)) (funext fun u => H.new u (lane2 o h d))
  obtain ⟨rq, hrq⟩ := H.rq
  choose rb hrb using H.rb
  have rkv : ∀ o d i, ∃ r : ℝ, kvOf XC XN b o h d i = r := fun o d => by
    obtain ⟨rn, hrn⟩ := H.rn
    obtain ⟨rc, hrc⟩ := H.rc
    exact real_elim (fun w => ⟨_, hrc _⟩) (fun u => ⟨_, hrn _⟩)
  choose kv hkv using fun (j : Fin 129) (d : Fin 64) => rkv 0 d (reach dil W t j)
  choose vv hvv using fun j : Fin 129 => rkv 1 d (reach dil W t j)
  have hq : ∀ d, qry x0 g h ⟨t.val, by omega⟩ d = (rq (ix3 b ⟨t.val, by omega⟩ ⟨256 * g.val + (64 * h.val + d.val), by omega⟩) : EReal) := fun d =>
    (H.query _ _).trans (hrq _)
  have key := Eq.ker hd hW bg h t (qry x0 g h ⟨t.val, by omega⟩) (cch xC 0 h) (nrw xN 0 h) kv _ (rb h) vv (cch xC 1 h d) (nrw xN 1 h d)
    hq (fun j d => by rw [ek]; exact hkv j d) (hrb h) (fun j => by rw [ek]; exact hvv j)
  have hx : ∀ j, S (ix4 b h t j) = (((∑ d, rq (ix3 b ⟨t.val, by omega⟩ ⟨256 * g.val + (64 * h.val + d.val), by omega⟩) * kv j d) + rb h j : ℝ) : EReal) := fun j => by
    rw [hS]
    exact Eq.real_score _ _ _ (fun _ => hrq _) (hkv j) (hrb h j)
  rw [ec, en, refLse_apply S b h t _ hx, refAvg_apply S V b h t d _ vv hx fun j => (hV j).trans (hvv j)]
  exact key

omit hd hW in
/-- The rows of a block are real. -/
theorem real_new (i : (⟨3, ![1, 8, 512]⟩ : Shape).Idx) : ∃ r : ℝ, xN i = r := by
  obtain ⟨r, hr⟩ := H.rn
  have hi : ix3 0 (i 1) (i 2) = i := by
    funext a
    match a with
    | ⟨0, _⟩ => exact Subsingleton.elim (α := Fin 1) _ _
    | ⟨1, _⟩ => rfl
    | ⟨2, _⟩ => rfl
  exact ⟨_, (congrArg xN hi.symm).trans ((H.new (i 1) (i 2)).trans (hr _))⟩
end Cert.Proof.Group
end
-- ==== Proof.Bias.lean ====
module
public import proofs.«01_k».proof.Proof.Host
public import proofs.«01_k».proof.Proof.Gen.ReferenceIdeal.Read
@[expose] public section
noncomputable section
/-! Both programs gather the same bias of each head and distance from the table of biases. -/
namespace Cert.Proof.Bias
open Cert.KernelIdeal Cert.KernelIdeal.Gen Idealize.ShloMosaic Idealize.ShloMosaic.TcCoe Cert.Proof.Host
set_option maxHeartbeats 4000000
variable (m : (ℓ : Loc nD τ sig) → Buf (Elt Ideal) ℓ)

theorem bias0 (c : Dev nD) : (V m c main_v50 : Vec Ideal S4x129 .f32) = Cert.ReferenceIdeal.Read.val_main_v34 (F := Ideal) (m ((c.tc : Thread nD τ).loc main_arg7)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30,
    List.flatten_cons, List.flatten_nil, List.append_nil, List.cons_append, List.nil_append]
  simp only [← cat128.eq_def, ← cat136.eq_def, ← cat512.eq_def, ← cat520.eq_def, ← cat2048.eq_def, ← cat2056.eq_def, ← stack3.eq_def]
  after_reads_simp
  simp -implicitDefEqProofs only [StableHlo.TRef.toBuf, StableHlo.TRef.ofBuf, cast_cast, cast_eq]
  rfl

theorem bias1 (c : Dev nD) : (V m c main_v115 : Vec Ideal S4x129 .f32) = Cert.ReferenceIdeal.Read.val_main_v115 (F := Ideal) (m ((c.tc : Thread nD τ).loc main_arg7)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30,
    List.flatten_cons, List.flatten_nil, List.append_nil, List.cons_append, List.nil_append]
  simp only [← cat128.eq_def, ← cat136.eq_def, ← cat512.eq_def, ← cat520.eq_def, ← cat2048.eq_def, ← cat2056.eq_def, ← stack3.eq_def]
  after_reads_simp
  simp -implicitDefEqProofs only [StableHlo.TRef.toBuf, StableHlo.TRef.ofBuf, cast_cast, cast_eq]
  rfl

theorem bias2 (c : Dev nD) : (V m c main_v168 : Vec Ideal S4x129 .f32) = Cert.ReferenceIdeal.Read.val_main_v196 (F := Ideal) (m ((c.tc : Thread nD τ).loc main_arg7)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30,
    List.flatten_cons, List.flatten_nil, List.append_nil, List.cons_append, List.nil_append]
  simp only [← cat128.eq_def, ← cat136.eq_def, ← cat512.eq_def, ← cat520.eq_def, ← cat2048.eq_def, ← cat2056.eq_def, ← stack3.eq_def]
  after_reads_simp
  simp -implicitDefEqProofs only [StableHlo.TRef.toBuf, StableHlo.TRef.ofBuf, cast_cast, cast_eq]
  rfl
end Cert.Proof.Bias
end
-- ==== Proof.Arrays.lean ====
module
public import proofs.«01_k».proof.Proof.Gen.KernelIdeal.Value
public import Idealize.ShloMosaic.Lib.Pipeline.ValueKit
@[expose] public section
noncomputable section
/-! Each point of the grid works on one sequence: the blocks it reads and writes are that sequence's parts of the arrays. -/
namespace Cert.Proof.Arrays
open Cert.KernelIdeal Cert.KernelIdeal.Gen Cert.KernelIdeal.Value Idealize.ShloMosaic Idealize.ShloMosaic.TcCoe
set_option maxHeartbeats 4000000
variable (m : (ℓ : Loc nD τ sig) → Buf (Elt Ideal) ℓ) (c : Dev nD) (b : Fin 32)

/-- The grid's point of sequence `b`. -/
abbrev pt : Fin cfg0.N := b

/-! Where the blocks lie. -/
theorem index0 : ∀ t : Fin cfg0.N, win0_0.index t = ![t.val, 0, 0] := (by decide +kernel : ∀ t : Fin grid0.N, win0_0.index t = ![t.val, 0, 0])
theorem index1 : ∀ t : Fin cfg0.N, win0_1.index t = ![t.val, 0, 0] := (by decide +kernel : ∀ t : Fin grid0.N, win0_1.index t = ![t.val, 0, 0])
theorem index2 : ∀ t : Fin cfg0.N, win0_2.index t = ![t.val, 0, 0] := (by decide +kernel : ∀ t : Fin grid0.N, win0_2.index t = ![t.val, 0, 0])
theorem index3 : ∀ t : Fin cfg0.N, win0_3.index t = ![t.val, 0, 0] := (by decide +kernel : ∀ t : Fin grid0.N, win0_3.index t = ![t.val, 0, 0])
theorem index4 : ∀ t : Fin cfg0.N, win0_4.index t = ![t.val, 0, 0] := (by decide +kernel : ∀ t : Fin grid0.N, win0_4.index t = ![t.val, 0, 0])
theorem index5 : ∀ t : Fin cfg0.N, win0_5.index t = ![t.val, 0, 0] := (by decide +kernel : ∀ t : Fin grid0.N, win0_5.index t = ![t.val, 0, 0])
theorem index6 : ∀ t : Fin cfg0.N, win0_6.index t = ![t.val, 0, 0] := (by decide +kernel : ∀ t : Fin grid0.N, win0_6.index t = ![t.val, 0, 0])
theorem index11 : ∀ t : Fin cfg0.N, win0_11.index t = ![t.val, 0, 0] := (by decide +kernel : ∀ t : Fin grid0.N, win0_11.index t = ![t.val, 0, 0])
theorem index12 : ∀ t : Fin cfg0.N, win0_12.index t = ![t.val, 0, 0] := (by decide +kernel : ∀ t : Fin grid0.N, win0_12.index t = ![t.val, 0, 0])
theorem index13 : ∀ t : Fin cfg0.N, win0_13.index t = ![t.val, 0, 0] := (by decide +kernel : ∀ t : Fin grid0.N, win0_13.index t = ![t.val, 0, 0])
theorem index14 : ∀ t : Fin cfg0.N, win0_14.index t = ![t.val, 0, 0] := (by decide +kernel : ∀ t : Fin grid0.N, win0_14.index t = ![t.val, 0, 0])
theorem index15 : ∀ t : Fin cfg0.N, win0_15.index t = ![t.val, 0, 0] := (by decide +kernel : ∀ t : Fin grid0.N, win0_15.index t = ![t.val, 0, 0])
theorem index7 : ∀ t : Fin cfg0.N, win0_7.index t = ![0, 0] := (by decide +kernel : ∀ t : Fin grid0.N, win0_7.index t = ![0, 0])
theorem index8 : ∀ t : Fin cfg0.N, win0_8.index t = ![0, 0] := (by decide +kernel : ∀ t : Fin grid0.N, win0_8.index t = ![0, 0])
theorem index9 : ∀ t : Fin cfg0.N, win0_9.index t = ![0, 0] := (by decide +kernel : ∀ t : Fin grid0.N, win0_9.index t = ![0, 0])
theorem index10 : ∀ t : Fin cfg0.N, win0_10.index t = ![0, 0, 0] := (by decide +kernel : ∀ t : Fin grid0.N, win0_10.index t = ![0, 0, 0])

/-! The blocks read. -/
theorem in0 (k : Fin 8) (l : Fin 768) : iblk m c 0 (pt b) (ix3 0 k l) = V m c main_arg0 (ix3 b k l) := by
  blk_simp [iblk]
  refine congrArg _ ?_
  blk_ext [index0]
  rfl
theorem in1 (k : Fin 8) (l : Fin 512) : iblk m c 1 (pt b) (ix3 0 k l) = V m c main_arg1 (ix3 b k l) := by
  blk_simp [iblk]
  refine congrArg _ ?_
  blk_ext [index1]
  rfl
theorem in2 (k : Fin 8) (l : Fin 512) : iblk m c 2 (pt b) (ix3 0 k l) = V m c main_arg2 (ix3 b k l) := by
  blk_simp [iblk]
  refine congrArg _ ?_
  blk_ext [index2]
  rfl
theorem in3 (k : Fin 8) (l : Fin 512) : iblk m c 3 (pt b) (ix3 0 k l) = V m c main_arg3 (ix3 b k l) := by
  blk_simp [iblk]
  refine congrArg _ ?_
  blk_ext [index3]
  rfl
theorem in4 (k : Fin 512) (l : Fin 128) : iblk m c 4 (pt b) (ix3 0 k l) = V m c main_v14 (ix3 b k l) := by
  blk_simp [iblk]
  refine congrArg _ ?_
  blk_ext [index4]
  rfl
theorem in5 (k : Fin 512) (l : Fin 512) : iblk m c 5 (pt b) (ix3 0 k l) = V m c main_v17 (ix3 b k l) := by
  blk_simp [iblk]
  refine congrArg _ ?_
  blk_ext [index5]
  rfl
theorem in6 (k : Fin 512) (l : Fin 2048) : iblk m c 6 (pt b) (ix3 0 k l) = V m c main_v20 (ix3 b k l) := by
  blk_simp [iblk]
  refine congrArg _ ?_
  blk_ext [index6]
  rfl
theorem in7 (k : Fin 32) (l : Fin 128) : iblk m c 7 (pt b) (ix2 k l) = V m c main_v66 (ix2 k l) := by
  blk_simp [iblk]
  refine congrArg _ ?_
  blk_ext [index7]
theorem in8 (k : Fin 32) (l : Fin 512) : iblk m c 8 (pt b) (ix2 k l) = V m c main_v131 (ix2 k l) := by
  blk_simp [iblk]
  refine congrArg _ ?_
  blk_ext [index8]
theorem in9 (k : Fin 32) (l : Fin 2048) : iblk m c 9 (pt b) (ix2 k l) = V m c main_v184 (ix2 k l) := by
  blk_simp [iblk]
  refine congrArg _ ?_
  blk_ext [index9]
theorem in10 (g : Fin 3) (k : Fin 32) (l : Fin 8) : iblk m c 10 (pt b) (ix3 g k l) = V m c main_v195 (ix3 g k l) := by
  blk_simp [iblk]
  refine congrArg _ ?_
  blk_ext [index10]

/-! The arrays written. -/
theorem out11 (k : Fin 8) (l : Fin 768) : (dats m 0 c).arrAt 11 cfg0.N (ix3 b k l)
    = out0_11 (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b)) (iblk m c 10 (pt b)) (ix3 0 k l) := by
  have hf : ∀ t : Fin cfg0.N, (cfg0.win 11).flush t = true := (by decide +kernel : ∀ t : Fin cfg0.N, (cfg0.win 11).flush t = true)
  have h := congrFun (blocks11 m c (pt b) (hf _)) (ix3 0 k l)
  rw [flushed11] at h
  refine Eq.trans ?_ h
  blk_simp
  refine congrArg _ ?_
  blk_ext [index11]
  rfl
theorem out12 (k : Fin 8) (l : Fin 768) : (dats m 0 c).arrAt 12 cfg0.N (ix3 b k l)
    = out0_12 (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b)) (iblk m c 10 (pt b)) (ix3 0 k l) := by
  have hf : ∀ t : Fin cfg0.N, (cfg0.win 12).flush t = true := (by decide +kernel : ∀ t : Fin cfg0.N, (cfg0.win 12).flush t = true)
  have h := congrFun (blocks12 m c (pt b) (hf _)) (ix3 0 k l)
  rw [flushed12] at h
  refine Eq.trans ?_ h
  blk_simp
  refine congrArg _ ?_
  blk_ext [index12]
  rfl
theorem out13 (k : Fin 512) (l : Fin 128) : (dats m 0 c).arrAt 13 cfg0.N (ix3 b k l)
    = out0_13 (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b)) (iblk m c 10 (pt b)) (ix3 0 k l) := by
  have hf : ∀ t : Fin cfg0.N, (cfg0.win 13).flush t = true := (by decide +kernel : ∀ t : Fin cfg0.N, (cfg0.win 13).flush t = true)
  have h := congrFun (blocks13 m c (pt b) (hf _)) (ix3 0 k l)
  rw [flushed13] at h
  refine Eq.trans ?_ h
  blk_simp
  refine congrArg _ ?_
  blk_ext [index13]
  rfl
theorem out14 (k : Fin 512) (l : Fin 512) : (dats m 0 c).arrAt 14 cfg0.N (ix3 b k l)
    = out0_14 (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b)) (iblk m c 10 (pt b)) (ix3 0 k l) := by
  have hf : ∀ t : Fin cfg0.N, (cfg0.win 14).flush t = true := (by decide +kernel : ∀ t : Fin cfg0.N, (cfg0.win 14).flush t = true)
  have h := congrFun (blocks14 m c (pt b) (hf _)) (ix3 0 k l)
  rw [flushed14] at h
  refine Eq.trans ?_ h
  blk_simp
  refine congrArg _ ?_
  blk_ext [index14]
  rfl
theorem out15 (k : Fin 512) (l : Fin 2048) : (dats m 0 c).arrAt 15 cfg0.N (ix3 b k l)
    = out0_15 (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b)) (iblk m c 10 (pt b)) (ix3 0 k l) := by
  have hf : ∀ t : Fin cfg0.N, (cfg0.win 15).flush t = true := (by decide +kernel : ∀ t : Fin cfg0.N, (cfg0.win 15).flush t = true)
  have h := congrFun (blocks15 m c (pt b) (hf _)) (ix3 0 k l)
  rw [flushed15] at h
  refine Eq.trans ?_ h
  blk_simp
  refine congrArg _ ?_
  blk_ext [index15]
  rfl
end Cert.Proof.Arrays
end
-- ==== Proof.Ref0.lean ====
module
public import proofs.«01_k».proof.Proof.RefOps
public import proofs.«01_k».proof.Proof.Reach
@[expose] public section
noncomputable section
/-! The reference's group of spacing 1: its scores, values and new cache, entry by entry. -/
namespace Cert.Proof.Ref0
open Cert.ReferenceIdeal Cert.ReferenceIdeal.Gen Cert.ReferenceIdeal.Read Idealize.ShloMosaic Idealize.ShloMosaic.TcCoe Cert.Proof.Softmax Cert.Proof.RefOps Cert.Proof.Reach
set_option maxHeartbeats 4000000
variable (x0 : FVec Ideal S32x8x768 .f32) (x1 : FVec Ideal S32x8x512 .f32) (x4 : FVec Ideal S1x32x128x2x4x64 .f32) (x7 : FVec Ideal S32x12 .f32)

/-- The row that the reference gathers. -/
theorem row (t : Fin 4) (j : Fin 129) : (val_main_call2_v0 (F := Ideal) (ix3 t j 0)).toInt = ((128 + t.val - 1 * j.val : ℕ) : Int) := by
  have e : val_main_call2_v0 (F := Ideal) (ix3 t j 0) = IntOp.minsi 131#32 (IntOp.maxsi 0#32 (8192#32 + BitVec.ofNat 32 t.val - 1#32 * BitVec.ofNat 32 j.val - 8064#32)) := rfl
  rw [e]
  revert t j
  decide +kernel

/-- Every key's position is a real one. -/
theorem ok (t : Fin 4) (j : Fin 129) : val_main_v50 (F := Ideal) (ix2 t j) = 1#1 := by
  have e : val_main_v50 (F := Ideal) (ix2 t j) = IntOp.cmpi .sge (8192#32 + BitVec.ofNat 32 t.val - 1#32 * BitVec.ofNat 32 j.val) 0#32 := rfl
  rw [e]
  revert t j
  decide +kernel

/-- The cache and the new rows, one after the other. -/
theorem cat (b : Fin 32) (r : Fin 132) (o : Fin 2) (h : Fin 4) (d : Fin 64) :
    val_main_v38 (F := Ideal) x1 x4 (ix5 b r o h d) = joined x4 x1 b o h d r := by
  unfold val_main_v38 val_main_v37 val_main_v36 val_main_v35 joined
  pointwise
  simp only [lane2, show o.val * 256 + h.val * 64 + d.val = 256 * o.val + (64 * h.val + d.val) by omega]

theorem gath (b : Fin 32) (t : Fin 4) (j : Fin 129) (o : Fin 2) (h : Fin 4) (d : Fin 64) :
    val_main_v54 (F := Ideal) x1 x4 (ix6 b t j o h d) = kvOf x4 x1 b o h d (reach 1 128 t j) := by
  have hr : 128 + t.val - 1 * j.val < 132 := by omega
  rw [← joined_reach (dil := 1) (W := 128) (by decide) (by decide) x4 x1 b o h d t j ⟨_, hr⟩ rfl, ← cat]
  exact kv_gather _ _ _ b t j o h d ⟨_, hr⟩ (row t j)

theorem key (b : Fin 32) (t : Fin 4) (j : Fin 129) (h : Fin 4) (d : Fin 64) :
    val_main_v56 (F := Ideal) x1 x4 (ix5 b t j h d) = kvOf x4 x1 b 0 h d (reach 1 128 t j) := by
  rw [← gath]
  unfold val_main_v56 val_main_v55
  generalize val_main_v54 (F := Ideal) x1 x4 = G
  pointwise

theorem val (b : Fin 32) (t : Fin 4) (j : Fin 129) (h : Fin 4) (d : Fin 64) :
    val_main_v76 (F := Ideal) x1 x4 (ix5 b t j h d) = kvOf x4 x1 b 1 h d (reach 1 128 t j) := by
  rw [← gath]
  unfold val_main_v76 val_main_v75
  generalize val_main_v54 (F := Ideal) x1 x4 = G
  pointwise

theorem query (b : Fin 32) (t : Fin 4) (h : Fin 4) (d : Fin 64) :
    val_main_v40 (F := Ideal) x0 (ix4 b t h d) = x0 (ix3 b ⟨t.val, by omega⟩ ⟨0 + (64 * h.val + d.val), by omega⟩) := by
  unfold val_main_v40 val_main_v39 val_main_v4 val_main_v3
  pointwise
  exact congrArg (fun y => x0 (ix3 b ⟨t.val, by omega⟩ y)) (Fin.ext (by simp only; omega))

theorem score (b : Fin 32) (h t : Fin 4) (j : Fin 129) :
    val_main_v62 (F := Ideal) x0 x1 x4 x7 (ix4 b h t j)
      = (∑ d : Fin 64, x0 (ix3 b ⟨t.val, by omega⟩ ⟨0 + (64 * h.val + d.val), by omega⟩) * kvOf x4 x1 b 0 h d (reach 1 128 t j))
        + val_main_v34 (F := Ideal) x7 (ix2 h j) := by
  have e : val_main_v62 (F := Ideal) x0 x1 x4 x7 = refScore (val_main_v40 (F := Ideal) x0) (val_main_v56 (F := Ideal) x1 x4) (val_main_v34 (F := Ideal) x7) (val_main_v50 (F := Ideal)) := rfl
  rw [e, refScore_apply _ _ _ _ b h t j (ok t j)]
  exact congrArg (· + _) (Finset.sum_congr rfl fun d _ => by rw [query, key])

theorem lse_eq : val_main_v70 (F := Ideal) x0 x1 x4 x7 = refLse (val_main_v62 (F := Ideal) x0 x1 x4 x7) := rfl
theorem avg_eq : val_main_v77 (F := Ideal) x0 x1 x4 x7 = refAvg (val_main_v62 (F := Ideal) x0 x1 x4 x7) (val_main_v76 (F := Ideal) x1 x4) := rfl

/-- An entry of the bias table is one of the bias parameters. -/
theorem bias (h : Fin 4) (j : Fin 129) : ∃ i, val_main_v34 (F := Ideal) x7 (ix2 h j) = x7 i := ⟨_, rfl⟩

/-- The new cache drops the four oldest rows and lays the position last. -/
theorem cache (b : Fin 32) (o : Fin 2) (h : Fin 4) (d : Fin 64) (w : Fin 128) :
    val_main_v85 (F := Ideal) x1 x4 (ix3 b (lane2 o h d) w) = joined x4 x1 b o h d ⟨w.val + 4, by omega⟩ := by
  rw [← cat]
  unfold val_main_v85 val_main_v84 val_main_v83 lane2
  generalize val_main_v38 (F := Ideal) x1 x4 = G
  pointwise
  simp only [Nat.add_comm 4 w.val]
end Cert.Proof.Ref0
end
-- ==== Proof.Ref1.lean ====
module
public import proofs.«01_k».proof.Proof.RefOps
public import proofs.«01_k».proof.Proof.Reach
@[expose] public section
noncomputable section
/-! The reference's group of spacing 4: its scores, values and new cache, entry by entry. -/
namespace Cert.Proof.Ref1
open Cert.ReferenceIdeal Cert.ReferenceIdeal.Gen Cert.ReferenceIdeal.Read Idealize.ShloMosaic Idealize.ShloMosaic.TcCoe Cert.Proof.Softmax Cert.Proof.RefOps Cert.Proof.Reach
set_option maxHeartbeats 4000000
variable (x0 : FVec Ideal S32x8x768 .f32) (x2 : FVec Ideal S32x8x512 .f32) (x5 : FVec Ideal S1x32x512x2x4x64 .f32) (x7 : FVec Ideal S32x12 .f32)

/-- The row that the reference gathers. -/
theorem row (t : Fin 4) (j : Fin 129) : (val_main_call6_v0 (F := Ideal) (ix3 t j 0)).toInt = ((512 + t.val - 4 * j.val : ℕ) : Int) := by
  have e : val_main_call6_v0 (F := Ideal) (ix3 t j 0) = IntOp.minsi 515#32 (IntOp.maxsi 0#32 (8192#32 + BitVec.ofNat 32 t.val - 4#32 * BitVec.ofNat 32 j.val - 7680#32)) := rfl
  rw [e]
  revert t j
  decide +kernel

/-- Every key's position is a real one. -/
theorem ok (t : Fin 4) (j : Fin 129) : val_main_v131 (F := Ideal) (ix2 t j) = 1#1 := by
  have e : val_main_v131 (F := Ideal) (ix2 t j) = IntOp.cmpi .sge (8192#32 + BitVec.ofNat 32 t.val - 4#32 * BitVec.ofNat 32 j.val) 0#32 := rfl
  rw [e]
  revert t j
  decide +kernel

/-- The cache and the new rows, one after the other. -/
theorem cat (b : Fin 32) (r : Fin 516) (o : Fin 2) (h : Fin 4) (d : Fin 64) :
    val_main_v119 (F := Ideal) x2 x5 (ix5 b r o h d) = joined x5 x2 b o h d r := by
  unfold val_main_v119 val_main_v118 val_main_v117 val_main_v116 joined
  pointwise
  simp only [lane2, show o.val * 256 + h.val * 64 + d.val = 256 * o.val + (64 * h.val + d.val) by omega]

theorem gath (b : Fin 32) (t : Fin 4) (j : Fin 129) (o : Fin 2) (h : Fin 4) (d : Fin 64) :
    val_main_v135 (F := Ideal) x2 x5 (ix6 b t j o h d) = kvOf x5 x2 b o h d (reach 4 512 t j) := by
  have hr : 512 + t.val - 4 * j.val < 516 := by omega
  rw [← joined_reach (dil := 4) (W := 512) (by decide) (by decide) x5 x2 b o h d t j ⟨_, hr⟩ rfl, ← cat]
  exact kv_gather _ _ _ b t j o h d ⟨_, hr⟩ (row t j)

theorem key (b : Fin 32) (t : Fin 4) (j : Fin 129) (h : Fin 4) (d : Fin 64) :
    val_main_v137 (F := Ideal) x2 x5 (ix5 b t j h d) = kvOf x5 x2 b 0 h d (reach 4 512 t j) := by
  rw [← gath]
  unfold val_main_v137 val_main_v136
  generalize val_main_v135 (F := Ideal) x2 x5 = G
  pointwise

theorem val (b : Fin 32) (t : Fin 4) (j : Fin 129) (h : Fin 4) (d : Fin 64) :
    val_main_v157 (F := Ideal) x2 x5 (ix5 b t j h d) = kvOf x5 x2 b 1 h d (reach 4 512 t j) := by
  rw [← gath]
  unfold val_main_v157 val_main_v156
  generalize val_main_v135 (F := Ideal) x2 x5 = G
  pointwise

theorem query (b : Fin 32) (t : Fin 4) (h : Fin 4) (d : Fin 64) :
    val_main_v121 (F := Ideal) x0 (ix4 b t h d) = x0 (ix3 b ⟨t.val, by omega⟩ ⟨256 + (64 * h.val + d.val), by omega⟩) := by
  unfold val_main_v121 val_main_v120 val_main_v4 val_main_v3
  pointwise
  exact congrArg (fun y => x0 (ix3 b ⟨t.val, by omega⟩ y)) (Fin.ext (by simp only; omega))

theorem score (b : Fin 32) (h t : Fin 4) (j : Fin 129) :
    val_main_v143 (F := Ideal) x0 x2 x5 x7 (ix4 b h t j)
      = (∑ d : Fin 64, x0 (ix3 b ⟨t.val, by omega⟩ ⟨256 + (64 * h.val + d.val), by omega⟩) * kvOf x5 x2 b 0 h d (reach 4 512 t j))
        + val_main_v115 (F := Ideal) x7 (ix2 h j) := by
  have e : val_main_v143 (F := Ideal) x0 x2 x5 x7 = refScore (val_main_v121 (F := Ideal) x0) (val_main_v137 (F := Ideal) x2 x5) (val_main_v115 (F := Ideal) x7) (val_main_v131 (F := Ideal)) := rfl
  rw [e, refScore_apply _ _ _ _ b h t j (ok t j)]
  exact congrArg (· + _) (Finset.sum_congr rfl fun d _ => by rw [query, key])

theorem lse_eq : val_main_v151 (F := Ideal) x0 x2 x5 x7 = refLse (val_main_v143 (F := Ideal) x0 x2 x5 x7) := rfl
theorem avg_eq : val_main_v158 (F := Ideal) x0 x2 x5 x7 = refAvg (val_main_v143 (F := Ideal) x0 x2 x5 x7) (val_main_v157 (F := Ideal) x2 x5) := rfl

/-- An entry of the bias table is one of the bias parameters. -/
theorem bias (h : Fin 4) (j : Fin 129) : ∃ i, val_main_v115 (F := Ideal) x7 (ix2 h j) = x7 i := ⟨_, rfl⟩

/-- The new cache drops the four oldest rows and lays the position last. -/
theorem cache (b : Fin 32) (o : Fin 2) (h : Fin 4) (d : Fin 64) (w : Fin 512) :
    val_main_v166 (F := Ideal) x2 x5 (ix3 b (lane2 o h d) w) = joined x5 x2 b o h d ⟨w.val + 4, by omega⟩ := by
  rw [← cat]
  unfold val_main_v166 val_main_v165 val_main_v164 lane2
  generalize val_main_v119 (F := Ideal) x2 x5 = G
  pointwise
  simp only [Nat.add_comm 4 w.val]
end Cert.Proof.Ref1
end
-- ==== Proof.Ref2.lean ====
module
public import proofs.«01_k».proof.Proof.RefOps
public import proofs.«01_k».proof.Proof.Reach
@[expose] public section
noncomputable section
/-! The reference's group of spacing 16: its scores, values and new cache, entry by entry. -/
namespace Cert.Proof.Ref2
open Cert.ReferenceIdeal Cert.ReferenceIdeal.Gen Cert.ReferenceIdeal.Read Idealize.ShloMosaic Idealize.ShloMosaic.TcCoe Cert.Proof.Softmax Cert.Proof.RefOps Cert.Proof.Reach
set_option maxHeartbeats 4000000
variable (x0 : FVec Ideal S32x8x768 .f32) (x3 : FVec Ideal S32x8x512 .f32) (x6 : FVec Ideal S1x32x2048x2x4x64 .f32) (x7 : FVec Ideal S32x12 .f32)

/-- The row that the reference gathers. -/
theorem row (t : Fin 4) (j : Fin 129) : (val_main_call10_v0 (F := Ideal) (ix3 t j 0)).toInt = ((2048 + t.val - 16 * j.val : ℕ) : Int) := by
  have e : val_main_call10_v0 (F := Ideal) (ix3 t j 0) = IntOp.minsi 2051#32 (IntOp.maxsi 0#32 (8192#32 + BitVec.ofNat 32 t.val - 16#32 * BitVec.ofNat 32 j.val - 6144#32)) := rfl
  rw [e]
  revert t j
  decide +kernel

/-- Every key's position is a real one. -/
theorem ok (t : Fin 4) (j : Fin 129) : val_main_v212 (F := Ideal) (ix2 t j) = 1#1 := by
  have e : val_main_v212 (F := Ideal) (ix2 t j) = IntOp.cmpi .sge (8192#32 + BitVec.ofNat 32 t.val - 16#32 * BitVec.ofNat 32 j.val) 0#32 := rfl
  rw [e]
  revert t j
  decide +kernel

/-- The cache and the new rows, one after the other. -/
theorem cat (b : Fin 32) (r : Fin 2052) (o : Fin 2) (h : Fin 4) (d : Fin 64) :
    val_main_v200 (F := Ideal) x3 x6 (ix5 b r o h d) = joined x6 x3 b o h d r := by
  unfold val_main_v200 val_main_v199 val_main_v198 val_main_v197 joined
  pointwise
  simp only [lane2, show o.val * 256 + h.val * 64 + d.val = 256 * o.val + (64 * h.val + d.val) by omega]

theorem gath (b : Fin 32) (t : Fin 4) (j : Fin 129) (o : Fin 2) (h : Fin 4) (d : Fin 64) :
    val_main_v216 (F := Ideal) x3 x6 (ix6 b t j o h d) = kvOf x6 x3 b o h d (reach 16 2048 t j) := by
  have hr : 2048 + t.val - 16 * j.val < 2052 := by omega
  rw [← joined_reach (dil := 16) (W := 2048) (by decide) (by decide) x6 x3 b o h d t j ⟨_, hr⟩ rfl, ← cat]
  exact kv_gather _ _ _ b t j o h d ⟨_, hr⟩ (row t j)

theorem key (b : Fin 32) (t : Fin 4) (j : Fin 129) (h : Fin 4) (d : Fin 64) :
    val_main_v218 (F := Ideal) x3 x6 (ix5 b t j h d) = kvOf x6 x3 b 0 h d (reach 16 2048 t j) := by
  rw [← gath]
  unfold val_main_v218 val_main_v217
  generalize val_main_v216 (F := Ideal) x3 x6 = G
  pointwise

theorem val (b : Fin 32) (t : Fin 4) (j : Fin 129) (h : Fin 4) (d : Fin 64) :
    val_main_v238 (F := Ideal) x3 x6 (ix5 b t j h d) = kvOf x6 x3 b 1 h d (reach 16 2048 t j) := by
  rw [← gath]
  unfold val_main_v238 val_main_v237
  generalize val_main_v216 (F := Ideal) x3 x6 = G
  pointwise

theorem query (b : Fin 32) (t : Fin 4) (h : Fin 4) (d : Fin 64) :
    val_main_v202 (F := Ideal) x0 (ix4 b t h d) = x0 (ix3 b ⟨t.val, by omega⟩ ⟨512 + (64 * h.val + d.val), by omega⟩) := by
  unfold val_main_v202 val_main_v201 val_main_v4 val_main_v3
  pointwise
  exact congrArg (fun y => x0 (ix3 b ⟨t.val, by omega⟩ y)) (Fin.ext (by simp only; omega))

theorem score (b : Fin 32) (h t : Fin 4) (j : Fin 129) :
    val_main_v224 (F := Ideal) x0 x3 x6 x7 (ix4 b h t j)
      = (∑ d : Fin 64, x0 (ix3 b ⟨t.val, by omega⟩ ⟨512 + (64 * h.val + d.val), by omega⟩) * kvOf x6 x3 b 0 h d (reach 16 2048 t j))
        + val_main_v196 (F := Ideal) x7 (ix2 h j) := by
  have e : val_main_v224 (F := Ideal) x0 x3 x6 x7 = refScore (val_main_v202 (F := Ideal) x0) (val_main_v218 (F := Ideal) x3 x6) (val_main_v196 (F := Ideal) x7) (val_main_v212 (F := Ideal)) := rfl
  rw [e, refScore_apply _ _ _ _ b h t j (ok t j)]
  exact congrArg (· + _) (Finset.sum_congr rfl fun d _ => by rw [query, key])

theorem lse_eq : val_main_v232 (F := Ideal) x0 x3 x6 x7 = refLse (val_main_v224 (F := Ideal) x0 x3 x6 x7) := rfl
theorem avg_eq : val_main_v239 (F := Ideal) x0 x3 x6 x7 = refAvg (val_main_v224 (F := Ideal) x0 x3 x6 x7) (val_main_v238 (F := Ideal) x3 x6) := rfl

/-- An entry of the bias table is one of the bias parameters. -/
theorem bias (h : Fin 4) (j : Fin 129) : ∃ i, val_main_v196 (F := Ideal) x7 (ix2 h j) = x7 i := ⟨_, rfl⟩

/-- The new cache drops the four oldest rows and lays the position last. -/
theorem cache (b : Fin 32) (o : Fin 2) (h : Fin 4) (d : Fin 64) (w : Fin 2048) :
    val_main_v247 (F := Ideal) x3 x6 (ix3 b (lane2 o h d) w) = joined x6 x3 b o h d ⟨w.val + 4, by omega⟩ := by
  rw [← cat]
  unfold val_main_v247 val_main_v246 val_main_v245 lane2
  generalize val_main_v200 (F := Ideal) x3 x6 = G
  pointwise
  simp only [Nat.add_comm 4 w.val]
end Cert.Proof.Ref2
end
-- ==== Proof.RefOut.lean ====
module
public import proofs.«01_k».proof.Proof.Gen.ReferenceIdeal.Read
public import Idealize.ShloMosaic.Lib.Pointwise
@[expose] public section
noncomputable section
/-! The reference's two padded results at a step's row: the three groups' averages, and their log-sum-exps, side by side. -/
namespace Cert.Proof.RefOut
open Cert.ReferenceIdeal Cert.ReferenceIdeal.Gen Cert.ReferenceIdeal.Read Idealize.ShloMosaic Idealize.ShloMosaic.TcCoe
set_option maxHeartbeats 4000000
variable (x0 : FVec Ideal S32x8x768 .f32) (x1 x2 x3 : FVec Ideal S32x8x512 .f32) (x4 : FVec Ideal S1x32x128x2x4x64 .f32)
  (x5 : FVec Ideal S1x32x512x2x4x64 .f32) (x6 : FVec Ideal S1x32x2048x2x4x64 .f32) (x7 : FVec Ideal S32x12 .f32) (b : Fin 32) (h t : Fin 4) (d : Fin 64)

theorem avg0 : val_main_v249 (F := Ideal) x0 x1 x2 x3 x4 x5 x6 x7 (ix3 b ⟨t.val, by omega⟩ ⟨256 * 0 + (64 * h.val + d.val), by omega⟩)
    = val_main_v77 (F := Ideal) x0 x1 x4 x7 (ix4 b t h d) := by
  unfold val_main_v249 val_main_v248 val_main_v78 val_main_v159 val_main_v240
  generalize val_main_v77 (F := Ideal) x0 x1 x4 x7 = A
  generalize val_main_v158 (F := Ideal) x0 x2 x5 x7 = B
  generalize val_main_v239 (F := Ideal) x0 x3 x6 x7 = C
  pointwise
  rw [dif_pos (by omega), dif_pos (by omega)]

theorem lse0 : val_main_v251 (F := Ideal) x0 x1 x2 x3 x4 x5 x6 x7 (ix3 b ⟨t.val, by omega⟩ ⟨256 * 0 + (64 * h.val + d.val), by omega⟩)
    = val_main_v70 (F := Ideal) x0 x1 x4 x7 (ix3 b h t) := by
  unfold val_main_v251 val_main_v250 val_main_v82 val_main_v163 val_main_v244 val_main_v81 val_main_v162 val_main_v243 val_main_v80 val_main_v161 val_main_v242 val_main_v79 val_main_v160 val_main_v241
  generalize val_main_v70 (F := Ideal) x0 x1 x4 x7 = A
  generalize val_main_v151 (F := Ideal) x0 x2 x5 x7 = B
  generalize val_main_v232 (F := Ideal) x0 x3 x6 x7 = C
  pointwise
  rw [dif_pos (by omega), dif_pos (by omega)]

theorem avg1 : val_main_v249 (F := Ideal) x0 x1 x2 x3 x4 x5 x6 x7 (ix3 b ⟨t.val, by omega⟩ ⟨256 * 1 + (64 * h.val + d.val), by omega⟩)
    = val_main_v158 (F := Ideal) x0 x2 x5 x7 (ix4 b t h d) := by
  unfold val_main_v249 val_main_v248 val_main_v78 val_main_v159 val_main_v240
  generalize val_main_v77 (F := Ideal) x0 x1 x4 x7 = A
  generalize val_main_v158 (F := Ideal) x0 x2 x5 x7 = B
  generalize val_main_v239 (F := Ideal) x0 x3 x6 x7 = C
  pointwise
  rw [dif_pos (by omega), dif_pos (by omega)]

theorem lse1 : val_main_v251 (F := Ideal) x0 x1 x2 x3 x4 x5 x6 x7 (ix3 b ⟨t.val, by omega⟩ ⟨256 * 1 + (64 * h.val + d.val), by omega⟩)
    = val_main_v151 (F := Ideal) x0 x2 x5 x7 (ix3 b h t) := by
  unfold val_main_v251 val_main_v250 val_main_v82 val_main_v163 val_main_v244 val_main_v81 val_main_v162 val_main_v243 val_main_v80 val_main_v161 val_main_v242 val_main_v79 val_main_v160 val_main_v241
  generalize val_main_v70 (F := Ideal) x0 x1 x4 x7 = A
  generalize val_main_v151 (F := Ideal) x0 x2 x5 x7 = B
  generalize val_main_v232 (F := Ideal) x0 x3 x6 x7 = C
  pointwise
  rw [dif_pos (by omega), dif_pos (by omega)]

theorem avg2 : val_main_v249 (F := Ideal) x0 x1 x2 x3 x4 x5 x6 x7 (ix3 b ⟨t.val, by omega⟩ ⟨256 * 2 + (64 * h.val + d.val), by omega⟩)
    = val_main_v239 (F := Ideal) x0 x3 x6 x7 (ix4 b t h d) := by
  unfold val_main_v249 val_main_v248 val_main_v78 val_main_v159 val_main_v240
  generalize val_main_v77 (F := Ideal) x0 x1 x4 x7 = A
  generalize val_main_v158 (F := Ideal) x0 x2 x5 x7 = B
  generalize val_main_v239 (F := Ideal) x0 x3 x6 x7 = C
  pointwise
  rw [dif_pos (by omega), dif_neg (by omega), dif_neg (by omega)]
  exact congrArg₂ (fun y z => C (ix4 b t y z)) (Fin.ext (by show (512 + (64 * h.val + d.val) - 256 - 256) / 64 = h.val; omega)) (Fin.ext (by show (512 + (64 * h.val + d.val) - 256 - 256) % 64 = d.val; omega))

theorem lse2 : val_main_v251 (F := Ideal) x0 x1 x2 x3 x4 x5 x6 x7 (ix3 b ⟨t.val, by omega⟩ ⟨256 * 2 + (64 * h.val + d.val), by omega⟩)
    = val_main_v232 (F := Ideal) x0 x3 x6 x7 (ix3 b h t) := by
  unfold val_main_v251 val_main_v250 val_main_v82 val_main_v163 val_main_v244 val_main_v81 val_main_v162 val_main_v243 val_main_v80 val_main_v161 val_main_v242 val_main_v79 val_main_v160 val_main_v241
  generalize val_main_v70 (F := Ideal) x0 x1 x4 x7 = A
  generalize val_main_v151 (F := Ideal) x0 x2 x5 x7 = B
  generalize val_main_v232 (F := Ideal) x0 x3 x6 x7 = C
  pointwise
  rw [dif_pos (by omega), dif_neg (by omega), dif_neg (by omega)]
  exact congrArg (fun y => C (ix3 b y t)) (Fin.ext (by show (512 + (64 * h.val + d.val) - 256 - 256) / 64 = h.val; omega))
end Cert.Proof.RefOut
end
-- ==== Proof.Same.lean ====
module
public import proofs.«01_k».proof.Proof.Group
public import proofs.«01_k».proof.Proof.Bias
public import proofs.«01_k».proof.Proof.Arrays
public import proofs.«01_k».proof.Proof.Ref0
public import proofs.«01_k».proof.Proof.Ref1
public import proofs.«01_k».proof.Proof.Ref2
public import proofs.«01_k».proof.Proof.RefOut
@[expose] public section
noncomputable section
/-! The five arrays that the launch writes, entry by entry, are the reference's. -/
namespace Cert.Proof.Same
open Cert.KernelIdeal Cert.KernelIdeal.Gen Cert.KernelIdeal.Value Idealize.ShloMosaic Idealize.ShloMosaic.TcCoe
open Cert.Proof.Host Cert.Proof.Arrays Cert.Proof.Reach Cert.ReferenceIdeal.Read
set_option maxHeartbeats 4000000
variable (m : (ℓ : Loc nD τ sig) → Buf (Elt Ideal) ℓ) (c : Dev nD)

/-! The arguments. -/
abbrev A0 : FVec Ideal S32x8x768 .f32 := m ((c.tc : Thread nD τ).loc main_arg0)
abbrev A1 : FVec Ideal S32x8x512 .f32 := m ((c.tc : Thread nD τ).loc main_arg1)
abbrev A2 : FVec Ideal S32x8x512 .f32 := m ((c.tc : Thread nD τ).loc main_arg2)
abbrev A3 : FVec Ideal S32x8x512 .f32 := m ((c.tc : Thread nD τ).loc main_arg3)
abbrev A4 : FVec Ideal S1x32x128x2x4x64 .f32 := m ((c.tc : Thread nD τ).loc main_arg4)
abbrev A5 : FVec Ideal S1x32x512x2x4x64 .f32 := m ((c.tc : Thread nD τ).loc main_arg5)
abbrev A6 : FVec Ideal S1x32x2048x2x4x64 .f32 := m ((c.tc : Thread nD τ).loc main_arg6)
abbrev A7 : FVec Ideal S32x12 .f32 := m ((c.tc : Thread nD τ).loc main_arg7)

/-- Every argument is an array of real numbers. -/
structure Real : Prop where
  r0 : ∃ r : _ → ℝ, ∀ i, A0 m c i = (r i : EReal)
  r1 : ∃ r : _ → ℝ, ∀ i, A1 m c i = (r i : EReal)
  r2 : ∃ r : _ → ℝ, ∀ i, A2 m c i = (r i : EReal)
  r3 : ∃ r : _ → ℝ, ∀ i, A3 m c i = (r i : EReal)
  r4 : ∃ r : _ → ℝ, ∀ i, A4 m c i = (r i : EReal)
  r5 : ∃ r : _ → ℝ, ∀ i, A5 m c i = (r i : EReal)
  r6 : ∃ r : _ → ℝ, ∀ i, A6 m c i = (r i : EReal)
  r7 : ∃ r : _ → ℝ, ∀ i, A7 m c i = (r i : EReal)

variable (H : Real m c) (b : Fin 32)
include H

theorem blocks0 : Group.Blocks (dil := 1) 0 b (iblk m c 0 (pt b)) (iblk m c 1 (pt b)) (iblk m c 4 (pt b)) (iblk m c 7 (pt b)) (iblk m c 10 (pt b))
    (A0 m c) (A1 m c) (A4 m c) (val_main_v34 (F := Ideal) (A7 m c)) where
  query k l := (in0 m c b k l).trans (congrFun (V_main_arg0 m c) _)
  new k l := (in1 m c b k l).trans (congrFun (V_main_arg1 m c) _)
  cached o h d w := (in4 m c b _ w).trans ((tcache0 m c b o h d w).trans (congrFun (V_main_arg4 m c) _))
  tcol h t w := by rw [in7, tc0, Bias.bias0]
  tnew h t u := by rw [in10, tabn0, tn0, Bias.bias0]
  rq := H.r0
  rn := H.r1
  rc := H.r4
  rb h j := by
    obtain ⟨i, e⟩ := Ref0.bias (A7 m c) h j
    obtain ⟨r, hr⟩ := H.r7
    exact ⟨r i, e.trans (hr i)⟩

theorem avg0 (h t : Fin 4) (d : Fin 64) : (dats m 0 c).arrAt 11 cfg0.N (ix3 b ⟨t.val, by omega⟩ ⟨256 * 0 + (64 * h.val + d.val), by omega⟩)
    = val_main_v249 (F := Ideal) (A0 m c) (A1 m c) (A2 m c) (A3 m c) (A4 m c) (A5 m c) (A6 m c) (A7 m c) (ix3 b ⟨t.val, by omega⟩ ⟨256 * 0 + (64 * h.val + d.val), by omega⟩) := by
  rw [out11, RefOut.avg0, Ref0.avg_eq]
  exact (Block.o0 _ _ _ _ _ _ _ _ _ _ _ h ⟨t.val, by omega⟩ d).trans (Group.both (by decide) (by decide) 0 b _ _ _ _ _ _ _ _ _ (blocks0 m c H b) h t (val_main_v62 (F := Ideal) (A0 m c) (A1 m c) (A4 m c) (A7 m c)) (val_main_v76 (F := Ideal) (A1 m c) (A4 m c)) (fun j => Ref0.score (A0 m c) (A1 m c) (A4 m c) (A7 m c) b h t j) d (fun j => Ref0.val (A1 m c) (A4 m c) b t j h d)).2

theorem lse0 (h t : Fin 4) (d : Fin 64) : (dats m 0 c).arrAt 12 cfg0.N (ix3 b ⟨t.val, by omega⟩ ⟨256 * 0 + (64 * h.val + d.val), by omega⟩)
    = val_main_v251 (F := Ideal) (A0 m c) (A1 m c) (A2 m c) (A3 m c) (A4 m c) (A5 m c) (A6 m c) (A7 m c) (ix3 b ⟨t.val, by omega⟩ ⟨256 * 0 + (64 * h.val + d.val), by omega⟩) := by
  rw [out12, RefOut.lse0, Ref0.lse_eq]
  exact (Block.l0 _ _ _ _ _ _ _ _ _ _ _ h ⟨t.val, by omega⟩ d).trans (Group.both (by decide) (by decide) 0 b _ _ _ _ _ _ _ _ _ (blocks0 m c H b) h t (val_main_v62 (F := Ideal) (A0 m c) (A1 m c) (A4 m c) (A7 m c)) (val_main_v76 (F := Ideal) (A1 m c) (A4 m c)) (fun j => Ref0.score (A0 m c) (A1 m c) (A4 m c) (A7 m c) b h t j) d (fun j => Ref0.val (A1 m c) (A4 m c) b t j h d)).1

theorem cache0 (o : Fin 2) (h : Fin 4) (d : Fin 64) (w : Fin 128) : (dats m 0 c).arrAt 13 cfg0.N (ix3 b (lane2 o h d) w)
    = val_main_v85 (F := Ideal) (A1 m c) (A4 m c) (ix3 b (lane2 o h d) w) := by
  rw [out13, Ref0.cache]
  exact (Tiles.cache0 _ _ _ _ _ _ _ _ _ _ _ (Group.real_new _ _ _ _ _ _ _ _ _ _ _ (blocks0 m c H b)) _ _).trans
    (Group.cache (dil := 1) rfl b _ _ _ _ (blocks0 m c H b).new (blocks0 m c H b).cached o h d w)

theorem blocks1 : Group.Blocks (dil := 4) 1 b (iblk m c 0 (pt b)) (iblk m c 2 (pt b)) (iblk m c 5 (pt b)) (iblk m c 8 (pt b)) (iblk m c 10 (pt b))
    (A0 m c) (A2 m c) (A5 m c) (val_main_v115 (F := Ideal) (A7 m c)) where
  query k l := (in0 m c b k l).trans (congrFun (V_main_arg0 m c) _)
  new k l := (in2 m c b k l).trans (congrFun (V_main_arg2 m c) _)
  cached o h d w := (in5 m c b _ w).trans ((tcache1 m c b o h d w).trans (congrFun (V_main_arg5 m c) _))
  tcol h t w := by rw [in8, tc1, Bias.bias1]
  tnew h t u := by rw [in10, tabn1, tn1, Bias.bias1]
  rq := H.r0
  rn := H.r2
  rc := H.r5
  rb h j := by
    obtain ⟨i, e⟩ := Ref1.bias (A7 m c) h j
    obtain ⟨r, hr⟩ := H.r7
    exact ⟨r i, e.trans (hr i)⟩

theorem avg1 (h t : Fin 4) (d : Fin 64) : (dats m 0 c).arrAt 11 cfg0.N (ix3 b ⟨t.val, by omega⟩ ⟨256 * 1 + (64 * h.val + d.val), by omega⟩)
    = val_main_v249 (F := Ideal) (A0 m c) (A1 m c) (A2 m c) (A3 m c) (A4 m c) (A5 m c) (A6 m c) (A7 m c) (ix3 b ⟨t.val, by omega⟩ ⟨256 * 1 + (64 * h.val + d.val), by omega⟩) := by
  rw [out11, RefOut.avg1, Ref1.avg_eq]
  exact (Block.o1 _ _ _ _ _ _ _ _ _ _ _ h ⟨t.val, by omega⟩ d).trans (Group.both (by decide) (by decide) 1 b _ _ _ _ _ _ _ _ _ (blocks1 m c H b) h t (val_main_v143 (F := Ideal) (A0 m c) (A2 m c) (A5 m c) (A7 m c)) (val_main_v157 (F := Ideal) (A2 m c) (A5 m c)) (fun j => Ref1.score (A0 m c) (A2 m c) (A5 m c) (A7 m c) b h t j) d (fun j => Ref1.val (A2 m c) (A5 m c) b t j h d)).2

theorem lse1 (h t : Fin 4) (d : Fin 64) : (dats m 0 c).arrAt 12 cfg0.N (ix3 b ⟨t.val, by omega⟩ ⟨256 * 1 + (64 * h.val + d.val), by omega⟩)
    = val_main_v251 (F := Ideal) (A0 m c) (A1 m c) (A2 m c) (A3 m c) (A4 m c) (A5 m c) (A6 m c) (A7 m c) (ix3 b ⟨t.val, by omega⟩ ⟨256 * 1 + (64 * h.val + d.val), by omega⟩) := by
  rw [out12, RefOut.lse1, Ref1.lse_eq]
  exact (Block.l1 _ _ _ _ _ _ _ _ _ _ _ h ⟨t.val, by omega⟩ d).trans (Group.both (by decide) (by decide) 1 b _ _ _ _ _ _ _ _ _ (blocks1 m c H b) h t (val_main_v143 (F := Ideal) (A0 m c) (A2 m c) (A5 m c) (A7 m c)) (val_main_v157 (F := Ideal) (A2 m c) (A5 m c)) (fun j => Ref1.score (A0 m c) (A2 m c) (A5 m c) (A7 m c) b h t j) d (fun j => Ref1.val (A2 m c) (A5 m c) b t j h d)).1

theorem cache1 (o : Fin 2) (h : Fin 4) (d : Fin 64) (w : Fin 512) : (dats m 0 c).arrAt 14 cfg0.N (ix3 b (lane2 o h d) w)
    = val_main_v166 (F := Ideal) (A2 m c) (A5 m c) (ix3 b (lane2 o h d) w) := by
  rw [out14, Ref1.cache]
  exact (Tiles.cache1 _ _ _ _ _ _ _ _ _ _ _ (Group.real_new _ _ _ _ _ _ _ _ _ _ _ (blocks1 m c H b)) _ _).trans
    (Group.cache (dil := 4) rfl b _ _ _ _ (blocks1 m c H b).new (blocks1 m c H b).cached o h d w)

theorem blocks2 : Group.Blocks (dil := 16) 2 b (iblk m c 0 (pt b)) (iblk m c 3 (pt b)) (iblk m c 6 (pt b)) (iblk m c 9 (pt b)) (iblk m c 10 (pt b))
    (A0 m c) (A3 m c) (A6 m c) (val_main_v196 (F := Ideal) (A7 m c)) where
  query k l := (in0 m c b k l).trans (congrFun (V_main_arg0 m c) _)
  new k l := (in3 m c b k l).trans (congrFun (V_main_arg3 m c) _)
  cached o h d w := (in6 m c b _ w).trans ((tcache2 m c b o h d w).trans (congrFun (V_main_arg6 m c) _))
  tcol h t w := by rw [in9, tc2, Bias.bias2]
  tnew h t u := by rw [in10, tabn2, tn2, Bias.bias2]
  rq := H.r0
  rn := H.r3
  rc := H.r6
  rb h j := by
    obtain ⟨i, e⟩ := Ref2.bias (A7 m c) h j
    obtain ⟨r, hr⟩ := H.r7
    exact ⟨r i, e.trans (hr i)⟩

theorem avg2 (h t : Fin 4) (d : Fin 64) : (dats m 0 c).arrAt 11 cfg0.N (ix3 b ⟨t.val, by omega⟩ ⟨256 * 2 + (64 * h.val + d.val), by omega⟩)
    = val_main_v249 (F := Ideal) (A0 m c) (A1 m c) (A2 m c) (A3 m c) (A4 m c) (A5 m c) (A6 m c) (A7 m c) (ix3 b ⟨t.val, by omega⟩ ⟨256 * 2 + (64 * h.val + d.val), by omega⟩) := by
  rw [out11, RefOut.avg2, Ref2.avg_eq]
  exact (Block.o2 _ _ _ _ _ _ _ _ _ _ _ h ⟨t.val, by omega⟩ d).trans (Group.both (by decide) (by decide) 2 b _ _ _ _ _ _ _ _ _ (blocks2 m c H b) h t (val_main_v224 (F := Ideal) (A0 m c) (A3 m c) (A6 m c) (A7 m c)) (val_main_v238 (F := Ideal) (A3 m c) (A6 m c)) (fun j => Ref2.score (A0 m c) (A3 m c) (A6 m c) (A7 m c) b h t j) d (fun j => Ref2.val (A3 m c) (A6 m c) b t j h d)).2

theorem lse2 (h t : Fin 4) (d : Fin 64) : (dats m 0 c).arrAt 12 cfg0.N (ix3 b ⟨t.val, by omega⟩ ⟨256 * 2 + (64 * h.val + d.val), by omega⟩)
    = val_main_v251 (F := Ideal) (A0 m c) (A1 m c) (A2 m c) (A3 m c) (A4 m c) (A5 m c) (A6 m c) (A7 m c) (ix3 b ⟨t.val, by omega⟩ ⟨256 * 2 + (64 * h.val + d.val), by omega⟩) := by
  rw [out12, RefOut.lse2, Ref2.lse_eq]
  exact (Block.l2 _ _ _ _ _ _ _ _ _ _ _ h ⟨t.val, by omega⟩ d).trans (Group.both (by decide) (by decide) 2 b _ _ _ _ _ _ _ _ _ (blocks2 m c H b) h t (val_main_v224 (F := Ideal) (A0 m c) (A3 m c) (A6 m c) (A7 m c)) (val_main_v238 (F := Ideal) (A3 m c) (A6 m c)) (fun j => Ref2.score (A0 m c) (A3 m c) (A6 m c) (A7 m c) b h t j) d (fun j => Ref2.val (A3 m c) (A6 m c) b t j h d)).1

theorem cache2 (o : Fin 2) (h : Fin 4) (d : Fin 64) (w : Fin 2048) : (dats m 0 c).arrAt 15 cfg0.N (ix3 b (lane2 o h d) w)
    = val_main_v247 (F := Ideal) (A3 m c) (A6 m c) (ix3 b (lane2 o h d) w) := by
  rw [out15, Ref2.cache]
  exact (Tiles.cache2 _ _ _ _ _ _ _ _ _ _ _ (Group.real_new _ _ _ _ _ _ _ _ _ _ _ (blocks2 m c H b)) _ _).trans
    (Group.cache (dil := 16) rfl b _ _ _ _ (blocks2 m c H b).new (blocks2 m c H b).cached o h d w)

/-! At any index. -/
omit H in
theorem lane_split (k : Fin 768) : ∃ (g : Fin 3) (h : Fin 4) (d : Fin 64), k.val = 256 * g.val + (64 * h.val + d.val) :=
  ⟨⟨k.val / 256, by omega⟩, ⟨k.val % 256 / 64, by omega⟩, ⟨k.val % 64, by omega⟩, by simp only; omega⟩

omit H in
theorem lane2_split (k : Fin 512) : ∃ (o : Fin 2) (h : Fin 4) (d : Fin 64), k = lane2 o h d :=
  ⟨⟨k.val / 256, by omega⟩, ⟨k.val % 256 / 64, by omega⟩, ⟨k.val % 64, by omega⟩, Fin.ext (by simp only [lane2]; omega)⟩

/-- The averages, at a step's row. -/
theorem avg (k : Fin 8) (l : Fin 768) (hk : k.val < 4) : (dats m 0 c).arrAt 11 cfg0.N (ix3 b k l)
    = val_main_v249 (F := Ideal) (A0 m c) (A1 m c) (A2 m c) (A3 m c) (A4 m c) (A5 m c) (A6 m c) (A7 m c) (ix3 b k l) := by
  obtain ⟨g, h, d, e⟩ := lane_split l
  match g with
  | 0 => rw [show l = ⟨256 * 0 + (64 * h.val + d.val), by omega⟩ from Fin.ext e]
         exact avg0 m c H b h ⟨k.val, hk⟩ d
  | 1 => rw [show l = ⟨256 * 1 + (64 * h.val + d.val), by omega⟩ from Fin.ext e]
         exact avg1 m c H b h ⟨k.val, hk⟩ d
  | 2 => rw [show l = ⟨256 * 2 + (64 * h.val + d.val), by omega⟩ from Fin.ext e]
         exact avg2 m c H b h ⟨k.val, hk⟩ d

/-- The log-sum-exps, at a step's row. -/
theorem lse (k : Fin 8) (l : Fin 768) (hk : k.val < 4) : (dats m 0 c).arrAt 12 cfg0.N (ix3 b k l)
    = val_main_v251 (F := Ideal) (A0 m c) (A1 m c) (A2 m c) (A3 m c) (A4 m c) (A5 m c) (A6 m c) (A7 m c) (ix3 b k l) := by
  obtain ⟨g, h, d, e⟩ := lane_split l
  match g with
  | 0 => rw [show l = ⟨256 * 0 + (64 * h.val + d.val), by omega⟩ from Fin.ext e]
         exact lse0 m c H b h ⟨k.val, hk⟩ d
  | 1 => rw [show l = ⟨256 * 1 + (64 * h.val + d.val), by omega⟩ from Fin.ext e]
         exact lse1 m c H b h ⟨k.val, hk⟩ d
  | 2 => rw [show l = ⟨256 * 2 + (64 * h.val + d.val), by omega⟩ from Fin.ext e]
         exact lse2 m c H b h ⟨k.val, hk⟩ d

/-- The new cache of group 0. -/
theorem moved0 (k : Fin 512) (w : Fin 128) : (dats m 0 c).arrAt 13 cfg0.N (ix3 b k w)
    = val_main_v85 (F := Ideal) (A1 m c) (A4 m c) (ix3 b k w) := by
  obtain ⟨o, h, d, e⟩ := lane2_split k
  rw [e]
  exact cache0 m c H b o h d w

/-- The new cache of group 1. -/
theorem moved1 (k : Fin 512) (w : Fin 512) : (dats m 0 c).arrAt 14 cfg0.N (ix3 b k w)
    = val_main_v166 (F := Ideal) (A2 m c) (A5 m c) (ix3 b k w) := by
  obtain ⟨o, h, d, e⟩ := lane2_split k
  rw [e]
  exact cache1 m c H b o h d w

/-- The new cache of group 2. -/
theorem moved2 (k : Fin 512) (w : Fin 2048) : (dats m 0 c).arrAt 15 cfg0.N (ix3 b k w)
    = val_main_v247 (F := Ideal) (A3 m c) (A6 m c) (ix3 b k w) := by
  obtain ⟨o, h, d, e⟩ := lane2_split k
  rw [e]
  exact cache2 m c H b o h d w

end Cert.Proof.Same
end
-- ==== Proof.Post.Rows.lean ====
module
public import Idealize.ShloMosaic.Lib.Pipeline.ValueKit
public import Idealize.ShloMosaic.Lib.VecWindow
@[expose] public section
noncomputable section
/-! The buffer of 264 rows that a tile's gate rows pass through: rows 6 and 7 hold the two rows before the tile, rows
    8 to 263 the tile's own. What its shifted windows read, and what its last two rows are. -/
namespace Cert.Proof.Rows
open Idealize.ShloMosaic

variable {α : Type}

/-- The tile's rows `w` moved down by `2 - k` rows, the two rows `q` above them moving in. -/
def shifted (k : Fin 2) (q : (⟨2, ![2, 2816]⟩ : Shape).Idx → α) (w : (⟨2, ![256, 2816]⟩ : Shape).Idx → α) :
    (⟨2, ![256, 2816]⟩ : Shape).Idx → α := fun j =>
  if h : (j 0).val + k.val < 2 then q (ix2 ⟨(j 0).val + k.val, h⟩ (j 1))
  else w (ix2 ⟨(j 0).val + k.val - 2, by have := (j 0).isLt; have := k.isLt; simp at *; omega⟩ (j 1))

/-- The tile's last two rows. -/
def tail (w : (⟨2, ![256, 2816]⟩ : Shape).Idx → α) : (⟨2, ![2, 2816]⟩ : Shape).Idx → α := fun j =>
  w (ix2 ⟨254 + (j 0).val, by have := (j 0).isLt; simp at *; omega⟩ (j 1))

section Reads
variable {Val : EltTy → Type} {sig : RefSig} {κ : Kind} {sp : Space} {e : EltTy}

/-- The place a last write covers reads the written value there. -/
theorem hit {s : Shape} (v : View sig κ sp s e) (f : v.ty.Contents Val) (off size : Fin s.rank → ℕ) (inb : ∀ a, off a + size a ≤ s.size a)
    (w : (Rect.unit off size inb).shape.Idx → Val e) (L : List (View.Piece Val s e)) (x : (Rect.unit off size inb).shape.Idx) (y : s.Idx)
    (h : ∀ a, (y a).val = off a + (x a).val) :
    v.read Val (v.writes Val f ((⟨Rect.unit off size inb, w⟩ : View.Piece Val s e) :: L)) y = w x :=
  View.read_writes_cons_hit_of_coords v f (Rect.unit off size inb) w L x y (fun a => by
    rw [h]; show off a + _ = off a + 1 * _; omega)

/-- A buffer that was last written whole reads what was written. -/
theorem read_full {s : Shape} (v : View sig κ sp s e) (f : v.ty.Contents Val) {off : Fin s.rank → ℕ} (inb : ∀ a, off a + s.size a ≤ s.size a)
    (w : s.Idx → Val e) (L : List (View.Piece Val s e)) :
    v.read Val (v.writes Val f ((⟨Rect.unit off s.size inb, w⟩ : View.Piece Val s e) :: L)) = w :=
  funext fun y => hit v f off s.size inb w L y y (fun a => by have := inb a; omega)

/-- A load through a unit rectangle, at a place. -/
theorem load_at {s : Shape} (v : View sig κ sp s e) (f : v.ty.Contents Val) (off size : Fin s.rank → ℕ) (inb : ∀ a, off a + size a ≤ s.size a)
    (x : (Rect.unit off size inb).shape.Idx) (y : s.Idx) (h : ∀ a, (y a).val = off a + (x a).val) :
    v.readAt Val (Rect.unit off size inb).toLoadRect f x = v.read Val f y := by
  rw [View.readAt_apply]
  exact congrArg _ (funext fun a => Fin.ext (by rw [h]; show off a + 1 * _ = off a + _; omega))

/-- A load of a whole buffer of two or of three axes reads its contents. -/
theorem full2 {n0 n1 : ℕ} (v : View sig κ sp ⟨2, ![n0, n1]⟩ e) (f : v.ty.Contents Val) (i) :
    v.readAt Val (Rect.unit (s := ⟨2, ![n0, n1]⟩) ![0, 0] ![n0, n1] i).toLoadRect f = v.read Val f := View.readAt_full v f i
theorem full3 {n0 n1 n2 : ℕ} (v : View sig κ sp ⟨3, ![n0, n1, n2]⟩ e) (f : v.ty.Contents Val) (i) :
    v.readAt Val (Rect.unit (s := ⟨3, ![n0, n1, n2]⟩) ![0, 0, 0] ![n0, n1, n2] i).toLoadRect f = v.read Val f := View.readAt_full v f i

variable (v : View sig κ sp ⟨2, ![264, 2816]⟩ e) (f : v.ty.Contents Val) (L : List (View.Piece Val ⟨2, ![264, 2816]⟩ e))
  (w : (⟨2, ![256, 2816]⟩ : Shape).Idx → Val e) (q : (⟨2, ![2, 2816]⟩ : Shape).Idx → Val e)

theorem read_shifted (k : Fin 2) {off : Fin 2 → ℕ} (h0 : off 0 = 6 + k.val) (h1 : off 1 = 0) (i6) (i8) (ik)
    (hq : v.readAt Val (Rect.unit (s := ⟨2, ![264, 2816]⟩) ![6, 0] ![2, 2816] i6).toLoadRect (v.writes Val f L) = q) :
    v.readAt Val (Rect.unit (s := ⟨2, ![264, 2816]⟩) off ![256, 2816] ik).toLoadRect
      (v.writes Val f ((⟨Rect.unit (s := ⟨2, ![264, 2816]⟩) ![8, 0] ![256, 2816] i8, w⟩ : View.Piece Val ⟨2, ![264, 2816]⟩ e) :: L)) = shifted k q w := by
  funext j
  have hj : (j 0).val < 256 := (j 0).isLt
  have hj1 : (j 1).val < 2816 := (j 1).isLt
  have hk := k.isLt
  rw [load_at v _ off ![256, 2816] ik j (ix2 ⟨6 + k.val + (j 0).val, by omega⟩ ⟨(j 1).val, hj1⟩)
    (Fin.forall_fin_two.mpr ⟨by rw [h0]; rfl, by rw [h1, Nat.zero_add]; rfl⟩)]
  unfold shifted
  split
  · rename_i h
    refine (View.read_writes_cons_miss_of_axis v f _ L _ (0 : Fin 2) 8 256 rfl rfl rfl
      (Or.inl (by show 6 + k.val + (j 0).val < 8; omega))).trans ?_
    subst hq
    exact (load_at v _ _ _ i6 _ _ (Fin.forall_fin_two.mpr ⟨by show 6 + k.val + (j 0).val = 6 + ((j 0).val + k.val); omega,
      by show (j 1).val = 0 + (j 1).val; omega⟩)).symm
  · rename_i h
    exact hit v f ![8, 0] ![256, 2816] i8 w L _ _ (Fin.forall_fin_two.mpr
      ⟨by show 6 + k.val + (j 0).val = 8 + ((j 0).val + k.val - 2); omega, by show (j 1).val = 0 + (j 1).val; omega⟩)

theorem read6 (i6) (i8) (ik)
    (hq : v.readAt Val (Rect.unit (s := ⟨2, ![264, 2816]⟩) ![6, 0] ![2, 2816] i6).toLoadRect (v.writes Val f L) = q) :
    v.readAt Val (Rect.unit (s := ⟨2, ![264, 2816]⟩) ![6, 0] ![256, 2816] ik).toLoadRect
      (v.writes Val f ((⟨Rect.unit (s := ⟨2, ![264, 2816]⟩) ![8, 0] ![256, 2816] i8, w⟩ : View.Piece Val ⟨2, ![264, 2816]⟩ e) :: L)) = shifted 0 q w :=
  read_shifted v f L w q 0 rfl rfl i6 i8 ik hq
theorem read7 (i6) (i8) (ik)
    (hq : v.readAt Val (Rect.unit (s := ⟨2, ![264, 2816]⟩) ![6, 0] ![2, 2816] i6).toLoadRect (v.writes Val f L) = q) :
    v.readAt Val (Rect.unit (s := ⟨2, ![264, 2816]⟩) ![7, 0] ![256, 2816] ik).toLoadRect
      (v.writes Val f ((⟨Rect.unit (s := ⟨2, ![264, 2816]⟩) ![8, 0] ![256, 2816] i8, w⟩ : View.Piece Val ⟨2, ![264, 2816]⟩ e) :: L)) = shifted 1 q w :=
  read_shifted v f L w q 1 rfl rfl i6 i8 ik hq

theorem read_tail (i8) (ik) :
    v.readAt Val (Rect.unit (s := ⟨2, ![264, 2816]⟩) ![262, 0] ![2, 2816] ik).toLoadRect
      (v.writes Val f ((⟨Rect.unit (s := ⟨2, ![264, 2816]⟩) ![8, 0] ![256, 2816] i8, w⟩ : View.Piece Val ⟨2, ![264, 2816]⟩ e) :: L)) = tail w := by
  funext j
  have hj : (j 0).val < 2 := (j 0).isLt
  have hj1 : (j 1).val < 2816 := (j 1).isLt
  rw [load_at v _ ![262, 0] ![2, 2816] ik j (ix2 ⟨262 + (j 0).val, by omega⟩ ⟨(j 1).val, hj1⟩)
    (Fin.forall_fin_two.mpr ⟨rfl, by show (j 1).val = 0 + (j 1).val; omega⟩)]
  exact hit v f ![8, 0] ![256, 2816] i8 w L _ _ (Fin.forall_fin_two.mpr
      ⟨by show 262 + (j 0).val = 8 + (254 + (j 0).val); omega, by show (j 1).val = 0 + (j 1).val; omega⟩)

theorem read_top (i6) (i6') :
    v.readAt Val (Rect.unit (s := ⟨2, ![264, 2816]⟩) ![6, 0] ![2, 2816] i6).toLoadRect
      (v.writes Val f ((⟨Rect.unit (s := ⟨2, ![264, 2816]⟩) ![6, 0] ![2, 2816] i6', q⟩ : View.Piece Val ⟨2, ![264, 2816]⟩ e) :: L)) = q := by
  funext j
  have hj : (j 0).val < 2 := (j 0).isLt
  have hj1 : (j 1).val < 2816 := (j 1).isLt
  rw [load_at v _ ![6, 0] ![2, 2816] i6 j (ix2 ⟨6 + (j 0).val, by omega⟩ ⟨(j 1).val, hj1⟩)
    (Fin.forall_fin_two.mpr ⟨rfl, by show (j 1).val = 0 + (j 1).val; omega⟩)]
  exact hit v f ![6, 0] ![2, 2816] i6' q L _ _ (Fin.forall_fin_two.mpr ⟨rfl, by show (j 1).val = 0 + (j 1).val; omega⟩)

end Reads
end Cert.Proof.Rows
-- ==== Proof.Finite.lean ====
module
public import proofs.«01_k».proof.Defs
public import proofs.«01_k».proof.Proof.Pays
public import Idealize.ShloMosaic.Lib.ReduceAll
@[expose] public section
noncomputable section
/-! What the precondition and the mask say: every argument is an array of real numbers, and a compared row is one of the
    step's four. -/
namespace Cert.Proof.Finite
open Idealize.ShloMosaic
set_option maxHeartbeats 4000000

theorem pinf : Ideal.ofBits .f32 0x7F800000#32 = ⊤ := by
  simp [Ideal.ofBits, Ideal.ieee]

/-- An extended real whose absolute value is below infinity is a real number. -/
theorem real_of (x : EReal) (h : Ideal.cmp .olt (max x (-x)) (Ideal.ofBits .f32 0x7F800000#32) = 1#1) : ∃ r : ℝ, x = r := by
  rw [pinf] at h
  induction x with
  | bot => simp [Ideal.cmp] at h
  | top => simp [Ideal.cmp] at h
  | coe r => exact ⟨r, rfl⟩

theorem all_real {S : Shape} {axes : List (Fin S.rank)} (x : FVec Ideal S .f32) (hb : (⟨0, ![]⟩ : Shape).BroadcastsInDim S (![] : Fin 0 → Fin S.rank))
    (h : S.ReducesTo axes ⟨0, ![]⟩) (hu : 0 < (⟨0, ![]⟩ : Shape).numel) (j : (⟨0, ![]⟩ : Shape).Idx)
    (e : Host.reduce IntOp.andi (cmpf .olt (Host.absf x) (broadcastInDim S ![] hb (constant ⟨0, ![]⟩ .f32 0x7F800000#32))) (constantI ⟨0, ![]⟩ 1 1#1) h hu j = 1#1) :
    ∃ r : S.Idx → ℝ, ∀ i, x i = (r i : EReal) :=
  Classical.skolem.1 fun i => real_of (x i) (Host.reduce_andi_all _ _ _ _ j e i)

variable (x0 : FVec Ideal Cert.Pre_finite.S32x8x768 .f32) (x1 x2 x3 : FVec Ideal Cert.Pre_finite.S32x8x512 .f32)
    (x4 : FVec Ideal Cert.Pre_finite.S1x32x128x2x4x64 .f32) (x5 : FVec Ideal Cert.Pre_finite.S1x32x512x2x4x64 .f32)
    (x6 : FVec Ideal Cert.Pre_finite.S1x32x2048x2x4x64 .f32) (x7 : FVec Ideal Cert.Pre_finite.S32x12 .f32)

/-- Under the precondition each argument is an array of real numbers. -/
theorem real_args [Cert.Pre_finite.Facts] (h : Cert.Pre_finite.fn (F := Ideal) x0 x1 x2 x3 x4 x5 x6 x7 = fun _ => 1#1) :
    (∃ r : _ → ℝ, ∀ i, x0 i = (r i : EReal)) ∧ (∃ r : _ → ℝ, ∀ i, x1 i = (r i : EReal)) ∧ (∃ r : _ → ℝ, ∀ i, x2 i = (r i : EReal))
      ∧ (∃ r : _ → ℝ, ∀ i, x3 i = (r i : EReal)) ∧ (∃ r : _ → ℝ, ∀ i, x4 i = (r i : EReal)) ∧ (∃ r : _ → ℝ, ∀ i, x5 i = (r i : EReal))
      ∧ (∃ r : _ → ℝ, ∀ i, x6 i = (r i : EReal)) ∧ ∃ r : _ → ℝ, ∀ i, x7 i = (r i : EReal) := by
  have h0 := congrFun h ix0
  unfold Cert.Pre_finite.fn Cert.Pre_finite.fn_part1 Cert.Pre_finite.fn_part2 at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real _ _ _ _ _ e0, all_real _ _ _ _ _ e1, all_real _ _ _ _ _ e2, all_real _ _ _ _ _ e3, all_real _ _ _ _ _ e4,
    all_real _ _ _ _ _ e5, all_real _ _ _ _ _ e6, all_real _ _ _ _ _ e7⟩

theorem lt_four : ∀ k : Fin 8, IntOp.cmpi .slt (BitVec.ofNat 32 k.val) 4#32 = 1#1 → k.val < 4 := by decide

/-- The mask marks the step's four rows. -/
theorem mask0 [Cert.On_rows_real.Facts] (b : Fin 32) (k : Fin 8) (l : Fin 768)
    (h : (Cert.On_rows_real.fn (F := Ideal) x0 x1 x2 x3 x4 x5 x6 x7).1 (ix3 b k l) = 1#1) : k.val < 4 := lt_four k h
theorem mask1 [Cert.On_rows_real.Facts] (b : Fin 32) (k : Fin 8) (l : Fin 768)
    (h : (Cert.On_rows_real.fn (F := Ideal) x0 x1 x2 x3 x4 x5 x6 x7).2.1 (ix3 b k l) = 1#1) : k.val < 4 := lt_four k h

end Cert.Proof.Finite
end
-- ==== Proof.Post.Ker.lean ====
module

public import proofs.«01_k».proof.Proof.Gen.Kernel2Ideal.Skeleton
public import Idealize.ShloMosaic.Lib.Pointwise

/-! The body's computed values over the extended reals, each read at an index. -/

@[expose] public section

set_option maxHeartbeats 4000000

noncomputable section

namespace Cert.Proof.Ker

open Cert.Kernel2Ideal Cert.Kernel2Ideal.Gen Idealize.ShloMosaic Idealize.ShloMosaic.TcCoe

/-- A number's bit pattern read as an extended real. -/
abbrev num (w : BitVec 32) : EReal := Ideal.ofBits .f32 w

/-- The logistic function. -/
def sgm (x : EReal) : EReal := Ideal.div (num 0x3F800000#32) (num 0x3F800000#32 + Ideal.exp (-x))

/-- A row divided by its root mean square and scaled by `g`. -/
def rms (v g : Fin 1024 → EReal) (j : Fin 1024) : EReal :=
  v j * Ideal.rsqrt (Ideal.div (∑ k, v k * v k) (num 0x44800000#32) + num 0x358637BD#32) * g j

/-- An average of three values with softmax weights, the sum of weights divided out last. -/
def kav3 (l0 l1 l2 o0 o1 o2 : EReal) : EReal :=
  Ideal.div (Ideal.exp (l0 - max (max l0 l1) l2) * o0 + Ideal.exp (l1 - max (max l0 l1) l2) * o1 + Ideal.exp (l2 - max (max l0 l1) l2) * o2)
    (Ideal.exp (l0 - max (max l0 l1) l2) + Ideal.exp (l1 - max (max l0 l1) l2) + Ideal.exp (l2 - max (max l0 l1) l2))

theorem pay2 (v0 v2 v4 v6 v8 v10 : Vec Ideal S1x256x128 .f32) (r : Fin 256) (k : Fin 128) :
    k0_pay2 v0 v2 v4 v6 v8 v10 (ix2 r k) = kav3 (v0 (ix3 0 r k)) (v2 (ix3 0 r k)) (v4 (ix3 0 r k)) (v6 (ix3 0 r k)) (v8 (ix3 0 r k)) (v10 (ix3 0 r k)) := by
  unfold k0_pay2 kav3
  pointwise

theorem pay5 (v27 v29 v31 : FVec Ideal S256x128 .f32) (v32 v34 v36 v38 : Vec Ideal S1x256x128 .f32) (v57 : Vec Ideal S256x1024 .bf16) (r : Fin 256) (j : Fin 1024) :
    k0_pay5 v27 v29 v31 v32 v34 v36 v38 v57 (ix2 r j) = ∑ k : Fin 256, (if h : k.val < 128 then v27 (ix2 r ⟨k.val, h⟩)
      else kav3 (v29 (ix2 r ⟨k.val - 128, by omega⟩)) (v31 (ix2 r ⟨k.val - 128, by omega⟩)) (v32 (ix3 0 r ⟨k.val - 128, by omega⟩)) (v34 (ix3 0 r ⟨k.val - 128, by omega⟩)) (v36 (ix3 0 r ⟨k.val - 128, by omega⟩)) (v38 (ix3 0 r ⟨k.val - 128, by omega⟩))) * v57 (ix2 k j) := by
  unfold k0_pay5 kav3
  pointwise

theorem pay6 (v61 : Vec Ideal S1x256x1024 .bf16) (v63 : Vec Ideal S1024x1024 .bf16) (r : Fin 256) (j : Fin 1024) :
    k0_pay6 v61 v63 (ix2 r j) = ∑ k : Fin 1024, v61 (ix3 0 r k) * v63 (ix2 k j) := by
  unfold k0_pay6
  pointwise

theorem pay9 (v60 v65 v67 : FVec Ideal S256x1024 .f32) (v76 v87 : Vec Ideal S1x256x1024 .f32) (v89 : Vec Ideal S1024x1024 .bf16) (r : Fin 256) (j : Fin 1024) :
    k0_pay9 v60 v65 v67 (k0_pay8 (F := Ideal)) v76 v87 v89 (ix2 r j)
      = v87 (ix3 0 r j) + ∑ k : Fin 1024, (sgm (v67 (ix2 r k)) * v60 (ix2 r k) + sgm (v76 (ix3 0 r k)) * v65 (ix2 r k)) * v89 (ix2 k j) := by
  unfold k0_pay9 k0_pay8 sgm
  pointwise
  simp only [zero_sub]

theorem pay10 (v60 v65 v67 v68 : FVec Ideal S256x1024 .f32) (v76 v87 : Vec Ideal S1x256x1024 .f32) (v89 : Vec Ideal S1024x1024 .bf16) (v94 : Vec Ideal S1x1024 .f32) (r : Fin 256) (j : Fin 1024) :
    k0_pay10 v60 v65 v67 v68 v76 v87 v89 v94 (ix2 r j) = rms (fun k => k0_pay9 v60 v65 v67 v68 v76 v87 v89 (ix2 r k)) (fun k => v94 (ix2 0 k)) j := by
  unfold k0_pay10 rms
  generalize k0_pay9 v60 v65 v67 v68 v76 v87 v89 = y
  pointwise

theorem pay11 (v107 : FVec Ideal S256x1024 .f32) (v108 : Vec Ideal S1024x512 .bf16) (r : Fin 256) (j : Fin 512) :
    k0_pay11 v107 v108 (ix2 r j) = ∑ k : Fin 1024, v107 (ix2 r k) * v108 (ix2 k j) := by
  unfold k0_pay11
  pointwise

/-- The score of a query head against a memory row. -/
def score (q : Fin 512 → EReal) (h : Fin 4) (key : Fin 128 → EReal) : EReal :=
  (∑ d : Fin 128, q ⟨h.val * 128 + d.val, by omega⟩ * key d) * num 0x3DB504F3#32

/-- The kernel's weights: exponentials of the scores less their maximum. -/
def wt (s : Fin 256 → EReal) (c : Fin 256) : EReal := Ideal.exp (s c - (Finset.univ : Finset (Fin 256)).fold max (num 0xFF800000#32) s)

theorem pay12 (v107 : FVec Ideal S256x1024 .f32) (v108 : Vec Ideal S1024x512 .bf16) (v : Vec Ideal S1x256x128 .f32) (r c : Fin 256) :
    k0_pay12 v107 v108 v (ix2 r c) = score (fun k => k0_pay11 v107 v108 (ix2 r k)) 1 (fun d => v (ix3 0 c d)) := by
  unfold k0_pay12 score
  generalize k0_pay11 v107 v108 = y
  pointwise

theorem pay13 (v107 : FVec Ideal S256x1024 .f32) (v108 : Vec Ideal S1024x512 .bf16) (v : Vec Ideal S1x256x128 .f32) (r c : Fin 256) :
    k0_pay13 v107 v108 v (ix2 r c) = score (fun k => k0_pay11 v107 v108 (ix2 r k)) 2 (fun d => v (ix3 0 c d)) := by
  unfold k0_pay13 score
  generalize k0_pay11 v107 v108 = y
  pointwise

theorem pay14 (v107 : FVec Ideal S256x1024 .f32) (v108 : Vec Ideal S1024x512 .bf16) (v : Vec Ideal S1x256x128 .f32) (r c : Fin 256) :
    k0_pay14 v107 v108 v (ix2 r c) = score (fun k => k0_pay11 v107 v108 (ix2 r k)) 3 (fun d => v (ix3 0 c d)) := by
  unfold k0_pay14 score
  generalize k0_pay11 v107 v108 = y
  pointwise

theorem pay15 (v107 : FVec Ideal S256x1024 .f32) (v108 : Vec Ideal S1024x512 .bf16) (v : Vec Ideal S1x256x128 .f32) (r c : Fin 256) :
    k0_pay15 v107 v108 v (ix2 r c) = wt (fun c => score (fun k => k0_pay11 v107 v108 (ix2 r k)) 0 (fun d => v (ix3 0 c d))) c := by
  unfold k0_pay15 score wt
  generalize k0_pay11 v107 v108 = y
  pointwise

theorem pay16 (v : FVec Ideal S256x256 .f32) (r c : Fin 256) :
    k0_pay16 v (ix2 r c) = wt (fun c => v (ix2 r c)) c := by
  unfold k0_pay16 wt
  pointwise

theorem pay17 (e : FVec Ideal S256x256 .f32) (v : Vec Ideal S1x256x128 .f32) (r : Fin 256) (d : Fin 128) :
    k0_pay17 e v (ix2 r d) = Ideal.div (∑ c : Fin 256, e (ix2 r c) * v (ix3 0 c d)) (∑ c : Fin 256, e (ix2 r c)) := by
  unfold k0_pay17
  pointwise

theorem pay18 (s : FVec Ideal S256x256 .f32) (v : Vec Ideal S1x256x128 .f32) (r : Fin 256) (d : Fin 128) :
    k0_pay18 s v (ix2 r d) = Ideal.div (∑ c : Fin 256, wt (fun c => s (ix2 r c)) c * v (ix3 0 c d)) (∑ c : Fin 256, wt (fun c => s (ix2 r c)) c) := by
  unfold k0_pay18 wt
  pointwise

theorem pay19 (s : FVec Ideal S256x256 .f32) (v : Vec Ideal S1x256x128 .f32) (r : Fin 256) (d : Fin 128) :
    k0_pay19 s v (ix2 r d) = Ideal.div (∑ c : Fin 256, wt (fun c => s (ix2 r c)) c * v (ix3 0 c d)) (∑ c : Fin 256, wt (fun c => s (ix2 r c)) c) := by
  unfold k0_pay19 wt
  pointwise

/-- Four heads' rows side by side. -/
def side (a0 a1 a2 a3 : Fin 128 → EReal) (k : Fin 512) : EReal :=
  if h : k.val < 128 then a0 ⟨k.val, h⟩ else if h1 : k.val - 128 < 128 then a1 ⟨k.val - 128, h1⟩
    else if h2 : k.val - 128 - 128 < 128 then a2 ⟨k.val - 128 - 128, h2⟩ else a3 ⟨k.val - 128 - 128 - 128, by omega⟩

theorem side_eq (a : Fin 4 → Fin 128 → EReal) (k : Fin 512) :
    side (a 0) (a 1) (a 2) (a 3) k = a ⟨k.val / 128, by omega⟩ ⟨k.val % 128, by omega⟩ := by
  have hk := k.isLt
  unfold side
  split
  · rw [show (⟨k.val / 128, by omega⟩ : Fin 4) = 0 from Fin.ext (by show k.val / 128 = 0; omega)]
    exact congrArg (a 0) (Fin.ext (by show k.val = k.val % 128; omega))
  split
  · rw [show (⟨k.val / 128, by omega⟩ : Fin 4) = 1 from Fin.ext (by show k.val / 128 = 1; omega)]
    exact congrArg (a 1) (Fin.ext (by show k.val - 128 = k.val % 128; omega))
  split
  · rw [show (⟨k.val / 128, by omega⟩ : Fin 4) = 2 from Fin.ext (by show k.val / 128 = 2; omega)]
    exact congrArg (a 2) (Fin.ext (by show k.val - 128 - 128 = k.val % 128; omega))
  · rw [show (⟨k.val / 128, by omega⟩ : Fin 4) = 3 from Fin.ext (by show k.val / 128 = 3; omega)]
    exact congrArg (a 3) (Fin.ext (by show k.val - 128 - 128 - 128 = k.val % 128; omega))

theorem pay21 (v93 : FVec Ideal S256x1024 .f32) (e : FVec Ideal S256x256 .f32) (a0 a1 a2 : FVec Ideal S256x128 .f32) (v : Vec Ideal S1x256x128 .f32) (w : Vec Ideal S512x1024 .bf16) (r : Fin 256) (j : Fin 1024) :
    k0_pay21 v93 e a0 a1 a2 v w (ix2 r j) = v93 (ix2 r j) + ∑ k : Fin 512, side (fun d => a0 (ix2 r d)) (fun d => a1 (ix2 r d)) (fun d => a2 (ix2 r d))
      (fun d => Ideal.div (∑ c : Fin 256, e (ix2 r c) * v (ix3 0 c d)) (∑ c : Fin 256, e (ix2 r c))) k * w (ix2 k j) := by
  unfold k0_pay21 side
  pointwise

theorem pay22 (v93 : FVec Ideal S256x1024 .f32) (e : FVec Ideal S256x256 .f32) (a0 a1 a2 : FVec Ideal S256x128 .f32) (v : Vec Ideal S1x256x128 .f32) (w : Vec Ideal S512x1024 .bf16) (g : Vec Ideal S1x1024 .f32) (r : Fin 256) (j : Fin 1024) :
    k0_pay22 v93 e a0 a1 a2 v w g (ix2 r j) = rms (fun k => k0_pay21 v93 e a0 a1 a2 v w (ix2 r k)) (fun k => g (ix2 0 k)) j := by
  unfold k0_pay22 rms
  generalize k0_pay21 v93 e a0 a1 a2 v w = y
  pointwise

theorem pay23 (v93 : FVec Ideal S256x1024 .f32) (e : FVec Ideal S256x256 .f32) (a0 a1 a2 : FVec Ideal S256x128 .f32) (v : Vec Ideal S1x256x128 .f32) (w : Vec Ideal S512x1024 .bf16) (g : Vec Ideal S1x1024 .f32) (u : Vec Ideal S1024x2816 .bf16) (r : Fin 256) (j : Fin 2816) :
    k0_pay23 v93 e a0 a1 a2 v w g u (ix2 r j) = ∑ k : Fin 1024, k0_pay22 v93 e a0 a1 a2 v w g (ix2 r k) * u (ix2 k j) := by
  unfold k0_pay23
  generalize k0_pay22 v93 e a0 a1 a2 v w g = y
  pointwise

theorem pay24 (v93 : FVec Ideal S256x1024 .f32) (e : FVec Ideal S256x256 .f32) (a0 a1 a2 : FVec Ideal S256x128 .f32) (v : Vec Ideal S1x256x128 .f32) (w : Vec Ideal S512x1024 .bf16) (g : Vec Ideal S1x1024 .f32) (u : Vec Ideal S1024x2816 .bf16) (r : Fin 256) (j : Fin 2816) :
    k0_pay24 v93 e a0 a1 a2 v w g u (ix2 r j) = k0_pay23 v93 e a0 a1 a2 v w g u (ix2 r j) := by
  unfold k0_pay24
  generalize k0_pay23 v93 e a0 a1 a2 v w g u = y
  pointwise

theorem pay27 (n : FVec Ideal S256x1024 .bf16) (u : Vec Ideal S1024x2816 .bf16) (r : Fin 256) (j : Fin 2816) :
    k0_pay27 n u (ix2 r j) = ∑ k : Fin 1024, n (ix2 r k) * u (ix2 k j) := by
  unfold k0_pay27
  pointwise

theorem pay28 (g : FVec Ideal S256x2816 .f32) (g2 : Vec Ideal S256x2816 .f32) (w0 : Vec Ideal S1x2816 .f32) (g1 : Vec Ideal S256x2816 .f32) (w1 w2 bc : Vec Ideal S1x2816 .f32) (r : Fin 256) (j : Fin 2816) :
    k0_pay28 g g2 w0 g1 w1 w2 bc (ix2 r j) = g2 (ix2 r j) * w0 (ix2 0 j) + g1 (ix2 r j) * w1 (ix2 0 j) + g (ix2 r j) * w2 (ix2 0 j) + bc (ix2 0 j) := by
  unfold k0_pay28
  pointwise

theorem pay29 (g : FVec Ideal S256x2816 .f32) (g2 : Vec Ideal S256x2816 .f32) (w0 : Vec Ideal S1x2816 .f32) (g1 : Vec Ideal S256x2816 .f32) (w1 w2 bc : Vec Ideal S1x2816 .f32) (r : Fin 256) (j : Fin 2816) :
    k0_pay29 g g2 w0 g1 w1 w2 bc (ix2 r j) = num 0x3F800000#32 + Ideal.exp (-(k0_pay28 g g2 w0 g1 w1 w2 bc (ix2 r j))) := by
  unfold k0_pay29
  generalize k0_pay28 g g2 w0 g1 w1 w2 bc = y
  pointwise
  simp only [zero_sub]

theorem pay1 (h2 : FVec Ideal S256x1024 .f32) (up cv den : FVec Ideal S256x2816 .f32) (w : Vec Ideal S2816x1024 .bf16) (g : Vec Ideal S1x1024 .f32) (r : Fin 256) (j : Fin 1024) :
    k0_pay1 h2 up cv den (Scalar.ofBits .f32 0x3F800000#32) w g (ix3 0 r j)
      = rms (fun j => h2 (ix2 r j) + ∑ k : Fin 2816, cv (ix2 r k) * Ideal.div (num 0x3F800000#32) (den (ix2 r k)) * up (ix2 r k) * w (ix2 k j)) (fun k => g (ix2 0 k)) j := by
  unfold k0_pay1 rms
  pointwise

theorem pay3 (v : Vec Ideal S1x256x128 .f32) (r : Fin 256) (k : Fin 128) : k0_pay3 v (ix2 r k) = v (ix3 0 r k) := by
  unfold k0_pay3
  pointwise

theorem pay4 (v : Vec Ideal S1x256x128 .f32) (r : Fin 256) (k : Fin 128) : k0_pay4 v (ix2 r k) = v (ix3 0 r k) := by
  unfold k0_pay4
  pointwise

theorem pay7 (v : Vec Ideal S1x256x1024 .f32) (r : Fin 256) (k : Fin 1024) : k0_pay7 v (ix2 r k) = v (ix3 0 r k) := by
  unfold k0_pay7
  pointwise

theorem pay20 (v : Vec Ideal S1x2x2816 .f32) (i : Fin 2) (j : Fin 2816) : k0_pay20 v (ix2 i j) = v (ix3 0 i j) := by
  unfold k0_pay20
  pointwise

theorem pay25 (v : Vec Ideal S2x2816 .f32) (i : Fin 2) (j : Fin 2816) : k0_pay25 v (ix2 i j) = v (ix2 i j) := by
  unfold k0_pay25
  pointwise

theorem pay26 (v : Vec Ideal S2x2816 .f32) (i : Fin 2) (j : Fin 2816) : k0_pay26 v (ix3 0 i j) = v (ix2 i j) := by
  unfold k0_pay26
  pointwise

end Cert.Proof.Ker
-- ==== Proof.Post.RefPost.lean ====
module

public import proofs.«01_k».proof.Proof.Gen.Reference2Ideal.Read
public import proofs.«01_k».proof.Proof.Post.Ker

/-! The reference's values over the extended reals, each read at an index. -/

@[expose] public section

set_option maxHeartbeats 4000000

noncomputable section

namespace Cert.Proof.RefPost

open Cert.Reference2Ideal Cert.Reference2Ideal.Gen Cert.Reference2Ideal.Read Idealize.ShloMosaic Idealize.ShloMosaic.TcCoe Cert.Proof.Ker

/-- A value of an array of branch outputs: the first 128 lanes from one array, the rest from another. -/
def pair (a b : FVec Ideal S8x2048x128 .f32) (B : Fin 8) (r : Fin 2048) (k : Fin 256) : EReal :=
  if h : k.val < 128 then a (ix3 B r ⟨k.val, h⟩) else b (ix3 B r ⟨k.val - 128, by omega⟩)

/-- Softmax weights, the sum divided out of each weight. -/
def rwt {n : Nat} (s : Fin n → EReal) (c : Fin n) : EReal :=
  Ideal.div (Ideal.exp (s c - (Finset.univ : Finset (Fin n)).fold max (num 0xFF800000#32) s))
    (∑ c, Ideal.exp (s c - (Finset.univ : Finset (Fin n)).fold max (num 0xFF800000#32) s))

/-- Row `k` and lane `d` of head `h` in a memory array whose rows hold the heads in turn. -/
def mem (a : FVec Ideal S8x1024x128 .f32) (B : Fin 8) (h : Fin 4) (c : Fin 256) (d : Fin 128) : EReal :=
  a (ix3 B ⟨c.val * 4 + h.val, by omega⟩ d)

variable (x0 x1 x2 x3 x4 x5 x6 x7 x8 x9 x10 x11 : FVec Ideal S8x2048x128 .f32) (x12 : FVec Ideal S8x2048x1024 .bf16)
  (x13 x14 x15 : FVec Ideal S8x2048x1024 .f32) (x16 x17 : FVec Ideal S8x1024x128 .f32) (x18 : FVec Ideal S8x2x2816 .f32)
  (x19 : FVec Ideal S256x1024 .f32) (x20 x21 : FVec Ideal S1024x1024 .f32) (x22 : FVec Ideal S1024 .f32) (x23 : FVec Ideal S1024x512 .f32)
  (x24 : FVec Ideal S512x1024 .f32) (x25 : FVec Ideal S1024 .f32) (x26 : FVec Ideal S1024x5632 .f32) (x27 : FVec Ideal S3x2816 .f32)
  (x28 : FVec Ideal S2816 .f32) (x29 : FVec Ideal S2816x1024 .f32) (x30 : FVec Ideal S1024 .f32)

theorem v6_0 (B : Fin 8) (r : Fin 2048) (k : Fin 256) :
    val_main_v6 (F := Ideal) x0 x1 x2 x3 x4 x5 (ix4 0 B r k)
      = pair x0 x1 B r k := by
  unfold val_main_v6 val_main_v3 val_main_v0 val_main_v4 val_main_v1 val_main_v5 val_main_v2 pair
  pointwise

theorem v6_1 (B : Fin 8) (r : Fin 2048) (k : Fin 256) :
    val_main_v6 (F := Ideal) x0 x1 x2 x3 x4 x5 (ix4 1 B r k)
      = pair x2 x3 B r k := by
  unfold val_main_v6 val_main_v3 val_main_v0 val_main_v4 val_main_v1 val_main_v5 val_main_v2 pair
  pointwise

theorem v6_2 (B : Fin 8) (r : Fin 2048) (k : Fin 256) :
    val_main_v6 (F := Ideal) x0 x1 x2 x3 x4 x5 (ix4 2 B r k)
      = pair x4 x5 B r k := by
  unfold val_main_v6 val_main_v3 val_main_v0 val_main_v4 val_main_v1 val_main_v5 val_main_v2 pair
  pointwise

theorem v13_0 (B : Fin 8) (r : Fin 2048) (k : Fin 256) :
    val_main_v13 (F := Ideal) x6 x7 x8 x9 x10 x11 (ix4 0 B r k)
      = pair x6 x7 B r k := by
  unfold val_main_v13 val_main_v10 val_main_v7 val_main_v11 val_main_v8 val_main_v12 val_main_v9 pair
  pointwise

theorem v13_1 (B : Fin 8) (r : Fin 2048) (k : Fin 256) :
    val_main_v13 (F := Ideal) x6 x7 x8 x9 x10 x11 (ix4 1 B r k)
      = pair x8 x9 B r k := by
  unfold val_main_v13 val_main_v10 val_main_v7 val_main_v11 val_main_v8 val_main_v12 val_main_v9 pair
  pointwise

theorem v13_2 (B : Fin 8) (r : Fin 2048) (k : Fin 256) :
    val_main_v13 (F := Ideal) x6 x7 x8 x9 x10 x11 (ix4 2 B r k)
      = pair x10 x11 B r k := by
  unfold val_main_v13 val_main_v10 val_main_v7 val_main_v11 val_main_v8 val_main_v12 val_main_v9 pair
  pointwise

theorem v24 (B : Fin 8) (r : Fin 2048) (k : Fin 256) :
    val_main_v24 (F := Ideal) x0 x1 x2 x3 x4 x5 x6 x7 x8 x9 x10 x11 (ix3 B r k)
      = ∑ j : Fin 3, rwt (fun j => val_main_v13 (F := Ideal) x6 x7 x8 x9 x10 x11 (ix4 j B r k)) j * val_main_v6 (F := Ideal) x0 x1 x2 x3 x4 x5 (ix4 j B r k) := by
  unfold val_main_v24 val_main_v23 val_main_v22 val_main_v21 val_main_v20 val_main_v19 val_main_v18 val_main_v17 val_main_v16 val_main_v15 val_main_v14 val_main_cst val_main_cst_0 val_main_cst_1 rwt
  generalize val_main_v13 (F := Ideal) x6 x7 x8 x9 x10 x11 = L
  generalize val_main_v6 (F := Ideal) x0 x1 x2 x3 x4 x5 = O
  pointwise

theorem v30 (B : Fin 8) (r : Fin 2048) (k : Fin 1024) :
    val_main_v30 (F := Ideal) x13 (ix3 B r k)
      = sgm (x13 (ix3 B r k)) := by
  unfold val_main_v30 val_main_v29 val_main_v28 val_main_v27 val_main_v26 val_main_v25 val_main_cst_2 val_main_cst_3 sgm
  pointwise

theorem v38 (B : Fin 8) (r : Fin 2048) (k : Fin 1024) :
    val_main_v38 (F := Ideal) x14 (ix3 B r k)
      = sgm (x14 (ix3 B r k)) := by
  unfold val_main_v38 val_main_v37 val_main_v36 val_main_v35 val_main_v34 val_main_v33 val_main_cst_4 val_main_cst_5 sgm
  pointwise

theorem h1 (B : Fin 8) (r : Fin 2048) (j : Fin 1024) :
    val_main_v44 (F := Ideal) x0 x1 x2 x3 x4 x5 x6 x7 x8 x9 x10 x11 x12 x13 x14 x15 x19 x20 x21 (ix3 B r j)
      = x15 (ix3 B r j) + ∑ k : Fin 1024, (sgm (x13 (ix3 B r k)) * (∑ l : Fin 256, val_main_v24 (F := Ideal) x0 x1 x2 x3 x4 x5 x6 x7 x8 x9 x10 x11 (ix3 B r l) * x19 (ix2 l k)) + sgm (x14 (ix3 B r k)) * (∑ l : Fin 1024, x12 (ix3 B r l) * x20 (ix2 l k))) * x21 (ix2 k j) := by
  simp only [← v30 x13, ← v38 x14]
  unfold val_main_v44 val_main_v43 val_main_v42 val_main_v41 val_main_v40 val_main_v39 val_main_v32 val_main_v31
  generalize val_main_v30 (F := Ideal) x13 = a
  generalize val_main_v38 (F := Ideal) x14 = b
  generalize val_main_v24 (F := Ideal) x0 x1 x2 x3 x4 x5 x6 x7 x8 x9 x10 x11 = o
  pointwise

theorem n1 (B : Fin 8) (r : Fin 2048) (j : Fin 1024) :
    val_main_v57 (F := Ideal) x0 x1 x2 x3 x4 x5 x6 x7 x8 x9 x10 x11 x12 x13 x14 x15 x19 x20 x21 x22 (ix3 B r j)
      = rms (fun k => val_main_v44 (F := Ideal) x0 x1 x2 x3 x4 x5 x6 x7 x8 x9 x10 x11 x12 x13 x14 x15 x19 x20 x21 (ix3 B r k)) (fun k => x22 (ix1 k)) j := by
  unfold val_main_v57 val_main_v56 val_main_v55 val_main_v54 val_main_v53 val_main_v52 val_main_v51 val_main_v50 val_main_v49 val_main_v48 val_main_v47 val_main_v46 val_main_v45 val_main_cst_6 val_main_cst_7 val_main_cst_8 rms
  generalize val_main_v44 (F := Ideal) x0 x1 x2 x3 x4 x5 x6 x7 x8 x9 x10 x11 x12 x13 x14 x15 x19 x20 x21 = h
  pointwise

theorem q (B : Fin 8) (r : Fin 2048) (j : Fin 512) :
    val_main_v58 (F := Ideal) x0 x1 x2 x3 x4 x5 x6 x7 x8 x9 x10 x11 x12 x13 x14 x15 x19 x20 x21 x22 x23 (ix3 B r j)
      = ∑ k : Fin 1024, val_main_v57 (F := Ideal) x0 x1 x2 x3 x4 x5 x6 x7 x8 x9 x10 x11 x12 x13 x14 x15 x19 x20 x21 x22 (ix3 B r k) * x23 (ix2 k j) := by
  unfold val_main_v58
  generalize val_main_v57 (F := Ideal) x0 x1 x2 x3 x4 x5 x6 x7 x8 x9 x10 x11 x12 x13 x14 x15 x19 x20 x21 x22 = h
  pointwise

theorem s (B : Fin 8) (r : Fin 2048) (h : Fin 4) (c : Fin 256) :
    val_main_v63 (F := Ideal) x0 x1 x2 x3 x4 x5 x6 x7 x8 x9 x10 x11 x12 x13 x14 x15 x16 x19 x20 x21 x22 x23 (ix4 B h r c)
      = score (fun k => val_main_v58 (F := Ideal) x0 x1 x2 x3 x4 x5 x6 x7 x8 x9 x10 x11 x12 x13 x14 x15 x19 x20 x21 x22 x23 (ix3 B r k)) h (fun d => mem x16 B h c d) := by
  unfold val_main_v63 val_main_v62 val_main_v61 val_main_v60 val_main_v59 val_main_cst_9 score mem
  generalize val_main_v58 (F := Ideal) x0 x1 x2 x3 x4 x5 x6 x7 x8 x9 x10 x11 x12 x13 x14 x15 x19 x20 x21 x22 x23 = y
  pointwise

theorem om (B : Fin 8) (r : Fin 2048) (k : Fin 512) :
    val_main_v76 (F := Ideal) x0 x1 x2 x3 x4 x5 x6 x7 x8 x9 x10 x11 x12 x13 x14 x15 x16 x17 x19 x20 x21 x22 x23 (ix3 B r k)
      = ∑ c : Fin 256, mem x17 B ⟨k.val / 128, by omega⟩ c ⟨k.val % 128, by omega⟩ * rwt (fun c => val_main_v63 (F := Ideal) x0 x1 x2 x3 x4 x5 x6 x7 x8 x9 x10 x11 x12 x13 x14 x15 x16 x19 x20 x21 x22 x23 (ix4 B ⟨k.val / 128, by omega⟩ r c)) c := by
  unfold val_main_v76 val_main_v75 val_main_v74 val_main_v73 val_main_v72 val_main_v71 val_main_v70 val_main_v69 val_main_v68 val_main_v67 val_main_v66 val_main_v65 val_main_v64 val_main_cst_10 val_main_cst_11 rwt mem
  generalize val_main_v63 (F := Ideal) x0 x1 x2 x3 x4 x5 x6 x7 x8 x9 x10 x11 x12 x13 x14 x15 x16 x19 x20 x21 x22 x23 = y
  pointwise

theorem h2 (B : Fin 8) (r : Fin 2048) (j : Fin 1024) :
    val_main_v78 (F := Ideal) x0 x1 x2 x3 x4 x5 x6 x7 x8 x9 x10 x11 x12 x13 x14 x15 x16 x17 x19 x20 x21 x22 x23 x24 (ix3 B r j)
      = val_main_v44 (F := Ideal) x0 x1 x2 x3 x4 x5 x6 x7 x8 x9 x10 x11 x12 x13 x14 x15 x19 x20 x21 (ix3 B r j) + ∑ k : Fin 512, val_main_v76 (F := Ideal) x0 x1 x2 x3 x4 x5 x6 x7 x8 x9 x10 x11 x12 x13 x14 x15 x16 x17 x19 x20 x21 x22 x23 (ix3 B r k) * x24 (ix2 k j) := by
  unfold val_main_v78 val_main_v77
  generalize val_main_v44 (F := Ideal) x0 x1 x2 x3 x4 x5 x6 x7 x8 x9 x10 x11 x12 x13 x14 x15 x19 x20 x21 = h
  generalize val_main_v76 (F := Ideal) x0 x1 x2 x3 x4 x5 x6 x7 x8 x9 x10 x11 x12 x13 x14 x15 x16 x17 x19 x20 x21 x22 x23 = y
  pointwise

theorem n2 (B : Fin 8) (r : Fin 2048) (j : Fin 1024) :
    val_main_v91 (F := Ideal) x0 x1 x2 x3 x4 x5 x6 x7 x8 x9 x10 x11 x12 x13 x14 x15 x16 x17 x19 x20 x21 x22 x23 x24 x25 (ix3 B r j)
      = rms (fun k => val_main_v78 (F := Ideal) x0 x1 x2 x3 x4 x5 x6 x7 x8 x9 x10 x11 x12 x13 x14 x15 x16 x17 x19 x20 x21 x22 x23 x24 (ix3 B r k)) (fun k => x25 (ix1 k)) j := by
  unfold val_main_v91 val_main_v90 val_main_v89 val_main_v88 val_main_v87 val_main_v86 val_main_v85 val_main_v84 val_main_v83 val_main_v82 val_main_v81 val_main_v80 val_main_v79 val_main_cst_12 val_main_cst_13 val_main_cst_14 rms
  generalize val_main_v78 (F := Ideal) x0 x1 x2 x3 x4 x5 x6 x7 x8 x9 x10 x11 x12 x13 x14 x15 x16 x17 x19 x20 x21 x22 x23 x24 = h
  pointwise

theorem gate (B : Fin 8) (r : Fin 2048) (j : Fin 2816) :
    val_main_v93 (F := Ideal) x0 x1 x2 x3 x4 x5 x6 x7 x8 x9 x10 x11 x12 x13 x14 x15 x16 x17 x19 x20 x21 x22 x23 x24 x25 x26 (ix3 B r j)
      = ∑ k : Fin 1024, val_main_v91 (F := Ideal) x0 x1 x2 x3 x4 x5 x6 x7 x8 x9 x10 x11 x12 x13 x14 x15 x16 x17 x19 x20 x21 x22 x23 x24 x25 (ix3 B r k) * x26 (ix2 k ⟨j.val, by omega⟩) := by
  unfold val_main_v93 val_main_v92
  generalize val_main_v91 (F := Ideal) x0 x1 x2 x3 x4 x5 x6 x7 x8 x9 x10 x11 x12 x13 x14 x15 x16 x17 x19 x20 x21 x22 x23 x24 x25 = h
  pointwise

theorem up (B : Fin 8) (r : Fin 2048) (j : Fin 2816) :
    val_main_v94 (F := Ideal) x0 x1 x2 x3 x4 x5 x6 x7 x8 x9 x10 x11 x12 x13 x14 x15 x16 x17 x19 x20 x21 x22 x23 x24 x25 x26 (ix3 B r j)
      = ∑ k : Fin 1024, val_main_v91 (F := Ideal) x0 x1 x2 x3 x4 x5 x6 x7 x8 x9 x10 x11 x12 x13 x14 x15 x16 x17 x19 x20 x21 x22 x23 x24 x25 (ix3 B r k) * x26 (ix2 k ⟨2816 + j.val, by omega⟩) := by
  unfold val_main_v94 val_main_v92
  generalize val_main_v91 (F := Ideal) x0 x1 x2 x3 x4 x5 x6 x7 x8 x9 x10 x11 x12 x13 x14 x15 x16 x17 x19 x20 x21 x22 x23 x24 x25 = h
  pointwise

theorem ext (B : Fin 8) (r : Fin 2050) (j : Fin 2816) :
    val_main_v95 (F := Ideal) x0 x1 x2 x3 x4 x5 x6 x7 x8 x9 x10 x11 x12 x13 x14 x15 x16 x17 x18 x19 x20 x21 x22 x23 x24 x25 x26 (ix3 B r j)
      = if h : r.val < 2 then x18 (ix3 B ⟨r.val, h⟩ j) else val_main_v93 (F := Ideal) x0 x1 x2 x3 x4 x5 x6 x7 x8 x9 x10 x11 x12 x13 x14 x15 x16 x17 x19 x20 x21 x22 x23 x24 x25 x26 (ix3 B ⟨r.val - 2, by omega⟩ j) := by
  unfold val_main_v95
  generalize val_main_v93 (F := Ideal) x0 x1 x2 x3 x4 x5 x6 x7 x8 x9 x10 x11 x12 x13 x14 x15 x16 x17 x19 x20 x21 x22 x23 x24 x25 x26 = h
  pointwise

theorem conv (B : Fin 8) (r : Fin 2048) (j : Fin 2816) :
    val_main_v118 (F := Ideal) x0 x1 x2 x3 x4 x5 x6 x7 x8 x9 x10 x11 x12 x13 x14 x15 x16 x17 x18 x19 x20 x21 x22 x23 x24 x25 x26 x27 x28 (ix3 B r j)
      = val_main_v95 (F := Ideal) x0 x1 x2 x3 x4 x5 x6 x7 x8 x9 x10 x11 x12 x13 x14 x15 x16 x17 x18 x19 x20 x21 x22 x23 x24 x25 x26 (ix3 B ⟨r.val, by omega⟩ j) * x27 (ix2 0 j) + val_main_v95 (F := Ideal) x0 x1 x2 x3 x4 x5 x6 x7 x8 x9 x10 x11 x12 x13 x14 x15 x16 x17 x18 x19 x20 x21 x22 x23 x24 x25 x26 (ix3 B ⟨1 + r.val, by omega⟩ j) * x27 (ix2 1 j) + val_main_v95 (F := Ideal) x0 x1 x2 x3 x4 x5 x6 x7 x8 x9 x10 x11 x12 x13 x14 x15 x16 x17 x18 x19 x20 x21 x22 x23 x24 x25 x26 (ix3 B ⟨2 + r.val, by omega⟩ j) * x27 (ix2 2 j) + x28 (ix1 j) := by
  unfold val_main_v118 val_main_v117 val_main_v116 val_main_v115 val_main_v114 val_main_v113 val_main_v112 val_main_v111 val_main_v110 val_main_v109 val_main_v108 val_main_v107 val_main_v106 val_main_v105 val_main_v104 val_main_v103 val_main_v102 val_main_v101 val_main_v100 val_main_v99 val_main_v98 val_main_v97 val_main_v96
  generalize val_main_v95 (F := Ideal) x0 x1 x2 x3 x4 x5 x6 x7 x8 x9 x10 x11 x12 x13 x14 x15 x16 x17 x18 x19 x20 x21 x22 x23 x24 x25 x26 = h
  pointwise

theorem act (B : Fin 8) (r : Fin 2048) (j : Fin 2816) :
    val_main_v120 (F := Ideal) x0 x1 x2 x3 x4 x5 x6 x7 x8 x9 x10 x11 x12 x13 x14 x15 x16 x17 x18 x19 x20 x21 x22 x23 x24 x25 x26 x27 x28 (ix3 B r j)
      = val_main_v118 (F := Ideal) x0 x1 x2 x3 x4 x5 x6 x7 x8 x9 x10 x11 x12 x13 x14 x15 x16 x17 x18 x19 x20 x21 x22 x23 x24 x25 x26 x27 x28 (ix3 B r j) * sgm (val_main_v118 (F := Ideal) x0 x1 x2 x3 x4 x5 x6 x7 x8 x9 x10 x11 x12 x13 x14 x15 x16 x17 x18 x19 x20 x21 x22 x23 x24 x25 x26 x27 x28 (ix3 B r j)) * val_main_v94 (F := Ideal) x0 x1 x2 x3 x4 x5 x6 x7 x8 x9 x10 x11 x12 x13 x14 x15 x16 x17 x19 x20 x21 x22 x23 x24 x25 x26 (ix3 B r j) := by
  unfold val_main_v120 val_main_v119 val_main_call0_v5 val_main_call0_v4 val_main_call0_v3 val_main_call0_v2 val_main_call0_v1 val_main_call0_v0 val_main_call0_cst val_main_call0_cst_0 sgm
  generalize val_main_v118 (F := Ideal) x0 x1 x2 x3 x4 x5 x6 x7 x8 x9 x10 x11 x12 x13 x14 x15 x16 x17 x18 x19 x20 x21 x22 x23 x24 x25 x26 x27 x28 = h
  generalize val_main_v94 (F := Ideal) x0 x1 x2 x3 x4 x5 x6 x7 x8 x9 x10 x11 x12 x13 x14 x15 x16 x17 x19 x20 x21 x22 x23 x24 x25 x26 = u
  pointwise

theorem h3 (B : Fin 8) (r : Fin 2048) (j : Fin 1024) :
    val_main_v122 (F := Ideal) x0 x1 x2 x3 x4 x5 x6 x7 x8 x9 x10 x11 x12 x13 x14 x15 x16 x17 x18 x19 x20 x21 x22 x23 x24 x25 x26 x27 x28 x29 (ix3 B r j)
      = val_main_v78 (F := Ideal) x0 x1 x2 x3 x4 x5 x6 x7 x8 x9 x10 x11 x12 x13 x14 x15 x16 x17 x19 x20 x21 x22 x23 x24 (ix3 B r j) + ∑ k : Fin 2816, val_main_v120 (F := Ideal) x0 x1 x2 x3 x4 x5 x6 x7 x8 x9 x10 x11 x12 x13 x14 x15 x16 x17 x18 x19 x20 x21 x22 x23 x24 x25 x26 x27 x28 (ix3 B r k) * x29 (ix2 k j) := by
  unfold val_main_v122 val_main_v121
  generalize val_main_v78 (F := Ideal) x0 x1 x2 x3 x4 x5 x6 x7 x8 x9 x10 x11 x12 x13 x14 x15 x16 x17 x19 x20 x21 x22 x23 x24 = h
  generalize val_main_v120 (F := Ideal) x0 x1 x2 x3 x4 x5 x6 x7 x8 x9 x10 x11 x12 x13 x14 x15 x16 x17 x18 x19 x20 x21 x22 x23 x24 x25 x26 x27 x28 = u
  pointwise

theorem y (B : Fin 8) (r : Fin 2048) (j : Fin 1024) :
    val_main_v135 (F := Ideal) x0 x1 x2 x3 x4 x5 x6 x7 x8 x9 x10 x11 x12 x13 x14 x15 x16 x17 x18 x19 x20 x21 x22 x23 x24 x25 x26 x27 x28 x29 x30 (ix3 B r j)
      = rms (fun k => val_main_v122 (F := Ideal) x0 x1 x2 x3 x4 x5 x6 x7 x8 x9 x10 x11 x12 x13 x14 x15 x16 x17 x18 x19 x20 x21 x22 x23 x24 x25 x26 x27 x28 x29 (ix3 B r k)) (fun k => x30 (ix1 k)) j := by
  unfold val_main_v135 val_main_v134 val_main_v133 val_main_v132 val_main_v131 val_main_v130 val_main_v129 val_main_v128 val_main_v127 val_main_v126 val_main_v125 val_main_v124 val_main_v123 val_main_cst_15 val_main_cst_16 val_main_cst_17 rms
  generalize val_main_v122 (F := Ideal) x0 x1 x2 x3 x4 x5 x6 x7 x8 x9 x10 x11 x12 x13 x14 x15 x16 x17 x18 x19 x20 x21 x22 x23 x24 x25 x26 x27 x28 x29 = h
  pointwise

theorem fc (B : Fin 8) (r : Fin 2) (j : Fin 2816) :
    val_main_v136 (F := Ideal) x0 x1 x2 x3 x4 x5 x6 x7 x8 x9 x10 x11 x12 x13 x14 x15 x16 x17 x18 x19 x20 x21 x22 x23 x24 x25 x26 (ix3 B r j)
      = val_main_v95 (F := Ideal) x0 x1 x2 x3 x4 x5 x6 x7 x8 x9 x10 x11 x12 x13 x14 x15 x16 x17 x18 x19 x20 x21 x22 x23 x24 x25 x26 (ix3 B ⟨2048 + r.val, by omega⟩ j) := by
  unfold val_main_v136
  generalize val_main_v95 (F := Ideal) x0 x1 x2 x3 x4 x5 x6 x7 x8 x9 x10 x11 x12 x13 x14 x15 x16 x17 x18 x19 x20 x21 x22 x23 x24 x25 x26 = h
  pointwise

end Cert.Proof.RefPost
-- ==== Proof.Post.Args.lean ====
module

public import proofs.«01_k».proof.Proof.Post.RefPost

/-! The reference's arguments together, its values as functions of them, and those values read at an index. -/

@[expose] public section

noncomputable section

namespace Cert.Proof.RefPost

open Cert.Reference2Ideal Cert.Reference2Ideal.Gen Cert.Reference2Ideal.Read Idealize.ShloMosaic Idealize.ShloMosaic.TcCoe Cert.Proof.Ker

/-- The arguments. -/
structure Args where
  x0 : FVec Ideal S8x2048x128 .f32
  x1 : FVec Ideal S8x2048x128 .f32
  x2 : FVec Ideal S8x2048x128 .f32
  x3 : FVec Ideal S8x2048x128 .f32
  x4 : FVec Ideal S8x2048x128 .f32
  x5 : FVec Ideal S8x2048x128 .f32
  x6 : FVec Ideal S8x2048x128 .f32
  x7 : FVec Ideal S8x2048x128 .f32
  x8 : FVec Ideal S8x2048x128 .f32
  x9 : FVec Ideal S8x2048x128 .f32
  x10 : FVec Ideal S8x2048x128 .f32
  x11 : FVec Ideal S8x2048x128 .f32
  x12 : FVec Ideal S8x2048x1024 .bf16
  x13 : FVec Ideal S8x2048x1024 .f32
  x14 : FVec Ideal S8x2048x1024 .f32
  x15 : FVec Ideal S8x2048x1024 .f32
  x16 : FVec Ideal S8x1024x128 .f32
  x17 : FVec Ideal S8x1024x128 .f32
  x18 : FVec Ideal S8x2x2816 .f32
  x19 : FVec Ideal S256x1024 .f32
  x20 : FVec Ideal S1024x1024 .f32
  x21 : FVec Ideal S1024x1024 .f32
  x22 : FVec Ideal S1024 .f32
  x23 : FVec Ideal S1024x512 .f32
  x24 : FVec Ideal S512x1024 .f32
  x25 : FVec Ideal S1024 .f32
  x26 : FVec Ideal S1024x5632 .f32
  x27 : FVec Ideal S3x2816 .f32
  x28 : FVec Ideal S2816 .f32
  x29 : FVec Ideal S2816x1024 .f32
  x30 : FVec Ideal S1024 .f32

namespace Args
variable (A : Args)

/-- The three scores of the merge. -/
def lseS := val_main_v13 (F := Ideal) A.x6 A.x7 A.x8 A.x9 A.x10 A.x11
/-- The three outputs of the merge. -/
def outS := val_main_v6 (F := Ideal) A.x0 A.x1 A.x2 A.x3 A.x4 A.x5
/-- The merged output. -/
def oa := val_main_v24 (F := Ideal) A.x0 A.x1 A.x2 A.x3 A.x4 A.x5 A.x6 A.x7 A.x8 A.x9 A.x10 A.x11
/-- The rows after the gated merge. -/
def h1 := val_main_v44 (F := Ideal) A.x0 A.x1 A.x2 A.x3 A.x4 A.x5 A.x6 A.x7 A.x8 A.x9 A.x10 A.x11 A.x12 A.x13 A.x14 A.x15 A.x19 A.x20 A.x21
/-- The same, normalised. -/
def n1 := val_main_v57 (F := Ideal) A.x0 A.x1 A.x2 A.x3 A.x4 A.x5 A.x6 A.x7 A.x8 A.x9 A.x10 A.x11 A.x12 A.x13 A.x14 A.x15 A.x19 A.x20 A.x21 A.x22
/-- The queries. -/
def q := val_main_v58 (F := Ideal) A.x0 A.x1 A.x2 A.x3 A.x4 A.x5 A.x6 A.x7 A.x8 A.x9 A.x10 A.x11 A.x12 A.x13 A.x14 A.x15 A.x19 A.x20 A.x21 A.x22 A.x23
/-- The scaled scores. -/
def s := val_main_v63 (F := Ideal) A.x0 A.x1 A.x2 A.x3 A.x4 A.x5 A.x6 A.x7 A.x8 A.x9 A.x10 A.x11 A.x12 A.x13 A.x14 A.x15 A.x16 A.x19 A.x20 A.x21 A.x22 A.x23
/-- The attention over the memory. -/
def om := val_main_v76 (F := Ideal) A.x0 A.x1 A.x2 A.x3 A.x4 A.x5 A.x6 A.x7 A.x8 A.x9 A.x10 A.x11 A.x12 A.x13 A.x14 A.x15 A.x16 A.x17 A.x19 A.x20 A.x21 A.x22 A.x23
/-- The rows after it. -/
def h2 := val_main_v78 (F := Ideal) A.x0 A.x1 A.x2 A.x3 A.x4 A.x5 A.x6 A.x7 A.x8 A.x9 A.x10 A.x11 A.x12 A.x13 A.x14 A.x15 A.x16 A.x17 A.x19 A.x20 A.x21 A.x22 A.x23 A.x24
/-- The same, normalised. -/
def n2 := val_main_v91 (F := Ideal) A.x0 A.x1 A.x2 A.x3 A.x4 A.x5 A.x6 A.x7 A.x8 A.x9 A.x10 A.x11 A.x12 A.x13 A.x14 A.x15 A.x16 A.x17 A.x19 A.x20 A.x21 A.x22 A.x23 A.x24 A.x25
/-- The gate rows. -/
def gate := val_main_v93 (F := Ideal) A.x0 A.x1 A.x2 A.x3 A.x4 A.x5 A.x6 A.x7 A.x8 A.x9 A.x10 A.x11 A.x12 A.x13 A.x14 A.x15 A.x16 A.x17 A.x19 A.x20 A.x21 A.x22 A.x23 A.x24 A.x25 A.x26
/-- The other half of the product. -/
def up := val_main_v94 (F := Ideal) A.x0 A.x1 A.x2 A.x3 A.x4 A.x5 A.x6 A.x7 A.x8 A.x9 A.x10 A.x11 A.x12 A.x13 A.x14 A.x15 A.x16 A.x17 A.x19 A.x20 A.x21 A.x22 A.x23 A.x24 A.x25 A.x26
/-- The gate rows after the two initial ones. -/
def ext := val_main_v95 (F := Ideal) A.x0 A.x1 A.x2 A.x3 A.x4 A.x5 A.x6 A.x7 A.x8 A.x9 A.x10 A.x11 A.x12 A.x13 A.x14 A.x15 A.x16 A.x17 A.x18 A.x19 A.x20 A.x21 A.x22 A.x23 A.x24 A.x25 A.x26
/-- The convolution. -/
def conv := val_main_v118 (F := Ideal) A.x0 A.x1 A.x2 A.x3 A.x4 A.x5 A.x6 A.x7 A.x8 A.x9 A.x10 A.x11 A.x12 A.x13 A.x14 A.x15 A.x16 A.x17 A.x18 A.x19 A.x20 A.x21 A.x22 A.x23 A.x24 A.x25 A.x26 A.x27 A.x28
/-- The activated product. -/
def act := val_main_v120 (F := Ideal) A.x0 A.x1 A.x2 A.x3 A.x4 A.x5 A.x6 A.x7 A.x8 A.x9 A.x10 A.x11 A.x12 A.x13 A.x14 A.x15 A.x16 A.x17 A.x18 A.x19 A.x20 A.x21 A.x22 A.x23 A.x24 A.x25 A.x26 A.x27 A.x28
/-- The rows after the feed-forward. -/
def h3 := val_main_v122 (F := Ideal) A.x0 A.x1 A.x2 A.x3 A.x4 A.x5 A.x6 A.x7 A.x8 A.x9 A.x10 A.x11 A.x12 A.x13 A.x14 A.x15 A.x16 A.x17 A.x18 A.x19 A.x20 A.x21 A.x22 A.x23 A.x24 A.x25 A.x26 A.x27 A.x28 A.x29
/-- The first result. -/
def y := val_main_v135 (F := Ideal) A.x0 A.x1 A.x2 A.x3 A.x4 A.x5 A.x6 A.x7 A.x8 A.x9 A.x10 A.x11 A.x12 A.x13 A.x14 A.x15 A.x16 A.x17 A.x18 A.x19 A.x20 A.x21 A.x22 A.x23 A.x24 A.x25 A.x26 A.x27 A.x28 A.x29 A.x30
/-- The second result. -/
def fc := val_main_v136 (F := Ideal) A.x0 A.x1 A.x2 A.x3 A.x4 A.x5 A.x6 A.x7 A.x8 A.x9 A.x10 A.x11 A.x12 A.x13 A.x14 A.x15 A.x16 A.x17 A.x18 A.x19 A.x20 A.x21 A.x22 A.x23 A.x24 A.x25 A.x26

theorem outS_0_at (B : Fin 8) (r : Fin 2048) (k : Fin 256) : A.outS (ix4 0 B r k) = pair A.x0 A.x1 B r k :=
  RefPost.v6_0 A.x0 A.x1 A.x2 A.x3 A.x4 A.x5 B r k

theorem outS_1_at (B : Fin 8) (r : Fin 2048) (k : Fin 256) : A.outS (ix4 1 B r k) = pair A.x2 A.x3 B r k :=
  RefPost.v6_1 A.x0 A.x1 A.x2 A.x3 A.x4 A.x5 B r k

theorem outS_2_at (B : Fin 8) (r : Fin 2048) (k : Fin 256) : A.outS (ix4 2 B r k) = pair A.x4 A.x5 B r k :=
  RefPost.v6_2 A.x0 A.x1 A.x2 A.x3 A.x4 A.x5 B r k

theorem lseS_0_at (B : Fin 8) (r : Fin 2048) (k : Fin 256) : A.lseS (ix4 0 B r k) = pair A.x6 A.x7 B r k :=
  RefPost.v13_0 A.x6 A.x7 A.x8 A.x9 A.x10 A.x11 B r k

theorem lseS_1_at (B : Fin 8) (r : Fin 2048) (k : Fin 256) : A.lseS (ix4 1 B r k) = pair A.x8 A.x9 B r k :=
  RefPost.v13_1 A.x6 A.x7 A.x8 A.x9 A.x10 A.x11 B r k

theorem lseS_2_at (B : Fin 8) (r : Fin 2048) (k : Fin 256) : A.lseS (ix4 2 B r k) = pair A.x10 A.x11 B r k :=
  RefPost.v13_2 A.x6 A.x7 A.x8 A.x9 A.x10 A.x11 B r k

theorem oa_at (B : Fin 8) (r : Fin 2048) (k : Fin 256) : A.oa (ix3 B r k) = ∑ j : Fin 3, rwt (fun j => A.lseS (ix4 j B r k)) j * A.outS (ix4 j B r k) :=
  RefPost.v24 A.x0 A.x1 A.x2 A.x3 A.x4 A.x5 A.x6 A.x7 A.x8 A.x9 A.x10 A.x11 B r k

theorem h1_at (B : Fin 8) (r : Fin 2048) (j : Fin 1024) : A.h1 (ix3 B r j) = A.x15 (ix3 B r j) + ∑ k : Fin 1024, (sgm (A.x13 (ix3 B r k)) * (∑ l : Fin 256, A.oa (ix3 B r l) * A.x19 (ix2 l k)) + sgm (A.x14 (ix3 B r k)) * (∑ l : Fin 1024, A.x12 (ix3 B r l) * A.x20 (ix2 l k))) * A.x21 (ix2 k j) :=
  RefPost.h1 A.x0 A.x1 A.x2 A.x3 A.x4 A.x5 A.x6 A.x7 A.x8 A.x9 A.x10 A.x11 A.x12 A.x13 A.x14 A.x15 A.x19 A.x20 A.x21 B r j

theorem n1_at (B : Fin 8) (r : Fin 2048) (j : Fin 1024) : A.n1 (ix3 B r j) = rms (fun k => A.h1 (ix3 B r k)) (fun k => A.x22 (ix1 k)) j :=
  RefPost.n1 A.x0 A.x1 A.x2 A.x3 A.x4 A.x5 A.x6 A.x7 A.x8 A.x9 A.x10 A.x11 A.x12 A.x13 A.x14 A.x15 A.x19 A.x20 A.x21 A.x22 B r j

theorem q_at (B : Fin 8) (r : Fin 2048) (j : Fin 512) : A.q (ix3 B r j) = ∑ k : Fin 1024, A.n1 (ix3 B r k) * A.x23 (ix2 k j) :=
  RefPost.q A.x0 A.x1 A.x2 A.x3 A.x4 A.x5 A.x6 A.x7 A.x8 A.x9 A.x10 A.x11 A.x12 A.x13 A.x14 A.x15 A.x19 A.x20 A.x21 A.x22 A.x23 B r j

theorem s_at (B : Fin 8) (r : Fin 2048) (h : Fin 4) (c : Fin 256) : A.s (ix4 B h r c) = score (fun k => A.q (ix3 B r k)) h (fun d => mem A.x16 B h c d) :=
  RefPost.s A.x0 A.x1 A.x2 A.x3 A.x4 A.x5 A.x6 A.x7 A.x8 A.x9 A.x10 A.x11 A.x12 A.x13 A.x14 A.x15 A.x16 A.x19 A.x20 A.x21 A.x22 A.x23 B r h c

theorem om_at (B : Fin 8) (r : Fin 2048) (k : Fin 512) : A.om (ix3 B r k) = ∑ c : Fin 256, mem A.x17 B ⟨k.val / 128, by omega⟩ c ⟨k.val % 128, by omega⟩ * rwt (fun c => A.s (ix4 B ⟨k.val / 128, by omega⟩ r c)) c :=
  RefPost.om A.x0 A.x1 A.x2 A.x3 A.x4 A.x5 A.x6 A.x7 A.x8 A.x9 A.x10 A.x11 A.x12 A.x13 A.x14 A.x15 A.x16 A.x17 A.x19 A.x20 A.x21 A.x22 A.x23 B r k

theorem h2_at (B : Fin 8) (r : Fin 2048) (j : Fin 1024) : A.h2 (ix3 B r j) = A.h1 (ix3 B r j) + ∑ k : Fin 512, A.om (ix3 B r k) * A.x24 (ix2 k j) :=
  RefPost.h2 A.x0 A.x1 A.x2 A.x3 A.x4 A.x5 A.x6 A.x7 A.x8 A.x9 A.x10 A.x11 A.x12 A.x13 A.x14 A.x15 A.x16 A.x17 A.x19 A.x20 A.x21 A.x22 A.x23 A.x24 B r j

theorem n2_at (B : Fin 8) (r : Fin 2048) (j : Fin 1024) : A.n2 (ix3 B r j) = rms (fun k => A.h2 (ix3 B r k)) (fun k => A.x25 (ix1 k)) j :=
  RefPost.n2 A.x0 A.x1 A.x2 A.x3 A.x4 A.x5 A.x6 A.x7 A.x8 A.x9 A.x10 A.x11 A.x12 A.x13 A.x14 A.x15 A.x16 A.x17 A.x19 A.x20 A.x21 A.x22 A.x23 A.x24 A.x25 B r j

theorem gate_at (B : Fin 8) (r : Fin 2048) (j : Fin 2816) : A.gate (ix3 B r j) = ∑ k : Fin 1024, A.n2 (ix3 B r k) * A.x26 (ix2 k ⟨j.val, by omega⟩) :=
  RefPost.gate A.x0 A.x1 A.x2 A.x3 A.x4 A.x5 A.x6 A.x7 A.x8 A.x9 A.x10 A.x11 A.x12 A.x13 A.x14 A.x15 A.x16 A.x17 A.x19 A.x20 A.x21 A.x22 A.x23 A.x24 A.x25 A.x26 B r j

theorem up_at (B : Fin 8) (r : Fin 2048) (j : Fin 2816) : A.up (ix3 B r j) = ∑ k : Fin 1024, A.n2 (ix3 B r k) * A.x26 (ix2 k ⟨2816 + j.val, by omega⟩) :=
  RefPost.up A.x0 A.x1 A.x2 A.x3 A.x4 A.x5 A.x6 A.x7 A.x8 A.x9 A.x10 A.x11 A.x12 A.x13 A.x14 A.x15 A.x16 A.x17 A.x19 A.x20 A.x21 A.x22 A.x23 A.x24 A.x25 A.x26 B r j

theorem ext_at (B : Fin 8) (r : Fin 2050) (j : Fin 2816) : A.ext (ix3 B r j) = if h : r.val < 2 then A.x18 (ix3 B ⟨r.val, h⟩ j) else A.gate (ix3 B ⟨r.val - 2, by omega⟩ j) :=
  RefPost.ext A.x0 A.x1 A.x2 A.x3 A.x4 A.x5 A.x6 A.x7 A.x8 A.x9 A.x10 A.x11 A.x12 A.x13 A.x14 A.x15 A.x16 A.x17 A.x18 A.x19 A.x20 A.x21 A.x22 A.x23 A.x24 A.x25 A.x26 B r j

theorem conv_at (B : Fin 8) (r : Fin 2048) (j : Fin 2816) : A.conv (ix3 B r j) = A.ext (ix3 B ⟨r.val, by omega⟩ j) * A.x27 (ix2 0 j) + A.ext (ix3 B ⟨1 + r.val, by omega⟩ j) * A.x27 (ix2 1 j) + A.ext (ix3 B ⟨2 + r.val, by omega⟩ j) * A.x27 (ix2 2 j) + A.x28 (ix1 j) :=
  RefPost.conv A.x0 A.x1 A.x2 A.x3 A.x4 A.x5 A.x6 A.x7 A.x8 A.x9 A.x10 A.x11 A.x12 A.x13 A.x14 A.x15 A.x16 A.x17 A.x18 A.x19 A.x20 A.x21 A.x22 A.x23 A.x24 A.x25 A.x26 A.x27 A.x28 B r j

theorem act_at (B : Fin 8) (r : Fin 2048) (j : Fin 2816) : A.act (ix3 B r j) = A.conv (ix3 B r j) * sgm (A.conv (ix3 B r j)) * A.up (ix3 B r j) :=
  RefPost.act A.x0 A.x1 A.x2 A.x3 A.x4 A.x5 A.x6 A.x7 A.x8 A.x9 A.x10 A.x11 A.x12 A.x13 A.x14 A.x15 A.x16 A.x17 A.x18 A.x19 A.x20 A.x21 A.x22 A.x23 A.x24 A.x25 A.x26 A.x27 A.x28 B r j

theorem h3_at (B : Fin 8) (r : Fin 2048) (j : Fin 1024) : A.h3 (ix3 B r j) = A.h2 (ix3 B r j) + ∑ k : Fin 2816, A.act (ix3 B r k) * A.x29 (ix2 k j) :=
  RefPost.h3 A.x0 A.x1 A.x2 A.x3 A.x4 A.x5 A.x6 A.x7 A.x8 A.x9 A.x10 A.x11 A.x12 A.x13 A.x14 A.x15 A.x16 A.x17 A.x18 A.x19 A.x20 A.x21 A.x22 A.x23 A.x24 A.x25 A.x26 A.x27 A.x28 A.x29 B r j

theorem y_at (B : Fin 8) (r : Fin 2048) (j : Fin 1024) : A.y (ix3 B r j) = rms (fun k => A.h3 (ix3 B r k)) (fun k => A.x30 (ix1 k)) j :=
  RefPost.y A.x0 A.x1 A.x2 A.x3 A.x4 A.x5 A.x6 A.x7 A.x8 A.x9 A.x10 A.x11 A.x12 A.x13 A.x14 A.x15 A.x16 A.x17 A.x18 A.x19 A.x20 A.x21 A.x22 A.x23 A.x24 A.x25 A.x26 A.x27 A.x28 A.x29 A.x30 B r j

theorem fc_at (B : Fin 8) (r : Fin 2) (j : Fin 2816) : A.fc (ix3 B r j) = A.ext (ix3 B ⟨2048 + r.val, by omega⟩ j) :=
  RefPost.fc A.x0 A.x1 A.x2 A.x3 A.x4 A.x5 A.x6 A.x7 A.x8 A.x9 A.x10 A.x11 A.x12 A.x13 A.x14 A.x15 A.x16 A.x17 A.x18 A.x19 A.x20 A.x21 A.x22 A.x23 A.x24 A.x25 A.x26 B r j

end Args

end Cert.Proof.RefPost
-- ==== Proof.Post.Avg.lean ====
module

public import proofs.«01_k».proof.Proof.Softmax
public import proofs.«01_k».proof.Proof.Post.RefPost

/-! Averages with softmax weights: dividing the weighted sum once is dividing each weight, for real scores.  Then the
    operations that keep real numbers real. -/

@[expose] public section

noncomputable section

namespace Cert.Proof.Avg

open Idealize.ShloMosaic Cert.Proof.Ker Cert.Proof.RefPost Cert.Proof.Softmax

theorem num_one : num 0x3F800000#32 = ((1 : ℝ) : EReal) := by
  simp only [num]
  pointwise
  exact EReal.coe_one.symm

theorem num_ninf : num 0xFF800000#32 = ⊥ := by
  simp [num, Ideal.ofBits, Ideal.ieee]

/-- Being a real number. -/
def Re (x : EReal) : Prop := ∃ r : ℝ, x = r

/-- A positive real factor distributes over a sum of extended reals. -/
theorem sum_mul_pos {n : Nat} (f : Fin n → EReal) (a : ℝ) (ha : 0 ≤ a) : (∑ c, f c) * (a : EReal) = ∑ c, f c * (a : EReal) := by
  classical
  induction (Finset.univ : Finset (Fin n)) using Finset.induction_on with
  | empty => simp
  | insert c s hc ih =>
    rw [Finset.sum_insert hc, Finset.sum_insert hc, ← ih, mul_comm,
      EReal.left_distrib_of_nonneg_of_ne_top (EReal.coe_nonneg.mpr ha) (EReal.coe_ne_top a), mul_comm, mul_comm (a : EReal)]

/-- Weighted sum over the sum of weights, for real scores. -/
theorem avg_eq {n : Nat} [NeZero n] (s v : Fin n → EReal) (hs : ∀ c, Re (s c)) (M : EReal) (hM : M = (Finset.univ : Finset (Fin n)).fold max (num 0xFF800000#32) s) :
    Ideal.div (∑ c, Ideal.exp (s c - M) * v c) (∑ c, Ideal.exp (s c - M)) = ∑ c, rwt s c * v c := by
  haveI : Nonempty (Fin n) := ⟨0⟩
  obtain ⟨x, hx⟩ := Classical.skolem.1 hs
  obtain rfl : s = fun c => (x c : EReal) := funext hx
  unfold rwt
  rw [← hM]
  rw [num_ninf] at hM
  obtain ⟨m, hm⟩ := fold_max_real x
  obtain rfl : M = (m : EReal) := hM.trans hm
  have hS := sum_exp_pos (fun c => x c - m)
  rw [ref_sum x m, Ideal.div_coe hS.ne', sum_mul_pos _ _ (by positivity)]
  refine Finset.sum_congr rfl fun c _ => ?_
  rw [Ideal.div_coe hS.ne', mul_right_comm]

theorem fold3 (s : Fin 3 → EReal) : (Finset.univ : Finset (Fin 3)).fold max (num 0xFF800000#32) s = max (max (s 0) (s 1)) (s 2) := by
  rw [num_ninf]
  show (Finset.univ : Finset (Fin 3)).sup s = _
  rw [show (Finset.univ : Finset (Fin 3)) = {0, 1, 2} from by decide]
  simp only [Finset.sup_insert, Finset.sup_singleton, sup_assoc]

/-- The average of three, the way the kernel writes it. -/
theorem kav3_eq (s v : Fin 3 → EReal) (hs : ∀ c, Re (s c)) :
    kav3 (s 0) (s 1) (s 2) (v 0) (v 1) (v 2) = ∑ c, rwt s c * v c := by
  rw [← avg_eq s v hs _ rfl, fold3, Fin.sum_univ_three, Fin.sum_univ_three]
  rfl

/-- The average over the memory rows. -/
theorem wt_eq (s v : Fin 256 → EReal) (hs : ∀ c, Re (s c)) :
    Ideal.div (∑ c, wt s c * v c) (∑ c, wt s c) = ∑ c, v c * rwt s c :=
  (avg_eq s v hs _ rfl).trans (Finset.sum_congr rfl fun c _ => mul_comm _ _)

theorem Re.add {x y : EReal} (hx : Re x) (hy : Re y) : Re (x + y) := by
  obtain ⟨a, rfl⟩ := hx; obtain ⟨b, rfl⟩ := hy; exact ⟨a + b, (EReal.coe_add a b).symm⟩

theorem Re.mul {x y : EReal} (hx : Re x) (hy : Re y) : Re (x * y) := by
  obtain ⟨a, rfl⟩ := hx; obtain ⟨b, rfl⟩ := hy; exact ⟨a * b, (EReal.coe_mul a b).symm⟩

theorem Re.sum {n : Nat} {f : Fin n → EReal} (h : ∀ c, Re (f c)) : Re (∑ c, f c) := by
  obtain ⟨x, hx⟩ := Classical.skolem.1 h
  exact ⟨∑ c, x c, by rw [coe_sum]; exact Finset.sum_congr rfl fun c _ => hx c⟩

theorem Re.sgm {x : EReal} (hx : Re x) : Re (sgm x) := by
  obtain ⟨a, rfl⟩ := hx
  unfold Ker.sgm
  rw [num_one, ← EReal.coe_neg, Ideal.exp_coe, ← EReal.coe_add, Ideal.div_coe (by positivity), ← EReal.coe_mul]
  exact ⟨_, rfl⟩

/-- A weight of real scores is real. -/
theorem Re.rwt {n : Nat} [NeZero n] {s : Fin n → EReal} (hs : ∀ c, Re (s c)) (c : Fin n) : Re (rwt s c) := by
  haveI : Nonempty (Fin n) := ⟨0⟩
  obtain ⟨x, hx⟩ := Classical.skolem.1 hs
  obtain rfl : s = fun c => (x c : EReal) := funext hx
  obtain ⟨m, hm⟩ := fold_max_real x
  unfold RefPost.rwt
  rw [num_ninf, hm, ref_sum x m, Ideal.div_coe (sum_exp_pos (fun c => x c - m)).ne', ← EReal.coe_sub, Ideal.exp_coe, ← EReal.coe_mul]
  exact ⟨_, rfl⟩

theorem num_pos (w : BitVec 32) (a : ℝ) (ha : 0 < a) (h : num w = (a : EReal)) : 0 < num w := h ▸ EReal.coe_pos.mpr ha

theorem num_1024 : num 0x44800000#32 = ((1024 : ℝ) : EReal) := by
  simp [num, Ideal.ofBits, Ideal.ieee]
  rw [← EReal.coe_mul]
  norm_num

/-- The stabilizer of the root mean square is a positive real. -/
theorem num_eps : ∃ e : ℝ, 0 < e ∧ num 0x358637BD#32 = (e : EReal) := by
  refine ⟨_, ?_, by simp [num, Ideal.ofBits, Ideal.ieee]; rfl⟩
  positivity

theorem num_scale : Re (num 0x3DB504F3#32) := by
  refine ⟨_, by simp [num, Ideal.ofBits, Ideal.ieee]; rfl⟩

theorem Re.rms {v g : Fin 1024 → EReal} (hv : ∀ c, Re (v c)) (hg : ∀ c, Re (g c)) (j : Fin 1024) : Re (rms v g j) := by
  obtain ⟨x, hx⟩ := Classical.skolem.1 hv
  obtain rfl : v = fun c => (x c : EReal) := funext hx
  obtain ⟨e, he, h⟩ := num_eps
  unfold Ker.rms
  refine ((hv j).mul ?_).mul (hg j)
  simp only [← EReal.coe_mul]
  rw [← coe_sum, num_1024, h, Ideal.div_coe (by norm_num), ← EReal.coe_mul, ← EReal.coe_add, Ideal.rsqrt_coe]
  have hp : 0 < (∑ c, x c * x c) * (1 / 1024) + e := by
    have := Finset.sum_nonneg (fun c (_ : c ∈ (Finset.univ : Finset (Fin 1024))) => mul_self_nonneg (x c))
    positivity
  rw [if_neg hp.not_gt, if_neg hp.ne']
  exact ⟨_, rfl⟩

theorem Re.score {q : Fin 512 → EReal} {k : Fin 128 → EReal} (hq : ∀ c, Re (q c)) (hk : ∀ c, Re (k c)) (h : Fin 4) : Re (score q h k) :=
  (Re.sum fun _ => (hq _).mul (hk _)).mul num_scale

end Cert.Proof.Avg
-- ==== Proof.Post.Body.lean ====
module

public import proofs.«01_k».proof.Proof.Gen.Kernel2Ideal.Frame
public import proofs.«01_k».proof.Proof.Gen.Kernel2Ideal.Skeleton
public import Idealize.ShloMosaic.Lib.Pipeline.ValueKit
public import Idealize.ShloMosaic.Lib.UnfoldOut
public import proofs.«01_k».proof.Proof.Post.Rows

@[expose] public section

set_option maxRecDepth 16384
set_option maxHeartbeats 8000000

noncomputable section

namespace Cert.Kernel2Ideal.Post

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen Cert.Proof.Rows

variable {F : FTy → Type} [FloatOps F]

local notation "𝕄" => MT nD τ sig Unit (Elt F) ℕ (UR sig nD τ) ℕ

/-- The blocks of the 31 inputs that one grid point is given. -/
structure Blk (F : FTy → Type) [FloatOps F] where
  o0 : Vec F S1x256x128 .f32
  o1 : Vec F S1x256x128 .f32
  o2 : Vec F S1x256x128 .f32
  o3 : Vec F S1x256x128 .f32
  o4 : Vec F S1x256x128 .f32
  o5 : Vec F S1x256x128 .f32
  l0 : Vec F S1x256x128 .f32
  l1 : Vec F S1x256x128 .f32
  l2 : Vec F S1x256x128 .f32
  l3 : Vec F S1x256x128 .f32
  l4 : Vec F S1x256x128 .f32
  l5 : Vec F S1x256x128 .f32
  ob : Vec F S1x256x1024 .bf16
  ga : Vec F S1x256x1024 .f32
  gb : Vec F S1x256x1024 .f32
  h : Vec F S1x256x1024 .f32
  mmk : Vec F S1x1024x128 .f32
  mmv : Vec F S1x1024x128 .f32
  ini : Vec F S1x2x2816 .f32
  wa : Vec F S256x1024 .bf16
  wb : Vec F S1024x1024 .bf16
  wo : Vec F S1024x1024 .bf16
  nq : Vec F S1x1024 .f32
  wq : Vec F S1024x512 .bf16
  wmo : Vec F S512x1024 .bf16
  nf : Vec F S1x1024 .f32
  wup : Vec F S1024x5632 .bf16
  wc : Vec F S3x2816 .f32
  bc : Vec F S1x2816 .f32
  wd : Vec F S2816x1024 .bf16
  nl : Vec F S1x1024 .f32

namespace Blk
variable (b : Blk F)

/-- Every fourth row of a block of memory rows, from row `n` on: one head's rows. -/
abbrev hd (n : ℕ) (inb : ∀ a, S1x256x128.size a = 0 ∨ (![0, n, 0] : Fin 3 → ℕ) a + (![1, 4, 1] : Fin 3 → ℕ) a * (S1x256x128.size a - 1) < S1x1024x128.size a)
    (x : Vec F S1x1024x128 .f32) : Vec F S1x256x128 .f32 := fun j => x ((⟨![0, n, 0], S1x256x128.size, ![1, 4, 1], inb⟩ : LoadRect S1x1024x128).idx j)

/-- The merged attention outputs' product with the first projection. -/
def oaw : FVec F S256x1024 .f32 := k0_pay5 (k0_pay2 b.l0 b.l2 b.l4 b.o0 b.o2 b.o4) (k0_pay3 b.l1) (k0_pay4 b.l3) b.l5 b.o1 b.o3 b.o5 b.wa
/-- The rows after the gated merge. -/
def h1 : FVec F S256x1024 .f32 := k0_pay9 b.oaw (k0_pay6 b.ob b.wb) (k0_pay7 b.ga) (k0_pay8 (F := F)) b.gb b.h b.wo
/-- The same, normalised. -/
def n1 : FVec F S256x1024 .f32 := k0_pay10 b.oaw (k0_pay6 b.ob b.wb) (k0_pay7 b.ga) (k0_pay8 (F := F)) b.gb b.h b.wo b.nq
/-- The four heads' attention over the memory. -/
def om0 : FVec F S256x128 .f32 := k0_pay17 (k0_pay15 b.n1 b.wq (hd 0 inb_S1x1024x128_S1x256x128_0_0_0_s_1_4_1 b.mmk)) (hd 0 inb_S1x1024x128_S1x256x128_0_0_0_s_1_4_1 b.mmv)
def om1 : FVec F S256x128 .f32 := k0_pay18 (k0_pay12 b.n1 b.wq (hd 1 inb_S1x1024x128_S1x256x128_0_1_0_s_1_4_1 b.mmk)) (hd 1 inb_S1x1024x128_S1x256x128_0_1_0_s_1_4_1 b.mmv)
def om2 : FVec F S256x128 .f32 := k0_pay19 (k0_pay13 b.n1 b.wq (hd 2 inb_S1x1024x128_S1x256x128_0_2_0_s_1_4_1 b.mmk)) (hd 2 inb_S1x1024x128_S1x256x128_0_2_0_s_1_4_1 b.mmv)
def e3 : FVec F S256x256 .f32 := k0_pay16 (k0_pay14 b.n1 b.wq (hd 3 inb_S1x1024x128_S1x256x128_0_3_0_s_1_4_1 b.mmk))
abbrev mv3 : Vec F S1x256x128 .f32 := hd 3 inb_S1x1024x128_S1x256x128_0_3_0_s_1_4_1 b.mmv
/-- The rows after the attention. -/
def h2 : FVec F S256x1024 .f32 := k0_pay21 b.h1 b.e3 b.om0 b.om1 b.om2 b.mv3 b.wmo
/-- The same, normalised. -/
def n2 : FVec F S256x1024 .bf16 := k0_pay22 b.h1 b.e3 b.om0 b.om1 b.om2 b.mv3 b.wmo b.nf
/-- The gate rows. -/
def gate : FVec F S256x2816 .f32 := k0_pay23 b.h1 b.e3 b.om0 b.om1 b.om2 b.mv3 b.wmo b.nf (View.ld b.wup (Rect.unit (s := S1024x5632) ![0, 0] S1024x2816.size inb_S1024x5632_S1024x2816_0_0))
def gateS : FVec F S256x2816 .f32 := k0_pay24 b.h1 b.e3 b.om0 b.om1 b.om2 b.mv3 b.wmo b.nf (View.ld b.wup (Rect.unit (s := S1024x5632) ![0, 0] S1024x2816.size inb_S1024x5632_S1024x2816_0_0))
/-- The other half of the product. -/
def up : FVec F S256x2816 .f32 := k0_pay27 b.n2 (View.ld b.wup (Rect.unit (s := S1024x5632) ![0, 2816] S1024x2816.size inb_S1024x5632_S1024x2816_0_2816))
variable (q : Vec F S2x2816 .f32)
/-- The convolution over the gate rows, `q` the two rows before the tile, -/
def conv : FVec F S256x2816 .f32 := k0_pay28 b.gate (shifted 0 q b.gateS) (View.ld b.wc (Rect.unit (s := S3x2816) ![0, 0] S1x2816.size inb_S3x2816_S1x2816_0_0)) (shifted 1 q b.gateS)
  (View.ld b.wc (Rect.unit (s := S3x2816) ![1, 0] S1x2816.size inb_S3x2816_S1x2816_1_0)) (View.ld b.wc (Rect.unit (s := S3x2816) ![2, 0] S1x2816.size inb_S3x2816_S1x2816_2_0)) b.bc
/-- the denominator of its sigmoid, -/
def den : FVec F S256x2816 .f32 := k0_pay29 b.gate (shifted 0 q b.gateS) (View.ld b.wc (Rect.unit (s := S3x2816) ![0, 0] S1x2816.size inb_S3x2816_S1x2816_0_0)) (shifted 1 q b.gateS)
  (View.ld b.wc (Rect.unit (s := S3x2816) ![1, 0] S1x2816.size inb_S3x2816_S1x2816_1_0)) (View.ld b.wc (Rect.unit (s := S3x2816) ![2, 0] S1x2816.size inb_S3x2816_S1x2816_2_0)) b.bc
/-- and the tile's result rows. -/
def y : FVec F S1x256x1024 .f32 := k0_pay1 b.h2 b.up (b.conv q) (b.den q) (Scalar.ofBits .f32 0x3F800000#32) b.wd b.nl
/-- What the tile leaves to the next one, and the buffer's last two rows. -/
def carry : FVec F S2x2816 .f32 := k0_pay25 (tail b.gateS)
def fc : FVec F S1x2x2816 .f32 := k0_pay26 (tail b.gateS)
end Blk

/-- The buffer's rows 6 and 7. -/
abbrev top (g : Vec F S264x2816 .f32) : Vec F S2x2816 .f32 := View.ld g (Rect.unit (s := S264x2816) ![6, 0] S2x2816.size inb_S264x2816_S2x2816_6_0)

/-- The body at a point, its tile the first of a sequence: the inputs' buffers keep their blocks, the results' hold the tile's, and rows 6 and 7 of the
    carried buffer become the tile's last two gate rows. -/
theorem sound_first (c : Dev nD) (E : Set ℕ) (i : grid0.Coords) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x256x128 .f32) (harg9 : arg9.IsWhole) (arg10 : Memref sig .tc .vmem S1x256x128 .f32) (harg10 : arg10.IsWhole) (arg11 : Memref sig .tc .vmem S1x256x128 .f32) (harg11 : arg11.IsWhole) (arg12 : Memref sig .tc .vmem S1x256x128 .f32) (harg12 : arg12.IsWhole) (arg13 : Memref sig .tc .vmem S1x256x128 .f32) (harg13 : arg13.IsWhole) (arg14 : Memref sig .tc .vmem S1x256x1024 .bf16) (harg14 : arg14.IsWhole) (arg15 : Memref sig .tc .vmem S1x256x1024 .f32) (harg15 : arg15.IsWhole) (arg16 : Memref sig .tc .vmem S1x256x1024 .f32) (harg16 : arg16.IsWhole) (arg17 : Memref sig .tc .vmem S1x256x1024 .f32) (harg17 : arg17.IsWhole) (arg18 : Memref sig .tc .vmem S1x1024x128 .f32) (harg18 : arg18.IsWhole) (arg19 : Memref sig .tc .vmem S1x1024x128 .f32) (harg19 : arg19.IsWhole) (arg20 : Memref sig .tc .vmem S1x2x2816 .f32) (harg20 : arg20.IsWhole) (arg21 : Memref sig .tc .vmem S256x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S1x1024 .f32) (harg24 : arg24.IsWhole) (arg25 : Memref sig .tc .vmem S1024x512 .bf16) (harg25 : arg25.IsWhole) (arg26 : Memref sig .tc .vmem S512x1024 .bf16) (harg26 : arg26.IsWhole) (arg27 : Memref sig .tc .vmem S1x1024 .f32) (harg27 : arg27.IsWhole) (arg28 : Memref sig .tc .vmem S1024x5632 .bf16) (harg28 : arg28.IsWhole) (arg29 : Memref sig .tc .vmem S3x2816 .f32) (harg29 : arg29.IsWhole) (arg30 : Memref sig .tc .vmem S1x2816 .f32) (harg30 : arg30.IsWhole) (arg31 : Memref sig .tc .vmem S2816x1024 .bf16) (harg31 : arg31.IsWhole) (arg32 : Memref sig .tc .vmem S1x1024 .f32) (harg32 : arg32.IsWhole) (arg33 : Memref sig .tc .vmem S1x256x1024 .f32) (harg33 : arg33.IsWhole) (arg34 : Memref sig .tc .vmem S1x2x2816 .f32) (harg34 : arg34.IsWhole) (arg35 : Memref sig .tc .vmem S264x2816 .f32) (harg35 : arg35.IsWhole) (b : Blk F) (g : Vec F S264x2816 .f32)
    (hc : Scalar.cmpi .ne (Scalar.extui (Scalar.cmpi .eq (BitVec.ofNat 32 (i 1).val) 0#32)) 0#32 = 1#1) (K : PUnit → sProp 𝕄) :
    iprop(owns (c : Thread nD τ) arg2 fullShare b.o0 ∗ owns (c : Thread nD τ) arg3 fullShare b.o1 ∗ owns (c : Thread nD τ) arg4 fullShare b.o2 ∗ owns (c : Thread nD τ) arg5 fullShare b.o3 ∗ owns (c : Thread nD τ) arg6 fullShare b.o4 ∗ owns (c : Thread nD τ) arg7 fullShare b.o5 ∗ owns (c : Thread nD τ) arg8 fullShare b.l0 ∗ owns (c : Thread nD τ) arg9 fullShare b.l1 ∗ owns (c : Thread nD τ) arg10 fullShare b.l2 ∗ owns (c : Thread nD τ) arg11 fullShare b.l3 ∗ owns (c : Thread nD τ) arg12 fullShare b.l4 ∗ owns (c : Thread nD τ) arg13 fullShare b.l5 ∗ owns (c : Thread nD τ) arg14 fullShare b.ob ∗ owns (c : Thread nD τ) arg15 fullShare b.ga ∗ owns (c : Thread nD τ) arg16 fullShare b.gb ∗ owns (c : Thread nD τ) arg17 fullShare b.h ∗ owns (c : Thread nD τ) arg18 fullShare b.mmk ∗ owns (c : Thread nD τ) arg19 fullShare b.mmv ∗ owns (c : Thread nD τ) arg20 fullShare b.ini ∗ owns (c : Thread nD τ) arg21 fullShare b.wa ∗ owns (c : Thread nD τ) arg22 fullShare b.wb ∗ owns (c : Thread nD τ) arg23 fullShare b.wo ∗ owns (c : Thread nD τ) arg24 fullShare b.nq ∗ owns (c : Thread nD τ) arg25 fullShare b.wq ∗ owns (c : Thread nD τ) arg26 fullShare b.wmo ∗ owns (c : Thread nD τ) arg27 fullShare b.nf ∗ owns (c : Thread nD τ) arg28 fullShare b.wup ∗ owns (c : Thread nD τ) arg29 fullShare b.wc ∗ owns (c : Thread nD τ) arg30 fullShare b.bc ∗ owns (c : Thread nD τ) arg31 fullShare b.wd ∗ owns (c : Thread nD τ) arg32 fullShare b.nl ∗ (∃ d, owns (c : Thread nD τ) arg33 fullShare d) ∗ (∃ d, owns (c : Thread nD τ) arg34 fullShare d) ∗ owns (c : Thread nD τ) arg35 fullShare g
        ∗ (iprop(owns (c : Thread nD τ) arg2 fullShare b.o0 ∗ owns (c : Thread nD τ) arg3 fullShare b.o1 ∗ owns (c : Thread nD τ) arg4 fullShare b.o2 ∗ owns (c : Thread nD τ) arg5 fullShare b.o3 ∗ owns (c : Thread nD τ) arg6 fullShare b.o4 ∗ owns (c : Thread nD τ) arg7 fullShare b.o5 ∗ owns (c : Thread nD τ) arg8 fullShare b.l0 ∗ owns (c : Thread nD τ) arg9 fullShare b.l1 ∗ owns (c : Thread nD τ) arg10 fullShare b.l2 ∗ owns (c : Thread nD τ) arg11 fullShare b.l3 ∗ owns (c : Thread nD τ) arg12 fullShare b.l4 ∗ owns (c : Thread nD τ) arg13 fullShare b.l5 ∗ owns (c : Thread nD τ) arg14 fullShare b.ob ∗ owns (c : Thread nD τ) arg15 fullShare b.ga ∗ owns (c : Thread nD τ) arg16 fullShare b.gb ∗ owns (c : Thread nD τ) arg17 fullShare b.h ∗ owns (c : Thread nD τ) arg18 fullShare b.mmk ∗ owns (c : Thread nD τ) arg19 fullShare b.mmv ∗ owns (c : Thread nD τ) arg20 fullShare b.ini ∗ owns (c : Thread nD τ) arg21 fullShare b.wa ∗ owns (c : Thread nD τ) arg22 fullShare b.wb ∗ owns (c : Thread nD τ) arg23 fullShare b.wo ∗ owns (c : Thread nD τ) arg24 fullShare b.nq ∗ owns (c : Thread nD τ) arg25 fullShare b.wq ∗ owns (c : Thread nD τ) arg26 fullShare b.wmo ∗ owns (c : Thread nD τ) arg27 fullShare b.nf ∗ owns (c : Thread nD τ) arg28 fullShare b.wup ∗ owns (c : Thread nD τ) arg29 fullShare b.wc ∗ owns (c : Thread nD τ) arg30 fullShare b.bc ∗ owns (c : Thread nD τ) arg31 fullShare b.wd ∗ owns (c : Thread nD τ) arg32 fullShare b.nl ∗ owns (c : Thread nD τ) arg33 fullShare (b.y (k0_pay20 b.ini)) ∗ owns (c : Thread nD τ) arg34 fullShare b.fc ∗ (∃ g', ⌜top g' = b.carry⌝ ∗ owns (c : Thread nD τ) arg35 fullShare g')) -∗ K ⟨⟩))
      ⊢ wp frame (wpE (defs₀ (F := F)) Variants.none c none) E (cc0_post i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K := by
  simp only [cc0_post_eq_skeleton]; unfold cc0_post_skel
  simp only [k0_part1_eq_skeleton, k0_part2_eq_skeleton, k0_part3_eq_skeleton, k0_part4_eq_skeleton, k0_part5_eq_skeleton, k0_part6_eq_skeleton, k0_part7_eq_skeleton]
  obtain ⟨o0, o1, o2, o3, o4, o5, l0, l1, l2, l3, l4, l5, ob, ga, gb, h, mmk, mmv, ini, wa, wb, wo, nq, wq, wmo, nf, wup, wc, bc, wd, nl⟩ := b
  dsimp only
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%d31, %f31, -, H31⟩, ⟨%d32, %f32, -, H32⟩, ⟨%f33, %hf33, H33⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf33
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists _; isplitr
    swap; · iexact H31
    ipureintro
    refine (read_full _ _ _ _ _).trans ?_
    sl_unfold_run_names
    try simp only [View.readCov]
    simp only [read_tail, full2, full3]
    rw [read6 _ _ _ _ _ inb_S264x2816_S2x2816_6_0 _ _ (read_top _ _ _ _ _ _), read7 _ _ _ _ _ inb_S264x2816_S2x2816_6_0 _ _ (read_top _ _ _ _ _ _)]
    rfl
  isplitl [H32]
  · iexists _; isplitr
    swap; · iexact H32
    ipureintro
    refine (read_full _ _ _ _ _).trans ?_
    sl_unfold_run_names
    try simp only [View.readCov]
    simp only [read_tail, full2, full3]
    rfl
  iexists _; isplitr
  swap
  · iexists _; isplitr
    swap; · iexact H33
    ipureintro; rfl
  ipureintro
  refine (read_top _ _ _ _ _ _).trans ?_
  sl_unfold_run_names
  try simp only [View.readCov]
  simp only [read_tail, full2, full3]
  rfl

/-- The body at a point, its tile after another one: the inputs' buffers keep their blocks, the results' hold the tile's, and rows 6 and 7 of the
    carried buffer become the tile's last two gate rows. -/
theorem sound_next (c : Dev nD) (E : Set ℕ) (i : grid0.Coords) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x256x128 .f32) (harg9 : arg9.IsWhole) (arg10 : Memref sig .tc .vmem S1x256x128 .f32) (harg10 : arg10.IsWhole) (arg11 : Memref sig .tc .vmem S1x256x128 .f32) (harg11 : arg11.IsWhole) (arg12 : Memref sig .tc .vmem S1x256x128 .f32) (harg12 : arg12.IsWhole) (arg13 : Memref sig .tc .vmem S1x256x128 .f32) (harg13 : arg13.IsWhole) (arg14 : Memref sig .tc .vmem S1x256x1024 .bf16) (harg14 : arg14.IsWhole) (arg15 : Memref sig .tc .vmem S1x256x1024 .f32) (harg15 : arg15.IsWhole) (arg16 : Memref sig .tc .vmem S1x256x1024 .f32) (harg16 : arg16.IsWhole) (arg17 : Memref sig .tc .vmem S1x256x1024 .f32) (harg17 : arg17.IsWhole) (arg18 : Memref sig .tc .vmem S1x1024x128 .f32) (harg18 : arg18.IsWhole) (arg19 : Memref sig .tc .vmem S1x1024x128 .f32) (harg19 : arg19.IsWhole) (arg20 : Memref sig .tc .vmem S1x2x2816 .f32) (harg20 : arg20.IsWhole) (arg21 : Memref sig .tc .vmem S256x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S1x1024 .f32) (harg24 : arg24.IsWhole) (arg25 : Memref sig .tc .vmem S1024x512 .bf16) (harg25 : arg25.IsWhole) (arg26 : Memref sig .tc .vmem S512x1024 .bf16) (harg26 : arg26.IsWhole) (arg27 : Memref sig .tc .vmem S1x1024 .f32) (harg27 : arg27.IsWhole) (arg28 : Memref sig .tc .vmem S1024x5632 .bf16) (harg28 : arg28.IsWhole) (arg29 : Memref sig .tc .vmem S3x2816 .f32) (harg29 : arg29.IsWhole) (arg30 : Memref sig .tc .vmem S1x2816 .f32) (harg30 : arg30.IsWhole) (arg31 : Memref sig .tc .vmem S2816x1024 .bf16) (harg31 : arg31.IsWhole) (arg32 : Memref sig .tc .vmem S1x1024 .f32) (harg32 : arg32.IsWhole) (arg33 : Memref sig .tc .vmem S1x256x1024 .f32) (harg33 : arg33.IsWhole) (arg34 : Memref sig .tc .vmem S1x2x2816 .f32) (harg34 : arg34.IsWhole) (arg35 : Memref sig .tc .vmem S264x2816 .f32) (harg35 : arg35.IsWhole) (b : Blk F) (g : Vec F S264x2816 .f32)
    (hc : ¬ Scalar.cmpi .ne (Scalar.extui (Scalar.cmpi .eq (BitVec.ofNat 32 (i 1).val) 0#32)) 0#32 = 1#1) (K : PUnit → sProp 𝕄) :
    iprop(owns (c : Thread nD τ) arg2 fullShare b.o0 ∗ owns (c : Thread nD τ) arg3 fullShare b.o1 ∗ owns (c : Thread nD τ) arg4 fullShare b.o2 ∗ owns (c : Thread nD τ) arg5 fullShare b.o3 ∗ owns (c : Thread nD τ) arg6 fullShare b.o4 ∗ owns (c : Thread nD τ) arg7 fullShare b.o5 ∗ owns (c : Thread nD τ) arg8 fullShare b.l0 ∗ owns (c : Thread nD τ) arg9 fullShare b.l1 ∗ owns (c : Thread nD τ) arg10 fullShare b.l2 ∗ owns (c : Thread nD τ) arg11 fullShare b.l3 ∗ owns (c : Thread nD τ) arg12 fullShare b.l4 ∗ owns (c : Thread nD τ) arg13 fullShare b.l5 ∗ owns (c : Thread nD τ) arg14 fullShare b.ob ∗ owns (c : Thread nD τ) arg15 fullShare b.ga ∗ owns (c : Thread nD τ) arg16 fullShare b.gb ∗ owns (c : Thread nD τ) arg17 fullShare b.h ∗ owns (c : Thread nD τ) arg18 fullShare b.mmk ∗ owns (c : Thread nD τ) arg19 fullShare b.mmv ∗ owns (c : Thread nD τ) arg20 fullShare b.ini ∗ owns (c : Thread nD τ) arg21 fullShare b.wa ∗ owns (c : Thread nD τ) arg22 fullShare b.wb ∗ owns (c : Thread nD τ) arg23 fullShare b.wo ∗ owns (c : Thread nD τ) arg24 fullShare b.nq ∗ owns (c : Thread nD τ) arg25 fullShare b.wq ∗ owns (c : Thread nD τ) arg26 fullShare b.wmo ∗ owns (c : Thread nD τ) arg27 fullShare b.nf ∗ owns (c : Thread nD τ) arg28 fullShare b.wup ∗ owns (c : Thread nD τ) arg29 fullShare b.wc ∗ owns (c : Thread nD τ) arg30 fullShare b.bc ∗ owns (c : Thread nD τ) arg31 fullShare b.wd ∗ owns (c : Thread nD τ) arg32 fullShare b.nl ∗ (∃ d, owns (c : Thread nD τ) arg33 fullShare d) ∗ (∃ d, owns (c : Thread nD τ) arg34 fullShare d) ∗ owns (c : Thread nD τ) arg35 fullShare g
        ∗ (iprop(owns (c : Thread nD τ) arg2 fullShare b.o0 ∗ owns (c : Thread nD τ) arg3 fullShare b.o1 ∗ owns (c : Thread nD τ) arg4 fullShare b.o2 ∗ owns (c : Thread nD τ) arg5 fullShare b.o3 ∗ owns (c : Thread nD τ) arg6 fullShare b.o4 ∗ owns (c : Thread nD τ) arg7 fullShare b.o5 ∗ owns (c : Thread nD τ) arg8 fullShare b.l0 ∗ owns (c : Thread nD τ) arg9 fullShare b.l1 ∗ owns (c : Thread nD τ) arg10 fullShare b.l2 ∗ owns (c : Thread nD τ) arg11 fullShare b.l3 ∗ owns (c : Thread nD τ) arg12 fullShare b.l4 ∗ owns (c : Thread nD τ) arg13 fullShare b.l5 ∗ owns (c : Thread nD τ) arg14 fullShare b.ob ∗ owns (c : Thread nD τ) arg15 fullShare b.ga ∗ owns (c : Thread nD τ) arg16 fullShare b.gb ∗ owns (c : Thread nD τ) arg17 fullShare b.h ∗ owns (c : Thread nD τ) arg18 fullShare b.mmk ∗ owns (c : Thread nD τ) arg19 fullShare b.mmv ∗ owns (c : Thread nD τ) arg20 fullShare b.ini ∗ owns (c : Thread nD τ) arg21 fullShare b.wa ∗ owns (c : Thread nD τ) arg22 fullShare b.wb ∗ owns (c : Thread nD τ) arg23 fullShare b.wo ∗ owns (c : Thread nD τ) arg24 fullShare b.nq ∗ owns (c : Thread nD τ) arg25 fullShare b.wq ∗ owns (c : Thread nD τ) arg26 fullShare b.wmo ∗ owns (c : Thread nD τ) arg27 fullShare b.nf ∗ owns (c : Thread nD τ) arg28 fullShare b.wup ∗ owns (c : Thread nD τ) arg29 fullShare b.wc ∗ owns (c : Thread nD τ) arg30 fullShare b.bc ∗ owns (c : Thread nD τ) arg31 fullShare b.wd ∗ owns (c : Thread nD τ) arg32 fullShare b.nl ∗ owns (c : Thread nD τ) arg33 fullShare (b.y (top g)) ∗ owns (c : Thread nD τ) arg34 fullShare b.fc ∗ (∃ g', ⌜top g' = b.carry⌝ ∗ owns (c : Thread nD τ) arg35 fullShare g')) -∗ K ⟨⟩))
      ⊢ wp frame (wpE (defs₀ (F := F)) Variants.none c none) E (cc0_post i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K := by
  simp only [cc0_post_eq_skeleton]; unfold cc0_post_skel
  simp only [k0_part1_eq_skeleton, k0_part2_eq_skeleton, k0_part3_eq_skeleton, k0_part4_eq_skeleton, k0_part5_eq_skeleton, k0_part6_eq_skeleton, k0_part7_eq_skeleton]
  obtain ⟨o0, o1, o2, o3, o4, o5, l0, l1, l2, l3, l4, l5, ob, ga, gb, h, mmk, mmv, ini, wa, wb, wo, nq, wq, wmo, nf, wup, wc, bc, wd, nl⟩ := b
  dsimp only
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%d31, %f31, -, H31⟩, ⟨%d32, %f32, -, H32⟩, ⟨%f33, %hf33, H33⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf33
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists _; isplitr
    swap; · iexact H31
    ipureintro
    refine (read_full _ _ _ _ _).trans ?_
    sl_unfold_run_names
    try simp only [View.readCov]
    simp only [read_tail, full2, full3]
    rw [read6 _ _ _ _ _ inb_S264x2816_S2x2816_6_0 _ _ (rfl), read7 _ _ _ _ _ inb_S264x2816_S2x2816_6_0 _ _ (rfl)]
    rfl
  isplitl [H32]
  · iexists _; isplitr
    swap; · iexact H32
    ipureintro
    refine (read_full _ _ _ _ _).trans ?_
    sl_unfold_run_names
    try simp only [View.readCov]
    simp only [read_tail, full2, full3]
    rfl
  iexists _; isplitr
  swap
  · iexists _; isplitr
    swap; · iexact H33
    ipureintro; rfl
  ipureintro
  refine (read_top _ _ _ _ _ _).trans ?_
  sl_unfold_run_names
  try simp only [View.readCov]
  simp only [read_tail, full2, full3]
  rfl

/-- The body at any point, `q` the two gate rows before its tile. -/
theorem sound_at (c : Dev nD) (E : Set ℕ) (i : grid0.Coords) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x256x128 .f32) (harg9 : arg9.IsWhole) (arg10 : Memref sig .tc .vmem S1x256x128 .f32) (harg10 : arg10.IsWhole) (arg11 : Memref sig .tc .vmem S1x256x128 .f32) (harg11 : arg11.IsWhole) (arg12 : Memref sig .tc .vmem S1x256x128 .f32) (harg12 : arg12.IsWhole) (arg13 : Memref sig .tc .vmem S1x256x128 .f32) (harg13 : arg13.IsWhole) (arg14 : Memref sig .tc .vmem S1x256x1024 .bf16) (harg14 : arg14.IsWhole) (arg15 : Memref sig .tc .vmem S1x256x1024 .f32) (harg15 : arg15.IsWhole) (arg16 : Memref sig .tc .vmem S1x256x1024 .f32) (harg16 : arg16.IsWhole) (arg17 : Memref sig .tc .vmem S1x256x1024 .f32) (harg17 : arg17.IsWhole) (arg18 : Memref sig .tc .vmem S1x1024x128 .f32) (harg18 : arg18.IsWhole) (arg19 : Memref sig .tc .vmem S1x1024x128 .f32) (harg19 : arg19.IsWhole) (arg20 : Memref sig .tc .vmem S1x2x2816 .f32) (harg20 : arg20.IsWhole) (arg21 : Memref sig .tc .vmem S256x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S1x1024 .f32) (harg24 : arg24.IsWhole) (arg25 : Memref sig .tc .vmem S1024x512 .bf16) (harg25 : arg25.IsWhole) (arg26 : Memref sig .tc .vmem S512x1024 .bf16) (harg26 : arg26.IsWhole) (arg27 : Memref sig .tc .vmem S1x1024 .f32) (harg27 : arg27.IsWhole) (arg28 : Memref sig .tc .vmem S1024x5632 .bf16) (harg28 : arg28.IsWhole) (arg29 : Memref sig .tc .vmem S3x2816 .f32) (harg29 : arg29.IsWhole) (arg30 : Memref sig .tc .vmem S1x2816 .f32) (harg30 : arg30.IsWhole) (arg31 : Memref sig .tc .vmem S2816x1024 .bf16) (harg31 : arg31.IsWhole) (arg32 : Memref sig .tc .vmem S1x1024 .f32) (harg32 : arg32.IsWhole) (arg33 : Memref sig .tc .vmem S1x256x1024 .f32) (harg33 : arg33.IsWhole) (arg34 : Memref sig .tc .vmem S1x2x2816 .f32) (harg34 : arg34.IsWhole) (arg35 : Memref sig .tc .vmem S264x2816 .f32) (harg35 : arg35.IsWhole) (b : Blk F) (g : Vec F S264x2816 .f32)
    (q : Vec F S2x2816 .f32)
    (hq : (Scalar.cmpi .ne (Scalar.extui (Scalar.cmpi .eq (BitVec.ofNat 32 (i 1).val) 0#32)) 0#32 = 1#1 ∧ q = k0_pay20 b.ini)
      ∨ (¬ Scalar.cmpi .ne (Scalar.extui (Scalar.cmpi .eq (BitVec.ofNat 32 (i 1).val) 0#32)) 0#32 = 1#1 ∧ q = top g)) (K : PUnit → sProp 𝕄) :
    iprop(owns (c : Thread nD τ) arg2 fullShare b.o0 ∗ owns (c : Thread nD τ) arg3 fullShare b.o1 ∗ owns (c : Thread nD τ) arg4 fullShare b.o2 ∗ owns (c : Thread nD τ) arg5 fullShare b.o3 ∗ owns (c : Thread nD τ) arg6 fullShare b.o4 ∗ owns (c : Thread nD τ) arg7 fullShare b.o5 ∗ owns (c : Thread nD τ) arg8 fullShare b.l0 ∗ owns (c : Thread nD τ) arg9 fullShare b.l1 ∗ owns (c : Thread nD τ) arg10 fullShare b.l2 ∗ owns (c : Thread nD τ) arg11 fullShare b.l3 ∗ owns (c : Thread nD τ) arg12 fullShare b.l4 ∗ owns (c : Thread nD τ) arg13 fullShare b.l5 ∗ owns (c : Thread nD τ) arg14 fullShare b.ob ∗ owns (c : Thread nD τ) arg15 fullShare b.ga ∗ owns (c : Thread nD τ) arg16 fullShare b.gb ∗ owns (c : Thread nD τ) arg17 fullShare b.h ∗ owns (c : Thread nD τ) arg18 fullShare b.mmk ∗ owns (c : Thread nD τ) arg19 fullShare b.mmv ∗ owns (c : Thread nD τ) arg20 fullShare b.ini ∗ owns (c : Thread nD τ) arg21 fullShare b.wa ∗ owns (c : Thread nD τ) arg22 fullShare b.wb ∗ owns (c : Thread nD τ) arg23 fullShare b.wo ∗ owns (c : Thread nD τ) arg24 fullShare b.nq ∗ owns (c : Thread nD τ) arg25 fullShare b.wq ∗ owns (c : Thread nD τ) arg26 fullShare b.wmo ∗ owns (c : Thread nD τ) arg27 fullShare b.nf ∗ owns (c : Thread nD τ) arg28 fullShare b.wup ∗ owns (c : Thread nD τ) arg29 fullShare b.wc ∗ owns (c : Thread nD τ) arg30 fullShare b.bc ∗ owns (c : Thread nD τ) arg31 fullShare b.wd ∗ owns (c : Thread nD τ) arg32 fullShare b.nl ∗ (∃ d, owns (c : Thread nD τ) arg33 fullShare d) ∗ (∃ d, owns (c : Thread nD τ) arg34 fullShare d) ∗ owns (c : Thread nD τ) arg35 fullShare g
        ∗ (iprop(owns (c : Thread nD τ) arg2 fullShare b.o0 ∗ owns (c : Thread nD τ) arg3 fullShare b.o1 ∗ owns (c : Thread nD τ) arg4 fullShare b.o2 ∗ owns (c : Thread nD τ) arg5 fullShare b.o3 ∗ owns (c : Thread nD τ) arg6 fullShare b.o4 ∗ owns (c : Thread nD τ) arg7 fullShare b.o5 ∗ owns (c : Thread nD τ) arg8 fullShare b.l0 ∗ owns (c : Thread nD τ) arg9 fullShare b.l1 ∗ owns (c : Thread nD τ) arg10 fullShare b.l2 ∗ owns (c : Thread nD τ) arg11 fullShare b.l3 ∗ owns (c : Thread nD τ) arg12 fullShare b.l4 ∗ owns (c : Thread nD τ) arg13 fullShare b.l5 ∗ owns (c : Thread nD τ) arg14 fullShare b.ob ∗ owns (c : Thread nD τ) arg15 fullShare b.ga ∗ owns (c : Thread nD τ) arg16 fullShare b.gb ∗ owns (c : Thread nD τ) arg17 fullShare b.h ∗ owns (c : Thread nD τ) arg18 fullShare b.mmk ∗ owns (c : Thread nD τ) arg19 fullShare b.mmv ∗ owns (c : Thread nD τ) arg20 fullShare b.ini ∗ owns (c : Thread nD τ) arg21 fullShare b.wa ∗ owns (c : Thread nD τ) arg22 fullShare b.wb ∗ owns (c : Thread nD τ) arg23 fullShare b.wo ∗ owns (c : Thread nD τ) arg24 fullShare b.nq ∗ owns (c : Thread nD τ) arg25 fullShare b.wq ∗ owns (c : Thread nD τ) arg26 fullShare b.wmo ∗ owns (c : Thread nD τ) arg27 fullShare b.nf ∗ owns (c : Thread nD τ) arg28 fullShare b.wup ∗ owns (c : Thread nD τ) arg29 fullShare b.wc ∗ owns (c : Thread nD τ) arg30 fullShare b.bc ∗ owns (c : Thread nD τ) arg31 fullShare b.wd ∗ owns (c : Thread nD τ) arg32 fullShare b.nl ∗ owns (c : Thread nD τ) arg33 fullShare (b.y q) ∗ owns (c : Thread nD τ) arg34 fullShare b.fc ∗ (∃ g', ⌜top g' = b.carry⌝ ∗ owns (c : Thread nD τ) arg35 fullShare g')) -∗ K ⟨⟩))
      ⊢ wp frame (wpE (defs₀ (F := F)) Variants.none c none) E (cc0_post i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K := by
  rcases hq with ⟨hc, rfl⟩ | ⟨hc, rfl⟩
  · exact sound_first c E i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ b g hc K
  · exact sound_next c E i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ b g hc K

end Cert.Kernel2Ideal.Post
-- ==== Proof.Post.Tile.lean ====
module

public import proofs.«01_k».proof.Proof.Post.Args
public import proofs.«01_k».proof.Proof.Post.Avg
public import proofs.«01_k».proof.Proof.Post.Body

/-! One tile of the kernel computes the reference's rows: 256 rows of one sequence, stage by stage. -/

@[expose] public section

set_option maxHeartbeats 4000000

noncomputable section

namespace Cert.Proof.Tile

open Cert.Kernel2Ideal Cert.Kernel2Ideal.Gen Cert.Kernel2Ideal.Post Idealize.ShloMosaic Idealize.ShloMosaic.TcCoe Cert.Proof.Ker Cert.Proof.RefPost Cert.Proof.Avg Cert.Proof.Rows

/-- The row of the sequence that row `r` of tile `T` is. -/
def row (T : Fin 8) (r : Fin 256) : Fin 2048 := ⟨256 * T.val + r.val, by omega⟩

/-- The place of row `i` of the two before tile `T` among the gate's rows and the two initial ones. -/
def before (T : Fin 8) (i : Fin 2) : Fin 2050 := ⟨256 * T.val + i.val, by omega⟩

/-- `b` holds the blocks of tile `T` of sequence `B`. -/
structure IsBlk (A : Args) (b : Blk Ideal) (B T : Fin 8) : Prop where
  o0 : ∀ r k, b.o0 (ix3 0 r k) = A.x0 (ix3 B (row T r) k)
  o1 : ∀ r k, b.o1 (ix3 0 r k) = A.x1 (ix3 B (row T r) k)
  o2 : ∀ r k, b.o2 (ix3 0 r k) = A.x2 (ix3 B (row T r) k)
  o3 : ∀ r k, b.o3 (ix3 0 r k) = A.x3 (ix3 B (row T r) k)
  o4 : ∀ r k, b.o4 (ix3 0 r k) = A.x4 (ix3 B (row T r) k)
  o5 : ∀ r k, b.o5 (ix3 0 r k) = A.x5 (ix3 B (row T r) k)
  l0 : ∀ r k, b.l0 (ix3 0 r k) = A.x6 (ix3 B (row T r) k)
  l1 : ∀ r k, b.l1 (ix3 0 r k) = A.x7 (ix3 B (row T r) k)
  l2 : ∀ r k, b.l2 (ix3 0 r k) = A.x8 (ix3 B (row T r) k)
  l3 : ∀ r k, b.l3 (ix3 0 r k) = A.x9 (ix3 B (row T r) k)
  l4 : ∀ r k, b.l4 (ix3 0 r k) = A.x10 (ix3 B (row T r) k)
  l5 : ∀ r k, b.l5 (ix3 0 r k) = A.x11 (ix3 B (row T r) k)
  ob : ∀ r k, b.ob (ix3 0 r k) = A.x12 (ix3 B (row T r) k)
  ga : ∀ r k, b.ga (ix3 0 r k) = A.x13 (ix3 B (row T r) k)
  gb : ∀ r k, b.gb (ix3 0 r k) = A.x14 (ix3 B (row T r) k)
  h : ∀ r k, b.h (ix3 0 r k) = A.x15 (ix3 B (row T r) k)
  mmk : ∀ r k, b.mmk (ix3 0 r k) = A.x16 (ix3 B r k)
  mmv : ∀ r k, b.mmv (ix3 0 r k) = A.x17 (ix3 B r k)
  ini : ∀ r k, b.ini (ix3 0 r k) = A.x18 (ix3 B r k)
  wa : ∀ k j, b.wa (ix2 k j) = A.x19 (ix2 k j)
  wb : ∀ k j, b.wb (ix2 k j) = A.x20 (ix2 k j)
  wo : ∀ k j, b.wo (ix2 k j) = A.x21 (ix2 k j)
  wq : ∀ k j, b.wq (ix2 k j) = A.x23 (ix2 k j)
  wmo : ∀ k j, b.wmo (ix2 k j) = A.x24 (ix2 k j)
  wup : ∀ k j, b.wup (ix2 k j) = A.x26 (ix2 k j)
  wc : ∀ k j, b.wc (ix2 k j) = A.x27 (ix2 k j)
  wd : ∀ k j, b.wd (ix2 k j) = A.x29 (ix2 k j)
  nq : ∀ j, b.nq (ix2 0 j) = A.x22 (ix1 j)
  nf : ∀ j, b.nf (ix2 0 j) = A.x25 (ix1 j)
  bc : ∀ j, b.bc (ix2 0 j) = A.x28 (ix1 j)
  nl : ∀ j, b.nl (ix2 0 j) = A.x30 (ix1 j)

/-- The arguments that the attention's scores depend on are real. -/
structure IsReal (A : Args) : Prop where
  x0 : ∀ i, Re (A.x0 i)
  x1 : ∀ i, Re (A.x1 i)
  x2 : ∀ i, Re (A.x2 i)
  x3 : ∀ i, Re (A.x3 i)
  x4 : ∀ i, Re (A.x4 i)
  x5 : ∀ i, Re (A.x5 i)
  x6 : ∀ i, Re (A.x6 i)
  x7 : ∀ i, Re (A.x7 i)
  x8 : ∀ i, Re (A.x8 i)
  x9 : ∀ i, Re (A.x9 i)
  x10 : ∀ i, Re (A.x10 i)
  x11 : ∀ i, Re (A.x11 i)
  x12 : ∀ i, Re (A.x12 i)
  x13 : ∀ i, Re (A.x13 i)
  x14 : ∀ i, Re (A.x14 i)
  x15 : ∀ i, Re (A.x15 i)
  x16 : ∀ i, Re (A.x16 i)
  x19 : ∀ i, Re (A.x19 i)
  x20 : ∀ i, Re (A.x20 i)
  x21 : ∀ i, Re (A.x21 i)
  x22 : ∀ i, Re (A.x22 i)
  x23 : ∀ i, Re (A.x23 i)

section Reals
variable {A : Args} (hA : IsReal A)
include hA

theorem re_lse (j : Fin 3) (B : Fin 8) (r : Fin 2048) (k : Fin 256) : Re (A.lseS (ix4 j B r k)) := by
  have hp : ∀ a b : FVec Ideal Cert.Reference2Ideal.S8x2048x128 .f32, (∀ i, Re (a i)) → (∀ i, Re (b i)) → Re (pair a b B r k) := fun a b ha hb => by
    unfold pair; split
    · exact ha _
    · exact hb _
  fin_cases j
  · exact (A.lseS_0_at B r k).symm ▸ hp _ _ hA.x6 hA.x7
  · exact (A.lseS_1_at B r k).symm ▸ hp _ _ hA.x8 hA.x9
  · exact (A.lseS_2_at B r k).symm ▸ hp _ _ hA.x10 hA.x11

theorem re_out (j : Fin 3) (B : Fin 8) (r : Fin 2048) (k : Fin 256) : Re (A.outS (ix4 j B r k)) := by
  have hp : ∀ a b : FVec Ideal Cert.Reference2Ideal.S8x2048x128 .f32, (∀ i, Re (a i)) → (∀ i, Re (b i)) → Re (pair a b B r k) := fun a b ha hb => by
    unfold pair; split
    · exact ha _
    · exact hb _
  fin_cases j
  · exact (A.outS_0_at B r k).symm ▸ hp _ _ hA.x0 hA.x1
  · exact (A.outS_1_at B r k).symm ▸ hp _ _ hA.x2 hA.x3
  · exact (A.outS_2_at B r k).symm ▸ hp _ _ hA.x4 hA.x5

theorem re_oa (B : Fin 8) (r : Fin 2048) (k : Fin 256) : Re (A.oa (ix3 B r k)) := by
  rw [A.oa_at]
  exact Re.sum fun j => (Re.rwt (fun j => re_lse hA j B r k) j).mul (re_out hA j B r k)

theorem re_h1 (B : Fin 8) (r : Fin 2048) (j : Fin 1024) : Re (A.h1 (ix3 B r j)) := by
  rw [A.h1_at]
  exact (hA.x15 _).add (Re.sum fun k => (((hA.x13 _).sgm.mul (Re.sum fun l => (re_oa hA B r l).mul (hA.x19 _))).add
    ((hA.x14 _).sgm.mul (Re.sum fun l => (hA.x12 _).mul (hA.x20 _)))).mul (hA.x21 _))

theorem re_q (B : Fin 8) (r : Fin 2048) (j : Fin 512) : Re (A.q (ix3 B r j)) := by
  rw [A.q_at]
  refine Re.sum fun k => Re.mul ?_ (hA.x23 _)
  rw [A.n1_at]
  exact Re.rms (fun k => re_h1 hA B r k) (fun k => hA.x22 _) k

theorem re_s (B : Fin 8) (h : Fin 4) (r : Fin 2048) (c : Fin 256) : Re (A.s (ix4 B h r c)) := by
  rw [A.s_at]
  exact Re.score (fun k => re_q hA B r k) (fun d => hA.x16 _) h

/-- The merged output the way the kernel writes it. -/
theorem oa_kav3 (B : Fin 8) (r : Fin 2048) (k : Fin 256) :
    kav3 (pair A.x6 A.x7 B r k) (pair A.x8 A.x9 B r k) (pair A.x10 A.x11 B r k) (pair A.x0 A.x1 B r k) (pair A.x2 A.x3 B r k) (pair A.x4 A.x5 B r k)
      = A.oa (ix3 B r k) := by
  rw [A.oa_at, ← kav3_eq (fun j => A.lseS (ix4 j B r k)) (fun j => A.outS (ix4 j B r k)) (fun j => re_lse hA j B r k)]
  simp only [A.lseS_0_at, A.lseS_1_at, A.lseS_2_at, A.outS_0_at, A.outS_1_at, A.outS_2_at]

end Reals

/-- A head's rows of a block of memory rows. -/
theorem hd_at (n : Fin 4) (inb) (x : Vec Ideal S1x1024x128 .f32) (c : Fin 256) (d : Fin 128) :
    Blk.hd n.val inb x (ix3 0 c d) = x (ix3 0 ⟨c.val * 4 + n.val, by omega⟩ d) := by
  refine congrArg x (funext fun a => Fin.ext ?_)
  fin_cases a
  · rfl
  · show n.val + 4 * c.val = c.val * 4 + n.val; omega
  · show 0 + 1 * d.val = d.val; omega

section Tile
variable {A : Args} {b : Blk Ideal} {B T : Fin 8} (hb : IsBlk A b B T) (hA : IsReal A)
include hb hA

theorem oaw_eq (r : Fin 256) (j : Fin 1024) : b.oaw (ix2 r j) = ∑ l : Fin 256, A.oa (ix3 B (row T r) l) * A.x19 (ix2 l j) := by
  unfold Blk.oaw
  rw [pay5]
  refine Finset.sum_congr rfl fun k _ => ?_
  rw [hb.wa, ← oa_kav3 hA]
  congr 1
  unfold pair
  split
  · simp only [pay2, hb.o0, hb.o2, hb.o4, hb.l0, hb.l2, hb.l4]
  · simp only [pay3, pay4, hb.o1, hb.o3, hb.o5, hb.l1, hb.l3, hb.l5]

theorem h1_eq (r : Fin 256) (j : Fin 1024) : b.h1 (ix2 r j) = A.h1 (ix3 B (row T r) j) := by
  unfold Blk.h1
  rw [pay9, A.h1_at]
  simp only [oaw_eq hb hA, pay6, pay7, hb.ga, hb.gb, hb.h, hb.ob, hb.wb, hb.wo]

theorem q_eq (r : Fin 256) (j : Fin 512) : k0_pay11 b.n1 b.wq (ix2 r j) = A.q (ix3 B (row T r) j) := by
  have hn : ∀ k, b.n1 (ix2 r k) = A.n1 (ix3 B (row T r) k) := fun k => by
    rw [A.n1_at]
    unfold Blk.n1
    rw [pay10]
    have h := fun k => h1_eq hb hA r k
    unfold Blk.h1 at h
    simp only [h, hb.nq]
  rw [pay11, A.q_at]
  simp only [hn, hb.wq]

/-- A head's scores. -/
theorem s_eq (r c : Fin 256) (n : Fin 4) (inb) :
    score (fun k => k0_pay11 b.n1 b.wq (ix2 r k)) n (fun d => Blk.hd n.val inb b.mmk (ix3 0 c d)) = A.s (ix4 B n (row T r) c) := by
  rw [A.s_at, show (fun k => k0_pay11 b.n1 b.wq (ix2 r k)) = fun k => A.q (ix3 B (row T r) k) from funext fun k => q_eq hb hA r k]
  exact congrArg (score _ n) (funext fun d => (hd_at n inb b.mmk c d).trans (hb.mmk _ d))

/-- A head's average over the memory. -/
theorem head (r : Fin 256) (n : Fin 4) (inb) (d : Fin 128) (s : Fin 256 → EReal) (hs : s = fun c => A.s (ix4 B n (row T r) c)) :
    Ideal.div (∑ c : Fin 256, wt s c * Blk.hd n.val inb b.mmv (ix3 0 c d)) (∑ c : Fin 256, wt s c)
      = ∑ c, mem A.x17 B n c d * rwt (fun c => A.s (ix4 B n (row T r) c)) c := by
  subst hs
  rw [wt_eq _ (fun c => Blk.hd n.val inb b.mmv (ix3 0 c d)) fun c => re_s hA B n (row T r) c]
  exact Finset.sum_congr rfl fun c _ => congrArg (· * _) ((hd_at n inb b.mmv c d).trans (hb.mmv _ d))

theorem om0_eq (r : Fin 256) (d : Fin 128) : b.om0 (ix2 r d) = ∑ c, mem A.x17 B 0 c d * rwt (fun c => A.s (ix4 B 0 (row T r) c)) c := by
  unfold Blk.om0
  rw [pay17]
  simp only [pay15]
  exact head hb hA r 0 _ d _ (funext fun c => s_eq hb hA r c 0 _)

theorem om1_eq (r : Fin 256) (d : Fin 128) : b.om1 (ix2 r d) = ∑ c, mem A.x17 B 1 c d * rwt (fun c => A.s (ix4 B 1 (row T r) c)) c := by
  unfold Blk.om1
  rw [pay18]
  simp only [pay12]
  exact head hb hA r 1 _ d _ (funext fun c => s_eq hb hA r c 1 _)

theorem om2_eq (r : Fin 256) (d : Fin 128) : b.om2 (ix2 r d) = ∑ c, mem A.x17 B 2 c d * rwt (fun c => A.s (ix4 B 2 (row T r) c)) c := by
  unfold Blk.om2
  rw [pay19]
  simp only [pay13]
  exact head hb hA r 2 _ d _ (funext fun c => s_eq hb hA r c 2 _)

theorem om3_eq (r : Fin 256) (d : Fin 128) : Ideal.div (∑ c : Fin 256, b.e3 (ix2 r c) * b.mv3 (ix3 0 c d)) (∑ c : Fin 256, b.e3 (ix2 r c))
    = ∑ c, mem A.x17 B 3 c d * rwt (fun c => A.s (ix4 B 3 (row T r) c)) c := by
  unfold Blk.e3
  simp only [pay16, pay14]
  exact head hb hA r 3 _ d _ (funext fun c => s_eq hb hA r c 3 _)

theorem h2_eq (r : Fin 256) (j : Fin 1024) : b.h2 (ix2 r j) = A.h2 (ix3 B (row T r) j) := by
  unfold Blk.h2
  rw [pay21, A.h2_at, h1_eq hb hA]
  congr 1
  refine Finset.sum_congr rfl fun k _ => ?_
  rw [A.om_at, hb.wmo]
  simp only [om0_eq hb hA, om1_eq hb hA, om2_eq hb hA, om3_eq hb hA]
  congr 1
  exact side_eq (fun h d => ∑ c, mem A.x17 B h c d * rwt (fun c => A.s (ix4 B h (row T r) c)) c) k

theorem n2_eq (r : Fin 256) (j : Fin 1024) : b.n2 (ix2 r j) = A.n2 (ix3 B (row T r) j) := by
  rw [A.n2_at]
  unfold Blk.n2
  rw [pay22]
  have h := fun k => h2_eq hb hA r k
  unfold Blk.h2 at h
  simp only [h, hb.nf]

theorem gate_eq (r : Fin 256) (j : Fin 2816) : b.gate (ix2 r j) = A.gate (ix3 B (row T r) j) := by
  rw [A.gate_at]
  unfold Blk.gate
  rw [pay23]
  have h := fun k => n2_eq hb hA r k
  unfold Blk.n2 at h
  simp only [h]
  refine Finset.sum_congr rfl fun k _ => ?_
  rw [← hb.wup]
  congr 1
  refine congrArg b.wup (funext fun a => Fin.ext ?_)
  fin_cases a
  · show 0 + 1 * k.val = k.val; omega
  · show 0 + 1 * j.val = j.val; omega

theorem gateS_eq (r : Fin 256) (j : Fin 2816) : b.gateS (ix2 r j) = A.gate (ix3 B (row T r) j) := by
  rw [← gate_eq hb hA]
  exact pay24 _ _ _ _ _ _ _ _ _ r j

theorem up_eq (r : Fin 256) (j : Fin 2816) : b.up (ix2 r j) = A.up (ix3 B (row T r) j) := by
  rw [A.up_at]
  unfold Blk.up
  rw [pay27]
  simp only [n2_eq hb hA]
  refine Finset.sum_congr rfl fun k _ => ?_
  rw [← hb.wup]
  congr 1
  refine congrArg b.wup (funext fun a => Fin.ext ?_)
  fin_cases a
  · show 0 + 1 * k.val = k.val; omega
  · show 2816 + 1 * j.val = 2816 + j.val; omega

/-- The gate rows' last two, in the array that two initial rows start. -/
theorem tail_eq (i : Fin 2) (j : Fin 2816) : tail b.gateS (ix2 i j) = A.ext (ix3 B ⟨256 * (T.val + 1) + i.val, by omega⟩ j) := by
  have e : tail b.gateS (ix2 i j) = b.gateS (ix2 ⟨254 + i.val, by omega⟩ j) := rfl
  rw [e, gateS_eq hb hA, A.ext_at, dif_neg (by show ¬ 256 * (T.val + 1) + i.val < 2; omega)]
  exact congrArg (fun r => A.gate (ix3 B r j)) (Fin.ext (by show 256 * T.val + (254 + i.val) = 256 * (T.val + 1) + i.val - 2; omega))

theorem carry_eq (i : Fin 2) (j : Fin 2816) : b.carry (ix2 i j) = A.ext (ix3 B ⟨256 * (T.val + 1) + i.val, by omega⟩ j) := by
  rw [← tail_eq hb hA]
  exact pay25 _ i j

/-- The second result's block, after the last tile. -/
theorem fc_eq (hT : T.val = 7) (i : Fin 2) (j : Fin 2816) : b.fc (ix3 0 i j) = A.fc (ix3 B i j) := by
  rw [A.fc_at]
  refine (pay26 _ i j).trans ((tail_eq hb hA i j).trans ?_)
  exact congrArg (fun r => A.ext (ix3 B r j)) (Fin.ext (by show 256 * (T.val + 1) + i.val = 2048 + i.val; omega))

variable (q : Vec Ideal S2x2816 .f32) (hq : ∀ (i : Fin 2) (j : Fin 2816), q (ix2 i j) = A.ext (ix3 B (before T i) j))
include hq

/-- The tile's rows, shifted. -/
theorem shifted_eq (k : Fin 2) (r : Fin 256) (j : Fin 2816) :
    shifted k q b.gateS (ix2 r j) = A.ext (ix3 B ⟨k.val + (row T r).val, by have := (row T r).isLt; omega⟩ j) := by
  unfold shifted
  split
  · rename_i h
    refine (hq ⟨r.val + k.val, h⟩ j).trans ?_
    exact congrArg (fun r => A.ext (ix3 B r j)) (Fin.ext (by show 256 * T.val + (r.val + k.val) = k.val + (256 * T.val + r.val); omega))
  · rename_i h
    have h' : ¬ r.val + k.val < 2 := h
    refine (gateS_eq hb hA ⟨r.val + k.val - 2, by omega⟩ j).trans ?_
    rw [A.ext_at, dif_neg (by show ¬ k.val + (256 * T.val + r.val) < 2; omega)]
    exact congrArg (fun r => A.gate (ix3 B r j)) (Fin.ext (by show 256 * T.val + (r.val + k.val - 2) = k.val + (256 * T.val + r.val) - 2; omega))

theorem conv_eq (r : Fin 256) (j : Fin 2816) : b.conv q (ix2 r j) = A.conv (ix3 B (row T r) j) := by
  have hw : ∀ (i : Fin 3) (inb), View.ld b.wc (Rect.unit (s := S3x2816) ![i.val, 0] S1x2816.size inb) (ix2 0 j) = A.x27 (ix2 i j) := fun i inb => by
    rw [← hb.wc]
    refine congrArg b.wc (funext fun a => Fin.ext ?_)
    fin_cases a
    · rfl
    · show 0 + 1 * j.val = j.val; omega
  have hg : b.gate (ix2 r j) = A.ext (ix3 B ⟨2 + (row T r).val, by have := (row T r).isLt; omega⟩ j) := by
    rw [A.ext_at, dif_neg (by show ¬ 2 + (row T r).val < 2; omega), gate_eq hb hA]
    exact congrArg (fun r => A.gate (ix3 B r j)) (Fin.ext (by show (row T r).val = 2 + (row T r).val - 2; omega))
  unfold Blk.conv
  rw [pay28, A.conv_at, shifted_eq hb hA q hq, shifted_eq hb hA q hq, hg, hb.bc, ← hw 0 inb_S3x2816_S1x2816_0_0, ← hw 1 inb_S3x2816_S1x2816_1_0, ← hw 2 inb_S3x2816_S1x2816_2_0]
  have e0 : (⟨(0 : Fin 2).val + (row T r).val, by have := (row T r).isLt; show 0 + _ < _; omega⟩ : Fin 2050) = ⟨(row T r).val, by have := (row T r).isLt; omega⟩ :=
    Fin.ext (by show 0 + (row T r).val = (row T r).val; omega)
  rw [e0]
  rfl

/-- The tile's rows of the first result. -/
theorem y_eq (r : Fin 256) (j : Fin 1024) : b.y q (ix3 0 r j) = A.y (ix3 B (row T r) j) := by
  have hd : ∀ k, b.den q (ix2 r k) = num 0x3F800000#32 + Ideal.exp (-(A.conv (ix3 B (row T r) k))) := fun k => by
    rw [← conv_eq hb hA q hq]
    exact pay29 _ _ _ _ _ _ _ r k
  unfold Blk.y
  rw [pay1, A.y_at]
  simp only [hd, conv_eq hb hA q hq, h2_eq hb hA, up_eq hb hA, hb.wd, hb.nl, A.h3_at, A.act_at, sgm]

end Tile

end Cert.Proof.Tile
-- ==== Proof.Post.Finite2.lean ====
module

public import proofs.«01_k».proof.Pre_finite2
public import proofs.«01_k».proof.Proof.Finite
public import proofs.«01_k».proof.Proof.Post.Tile

/-! What the precondition says: the arguments it names are arrays of real numbers. -/

@[expose] public section

set_option maxHeartbeats 4000000

noncomputable section

namespace Cert.Proof.Finite2

open Idealize.ShloMosaic Cert.Proof.RefPost Cert.Proof.Tile Cert.Proof.Finite Cert.Proof.Avg

/-- An array of real numbers, entry by entry. -/
theorem each {S : Shape} {x : S.Idx → EReal} (h : ∃ r : S.Idx → ℝ, ∀ i, x i = (r i : EReal)) : ∀ i, Re (x i) := fun i => ⟨_, h.choose_spec i⟩

theorem isReal [Cert.Pre_finite2.Facts] (A : Args)
    (h : Cert.Pre_finite2.fn (F := Ideal) A.x0 A.x1 A.x2 A.x3 A.x4 A.x5 A.x6 A.x7 A.x8 A.x9 A.x10 A.x11 A.x12 A.x13 A.x14 A.x15 A.x16 A.x17 A.x18 A.x19 A.x20 A.x21 A.x22 A.x23 A.x24 A.x25 A.x26 A.x27 A.x28 A.x29 A.x30 = fun _ => 1#1) : IsReal A := by
  have h0 := congrFun h ix0
  unfold Cert.Pre_finite2.fn Cert.Pre_finite2.fn_part1 Cert.Pre_finite2.fn_part2 Cert.Pre_finite2.fn_part3 Cert.Pre_finite2.fn_part4 Cert.Pre_finite2.fn_part5 Cert.Pre_finite2.fn_part6 at h0
  obtain ⟨h0, e23⟩ := IntOp.andi_eq_one.1 h0
  obtain ⟨h0, e22⟩ := IntOp.andi_eq_one.1 h0
  obtain ⟨h0, e21⟩ := IntOp.andi_eq_one.1 h0
  obtain ⟨h0, e20⟩ := IntOp.andi_eq_one.1 h0
  obtain ⟨h0, e19⟩ := IntOp.andi_eq_one.1 h0
  obtain ⟨h0, e16⟩ := IntOp.andi_eq_one.1 h0
  obtain ⟨h0, e15⟩ := IntOp.andi_eq_one.1 h0
  obtain ⟨h0, e14⟩ := IntOp.andi_eq_one.1 h0
  obtain ⟨h0, e13⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨h0, e1⟩ := IntOp.andi_eq_one.1 h0
  obtain ⟨e12, e0⟩ := IntOp.andi_eq_one.1 h0
  exact {x0 := each (all_real _ _ _ _ _ e0), x1 := each (all_real _ _ _ _ _ e1), x2 := each (all_real _ _ _ _ _ e2), x3 := each (all_real _ _ _ _ _ e3), x4 := each (all_real _ _ _ _ _ e4), x5 := each (all_real _ _ _ _ _ e5), x6 := each (all_real _ _ _ _ _ e6), x7 := each (all_real _ _ _ _ _ e7), x8 := each (all_real _ _ _ _ _ e8), x9 := each (all_real _ _ _ _ _ e9), x10 := each (all_real _ _ _ _ _ e10), x11 := each (all_real _ _ _ _ _ e11), x12 := each (all_real (A.x12 : FVec Ideal _ .f32) _ _ _ _ e12), x13 := each (all_real _ _ _ _ _ e13), x14 := each (all_real _ _ _ _ _ e14), x15 := each (all_real _ _ _ _ _ e15), x16 := each (all_real _ _ _ _ _ e16), x19 := each (all_real _ _ _ _ _ e19), x20 := each (all_real _ _ _ _ _ e20), x21 := each (all_real _ _ _ _ _ e21), x22 := each (all_real _ _ _ _ _ e22), x23 := each (all_real _ _ _ _ _ e23)}

end Cert.Proof.Finite2
-- ==== Proof.Post.Frame.lean ====
module

public import proofs.«01_k».proof.Proof.Post.Body

/-! The run of `Kernel2Ideal`: proof data whose invariant says what rows 6 and 7 of the carried buffer hold, the body's triple at
every point, and the launch. -/

@[expose] public section

set_option maxRecDepth 16384
set_option maxHeartbeats 1000000

noncomputable section

namespace Cert.Kernel2Ideal.Post

open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen Cert.Proof.Rows

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- The blocks of point `t`. -/
def blk (c : Dev nD) (t : Fin cfg0.N) : Blk F where
  o0 := iblk m c 0 t
  o1 := iblk m c 1 t
  o2 := iblk m c 2 t
  o3 := iblk m c 3 t
  o4 := iblk m c 4 t
  o5 := iblk m c 5 t
  l0 := iblk m c 6 t
  l1 := iblk m c 7 t
  l2 := iblk m c 8 t
  l3 := iblk m c 9 t
  l4 := iblk m c 10 t
  l5 := iblk m c 11 t
  ob := iblk m c 12 t
  ga := iblk m c 13 t
  gb := iblk m c 14 t
  h := iblk m c 15 t
  mmk := iblk m c 16 t
  mmv := iblk m c 17 t
  ini := iblk m c 18 t
  wa := iblk m c 19 t
  wb := iblk m c 20 t
  wo := iblk m c 21 t
  nq := iblk m c 22 t
  wq := iblk m c 23 t
  wmo := iblk m c 24 t
  nf := iblk m c 25 t
  wup := iblk m c 26 t
  wc := iblk m c 27 t
  bc := iblk m c 28 t
  wd := iblk m c 29 t
  nl := iblk m c 30 t

/-- The two gate rows before the tile of point `n`: the given initial rows at a sequence's first tile, else what the tile before left. -/
def pre (c : Dev nD) : (n : ℕ) → (hn : n < cfg0.N) → Vec F S2x2816 .f32
  | 0, hn => k0_pay20 (blk m c ⟨0, hn⟩).ini
  | n + 1, hn => if (n + 1) % 8 = 0 then k0_pay20 (blk m c ⟨n + 1, hn⟩).ini else (blk m c ⟨n, Nat.lt_of_succ_lt hn⟩).carry

/-- The carried buffer as an operand. -/
abbrev scM : Memref sig .tc .vmem S264x2816 .f32 := Memref.whole cc0_scratch0

/-- Before the first point the scoped buffers hold anything; before a later one rows 6 and 7 of the carried buffer hold what the
    point before left. -/
def PhiS (c : Dev nD) : (n : ℕ) → n ≤ cfg0.N → sProp 𝕄
  | 0, _ => Pipeline.ΦA spec0 c
  | n + 1, hn => iprop((∃ g, ⌜top g = (blk m c ⟨n, hn⟩).carry⌝ ∗ owns (c : Thread nD τ) scM fullShare g) ∗ (∃ r, prngReg c r))

/-- The scoped buffers at anything, the carried one as an operand. -/
theorem PhiA0_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- The body's branch is taken exactly at a sequence's first tile. -/
theorem hcond (t : Fin cfg0.N) :
    Scalar.cmpi .ne (Scalar.extui (Scalar.cmpi .eq (BitVec.ofNat 32 (grid0.coords t 1).val) 0#32)) 0#32 = 1#1 ↔ t.val % 8 = 0 := by
  have ht : t.val < 64 := Nat.lt_of_lt_of_eq t.isLt N_0
  have e1 : (grid0.coords t 1).val = t.val / 1 % 8 := Pipeline.Grid.coords_val t 1 (by decide) rfl
  simp only [e1]
  word_cmp

/-- Before point `n` the carried buffer is owned at contents whose rows 6 and 7 are what a tile that continues a sequence reads. -/
theorem Phi_open (c : Dev nD) (t : Fin cfg0.N) :
    PhiS m c t.val (Nat.le_of_lt t.isLt) ⊢ iprop((∃ g, ⌜(t.val % 8 = 0 ∧ pre m c t.val t.isLt = k0_pay20 (blk m c t).ini) ∨ (¬ t.val % 8 = 0 ∧ pre m c t.val t.isLt = top g)⌝
        ∗ owns (c : Thread nD τ) scM fullShare g) ∗ (∃ r, prngReg c r)) := by
  obtain ⟨n, hn⟩ := t
  cases n with
  | zero =>
    rw [show PhiS m c (⟨0, hn⟩ : Fin cfg0.N).val (Nat.le_of_lt hn) = Pipeline.ΦA spec0 c from rfl, PhiA0_eq]
    iintro ⟨⟨%d, HS⟩, Hg⟩
    isplitl [HS]
    · iexists d; isplitr
      · ipureintro; exact Or.inl ⟨rfl, rfl⟩
      iexact HS
    iexact Hg
  | succ n =>
    rw [show PhiS m c (⟨n + 1, hn⟩ : Fin cfg0.N).val (Nat.le_of_lt hn) = iprop((∃ g, ⌜top g = (blk m c ⟨n, Nat.lt_of_succ_lt hn⟩).carry⌝ ∗ owns (c : Thread nD τ) scM fullShare g) ∗ (∃ r, prngReg c r)) from rfl]
    iintro ⟨⟨%g, %hg, HS⟩, Hg⟩
    isplitl [HS]
    · iexists g; isplitr
      · ipureintro
        by_cases h : (n + 1) % 8 = 0
        · exact Or.inl ⟨h, if_pos h⟩
        · exact Or.inr ⟨h, (if_neg h).trans hg.symm⟩
      iexact HS
    iexact Hg

/-- The proof data: the arrays as the region finds them, each input's buffer left at its block, the results' at the tile's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => (blk m c t).y (pre m c t.val t.isLt)
    | ⟨32, _⟩ => (blk m c t).fc
    | ⟨_ + 33, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

/-! What the body leaves in each window's buffer, and what it finds in an input's. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = (blk m c t).y (pre m c t.val t.isLt) := by dsimp only [dats]
theorem after0_32 (c : Dev nD) (t : Fin cfg0.N) : (dats m 0 c).after 32 t = (blk m c t).fc := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d
theorem before0_30 (c : Dev nD) (t : Fin cfg0.N) (d) : (dats m 0 c).before 30 t d = iblk m c 30 t :=
  before0_30_of m (dats m 0 c) (A_eq m c 30) (after0_30 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d)))
/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30]
  rw [show (dats m 0 c).Φ t.succ = iprop((∃ g, ⌜top g = (blk m c t).carry⌝ ∗ owns (c : Thread nD τ) scM fullShare g) ∗ (∃ r, prngReg c r)) from rfl,
    show (dats m 0 c).Φ t.castSucc = PhiS m c t.val (Nat.le_of_lt t.isLt) from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩⟩
  ihave HΦ := (Phi_open m c t) $$ HΦ
  icases HΦ with ⟨⟨%g, %hg, HS⟩, Hg⟩
  iapply (sound_at c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (blk m c t) g (pre m c t.val t.isLt) (by rw [hcond]; exact hg) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexists _; iexact H31
  isplitl [H32]; · iexists _; iexact H32
  isplitl [HS]; · iexact HS
  iintro ⟨H0, H1, H2, H3, H4, H5, H6, H7, H8, H9, H10, H11, H12, H13, H14, H15, H16, H17, H18, H19, H20, H21, H22, H23, H24, H25, H26, H27, H28, H29, H30, H31, H32, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  iexact H32

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The invariant at the first point, -/
theorem hin (c : Dev nD) : Pipeline.ΦA spec0 c ⊢ (dats m 0 c).Φ 0 := by
  rw [show (dats m 0 c).Φ 0 = Pipeline.ΦA spec0 c from rfl]

/-- and after the last. -/
theorem hout (c : Dev nD) : (dats m 0 c).Φ (Fin.last cfg0.N) ⊢ Pipeline.ΦA spec0 c := by
  have h63 : 63 < cfg0.N := by rw [show cfg0.N = 64 from N_0]; omega
  have e : (Fin.last cfg0.N).val = 63 + 1 := by rw [Fin.val_last]; exact N_0
  have e' : Fin.last cfg0.N = (⟨63, h63⟩ : Fin cfg0.N).succ := Fin.ext e
  rw [e', show (dats m 0 c).Φ (⟨63, h63⟩ : Fin cfg0.N).succ = iprop((∃ g, ⌜top g = (blk m c ⟨63, h63⟩).carry⌝ ∗ owns (c : Thread nD τ) scM fullShare g) ∗ (∃ r, prngReg c r)) from rfl, PhiA0_eq]
  iintro ⟨⟨%g, -, HS⟩, Hg⟩
  isplitl [HS]
  · iexists g; iexact HS
  iexact Hg

set_option backward.isDefEq.respectTransparency.types false in
/-- The launch, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The launch. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) ∧ r.2.sem = fun _ => 0) :=
  θ_run_and (frame_of m ρ (dats m) (A_eq m) (run_main m ρ)) ((θ_run defs _ _).mono (fun _ h => h.2) (run_main_quiescent m ρ))

end Cert.Kernel2Ideal.Post
-- ==== Proof.Post.Arrays.lean ====
module

public import proofs.«01_k».proof.Proof.Post.Tile
public import proofs.«01_k».proof.Proof.Post.Frame
public import Idealize.ShloMosaic.Lib.Pipeline.ValueKit
public import Idealize.ShloMosaic.Lib.StableHlo.RunRead

/-! Each point of the grid works on one tile of 256 rows of one sequence: the blocks it reads and writes are that tile's parts
    of the arrays. -/

@[expose] public section

set_option maxHeartbeats 4000000

noncomputable section

namespace Cert.Proof.PostArrays

open Cert.Kernel2Ideal Cert.Kernel2Ideal.Gen Cert.Kernel2Ideal.Post Idealize.ShloMosaic Idealize.ShloMosaic.TcCoe Cert.Proof.Tile

variable (m : (ℓ : Loc nD τ sig) → Buf (Elt Ideal) ℓ) (c : Dev nD) (B T : Fin 8)

/-- The grid's point of tile `T` of sequence `B`. -/
def pt : Fin cfg0.N := ⟨8 * B.val + T.val, lt_of_lt_of_eq (by omega) N_0.symm⟩

theorem pt_div : (pt B T).val / 8 = B.val := by show (8 * B.val + T.val) / 8 = _; omega
theorem pt_mod : (pt B T).val % 8 = T.val := by show (8 * B.val + T.val) % 8 = _; omega

/-! Where the blocks lie. -/
theorem index0 : ∀ t : Fin cfg0.N, win0_0.index t = ![t.val / 8, t.val % 8, 0] := (by decide +kernel : ∀ t : Fin grid0.N, win0_0.index t = ![t.val / 8, t.val % 8, 0])
theorem index1 : ∀ t : Fin cfg0.N, win0_1.index t = ![t.val / 8, t.val % 8, 0] := (by decide +kernel : ∀ t : Fin grid0.N, win0_1.index t = ![t.val / 8, t.val % 8, 0])
theorem index2 : ∀ t : Fin cfg0.N, win0_2.index t = ![t.val / 8, t.val % 8, 0] := (by decide +kernel : ∀ t : Fin grid0.N, win0_2.index t = ![t.val / 8, t.val % 8, 0])
theorem index3 : ∀ t : Fin cfg0.N, win0_3.index t = ![t.val / 8, t.val % 8, 0] := (by decide +kernel : ∀ t : Fin grid0.N, win0_3.index t = ![t.val / 8, t.val % 8, 0])
theorem index4 : ∀ t : Fin cfg0.N, win0_4.index t = ![t.val / 8, t.val % 8, 0] := (by decide +kernel : ∀ t : Fin grid0.N, win0_4.index t = ![t.val / 8, t.val % 8, 0])
theorem index5 : ∀ t : Fin cfg0.N, win0_5.index t = ![t.val / 8, t.val % 8, 0] := (by decide +kernel : ∀ t : Fin grid0.N, win0_5.index t = ![t.val / 8, t.val % 8, 0])
theorem index6 : ∀ t : Fin cfg0.N, win0_6.index t = ![t.val / 8, t.val % 8, 0] := (by decide +kernel : ∀ t : Fin grid0.N, win0_6.index t = ![t.val / 8, t.val % 8, 0])
theorem index7 : ∀ t : Fin cfg0.N, win0_7.index t = ![t.val / 8, t.val % 8, 0] := (by decide +kernel : ∀ t : Fin grid0.N, win0_7.index t = ![t.val / 8, t.val % 8, 0])
theorem index8 : ∀ t : Fin cfg0.N, win0_8.index t = ![t.val / 8, t.val % 8, 0] := (by decide +kernel : ∀ t : Fin grid0.N, win0_8.index t = ![t.val / 8, t.val % 8, 0])
theorem index9 : ∀ t : Fin cfg0.N, win0_9.index t = ![t.val / 8, t.val % 8, 0] := (by decide +kernel : ∀ t : Fin grid0.N, win0_9.index t = ![t.val / 8, t.val % 8, 0])
theorem index10 : ∀ t : Fin cfg0.N, win0_10.index t = ![t.val / 8, t.val % 8, 0] := (by decide +kernel : ∀ t : Fin grid0.N, win0_10.index t = ![t.val / 8, t.val % 8, 0])
theorem index11 : ∀ t : Fin cfg0.N, win0_11.index t = ![t.val / 8, t.val % 8, 0] := (by decide +kernel : ∀ t : Fin grid0.N, win0_11.index t = ![t.val / 8, t.val % 8, 0])
theorem index12 : ∀ t : Fin cfg0.N, win0_12.index t = ![t.val / 8, t.val % 8, 0] := (by decide +kernel : ∀ t : Fin grid0.N, win0_12.index t = ![t.val / 8, t.val % 8, 0])
theorem index13 : ∀ t : Fin cfg0.N, win0_13.index t = ![t.val / 8, t.val % 8, 0] := (by decide +kernel : ∀ t : Fin grid0.N, win0_13.index t = ![t.val / 8, t.val % 8, 0])
theorem index14 : ∀ t : Fin cfg0.N, win0_14.index t = ![t.val / 8, t.val % 8, 0] := (by decide +kernel : ∀ t : Fin grid0.N, win0_14.index t = ![t.val / 8, t.val % 8, 0])
theorem index15 : ∀ t : Fin cfg0.N, win0_15.index t = ![t.val / 8, t.val % 8, 0] := (by decide +kernel : ∀ t : Fin grid0.N, win0_15.index t = ![t.val / 8, t.val % 8, 0])
theorem index16 : ∀ t : Fin cfg0.N, win0_16.index t = ![t.val / 8, 0, 0] := (by decide +kernel : ∀ t : Fin grid0.N, win0_16.index t = ![t.val / 8, 0, 0])
theorem index17 : ∀ t : Fin cfg0.N, win0_17.index t = ![t.val / 8, 0, 0] := (by decide +kernel : ∀ t : Fin grid0.N, win0_17.index t = ![t.val / 8, 0, 0])
theorem index18 : ∀ t : Fin cfg0.N, win0_18.index t = ![t.val / 8, 0, 0] := (by decide +kernel : ∀ t : Fin grid0.N, win0_18.index t = ![t.val / 8, 0, 0])
theorem index19 : ∀ t : Fin cfg0.N, win0_19.index t = ![0, 0] := (by decide +kernel : ∀ t : Fin grid0.N, win0_19.index t = ![0, 0])
theorem index20 : ∀ t : Fin cfg0.N, win0_20.index t = ![0, 0] := (by decide +kernel : ∀ t : Fin grid0.N, win0_20.index t = ![0, 0])
theorem index21 : ∀ t : Fin cfg0.N, win0_21.index t = ![0, 0] := (by decide +kernel : ∀ t : Fin grid0.N, win0_21.index t = ![0, 0])
theorem index22 : ∀ t : Fin cfg0.N, win0_22.index t = ![0, 0] := (by decide +kernel : ∀ t : Fin grid0.N, win0_22.index t = ![0, 0])
theorem index23 : ∀ t : Fin cfg0.N, win0_23.index t = ![0, 0] := (by decide +kernel : ∀ t : Fin grid0.N, win0_23.index t = ![0, 0])
theorem index24 : ∀ t : Fin cfg0.N, win0_24.index t = ![0, 0] := (by decide +kernel : ∀ t : Fin grid0.N, win0_24.index t = ![0, 0])
theorem index25 : ∀ t : Fin cfg0.N, win0_25.index t = ![0, 0] := (by decide +kernel : ∀ t : Fin grid0.N, win0_25.index t = ![0, 0])
theorem index26 : ∀ t : Fin cfg0.N, win0_26.index t = ![0, 0] := (by decide +kernel : ∀ t : Fin grid0.N, win0_26.index t = ![0, 0])
theorem index27 : ∀ t : Fin cfg0.N, win0_27.index t = ![0, 0] := (by decide +kernel : ∀ t : Fin grid0.N, win0_27.index t = ![0, 0])
theorem index28 : ∀ t : Fin cfg0.N, win0_28.index t = ![0, 0] := (by decide +kernel : ∀ t : Fin grid0.N, win0_28.index t = ![0, 0])
theorem index29 : ∀ t : Fin cfg0.N, win0_29.index t = ![0, 0] := (by decide +kernel : ∀ t : Fin grid0.N, win0_29.index t = ![0, 0])
theorem index30 : ∀ t : Fin cfg0.N, win0_30.index t = ![0, 0] := (by decide +kernel : ∀ t : Fin grid0.N, win0_30.index t = ![0, 0])
theorem index31 : ∀ t : Fin cfg0.N, win0_31.index t = ![t.val / 8, t.val % 8, 0] := (by decide +kernel : ∀ t : Fin grid0.N, win0_31.index t = ![t.val / 8, t.val % 8, 0])
theorem index32 : ∀ t : Fin cfg0.N, win0_32.index t = ![t.val / 8, 0, 0] := (by decide +kernel : ∀ t : Fin grid0.N, win0_32.index t = ![t.val / 8, 0, 0])

/-! The weights, as the launch's host operations leave them. -/
theorem host19 (k : Fin 256) (j : Fin 1024) : (V m c main_v0 : Vec Ideal S256x1024 .bf16) (ix2 k j) = (m ((c.tc : Thread nD τ).loc main_arg19) : Vec Ideal S256x1024 .f32) (ix2 k j) := by
  rw [← V_main_arg19 m c]
  unfold V
  after_reads_simp
  rfl
theorem host20 (k : Fin 1024) (j : Fin 1024) : (V m c main_v1 : Vec Ideal S1024x1024 .bf16) (ix2 k j) = (m ((c.tc : Thread nD τ).loc main_arg20) : Vec Ideal S1024x1024 .f32) (ix2 k j) := by
  rw [← V_main_arg20 m c]
  unfold V
  after_reads_simp
  rfl
theorem host21 (k : Fin 1024) (j : Fin 1024) : (V m c main_v2 : Vec Ideal S1024x1024 .bf16) (ix2 k j) = (m ((c.tc : Thread nD τ).loc main_arg21) : Vec Ideal S1024x1024 .f32) (ix2 k j) := by
  rw [← V_main_arg21 m c]
  unfold V
  after_reads_simp
  rfl
theorem host23 (k : Fin 1024) (j : Fin 512) : (V m c main_v3 : Vec Ideal S1024x512 .bf16) (ix2 k j) = (m ((c.tc : Thread nD τ).loc main_arg23) : Vec Ideal S1024x512 .f32) (ix2 k j) := by
  rw [← V_main_arg23 m c]
  unfold V
  after_reads_simp
  rfl
theorem host24 (k : Fin 512) (j : Fin 1024) : (V m c main_v4 : Vec Ideal S512x1024 .bf16) (ix2 k j) = (m ((c.tc : Thread nD τ).loc main_arg24) : Vec Ideal S512x1024 .f32) (ix2 k j) := by
  rw [← V_main_arg24 m c]
  unfold V
  after_reads_simp
  rfl
theorem host26 (k : Fin 1024) (j : Fin 5632) : (V m c main_v5 : Vec Ideal S1024x5632 .bf16) (ix2 k j) = (m ((c.tc : Thread nD τ).loc main_arg26) : Vec Ideal S1024x5632 .f32) (ix2 k j) := by
  rw [← V_main_arg26 m c]
  unfold V
  after_reads_simp
  rfl
theorem host29 (k : Fin 2816) (j : Fin 1024) : (V m c main_v6 : Vec Ideal S2816x1024 .bf16) (ix2 k j) = (m ((c.tc : Thread nD τ).loc main_arg29) : Vec Ideal S2816x1024 .f32) (ix2 k j) := by
  rw [← V_main_arg29 m c]
  unfold V
  after_reads_simp
  rfl
theorem host22 (j : Fin 1024) : (V m c main_v7 : Vec Ideal S1x1024 .f32) (ix2 0 j) = (m ((c.tc : Thread nD τ).loc main_arg22) : Vec Ideal S1024 .f32) (ix1 j) := by
  rw [← V_main_arg22 m c]
  unfold V
  after_reads_simp
  pointwise
theorem host25 (j : Fin 1024) : (V m c main_v8 : Vec Ideal S1x1024 .f32) (ix2 0 j) = (m ((c.tc : Thread nD τ).loc main_arg25) : Vec Ideal S1024 .f32) (ix1 j) := by
  rw [← V_main_arg25 m c]
  unfold V
  after_reads_simp
  pointwise
theorem host28 (j : Fin 2816) : (V m c main_v9 : Vec Ideal S1x2816 .f32) (ix2 0 j) = (m ((c.tc : Thread nD τ).loc main_arg28) : Vec Ideal S2816 .f32) (ix1 j) := by
  rw [← V_main_arg28 m c]
  unfold V
  after_reads_simp
  pointwise
theorem host30 (j : Fin 1024) : (V m c main_v10 : Vec Ideal S1x1024 .f32) (ix2 0 j) = (m ((c.tc : Thread nD τ).loc main_arg30) : Vec Ideal S1024 .f32) (ix1 j) := by
  rw [← V_main_arg30 m c]
  unfold V
  after_reads_simp
  pointwise

/-! The blocks read. -/
theorem in0 (k : Fin 256) (l : Fin 128) : iblk m c 0 (pt B T) (ix3 0 k l) = V m c main_arg0 (ix3 B (row T k) l) := by
  blk_simp [iblk]
  refine congrArg _ ?_
  blk_ext [index0, pt_div, pt_mod, row]
theorem in1 (k : Fin 256) (l : Fin 128) : iblk m c 1 (pt B T) (ix3 0 k l) = V m c main_arg1 (ix3 B (row T k) l) := by
  blk_simp [iblk]
  refine congrArg _ ?_
  blk_ext [index1, pt_div, pt_mod, row]
theorem in2 (k : Fin 256) (l : Fin 128) : iblk m c 2 (pt B T) (ix3 0 k l) = V m c main_arg2 (ix3 B (row T k) l) := by
  blk_simp [iblk]
  refine congrArg _ ?_
  blk_ext [index2, pt_div, pt_mod, row]
theorem in3 (k : Fin 256) (l : Fin 128) : iblk m c 3 (pt B T) (ix3 0 k l) = V m c main_arg3 (ix3 B (row T k) l) := by
  blk_simp [iblk]
  refine congrArg _ ?_
  blk_ext [index3, pt_div, pt_mod, row]
theorem in4 (k : Fin 256) (l : Fin 128) : iblk m c 4 (pt B T) (ix3 0 k l) = V m c main_arg4 (ix3 B (row T k) l) := by
  blk_simp [iblk]
  refine congrArg _ ?_
  blk_ext [index4, pt_div, pt_mod, row]
theorem in5 (k : Fin 256) (l : Fin 128) : iblk m c 5 (pt B T) (ix3 0 k l) = V m c main_arg5 (ix3 B (row T k) l) := by
  blk_simp [iblk]
  refine congrArg _ ?_
  blk_ext [index5, pt_div, pt_mod, row]
theorem in6 (k : Fin 256) (l : Fin 128) : iblk m c 6 (pt B T) (ix3 0 k l) = V m c main_arg6 (ix3 B (row T k) l) := by
  blk_simp [iblk]
  refine congrArg _ ?_
  blk_ext [index6, pt_div, pt_mod, row]
theorem in7 (k : Fin 256) (l : Fin 128) : iblk m c 7 (pt B T) (ix3 0 k l) = V m c main_arg7 (ix3 B (row T k) l) := by
  blk_simp [iblk]
  refine congrArg _ ?_
  blk_ext [index7, pt_div, pt_mod, row]
theorem in8 (k : Fin 256) (l : Fin 128) : iblk m c 8 (pt B T) (ix3 0 k l) = V m c main_arg8 (ix3 B (row T k) l) := by
  blk_simp [iblk]
  refine congrArg _ ?_
  blk_ext [index8, pt_div, pt_mod, row]
theorem in9 (k : Fin 256) (l : Fin 128) : iblk m c 9 (pt B T) (ix3 0 k l) = V m c main_arg9 (ix3 B (row T k) l) := by
  blk_simp [iblk]
  refine congrArg _ ?_
  blk_ext [index9, pt_div, pt_mod, row]
theorem in10 (k : Fin 256) (l : Fin 128) : iblk m c 10 (pt B T) (ix3 0 k l) = V m c main_arg10 (ix3 B (row T k) l) := by
  blk_simp [iblk]
  refine congrArg _ ?_
  blk_ext [index10, pt_div, pt_mod, row]
theorem in11 (k : Fin 256) (l : Fin 128) : iblk m c 11 (pt B T) (ix3 0 k l) = V m c main_arg11 (ix3 B (row T k) l) := by
  blk_simp [iblk]
  refine congrArg _ ?_
  blk_ext [index11, pt_div, pt_mod, row]
theorem in12 (k : Fin 256) (l : Fin 1024) : iblk m c 12 (pt B T) (ix3 0 k l) = V m c main_arg12 (ix3 B (row T k) l) := by
  blk_simp [iblk]
  refine congrArg _ ?_
  blk_ext [index12, pt_div, pt_mod, row]
theorem in13 (k : Fin 256) (l : Fin 1024) : iblk m c 13 (pt B T) (ix3 0 k l) = V m c main_arg13 (ix3 B (row T k) l) := by
  blk_simp [iblk]
  refine congrArg _ ?_
  blk_ext [index13, pt_div, pt_mod, row]
theorem in14 (k : Fin 256) (l : Fin 1024) : iblk m c 14 (pt B T) (ix3 0 k l) = V m c main_arg14 (ix3 B (row T k) l) := by
  blk_simp [iblk]
  refine congrArg _ ?_
  blk_ext [index14, pt_div, pt_mod, row]
theorem in15 (k : Fin 256) (l : Fin 1024) : iblk m c 15 (pt B T) (ix3 0 k l) = V m c main_arg15 (ix3 B (row T k) l) := by
  blk_simp [iblk]
  refine congrArg _ ?_
  blk_ext [index15, pt_div, pt_mod, row]
theorem in16 (k : Fin 1024) (l : Fin 128) : iblk m c 16 (pt B T) (ix3 0 k l) = V m c main_arg16 (ix3 B k l) := by
  blk_simp [iblk]
  refine congrArg _ ?_
  blk_ext [index16, pt_div]
theorem in17 (k : Fin 1024) (l : Fin 128) : iblk m c 17 (pt B T) (ix3 0 k l) = V m c main_arg17 (ix3 B k l) := by
  blk_simp [iblk]
  refine congrArg _ ?_
  blk_ext [index17, pt_div]
theorem in18 (k : Fin 2) (l : Fin 2816) : iblk m c 18 (pt B T) (ix3 0 k l) = V m c main_arg18 (ix3 B k l) := by
  blk_simp [iblk]
  refine congrArg _ ?_
  blk_ext [index18, pt_div]
theorem in19 (k : Fin 256) (l : Fin 1024) : iblk m c 19 (pt B T) (ix2 k l) = V m c main_v0 (ix2 k l) := by
  blk_simp [iblk]
  refine congrArg _ ?_
  blk_ext [index19]
theorem in20 (k : Fin 1024) (l : Fin 1024) : iblk m c 20 (pt B T) (ix2 k l) = V m c main_v1 (ix2 k l) := by
  blk_simp [iblk]
  refine congrArg _ ?_
  blk_ext [index20]
theorem in21 (k : Fin 1024) (l : Fin 1024) : iblk m c 21 (pt B T) (ix2 k l) = V m c main_v2 (ix2 k l) := by
  blk_simp [iblk]
  refine congrArg _ ?_
  blk_ext [index21]
theorem in22 (k : Fin 1) (l : Fin 1024) : iblk m c 22 (pt B T) (ix2 k l) = V m c main_v7 (ix2 k l) := by
  blk_simp [iblk]
  refine congrArg _ ?_
  blk_ext [index22]
theorem in23 (k : Fin 1024) (l : Fin 512) : iblk m c 23 (pt B T) (ix2 k l) = V m c main_v3 (ix2 k l) := by
  blk_simp [iblk]
  refine congrArg _ ?_
  blk_ext [index23]
theorem in24 (k : Fin 512) (l : Fin 1024) : iblk m c 24 (pt B T) (ix2 k l) = V m c main_v4 (ix2 k l) := by
  blk_simp [iblk]
  refine congrArg _ ?_
  blk_ext [index24]
theorem in25 (k : Fin 1) (l : Fin 1024) : iblk m c 25 (pt B T) (ix2 k l) = V m c main_v8 (ix2 k l) := by
  blk_simp [iblk]
  refine congrArg _ ?_
  blk_ext [index25]
theorem in26 (k : Fin 1024) (l : Fin 5632) : iblk m c 26 (pt B T) (ix2 k l) = V m c main_v5 (ix2 k l) := by
  blk_simp [iblk]
  refine congrArg _ ?_
  blk_ext [index26]
theorem in27 (k : Fin 3) (l : Fin 2816) : iblk m c 27 (pt B T) (ix2 k l) = V m c main_arg27 (ix2 k l) := by
  blk_simp [iblk]
  refine congrArg _ ?_
  blk_ext [index27]
theorem in28 (k : Fin 1) (l : Fin 2816) : iblk m c 28 (pt B T) (ix2 k l) = V m c main_v9 (ix2 k l) := by
  blk_simp [iblk]
  refine congrArg _ ?_
  blk_ext [index28]
theorem in29 (k : Fin 2816) (l : Fin 1024) : iblk m c 29 (pt B T) (ix2 k l) = V m c main_v6 (ix2 k l) := by
  blk_simp [iblk]
  refine congrArg _ ?_
  blk_ext [index29]
theorem in30 (k : Fin 1) (l : Fin 1024) : iblk m c 30 (pt B T) (ix2 k l) = V m c main_v10 (ix2 k l) := by
  blk_simp [iblk]
  refine congrArg _ ?_
  blk_ext [index30]

end Cert.Proof.PostArrays
-- ==== Proof.Post.Result.lean ====
module

public import proofs.«01_k».proof.Proof.Post.Arrays

/-! The two arrays after the launch: the rows and the last gate rows of the reference's mathematics on the launch's arguments. -/

@[expose] public section

set_option maxHeartbeats 4000000

noncomputable section

namespace Cert.Proof.PostArrays

open Cert.Kernel2Ideal Cert.Kernel2Ideal.Gen Cert.Kernel2Ideal.Post Idealize.ShloMosaic Idealize.ShloMosaic.TcCoe Cert.Proof.Tile Cert.Proof.RefPost Cert.Proof.Ker

variable (m : (ℓ : Loc nD τ sig) → Buf (Elt Ideal) ℓ) (c : Dev nD)

/-- The launch's arguments. -/
def args : Args where
  x0 := m ((c.tc : Thread nD τ).loc main_arg0)
  x1 := m ((c.tc : Thread nD τ).loc main_arg1)
  x2 := m ((c.tc : Thread nD τ).loc main_arg2)
  x3 := m ((c.tc : Thread nD τ).loc main_arg3)
  x4 := m ((c.tc : Thread nD τ).loc main_arg4)
  x5 := m ((c.tc : Thread nD τ).loc main_arg5)
  x6 := m ((c.tc : Thread nD τ).loc main_arg6)
  x7 := m ((c.tc : Thread nD τ).loc main_arg7)
  x8 := m ((c.tc : Thread nD τ).loc main_arg8)
  x9 := m ((c.tc : Thread nD τ).loc main_arg9)
  x10 := m ((c.tc : Thread nD τ).loc main_arg10)
  x11 := m ((c.tc : Thread nD τ).loc main_arg11)
  x12 := m ((c.tc : Thread nD τ).loc main_arg12)
  x13 := m ((c.tc : Thread nD τ).loc main_arg13)
  x14 := m ((c.tc : Thread nD τ).loc main_arg14)
  x15 := m ((c.tc : Thread nD τ).loc main_arg15)
  x16 := m ((c.tc : Thread nD τ).loc main_arg16)
  x17 := m ((c.tc : Thread nD τ).loc main_arg17)
  x18 := m ((c.tc : Thread nD τ).loc main_arg18)
  x19 := m ((c.tc : Thread nD τ).loc main_arg19)
  x20 := m ((c.tc : Thread nD τ).loc main_arg20)
  x21 := m ((c.tc : Thread nD τ).loc main_arg21)
  x22 := m ((c.tc : Thread nD τ).loc main_arg22)
  x23 := m ((c.tc : Thread nD τ).loc main_arg23)
  x24 := m ((c.tc : Thread nD τ).loc main_arg24)
  x25 := m ((c.tc : Thread nD τ).loc main_arg25)
  x26 := m ((c.tc : Thread nD τ).loc main_arg26)
  x27 := m ((c.tc : Thread nD τ).loc main_arg27)
  x28 := m ((c.tc : Thread nD τ).loc main_arg28)
  x29 := m ((c.tc : Thread nD τ).loc main_arg29)
  x30 := m ((c.tc : Thread nD τ).loc main_arg30)

/-- The blocks of a point are the parts of the arguments that belong to its tile. -/
theorem isBlk (B T : Fin 8) : IsBlk (args m c) (blk m c (pt B T)) B T where
  o0 r k := (in0 m c B T r k).trans (congrFun (V_main_arg0 m c) _)
  o1 r k := (in1 m c B T r k).trans (congrFun (V_main_arg1 m c) _)
  o2 r k := (in2 m c B T r k).trans (congrFun (V_main_arg2 m c) _)
  o3 r k := (in3 m c B T r k).trans (congrFun (V_main_arg3 m c) _)
  o4 r k := (in4 m c B T r k).trans (congrFun (V_main_arg4 m c) _)
  o5 r k := (in5 m c B T r k).trans (congrFun (V_main_arg5 m c) _)
  l0 r k := (in6 m c B T r k).trans (congrFun (V_main_arg6 m c) _)
  l1 r k := (in7 m c B T r k).trans (congrFun (V_main_arg7 m c) _)
  l2 r k := (in8 m c B T r k).trans (congrFun (V_main_arg8 m c) _)
  l3 r k := (in9 m c B T r k).trans (congrFun (V_main_arg9 m c) _)
  l4 r k := (in10 m c B T r k).trans (congrFun (V_main_arg10 m c) _)
  l5 r k := (in11 m c B T r k).trans (congrFun (V_main_arg11 m c) _)
  ob r k := (in12 m c B T r k).trans (congrFun (V_main_arg12 m c) _)
  ga r k := (in13 m c B T r k).trans (congrFun (V_main_arg13 m c) _)
  gb r k := (in14 m c B T r k).trans (congrFun (V_main_arg14 m c) _)
  h r k := (in15 m c B T r k).trans (congrFun (V_main_arg15 m c) _)
  mmk r k := (in16 m c B T r k).trans (congrFun (V_main_arg16 m c) _)
  mmv r k := (in17 m c B T r k).trans (congrFun (V_main_arg17 m c) _)
  ini r k := (in18 m c B T r k).trans (congrFun (V_main_arg18 m c) _)
  wa k j := (in19 m c B T k j).trans (host19 m c k j)
  wb k j := (in20 m c B T k j).trans (host20 m c k j)
  wo k j := (in21 m c B T k j).trans (host21 m c k j)
  nq j := (in22 m c B T 0 j).trans (host22 m c j)
  wq k j := (in23 m c B T k j).trans (host23 m c k j)
  wmo k j := (in24 m c B T k j).trans (host24 m c k j)
  nf j := (in25 m c B T 0 j).trans (host25 m c j)
  wup k j := (in26 m c B T k j).trans (host26 m c k j)
  wc k j := (in27 m c B T k j).trans (congrFun (V_main_arg27 m c) _)
  bc j := (in28 m c B T 0 j).trans (host28 m c j)
  wd k j := (in29 m c B T k j).trans (host29 m c k j)
  nl j := (in30 m c B T 0 j).trans (host30 m c j)

theorem flushed31 (t : Fin cfg0.N) : (dats m 0 c).flushed 31 t = (cfg0.win 31).cut (grid0.coords t) ((blk m c t).y (pre m c t.val t.isLt)) := by
  show (cfg0.win 31).cut (grid0.coords t) ((dats m 0 c).after 31 t) = _
  rw [after0_31]

theorem flushed32 (t : Fin cfg0.N) : (dats m 0 c).flushed 32 t = (cfg0.win 32).cut (grid0.coords t) (blk m c t).fc := by
  show (cfg0.win 32).cut (grid0.coords t) ((dats m 0 c).after 32 t) = _
  rw [after0_32]

/-- No two points write the same rows. -/
theorem inj31 (t t' : Fin cfg0.N) (h : win0_31.index t = win0_31.index t') : t = t' := by
  rw [index31, index31] at h
  have h0 : t.val / 8 = t'.val / 8 := congrFun h 0
  have h1 : t.val % 8 = t'.val % 8 := congrFun h 1
  exact Fin.ext (by omega)

/-- Of the points that write the last gate rows back, no two write the same. -/
theorem inj32 (t t' : Fin cfg0.N) (f : t.val % 8 = 7) (f' : t'.val % 8 = 7) (h : win0_32.index t = win0_32.index t') : t = t' := by
  rw [index32, index32] at h
  have h0 : t.val / 8 = t'.val / 8 := congrFun h 0
  exact Fin.ext (by omega)

theorem arr31 (B T : Fin 8) (r : Fin 256) (j : Fin 1024) :
    (dats m 0 c).arrAt 31 cfg0.N (ix3 B (row T r) j) = (blk m c (pt B T)).y (pre m c (pt B T).val (pt B T).isLt) (ix3 0 r j) := by
  have h := congrFun ((dats m 0 c).read_blk_arrAt_eq_flushed 31
    (fun t t' _ _ hne => (cfg0.win 31).disjoint_blk fun h => hne (inj31 t t' h)) cfg0.N (pt B T) (pt B T).isLt (flush0_31 _)) (ix3 0 r j)
  rw [flushed31] at h
  refine Eq.trans ?_ h
  blk_simp
  refine congrArg _ ?_
  blk_ext [index31, pt_div, pt_mod, row]

theorem arr32 (B : Fin 8) (i : Fin 2) (j : Fin 2816) :
    (dats m 0 c).arrAt 32 cfg0.N (ix3 B i j) = (blk m c (pt B 7)).fc (ix3 0 i j) := by
  have h := congrFun ((dats m 0 c).read_blk_arrAt_eq_flushed 32
    (fun t t' f f' hne => (cfg0.win 32).disjoint_blk fun h => hne (inj32 t t' ((flush0_32 t).1 f) ((flush0_32 t').1 f') h))
    cfg0.N (pt B 7) (pt B 7).isLt ((flush0_32 _).2 (pt_mod B 7))) (ix3 0 i j)
  rw [flushed32] at h
  refine Eq.trans ?_ h
  blk_simp
  refine congrArg _ ?_
  blk_ext [index32, pt_div]

/-- An index of a three-axis array, by its coordinates. -/
theorem idx3 {a b c : ℕ} (i : (⟨3, ![a, b, c]⟩ : Shape).Idx) : i = ix3 (i 0) (i 1) (i 2) := by
  funext x
  match x with
  | ⟨0, _⟩ => rfl
  | ⟨1, _⟩ => rfl
  | ⟨2, _⟩ => rfl

variable (hA : IsReal (args m c))
include hA

/-- What a point reads of the carried rows: the gate's two rows before its tile. -/
theorem pre_eq (B T : Fin 8) (i : Fin 2) (j : Fin 2816) :
    pre m c (pt B T).val (pt B T).isLt (ix2 i j) = (args m c).ext (ix3 B (before T i) j) := by
  by_cases hT : T.val = 0
  · have e : pre m c (pt B T).val (pt B T).isLt = k0_pay20 (blk m c (pt B T)).ini := by
      have hn : (pt B T).val % 8 = 0 := (pt_mod B T).trans hT
      generalize pt B T = t at hn
      obtain ⟨n, h⟩ := t
      cases n with
      | zero => rfl
      | succ n => exact if_pos hn
    rw [e, pay20, (isBlk m c B T).ini, Args.ext_at, dif_pos (by show 256 * T.val + i.val < 2; omega)]
    exact congrArg (fun r => (args m c).x18 (ix3 B r j)) (Fin.ext (by show i.val = 256 * T.val + i.val; omega))
  · obtain ⟨T', hT'⟩ : ∃ T' : Fin 8, T.val = T'.val + 1 := ⟨⟨T.val - 1, by omega⟩, by show T.val = T.val - 1 + 1; omega⟩
    have e : pre m c (pt B T).val (pt B T).isLt = (blk m c (pt B T')).carry := by
      have hs : (pt B T).val = (pt B T').val + 1 := by show 8 * B.val + T.val = 8 * B.val + T'.val + 1; omega
      have hn : ¬ (pt B T).val % 8 = 0 := fun h => hT ((pt_mod B T).symm.trans h)
      generalize pt B T = t at hs hn
      generalize pt B T' = t' at hs
      obtain ⟨n, h⟩ := t
      obtain ⟨n', h'⟩ := t'
      subst hs
      exact if_neg hn
    rw [e, carry_eq (isBlk m c B T') hA i j]
    exact congrArg (fun r => (args m c).ext (ix3 B r j)) (Fin.ext (by show 256 * (T'.val + 1) + i.val = 256 * T.val + i.val; omega))

/-- The rows written are the reference's. -/
theorem y_arr : (dats m 0 c).arrAt 31 cfg0.N = (args m c).y := by
  refine funext fun i => ?_
  rw [idx3 i]
  generalize i 0 = B
  generalize i 1 = R
  generalize i 2 = j
  change Fin 8 at B
  change Fin 2048 at R
  change Fin 1024 at j
  have e : R = row ⟨R.val / 256, by omega⟩ ⟨R.val % 256, by omega⟩ := Fin.ext (by show R.val = 256 * (R.val / 256) + R.val % 256; omega)
  rw [e]
  exact (arr31 m c B _ _ j).trans (y_eq (isBlk m c B _) hA _ (pre_eq m c hA B _) _ j)

/-- The last gate rows written are the reference's. -/
theorem fc_arr : (dats m 0 c).arrAt 32 cfg0.N = (args m c).fc := by
  refine funext fun i => ?_
  rw [idx3 i]
  exact (arr32 m c _ _ _).trans (fc_eq (isBlk m c _ 7) hA rfl _ _)

end Cert.Proof.PostArrays
-- ==== Proof.Post.Equal.lean ====
module

public import proofs.«01_k».proof.Defs
public import proofs.«01_k».proof.Proof.Gen.Pre_finite2
public import proofs.«01_k».proof.Proof.Gen.Reference2Ideal
public import proofs.«01_k».proof.Proof.Gen.Reference2Ideal.Run
public import proofs.«01_k».proof.Proof.Gen.Reference2Ideal.Read
public import proofs.«01_k».proof.Proof.Post.Finite2
public import proofs.«01_k».proof.Proof.Post.Result
public import Idealize.ShloMosaic.Lib.Quiescent

/-! The launch of the layer's last stage and its reference end with equal arrays. -/

@[expose] public section

set_option maxHeartbeats 4000000

noncomputable section

namespace Cert.Proof.PostEqual

open Idealize.ShloMosaic Idealize.SL.Sem

/-- The reference uses no semaphore, and writes none of its arguments. -/
theorem reference2_frame : Cert.quiescent_Reference2Ideal := fun m ρ _ =>
  (θ_run _ _ _).mono (fun r h => ⟨fun c => (h c).2.2, sem_eq_zero_of_no_sems (by decide) r.2⟩) (Cert.Reference2Ideal.Value.run (F := Ideal) m ρ)

open Cert.Kernel2Ideal.Gen Cert.Kernel2Ideal.Post Cert.Reference2Ideal.Read PostArrays in
theorem equal2 : Cert.algebraic_Kernel2Ideal_Reference2Ideal_pre_finite2 := by
  intro m g m' g' hp ha
  refine ⟨fun c => (args m c).y, fun c => (args m c).fc, ?_, ?_⟩
  · refine (θ_run _ _ _).mono (fun r h c => ?_) (θ_run_and (frame_of m g (dats m) (A_eq m) (run_main m g)) (run_main m g))
    have H := Finite2.isReal (args m c) (hp c)
    exact ⟨((h.2 c).1 31).trans (y_arr m c H), ((h.2 c).1 32).trans (fc_arr m c H), h.1 c⟩
  · refine (θ_run _ _ _).mono (fun r h c => ?_) (Cert.Reference2Ideal.Value.run (F := Ideal) m' g')
    obtain ⟨h0, h1, hk⟩ := h c
    obtain ⟨e0, e1, e2, e3, e4, e5, e6, e7, e8, e9, e10, e11, e12, e13, e14, e15, e16, e17, e18, e19, e20, e21, e22, e23, e24, e25, e26, e27, e28, e29, e30⟩ := ha c
    have f0 := h0.trans (val_main_v135_eq (StableHlo.launchContents m' c))
    have f1 := h1.trans (val_main_v136_eq (StableHlo.launchContents m' c))
    simp only [StableHlo.launchContents_devRef, e0, e1, e2, e3, e4, e5, e6, e7, e8, e9, e10, e11, e12, e13, e14, e15, e16, e17, e18, e19, e20, e21, e22, e23, e24, e25, e26, e27, e28, e29, e30] at f0 f1
    exact ⟨f0, f1, hk⟩

end Cert.Proof.PostEqual
-- ==== Proof.Mem.Frame.lean ====
module

public import proofs.«01_k».proof.Proof.Gen.Kernel3Ideal.Frame
public import proofs.«01_k».proof.Proof.Gen.Kernel3Ideal.Skeleton
public import Idealize.ShloMosaic.Lib.Pipeline.ValueKit
public import Idealize.ShloMosaic.Lib.UnfoldOut

/-! The frame of the memory's keys and values, in exact arithmetic: at a grid point the body stores, for each of the four heads, every fourth row of
    a block of keys, and likewise of values. -/

@[expose] public section

set_option maxRecDepth 16384
set_option maxHeartbeats 4000000

noncomputable section

namespace Cert.Kernel3Ideal.Mem

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every fourth row of a block, from row `n` on: one head's rows. -/
abbrev head (n : ℕ) (inb : ∀ a, S256x128.size a = 0 ∨ (![n, 0] : Fin 2 → ℕ) a + (![4, 1] : Fin 2 → ℕ) a * (S256x128.size a - 1) < S1024x128.size a) :
    Rect S1024x128 := ⟨⟨![n, 0], S256x128.size, ![4, 1], inb⟩, spos_4_1⟩

/-- Rows of four heads, one head to a row: row `4 r + h` holds the 128 columns from `128 h` on of row `r`. -/
def heads (w : FVec F S256x512 .f32) : Vec F S1024x128 .f32 := fun y =>
  w (ix2 ⟨(y 0).val / 4, by have h : (y 0).val < 1024 := (y 0).isLt; omega⟩
    ⟨128 * ((y 0).val % 4) + (y 1).val, by have h : (y 1).val < 128 := (y 1).isLt; omega⟩)

/-- A head's rows of a block hold the head's columns. -/
theorem head_at (n : ℕ) (hn : n < 4) (inb) (w : FVec F S256x512 .f32) (p : FVec F S256x128 .f32)
    (hp : ∀ x : S256x128.Idx, p x = w (ix2 (x 0) ⟨128 * n + (x 1).val, by have h : (x 1).val < 128 := (x 1).isLt; omega⟩)) (y : S1024x128.Idx) :
    View.RectAt y (head n inb) p (heads w y) := by
  intro x hx
  subst hx
  refine (hp x).trans (congrArg w ?_)
  have h0 : (((head n inb).emb x) 0).val = n + 4 * (x 0).val := rfl
  have h1 : (((head n inb).emb x) 1).val = 0 + 1 * (x 1).val := rfl
  have hb : (x 0).val < 256 := (x 0).isLt
  funext a
  match a with
  | ⟨0, _⟩ => exact Fin.ext (by show (x 0).val = (((head n inb).emb x) 0).val / 4; omega)
  | ⟨1, _⟩ => exact Fin.ext (by show 128 * n + (x 1).val = 128 * ((((head n inb).emb x) 0).val % 4) + (((head n inb).emb x) 1).val; rw [h0, h1]; omega)

/-- A row of a block belongs to the head that its number names, modulo four. -/
theorem head_mem (n : ℕ) (inb) (y : S1024x128.Idx) (h : (y 0).val % 4 = n) : y ∈ (head n inb).set := by
  refine (LoadRect.mem_set _).2 fun a => ?_
  have h0 : (y 0).val < 1024 := (y 0).isLt
  have h1 : (y 1).val < 128 := (y 1).isLt
  match a with
  | ⟨0, _⟩ => exact ⟨(y 0).val / 4, by show (y 0).val / 4 < 256; omega, by show (y 0).val = n + 4 * ((y 0).val / 4); omega⟩
  | ⟨1, _⟩ => exact ⟨(y 1).val, h1, by show (y 1).val = 0 + 1 * (y 1).val; omega⟩

/-- The four heads' pieces together are `heads`. -/
theorem heads_eq (v : View sig .tc .vmem S1024x128 .f32) (f : v.ty.Contents (Elt F)) (w : FVec F S256x512 .f32) (p0 p1 p2 p3 : FVec F S256x128 .f32)
    (h0 : ∀ x : S256x128.Idx, p0 x = w (ix2 (x 0) ⟨128 * 0 + (x 1).val, by have h : (x 1).val < 128 := (x 1).isLt; omega⟩))
    (h1 : ∀ x : S256x128.Idx, p1 x = w (ix2 (x 0) ⟨128 * 1 + (x 1).val, by have h : (x 1).val < 128 := (x 1).isLt; omega⟩))
    (h2 : ∀ x : S256x128.Idx, p2 x = w (ix2 (x 0) ⟨128 * 2 + (x 1).val, by have h : (x 1).val < 128 := (x 1).isLt; omega⟩))
    (h3 : ∀ x : S256x128.Idx, p3 x = w (ix2 (x 0) ⟨128 * 3 + (x 1).val, by have h : (x 1).val < 128 := (x 1).isLt; omega⟩)) :
    v.read (Elt F) (v.writes (Elt F) f ([⟨head 3 inb_S1024x128_S256x128_3_0_s_4_1, p3⟩, ⟨head 2 inb_S1024x128_S256x128_2_0_s_4_1, p2⟩,
      ⟨head 1 inb_S1024x128_S256x128_1_0_s_4_1, p1⟩, ⟨head 0 inb_S1024x128_S256x128_0_0_s_4_1, p0⟩] : List (View.Piece (Elt F) S1024x128 .f32))) = heads w := by
  have hc : ∀ y : S1024x128.Idx, ∃ pc ∈ ([⟨head 3 inb_S1024x128_S256x128_3_0_s_4_1, p3⟩, ⟨head 2 inb_S1024x128_S256x128_2_0_s_4_1, p2⟩,
      ⟨head 1 inb_S1024x128_S256x128_1_0_s_4_1, p1⟩, ⟨head 0 inb_S1024x128_S256x128_0_0_s_4_1, p0⟩] : List (View.Piece (Elt F) S1024x128 .f32)), y ∈ pc.1.set := by
    intro y
    have hy : (y 0).val % 4 = 0 ∨ (y 0).val % 4 = 1 ∨ (y 0).val % 4 = 2 ∨ (y 0).val % 4 = 3 := by omega
    rcases hy with hy | hy | hy | hy
    · exact ⟨_, .tail _ (.tail _ (.tail _ (.head _))), head_mem 0 _ y hy⟩
    · exact ⟨_, .tail _ (.tail _ (.head _)), head_mem 1 _ y hy⟩
    · exact ⟨_, .tail _ (.head _), head_mem 2 _ y hy⟩
    · exact ⟨_, .head _, head_mem 3 _ y hy⟩
  rw [View.read_writes_eq_canon _ _ _ hc]
  funext y
  exact View.canon_eq_of_allAt _ y _ (hc y) (View.allAt_cons _ _ _ (head_at 3 (by omega) _ w p3 h3 y) (View.allAt_cons _ _ _ (head_at 2 (by omega) _ w p2 h2 y)
    (View.allAt_cons _ _ _ (head_at 1 (by omega) _ w p1 h1 y) (View.allAt_cons _ _ _ (head_at 0 (by omega) _ w p0 h0 y) (View.allAt_nil _ _)))))

/-- The whole block of rows, and the whole gain. -/
abbrev rows (x0 : Vec F S256x1024 .f32) : Vec F S256x1024 .f32 := View.ld x0 (Rect.unit (s := S256x1024) ![0, 0] S256x1024.size inb_S256x1024_S256x1024_0_0)
abbrev gain (x1 : Vec F S1x1024 .f32) : Vec F S1x1024 .f32 := View.ld x1 (Rect.unit (s := S1x1024) ![0, 0] S1x1024.size inb_S1x1024_S1x1024_0_0)

/-- The 512 columns of the weight from column `o` on. -/
abbrev half (o : ℕ) (inb : ∀ a, (![0, o] : Fin 2 → ℕ) a + S1024x512.size a ≤ S1024x1024.size a) (x2 : Vec F S1024x1024 .bf16) : Vec F S1024x512 .bf16 :=
  View.ld x2 (Rect.unit (s := S1024x1024) ![0, o] S1024x512.size inb)

/-- A grid point's block of keys, -/
def keys (x0 : Vec F S256x1024 .f32) (x1 : Vec F S1x1024 .f32) (x2 : Vec F S1024x1024 .bf16) : Vec F S1024x128 .f32 :=
  heads (k0_pay5 (rows x0) (gain x1) (half 0 inb_S1024x1024_S1024x512_0_0 x2))
/-- and its block of values. -/
def vals (x0 : Vec F S256x1024 .f32) (x1 : Vec F S1x1024 .f32) (x2 : Vec F S1024x1024 .bf16) : Vec F S1024x128 .f32 :=
  heads (k0_pay10 (rows x0) (gain x1) (half 512 inb_S1024x1024_S1024x512_0_512 x2))

/-- A column of a slice of a row. -/
theorem slice_at (n : ℕ) (w : FVec F S256x512 .f32) (hs) (x : S256x128.Idx) (hn : n < 4) :
    extractStridedSlice S256x128 ![0, 128 * n] w hs x = w (ix2 (x 0) ⟨128 * n + (x 1).val, by have h : (x 1).val < 128 := (x 1).isLt; omega⟩) := by
  refine congrArg w ?_
  funext a
  match a with
  | ⟨0, _⟩ => exact Fin.ext (by show 0 + (x 0).val = (x 0).val; omega)
  | ⟨1, _⟩ => rfl

/-- The keys' pieces together, -/
theorem keys_eq (v : View sig .tc .vmem S1024x128 .f32) (f : v.ty.Contents (Elt F)) (x0 : Vec F S256x1024 .f32) (x1 : Vec F S1x1024 .f32) (w : Vec F S1024x512 .bf16) :
    v.read (Elt F) (v.writes (Elt F) f ([⟨head 3 inb_S1024x128_S256x128_3_0_s_4_1, k0_pay9 x0 x1 w⟩, ⟨head 2 inb_S1024x128_S256x128_2_0_s_4_1, k0_pay8 x0 x1 w⟩,
      ⟨head 1 inb_S1024x128_S256x128_1_0_s_4_1, k0_pay7 x0 x1 w⟩, ⟨head 0 inb_S1024x128_S256x128_0_0_s_4_1, k0_pay6 x0 x1 w⟩] : List (View.Piece (Elt F) S1024x128 .f32))) = heads (k0_pay5 x0 x1 w) :=
  heads_eq v f (k0_pay5 x0 x1 w) _ _ _ _ (fun x => slice_at 0 _ slices_S256x512_o0_0_S256x128 x (by omega)) (fun x => slice_at 1 _ slices_S256x512_o0_128_S256x128 x (by omega)) (fun x => slice_at 2 _ slices_S256x512_o0_256_S256x128 x (by omega)) (fun x => slice_at 3 _ slices_S256x512_o0_384_S256x128 x (by omega))
/-- and the values'. -/
theorem vals_eq (v : View sig .tc .vmem S1024x128 .f32) (f : v.ty.Contents (Elt F)) (x0 : Vec F S256x1024 .f32) (x1 : Vec F S1x1024 .f32) (w : Vec F S1024x512 .bf16) :
    v.read (Elt F) (v.writes (Elt F) f ([⟨head 3 inb_S1024x128_S256x128_3_0_s_4_1, k0_pay3 (k0_pay10 x0 x1 w)⟩, ⟨head 2 inb_S1024x128_S256x128_2_0_s_4_1, k0_pay2 (k0_pay10 x0 x1 w)⟩,
      ⟨head 1 inb_S1024x128_S256x128_1_0_s_4_1, k0_pay1 (k0_pay10 x0 x1 w)⟩, ⟨head 0 inb_S1024x128_S256x128_0_0_s_4_1, k0_pay11 x0 x1 w⟩] : List (View.Piece (Elt F) S1024x128 .f32))) = heads (k0_pay10 x0 x1 w) :=
  heads_eq v f (k0_pay10 x0 x1 w) _ _ _ _ (fun x => slice_at 0 _ slices_S256x512_o0_0_S256x128 x (by omega)) (fun x => slice_at 1 _ slices_S256x512_o0_128_S256x128 x (by omega)) (fun x => slice_at 2 _ slices_S256x512_o0_256_S256x128 x (by omega)) (fun x => slice_at 3 _ slices_S256x512_o0_384_S256x128 x (by omega))

/-- The body at a point: the inputs' buffers keep their blocks, and the results' hold the keys and the values. -/
theorem sound_kernel (c : Dev nD) (E : Set ℕ) (i : grid0.Coords) (arg1 : Memref sig .tc .vmem S256x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1024x128 .f32) (harg4 : arg4.IsWhole) (arg5 : Memref sig .tc .vmem S1024x128 .f32) (harg5 : arg5.IsWhole)
    (x0 : Vec F S256x1024 .f32) (x1 : Vec F S1x1024 .f32) (x2 : Vec F S1024x1024 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (keys x0 x1 x2) ∗ owns (c : Thread nD τ) arg5 fullShare (vals x0 x1 x2)) -∗ K ⟨⟩))
      ⊢ wp frame (wpE (defs₀ (F := F)) Variants.none c none) E (cc0_mem_kv i arg1 harg1 arg2 harg2 arg3 harg3 arg4 harg4 arg5 harg5) K := by
  simp only [cc0_mem_kv_eq_skeleton]; unfold cc0_mem_kv_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact keys_eq _ _ _ _ _
  iexists _; isplitr
  swap; · iexact H4
  ipureintro
  exact vals_eq _ _ _ _ _

/-- The proof data: the arrays as the region finds them, each input's buffer left at its block, the results' at the keys and values. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => keys (iblk m c 0 t) (iblk m c 1 t) (iblk m c 2 t)
    | ⟨4, _⟩ => vals (iblk m c 0 t) (iblk m c 1 t) (iblk m c 2 t)
    | ⟨_ + 5, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

/-! What the body leaves in each window's buffer, and what it finds in an input's. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = keys (iblk m c 0 t) (iblk m c 1 t) (iblk m c 2 t) := by dsimp only [dats]
theorem after0_4 (c : Dev nD) (t : Fin cfg0.N) : (dats m 0 c).after 4 t = vals (iblk m c 0 t) (iblk m c 1 t) (iblk m c 2 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel3Ideal.Mem

end
-- ==== Proof.Proj.Ker.lean ====
module

public import proofs.«01_k».proof.Proof.Gen.Kernel4Ideal.Frame
public import proofs.«01_k».proof.Proof.Post.Ker
public import Idealize.ShloMosaic.Lib.Pipeline.ValueKit
public import Idealize.ShloMosaic.Lib.Pointwise

/-! What the projection's body leaves in each output: products of the normalized rows with columns of the weights. -/

@[expose] public section

set_option maxHeartbeats 4000000

noncomputable section

namespace Cert.Proof.ProjKer

open Cert.Kernel4Ideal Cert.Kernel4Ideal.Gen Idealize.ShloMosaic Idealize.ShloMosaic.TcCoe Cert.Proof.Ker

/-- A normalized row's product with a column. -/
def lin (x g w : Fin 1024 → EReal) : EReal := ∑ k : Fin 1024, rms x g k * w k

/-- A row of zeros gives zero. -/
theorem lin_zero (g w : Fin 1024 → EReal) : lin (fun _ => 0) g w = 0 := by
  unfold lin rms
  simp only [zero_mul, Finset.sum_const_zero]

/-- The column of group `g`'s keys (the first 256) and values (the rest). -/
def kv (g : Fin 3) (j : Fin 512) : Fin 8464 :=
  if j.val < 256 then ⟨768 + 256 * g.val + j.val, by omega⟩ else ⟨1536 + 256 * g.val + (j.val - 256), by omega⟩

/-! The stored values. -/
section
variable (v0 : Vec Ideal S256x1024 .f32) (v2 : Vec Ideal S1x1024 .f32)

theorem pay6 (r : Fin 256) (k : Fin 1024) : k0_pay6 v0 v2 (ix2 r k) = rms (fun k => v0 (ix2 r k)) (fun k => v2 (ix2 0 k)) k := by
  unfold k0_pay6 rms
  pointwise

theorem pay7 (w : Vec Ideal S1024x768 .bf16) (r : Fin 256) (j : Fin 768) :
    k0_pay7 v0 v2 w (ix2 r j) = lin (fun k => v0 (ix2 r k)) (fun k => v2 (ix2 0 k)) (fun k => w (ix2 k j)) * num 0x3E000000#32 := by
  have h : k0_pay7 v0 v2 w (ix2 r j) = (∑ k : Fin 1024, k0_pay6 v0 v2 (ix2 r k) * w (ix2 k j)) * num 0x3E000000#32 := by
    unfold k0_pay7
    generalize k0_pay6 v0 v2 = y
    pointwise
  rw [h]
  simp only [pay6, lin]

theorem pay8 (w : Vec Ideal S1024x256 .bf16) (r : Fin 256) (j : Fin 256) :
    k0_pay8 v0 v2 w (ix2 r j) = lin (fun k => v0 (ix2 r k)) (fun k => v2 (ix2 0 k)) (fun k => w (ix2 k j)) := by
  have h : k0_pay8 v0 v2 w (ix2 r j) = ∑ k : Fin 1024, k0_pay6 v0 v2 (ix2 r k) * w (ix2 k j) := by
    unfold k0_pay8
    generalize k0_pay6 v0 v2 = y
    pointwise
  rw [h]
  simp only [pay6, lin]

theorem pay10 (w : Vec Ideal S1024x256 .bf16) (r : Fin 256) (j : Fin 256) :
    k0_pay10 (k0_pay6 v0 v2) w (ix2 r j) = lin (fun k => v0 (ix2 r k)) (fun k => v2 (ix2 0 k)) (fun k => w (ix2 k j)) := pay8 v0 v2 w r j

theorem pay2 (w : Vec Ideal S1024x1024 .bf16) (r : Fin 256) (j : Fin 1024) :
    k0_pay2 (k0_pay6 v0 v2) w (ix2 r j) = lin (fun k => v0 (ix2 r k)) (fun k => v2 (ix2 0 k)) (fun k => w (ix2 k j)) := by
  have h : k0_pay2 (k0_pay6 v0 v2) w (ix2 r j) = ∑ k : Fin 1024, k0_pay6 v0 v2 (ix2 r k) * w (ix2 k j) := by
    unfold k0_pay2
    generalize k0_pay6 v0 v2 = y
    pointwise
  rw [h]
  simp only [pay6, lin]

theorem pay1 (w : Vec Ideal S1024x128 .bf16) (r : Fin 256) (j : Fin 128) :
    k0_pay1 (k0_pay6 v0 v2) w (ix2 r j) = lin (fun k => v0 (ix2 r k)) (fun k => v2 (ix2 0 k)) (fun k => w (ix2 k j)) := by
  have h : k0_pay1 (k0_pay6 v0 v2) w (ix2 r j) = ∑ k : Fin 1024, k0_pay6 v0 v2 (ix2 r k) * w (ix2 k j) := by
    unfold k0_pay1
    generalize k0_pay6 v0 v2 = y
    pointwise
  rw [h]
  simp only [pay6, lin]
end

/-- A piece of an output's lanes `o` to `o + s`: where it holds lane `k` it has the value wanted. -/
theorem tile {n s o : ℕ} (r : Fin 256) (k : Fin n) (w : (⟨2, ![256, s]⟩ : Shape).Idx → EReal) (v : EReal)
    (h : ∀ j : Fin s, k.val = o + j.val → w (ix2 r j) = v) :
    View.TileAt (Val := Elt Ideal) (e := .f32) (S := ⟨2, ![256, n]⟩) (ix2 r k) ![0, o] ![256, s] w v := by
  intro x hx
  have h0 := hx 0
  have h1 := hx 1
  have e : x = ix2 r (x 1) := by
    funext a
    match a with
    | ⟨0, _⟩ =>
      refine Fin.ext ?_
      change r.val = 0 + (x 0).val at h0
      show (x 0).val = r.val
      omega
    | ⟨1, _⟩ => rfl
  rw [e]
  exact h (x 1) h1

/-- Columns of the weights, as loaded. -/
theorem ld_col {n s o : ℕ} (inb : ∀ a, (![0, o] : Fin 2 → ℕ) a + (![1024, s] : Fin 2 → ℕ) a ≤ (⟨2, ![1024, n]⟩ : Shape).size a)
    (X : Vec Ideal ⟨2, ![1024, n]⟩ .bf16) (k : Fin 1024) (j : Fin s) (i : Fin n) (hi : i.val = o + j.val) :
    View.ld X (Rect.unit (s := ⟨2, ![1024, n]⟩) ![0, o] ![1024, s] inb) (ix2 k j) = X (ix2 k i) :=
  View.ld_unit_apply_of _ _ _ _ _ _ (by
    intro a
    match a with
    | ⟨0, _⟩ => show k.val = 0 + k.val; omega
    | ⟨1, _⟩ => exact hi)

variable (x0 : Vec Ideal S256x1024 .f32) (x1 : Vec Ideal S1x1024 .f32) (x2 : Vec Ideal S1024x8464 .bf16) (x3 : Vec Ideal S1024x2048 .bf16)

theorem ld0 : View.ld x0 r0_0 = x0 := View.ld_unit_zero (by funext a; fin_cases a <;> rfl) _ _
theorem ld1 : View.ld x1 r0_1 = x1 := View.ld_unit_zero (by funext a; fin_cases a <;> rfl) _ _

/-- The block's value in row `r` against column `j` of the weights. -/
def at2 (r : Fin 256) (j : Fin 8464) : EReal := lin (fun k => x0 (ix2 r k)) (fun k => x1 (ix2 0 k)) (fun k => x2 (ix2 k j))

/-- The same against column `j` of the gates' weights. -/
def at3 (r : Fin 256) (j : Fin 2048) : EReal := lin (fun k => x0 (ix2 r k)) (fun k => x1 (ix2 0 k)) (fun k => x3 (ix2 k j))

theorem out4 (r : Fin 256) (j : Fin 768) : out0_4 x0 x1 x2 x3 (ix2 r j) = at2 x0 x1 x2 r ⟨j.val, by omega⟩ * num 0x3E000000#32 := by
  unfold out0_4
  refine View.canon_eq_of_allAt _ _ _ (cover0_4 _ _) (View.allAt_cons_unit _ _ _ _ _ (tile r j _ _ fun i hi => ?_) (View.allAt_nil _ _))
  rw [pay7, ld0, ld1]
  refine congrArg (· * _) (congrArg (lin _ _) (funext fun k => ?_))
  exact ld_col _ x2 k i _ hi

theorem out5 (r : Fin 256) (j : Fin 512) : out0_5 x0 x1 x2 x3 (ix2 r j) = at2 x0 x1 x2 r (kv 0 j) := by
  unfold out0_5
  refine View.canon_eq_of_allAt _ _ _ (cover0_5 _ _ _) (View.allAt_cons_unit _ _ _ _ _ (tile r j _ _ fun i hi => ?_)
    (View.allAt_cons_unit _ _ _ _ _ (tile r j _ _ fun i hi => ?_) (View.allAt_nil _ _)))
  · refine (pay8 _ _ _ _ _).trans ?_
    rw [ld0, ld1]
    refine congrArg (lin _ _) (funext fun k => ld_col _ x2 k i _ ?_)
    unfold kv
    split
    · omega
    · show 1536 + 256 * 0 + (j.val - 256) = 1536 + i.val; omega
  · refine (pay8 _ _ _ _ _).trans ?_
    rw [ld0, ld1]
    refine congrArg (lin _ _) (funext fun k => ld_col _ x2 k i _ ?_)
    unfold kv
    split
    · show 768 + 256 * 0 + j.val = 768 + i.val; omega
    · omega

/-- The rows after normalization. -/
theorem pay16 : k0_pay16 x0 x1 x2 x3 = k0_pay6 x0 x1 := by
  unfold k0_pay16
  rw [ld0, ld1]

theorem out6 (r : Fin 256) (j : Fin 512) : out0_6 x0 x1 x2 x3 (ix2 r j) = at2 x0 x1 x2 r (kv 1 j) := by
  unfold out0_6
  rw [pay16]
  refine View.canon_eq_of_allAt _ _ _ (cover0_6 _ _ _) (View.allAt_cons_unit _ _ _ _ _ (tile r j _ _ fun i hi => ?_)
    (View.allAt_cons_unit _ _ _ _ _ (tile r j _ _ fun i hi => ?_) (View.allAt_nil _ _)))
  · refine (pay10 _ _ _ _ _).trans (congrArg (lin _ _) (funext fun k => ld_col _ x2 k i _ ?_))
    unfold kv
    split
    · omega
    · show 1536 + 256 * 1 + (j.val - 256) = 1792 + i.val; omega
  · refine (pay10 _ _ _ _ _).trans (congrArg (lin _ _) (funext fun k => ld_col _ x2 k i _ ?_))
    unfold kv
    split
    · show 768 + 256 * 1 + j.val = 1024 + i.val; omega
    · omega

theorem out7 (r : Fin 256) (j : Fin 512) : out0_7 x0 x1 x2 x3 (ix2 r j) = at2 x0 x1 x2 r (kv 2 j) := by
  unfold out0_7
  rw [pay16]
  refine View.canon_eq_of_allAt _ _ _ (cover0_7 _ _ _) (View.allAt_cons_unit _ _ _ _ _ (tile r j _ _ fun i hi => ?_)
    (View.allAt_cons_unit _ _ _ _ _ (tile r j _ _ fun i hi => ?_) (View.allAt_nil _ _)))
  · refine (pay10 _ _ _ _ _).trans (congrArg (lin _ _) (funext fun k => ld_col _ x2 k i _ ?_))
    unfold kv
    split
    · omega
    · show 1536 + 256 * 2 + (j.val - 256) = 2048 + i.val; omega
  · refine (pay10 _ _ _ _ _).trans (congrArg (lin _ _) (funext fun k => ld_col _ x2 k i _ ?_))
    unfold kv
    split
    · show 768 + 256 * 2 + j.val = 1280 + i.val; omega
    · omega

theorem out8 (r : Fin 256) (j : Fin 3072) : out0_8 x0 x1 x2 x3 (ix2 r j) = at2 x0 x1 x2 r ⟨2304 + j.val, by omega⟩ := by
  unfold out0_8
  rw [pay16]
  refine View.canon_eq_of_allAt _ _ _ (cover0_8 _ _ _ _) (View.allAt_cons_unit _ _ _ _ _ (tile r j _ _ fun i hi => ?_)
    (View.allAt_cons_unit _ _ _ _ _ (tile r j _ _ fun i hi => ?_)
    (View.allAt_cons_unit _ _ _ _ _ (tile r j _ _ fun i hi => ?_) (View.allAt_nil _ _))))
  · refine (pay2 _ _ _ _ _).trans (congrArg (lin _ _) (funext fun k => ld_col _ x2 k i _ ?_))
    show 2304 + j.val = 4352 + i.val
    omega
  · refine (pay2 _ _ _ _ _).trans (congrArg (lin _ _) (funext fun k => ld_col _ x2 k i _ ?_))
    show 2304 + j.val = 3328 + i.val
    omega
  · refine (pay2 _ _ _ _ _).trans (congrArg (lin _ _) (funext fun k => ld_col _ x2 k i _ ?_))
    show 2304 + j.val = 2304 + i.val
    omega

theorem out9 (r : Fin 256) (j : Fin 1024) : out0_9 x0 x1 x2 x3 (ix2 r j) = at2 x0 x1 x2 r ⟨5376 + j.val, by omega⟩ := by
  unfold out0_9
  rw [pay16]
  refine View.canon_eq_of_allAt _ _ _ (cover0_9 _ _) (View.allAt_cons_unit _ _ _ _ _ (tile r j _ _ fun i hi => ?_) (View.allAt_nil _ _))
  refine (pay2 _ _ _ _ _).trans (congrArg (lin _ _) (funext fun k => ld_col _ x2 k i _ ?_))
  show 5376 + j.val = 5376 + i.val
  omega

theorem out10 (r : Fin 256) (j : Fin 128) : out0_10 x0 x1 x2 x3 (ix2 r j) = at2 x0 x1 x2 r ⟨6400 + j.val, by omega⟩ := by
  unfold out0_10
  rw [pay16]
  refine View.canon_eq_of_allAt _ _ _ (cover0_10 _ _) (View.allAt_cons_unit _ _ _ _ _ (tile r j _ _ fun i hi => ?_) (View.allAt_nil _ _))
  refine (pay1 _ _ _ _ _).trans (congrArg (lin _ _) (funext fun k => ld_col _ x2 k i _ ?_))
  show 6400 + j.val = 6400 + i.val
  omega

theorem out11 (r : Fin 256) (j : Fin 1024) : out0_11 x0 x1 x2 x3 (ix2 r j) = at3 x0 x1 x3 r ⟨j.val, by omega⟩ := by
  unfold out0_11
  rw [pay16]
  refine View.canon_eq_of_allAt _ _ _ (cover0_11 _ _) (View.allAt_cons_unit _ _ _ _ _ (tile r j _ _ fun i hi => ?_) (View.allAt_nil _ _))
  exact (pay2 _ _ _ _ _).trans (congrArg (lin _ _) (funext fun k => ld_col _ x3 k i _ hi))

theorem out12 (r : Fin 256) (j : Fin 1024) : out0_12 x0 x1 x2 x3 (ix2 r j) = at3 x0 x1 x3 r ⟨1024 + j.val, by omega⟩ := by
  unfold out0_12
  rw [pay16]
  refine View.canon_eq_of_allAt _ _ _ (cover0_12 _ _) (View.allAt_cons_unit _ _ _ _ _ (tile r j _ _ fun i hi => ?_) (View.allAt_nil _ _))
  refine (pay2 _ _ _ _ _).trans (congrArg (lin _ _) (funext fun k => ld_col _ x3 k i _ ?_))
  show 1024 + j.val = 1024 + i.val
  omega

end Cert.Proof.ProjKer

end
-- ==== Proof.Mem.Ref.lean ====
module

public import proofs.«01_k».proof.Proof.Gen.Reference3Ideal.Read
public import proofs.«01_k».proof.Proof.Proj.Ker

/-! The reference of the memory's keys and values, read at an index. -/

@[expose] public section

set_option maxHeartbeats 4000000

noncomputable section

namespace Cert.Proof.MemRef

open Cert.Reference3Ideal Cert.Reference3Ideal.Gen Cert.Reference3Ideal.Read Idealize.ShloMosaic Idealize.ShloMosaic.TcCoe Cert.Proof.Ker Cert.Proof.ProjKer

variable (x0 : FVec Ideal S8x256x1024 .f32) (x1 : FVec Ideal S1024 .f32) (x2 : FVec Ideal S1024x1024 .f32)

theorem v12 (b : Fin 8) (t : Fin 256) (k : Fin 1024) : val_main_v12 (F := Ideal) x0 x1 (ix3 b t k) = rms (fun k => x0 (ix3 b t k)) (fun k => x1 (ix1 k)) k := by
  unfold val_main_v12 val_main_v11 val_main_v10 val_main_v9 val_main_v8 val_main_v7 val_main_v6 val_main_v5 val_main_v4 val_main_v3 val_main_v2 val_main_v1 val_main_v0 val_main_cst val_main_cst_0 val_main_cst_1 rms
  pointwise

/-- The normalized row of token `t` of sequence `b`, against column `n` of the weight. -/
def val (b : Fin 8) (t : Fin 256) (n : Fin 1024) : EReal := lin (fun k => x0 (ix3 b t k)) (fun k => x1 (ix1 k)) (fun k => x2 (ix2 k n))

theorem v13 (b : Fin 8) (t : Fin 256) (n : Fin 1024) : val_main_v13 (F := Ideal) x0 x1 x2 (ix3 b t n) = val x0 x1 x2 b t n := by
  have h : val_main_v13 (F := Ideal) x0 x1 x2 (ix3 b t n) = ∑ k : Fin 1024, val_main_v12 (F := Ideal) x0 x1 (ix3 b t k) * x2 (ix2 k n) := by
    unfold val_main_v13
    generalize val_main_v12 (F := Ideal) x0 x1 = y
    pointwise
  rw [h]
  simp only [v12, lin, val]

/-- The row of token `t` of sequence `b` that head `h` has among the 8192. -/
def row (b : Fin 8) (t : Fin 256) (h : Fin 4) : Fin 8192 := ⟨1024 * b.val + (4 * t.val + h.val), by omega⟩

/-- Every row is one of them. -/
theorem row_eq (r : Fin 8192) : r = row ⟨r.val / 1024, by omega⟩ ⟨r.val / 4 % 256, by omega⟩ ⟨r.val % 4, by omega⟩ :=
  Fin.ext (by show r.val = 1024 * (r.val / 1024) + (4 * (r.val / 4 % 256) + r.val % 4); omega)

/-- The keys. -/
theorem keys (b : Fin 8) (t : Fin 256) (h : Fin 4) (d : Fin 128) :
    val_main_v16 (F := Ideal) x0 x1 x2 (ix2 (row b t h) d) = val x0 x1 x2 b t ⟨128 * h.val + d.val, by omega⟩ := by
  rw [val_main_v16_apply, val_main_v14_apply, ← v13]
  refine congrArg _ (funext fun a => ?_)
  match a with
  | ⟨0, _⟩ => exact Fin.ext (by show ((1024 * b.val + (4 * t.val + h.val)) * 128 + d.val) / 131072 = b.val; omega)
  | ⟨1, _⟩ => exact Fin.ext (by show ((1024 * b.val + (4 * t.val + h.val)) * 128 + d.val) / 512 % 256 = t.val; omega)
  | ⟨2, _⟩ => exact Fin.ext (by show ((1024 * b.val + (4 * t.val + h.val)) * 128 + d.val) % 512 = 128 * h.val + d.val; omega)

/-- The values. -/
theorem vals (b : Fin 8) (t : Fin 256) (h : Fin 4) (d : Fin 128) :
    val_main_v17 (F := Ideal) x0 x1 x2 (ix2 (row b t h) d) = val x0 x1 x2 b t ⟨512 + (128 * h.val + d.val), by omega⟩ := by
  rw [val_main_v17_apply, val_main_v15_apply, ← v13]
  refine congrArg _ (funext fun a => ?_)
  match a with
  | ⟨0, _⟩ => exact Fin.ext (by show ((1024 * b.val + (4 * t.val + h.val)) * 128 + d.val) / 131072 = b.val; omega)
  | ⟨1, _⟩ => exact Fin.ext (by show ((1024 * b.val + (4 * t.val + h.val)) * 128 + d.val) / 512 % 256 = t.val; omega)
  | ⟨2, _⟩ => exact Fin.ext (by show 512 + ((1024 * b.val + (4 * t.val + h.val)) * 128 + d.val) % 512 = 512 + (128 * h.val + d.val); omega)

end Cert.Proof.MemRef

end
-- ==== Proof.Mem.Arrays.lean ====
module

public import proofs.«01_k».proof.Proof.Mem.Frame
public import proofs.«01_k».proof.Proof.Mem.Ref
public import Idealize.ShloMosaic.Lib.StableHlo.RunRead
public import Idealize.ShloMosaic.Lib.Pointwise

/-! The arrays of keys and values after the launch: each point of the grid has one sequence's 256 tokens. -/

@[expose] public section

set_option maxHeartbeats 4000000

noncomputable section

namespace Cert.Proof.MemArrays

open Cert.Kernel3Ideal Cert.Kernel3Ideal.Gen Cert.Kernel3Ideal.Mem Idealize.ShloMosaic Idealize.ShloMosaic.TcCoe Cert.Proof.Ker Cert.Proof.ProjKer

/-! What a point's blocks hold. -/
section
variable (x0 : Vec Ideal S256x1024 .f32) (x1 : Vec Ideal S1x1024 .f32) (x2 : Vec Ideal S1024x1024 .bf16)

theorem pay4 (r : Fin 256) (k : Fin 1024) : k0_pay4 x0 x1 (ix2 r k) = rms (fun k => x0 (ix2 r k)) (fun k => x1 (ix2 0 k)) k := by
  unfold k0_pay4 rms
  pointwise

theorem pay5 (w : Vec Ideal S1024x512 .bf16) (r : Fin 256) (j : Fin 512) :
    k0_pay5 x0 x1 w (ix2 r j) = lin (fun k => x0 (ix2 r k)) (fun k => x1 (ix2 0 k)) (fun k => w (ix2 k j)) := by
  have h : k0_pay5 x0 x1 w (ix2 r j) = ∑ k : Fin 1024, k0_pay4 x0 x1 (ix2 r k) * w (ix2 k j) := by
    unfold k0_pay5
    generalize k0_pay4 x0 x1 = y
    pointwise
  rw [h]
  simp only [pay4, lin]

/-- The second product is the first, of other columns. -/
theorem pay10 (w : Vec Ideal S1024x512 .bf16) : k0_pay10 x0 x1 w = k0_pay5 x0 x1 w := rfl

theorem rows_eq : rows x0 = x0 := View.ld_unit_zero (by funext a; fin_cases a <;> rfl) _ _
theorem gain_eq : gain x1 = x1 := View.ld_unit_zero (by funext a; fin_cases a <;> rfl) _ _

/-- The row of token `t` that head `h` has in a block. -/
def brow (t : Fin 256) (h : Fin 4) : Fin 1024 := ⟨4 * t.val + h.val, by omega⟩

/-- Head `h`'s columns of a token's row. -/
theorem heads_at (w : FVec Ideal S256x512 .f32) (t : Fin 256) (h : Fin 4) (d : Fin 128) :
    heads w (ix2 (brow t h) d) = w (ix2 t ⟨128 * h.val + d.val, by omega⟩) := by
  unfold heads
  refine congrArg w (funext fun a => ?_)
  match a with
  | ⟨0, _⟩ => exact Fin.ext (by show (4 * t.val + h.val) / 4 = t.val; omega)
  | ⟨1, _⟩ => exact Fin.ext (by show 128 * ((4 * t.val + h.val) % 4) + d.val = 128 * h.val + d.val; omega)

theorem keys_at (t : Fin 256) (h : Fin 4) (d : Fin 128) : keys x0 x1 x2 (ix2 (brow t h) d)
    = lin (fun k => x0 (ix2 t k)) (fun k => x1 (ix2 0 k)) (fun k => x2 (ix2 k ⟨128 * h.val + d.val, by omega⟩)) := by
  unfold keys
  rw [heads_at, pay5, rows_eq, gain_eq]
  exact congrArg (lin _ _) (funext fun k => ld_col _ x2 k _ _ (by show 128 * h.val + d.val = 0 + (128 * h.val + d.val); omega))

theorem vals_at (t : Fin 256) (h : Fin 4) (d : Fin 128) : vals x0 x1 x2 (ix2 (brow t h) d)
    = lin (fun k => x0 (ix2 t k)) (fun k => x1 (ix2 0 k)) (fun k => x2 (ix2 k ⟨512 + (128 * h.val + d.val), by omega⟩)) := by
  unfold vals
  rw [heads_at, pay10, pay5, rows_eq, gain_eq]
  exact congrArg (lin _ _) (funext fun k => ld_col _ x2 k _ _ rfl)
end

variable (m : (ℓ : Loc nD τ sig) → Buf (Elt Ideal) ℓ) (c : Dev nD)

/-- The point of sequence `b`. -/
def pt (b : Fin 8) : Fin cfg0.N := ⟨b.val, lt_of_lt_of_eq b.isLt N_0.symm⟩

/-! Where the blocks lie. -/
theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])
theorem index3 : ∀ t : Fin cfg0.N, win0_3.index t = ![t.val, 0] := (by decide +kernel : ∀ t : Fin grid0.N, win0_3.index t = ![t.val, 0])
theorem index4 : ∀ t : Fin cfg0.N, win0_4.index t = ![t.val, 0] := (by decide +kernel : ∀ t : Fin grid0.N, win0_4.index t = ![t.val, 0])

/-! The arguments. -/
/-- The memory's rows. -/
abbrev A0 : Vec Ideal S8x256x1024 .f32 := m ((c.tc : Thread nD τ).loc main_arg0)
/-- The normalization's gains. -/
abbrev A1 : Vec Ideal S1024 .f32 := m ((c.tc : Thread nD τ).loc main_arg1)
/-- The weight. -/
abbrev A2 : Vec Ideal S1024x1024 .f32 := m ((c.tc : Thread nD τ).loc main_arg2)

/-! What the host computes before the launch. -/
theorem host0 (b : Fin 8) (t : Fin 256) (k : Fin 1024) : (V m c main_v0 : Vec Ideal S2048x1024 .f32) (ix2 ⟨256 * b.val + t.val, by omega⟩ k) = A0 m c (ix3 b t k) := by
  show _ = (m ((c.tc : Thread nD τ).loc main_arg0) : Vec Ideal S8x256x1024 .f32) (ix3 b t k)
  rw [← V_main_arg0 m c]
  unfold V
  after_reads_simp
  pointwise
theorem host1 (k : Fin 1024) (j : Fin 1024) : (V m c main_v1 : Vec Ideal S1024x1024 .bf16) (ix2 k j) = A2 m c (ix2 k j) := by
  show _ = (m ((c.tc : Thread nD τ).loc main_arg2) : Vec Ideal S1024x1024 .f32) (ix2 k j)
  rw [← V_main_arg2 m c]
  unfold V
  after_reads_simp
  rfl
theorem host2 (j : Fin 1024) : (V m c main_v2 : Vec Ideal S1x1024 .f32) (ix2 0 j) = A1 m c (ix1 j) := by
  show _ = (m ((c.tc : Thread nD τ).loc main_arg1) : Vec Ideal S1024 .f32) (ix1 j)
  rw [← V_main_arg1 m c]
  unfold V
  after_reads_simp
  pointwise

/-! The blocks read. -/
theorem in0 (b : Fin 8) (t : Fin 256) (k : Fin 1024) : iblk m c 0 (pt b) (ix2 t k) = A0 m c (ix3 b t k) := by
  refine Eq.trans ?_ (host0 m c b t k)
  blk_simp [iblk]
  refine congrArg _ ?_
  blk_ext [index0, pt]
theorem in1 (b : Fin 8) (l : Fin 1024) : iblk m c 1 (pt b) (ix2 0 l) = A1 m c (ix1 l) := by
  refine Eq.trans ?_ (host2 m c l)
  blk_simp [iblk]
  refine congrArg _ ?_
  blk_ext [index1]
theorem in2 (b : Fin 8) (k : Fin 1024) (l : Fin 1024) : iblk m c 2 (pt b) (ix2 k l) = A2 m c (ix2 k l) := by
  refine Eq.trans ?_ (host1 m c k l)
  blk_simp [iblk]
  refine congrArg _ ?_
  blk_ext [index2]

/-- No two points write the same rows. -/
theorem inj3 (t t' : Fin cfg0.N) (h : win0_3.index t = win0_3.index t') : t = t' := by
  rw [index3, index3] at h
  exact Fin.ext (congrFun h 0)
theorem inj4 (t t' : Fin cfg0.N) (h : win0_4.index t = win0_4.index t') : t = t' := by
  rw [index4, index4] at h
  exact Fin.ext (congrFun h 0)

theorem flushed3 (t : Fin cfg0.N) : (dats m 0 c).flushed 3 t = (cfg0.win 3).cut (grid0.coords t) (keys (iblk m c 0 t) (iblk m c 1 t) (iblk m c 2 t)) := by
  show (cfg0.win 3).cut (grid0.coords t) ((dats m 0 c).after 3 t) = _
  rw [after0_3]
theorem flushed4 (t : Fin cfg0.N) : (dats m 0 c).flushed 4 t = (cfg0.win 4).cut (grid0.coords t) (vals (iblk m c 0 t) (iblk m c 1 t) (iblk m c 2 t)) := by
  show (cfg0.win 4).cut (grid0.coords t) ((dats m 0 c).after 4 t) = _
  rw [after0_4]

theorem arr3 (b : Fin 8) (t : Fin 256) (h : Fin 4) (d : Fin 128) : ((dats m 0 c).arrAt 3 cfg0.N : Vec Ideal S8192x128 .f32) (ix2 (MemRef.row b t h) d)
    = MemRef.val (A0 m c) (A1 m c) (A2 m c) b t ⟨128 * h.val + d.val, by omega⟩ := by
  have e := congrFun ((dats m 0 c).read_blk_arrAt_eq_flushed 3
    (fun t t' _ _ hne => (cfg0.win 3).disjoint_blk fun h => hne (inj3 t t' h)) cfg0.N (pt b) (pt b).isLt (flush0_3 _)) (ix2 (brow t h) d)
  rw [flushed3] at e
  refine Eq.trans ?_ (e.trans ((keys_at _ _ _ t h d).trans ?_))
  · blk_simp
    refine congrArg _ ?_
    blk_ext [index3, pt, MemRef.row, brow]
  · unfold MemRef.val
    exact congr (congr (congrArg lin (funext fun k => in0 m c b t k)) (funext fun k => in1 m c b k)) (funext fun k => in2 m c b k _)

theorem arr4 (b : Fin 8) (t : Fin 256) (h : Fin 4) (d : Fin 128) : ((dats m 0 c).arrAt 4 cfg0.N : Vec Ideal S8192x128 .f32) (ix2 (MemRef.row b t h) d)
    = MemRef.val (A0 m c) (A1 m c) (A2 m c) b t ⟨512 + (128 * h.val + d.val), by omega⟩ := by
  have e := congrFun ((dats m 0 c).read_blk_arrAt_eq_flushed 4
    (fun t t' _ _ hne => (cfg0.win 4).disjoint_blk fun h => hne (inj4 t t' h)) cfg0.N (pt b) (pt b).isLt (flush0_4 _)) (ix2 (brow t h) d)
  rw [flushed4] at e
  refine Eq.trans ?_ (e.trans ((vals_at _ _ _ t h d).trans ?_))
  · blk_simp
    refine congrArg _ ?_
    blk_ext [index4, pt, MemRef.row, brow]
  · unfold MemRef.val
    exact congr (congr (congrArg lin (funext fun k => in0 m c b t k)) (funext fun k => in1 m c b k)) (funext fun k => in2 m c b k _)

/-- The arrays of keys and of values are the reference's. -/
theorem keys_arr : ((dats m 0 c).arrAt 3 cfg0.N : Vec Ideal S8192x128 .f32) = Cert.Reference3Ideal.Read.val_main_v16 (F := Ideal) (A0 m c) (A1 m c) (A2 m c) := by
  funext i
  have e : i = ix2 (i 0) (i 1) := by
    funext k
    match k with
    | ⟨0, _⟩ => rfl
    | ⟨1, _⟩ => rfl
  rw [e, MemRef.row_eq (i 0)]
  exact (arr3 m c _ _ _ _).trans (MemRef.keys _ _ _ _ _ _ _).symm
theorem vals_arr : ((dats m 0 c).arrAt 4 cfg0.N : Vec Ideal S8192x128 .f32) = Cert.Reference3Ideal.Read.val_main_v17 (F := Ideal) (A0 m c) (A1 m c) (A2 m c) := by
  funext i
  have e : i = ix2 (i 0) (i 1) := by
    funext k
    match k with
    | ⟨0, _⟩ => rfl
    | ⟨1, _⟩ => rfl
  rw [e, MemRef.row_eq (i 0)]
  exact (arr4 m c _ _ _ _).trans (MemRef.vals _ _ _ _ _ _ _).symm

end Cert.Proof.MemArrays

end
-- ==== Proof.Mem.Equal.lean ====
module

public import proofs.«01_k».proof.Defs
public import proofs.«01_k».proof.Proof.Gen.Reference3Ideal
public import proofs.«01_k».proof.Proof.Gen.Reference3Ideal.Run
public import proofs.«01_k».proof.Proof.Mem.Arrays
public import Idealize.ShloMosaic.Lib.Quiescent

/-! The launch of the memory's keys and values and its reference end with equal arrays. -/

@[expose] public section

set_option maxHeartbeats 4000000

noncomputable section

namespace Cert.Proof.MemEqual

open Idealize.ShloMosaic Idealize.SL.Sem

/-- The reference uses no semaphore, and writes none of its arguments. -/
theorem reference3_frame : Cert.quiescent_Reference3Ideal := fun m ρ _ =>
  (θ_run _ _ _).mono (fun r h => ⟨fun c => (h c).2.2, sem_eq_zero_of_no_sems (by decide) r.2⟩) (Cert.Reference3Ideal.Value.run (F := Ideal) m ρ)

open Cert.Kernel3Ideal.Gen Cert.Kernel3Ideal.Mem Cert.Reference3Ideal.Read MemArrays in
theorem equal3 : Cert.algebraic_Kernel3Ideal_Reference3Ideal := by
  intro m g m' g' hp ha
  refine ⟨fun c => val_main_v16 (F := Ideal) (A0 m c) (A1 m c) (A2 m c), fun c => val_main_v17 (F := Ideal) (A0 m c) (A1 m c) (A2 m c), ?_, ?_⟩
  · refine (θ_run _ _ _).mono (fun r h c => ?_) (θ_run_and (frame_of m g (dats m) (A_eq m) (run_main m g)) (run_main m g))
    exact ⟨((h.2 c).1 3).trans (keys_arr m c), ((h.2 c).1 4).trans (vals_arr m c), h.1 c⟩
  · refine (θ_run _ _ _).mono (fun r h c => ?_) (Cert.Reference3Ideal.Value.run (F := Ideal) m' g')
    obtain ⟨h0, h1, hk⟩ := h c
    obtain ⟨e0, e1, e2⟩ := ha c
    have f0 := h0.trans (val_main_v16_eq _ _ _)
    have f1 := h1.trans (val_main_v17_eq _ _ _)
    rw [e0, e1, e2] at f0 f1
    exact ⟨f0, f1, hk⟩

end Cert.Proof.MemEqual

end
-- ==== Proof.Proj.Ref.lean ====
module

public import proofs.«01_k».proof.Proof.Gen.Reference4Ideal.Read
public import proofs.«01_k».proof.Proof.Proj.Ker

/-! The projection's reference, read at an index. -/

@[expose] public section

set_option maxHeartbeats 4000000

noncomputable section

namespace Cert.Proof.ProjRef

open Cert.Reference4Ideal Cert.Reference4Ideal.Gen Cert.Reference4Ideal.Read Idealize.ShloMosaic Idealize.ShloMosaic.TcCoe Cert.Proof.Ker Cert.Proof.ProjKer

variable (x0 : FVec Ideal S32x4x1024 .f32) (x1 : FVec Ideal S1024 .f32) (x2 : FVec Ideal S1024x8464 .f32)

theorem v12 (b : Fin 32) (t : Fin 4) (k : Fin 1024) : val_main_v12 (F := Ideal) x0 x1 (ix3 b t k) = rms (fun k => x0 (ix3 b t k)) (fun k => x1 (ix1 k)) k := by
  unfold val_main_v12 val_main_v11 val_main_v10 val_main_v9 val_main_v8 val_main_v7 val_main_v6 val_main_v5 val_main_v4 val_main_v3 val_main_v2 val_main_v1 val_main_v0 val_main_cst val_main_cst_0 val_main_cst_1 rms
  pointwise

theorem v13 (b : Fin 32) (t : Fin 4) (n : Fin 8464) : val_main_v13 (F := Ideal) x0 x1 x2 (ix3 b t n) = lin (fun k => x0 (ix3 b t k)) (fun k => x1 (ix1 k)) (fun k => x2 (ix2 k n)) := by
  have h : val_main_v13 (F := Ideal) x0 x1 x2 (ix3 b t n) = ∑ k : Fin 1024, val_main_v12 (F := Ideal) x0 x1 (ix3 b t k) * x2 (ix2 k n) := by
    unfold val_main_v13
    generalize val_main_v12 (F := Ideal) x0 x1 = y
    pointwise
  rw [h]
  simp only [v12, lin]

/-- The integer nought read as a number. -/
theorem zero_word : (FloatOps.sitofp (F := Ideal) FTy.f32 0#32) = (0 : EReal) := by
  show (((0#32 : BitVec 32).toInt : ℝ) : EReal) = 0
  simp

/-- Row `r` of the 256, four of each sequence's eight being padding. -/
def row (r : Fin 256) (k : Fin 1024) : EReal := if h : r.val % 8 < 4 then x0 (ix3 ⟨r.val / 8, by omega⟩ ⟨r.val % 8, h⟩ k) else 0

/-- Row `r`'s product with column `n`. -/
def val (r : Fin 256) (n : Fin 8464) : EReal := lin (row x0 r) (fun k => x1 (ix1 k)) (fun k => x2 (ix2 k n))

theorem v15 (r : Fin 256) (n : Fin 8464) : val_main_v15 (F := Ideal) x0 x1 x2 (ix2 r n) = val x0 x1 x2 r n := by
  have h : val_main_v15 (F := Ideal) x0 x1 x2 (ix2 r n)
      = if h : r.val % 8 < 4 then val_main_v13 (F := Ideal) x0 x1 x2 (ix3 ⟨r.val / 8, by omega⟩ ⟨r.val % 8, h⟩ n) else 0 := by
    unfold val_main_v15 val_main_v14 val_main_call0_v0 val_main_c
    generalize val_main_v13 (F := Ideal) x0 x1 x2 = y
    pointwise
    by_cases hr : r.val % 8 < 4
    · rw [dif_pos hr, dif_pos ⟨by omega, hr⟩]
    · rw [dif_neg hr, dif_neg fun h => hr h.2]
      exact zero_word
  rw [h]
  unfold val row
  by_cases hr : r.val % 8 < 4
  · simp only [dif_pos hr]; exact v13 x0 x1 x2 _ _ _
  · simp only [dif_neg hr]; exact (lin_zero _ _).symm

theorem q (r : Fin 256) (j : Fin 768) : val_main_v27 (F := Ideal) x0 x1 x2 (ix2 r j) = val x0 x1 x2 r ⟨j.val, by omega⟩ * num 0x3E000000#32 := by
  rw [← v15]
  unfold val_main_v27 val_main_v26 val_main_v25 val_main_cst_2
  generalize val_main_v15 (F := Ideal) x0 x1 x2 = y
  pointwise

theorem kv0 (r : Fin 256) (j : Fin 512) : val_main_v18 (F := Ideal) x0 x1 x2 (ix2 r j) = val x0 x1 x2 r (kv 0 j) := by
  rw [← v15]
  unfold val_main_v18 val_main_v17 val_main_v16 kv
  generalize val_main_v15 (F := Ideal) x0 x1 x2 = y
  pointwise
  split <;> rfl
theorem kv1 (r : Fin 256) (j : Fin 512) : val_main_v21 (F := Ideal) x0 x1 x2 (ix2 r j) = val x0 x1 x2 r (kv 1 j) := by
  rw [← v15]
  unfold val_main_v21 val_main_v20 val_main_v19 kv
  generalize val_main_v15 (F := Ideal) x0 x1 x2 = y
  pointwise
  split <;> rfl
theorem kv2 (r : Fin 256) (j : Fin 512) : val_main_v24 (F := Ideal) x0 x1 x2 (ix2 r j) = val x0 x1 x2 r (kv 2 j) := by
  rw [← v15]
  unfold val_main_v24 val_main_v23 val_main_v22 kv
  generalize val_main_v15 (F := Ideal) x0 x1 x2 = y
  pointwise
  split <;> rfl
theorem gq (r : Fin 256) (j : Fin 3072) : val_main_v28 (F := Ideal) x0 x1 x2 (ix2 r j) = val x0 x1 x2 r ⟨2304 + j.val, by omega⟩ := by
  rw [← v15]
  unfold val_main_v28
  generalize val_main_v15 (F := Ideal) x0 x1 x2 = y
  pointwise
theorem z (r : Fin 256) (j : Fin 1024) : val_main_v29 (F := Ideal) x0 x1 x2 (ix2 r j) = val x0 x1 x2 r ⟨5376 + j.val, by omega⟩ := by
  rw [← v15]
  unfold val_main_v29
  generalize val_main_v15 (F := Ideal) x0 x1 x2 = y
  pointwise
theorem ba (r : Fin 256) (j : Fin 128) : val_main_v30 (F := Ideal) x0 x1 x2 (ix2 r j) = val x0 x1 x2 r ⟨6400 + j.val, by omega⟩ := by
  rw [← v15]
  unfold val_main_v30
  generalize val_main_v15 (F := Ideal) x0 x1 x2 = y
  pointwise
theorem ga (r : Fin 256) (j : Fin 1024) : val_main_v31 (F := Ideal) x0 x1 x2 (ix2 r j) = val x0 x1 x2 r ⟨6416 + j.val, by omega⟩ := by
  rw [← v15]
  unfold val_main_v31
  generalize val_main_v15 (F := Ideal) x0 x1 x2 = y
  pointwise
theorem gb (r : Fin 256) (j : Fin 1024) : val_main_v32 (F := Ideal) x0 x1 x2 (ix2 r j) = val x0 x1 x2 r ⟨7440 + j.val, by omega⟩ := by
  rw [← v15]
  unfold val_main_v32
  generalize val_main_v15 (F := Ideal) x0 x1 x2 = y
  pointwise

end Cert.Proof.ProjRef

end
-- ==== Proof.Proj.Arrays.lean ====
module

public import proofs.«01_k».proof.Proof.Gen.Kernel4Ideal.Value
public import proofs.«01_k».proof.Proof.Proj.Ref
public import Idealize.ShloMosaic.Lib.StableHlo.RunRead

/-! The projection's launch has one point, whose blocks are whole arrays: each output array holds the products of the
    normalized rows with its columns of the weights. -/

@[expose] public section

set_option maxHeartbeats 4000000

noncomputable section

namespace Cert.Proof.ProjArrays

open Cert.Kernel4Ideal Cert.Kernel4Ideal.Gen Cert.Kernel4Ideal.Value Idealize.ShloMosaic Idealize.ShloMosaic.TcCoe Cert.Proof.ProjKer

variable (m : (ℓ : Loc nD τ sig) → Buf (Elt Ideal) ℓ) (c : Dev nD)

/-- The launch's point. -/
def pt : Fin cfg0.N := ⟨0, lt_of_lt_of_eq (by omega) N_0.symm⟩

/-! Where the blocks lie. -/
theorem index0 : ∀ t : Fin cfg0.N, win0_0.index t = ![0, 0] := (by decide +kernel : ∀ t : Fin grid0.N, win0_0.index t = ![0, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index8 : ∀ t : Fin cfg0.N, win0_8.index t = ![0, 0] := (by decide +kernel : ∀ t : Fin grid0.N, win0_8.index t = ![0, 0])
theorem index9 : ∀ t : Fin cfg0.N, win0_9.index t = ![0, 0] := (by decide +kernel : ∀ t : Fin grid0.N, win0_9.index t = ![0, 0])
theorem index10 : ∀ t : Fin cfg0.N, win0_10.index t = ![0, 0] := (by decide +kernel : ∀ t : Fin grid0.N, win0_10.index t = ![0, 0])
theorem index11 : ∀ t : Fin cfg0.N, win0_11.index t = ![0, 0] := (by decide +kernel : ∀ t : Fin grid0.N, win0_11.index t = ![0, 0])
theorem index12 : ∀ t : Fin cfg0.N, win0_12.index t = ![0, 0] := (by decide +kernel : ∀ t : Fin grid0.N, win0_12.index t = ![0, 0])

/-! The arguments. -/
/-- The step's rows. -/
abbrev A0 : Vec Ideal S32x4x1024 .f32 := m ((c.tc : Thread nD τ).loc main_arg0)
/-- The normalization's gains. -/
abbrev A1 : Vec Ideal S1024 .f32 := m ((c.tc : Thread nD τ).loc main_arg1)
/-- The weights. -/
abbrev A2 : Vec Ideal S1024x8464 .f32 := m ((c.tc : Thread nD τ).loc main_arg2)

/-! What the host computes before the launch. -/
theorem host1 (r : Fin 256) (k : Fin 1024) : (V m c main_v1 : Vec Ideal S256x1024 .f32) (ix2 r k) = ProjRef.row (A0 m c) r k := by
  show _ = ProjRef.row (m ((c.tc : Thread nD τ).loc main_arg0)) r k
  rw [← V_main_arg0 m c]
  unfold V
  after_reads_simp
  simp -implicitDefEqProofs only [StableHlo.TRef.toBuf, StableHlo.TRef.ofBuf, cast_cast, cast_eq]
  unfold ProjRef.row
  pointwise
  by_cases hr : r.val % 8 < 4
  · rw [dif_pos hr, dif_pos ⟨by omega, hr⟩]
  · rw [dif_neg hr, dif_neg fun h => hr h.2]
    exact ProjRef.zero_word
theorem host2 (k : Fin 1024) (j : Fin 8464) : (V m c main_v2 : Vec Ideal S1024x8464 .bf16) (ix2 k j) = A2 m c (ix2 k j) := by
  show _ = (m ((c.tc : Thread nD τ).loc main_arg2) : Vec Ideal S1024x8464 .f32) (ix2 k j)
  rw [← V_main_arg2 m c]
  unfold V
  after_reads_simp
  rfl
theorem host3 (k : Fin 1024) (j : Fin 2048) : (V m c main_v3 : Vec Ideal S1024x2048 .bf16) (ix2 k j) = A2 m c (ix2 k ⟨6416 + j.val, by omega⟩) := by
  show _ = (m ((c.tc : Thread nD τ).loc main_arg2) : Vec Ideal S1024x8464 .f32) (ix2 k ⟨6416 + j.val, by omega⟩)
  rw [← V_main_arg2 m c]
  unfold V
  after_reads_simp
  pointwise
theorem host4 (j : Fin 1024) : (V m c main_v4 : Vec Ideal S1x1024 .f32) (ix2 0 j) = A1 m c (ix1 j) := by
  show _ = (m ((c.tc : Thread nD τ).loc main_arg1) : Vec Ideal S1024 .f32) (ix1 j)
  rw [← V_main_arg1 m c]
  unfold V
  after_reads_simp
  pointwise

/-! The blocks read. -/
theorem in0 (k : Fin 256) (l : Fin 1024) : iblk m c 0 pt (ix2 k l) = ProjRef.row (A0 m c) k l := by
  refine Eq.trans ?_ (host1 m c k l)
  blk_simp [iblk]
  refine congrArg _ ?_
  blk_ext [index0]
theorem in1 (l : Fin 1024) : iblk m c 1 pt (ix2 0 l) = A1 m c (ix1 l) := by
  refine Eq.trans ?_ (host4 m c l)
  blk_simp [iblk]
  refine congrArg _ ?_
  blk_ext [index1]
theorem in2 (k : Fin 1024) (l : Fin 8464) : iblk m c 2 pt (ix2 k l) = A2 m c (ix2 k l) := by
  refine Eq.trans ?_ (host2 m c k l)
  blk_simp [iblk]
  refine congrArg _ ?_
  blk_ext [index2]
theorem in3 (k : Fin 1024) (l : Fin 2048) : iblk m c 3 pt (ix2 k l) = A2 m c (ix2 k ⟨6416 + l.val, by omega⟩) := by
  refine Eq.trans ?_ (host3 m c k l)
  blk_simp [iblk]
  refine congrArg _ ?_
  blk_ext [index3]

/-- A row's product with a column of the weights is the reference's. -/
theorem at2_eq (r : Fin 256) (j : Fin 8464) : at2 (iblk m c 0 pt) (iblk m c 1 pt) (iblk m c 2 pt) r j = ProjRef.val (A0 m c) (A1 m c) (A2 m c) r j := by
  unfold at2 ProjRef.val
  exact congr (congr (congrArg lin (funext fun k => in0 m c r k)) (funext fun k => in1 m c k)) (funext fun k => in2 m c k j)

theorem at3_eq (r : Fin 256) (j : Fin 2048) : at3 (iblk m c 0 pt) (iblk m c 1 pt) (iblk m c 3 pt) r j = ProjRef.val (A0 m c) (A1 m c) (A2 m c) r ⟨6416 + j.val, by omega⟩ := by
  unfold at3 ProjRef.val
  exact congr (congr (congrArg lin (funext fun k => in0 m c r k)) (funext fun k => in1 m c k)) (funext fun k => in3 m c k j)

/-! Every point writes its block back. -/
theorem flush4 : ∀ t : Fin cfg0.N, (cfg0.win 4).flush t = true := (by decide +kernel : ∀ t : Fin grid0.N, (cfg0.win 4).flush t = true)
theorem flush5 : ∀ t : Fin cfg0.N, (cfg0.win 5).flush t = true := (by decide +kernel : ∀ t : Fin grid0.N, (cfg0.win 5).flush t = true)
theorem flush6 : ∀ t : Fin cfg0.N, (cfg0.win 6).flush t = true := (by decide +kernel : ∀ t : Fin grid0.N, (cfg0.win 6).flush t = true)
theorem flush7 : ∀ t : Fin cfg0.N, (cfg0.win 7).flush t = true := (by decide +kernel : ∀ t : Fin grid0.N, (cfg0.win 7).flush t = true)
theorem flush8 : ∀ t : Fin cfg0.N, (cfg0.win 8).flush t = true := (by decide +kernel : ∀ t : Fin grid0.N, (cfg0.win 8).flush t = true)
theorem flush9 : ∀ t : Fin cfg0.N, (cfg0.win 9).flush t = true := (by decide +kernel : ∀ t : Fin grid0.N, (cfg0.win 9).flush t = true)
theorem flush10 : ∀ t : Fin cfg0.N, (cfg0.win 10).flush t = true := (by decide +kernel : ∀ t : Fin grid0.N, (cfg0.win 10).flush t = true)
theorem flush11 : ∀ t : Fin cfg0.N, (cfg0.win 11).flush t = true := (by decide +kernel : ∀ t : Fin grid0.N, (cfg0.win 11).flush t = true)
theorem flush12 : ∀ t : Fin cfg0.N, (cfg0.win 12).flush t = true := (by decide +kernel : ∀ t : Fin grid0.N, (cfg0.win 12).flush t = true)

/-! The arrays written. -/
theorem arr4 (r : Fin 256) (j : Fin 768) : ((dats m 0 c).arrAt 4 cfg0.N : Vec Ideal S256x768 .f32) (ix2 r j)
    = Cert.Reference4Ideal.Read.val_main_v27 (F := Ideal) (A0 m c) (A1 m c) (A2 m c) (ix2 r j) := by
  have h := congrFun (blocks4 m c pt (flush4 _)) (ix2 r j)
  rw [flushed4] at h
  refine Eq.trans ?_ (h.trans ?_)
  · blk_simp
    refine congrArg _ ?_
    blk_ext [index4]
  · refine Eq.trans ?_ ((out4 (iblk m c 0 pt) (iblk m c 1 pt) (iblk m c 2 pt) (iblk m c 3 pt) r j).trans (
      (congrArg (· * _) (at2_eq m c r _)).trans ?_))
    · rfl
    · exact (ProjRef.q (A0 m c) (A1 m c) (A2 m c) r j).symm

theorem arr5 (r : Fin 256) (j : Fin 512) : ((dats m 0 c).arrAt 5 cfg0.N : Vec Ideal S256x512 .f32) (ix2 r j)
    = Cert.Reference4Ideal.Read.val_main_v18 (F := Ideal) (A0 m c) (A1 m c) (A2 m c) (ix2 r j) := by
  have h := congrFun (blocks5 m c pt (flush5 _)) (ix2 r j)
  rw [flushed5] at h
  refine Eq.trans ?_ (h.trans ?_)
  · blk_simp
    refine congrArg _ ?_
    blk_ext [index5]
  · refine Eq.trans ?_ ((out5 (iblk m c 0 pt) (iblk m c 1 pt) (iblk m c 2 pt) (iblk m c 3 pt) r j).trans (
      (at2_eq m c r _).trans ?_))
    · rfl
    · exact (ProjRef.kv0 (A0 m c) (A1 m c) (A2 m c) r j).symm

theorem arr6 (r : Fin 256) (j : Fin 512) : ((dats m 0 c).arrAt 6 cfg0.N : Vec Ideal S256x512 .f32) (ix2 r j)
    = Cert.Reference4Ideal.Read.val_main_v21 (F := Ideal) (A0 m c) (A1 m c) (A2 m c) (ix2 r j) := by
  have h := congrFun (blocks6 m c pt (flush6 _)) (ix2 r j)
  rw [flushed6] at h
  refine Eq.trans ?_ (h.trans ?_)
  · blk_simp
    refine congrArg _ ?_
    blk_ext [index6]
  · refine Eq.trans ?_ ((out6 (iblk m c 0 pt) (iblk m c 1 pt) (iblk m c 2 pt) (iblk m c 3 pt) r j).trans (
      (at2_eq m c r _).trans ?_))
    · rfl
    · exact (ProjRef.kv1 (A0 m c) (A1 m c) (A2 m c) r j).symm

theorem arr7 (r : Fin 256) (j : Fin 512) : ((dats m 0 c).arrAt 7 cfg0.N : Vec Ideal S256x512 .f32) (ix2 r j)
    = Cert.Reference4Ideal.Read.val_main_v24 (F := Ideal) (A0 m c) (A1 m c) (A2 m c) (ix2 r j) := by
  have h := congrFun (blocks7 m c pt (flush7 _)) (ix2 r j)
  rw [flushed7] at h
  refine Eq.trans ?_ (h.trans ?_)
  · blk_simp
    refine congrArg _ ?_
    blk_ext [index7]
  · refine Eq.trans ?_ ((out7 (iblk m c 0 pt) (iblk m c 1 pt) (iblk m c 2 pt) (iblk m c 3 pt) r j).trans (
      (at2_eq m c r _).trans ?_))
    · rfl
    · exact (ProjRef.kv2 (A0 m c) (A1 m c) (A2 m c) r j).symm

theorem arr8 (r : Fin 256) (j : Fin 3072) : ((dats m 0 c).arrAt 8 cfg0.N : Vec Ideal S256x3072 .f32) (ix2 r j)
    = Cert.Reference4Ideal.Read.val_main_v28 (F := Ideal) (A0 m c) (A1 m c) (A2 m c) (ix2 r j) := by
  have h := congrFun (blocks8 m c pt (flush8 _)) (ix2 r j)
  rw [flushed8] at h
  refine Eq.trans ?_ (h.trans ?_)
  · blk_simp
    refine congrArg _ ?_
    blk_ext [index8]
  · refine Eq.trans ?_ ((out8 (iblk m c 0 pt) (iblk m c 1 pt) (iblk m c 2 pt) (iblk m c 3 pt) r j).trans (
      (at2_eq m c r _).trans ?_))
    · rfl
    · exact (ProjRef.gq (A0 m c) (A1 m c) (A2 m c) r j).symm

theorem arr9 (r : Fin 256) (j : Fin 1024) : ((dats m 0 c).arrAt 9 cfg0.N : Vec Ideal S256x1024 .f32) (ix2 r j)
    = Cert.Reference4Ideal.Read.val_main_v29 (F := Ideal) (A0 m c) (A1 m c) (A2 m c) (ix2 r j) := by
  have h := congrFun (blocks9 m c pt (flush9 _)) (ix2 r j)
  rw [flushed9] at h
  refine Eq.trans ?_ (h.trans ?_)
  · blk_simp
    refine congrArg _ ?_
    blk_ext [index9]
  · refine Eq.trans ?_ ((out9 (iblk m c 0 pt) (iblk m c 1 pt) (iblk m c 2 pt) (iblk m c 3 pt) r j).trans (
      (at2_eq m c r _).trans ?_))
    · rfl
    · exact (ProjRef.z (A0 m c) (A1 m c) (A2 m c) r j).symm

theorem arr10 (r : Fin 256) (j : Fin 128) : ((dats m 0 c).arrAt 10 cfg0.N : Vec Ideal S256x128 .f32) (ix2 r j)
    = Cert.Reference4Ideal.Read.val_main_v30 (F := Ideal) (A0 m c) (A1 m c) (A2 m c) (ix2 r j) := by
  have h := congrFun (blocks10 m c pt (flush10 _)) (ix2 r j)
  rw [flushed10] at h
  refine Eq.trans ?_ (h.trans ?_)
  · blk_simp
    refine congrArg _ ?_
    blk_ext [index10]
  · refine Eq.trans ?_ ((out10 (iblk m c 0 pt) (iblk m c 1 pt) (iblk m c 2 pt) (iblk m c 3 pt) r j).trans (
      (at2_eq m c r _).trans ?_))
    · rfl
    · exact (ProjRef.ba (A0 m c) (A1 m c) (A2 m c) r j).symm

theorem arr11 (r : Fin 256) (j : Fin 1024) : ((dats m 0 c).arrAt 11 cfg0.N : Vec Ideal S256x1024 .f32) (ix2 r j)
    = Cert.Reference4Ideal.Read.val_main_v31 (F := Ideal) (A0 m c) (A1 m c) (A2 m c) (ix2 r j) := by
  have h := congrFun (blocks11 m c pt (flush11 _)) (ix2 r j)
  rw [flushed11] at h
  refine Eq.trans ?_ (h.trans ?_)
  · blk_simp
    refine congrArg _ ?_
    blk_ext [index11]
  · refine Eq.trans ?_ ((out11 (iblk m c 0 pt) (iblk m c 1 pt) (iblk m c 2 pt) (iblk m c 3 pt) r j).trans (
      (at3_eq m c r _).trans ?_))
    · rfl
    · exact (ProjRef.ga (A0 m c) (A1 m c) (A2 m c) r j).symm

theorem arr12 (r : Fin 256) (j : Fin 1024) : ((dats m 0 c).arrAt 12 cfg0.N : Vec Ideal S256x1024 .f32) (ix2 r j)
    = Cert.Reference4Ideal.Read.val_main_v32 (F := Ideal) (A0 m c) (A1 m c) (A2 m c) (ix2 r j) := by
  have h := congrFun (blocks12 m c pt (flush12 _)) (ix2 r j)
  rw [flushed12] at h
  refine Eq.trans ?_ (h.trans ?_)
  · blk_simp
    refine congrArg _ ?_
    blk_ext [index12]
  · refine Eq.trans ?_ ((out12 (iblk m c 0 pt) (iblk m c 1 pt) (iblk m c 2 pt) (iblk m c 3 pt) r j).trans (
      (at3_eq m c r _).trans ?_))
    · rfl
    · rw [ProjRef.gb]
      exact congrArg (ProjRef.val _ _ _ r) (Fin.ext (by show 6416 + (1024 + j.val) = 7440 + j.val; omega))

end Cert.Proof.ProjArrays

end
-- ==== Proof.Proj.Equal.lean ====
module

public import proofs.«01_k».proof.Defs
public import proofs.«01_k».proof.Proof.Gen.Reference4Ideal
public import proofs.«01_k».proof.Proof.Gen.Reference4Ideal.Run
public import proofs.«01_k».proof.Proof.Proj.Arrays
public import Idealize.ShloMosaic.Lib.Quiescent

/-! The launch of the sample step's projection and its reference end with equal arrays. -/

@[expose] public section

set_option maxHeartbeats 4000000

noncomputable section

namespace Cert.Proof.ProjEqual

open Idealize.ShloMosaic Idealize.SL.Sem

/-- The reference uses no semaphore, and writes none of its arguments. -/
theorem reference4_frame : Cert.quiescent_Reference4Ideal := fun m ρ _ =>
  (θ_run _ _ _).mono (fun r h => ⟨fun c => (h c).2.2.2.2.2.2.2.2.2, sem_eq_zero_of_no_sems (by decide) r.2⟩) (Cert.Reference4Ideal.Value.run (F := Ideal) m ρ)

/-- Two arrays of two axes are equal where their elements are. -/
theorem ext2 {a b : ℕ} {α : Type} {x y : (⟨2, ![a, b]⟩ : Shape).Idx → α} (h : ∀ i j, x (ix2 i j) = y (ix2 i j)) : x = y := by
  funext i
  have e : i = ix2 (i 0) (i 1) := by
    funext k
    match k with
    | ⟨0, _⟩ => rfl
    | ⟨1, _⟩ => rfl
  rw [e]
  exact h _ _

open Cert.Kernel4Ideal.Gen Cert.Reference4Ideal.Read ProjArrays in
theorem equal4 : Cert.algebraic_Kernel4Ideal_Reference4Ideal := by
  intro m g m' g' hp ha
  refine ⟨fun c => val_main_v27 (F := Ideal) (A0 m c) (A1 m c) (A2 m c), fun c => val_main_v18 (F := Ideal) (A0 m c) (A1 m c) (A2 m c),
    fun c => val_main_v21 (F := Ideal) (A0 m c) (A1 m c) (A2 m c), fun c => val_main_v24 (F := Ideal) (A0 m c) (A1 m c) (A2 m c),
    fun c => val_main_v28 (F := Ideal) (A0 m c) (A1 m c) (A2 m c), fun c => val_main_v29 (F := Ideal) (A0 m c) (A1 m c) (A2 m c),
    fun c => val_main_v30 (F := Ideal) (A0 m c) (A1 m c) (A2 m c), fun c => val_main_v31 (F := Ideal) (A0 m c) (A1 m c) (A2 m c),
    fun c => val_main_v32 (F := Ideal) (A0 m c) (A1 m c) (A2 m c), ?_, ?_⟩
  · refine (θ_run _ _ _).mono (fun r h c => ?_) (Cert.Kernel4Ideal.Value.run_blocks (F := Ideal) m g)
    obtain ⟨h0, h1, h2, h3, h4, h5, h6, h7, h8, hk⟩ := h c
    exact ⟨h0.trans (ext2 (arr4 m c)), h1.trans (ext2 (arr5 m c)), h2.trans (ext2 (arr6 m c)), h3.trans (ext2 (arr7 m c)),
      h4.trans (ext2 (arr8 m c)), h5.trans (ext2 (arr9 m c)), h6.trans (ext2 (arr10 m c)), h7.trans (ext2 (arr11 m c)), h8.trans (ext2 (arr12 m c)), hk⟩
  · refine (θ_run _ _ _).mono (fun r h c => ?_) (Cert.Reference4Ideal.Value.run (F := Ideal) m' g')
    obtain ⟨h0, h1, h2, h3, h4, h5, h6, h7, h8, hk⟩ := h c
    obtain ⟨e0, e1, e2⟩ := ha c
    have f0 := h0.trans (val_main_v27_eq _ _ _)
    have f1 := h1.trans (val_main_v18_eq _ _ _)
    have f2 := h2.trans (val_main_v21_eq _ _ _)
    have f3 := h3.trans (val_main_v24_eq _ _ _)
    have f4 := h4.trans (val_main_v28_eq _ _ _)
    have f5 := h5.trans (val_main_v29_eq _ _ _)
    have f6 := h6.trans (val_main_v30_eq _ _ _)
    have f7 := h7.trans (val_main_v31_eq _ _ _)
    have f8 := h8.trans (val_main_v32_eq _ _ _)
    rw [e0, e1, e2] at f0 f1 f2 f3 f4 f5 f6 f7 f8
    exact ⟨f0, f1, f2, f3, f4, f5, f6, f7, f8, hk⟩

end Cert.Proof.ProjEqual

end
-- ==== Proof.Ffn.Ker.lean ====
module

public import proofs.«01_k».proof.Proof.Gen.Kernel5Ideal.Skeleton
public import proofs.«01_k».proof.Proof.Proj.Ker

/-! The values the step's feed-forward body computes, over the extended reals, each read at an index. -/

@[expose] public section

set_option maxHeartbeats 4000000

noncomputable section

namespace Cert.Proof.FfnKer

open Cert.Kernel5Ideal Cert.Kernel5Ideal.Gen Idealize.ShloMosaic Idealize.ShloMosaic.TcCoe Cert.Proof.Ker Cert.Proof.ProjKer

theorem pay2 (v : Vec Ideal S1x2x2816 .f32) (i : Fin 2) (j : Fin 2816) : k0_pay2 v (ix2 i j) = v (ix3 0 i j) := by
  unfold k0_pay2
  pointwise

theorem pay3 (v0 : Vec Ideal S1x256x1024 .f32) (v2 : Vec Ideal S1x256x512 .f32) (v7 : Vec Ideal S512x1024 .bf16) (r : Fin 256) (j : Fin 1024) :
    k0_pay3 v0 v2 v7 (ix2 r j) = v0 (ix3 0 r j) + ∑ k : Fin 512, v2 (ix3 0 r k) * v7 (ix2 k j) := by
  unfold k0_pay3
  pointwise

theorem pay4 (v0 : Vec Ideal S1x256x1024 .f32) (v2 : Vec Ideal S1x256x512 .f32) (v7 : Vec Ideal S512x1024 .bf16) (v12 : Vec Ideal S1x1024 .f32) (r : Fin 256) (j : Fin 1024) :
    k0_pay4 v0 v2 v7 v12 (ix2 r j) = rms (fun k => k0_pay3 v0 v2 v7 (ix2 r k)) (fun k => v12 (ix2 0 k)) j := by
  unfold k0_pay4 rms
  generalize k0_pay3 v0 v2 v7 = y
  pointwise

theorem pay5 (v0 : Vec Ideal S1x256x1024 .f32) (v2 : Vec Ideal S1x256x512 .f32) (v7 : Vec Ideal S512x1024 .bf16) (v12 : Vec Ideal S1x1024 .f32) (v27 : Vec Ideal S1024x2816 .bf16)
    (r : Fin 256) (j : Fin 2816) :
    k0_pay5 v0 v2 v7 v12 v27 (ix2 r j) = lin (fun k => k0_pay3 v0 v2 v7 (ix2 r k)) (fun k => v12 (ix2 0 k)) (fun k => v27 (ix2 k j)) := by
  have h : k0_pay5 v0 v2 v7 v12 v27 (ix2 r j) = ∑ k : Fin 1024, k0_pay4 v0 v2 v7 v12 (ix2 r k) * v27 (ix2 k j) := by
    unfold k0_pay5
    generalize k0_pay4 v0 v2 v7 v12 = y
    pointwise
  rw [h]
  simp only [pay4, lin]

/-- The row's remainder by eight, as the body computes it. -/
def rem8 (r : Fin 256) : BitVec 32 := IntOp.remsi ArithUnit.vector (BitVec.ofNat 32 r.val) 8#32

/-- Whether the row's remainder by eight is at least six, as the body decides it. -/
def last2 (r : Fin 256) : BitVec 1 :=
  IntOp.cmpi .sge (Scalar.select (IntOp.andi (IntOp.xori (IntOp.cmpi .slt (rem8 r) 0#32) (Scalar.cmpi .slt 8#32 0#32)) (IntOp.cmpi .ne (rem8 r) 0#32))
    (IntOp.addi (rem8 r) 8#32) (rem8 r)) 6#32

theorem last2_eq : ∀ r : Fin 256, last2 r = if 6 ≤ r.val % 8 then 1#1 else 0#1 := by decide +kernel

/-- Of a sequence's eight rows the last two hold the rows carried to the next sequence. -/
theorem pay7 (v29 : FVec Ideal S256x2816 .f32) (v49 : Vec Ideal S1x256x2816 .f32) (r : Fin 256) (j : Fin 2816) :
    k0_pay7 v29 8#32 k0_pay6 v49 (ix2 r j) = if 6 ≤ r.val % 8 then v49 (ix3 0 r j) else v29 (ix2 r j) := by
  unfold k0_pay7 k0_pay6
  pointwise
  refine (show _ = Scalar.select (last2 r) (v49 (ix3 0 r j)) (v29 (ix2 r j)) from rfl).trans ?_
  rw [last2_eq]
  split <;> rfl

theorem pay8 (v29 : FVec Ideal S256x2816 .f32) (v49 : Vec Ideal S1x256x2816 .f32) :
    k0_pay8 v29 8#32 k0_pay6 v49 = k0_pay7 v29 8#32 k0_pay6 v49 := by
  unfold k0_pay8
  generalize k0_pay7 v29 8#32 k0_pay6 v49 = y
  funext i
  exact congrArg y (by pointwise)

theorem pay9 (v29 : FVec Ideal S256x2816 .f32) (v49 : Vec Ideal S1x256x2816 .f32) (a b : Vec Ideal S256x2816 .f32) (w0 w1 w2 : Vec Ideal S1x2816 .f32) (r : Fin 256) (j : Fin 2816) :
    k0_pay9 v29 8#32 k0_pay6 v49 a w0 b w1 w2 (ix2 r j)
      = a (ix2 r j) * w0 (ix2 0 j) + b (ix2 r j) * w1 (ix2 0 j) + k0_pay7 v29 8#32 k0_pay6 v49 (ix2 r j) * w2 (ix2 0 j) := by
  unfold k0_pay9
  generalize k0_pay7 v29 8#32 k0_pay6 v49 = y
  pointwise

theorem pay11 (v : FVec Ideal S256x2816 .f32) (r : Fin 256) (j : Fin 2816) : k0_pay11 v (ix3 0 r j) = v (ix2 r j) := by
  unfold k0_pay11
  pointwise

/-- The feed-forward value between the two weights. -/
def act (c u : EReal) : EReal := c * sgm c * u

theorem pay1 (h : FVec Ideal S256x1024 .f32) (n : FVec Ideal S256x1024 .bf16) (y : FVec Ideal S256x2816 .f32) (wu : Vec Ideal S1024x2816 .bf16) (b : Vec Ideal S1x2816 .f32)
    (wd : Vec Ideal S2816x1024 .bf16) (g : Vec Ideal S1x1024 .f32) (r : Fin 256) (j : Fin 1024) :
    k0_pay1 (k0_pay12 g) (k0_pay13 h n y wu b wd) (ix3 0 r j)
      = rms (fun j => h (ix2 r j) + ∑ k : Fin 2816, act (y (ix2 r k) + b (ix2 0 k)) (∑ l : Fin 1024, n (ix2 r l) * wu (ix2 l k)) * wd (ix2 k j)) (fun k => g (ix2 0 k)) j := by
  unfold k0_pay1 k0_pay12 k0_pay13 rms act sgm
  pointwise
  simp only [zero_sub]

end Cert.Proof.FfnKer
-- ==== Proof.Ffn.Body.lean ====
module

public import proofs.«01_k».proof.Proof.Gen.Kernel5Ideal.Value
public import proofs.«01_k».proof.Proof.Ffn.Ker
public import proofs.«01_k».proof.Proof.Post.Rows

/-! What the feed-forward body leaves in its two outputs, as its computed values of the blocks read. -/

@[expose] public section

set_option maxHeartbeats 4000000

noncomputable section

namespace Cert.Proof.FfnBody

open Cert.Kernel5Ideal Cert.Kernel5Ideal.Gen Idealize.ShloMosaic Idealize.ShloMosaic.TcCoe Cert.Proof.Ker Cert.Proof.FfnKer Cert.Proof.Rows

variable (m : (ℓ : Loc nD τ sig) → Buf (Elt Ideal) ℓ) (c : Dev nD)

/-- The gate's products. -/
def gate (t : Fin cfg0.N) : FVec Ideal S256x2816 .f32 :=
  k0_pay5 (iblk m c 0 t) (iblk m c 1 t) (iblk m c 4 t) (iblk m c 5 t) (View.ld (iblk m c 6 t) (Rect.unit (s := S1024x5632) ![0, 0] S1024x2816.size inb_S1024x5632_S1024x2816_0_0))

/-- The same with the carried rows filled in, as stored in the buffer that the convolution reads. -/
def filled (t : Fin cfg0.N) : FVec Ideal S256x2816 .f32 := k0_pay8 (gate m c t) 8#32 k0_pay6 (iblk m c 3 t)

/-- The convolution. -/
def conv (t : Fin cfg0.N) : FVec Ideal S256x2816 .f32 :=
  k0_pay9 (gate m c t) 8#32 k0_pay6 (iblk m c 3 t) (shifted 0 (k0_pay2 (iblk m c 2 t)) (filled m c t))
    (View.ld (iblk m c 7 t) (Rect.unit (s := S3x2816) ![0, 0] S1x2816.size inb_S3x2816_S1x2816_0_0)) (shifted 1 (k0_pay2 (iblk m c 2 t)) (filled m c t))
    (View.ld (iblk m c 7 t) (Rect.unit (s := S3x2816) ![1, 0] S1x2816.size inb_S3x2816_S1x2816_1_0)) (View.ld (iblk m c 7 t) (Rect.unit (s := S3x2816) ![2, 0] S1x2816.size inb_S3x2816_S1x2816_2_0))

theorem out12 (t : Fin cfg0.N) : (outsAt0 m c t).2 = k0_pay11 (k0_pay7 (gate m c t) 8#32 k0_pay6 (iblk m c 3 t)) := by
  unfold outsAt0 out0_A_12
  dsimp only
  unfold kernelRun0_A
  refine (read_full _ _ _ _ _).trans ?_
  sl_unfold_run_names
  try simp only [View.readCov]
  simp only [read_tail, full2, full3]
  simp only [View.readAt_eq_ld, Memref.IsWhole.read_unread]
  rfl

theorem out11 (t : Fin cfg0.N) : (outsAt0 m c t).1
    = k0_pay1 (k0_pay12 (iblk m c 10 t)) (k0_pay13 (k0_pay3 (iblk m c 0 t) (iblk m c 1 t) (iblk m c 4 t)) (k0_pay4 (iblk m c 0 t) (iblk m c 1 t) (iblk m c 4 t) (iblk m c 5 t))
        (conv m c t) (View.ld (iblk m c 6 t) (Rect.unit (s := S1024x5632) ![0, 2816] S1024x2816.size inb_S1024x5632_S1024x2816_0_2816)) (iblk m c 8 t) (iblk m c 9 t)) := by
  unfold outsAt0 out0_A_11
  dsimp only
  unfold kernelRun0_A
  refine (read_full _ _ _ _ _).trans ?_
  sl_unfold_run_names
  try simp only [View.readCov]
  simp only [read_tail, full2, full3]
  rw [read6 _ _ _ _ _ inb_S264x2816_S2x2816_6_0 _ _ (read_top _ _ _ _ _ _), read7 _ _ _ _ _ inb_S264x2816_S2x2816_6_0 _ _ (read_top _ _ _ _ _ _)]
  simp only [View.readAt_eq_ld, Memref.IsWhole.read_unread]
  rfl

end Cert.Proof.FfnBody
-- ==== Proof.Ffn.Ref.lean ====
module

public import proofs.«01_k».proof.Proof.Gen.Reference5Ideal.Read
public import proofs.«01_k».proof.Proof.Ffn.Ker

/-! The values of the feed-forward step's reference over the extended reals, each read at an index. -/

@[expose] public section

set_option maxHeartbeats 4000000

noncomputable section

namespace Cert.Proof.FfnRef

open Cert.Reference5Ideal Cert.Reference5Ideal.Gen Cert.Reference5Ideal.Read Idealize.ShloMosaic Idealize.ShloMosaic.TcCoe Cert.Proof.Ker Cert.Proof.ProjKer Cert.Proof.FfnKer

variable (x0 : FVec Ideal S256x1024 .f32) (x1 : FVec Ideal S32x8x512 .f32) (x2 : FVec Ideal S32x2x2816 .f32) (x3 : FVec Ideal S512x1024 .f32)
  (x4 : FVec Ideal S1024 .f32) (x5 : FVec Ideal S1024x5632 .f32) (x6 : FVec Ideal S3x2816 .f32) (x7 : FVec Ideal S2816 .f32)
  (x8 : FVec Ideal S2816x1024 .f32) (x9 : FVec Ideal S1024 .f32)

/-- Row `t` of sequence `s` with the memory's output added. -/
def h2 (s : Fin 32) (t : Fin 4) (j : Fin 1024) : EReal :=
  x0 (ix2 ⟨s.val * 8 + t.val, by omega⟩ j) + ∑ k : Fin 512, x1 (ix3 s ⟨t.val, by omega⟩ k) * x3 (ix2 k j)

/-- Its product, after normalization, with a column of the weights. -/
def at5 (s : Fin 32) (t : Fin 4) (j : Fin 5632) : EReal := lin (h2 x0 x1 x3 s t) (fun k => x4 (ix1 k)) (fun k => x5 (ix2 k j))

/-- The gate's rows behind the two carried ones. -/
def ext (s : Fin 32) (t : Fin 6) (j : Fin 2816) : EReal :=
  if h : t.val < 2 then x2 (ix3 s ⟨t.val, h⟩ j) else at5 x0 x1 x3 x4 x5 s ⟨t.val - 2, by omega⟩ ⟨j.val, by omega⟩

/-- The convolution of three rows. -/
def conv (s : Fin 32) (t : Fin 4) (j : Fin 2816) : EReal :=
  ext x0 x1 x2 x3 x4 x5 s ⟨t.val, by omega⟩ j * x6 (ix2 0 j) + ext x0 x1 x2 x3 x4 x5 s ⟨1 + t.val, by omega⟩ j * x6 (ix2 1 j)
    + ext x0 x1 x2 x3 x4 x5 s ⟨2 + t.val, by omega⟩ j * x6 (ix2 2 j)

/-- The row after the feed-forward block. -/
def h3 (s : Fin 32) (t : Fin 4) (j : Fin 1024) : EReal :=
  h2 x0 x1 x3 s t j + ∑ k : Fin 2816, act (conv x0 x1 x2 x3 x4 x5 x6 s t k + x7 (ix1 k)) (at5 x0 x1 x3 x4 x5 s t ⟨2816 + k.val, by omega⟩) * x8 (ix2 k j)

theorem v4 (s : Fin 32) (t : Fin 4) (j : Fin 1024) : val_main_v4 (F := Ideal) x0 x1 x3 (ix3 s t j) = h2 x0 x1 x3 s t j := by
  unfold val_main_v4 val_main_v3 val_main_v2 val_main_v1 val_main_v0 h2
  pointwise

theorem v17 (s : Fin 32) (t : Fin 4) (j : Fin 1024) :
    val_main_v17 (F := Ideal) x0 x1 x3 x4 (ix3 s t j) = rms (h2 x0 x1 x3 s t) (fun k => x4 (ix1 k)) j := by
  rw [← show (fun k => val_main_v4 (F := Ideal) x0 x1 x3 (ix3 s t k)) = h2 x0 x1 x3 s t from funext fun k => v4 x0 x1 x3 s t k]
  unfold val_main_v17 val_main_v16 val_main_v15 val_main_v14 val_main_v13 val_main_v12 val_main_v11 val_main_v10 val_main_v9 val_main_v8 val_main_v7 val_main_v6 val_main_v5 val_main_cst val_main_cst_0 val_main_cst_1 rms
  generalize val_main_v4 (F := Ideal) x0 x1 x3 = h
  pointwise

theorem v18 (s : Fin 32) (t : Fin 4) (j : Fin 5632) : val_main_v18 (F := Ideal) x0 x1 x3 x4 x5 (ix3 s t j) = at5 x0 x1 x3 x4 x5 s t j := by
  have h : val_main_v18 (F := Ideal) x0 x1 x3 x4 x5 (ix3 s t j) = ∑ k : Fin 1024, val_main_v17 (F := Ideal) x0 x1 x3 x4 (ix3 s t k) * x5 (ix2 k j) := by
    unfold val_main_v18
    generalize val_main_v17 (F := Ideal) x0 x1 x3 x4 = y
    pointwise
  rw [h]
  simp only [v17, at5, lin]

theorem v21 (s : Fin 32) (t : Fin 6) (j : Fin 2816) : val_main_v21 (F := Ideal) x0 x1 x2 x3 x4 x5 (ix3 s t j) = ext x0 x1 x2 x3 x4 x5 s t j := by
  unfold ext
  simp only [← v18]
  unfold val_main_v21 val_main_v19
  generalize val_main_v18 (F := Ideal) x0 x1 x3 x4 x5 = y
  pointwise

theorem v41 (s : Fin 32) (t : Fin 4) (j : Fin 2816) : val_main_v41 (F := Ideal) x0 x1 x2 x3 x4 x5 x6 (ix3 s t j) = conv x0 x1 x2 x3 x4 x5 x6 s t j := by
  unfold conv
  simp only [← v21]
  unfold val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22
  generalize val_main_v21 (F := Ideal) x0 x1 x2 x3 x4 x5 = y
  pointwise

theorem v46 (s : Fin 32) (t : Fin 4) (j : Fin 2816) : val_main_v46 (F := Ideal) x0 x1 x2 x3 x4 x5 x6 x7 (ix3 s t j)
    = act (conv x0 x1 x2 x3 x4 x5 x6 s t j + x7 (ix1 j)) (at5 x0 x1 x3 x4 x5 s t ⟨2816 + j.val, by omega⟩) := by
  rw [← v41, ← v18]
  unfold act sgm val_main_v46 val_main_v45 val_main_call0_v5 val_main_call0_v4 val_main_call0_v3 val_main_call0_v2 val_main_call0_v1 val_main_call0_v0 val_main_call0_cst val_main_call0_cst_0 val_main_v44 val_main_v43 val_main_v42 val_main_v20
  generalize val_main_v41 (F := Ideal) x0 x1 x2 x3 x4 x5 x6 = y
  generalize val_main_v18 (F := Ideal) x0 x1 x3 x4 x5 = z
  pointwise

theorem v48 (s : Fin 32) (t : Fin 4) (j : Fin 1024) : val_main_v48 (F := Ideal) x0 x1 x2 x3 x4 x5 x6 x7 x8 (ix3 s t j)
    = h3 x0 x1 x2 x3 x4 x5 x6 x7 x8 s t j := by
  unfold h3
  simp only [← v46, ← v4]
  unfold val_main_v48 val_main_v47
  generalize val_main_v46 (F := Ideal) x0 x1 x2 x3 x4 x5 x6 x7 = y
  generalize val_main_v4 (F := Ideal) x0 x1 x3 = z
  pointwise

theorem v61 (s : Fin 32) (t : Fin 4) (j : Fin 1024) : val_main_v61 (F := Ideal) x0 x1 x2 x3 x4 x5 x6 x7 x8 x9 (ix3 s t j)
    = rms (h3 x0 x1 x2 x3 x4 x5 x6 x7 x8 s t) (fun k => x9 (ix1 k)) j := by
  rw [← show (fun k => val_main_v48 (F := Ideal) x0 x1 x2 x3 x4 x5 x6 x7 x8 (ix3 s t k)) = h3 x0 x1 x2 x3 x4 x5 x6 x7 x8 s t from funext fun k => v48 x0 x1 x2 x3 x4 x5 x6 x7 x8 s t k]
  unfold val_main_v61 val_main_v60 val_main_v59 val_main_v58 val_main_v57 val_main_v56 val_main_v55 val_main_v54 val_main_v53 val_main_v52 val_main_v51 val_main_v50 val_main_v49 val_main_cst_2 val_main_cst_3 val_main_cst_4 rms
  generalize val_main_v48 (F := Ideal) x0 x1 x2 x3 x4 x5 x6 x7 x8 = h
  pointwise

/-- The first result, in the rows a step fills. -/
theorem y (s : Fin 32) (t : Fin 4) (j : Fin 1024) : val_main_v63 (F := Ideal) x0 x1 x2 x3 x4 x5 x6 x7 x8 x9 (ix3 0 ⟨s.val * 8 + t.val, by omega⟩ j)
    = rms (h3 x0 x1 x2 x3 x4 x5 x6 x7 x8 s t) (fun k => x9 (ix1 k)) j := by
  rw [← v61]
  unfold val_main_v63 val_main_v62
  generalize val_main_v61 (F := Ideal) x0 x1 x2 x3 x4 x5 x6 x7 x8 x9 = h
  pointwise
  rw [dif_pos (by omega)]
  exact congrArg (fun t => h (ix3 s t j)) (Fin.ext (by show (s.val * 8 + t.val) % 8 = t.val; omega))

/-- The second result, in the rows a step fills. -/
theorem gate (s : Fin 32) (t : Fin 4) (j : Fin 2816) : val_main_v65 (F := Ideal) x0 x1 x3 x4 x5 (ix3 0 ⟨s.val * 8 + t.val, by omega⟩ j)
    = at5 x0 x1 x3 x4 x5 s t ⟨j.val, by omega⟩ := by
  rw [← v18]
  unfold val_main_v65 val_main_v64 val_main_v19
  generalize val_main_v18 (F := Ideal) x0 x1 x3 x4 x5 = h
  pointwise
  rw [dif_pos (by omega)]
  exact congrArg (fun t => h (ix3 s t ⟨j.val, by omega⟩)) (Fin.ext (by show (s.val * 8 + t.val) % 8 = t.val; omega))

end Cert.Proof.FfnRef
-- ==== Proof.Ffn.Arrays.lean ====
module

public import proofs.«01_k».proof.Proof.Ffn.Body
public import proofs.«01_k».proof.Proof.Ffn.Ref
public import Idealize.ShloMosaic.Lib.StableHlo.RunRead

/-! The feed-forward launch has one point, whose blocks are whole arrays: what it reads of the arguments. -/

@[expose] public section

set_option maxHeartbeats 4000000

noncomputable section

namespace Cert.Proof.FfnArrays

open Cert.Kernel5Ideal Cert.Kernel5Ideal.Gen Cert.Kernel5Ideal.Value Idealize.ShloMosaic Idealize.ShloMosaic.TcCoe

variable (m : (ℓ : Loc nD τ sig) → Buf (Elt Ideal) ℓ) (c : Dev nD)

/-- The launch's point. -/
def pt : Fin cfg0.N := ⟨0, lt_of_lt_of_eq (by omega) N_0.symm⟩

/-! Where the blocks lie. -/
theorem index0 : ∀ t : Fin cfg0.N, win0_0.index t = ![0, 0, 0] := (by decide +kernel : ∀ t : Fin grid0.N, win0_0.index t = ![0, 0, 0])
theorem index1 : ∀ t : Fin cfg0.N, win0_1.index t = ![0, 0, 0] := (by decide +kernel : ∀ t : Fin grid0.N, win0_1.index t = ![0, 0, 0])
theorem index2 : ∀ t : Fin cfg0.N, win0_2.index t = ![0, 0, 0] := (by decide +kernel : ∀ t : Fin grid0.N, win0_2.index t = ![0, 0, 0])
theorem index3 : ∀ t : Fin cfg0.N, win0_3.index t = ![0, 0, 0] := (by decide +kernel : ∀ t : Fin grid0.N, win0_3.index t = ![0, 0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index8 : ∀ t : Fin cfg0.N, win0_8.index t = ![0, 0] := (by decide +kernel : ∀ t : Fin grid0.N, win0_8.index t = ![0, 0])
theorem index9 : ∀ t : Fin cfg0.N, win0_9.index t = ![0, 0] := (by decide +kernel : ∀ t : Fin grid0.N, win0_9.index t = ![0, 0])
theorem index10 : ∀ t : Fin cfg0.N, win0_10.index t = ![0, 0] := (by decide +kernel : ∀ t : Fin grid0.N, win0_10.index t = ![0, 0])
theorem index11 : ∀ t : Fin cfg0.N, win0_11.index t = ![0, 0, 0] := (by decide +kernel : ∀ t : Fin grid0.N, win0_11.index t = ![0, 0, 0])
theorem index12 : ∀ t : Fin cfg0.N, win0_12.index t = ![0, 0, 0] := (by decide +kernel : ∀ t : Fin grid0.N, win0_12.index t = ![0, 0, 0])

/-! The arguments. -/
/-- The rows after the merge. -/
abbrev A0 : Vec Ideal S256x1024 .f32 := m ((c.tc : Thread nD τ).loc main_arg0)
/-- The memory attention's outputs. -/
abbrev A1 : Vec Ideal S32x8x512 .f32 := m ((c.tc : Thread nD τ).loc main_arg1)
/-- The gate's two rows before the step. -/
abbrev A2 : Vec Ideal S32x2x2816 .f32 := m ((c.tc : Thread nD τ).loc main_arg2)
/-- The memory's output weights. -/
abbrev A3 : Vec Ideal S512x1024 .f32 := m ((c.tc : Thread nD τ).loc main_arg3)
/-- The normalization's gains. -/
abbrev A4 : Vec Ideal S1024 .f32 := m ((c.tc : Thread nD τ).loc main_arg4)
/-- The weights of the gate and of the values. -/
abbrev A5 : Vec Ideal S1024x5632 .f32 := m ((c.tc : Thread nD τ).loc main_arg5)
/-- The convolution's weights. -/
abbrev A6 : Vec Ideal S3x2816 .f32 := m ((c.tc : Thread nD τ).loc main_arg6)
/-- The convolution's bias. -/
abbrev A7 : Vec Ideal S2816 .f32 := m ((c.tc : Thread nD τ).loc main_arg7)
/-- The weights back to the model's width. -/
abbrev A8 : Vec Ideal S2816x1024 .f32 := m ((c.tc : Thread nD τ).loc main_arg8)
/-- The last normalization's gains. -/
abbrev A9 : Vec Ideal S1024 .f32 := m ((c.tc : Thread nD τ).loc main_arg9)

/-! What the host computes before the launch. -/
theorem host0 (r : Fin 256) (j : Fin 1024) : (V m c main_v5 : Vec Ideal S1x256x1024 .f32) (ix3 0 r j) = A0 m c (ix2 r j) := by
  show _ = (m ((c.tc : Thread nD τ).loc main_arg0) : Vec Ideal S256x1024 .f32) (ix2 r j)
  rw [← V_main_arg0 m c]
  unfold V
  after_reads_simp
  pointwise
theorem host1 (r : Fin 256) (j : Fin 512) : (V m c main_v6 : Vec Ideal S1x256x512 .f32) (ix3 0 r j) = A1 m c (ix3 ⟨r.val / 8, by omega⟩ ⟨r.val % 8, by omega⟩ j) := by
  show _ = (m ((c.tc : Thread nD τ).loc main_arg1) : Vec Ideal S32x8x512 .f32) (ix3 ⟨r.val / 8, by omega⟩ ⟨r.val % 8, by omega⟩ j)
  rw [← V_main_arg1 m c]
  unfold V
  after_reads_simp
  pointwise
theorem host2 (i : Fin 2) (j : Fin 2816) : (V m c main_v7 : Vec Ideal S1x2x2816 .f32) (ix3 0 i j) = A2 m c (ix3 0 i j) := by
  show _ = (m ((c.tc : Thread nD τ).loc main_arg2) : Vec Ideal S32x2x2816 .f32) (ix3 0 i j)
  rw [← V_main_arg2 m c]
  unfold V
  after_reads_simp
  pointwise
theorem host3 (r : Fin 256) (j : Fin 2816) (h6 : 6 ≤ r.val % 8) (h : r.val / 8 < 31) :
    (V m c main_v8 : Vec Ideal S1x256x2816 .f32) (ix3 0 r j) = A2 m c (ix3 ⟨1 + r.val / 8, by omega⟩ ⟨r.val % 8 - 6, by omega⟩ j) := by
  show _ = (m ((c.tc : Thread nD τ).loc main_arg2) : Vec Ideal S32x2x2816 .f32) (ix3 ⟨1 + r.val / 8, by omega⟩ ⟨r.val % 8 - 6, by omega⟩ j)
  rw [← V_main_arg2 m c]
  unfold V
  after_reads_simp
  pointwise
  rw [dif_neg (by omega)]
  after_reads_simp
  pointwise
  rw [dif_pos h]
theorem host4 (k : Fin 512) (j : Fin 1024) : (V m c main_v9 : Vec Ideal S512x1024 .bf16) (ix2 k j) = A3 m c (ix2 k j) := by
  show _ = (m ((c.tc : Thread nD τ).loc main_arg3) : Vec Ideal S512x1024 .f32) (ix2 k j)
  rw [← V_main_arg3 m c]
  unfold V
  after_reads_simp
  rfl
theorem host5 (j : Fin 1024) : (V m c main_v12 : Vec Ideal S1x1024 .f32) (ix2 0 j) = A4 m c (ix1 j) := by
  show _ = (m ((c.tc : Thread nD τ).loc main_arg4) : Vec Ideal S1024 .f32) (ix1 j)
  rw [← V_main_arg4 m c]
  unfold V
  after_reads_simp
  pointwise
theorem host6 (k : Fin 1024) (j : Fin 5632) : (V m c main_v10 : Vec Ideal S1024x5632 .bf16) (ix2 k j) = A5 m c (ix2 k j) := by
  show _ = (m ((c.tc : Thread nD τ).loc main_arg5) : Vec Ideal S1024x5632 .f32) (ix2 k j)
  rw [← V_main_arg5 m c]
  unfold V
  after_reads_simp
  rfl
theorem host8 (j : Fin 2816) : (V m c main_v13 : Vec Ideal S1x2816 .f32) (ix2 0 j) = A7 m c (ix1 j) := by
  show _ = (m ((c.tc : Thread nD τ).loc main_arg7) : Vec Ideal S2816 .f32) (ix1 j)
  rw [← V_main_arg7 m c]
  unfold V
  after_reads_simp
  pointwise
theorem host9 (k : Fin 2816) (j : Fin 1024) : (V m c main_v11 : Vec Ideal S2816x1024 .bf16) (ix2 k j) = A8 m c (ix2 k j) := by
  show _ = (m ((c.tc : Thread nD τ).loc main_arg8) : Vec Ideal S2816x1024 .f32) (ix2 k j)
  rw [← V_main_arg8 m c]
  unfold V
  after_reads_simp
  rfl
theorem host10 (j : Fin 1024) : (V m c main_v14 : Vec Ideal S1x1024 .f32) (ix2 0 j) = A9 m c (ix1 j) := by
  show _ = (m ((c.tc : Thread nD τ).loc main_arg9) : Vec Ideal S1024 .f32) (ix1 j)
  rw [← V_main_arg9 m c]
  unfold V
  after_reads_simp
  pointwise

/-! The blocks read. -/
theorem in0 (r : Fin 256) (j : Fin 1024) : iblk m c 0 pt (ix3 0 r j) = A0 m c (ix2 r j) := by
  refine Eq.trans ?_ (host0 m c r j)
  blk_simp [iblk]
  refine congrArg _ ?_
  blk_ext [index0]
theorem in1 (r : Fin 256) (j : Fin 512) : iblk m c 1 pt (ix3 0 r j) = A1 m c (ix3 ⟨r.val / 8, by omega⟩ ⟨r.val % 8, by omega⟩ j) := by
  refine Eq.trans ?_ (host1 m c r j)
  blk_simp [iblk]
  refine congrArg _ ?_
  blk_ext [index1]
theorem in2 (i : Fin 2) (j : Fin 2816) : iblk m c 2 pt (ix3 0 i j) = A2 m c (ix3 0 i j) := by
  refine Eq.trans ?_ (host2 m c i j)
  blk_simp [iblk]
  refine congrArg _ ?_
  blk_ext [index2]
theorem in3 (r : Fin 256) (j : Fin 2816) (h6 : 6 ≤ r.val % 8) (h : r.val / 8 < 31) :
    iblk m c 3 pt (ix3 0 r j) = A2 m c (ix3 ⟨1 + r.val / 8, by omega⟩ ⟨r.val % 8 - 6, by omega⟩ j) := by
  refine Eq.trans ?_ (host3 m c r j h6 h)
  blk_simp [iblk]
  refine congrArg _ ?_
  blk_ext [index3]
theorem in4 (k : Fin 512) (j : Fin 1024) : iblk m c 4 pt (ix2 k j) = A3 m c (ix2 k j) := by
  refine Eq.trans ?_ (host4 m c k j)
  blk_simp [iblk]
  refine congrArg _ ?_
  blk_ext [index4]
theorem in5 (j : Fin 1024) : iblk m c 5 pt (ix2 0 j) = A4 m c (ix1 j) := by
  refine Eq.trans ?_ (host5 m c j)
  blk_simp [iblk]
  refine congrArg _ ?_
  blk_ext [index5]
theorem in6 (k : Fin 1024) (j : Fin 5632) : iblk m c 6 pt (ix2 k j) = A5 m c (ix2 k j) := by
  refine Eq.trans ?_ (host6 m c k j)
  blk_simp [iblk]
  refine congrArg _ ?_
  blk_ext [index6]
theorem in7 (k : Fin 3) (j : Fin 2816) : iblk m c 7 pt (ix2 k j) = A6 m c (ix2 k j) := by
  refine Eq.trans ?_ (congrFun (V_main_arg6 m c) (ix2 k j))
  blk_simp [iblk]
  refine congrArg _ ?_
  blk_ext [index7]
theorem in8 (j : Fin 2816) : iblk m c 8 pt (ix2 0 j) = A7 m c (ix1 j) := by
  refine Eq.trans ?_ (host8 m c j)
  blk_simp [iblk]
  refine congrArg _ ?_
  blk_ext [index8]
theorem in9 (k : Fin 2816) (j : Fin 1024) : iblk m c 9 pt (ix2 k j) = A8 m c (ix2 k j) := by
  refine Eq.trans ?_ (host9 m c k j)
  blk_simp [iblk]
  refine congrArg _ ?_
  blk_ext [index9]
theorem in10 (j : Fin 1024) : iblk m c 10 pt (ix2 0 j) = A9 m c (ix1 j) := by
  refine Eq.trans ?_ (host10 m c j)
  blk_simp [iblk]
  refine congrArg _ ?_
  blk_ext [index10]

end Cert.Proof.FfnArrays
-- ==== Proof.Ffn.Result.lean ====
module

public import proofs.«01_k».proof.Proof.Ffn.Arrays

/-! In the four rows that a step fills of each sequence, the feed-forward launch leaves the reference's values. -/

@[expose] public section

set_option maxHeartbeats 4000000

noncomputable section

namespace Cert.Proof.FfnResult

open Cert.Kernel5Ideal Cert.Kernel5Ideal.Gen Cert.Kernel5Ideal.Value Idealize.ShloMosaic Idealize.ShloMosaic.TcCoe Cert.Proof.Ker Cert.Proof.ProjKer Cert.Proof.FfnKer Cert.Proof.FfnBody Cert.Proof.FfnArrays Cert.Proof.Rows

variable (m : (ℓ : Loc nD τ sig) → Buf (Elt Ideal) ℓ) (c : Dev nD)

/-- Where row `t` of sequence `s` lies. -/
abbrev at8 (s : Fin 32) (t : Fin 4) : Fin 256 := ⟨s.val * 8 + t.val, by omega⟩

theorem h2_eq (s : Fin 32) (t : Fin 4) (j : Fin 1024) :
    k0_pay3 (iblk m c 0 pt) (iblk m c 1 pt) (iblk m c 4 pt) (ix2 (at8 s t) j) = FfnRef.h2 (A0 m c) (A1 m c) (A3 m c) s t j := by
  refine (FfnKer.pay3 _ _ _ _ _).trans ?_
  rw [in0]
  unfold FfnRef.h2
  refine congrArg _ (Finset.sum_congr rfl fun k _ => ?_)
  rw [in1, in4]
  have e0 : (⟨(at8 s t).val / 8, by omega⟩ : Fin 32) = s := Fin.ext (by show (s.val * 8 + t.val) / 8 = s.val; omega)
  have e1 : (⟨(at8 s t).val % 8, by omega⟩ : Fin 8) = ⟨t.val, by omega⟩ := Fin.ext (by show (s.val * 8 + t.val) % 8 = t.val; omega)
  rw [e0, e1]

theorem gate_eq (s : Fin 32) (t : Fin 4) (j : Fin 2816) :
    FfnBody.gate m c pt (ix2 (at8 s t) j) = FfnRef.at5 (A0 m c) (A1 m c) (A3 m c) (A4 m c) (A5 m c) s t ⟨j.val, by omega⟩ := by
  unfold FfnBody.gate FfnRef.at5
  refine (FfnKer.pay5 _ _ _ _ _ _ _).trans ?_
  exact congr (congr (congrArg lin (funext fun k => h2_eq m c s t k)) (funext fun k => in5 m c k))
    (funext fun k => (ld_col (o := 0) _ (iblk m c 6 pt) k j ⟨j.val, by omega⟩ (Nat.zero_add _).symm).trans (in6 m c k _))

/-- The weights of the convolution, as loaded. -/
theorem ld_row (k : Fin 3) (inb) (j : Fin 2816) :
    View.ld (iblk m c 7 pt) (Rect.unit (s := S3x2816) ![k.val, 0] S1x2816.size inb) (ix2 0 j) = A6 m c (ix2 k j) :=
  (View.ld_unit_apply_of _ _ _ _ _ (ix2 k j) (by
    intro a
    match a with
    | ⟨0, _⟩ => show k.val = k.val + 0; omega
    | ⟨1, _⟩ => show j.val = 0 + j.val; omega)).trans (in7 m c k j)

theorem cache_congr {a a' : Fin 32} {b b' : Fin 2} (ha : a.val = a'.val) (hb : b.val = b'.val) (j : Fin 2816) :
    A2 m c (ix3 a b j) = A2 m c (ix3 a' b' j) := by rw [Fin.ext ha, Fin.ext hb]

theorem filled_eq (r : Fin 256) (j : Fin 2816) :
    filled m c pt (ix2 r j) = if 6 ≤ r.val % 8 then iblk m c 3 pt (ix3 0 r j) else FfnBody.gate m c pt (ix2 r j) := by
  unfold filled
  rw [FfnKer.pay8]
  exact FfnKer.pay7 _ _ _ _

/-- The rows before a step's are the ones carried: of the first sequence from the block's own, of the others from the rows filled in. -/
theorem shifted_eq (k : Fin 2) (s : Fin 32) (t : Fin 4) (j : Fin 2816) :
    shifted k (k0_pay2 (iblk m c 2 pt)) (filled m c pt) (ix2 (at8 s t) j)
      = FfnRef.ext (A0 m c) (A1 m c) (A2 m c) (A3 m c) (A4 m c) (A5 m c) s ⟨k.val + t.val, by omega⟩ j := by
  have hs := s.isLt
  have ht := t.isLt
  have hk := k.isLt
  unfold shifted FfnRef.ext
  by_cases h : s.val * 8 + t.val + k.val < 2
  · rw [dif_pos (show (ix2 (at8 s t) j 0).val + k.val < 2 from h), dif_pos (show k.val + t.val < 2 by omega)]
    refine (FfnKer.pay2 _ _ _).trans ((in2 m c _ _).trans ?_)
    exact cache_congr m c (by show 0 = s.val; omega) (by show s.val * 8 + t.val + k.val = k.val + t.val; omega) j
  · rw [dif_neg (show ¬ (ix2 (at8 s t) j 0).val + k.val < 2 from h)]
    refine (filled_eq m c ⟨s.val * 8 + t.val + k.val - 2, by omega⟩ j).trans ?_
    by_cases h2 : k.val + t.val < 2
    · rw [dif_pos h2, if_pos (show 6 ≤ (s.val * 8 + t.val + k.val - 2) % 8 by omega),
        in3 m c _ _ (show 6 ≤ (s.val * 8 + t.val + k.val - 2) % 8 by omega) (show (s.val * 8 + t.val + k.val - 2) / 8 < 31 by omega)]
      exact cache_congr m c (by show 1 + (s.val * 8 + t.val + k.val - 2) / 8 = s.val; omega)
        (by show (s.val * 8 + t.val + k.val - 2) % 8 - 6 = k.val + t.val; omega) j
    · rw [dif_neg h2, if_neg (show ¬ 6 ≤ (s.val * 8 + t.val + k.val - 2) % 8 by omega)]
      refine Eq.trans ?_ (gate_eq m c s ⟨k.val + t.val - 2, by omega⟩ j)
      exact congrArg (fun r => FfnBody.gate m c pt (ix2 r j)) (Fin.ext (by show s.val * 8 + t.val + k.val - 2 = s.val * 8 + (k.val + t.val - 2); omega))

theorem conv_eq (s : Fin 32) (t : Fin 4) (j : Fin 2816) :
    FfnBody.conv m c pt (ix2 (at8 s t) j) = FfnRef.conv (A0 m c) (A1 m c) (A2 m c) (A3 m c) (A4 m c) (A5 m c) (A6 m c) s t j := by
  unfold FfnBody.conv FfnRef.conv
  refine (FfnKer.pay9 _ _ _ _ _ _ _ _ _).trans ?_
  rw [shifted_eq, shifted_eq, FfnKer.pay7, if_neg (show ¬ 6 ≤ (s.val * 8 + t.val) % 8 by omega), gate_eq,
    ← ld_row m c 0 inb_S3x2816_S1x2816_0_0, ← ld_row m c 1 inb_S3x2816_S1x2816_1_0, ← ld_row m c 2 inb_S3x2816_S1x2816_2_0]
  have e0 : FfnRef.ext (A0 m c) (A1 m c) (A2 m c) (A3 m c) (A4 m c) (A5 m c) s ⟨(0 : Fin 2).val + t.val, by omega⟩ j
      = FfnRef.ext (A0 m c) (A1 m c) (A2 m c) (A3 m c) (A4 m c) (A5 m c) s ⟨t.val, by omega⟩ j :=
    congrArg (fun i => FfnRef.ext _ _ _ _ _ _ s i j) (Fin.ext (by show 0 + t.val = t.val; omega))
  have e2 : FfnRef.ext (A0 m c) (A1 m c) (A2 m c) (A3 m c) (A4 m c) (A5 m c) s ⟨2 + t.val, by omega⟩ j
      = FfnRef.at5 (A0 m c) (A1 m c) (A3 m c) (A4 m c) (A5 m c) s t ⟨j.val, by omega⟩ := by
    unfold FfnRef.ext
    rw [dif_neg (show ¬ 2 + t.val < 2 by omega)]
    exact congrArg (fun i => FfnRef.at5 _ _ _ _ _ s i _) (Fin.ext (by show 2 + t.val - 2 = t.val; omega))
  rw [e0, e2]
  rfl

theorem up_eq (s : Fin 32) (t : Fin 4) (k : Fin 2816) :
    ∑ l : Fin 1024, k0_pay4 (iblk m c 0 pt) (iblk m c 1 pt) (iblk m c 4 pt) (iblk m c 5 pt) (ix2 (at8 s t) l)
        * View.ld (iblk m c 6 pt) (Rect.unit (s := S1024x5632) ![0, 2816] S1024x2816.size inb_S1024x5632_S1024x2816_0_2816) (ix2 l k)
      = FfnRef.at5 (A0 m c) (A1 m c) (A3 m c) (A4 m c) (A5 m c) s t ⟨2816 + k.val, by omega⟩ := by
  unfold FfnRef.at5 lin
  refine Finset.sum_congr rfl fun l _ => ?_
  rw [FfnKer.pay4]
  exact congr (congrArg (· * ·) (congrFun (congr (congrArg rms (funext fun k => h2_eq m c s t k)) (funext fun k => in5 m c k)) l))
    ((ld_col _ (iblk m c 6 pt) l k ⟨2816 + k.val, by omega⟩ rfl).trans (in6 m c l _))

theorem y_eq (s : Fin 32) (t : Fin 4) (j : Fin 1024) : (outsAt0 m c pt).1 (ix3 0 (at8 s t) j)
    = rms (FfnRef.h3 (A0 m c) (A1 m c) (A2 m c) (A3 m c) (A4 m c) (A5 m c) (A6 m c) (A7 m c) (A8 m c) s t) (fun k => A9 m c (ix1 k)) j := by
  rw [FfnBody.out11]
  refine (FfnKer.pay1 _ _ _ _ _ _ _ _ _).trans ?_
  refine congrFun (congr (congrArg rms (funext fun j => ?_)) (funext fun k => in10 m c k)) j
  unfold FfnRef.h3
  rw [h2_eq]
  refine congrArg _ (Finset.sum_congr rfl fun k _ => ?_)
  rw [conv_eq, up_eq, in8, in9]

theorem gate_row (s : Fin 32) (t : Fin 4) (j : Fin 2816) : (outsAt0 m c pt).2 (ix3 0 (at8 s t) j)
    = FfnRef.at5 (A0 m c) (A1 m c) (A3 m c) (A4 m c) (A5 m c) s t ⟨j.val, by omega⟩ := by
  rw [FfnBody.out12]
  refine (FfnKer.pay11 _ _ _).trans ?_
  rw [FfnKer.pay7, if_neg (show ¬ 6 ≤ (s.val * 8 + t.val) % 8 by omega), gate_eq]

/-! Every point writes its blocks back. -/
theorem flush11 : ∀ t : Fin cfg0.N, (cfg0.win 11).flush t = true := (by decide +kernel : ∀ t : Fin grid0.N, (cfg0.win 11).flush t = true)
theorem flush12 : ∀ t : Fin cfg0.N, (cfg0.win 12).flush t = true := (by decide +kernel : ∀ t : Fin grid0.N, (cfg0.win 12).flush t = true)

/-! The arrays written, in the rows that a step fills. -/
theorem arr11 (s : Fin 32) (t : Fin 4) (j : Fin 1024) : ((dats m 0 c).arrAt 11 cfg0.N : Vec Ideal S1x256x1024 .f32) (ix3 0 (at8 s t) j)
    = Cert.Reference5Ideal.Read.val_main_v63 (F := Ideal) (A0 m c) (A1 m c) (A2 m c) (A3 m c) (A4 m c) (A5 m c) (A6 m c) (A7 m c) (A8 m c) (A9 m c) (ix3 0 (at8 s t) j) := by
  have h := congrFun (blocks11 m c pt (flush11 _)) (ix3 0 (at8 s t) j)
  rw [flushed11] at h
  refine Eq.trans ?_ (h.trans ?_)
  · blk_simp
    refine congrArg _ ?_
    blk_ext [index11]
  · refine Eq.trans ?_ ((y_eq m c s t j).trans (FfnRef.y (A0 m c) (A1 m c) (A2 m c) (A3 m c) (A4 m c) (A5 m c) (A6 m c) (A7 m c) (A8 m c) (A9 m c) s t j).symm)
    rfl

theorem arr12 (s : Fin 32) (t : Fin 4) (j : Fin 2816) : ((dats m 0 c).arrAt 12 cfg0.N : Vec Ideal S1x256x2816 .f32) (ix3 0 (at8 s t) j)
    = Cert.Reference5Ideal.Read.val_main_v65 (F := Ideal) (A0 m c) (A1 m c) (A3 m c) (A4 m c) (A5 m c) (ix3 0 (at8 s t) j) := by
  have h := congrFun (blocks12 m c pt (flush12 _)) (ix3 0 (at8 s t) j)
  rw [flushed12] at h
  refine Eq.trans ?_ (h.trans ?_)
  · blk_simp
    refine congrArg _ ?_
    blk_ext [index12]
  · refine Eq.trans ?_ ((gate_row m c s t j).trans (FfnRef.gate (A0 m c) (A1 m c) (A3 m c) (A4 m c) (A5 m c) s t j).symm)
    rfl

end Cert.Proof.FfnResult
-- ==== Proof.Ffn.Equal.lean ====
module

public import proofs.«01_k».proof.Defs
public import proofs.«01_k».proof.Proof.Ffn.Result
public import proofs.«01_k».proof.Proof.Gen.Kernel5Ideal.Value
public import proofs.«01_k».proof.Proof.Gen.Reference5Ideal.Run
public import proofs.«01_k».proof.Proof.Gen.On_rows_step
public import Idealize.ShloMosaic.Lib.Quiescent

/-! The step's feed-forward launch and its reference end with equal arrays in the rows that a step fills. -/

@[expose] public section

set_option maxHeartbeats 4000000

noncomputable section

namespace Cert.Proof.FfnEqual

open Idealize.ShloMosaic Idealize.SL.Sem FfnResult

/-- The reference uses no semaphore, and writes none of its arguments. -/
theorem reference5_frame : Cert.quiescent_Reference5Ideal := fun m ρ _ =>
  (θ_run _ _ _).mono (fun r h => ⟨fun c => (h c).2.2, sem_eq_zero_of_no_sems (by decide) r.2⟩) (Cert.Reference5Ideal.Value.run (F := Ideal) m ρ)

/-! The mask marks the first four of a sequence's eight rows. -/

/-- The mask's divisor. -/
def eight : BitVec 32 := Scalar.select (IntOp.cmpi .eq 8#32 0#32) 1#32 8#32

/-- The row's remainder by it. -/
def rem (r : Fin 256) : BitVec 32 := IntOp.remsi ArithUnit.host (BitVec.ofNat 32 r.val) eight

/-- Whether the row lies among the first four, as the mask decides it. -/
def first4 (r : Fin 256) : BitVec 1 :=
  IntOp.cmpi .slt (Scalar.select (IntOp.andi (IntOp.cmpi .ne (IntOp.cmpi .slt (rem r) 0#32) (IntOp.cmpi .slt eight 0#32)) (IntOp.cmpi .ne (rem r) 0#32))
    (IntOp.addi (rem r) eight) (rem r)) 4#32

theorem first4_lt : ∀ r : Fin 256, first4 r = 1#1 → r.val % 8 < 4 := by decide +kernel

section
variable (x0 : FVec Ideal Cert.On_rows_step.S256x1024 .f32) (x1 : FVec Ideal Cert.On_rows_step.S32x8x512 .f32) (x2 : FVec Ideal Cert.On_rows_step.S32x2x2816 .f32)
    (x3 : FVec Ideal Cert.On_rows_step.S512x1024 .f32) (x4 : FVec Ideal Cert.On_rows_step.S1024 .f32) (x5 : FVec Ideal Cert.On_rows_step.S1024x5632 .f32)
    (x6 : FVec Ideal Cert.On_rows_step.S3x2816 .f32) (x7 : FVec Ideal Cert.On_rows_step.S2816 .f32) (x8 : FVec Ideal Cert.On_rows_step.S2816x1024 .f32)
    (x9 : FVec Ideal Cert.On_rows_step.S1024 .f32) [Cert.On_rows_step.Facts] (r : Fin 256)

theorem mask0 (j : Fin 1024) (h : (Cert.On_rows_step.fn (F := Ideal) x0 x1 x2 x3 x4 x5 x6 x7 x8 x9).1 (ix3 0 r j) = 1#1) : r.val % 8 < 4 :=
  first4_lt r h
theorem mask1 (j : Fin 2816) (h : (Cert.On_rows_step.fn (F := Ideal) x0 x1 x2 x3 x4 x5 x6 x7 x8 x9).2 (ix3 0 r j) = 1#1) : r.val % 8 < 4 :=
  first4_lt r h
end

/-- A row among the first four of its sequence's eight, by its sequence and its step. -/
theorem row_eq (r : Fin 256) (h : r.val % 8 < 4) : r = at8 ⟨r.val / 8, by omega⟩ ⟨r.val % 8, h⟩ :=
  Fin.ext (by show r.val = r.val / 8 * 8 + r.val % 8; omega)

/-- An index of an array whose first axis is of length one. -/
theorem idx1 {b c : ℕ} (i : (⟨3, ![1, b, c]⟩ : Shape).Idx) : i = ix3 (0 : Fin 1) (i 1) (i 2) := by
  funext x
  match x with
  | ⟨0, _⟩ => exact Fin.ext (by have h : (i 0).val < 1 := (i 0).isLt; show (i 0).val = 0; omega)
  | ⟨1, _⟩ => rfl
  | ⟨2, _⟩ => rfl

open Cert.Kernel5Ideal.Gen Cert.Reference5Ideal.Read FfnArrays in
theorem equal5 : Cert.algebraic_Kernel5Ideal_Reference5Ideal_on_rows_step := by
  intro m g m' g' hp ha
  refine ⟨fun c => val_main_v63 (F := Ideal) (A0 m c) (A1 m c) (A2 m c) (A3 m c) (A4 m c) (A5 m c) (A6 m c) (A7 m c) (A8 m c) (A9 m c),
    fun c => val_main_v65 (F := Ideal) (A0 m c) (A1 m c) (A3 m c) (A4 m c) (A5 m c), ?_, ?_⟩
  · refine (θ_run _ _ _).mono (fun r h c => ?_) (Cert.Kernel5Ideal.Value.run_blocks (F := Ideal) m g)
    obtain ⟨h0, h1, hk⟩ := h c
    refine ⟨fun i hi => ?_, fun i hi => ?_, hk⟩
    · rw [idx1 i] at hi ⊢
      rw [row_eq (i 1) (mask0 _ _ _ _ _ _ _ _ _ _ _ _ hi)]
      exact (congrFun h0 _).trans (arr11 m c _ _ _)
    · rw [idx1 i] at hi ⊢
      rw [row_eq (i 1) (mask1 _ _ _ _ _ _ _ _ _ _ _ _ hi)]
      exact (congrFun h1 _).trans (arr12 m c _ _ _)
  · refine (θ_run _ _ _).mono (fun r h c => ?_) (Cert.Reference5Ideal.Value.run (F := Ideal) m' g')
    obtain ⟨h0, h1, hk⟩ := h c
    obtain ⟨e0, e1, e2, e3, e4, e5, e6, e7, e8, e9⟩ := ha c
    have f0 := h0.trans (val_main_v63_eq m' c)
    have f1 := h1.trans (val_main_v65_eq _ _ _ _ _)
    rw [e0, e1, e2, e3, e4, e5, e6, e7, e8, e9] at f0
    rw [e0, e1, e3, e4, e5] at f1
    exact ⟨fun i _ => congrFun f0 i, fun i _ => congrFun f1 i, hk⟩

end Cert.Proof.FfnEqual

end
-- ==== Proof.Mix.Ker.lean ====
module

public import proofs.«01_k».proof.Proof.Gen.Kernel6Ideal.Value
public import proofs.«01_k».proof.Proof.Proj.Ker
public import Idealize.ShloMosaic.Lib.Pointwise

/-! The merge's computed values over the extended reals, each read at an index. -/

@[expose] public section

set_option maxHeartbeats 4000000

noncomputable section

namespace Cert.Proof.MixKer

open Cert.Kernel6Ideal Cert.Kernel6Ideal.Gen Idealize.ShloMosaic Idealize.ShloMosaic.TcCoe
open Cert.Proof.Ker (num sgm rms kav3)

theorem pay3 (v0 v2 v4 v6 v8 v10 : Vec Ideal S256x128 .f32) (r : Fin 256) (k : Fin 128) :
    k0_pay3 v0 v2 v4 v6 v8 v10 (ix2 r k) = kav3 (v0 (ix2 r k)) (v2 (ix2 r k)) (v4 (ix2 r k)) (v6 (ix2 r k)) (v8 (ix2 r k)) (v10 (ix2 r k)) := by
  unfold k0_pay3 kav3
  pointwise

theorem pay4 (v : Vec Ideal S256x128 .f32) (r : Fin 256) (k : Fin 128) : k0_pay4 v (ix2 r k) = v (ix2 r k) := by
  unfold k0_pay4
  pointwise
theorem pay5 (v : Vec Ideal S256x128 .f32) (r : Fin 256) (k : Fin 128) : k0_pay5 v (ix2 r k) = v (ix2 r k) := by
  unfold k0_pay5
  pointwise
theorem pay6 (v : Vec Ideal S256x128 .f32) (r : Fin 256) (k : Fin 128) : k0_pay6 v (ix2 r k) = v (ix2 r k) := by
  unfold k0_pay6
  pointwise
theorem pay7 (v : Vec Ideal S256x128 .f32) (r : Fin 256) (k : Fin 128) : k0_pay7 v (ix2 r k) = v (ix2 r k) := by
  unfold k0_pay7
  pointwise

theorem pay8 (v61 : Vec Ideal S256x1024 .bf16) (v63 : Vec Ideal S1024x1024 .bf16) (r : Fin 256) (j : Fin 1024) :
    k0_pay8 v61 v63 (ix2 r j) = ∑ k : Fin 1024, v61 (ix2 r k) * v63 (ix2 k j) := by
  unfold k0_pay8
  pointwise

theorem pay9 (v27 v29 v31 v33 v35 : FVec Ideal S256x128 .f32) (v36 v38 : Vec Ideal S256x128 .f32) (v57 : Vec Ideal S256x1024 .bf16) (v66 : Vec Ideal S256x1024 .f32) (r : Fin 256) (j : Fin 1024) :
    k0_pay9 v27 v29 v31 v33 v35 v36 v38 v57 v66 (ix2 r j) = sgm (v66 (ix2 r j)) * ∑ k : Fin 256, (if h : k.val < 128 then v27 (ix2 r ⟨k.val, h⟩)
      else kav3 (v29 (ix2 r ⟨k.val - 128, by omega⟩)) (v31 (ix2 r ⟨k.val - 128, by omega⟩)) (v33 (ix2 r ⟨k.val - 128, by omega⟩)) (v35 (ix2 r ⟨k.val - 128, by omega⟩)) (v36 (ix2 r ⟨k.val - 128, by omega⟩)) (v38 (ix2 r ⟨k.val - 128, by omega⟩))) * v57 (ix2 k j) := by
  unfold k0_pay9 kav3 sgm
  pointwise
  simp only [zero_sub]

theorem pay10 (v : Vec Ideal S256x1024 .f32) (r : Fin 256) (j : Fin 1024) : k0_pay10 v (ix2 r j) = Ideal.exp (-v (ix2 r j)) := by
  unfold k0_pay10
  pointwise
  simp only [zero_sub]

/-- The rows after the merge: the two branches, each scaled by its gate, through the output weights, and the rows themselves. -/
theorem pay1 (v65 v74 : FVec Ideal S256x1024 .f32) (v75 : Vec Ideal S256x1024 .f32) (v85 : Vec Ideal S256x1024 .f32) (v86 : Vec Ideal S1024x1024 .bf16) (r : Fin 256) (j : Fin 1024) :
    k0_pay1 v65 v74 (k0_pay10 v75) v85 v86 (ix2 r j)
      = v85 (ix2 r j) + ∑ k : Fin 1024, (v74 (ix2 r k) + sgm (v75 (ix2 r k)) * v65 (ix2 r k)) * v86 (ix2 k j) := by
  unfold k0_pay1 k0_pay10 sgm
  pointwise
  simp only [zero_sub]

theorem pay2 (v65 v74 v78 : FVec Ideal S256x1024 .f32) (v85 : Vec Ideal S256x1024 .f32) (v86 : Vec Ideal S1024x1024 .bf16) (v91 : Vec Ideal S1x1024 .f32) (v105 : Vec Ideal S1024x512 .bf16) (r : Fin 256) (j : Fin 512) :
    k0_pay2 v65 v74 v78 v85 v86 v91 v105 (ix2 r j)
      = ∑ k : Fin 1024, rms (fun k => k0_pay1 v65 v74 v78 v85 v86 (ix2 r k)) (fun k => v91 (ix2 0 k)) k * v105 (ix2 k j) := by
  unfold k0_pay2 rms
  generalize k0_pay1 v65 v74 v78 v85 v86 = y
  pointwise

variable (x0 x1 x2 x3 x4 x5 x6 x7 x8 x9 x10 x11 : Vec Ideal S256x128 .f32) (x12 : Vec Ideal S256x1024 .bf16) (x13 x14 x15 : Vec Ideal S256x1024 .f32)
  (x16 : Vec Ideal S256x1024 .bf16) (x17 x18 : Vec Ideal S1024x1024 .bf16) (x19 : Vec Ideal S1x1024 .f32) (x20 : Vec Ideal S1024x512 .bf16)

/-- The merge of the groups: lane by lane, from two slabs of 128 lanes. -/
def merged (r k : Fin 256) : EReal :=
  if h : k.val < 128 then kav3 (x6 (ix2 r ⟨k.val, h⟩)) (x8 (ix2 r ⟨k.val, h⟩)) (x10 (ix2 r ⟨k.val, h⟩)) (x0 (ix2 r ⟨k.val, h⟩)) (x2 (ix2 r ⟨k.val, h⟩)) (x4 (ix2 r ⟨k.val, h⟩))
  else kav3 (x7 (ix2 r ⟨k.val - 128, by omega⟩)) (x9 (ix2 r ⟨k.val - 128, by omega⟩)) (x11 (ix2 r ⟨k.val - 128, by omega⟩)) (x1 (ix2 r ⟨k.val - 128, by omega⟩))
    (x3 (ix2 r ⟨k.val - 128, by omega⟩)) (x5 (ix2 r ⟨k.val - 128, by omega⟩))

/-- A row after the merge of the two branches, from the merged groups `oa`. -/
def row (oa : Fin 256 → EReal) (ob ga gb h : Fin 1024 → EReal) (wa : Fin 256 → Fin 1024 → EReal) (wb wo : Fin 1024 → Fin 1024 → EReal) (j : Fin 1024) : EReal :=
  h j + ∑ k : Fin 1024, (sgm (ga k) * (∑ l : Fin 256, oa l * wa l k) + sgm (gb k) * (∑ l : Fin 1024, ob l * wb l k)) * wo k j

theorem row_congr {oa oa' : Fin 256 → EReal} {ob ob' ga ga' gb gb' h h' : Fin 1024 → EReal} {wa wa' : Fin 256 → Fin 1024 → EReal} {wb wb' wo wo' : Fin 1024 → Fin 1024 → EReal}
    (e : oa = oa') (e0 : ob = ob') (e1 : ga = ga') (e2 : gb = gb') (e3 : h = h') (e4 : wa = wa') (e5 : wb = wb') (e6 : wo = wo') (j : Fin 1024) :
    row oa ob ga gb h wa wb wo j = row oa' ob' ga' gb' h' wa' wb' wo' j := by
  rw [e, e0, e1, e2, e3, e4, e5, e6]

theorem lds : View.ld x0 r0_0 = x0 := View.ld_unit_zero (by funext a; fin_cases a <;> rfl) _ _
theorem ldr : View.ld x13 r0_1 = x13 := View.ld_unit_zero (by funext a; fin_cases a <;> rfl) _ _
theorem ldrb : View.ld x12 r0_1 = x12 := View.ld_unit_zero (by funext a; fin_cases a <;> rfl) _ _
theorem ldw : View.ld x17 r0_2 = x17 := View.ld_unit_zero (by funext a; fin_cases a <;> rfl) _ _
theorem ldg : View.ld x19 r0_3 = x19 := View.ld_unit_zero (by funext a; fin_cases a <;> rfl) _ _
theorem ldq : View.ld x20 r0_4 = x20 := View.ld_unit_zero (by funext a; fin_cases a <;> rfl) _ _

/-- The body's rows. -/
def h1 (r : Fin 256) (j : Fin 1024) : EReal :=
  row (merged x0 x1 x2 x3 x4 x5 x6 x7 x8 x9 x10 x11 r) (fun k => x12 (ix2 r k)) (fun k => x13 (ix2 r k)) (fun k => x14 (ix2 r k)) (fun k => x15 (ix2 r k))
    (fun l k => x16 (ix2 l k)) (fun l k => x17 (ix2 l k)) (fun l k => x18 (ix2 l k)) j

theorem pay1_eq (r : Fin 256) (j : Fin 1024) :
    k0_pay1 (k0_pay11 x0 x1 x2 x3 x4 x5 x6 x7 x8 x9 x10 x11 x12 x13 x14 x15 x16 x17 x18 x19 x20) (k0_pay12 x0 x1 x2 x3 x4 x5 x6 x7 x8 x9 x10 x11 x12 x13 x14 x15 x16 x17 x18 x19 x20)
        (k0_pay13 x0 x1 x2 x3 x4 x5 x6 x7 x8 x9 x10 x11 x12 x13 x14 x15 x16 x17 x18 x19 x20) (View.ld x15 r0_1) (View.ld x18 r0_2) (ix2 r j)
      = h1 x0 x1 x2 x3 x4 x5 x6 x7 x8 x9 x10 x11 x12 x13 x14 x15 x16 x17 x18 r j := by
  unfold k0_pay11 k0_pay12 k0_pay13
  simp only [lds, ldr, ldrb, ldw]
  refine (pay1 _ _ _ _ _ _ _).trans ?_
  unfold h1 row
  refine congrArg _ (Finset.sum_congr rfl fun k _ => congrArg (· * _) ?_)
  rw [pay8, pay9]
  refine congrArg (fun s => sgm (x13 (ix2 r k)) * s + _) (Finset.sum_congr rfl fun l _ => congrArg (· * _) ?_)
  unfold merged
  simp only [pay3, pay4, pay5, pay6, pay7]

theorem out21 (r : Fin 256) (j : Fin 1024) : out0_21 x0 x1 x2 x3 x4 x5 x6 x7 x8 x9 x10 x11 x12 x13 x14 x15 x16 x17 x18 x19 x20 (ix2 r j)
    = h1 x0 x1 x2 x3 x4 x5 x6 x7 x8 x9 x10 x11 x12 x13 x14 x15 x16 x17 x18 r j := by
  unfold out0_21
  refine View.canon_eq_of_allAt _ _ _ (cover0_21 _ _) (View.allAt_cons_unit _ _ _ _ _ (ProjKer.tile (o := 0) r j _ _ fun i hi => ?_) (View.allAt_nil _ _))
  obtain rfl : j = i := Fin.ext (by omega)
  exact pay1_eq _ _ _ _ _ _ _ _ _ _ _ _ _ _ _ _ _ _ _ _ _ _ _

/-- The same for a block of rounded numbers. -/
theorem tile16 {n s o : ℕ} (r : Fin 256) (k : Fin n) (w : (⟨2, ![256, s]⟩ : Shape).Idx → EReal) (v : EReal)
    (h : ∀ j : Fin s, k.val = o + j.val → w (ix2 r j) = v) :
    View.TileAt (Val := Elt Ideal) (e := .bf16) (S := ⟨2, ![256, n]⟩) (ix2 r k) ![0, o] ![256, s] w v :=
  ProjKer.tile r k w v h

theorem out22 (r : Fin 256) (j : Fin 512) : out0_22 x0 x1 x2 x3 x4 x5 x6 x7 x8 x9 x10 x11 x12 x13 x14 x15 x16 x17 x18 x19 x20 (ix2 r j)
    = ∑ k : Fin 1024, rms (h1 x0 x1 x2 x3 x4 x5 x6 x7 x8 x9 x10 x11 x12 x13 x14 x15 x16 x17 x18 r) (fun k => x19 (ix2 0 k)) k * x20 (ix2 k j) := by
  unfold out0_22
  refine View.canon_eq_of_allAt _ _ _ (cover0_22 _ _) (View.allAt_cons_unit _ _ _ _ _ (tile16 (o := 0) r j _ _ fun i hi => ?_) (View.allAt_nil _ _))
  obtain rfl : j = i := Fin.ext (by omega)
  refine (pay2 _ _ _ _ _ _ _ _ _).trans ?_
  rw [ldg, ldq]
  refine Finset.sum_congr rfl fun k _ => congrArg (fun f => rms f _ k * _) (funext fun k => ?_)
  exact pay1_eq _ _ _ _ _ _ _ _ _ _ _ _ _ _ _ _ _ _ _ _ _ _ _

end Cert.Proof.MixKer
-- ==== Proof.Mix.Ref.lean ====
module

public import proofs.«01_k».proof.Proof.Gen.Reference6Ideal.Read
public import proofs.«01_k».proof.Proof.Mix.Ker
public import proofs.«01_k».proof.Proof.Post.RefPost

/-! The merge's reference over the extended reals, each value read at an index. -/

@[expose] public section

set_option maxHeartbeats 4000000

noncomputable section

namespace Cert.Proof.MixRef

open Cert.Reference6Ideal Cert.Reference6Ideal.Gen Cert.Reference6Ideal.Read Idealize.ShloMosaic Idealize.ShloMosaic.TcCoe Cert.Proof.RefPost
open Cert.Proof.Ker (num sgm rms)

/-- A row of an array of eight rows for each of 32 sequences. -/
def flat {n : ℕ} (x : (⟨3, ![32, 8, n]⟩ : Shape).Idx → EReal) (r : Fin 256) (k : Fin n) : EReal := x (ix3 ⟨r.val / 8, by omega⟩ ⟨r.val % 8, by omega⟩ k)

/-- Lane `k` of group `g` in a row of three groups. -/
def lane (g : Fin 3) (k : Fin 256) : Fin 768 := ⟨g.val * 256 + k.val, by omega⟩

variable (x0 x1 : FVec Ideal S32x8x768 .f32) (x2 : FVec Ideal S32x8x1024 .f32) (x3 x4 x5 x6 : FVec Ideal S256x1024 .f32)
  (x7 x8 : FVec Ideal S1024x1024 .f32) (x9 : FVec Ideal S1024 .f32) (x10 : FVec Ideal S1024x512 .f32)

theorem group (r : Fin 256) (g : Fin 3) (k : Fin 256) : val_main_v0 (F := Ideal) x0 (ix3 r g k) = flat x0 r (lane g k) := by
  unfold val_main_v0 flat lane
  pointwise

theorem group1 (r : Fin 256) (g : Fin 3) (k : Fin 256) : val_main_v1 (F := Ideal) x1 (ix3 r g k) = flat x1 r (lane g k) := group x1 r g k

/-- The merge of the groups, with softmax weights. -/
theorem oa (r k : Fin 256) : val_main_v12 (F := Ideal) x0 x1 (ix2 r k)
    = ∑ g : Fin 3, rwt (fun g => flat x1 r (lane g k)) g * flat x0 r (lane g k) := by
  simp only [← group x0, ← group1 x1]
  unfold val_main_v12 val_main_v11 val_main_v10 val_main_v9 val_main_v8 val_main_v7 val_main_v6 val_main_v5 val_main_v4 val_main_v3 val_main_v2 val_main_cst val_main_cst_0 val_main_cst_1 rwt
  generalize val_main_v0 (F := Ideal) x0 = O
  generalize val_main_v1 (F := Ideal) x1 = L
  pointwise

theorem gate (r : Fin 256) (k : Fin 1024) : val_main_v18 (F := Ideal) x3 (ix2 r k) = sgm (x3 (ix2 r k)) := by
  unfold val_main_v18 val_main_v17 val_main_v16 val_main_v15 val_main_v14 val_main_v13 val_main_cst_2 val_main_cst_3 sgm
  pointwise

theorem gate1 (r : Fin 256) (k : Fin 1024) : val_main_v26 (F := Ideal) x4 (ix2 r k) = sgm (x4 (ix2 r k)) := gate x4 r k

theorem ob (r : Fin 256) (k : Fin 1024) : val_main_v27 (F := Ideal) x2 (ix2 r k) = flat x2 r k := by
  unfold val_main_v27 flat
  pointwise

/-- The rows after the merge of the branches. -/
theorem h1 (r : Fin 256) (j : Fin 1024) : val_main_v32 (F := Ideal) x0 x1 x2 x3 x4 x5 x6 x7 x8 (ix2 r j)
    = MixKer.row (fun k => val_main_v12 (F := Ideal) x0 x1 (ix2 r k)) (flat x2 r) (fun k => x3 (ix2 r k)) (fun k => x4 (ix2 r k)) (fun k => x5 (ix2 r k))
        (fun l k => x6 (ix2 l k)) (fun l k => x7 (ix2 l k)) (fun l k => x8 (ix2 l k)) j := by
  unfold MixKer.row
  simp only [← gate x3, ← gate1 x4, ← ob x2]
  unfold val_main_v32 val_main_v31 val_main_v30 val_main_v29 val_main_v28 val_main_v20 val_main_v19
  generalize val_main_v18 (F := Ideal) x3 = a
  generalize val_main_v26 (F := Ideal) x4 = b
  generalize val_main_v27 (F := Ideal) x2 = o
  generalize val_main_v12 (F := Ideal) x0 x1 = p
  pointwise

/-- The queries of the memory. -/
theorem q (r : Fin 256) (j : Fin 512) : val_main_v47 (F := Ideal) x0 x1 x2 x3 x4 x5 x6 x7 x8 x9 x10 (ix2 r j)
    = ∑ k : Fin 1024, rms (fun k => val_main_v32 (F := Ideal) x0 x1 x2 x3 x4 x5 x6 x7 x8 (ix2 r k)) (fun k => x9 (ix1 k)) k * x10 (ix2 k j) := by
  unfold val_main_v47 val_main_v46 val_main_v45 val_main_v44 val_main_v43 val_main_v42 val_main_v41 val_main_v40 val_main_v39 val_main_v38 val_main_v37 val_main_v36 val_main_v35 val_main_v34 val_main_v33 val_main_cst_6 val_main_cst_7 val_main_cst_8 rms
  generalize val_main_v32 (F := Ideal) x0 x1 x2 x3 x4 x5 x6 x7 x8 = h
  pointwise

end Cert.Proof.MixRef
-- ==== Proof.Mix.Arrays.lean ====
module

public import proofs.«01_k».proof.Proof.Gen.Kernel6Ideal.Value
public import proofs.«01_k».proof.Proof.Mix.Ref
public import proofs.«01_k».proof.Proof.Post.Avg
public import Idealize.ShloMosaic.Lib.StableHlo.RunRead

/-! The merge's launch has one point, whose blocks are whole arrays: what its output arrays hold of the arguments. -/

@[expose] public section

set_option maxHeartbeats 4000000

noncomputable section

namespace Cert.Proof.MixArrays

open Cert.Kernel6Ideal Cert.Kernel6Ideal.Gen Cert.Kernel6Ideal.Value Idealize.ShloMosaic Idealize.ShloMosaic.TcCoe

variable (m : (ℓ : Loc nD τ sig) → Buf (Elt Ideal) ℓ) (c : Dev nD)

/-- The launch's point. -/
def pt : Fin cfg0.N := ⟨0, lt_of_lt_of_eq (by omega) N_0.symm⟩

/-! Where the blocks lie. -/
theorem index0 : ∀ t : Fin cfg0.N, win0_0.index t = ![0, 0] := (by decide +kernel : ∀ t : Fin grid0.N, win0_0.index t = ![0, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index8 : ∀ t : Fin cfg0.N, win0_8.index t = ![0, 0] := (by decide +kernel : ∀ t : Fin grid0.N, win0_8.index t = ![0, 0])
theorem index9 : ∀ t : Fin cfg0.N, win0_9.index t = ![0, 0] := (by decide +kernel : ∀ t : Fin grid0.N, win0_9.index t = ![0, 0])
theorem index10 : ∀ t : Fin cfg0.N, win0_10.index t = ![0, 0] := (by decide +kernel : ∀ t : Fin grid0.N, win0_10.index t = ![0, 0])
theorem index11 : ∀ t : Fin cfg0.N, win0_11.index t = ![0, 0] := (by decide +kernel : ∀ t : Fin grid0.N, win0_11.index t = ![0, 0])
theorem index12 : ∀ t : Fin cfg0.N, win0_12.index t = ![0, 0] := (by decide +kernel : ∀ t : Fin grid0.N, win0_12.index t = ![0, 0])
theorem index13 : ∀ t : Fin cfg0.N, win0_13.index t = ![0, 0] := (by decide +kernel : ∀ t : Fin grid0.N, win0_13.index t = ![0, 0])
theorem index14 : ∀ t : Fin cfg0.N, win0_14.index t = ![0, 0] := (by decide +kernel : ∀ t : Fin grid0.N, win0_14.index t = ![0, 0])
theorem index15 : ∀ t : Fin cfg0.N, win0_15.index t = ![0, 0] := (by decide +kernel : ∀ t : Fin grid0.N, win0_15.index t = ![0, 0])
theorem index16 : ∀ t : Fin cfg0.N, win0_16.index t = ![0, 0] := (by decide +kernel : ∀ t : Fin grid0.N, win0_16.index t = ![0, 0])
theorem index17 : ∀ t : Fin cfg0.N, win0_17.index t = ![0, 0] := (by decide +kernel : ∀ t : Fin grid0.N, win0_17.index t = ![0, 0])
theorem index18 : ∀ t : Fin cfg0.N, win0_18.index t = ![0, 0] := (by decide +kernel : ∀ t : Fin grid0.N, win0_18.index t = ![0, 0])
theorem index19 : ∀ t : Fin cfg0.N, win0_19.index t = ![0, 0] := (by decide +kernel : ∀ t : Fin grid0.N, win0_19.index t = ![0, 0])
theorem index20 : ∀ t : Fin cfg0.N, win0_20.index t = ![0, 0] := (by decide +kernel : ∀ t : Fin grid0.N, win0_20.index t = ![0, 0])
theorem index21 : ∀ t : Fin cfg0.N, win0_21.index t = ![0, 0] := (by decide +kernel : ∀ t : Fin grid0.N, win0_21.index t = ![0, 0])
theorem index22 : ∀ t : Fin cfg0.N, win0_22.index t = ![0, 0] := (by decide +kernel : ∀ t : Fin grid0.N, win0_22.index t = ![0, 0])
theorem flush21 : ∀ t : Fin cfg0.N, (cfg0.win 21).flush t = true := (by decide +kernel : ∀ t : Fin grid0.N, (cfg0.win 21).flush t = true)
theorem flush22 : ∀ t : Fin cfg0.N, (cfg0.win 22).flush t = true := (by decide +kernel : ∀ t : Fin grid0.N, (cfg0.win 22).flush t = true)

/-! The arguments. -/
/-- The groups' averages. -/
abbrev A0 : Vec Ideal S32x8x768 .f32 := m ((c.tc : Thread nD τ).loc main_arg0)
/-- Their scores. -/
abbrev A1 : Vec Ideal S32x8x768 .f32 := m ((c.tc : Thread nD τ).loc main_arg1)
/-- The other branch's rows. -/
abbrev A2 : Vec Ideal S32x8x1024 .f32 := m ((c.tc : Thread nD τ).loc main_arg2)
/-- The first branch's gates. -/
abbrev A3 : Vec Ideal S256x1024 .f32 := m ((c.tc : Thread nD τ).loc main_arg3)
/-- The second branch's gates. -/
abbrev A4 : Vec Ideal S256x1024 .f32 := m ((c.tc : Thread nD τ).loc main_arg4)
/-- The residual rows. -/
abbrev A5 : Vec Ideal S256x1024 .f32 := m ((c.tc : Thread nD τ).loc main_arg5)
/-- The first branch's weights. -/
abbrev A6 : Vec Ideal S256x1024 .f32 := m ((c.tc : Thread nD τ).loc main_arg6)
/-- The second branch's weights. -/
abbrev A7 : Vec Ideal S1024x1024 .f32 := m ((c.tc : Thread nD τ).loc main_arg7)
/-- The output weights. -/
abbrev A8 : Vec Ideal S1024x1024 .f32 := m ((c.tc : Thread nD τ).loc main_arg8)
/-- The normalization's gains. -/
abbrev A9 : Vec Ideal S1024 .f32 := m ((c.tc : Thread nD τ).loc main_arg9)
/-- The queries' weights. -/
abbrev A10 : Vec Ideal S1024x512 .f32 := m ((c.tc : Thread nD τ).loc main_arg10)

/-- Lane `j` of slab `i`. -/
def slab (i : Fin 6) (j : Fin 128) : Fin 768 := ⟨i.val * 128 + j.val, by omega⟩

/-! What the host computes before the launch, as the blocks hold it. -/
theorem host0 (r : Fin 256) (k : Fin 128) : (V m c main_v1 : Vec Ideal S256x128 .f32) (ix2 r k) = MixRef.flat (A0 m c) r (slab 0 k) := by
  show _ = MixRef.flat (m ((c.tc : Thread nD τ).loc main_arg0) : Vec Ideal S32x8x768 .f32) r (slab 0 k)
  rw [← V_main_arg0 m c]
  unfold V
  after_reads_simp
  unfold MixRef.flat slab
  pointwise
theorem in0 (r : Fin 256) (k : Fin 128) : (iblk m c 0 pt : Vec Ideal S256x128 .f32) (ix2 r k) = MixRef.flat (A0 m c) r (slab 0 k) := by
  refine Eq.trans ?_ (host0 m c r k)
  blk_simp [iblk]
  refine congrArg _ ?_
  blk_ext [index0]
theorem host1 (r : Fin 256) (k : Fin 128) : (V m c main_v3 : Vec Ideal S256x128 .f32) (ix2 r k) = MixRef.flat (A0 m c) r (slab 1 k) := by
  show _ = MixRef.flat (m ((c.tc : Thread nD τ).loc main_arg0) : Vec Ideal S32x8x768 .f32) r (slab 1 k)
  rw [← V_main_arg0 m c]
  unfold V
  after_reads_simp
  unfold MixRef.flat slab
  pointwise
theorem in1 (r : Fin 256) (k : Fin 128) : (iblk m c 1 pt : Vec Ideal S256x128 .f32) (ix2 r k) = MixRef.flat (A0 m c) r (slab 1 k) := by
  refine Eq.trans ?_ (host1 m c r k)
  blk_simp [iblk]
  refine congrArg _ ?_
  blk_ext [index1]
theorem host2 (r : Fin 256) (k : Fin 128) : (V m c main_v5 : Vec Ideal S256x128 .f32) (ix2 r k) = MixRef.flat (A0 m c) r (slab 2 k) := by
  show _ = MixRef.flat (m ((c.tc : Thread nD τ).loc main_arg0) : Vec Ideal S32x8x768 .f32) r (slab 2 k)
  rw [← V_main_arg0 m c]
  unfold V
  after_reads_simp
  unfold MixRef.flat slab
  pointwise
theorem in2 (r : Fin 256) (k : Fin 128) : (iblk m c 2 pt : Vec Ideal S256x128 .f32) (ix2 r k) = MixRef.flat (A0 m c) r (slab 2 k) := by
  refine Eq.trans ?_ (host2 m c r k)
  blk_simp [iblk]
  refine congrArg _ ?_
  blk_ext [index2]
theorem host3 (r : Fin 256) (k : Fin 128) : (V m c main_v7 : Vec Ideal S256x128 .f32) (ix2 r k) = MixRef.flat (A0 m c) r (slab 3 k) := by
  show _ = MixRef.flat (m ((c.tc : Thread nD τ).loc main_arg0) : Vec Ideal S32x8x768 .f32) r (slab 3 k)
  rw [← V_main_arg0 m c]
  unfold V
  after_reads_simp
  unfold MixRef.flat slab
  pointwise
theorem in3 (r : Fin 256) (k : Fin 128) : (iblk m c 3 pt : Vec Ideal S256x128 .f32) (ix2 r k) = MixRef.flat (A0 m c) r (slab 3 k) := by
  refine Eq.trans ?_ (host3 m c r k)
  blk_simp [iblk]
  refine congrArg _ ?_
  blk_ext [index3]
theorem host4 (r : Fin 256) (k : Fin 128) : (V m c main_v9 : Vec Ideal S256x128 .f32) (ix2 r k) = MixRef.flat (A0 m c) r (slab 4 k) := by
  show _ = MixRef.flat (m ((c.tc : Thread nD τ).loc main_arg0) : Vec Ideal S32x8x768 .f32) r (slab 4 k)
  rw [← V_main_arg0 m c]
  unfold V
  after_reads_simp
  unfold MixRef.flat slab
  pointwise
theorem in4 (r : Fin 256) (k : Fin 128) : (iblk m c 4 pt : Vec Ideal S256x128 .f32) (ix2 r k) = MixRef.flat (A0 m c) r (slab 4 k) := by
  refine Eq.trans ?_ (host4 m c r k)
  blk_simp [iblk]
  refine congrArg _ ?_
  blk_ext [index4]
theorem host5 (r : Fin 256) (k : Fin 128) : (V m c main_v11 : Vec Ideal S256x128 .f32) (ix2 r k) = MixRef.flat (A0 m c) r (slab 5 k) := by
  show _ = MixRef.flat (m ((c.tc : Thread nD τ).loc main_arg0) : Vec Ideal S32x8x768 .f32) r (slab 5 k)
  rw [← V_main_arg0 m c]
  unfold V
  after_reads_simp
  unfold MixRef.flat slab
  pointwise
theorem in5 (r : Fin 256) (k : Fin 128) : (iblk m c 5 pt : Vec Ideal S256x128 .f32) (ix2 r k) = MixRef.flat (A0 m c) r (slab 5 k) := by
  refine Eq.trans ?_ (host5 m c r k)
  blk_simp [iblk]
  refine congrArg _ ?_
  blk_ext [index5]
theorem host6 (r : Fin 256) (k : Fin 128) : (V m c main_v13 : Vec Ideal S256x128 .f32) (ix2 r k) = MixRef.flat (A1 m c) r (slab 0 k) := by
  show _ = MixRef.flat (m ((c.tc : Thread nD τ).loc main_arg1) : Vec Ideal S32x8x768 .f32) r (slab 0 k)
  rw [← V_main_arg1 m c]
  unfold V
  after_reads_simp
  unfold MixRef.flat slab
  pointwise
theorem in6 (r : Fin 256) (k : Fin 128) : (iblk m c 6 pt : Vec Ideal S256x128 .f32) (ix2 r k) = MixRef.flat (A1 m c) r (slab 0 k) := by
  refine Eq.trans ?_ (host6 m c r k)
  blk_simp [iblk]
  refine congrArg _ ?_
  blk_ext [index6]
theorem host7 (r : Fin 256) (k : Fin 128) : (V m c main_v15 : Vec Ideal S256x128 .f32) (ix2 r k) = MixRef.flat (A1 m c) r (slab 1 k) := by
  show _ = MixRef.flat (m ((c.tc : Thread nD τ).loc main_arg1) : Vec Ideal S32x8x768 .f32) r (slab 1 k)
  rw [← V_main_arg1 m c]
  unfold V
  after_reads_simp
  unfold MixRef.flat slab
  pointwise
theorem in7 (r : Fin 256) (k : Fin 128) : (iblk m c 7 pt : Vec Ideal S256x128 .f32) (ix2 r k) = MixRef.flat (A1 m c) r (slab 1 k) := by
  refine Eq.trans ?_ (host7 m c r k)
  blk_simp [iblk]
  refine congrArg _ ?_
  blk_ext [index7]
theorem host8 (r : Fin 256) (k : Fin 128) : (V m c main_v17 : Vec Ideal S256x128 .f32) (ix2 r k) = MixRef.flat (A1 m c) r (slab 2 k) := by
  show _ = MixRef.flat (m ((c.tc : Thread nD τ).loc main_arg1) : Vec Ideal S32x8x768 .f32) r (slab 2 k)
  rw [← V_main_arg1 m c]
  unfold V
  after_reads_simp
  unfold MixRef.flat slab
  pointwise
theorem in8 (r : Fin 256) (k : Fin 128) : (iblk m c 8 pt : Vec Ideal S256x128 .f32) (ix2 r k) = MixRef.flat (A1 m c) r (slab 2 k) := by
  refine Eq.trans ?_ (host8 m c r k)
  blk_simp [iblk]
  refine congrArg _ ?_
  blk_ext [index8]
theorem host9 (r : Fin 256) (k : Fin 128) : (V m c main_v19 : Vec Ideal S256x128 .f32) (ix2 r k) = MixRef.flat (A1 m c) r (slab 3 k) := by
  show _ = MixRef.flat (m ((c.tc : Thread nD τ).loc main_arg1) : Vec Ideal S32x8x768 .f32) r (slab 3 k)
  rw [← V_main_arg1 m c]
  unfold V
  after_reads_simp
  unfold MixRef.flat slab
  pointwise
theorem in9 (r : Fin 256) (k : Fin 128) : (iblk m c 9 pt : Vec Ideal S256x128 .f32) (ix2 r k) = MixRef.flat (A1 m c) r (slab 3 k) := by
  refine Eq.trans ?_ (host9 m c r k)
  blk_simp [iblk]
  refine congrArg _ ?_
  blk_ext [index9]
theorem host10 (r : Fin 256) (k : Fin 128) : (V m c main_v21 : Vec Ideal S256x128 .f32) (ix2 r k) = MixRef.flat (A1 m c) r (slab 4 k) := by
  show _ = MixRef.flat (m ((c.tc : Thread nD τ).loc main_arg1) : Vec Ideal S32x8x768 .f32) r (slab 4 k)
  rw [← V_main_arg1 m c]
  unfold V
  after_reads_simp
  unfold MixRef.flat slab
  pointwise
theorem in10 (r : Fin 256) (k : Fin 128) : (iblk m c 10 pt : Vec Ideal S256x128 .f32) (ix2 r k) = MixRef.flat (A1 m c) r (slab 4 k) := by
  refine Eq.trans ?_ (host10 m c r k)
  blk_simp [iblk]
  refine congrArg _ ?_
  blk_ext [index10]
theorem host11 (r : Fin 256) (k : Fin 128) : (V m c main_v23 : Vec Ideal S256x128 .f32) (ix2 r k) = MixRef.flat (A1 m c) r (slab 5 k) := by
  show _ = MixRef.flat (m ((c.tc : Thread nD τ).loc main_arg1) : Vec Ideal S32x8x768 .f32) r (slab 5 k)
  rw [← V_main_arg1 m c]
  unfold V
  after_reads_simp
  unfold MixRef.flat slab
  pointwise
theorem in11 (r : Fin 256) (k : Fin 128) : (iblk m c 11 pt : Vec Ideal S256x128 .f32) (ix2 r k) = MixRef.flat (A1 m c) r (slab 5 k) := by
  refine Eq.trans ?_ (host11 m c r k)
  blk_simp [iblk]
  refine congrArg _ ?_
  blk_ext [index11]
theorem host12 (r : Fin 256) (k : Fin 1024) : (V m c main_v25 : Vec Ideal S256x1024 .bf16) (ix2 r k) = MixRef.flat (A2 m c) r k := by
  show _ = MixRef.flat (m ((c.tc : Thread nD τ).loc main_arg2) : Vec Ideal S32x8x1024 .f32) r k
  rw [← V_main_arg2 m c]
  unfold V
  after_reads_simp
  unfold MixRef.flat
  pointwise
theorem in12 (r : Fin 256) (k : Fin 1024) : (iblk m c 12 pt : Vec Ideal S256x1024 .bf16) (ix2 r k) = MixRef.flat (A2 m c) r k := by
  refine Eq.trans ?_ (host12 m c r k)
  blk_simp [iblk]
  refine congrArg _ ?_
  blk_ext [index12]
theorem in13 (r : Fin 256) (k : Fin 1024) : (iblk m c 13 pt : Vec Ideal S256x1024 .f32) (ix2 r k) = A3 m c (ix2 r k) := by
  refine Eq.trans ?_ (congrFun (V_main_arg3 m c) (ix2 r k))
  blk_simp [iblk]
  refine congrArg _ ?_
  blk_ext [index13]
theorem in14 (r : Fin 256) (k : Fin 1024) : (iblk m c 14 pt : Vec Ideal S256x1024 .f32) (ix2 r k) = A4 m c (ix2 r k) := by
  refine Eq.trans ?_ (congrFun (V_main_arg4 m c) (ix2 r k))
  blk_simp [iblk]
  refine congrArg _ ?_
  blk_ext [index14]
theorem in15 (r : Fin 256) (k : Fin 1024) : (iblk m c 15 pt : Vec Ideal S256x1024 .f32) (ix2 r k) = A5 m c (ix2 r k) := by
  refine Eq.trans ?_ (congrFun (V_main_arg5 m c) (ix2 r k))
  blk_simp [iblk]
  refine congrArg _ ?_
  blk_ext [index15]
theorem host16 (r : Fin 256) (k : Fin 1024) : (V m c main_v26 : Vec Ideal S256x1024 .bf16) (ix2 r k) = A6 m c (ix2 r k) := by
  show _ = (m ((c.tc : Thread nD τ).loc main_arg6) : Vec Ideal S256x1024 .f32) (ix2 r k)
  rw [← V_main_arg6 m c]
  unfold V
  after_reads_simp
  rfl
theorem in16 (r : Fin 256) (k : Fin 1024) : (iblk m c 16 pt : Vec Ideal S256x1024 .bf16) (ix2 r k) = A6 m c (ix2 r k) := by
  refine Eq.trans ?_ (host16 m c r k)
  blk_simp [iblk]
  refine congrArg _ ?_
  blk_ext [index16]
theorem host17 (r : Fin 1024) (k : Fin 1024) : (V m c main_v27 : Vec Ideal S1024x1024 .bf16) (ix2 r k) = A7 m c (ix2 r k) := by
  show _ = (m ((c.tc : Thread nD τ).loc main_arg7) : Vec Ideal S1024x1024 .f32) (ix2 r k)
  rw [← V_main_arg7 m c]
  unfold V
  after_reads_simp
  rfl
theorem in17 (r : Fin 1024) (k : Fin 1024) : (iblk m c 17 pt : Vec Ideal S1024x1024 .bf16) (ix2 r k) = A7 m c (ix2 r k) := by
  refine Eq.trans ?_ (host17 m c r k)
  blk_simp [iblk]
  refine congrArg _ ?_
  blk_ext [index17]
theorem host18 (r : Fin 1024) (k : Fin 1024) : (V m c main_v28 : Vec Ideal S1024x1024 .bf16) (ix2 r k) = A8 m c (ix2 r k) := by
  show _ = (m ((c.tc : Thread nD τ).loc main_arg8) : Vec Ideal S1024x1024 .f32) (ix2 r k)
  rw [← V_main_arg8 m c]
  unfold V
  after_reads_simp
  rfl
theorem in18 (r : Fin 1024) (k : Fin 1024) : (iblk m c 18 pt : Vec Ideal S1024x1024 .bf16) (ix2 r k) = A8 m c (ix2 r k) := by
  refine Eq.trans ?_ (host18 m c r k)
  blk_simp [iblk]
  refine congrArg _ ?_
  blk_ext [index18]
theorem host20 (r : Fin 1024) (k : Fin 512) : (V m c main_v29 : Vec Ideal S1024x512 .bf16) (ix2 r k) = A10 m c (ix2 r k) := by
  show _ = (m ((c.tc : Thread nD τ).loc main_arg10) : Vec Ideal S1024x512 .f32) (ix2 r k)
  rw [← V_main_arg10 m c]
  unfold V
  after_reads_simp
  rfl
theorem in20 (r : Fin 1024) (k : Fin 512) : (iblk m c 20 pt : Vec Ideal S1024x512 .bf16) (ix2 r k) = A10 m c (ix2 r k) := by
  refine Eq.trans ?_ (host20 m c r k)
  blk_simp [iblk]
  refine congrArg _ ?_
  blk_ext [index20]
theorem host19 (r : Fin 1) (k : Fin 1024) : (V m c main_v30 : Vec Ideal S1x1024 .f32) (ix2 r k) = A9 m c (ix1 k) := by
  show _ = (m ((c.tc : Thread nD τ).loc main_arg9) : Vec Ideal S1024 .f32) (ix1 k)
  rw [← V_main_arg9 m c]
  unfold V
  after_reads_simp
  pointwise
theorem in19 (r : Fin 1) (k : Fin 1024) : (iblk m c 19 pt : Vec Ideal S1x1024 .f32) (ix2 r k) = A9 m c (ix1 k) := by
  refine Eq.trans ?_ (host19 m c r k)
  blk_simp [iblk]
  refine congrArg _ ?_
  blk_ext [index19]

/-! The lanes of a group lie in two slabs. -/
theorem slab_lo (g : Fin 3) (i : Fin 6) (hi : i.val = 2 * g.val) (k : Fin 256) (h : k.val < 128) : slab i ⟨k.val, h⟩ = MixRef.lane g k :=
  Fin.ext (by show i.val * 128 + k.val = g.val * 256 + k.val; omega)
theorem slab_hi (g : Fin 3) (i : Fin 6) (hi : i.val = 2 * g.val + 1) (k : Fin 256) (h : ¬k.val < 128) : slab i ⟨k.val - 128, by omega⟩ = MixRef.lane g k :=
  Fin.ext (by show i.val * 128 + (k.val - 128) = g.val * 256 + k.val; omega)

variable (H : ∀ i, Avg.Re (A1 m c i))
include H

/-- The body merges the groups as the reference does, where the scores are real numbers. -/
theorem merged_eq (r k : Fin 256) : MixKer.merged (iblk m c 0 pt) (iblk m c 1 pt) (iblk m c 2 pt) (iblk m c 3 pt) (iblk m c 4 pt) (iblk m c 5 pt) (iblk m c 6 pt) (iblk m c 7 pt) (iblk m c 8 pt) (iblk m c 9 pt) (iblk m c 10 pt) (iblk m c 11 pt) r k
    = Cert.Reference6Ideal.Read.val_main_v12 (F := Ideal) (A0 m c) (A1 m c) (ix2 r k) := by
  refine Eq.trans ?_ ((Avg.kav3_eq (fun g => MixRef.flat (A1 m c) r (MixRef.lane g k)) (fun g => MixRef.flat (A0 m c) r (MixRef.lane g k)) fun g => H _).trans
    (MixRef.oa (A0 m c) (A1 m c) r k).symm)
  unfold MixKer.merged
  split_ifs with h
  · rw [in0, in2, in4, in6, in8, in10, slab_lo 0 0 rfl, slab_lo 1 2 rfl, slab_lo 2 4 rfl]
  · rw [in1, in3, in5, in7, in9, in11, slab_hi 0 1 rfl k h, slab_hi 1 3 rfl k h, slab_hi 2 5 rfl k h]

/-- The body's rows are the reference's. -/
theorem h1_eq (r : Fin 256) (j : Fin 1024) : MixKer.h1 (iblk m c 0 pt) (iblk m c 1 pt) (iblk m c 2 pt) (iblk m c 3 pt) (iblk m c 4 pt) (iblk m c 5 pt) (iblk m c 6 pt) (iblk m c 7 pt) (iblk m c 8 pt) (iblk m c 9 pt) (iblk m c 10 pt) (iblk m c 11 pt) (iblk m c 12 pt) (iblk m c 13 pt) (iblk m c 14 pt) (iblk m c 15 pt) (iblk m c 16 pt) (iblk m c 17 pt) (iblk m c 18 pt) r j
    = Cert.Reference6Ideal.Read.val_main_v32 (F := Ideal) (A0 m c) (A1 m c) (A2 m c) (A3 m c) (A4 m c) (A5 m c) (A6 m c) (A7 m c) (A8 m c) (ix2 r j) :=
  (MixKer.row_congr (funext (merged_eq m c H r)) (funext (in12 m c r)) (funext (in13 m c r)) (funext (in14 m c r)) (funext (in15 m c r))
    (funext fun l => funext (in16 m c l)) (funext fun l => funext (in17 m c l)) (funext fun l => funext (in18 m c l)) j).trans
    (MixRef.h1 (A0 m c) (A1 m c) (A2 m c) (A3 m c) (A4 m c) (A5 m c) (A6 m c) (A7 m c) (A8 m c) r j).symm

/-! The arrays written. -/
theorem arr21 (r : Fin 256) (j : Fin 1024) : ((dats m 0 c).arrAt 21 cfg0.N : Vec Ideal S256x1024 .f32) (ix2 r j)
    = Cert.Reference6Ideal.Read.val_main_v32 (F := Ideal) (A0 m c) (A1 m c) (A2 m c) (A3 m c) (A4 m c) (A5 m c) (A6 m c) (A7 m c) (A8 m c) (ix2 r j) := by
  have h := congrFun (blocks21 m c pt (flush21 _)) (ix2 r j)
  rw [flushed21] at h
  refine Eq.trans ?_ (h.trans ?_)
  · blk_simp
    refine congrArg _ ?_
    blk_ext [index21]
  · refine Eq.trans ?_ ((MixKer.out21 (iblk m c 0 pt) (iblk m c 1 pt) (iblk m c 2 pt) (iblk m c 3 pt) (iblk m c 4 pt) (iblk m c 5 pt) (iblk m c 6 pt) (iblk m c 7 pt) (iblk m c 8 pt) (iblk m c 9 pt) (iblk m c 10 pt) (iblk m c 11 pt) (iblk m c 12 pt) (iblk m c 13 pt) (iblk m c 14 pt) (iblk m c 15 pt) (iblk m c 16 pt) (iblk m c 17 pt) (iblk m c 18 pt) (iblk m c 19 pt) (iblk m c 20 pt) r j).trans (h1_eq m c H r j))
    rfl

theorem arr22 (r : Fin 256) (j : Fin 512) : ((dats m 0 c).arrAt 22 cfg0.N : Vec Ideal S256x512 .bf16) (ix2 r j)
    = Cert.Reference6Ideal.Read.val_main_v47 (F := Ideal) (A0 m c) (A1 m c) (A2 m c) (A3 m c) (A4 m c) (A5 m c) (A6 m c) (A7 m c) (A8 m c) (A9 m c) (A10 m c) (ix2 r j) := by
  have h := congrFun (blocks22 m c pt (flush22 _)) (ix2 r j)
  rw [flushed22] at h
  refine Eq.trans ?_ (h.trans ?_)
  · blk_simp
    refine congrArg _ ?_
    blk_ext [index22]
  · refine Eq.trans ?_ ((MixKer.out22 (iblk m c 0 pt) (iblk m c 1 pt) (iblk m c 2 pt) (iblk m c 3 pt) (iblk m c 4 pt) (iblk m c 5 pt) (iblk m c 6 pt) (iblk m c 7 pt) (iblk m c 8 pt) (iblk m c 9 pt) (iblk m c 10 pt) (iblk m c 11 pt) (iblk m c 12 pt) (iblk m c 13 pt) (iblk m c 14 pt) (iblk m c 15 pt) (iblk m c 16 pt) (iblk m c 17 pt) (iblk m c 18 pt) (iblk m c 19 pt) (iblk m c 20 pt) r j).trans (Eq.trans ?_
      (MixRef.q (A0 m c) (A1 m c) (A2 m c) (A3 m c) (A4 m c) (A5 m c) (A6 m c) (A7 m c) (A8 m c) (A9 m c) (A10 m c) r j).symm))
    · rfl
    · exact Finset.sum_congr rfl fun k _ => congr (congrArg (· * ·) (congrFun (congr (congrArg Ker.rms (funext (h1_eq m c H r))) (funext (in19 m c 0))) k)) (in20 m c k j)

end Cert.Proof.MixArrays
-- ==== Proof.Mix.Equal.lean ====
module

public import proofs.«01_k».proof.Defs
public import proofs.«01_k».proof.Proof.Finite
public import proofs.«01_k».proof.Proof.Mix.Arrays
public import proofs.«01_k».proof.Proof.Proj.Equal
public import proofs.«01_k».proof.Proof.Gen.Pre_finite6
public import proofs.«01_k».proof.Proof.Gen.Kernel6Ideal.Value
public import proofs.«01_k».proof.Proof.Gen.Reference6Ideal.Run
public import Idealize.ShloMosaic.Lib.Quiescent

/-! The launch of the merge and its reference end with equal arrays, where the scores are real numbers. -/

@[expose] public section

set_option maxHeartbeats 4000000

noncomputable section

namespace Cert.Proof.MixEqual

open Idealize.ShloMosaic Idealize.SL.Sem

/-- The reference uses no semaphore, and writes none of its arguments. -/
theorem reference6_frame : Cert.quiescent_Reference6Ideal := fun m ρ _ =>
  (θ_run _ _ _).mono (fun r h => ⟨fun c => (h c).2.2, sem_eq_zero_of_no_sems (by decide) r.2⟩) (Cert.Reference6Ideal.Value.run (F := Ideal) m ρ)

section
open Cert.Pre_finite6
variable [Cert.Pre_finite6.Facts] (x0 x1 : FVec Ideal S32x8x768 .f32) (x2 : FVec Ideal S32x8x1024 .f32) (x3 x4 x5 x6 : FVec Ideal S256x1024 .f32)
  (x7 x8 : FVec Ideal S1024x1024 .f32) (x9 : FVec Ideal S1024 .f32) (x10 : FVec Ideal S1024x512 .f32)

/-- What the precondition says: the scores are real numbers. -/
theorem scores (h : Cert.Pre_finite6.fn (F := Ideal) x0 x1 x2 x3 x4 x5 x6 x7 x8 x9 x10 = fun _ => 1#1) (i : S32x8x768.Idx) : Avg.Re (x1 i) := by
  have h0 := congrFun h ix0
  unfold Cert.Pre_finite6.fn at h0
  obtain ⟨s, hs⟩ := Finite.all_real _ _ _ _ _ h0
  exact ⟨s i, hs i⟩
end

open Cert.Kernel6Ideal.Gen Cert.Reference6Ideal.Read MixArrays in
theorem equal6 : Cert.algebraic_Kernel6Ideal_Reference6Ideal_pre_finite6 := by
  intro m g m' g' hp ha
  refine ⟨fun c => val_main_v32 (F := Ideal) (A0 m c) (A1 m c) (A2 m c) (A3 m c) (A4 m c) (A5 m c) (A6 m c) (A7 m c) (A8 m c),
    fun c => val_main_v47 (F := Ideal) (A0 m c) (A1 m c) (A2 m c) (A3 m c) (A4 m c) (A5 m c) (A6 m c) (A7 m c) (A8 m c) (A9 m c) (A10 m c), ?_, ?_⟩
  · refine (θ_run _ _ _).mono (fun r h c => ?_) (Cert.Kernel6Ideal.Value.run_blocks (F := Ideal) m g)
    obtain ⟨h0, h1, hk⟩ := h c
    have H := scores _ _ _ _ _ _ _ _ _ _ _ (hp c)
    exact ⟨h0.trans (ProjEqual.ext2 (arr21 m c H)), h1.trans (ProjEqual.ext2 (arr22 m c H)), hk⟩
  · refine (θ_run _ _ _).mono (fun r h c => ?_) (Cert.Reference6Ideal.Value.run (F := Ideal) m' g')
    obtain ⟨h0, h1, hk⟩ := h c
    obtain ⟨e0, e1, e2, e3, e4, e5, e6, e7, e8, e9, e10⟩ := ha c
    have f0 := h0.trans (val_main_v32_eq _ _ _ _ _ _ _ _ _)
    have f1 := h1.trans (val_main_v47_eq m' c)
    rw [e0, e1, e2, e3, e4, e5, e6, e7, e8] at f0
    rw [e0, e1, e2, e3, e4, e5, e6, e7, e8, e9, e10] at f1
    exact ⟨f0, f1, hk⟩

end Cert.Proof.MixEqual

end
-- ==== Proof.Attn.Ker.lean ====
module

public import proofs.«01_k».proof.Proof.Gen.Kernel7Ideal.Skeleton
public import proofs.«01_k».proof.Proof.Post.Ker
public import Idealize.ShloMosaic.Lib.Pointwise

/-! One sequence's part of the step's memory attention: four heads side by side, each read at an index. The body computes
    the same for each of its eight sequences. -/

@[expose] public section

set_option maxHeartbeats 4000000

noncomputable section

namespace Cert.Proof.AttnKer

open Cert.Kernel7Ideal Cert.Kernel7Ideal.Gen Idealize.ShloMosaic Idealize.ShloMosaic.TcCoe
open Cert.Proof.Ker (num score wt side side_eq)

variable (q : Vec Ideal S1x8x512 .bf16) (k0 k1 k2 k3 v0 v1 v2 v3 : Vec Ideal S256x128 .f32)

theorem score0 (r : Fin 8) (c : Fin 256) : k0_pay10 q k0 (ix2 r c) = score (fun k => q (ix3 0 r k)) 0 (fun d => k0 (ix2 c d)) := by
  unfold k0_pay10 k0_pay2 score
  pointwise
theorem score1 (r : Fin 8) (c : Fin 256) : k0_pay12 (k0_pay11 q) k1 (ix2 r c) = score (fun k => q (ix3 0 r k)) 1 (fun d => k1 (ix2 c d)) := by
  unfold k0_pay12 k0_pay11 k0_pay2 score
  pointwise
theorem score2 (r : Fin 8) (c : Fin 256) : k0_pay13 (k0_pay2 q) k2 (ix2 r c) = score (fun k => q (ix3 0 r k)) 2 (fun d => k2 (ix2 c d)) := by
  unfold k0_pay13 k0_pay2 score
  pointwise
theorem score3 (r : Fin 8) (c : Fin 256) : k0_pay14 (k0_pay2 q) k3 (ix2 r c) = score (fun k => q (ix3 0 r k)) 3 (fun d => k3 (ix2 c d)) := by
  unfold k0_pay14 k0_pay2 score
  pointwise

/-- A head's rows, from its scores. -/
theorem head (s : FVec Ideal S8x256 .f32) (v : Vec Ideal S256x128 .f32) (r : Fin 8) (d : Fin 128) : k0_pay88 (k0_pay53 s) v (ix2 r d)
    = Ideal.div (∑ c : Fin 256, wt (fun c => s (ix2 r c)) c * v (ix2 c d)) (∑ c : Fin 256, wt (fun c => s (ix2 r c)) c) := by
  unfold k0_pay88 k0_pay53 wt
  pointwise

theorem beside (a0 a1 a2 a3 : FVec Ideal S8x128 .f32) (r : Fin 8) (l : Fin 512) : k0_pay134 a0 a1 a2 a3 (ix3 0 r l)
    = side (fun d => a0 (ix2 r d)) (fun d => a1 (ix2 r d)) (fun d => a2 (ix2 r d)) (fun d => a3 (ix2 r d)) l := by
  unfold k0_pay134 side
  pointwise

/-- The rows of one sequence. -/
def block : FVec Ideal S1x8x512 .f32 :=
  k0_pay134 (k0_pay88 (k0_pay53 (k0_pay10 q k0)) v0) (k0_pay88 (k0_pay53 (k0_pay12 (k0_pay11 q) k1)) v1)
    (k0_pay88 (k0_pay53 (k0_pay13 (k0_pay2 q) k2)) v2) (k0_pay88 (k0_pay53 (k0_pay14 (k0_pay2 q) k3)) v3)

/-- A row's weighted average of the values, head by head, its weights' sum divided out at the end. -/
def att (q : Fin 512 → EReal) (k v : Fin 4 → Fin 256 → Fin 128 → EReal) (h : Fin 4) (d : Fin 128) : EReal :=
  Ideal.div (∑ c : Fin 256, wt (fun c => score q h (k h c)) c * v h c d) (∑ c : Fin 256, wt (fun c => score q h (k h c)) c)

theorem block_eq (k v : Fin 4 → Vec Ideal S256x128 .f32) (r : Fin 8) (l : Fin 512) : block q (k 0) (k 1) (k 2) (k 3) (v 0) (v 1) (v 2) (v 3) (ix3 0 r l)
    = att (fun j => q (ix3 0 r j)) (fun h c d => k h (ix2 c d)) (fun h c d => v h (ix2 c d)) ⟨l.val / 128, by omega⟩ ⟨l.val % 128, by omega⟩ := by
  rw [← side_eq (att (fun j => q (ix3 0 r j)) (fun h c d => k h (ix2 c d)) (fun h c d => v h (ix2 c d)))]
  unfold block
  rw [beside]
  simp only [head, score0, score1, score2, score3]
  rfl

end Cert.Proof.AttnKer
-- ==== Proof.Attn.Body.lean ====
module

public import proofs.«01_k».proof.Proof.Gen.Kernel7Ideal.Value
public import proofs.«01_k».proof.Proof.Attn.Ker
public import Idealize.ShloMosaic.Lib.Pipeline.ValueKit.Tiles

/-! What the body of the step's memory attention leaves in its output: each sequence's rows. -/

@[expose] public section

set_option maxHeartbeats 4000000

noncomputable section

namespace Cert.Proof.AttnBody

open Cert.Kernel7Ideal Cert.Kernel7Ideal.Gen Idealize.ShloMosaic Idealize.ShloMosaic.TcCoe Cert.Proof.AttnKer

/-- The queries of a sequence of the block. -/
def qs (x : Vec Ideal S8x8x512 .bf16) (b : Fin 8) : Vec Ideal S1x8x512 .bf16 := fun i => x (ix3 b (i 1) (i 2))

/-- A head's keys or values of a sequence of the block: every fourth row. -/
def kv (x : Vec Ideal S8x1024x128 .f32) (b : Fin 8) (h : Fin 4) : Vec Ideal S256x128 .f32 :=
  fun i => x (ix3 b ⟨(i 0).val * 4 + h.val, by have : (i 0).val < 256 := (i 0).isLt; omega⟩ (i 1))

/-- A load of one sequence's queries. -/
theorem load0 (v : View sig .tc .vmem S8x8x512 .bf16) (f : v.ty.Contents (Elt Ideal)) (b : ℕ) (inb : ∀ a, (![b, 0, 0] : Fin 3 → ℕ) a + (![1, 8, 512] : Fin 3 → ℕ) a ≤ S8x8x512.size a) :
    v.readAt (Elt Ideal) (Rect.unit (s := S8x8x512) ![b, 0, 0] ![1, 8, 512] inb).toLoadRect f = qs (v.read (Elt Ideal) f) ⟨b, Nat.lt_of_succ_le (inb 0)⟩ := by
  funext i
  show v.read (Elt Ideal) f _ = v.read (Elt Ideal) f _
  refine congrArg _ ?_
  have h0 : (i 0).val < 1 := (i 0).isLt
  funext a
  match a with
  | ⟨0, _⟩ => exact Fin.ext (by show b + 1 * (i 0).val = b; omega)
  | ⟨1, _⟩ => exact Fin.ext (by show 0 + 1 * (i 1).val = (i 1).val; omega)
  | ⟨2, _⟩ => exact Fin.ext (by show 0 + 1 * (i 2).val = (i 2).val; omega)

/-- A load of every fourth row of one sequence. -/
theorem load1 (v : View sig .tc .vmem S8x1024x128 .f32) (f : v.ty.Contents (Elt Ideal)) (b h : ℕ)
    (inb : ∀ a, (![b, 0, 0] : Fin 3 → ℕ) a + (![1, 1024, 128] : Fin 3 → ℕ) a ≤ S8x1024x128.size a) (hn : S1024x128.numel = (Rect.unit (s := S8x1024x128) ![b, 0, 0] ![1, 1024, 128] inb).shape.numel)
    (inb2 : ∀ a, (![256, 128] : Fin 2 → ℕ) a = 0 ∨ (![h, 0] : Fin 2 → ℕ) a + (![4, 1] : Fin 2 → ℕ) a * ((![256, 128] : Fin 2 → ℕ) a - 1) < S1024x128.size a) :
    ((v.slice (Rect.unit (s := S8x1024x128) ![b, 0, 0] ![1, 1024, 128] inb)).reshape S1024x128 hn).readAt (Elt Ideal)
        (⟨![h, 0], ![256, 128], ![4, 1], inb2⟩ : LoadRect S1024x128) f
      = kv (v.read (Elt Ideal) f) ⟨b, Nat.lt_of_succ_le (inb 0)⟩ ⟨h, by have : 256 = 0 ∨ h + 4 * (256 - 1) < 1024 := inb2 0; omega⟩ := by
  funext i
  show v.read (Elt Ideal) f ((Rect.unit (s := S8x1024x128) ![b, 0, 0] ![1, 1024, 128] inb).emb (Shape.reshapeEquiv hn _)) = v.read (Elt Ideal) f _
  refine congrArg _ ?_
  rw [Shape.reshapeEquiv_cons_one]
  funext a
  match a with
  | ⟨0, _⟩ => exact Fin.ext (by show b + 1 * 0 = b; omega)
  | ⟨1, _⟩ => exact Fin.ext (by show 0 + 1 * (h + 4 * (i 0).val) = (i 0).val * 4 + h; omega)
  | ⟨2, _⟩ => exact Fin.ext (by show 0 + 1 * (0 + 1 * (i 1).val) = (i 1).val; omega)

/-- One sequence's rows of the block: where they hold an index they have the value wanted. -/
theorem tile3 (b : ℕ) (k r : Fin 8) (l : Fin 512) (w : S1x8x512.Idx → EReal) (v : EReal) (h : k.val = b → w (ix3 0 r l) = v) :
    View.TileAt (Val := Elt Ideal) (e := .f32) (S := S8x8x512) (ix3 k r l) ![b, 0, 0] ![1, 8, 512] w v := by
  intro x hx
  have hb : (x 0).val < 1 := (x 0).isLt
  have h0 : k.val = b + (x 0).val := hx 0
  have h1 : r.val = 0 + (x 1).val := hx 1
  have h2 : l.val = 0 + (x 2).val := hx 2
  have e : x = ix3 0 r l := by
    funext a
    match a with
    | ⟨0, _⟩ => exact Fin.ext (by show (x 0).val = 0; omega)
    | ⟨1, _⟩ => exact Fin.ext (by show (x 1).val = r.val; omega)
    | ⟨2, _⟩ => exact Fin.ext (by show (x 2).val = l.val; omega)
  rw [e]
  exact h (by omega)

variable (x0 : Vec Ideal S8x8x512 .bf16) (x1 x2 : Vec Ideal S8x1024x128 .f32)

/-- The rows of one sequence, of the blocks read. -/
def part (b : Fin 8) : FVec Ideal S1x8x512 .f32 :=
  block (qs x0 b) (kv x1 b 0) (kv x1 b 1) (kv x1 b 2) (kv x1 b 3) (kv x2 b 0) (kv x2 b 1) (kv x2 b 2) (kv x2 b 3)

variable (m : (ℓ : Loc nD τ sig) → Buf (Elt Ideal) ℓ) (c : Dev nD)

theorem out3 (t : Fin cfg0.N) (k r : Fin 8) (l : Fin 512) :
    outsAt0 m c t (ix3 k r l) = part (iblk m c 0 t) (iblk m c 1 t) (iblk m c 2 t) k (ix3 0 r l) := by
  have hc := cover0_A_3 (F := Ideal) c (grid0.coords t) (ms0_0 t) (hs0_0 t) (ms0_1 t) (hs0_1 t) (ms0_2 t) (hs0_2 t) (ms0_3 t) (hs0_3 t) (iblk m c 0 t) (iblk m c 1 t) (iblk m c 2 t) (ix3 k r l)
  unfold outsAt0 out0_A_3
  rw [View.read_writes_junk_eq_canon]
  refine View.canon_eq_of_allAt _ _ _ hc ?_
  clear hc
  unfold kernelRun0_A
  sl_unfold_run_names
  try simp only [View.readCov]
  simp only [load0, load1, Memref.IsWhole.read_unread]
  refine View.allAt_cons_unit _ _ _ _ _ (tile3 7 k r l _ _ fun h => ?_) (View.allAt_cons_unit _ _ _ _ _ (tile3 6 k r l _ _ fun h => ?_)
    (View.allAt_cons_unit _ _ _ _ _ (tile3 5 k r l _ _ fun h => ?_) (View.allAt_cons_unit _ _ _ _ _ (tile3 4 k r l _ _ fun h => ?_)
    (View.allAt_cons_unit _ _ _ _ _ (tile3 3 k r l _ _ fun h => ?_) (View.allAt_cons_unit _ _ _ _ _ (tile3 2 k r l _ _ fun h => ?_)
    (View.allAt_cons_unit _ _ _ _ _ (tile3 1 k r l _ _ fun h => ?_) (View.allAt_cons_unit _ _ _ _ _ (tile3 0 k r l _ _ fun h => ?_) (View.allAt_nil _ _))))))))
  all_goals
    obtain ⟨k, hk⟩ := k
    dsimp only at h
    subst h
    exact congrFun (g := part (iblk m c 0 t) (iblk m c 1 t) (iblk m c 2 t) ⟨_, hk⟩) rfl (ix3 0 r l)

end Cert.Proof.AttnBody
-- ==== Proof.Attn.Ref.lean ====
module

public import proofs.«01_k».proof.Proof.Gen.Reference7Ideal.Read
public import proofs.«01_k».proof.Proof.Post.Ker
public import proofs.«01_k».proof.Proof.Post.RefPost

/-! The reference of the step's memory attention over the extended reals, read at an index. -/

@[expose] public section

set_option maxHeartbeats 4000000

noncomputable section

namespace Cert.Proof.AttnRef

open Cert.Reference7Ideal Cert.Reference7Ideal.Gen Cert.Reference7Ideal.Read Idealize.ShloMosaic Idealize.ShloMosaic.TcCoe Cert.Proof.RefPost
open Cert.Proof.Ker (num score)

variable (x0 : FVec Ideal S256x512 .bf16) (x1 x2 : FVec Ideal S32x256x4x128 .f32)

/-- The queries of step `r` of sequence `b`. -/
def query (b : Fin 32) (r : Fin 8) (k : Fin 512) : EReal := x0 (ix2 ⟨b.val * 8 + r.val, by omega⟩ k)

/-- The scores. -/
def scores (b : Fin 32) (r : Fin 8) (h : Fin 4) (c : Fin 256) : EReal := score (query x0 b r) h (fun d => x1 (ix4 b c h d))

theorem s (b : Fin 32) (r : Fin 8) (h : Fin 4) (c : Fin 256) : val_main_v4 (F := Ideal) x0 x1 (ix4 b h r c) = scores x0 x1 b r h c := by
  unfold val_main_v4 val_main_v3 val_main_v2 val_main_v1 val_main_v0 val_main_cst scores score query
  pointwise

/-- The attention's rows. -/
theorem om (b : Fin 32) (r : Fin 8) (k : Fin 512) : val_main_v16 (F := Ideal) x0 x1 x2 (ix3 b r k)
    = ∑ c : Fin 256, x2 (ix4 b c ⟨k.val / 128, by omega⟩ ⟨k.val % 128, by omega⟩) * rwt (scores x0 x1 b r ⟨k.val / 128, by omega⟩) c := by
  rw [← funext (s x0 x1 b r ⟨k.val / 128, by omega⟩)]
  unfold val_main_v16 val_main_v15 val_main_v14 val_main_v13 val_main_v12 val_main_v11 val_main_v10 val_main_v9 val_main_v8 val_main_v7 val_main_v6 val_main_v5 val_main_cst_0 val_main_cst_1 rwt
  generalize val_main_v4 (F := Ideal) x0 x1 = y
  pointwise

end Cert.Proof.AttnRef
-- ==== Proof.Attn.Arrays.lean ====
module

public import proofs.«01_k».proof.Proof.Attn.Body
public import proofs.«01_k».proof.Proof.Attn.Ref
public import proofs.«01_k».proof.Proof.Post.Avg
public import Idealize.ShloMosaic.Lib.Pipeline.ValueKit
public import Idealize.ShloMosaic.Lib.StableHlo.RunRead

/-! The step's memory attention has four points, each of eight sequences: what its output array holds of the arguments. -/

@[expose] public section

set_option maxHeartbeats 4000000

noncomputable section

namespace Cert.Proof.AttnArrays

open Cert.Kernel7Ideal Cert.Kernel7Ideal.Gen Cert.Kernel7Ideal.Value Idealize.ShloMosaic Idealize.ShloMosaic.TcCoe
open Cert.Proof.AttnRef (query)
open Cert.Proof.AttnBody (qs kv part out3)

variable (m : (ℓ : Loc nD τ sig) → Buf (Elt Ideal) ℓ) (c : Dev nD)

/-- The point of sequence `b`. -/
def pt (b : Fin 32) : Fin cfg0.N := ⟨b.val / 8, lt_of_lt_of_eq (by omega) N_0.symm⟩
/-- Its place in the point's block. -/
def place (b : Fin 32) : Fin 8 := ⟨b.val % 8, by omega⟩
/-- The row of position `p` and head `h` in a sequence's block of keys or values. -/
def prow (p : Fin 256) (h : Fin 4) : Fin 1024 := ⟨p.val * 4 + h.val, by omega⟩

/-! Where the blocks lie. -/
theorem index0 : ∀ t : Fin cfg0.N, win0_0.index t = ![t.val, 0, 0] := (by decide +kernel : ∀ t : Fin grid0.N, win0_0.index t = ![t.val, 0, 0])
theorem index1 : ∀ t : Fin cfg0.N, win0_1.index t = ![t.val, 0, 0] := (by decide +kernel : ∀ t : Fin grid0.N, win0_1.index t = ![t.val, 0, 0])
theorem index2 : ∀ t : Fin cfg0.N, win0_2.index t = ![t.val, 0, 0] := (by decide +kernel : ∀ t : Fin grid0.N, win0_2.index t = ![t.val, 0, 0])
theorem index3 : ∀ t : Fin cfg0.N, win0_3.index t = ![t.val, 0, 0] := (by decide +kernel : ∀ t : Fin grid0.N, win0_3.index t = ![t.val, 0, 0])
theorem flush3 : ∀ t : Fin cfg0.N, (cfg0.win 3).flush t = true := (by decide +kernel : ∀ t : Fin grid0.N, (cfg0.win 3).flush t = true)

/-! The arguments. -/
/-- The queries. -/
abbrev A0 : Vec Ideal S256x512 .bf16 := m ((c.tc : Thread nD τ).loc main_arg0)
/-- The memory's keys. -/
abbrev A1 : Vec Ideal S32x256x4x128 .f32 := m ((c.tc : Thread nD τ).loc main_arg1)
/-- The memory's values. -/
abbrev A2 : Vec Ideal S32x256x4x128 .f32 := m ((c.tc : Thread nD τ).loc main_arg2)

/-! The arrays as the launch takes them. -/
theorem host0 (b : Fin 32) (r : Fin 8) (j : Fin 512) : (V m c main_v0 : Vec Ideal S32x8x512 .bf16) (ix3 b r j) = query (A0 m c) b r j := by
  unfold query
  show _ = (m ((c.tc : Thread nD τ).loc main_arg0) : Vec Ideal S256x512 .bf16) (ix2 _ j)
  rw [← V_main_arg0 m c]
  unfold V
  after_reads_simp
  pointwise
theorem host1 (b : Fin 32) (p : Fin 256) (h : Fin 4) (d : Fin 128) : (V m c main_v1 : Vec Ideal S32x1024x128 .f32) (ix3 b (prow p h) d) = A1 m c (ix4 b p h d) := by
  unfold prow
  show _ = (m ((c.tc : Thread nD τ).loc main_arg1) : Vec Ideal S32x256x4x128 .f32) (ix4 b p h d)
  rw [← V_main_arg1 m c]
  unfold V
  after_reads_simp
  pointwise
theorem host2 (b : Fin 32) (p : Fin 256) (h : Fin 4) (d : Fin 128) : (V m c main_v2 : Vec Ideal S32x1024x128 .f32) (ix3 b (prow p h) d) = A2 m c (ix4 b p h d) := by
  unfold prow
  show _ = (m ((c.tc : Thread nD τ).loc main_arg2) : Vec Ideal S32x256x4x128 .f32) (ix4 b p h d)
  rw [← V_main_arg2 m c]
  unfold V
  after_reads_simp
  pointwise

/-! The blocks read. -/
theorem in0 (b : Fin 32) (r : Fin 8) (j : Fin 512) : iblk m c 0 (pt b) (ix3 (place b) r j) = query (A0 m c) b r j := by
  refine Eq.trans ?_ (host0 m c b r j)
  blk_simp [iblk]
  refine congrArg _ ?_
  blk_ext [index0, pt, place]
theorem in1 (b : Fin 32) (p : Fin 256) (h : Fin 4) (d : Fin 128) : iblk m c 1 (pt b) (ix3 (place b) (prow p h) d) = A1 m c (ix4 b p h d) := by
  refine Eq.trans ?_ (host1 m c b p h d)
  blk_simp [iblk]
  refine congrArg _ ?_
  blk_ext [index1, pt, place]
theorem in2 (b : Fin 32) (p : Fin 256) (h : Fin 4) (d : Fin 128) : iblk m c 2 (pt b) (ix3 (place b) (prow p h) d) = A2 m c (ix4 b p h d) := by
  refine Eq.trans ?_ (host2 m c b p h d)
  blk_simp [iblk]
  refine congrArg _ ?_
  blk_ext [index2, pt, place]

/-- A sequence's rows are the reference's, for real queries and keys. -/
theorem rows (hq : ∀ i, Avg.Re (A0 m c i)) (hk : ∀ i, Avg.Re (A1 m c i)) (b : Fin 32) (r : Fin 8) (l : Fin 512) :
    part (iblk m c 0 (pt b)) (iblk m c 1 (pt b)) (iblk m c 2 (pt b)) (place b) (ix3 0 r l)
      = Cert.Reference7Ideal.Read.val_main_v16 (F := Ideal) (A0 m c) (A1 m c) (A2 m c) (ix3 b r l) := by
  have e0 : (fun j => qs (iblk m c 0 (pt b)) (place b) (ix3 0 r j)) = query (A0 m c) b r := funext fun j => in0 m c b r j
  have e1 : (fun (h : Fin 4) (p : Fin 256) (d : Fin 128) => kv (iblk m c 1 (pt b)) (place b) h (ix2 p d)) = fun h p d => A1 m c (ix4 b p h d) :=
    funext fun h => funext fun p => funext fun d => in1 m c b p h d
  have e2 : (fun (h : Fin 4) (p : Fin 256) (d : Fin 128) => kv (iblk m c 2 (pt b)) (place b) h (ix2 p d)) = fun h p d => A2 m c (ix4 b p h d) :=
    funext fun h => funext fun p => funext fun d => in2 m c b p h d
  unfold part
  refine (AttnKer.block_eq (qs (iblk m c 0 (pt b)) (place b)) (kv (iblk m c 1 (pt b)) (place b)) (kv (iblk m c 2 (pt b)) (place b)) r l).trans ?_
  rw [e0, e1, e2, AttnRef.om]
  unfold AttnKer.att AttnRef.scores
  exact Avg.wt_eq _ _ fun p => Avg.Re.score (fun j => hq _) (fun d => hk _) _

/-- The output array. -/
theorem arr3 (hq : ∀ i, Avg.Re (A0 m c i)) (hk : ∀ i, Avg.Re (A1 m c i)) (b : Fin 32) (r : Fin 8) (l : Fin 512) :
    ((dats m 0 c).arrAt 3 cfg0.N : Vec Ideal S32x8x512 .f32) (ix3 b r l)
      = Cert.Reference7Ideal.Read.val_main_v16 (F := Ideal) (A0 m c) (A1 m c) (A2 m c) (ix3 b r l) := by
  have e := congrFun (blocks3 m c (pt b) (flush3 _)) (ix3 (place b) r l)
  rw [flushed3] at e
  refine Eq.trans ?_ (e.trans ?_)
  · blk_simp
    refine congrArg _ ?_
    blk_ext [index3, pt, place]
  · refine Eq.trans ?_ ((out3 m c (pt b) (place b) r l).trans (rows m c hq hk b r l))
    rfl

end Cert.Proof.AttnArrays

end
-- ==== Proof.Attn.Equal.lean ====
module

public import proofs.«01_k».proof.Defs
public import proofs.«01_k».proof.Proof.Finite
public import proofs.«01_k».proof.Proof.Attn.Arrays
public import proofs.«01_k».proof.Proof.Gen.Pre_finite7
public import proofs.«01_k».proof.Proof.Gen.Kernel7Ideal.Value
public import proofs.«01_k».proof.Proof.Gen.Reference7Ideal.Run
public import Idealize.ShloMosaic.Lib.Quiescent

/-! The launch of the step's memory attention and its reference end with equal arrays, where the queries and the keys are
    real numbers. -/

@[expose] public section

set_option maxHeartbeats 4000000

noncomputable section

namespace Cert.Proof.AttnEqual

open Idealize.ShloMosaic Idealize.SL.Sem

/-- The reference uses no semaphore, and writes none of its arguments. -/
theorem reference7_frame : Cert.quiescent_Reference7Ideal := fun m ρ _ =>
  (θ_run _ _ _).mono (fun r h => ⟨fun c => (h c).2, sem_eq_zero_of_no_sems (by decide) r.2⟩) (Cert.Reference7Ideal.Value.run (F := Ideal) m ρ)

section
open Cert.Pre_finite7
variable [Cert.Pre_finite7.Facts] (x0 : FVec Ideal S256x512 .bf16) (x1 x2 : FVec Ideal S32x256x4x128 .f32)

/-- What the precondition says: the queries and the keys are real numbers. -/
theorem reals (h : Cert.Pre_finite7.fn (F := Ideal) x0 x1 x2 = fun _ => 1#1) : (∀ i, Avg.Re (x0 i)) ∧ ∀ i, Avg.Re (x1 i) := by
  have h0 := congrFun h ix0
  unfold Cert.Pre_finite7.fn at h0
  obtain ⟨h0, h1⟩ := IntOp.andi_eq_one.1 h0
  obtain ⟨s, hs⟩ := Finite.all_real (x0 : FVec Ideal S256x512 .f32) _ _ _ _ h0
  obtain ⟨k, hk⟩ := Finite.all_real _ _ _ _ _ h1
  exact ⟨fun i => ⟨s i, hs i⟩, fun i => ⟨k i, hk i⟩⟩
end

/-- Arrays of three axes that agree at each index are equal. -/
theorem ext3 {a b c : ℕ} {f g : (⟨3, ![a, b, c]⟩ : Shape).Idx → EReal} (h : ∀ (i : Fin a) (j : Fin b) (k : Fin c), f (ix3 i j k) = g (ix3 i j k)) : f = g := by
  funext i
  have e : i = ix3 (i 0) (i 1) (i 2) := by
    funext k
    match k with
    | ⟨0, _⟩ => rfl
    | ⟨1, _⟩ => rfl
    | ⟨2, _⟩ => rfl
  rw [e]
  exact h _ _ _

open Cert.Kernel7Ideal.Gen Cert.Reference7Ideal.Read AttnArrays in
theorem equal7 : Cert.algebraic_Kernel7Ideal_Reference7Ideal_pre_finite7 := by
  intro m g m' g' hp ha
  refine ⟨fun c => val_main_v16 (F := Ideal) (A0 m c) (A1 m c) (A2 m c), ?_, ?_⟩
  · refine (θ_run _ _ _).mono (fun r h c => ?_) (Cert.Kernel7Ideal.Value.run_blocks (F := Ideal) m g)
    obtain ⟨h0, hk⟩ := h c
    obtain ⟨Q, K⟩ := reals _ _ _ (hp c)
    exact ⟨h0.trans (ext3 (arr3 m c Q K)), hk⟩
  · refine (θ_run _ _ _).mono (fun r h c => ?_) (Cert.Reference7Ideal.Value.run (F := Ideal) m' g')
    obtain ⟨h0, hk⟩ := h c
    obtain ⟨e0, e1, e2⟩ := ha c
    have f0 := h0.trans (val_main_v16_eq _ _ _)
    rw [e0, e1, e2] at f0
    exact ⟨f0, hk⟩

end Cert.Proof.AttnEqual

end
-- ==== Proof.lean ====
/- The frames and the algebraic claims of the decode step's dilated attention and projection, of the layer's last stage and of the
memory's keys and values, assembled. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.On_rows_real
public import Idealize.ShloMosaic.Adequacy
public import Idealize.ShloMosaic.Init

public import proofs.«01_k».proof.Proof.Gen.KernelIdeal.Value
public import proofs.«01_k».proof.Proof.Gen.ReferenceIdeal.Run
public import proofs.«01_k».proof.Proof.Gen.ReferenceIdeal.Read
public import proofs.«01_k».proof.Proof.Same
public import proofs.«01_k».proof.Proof.Gen.Kernel2
public import proofs.«01_k».proof.Proof.Gen.Kernel2Ideal
public import proofs.«01_k».proof.Proof.Post.FrameBits
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.On_rows_step
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite6
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_finite7
public import proofs.«01_k».proof.Proof.Post.Equal
public import proofs.«01_k».proof.Proof.Mem.FrameBits
public import proofs.«01_k».proof.Proof.Mem.Equal
public import proofs.«01_k».proof.Proof.Proj.Equal
public import proofs.«01_k».proof.Proof.Ffn.Equal
public import proofs.«01_k».proof.Proof.Mix.Equal
public import proofs.«01_k».proof.Proof.Attn.Equal
public import proofs.«01_k».proof.Proof.Finite
public import Idealize.ShloMosaic.Lib.Quiescent

@[expose] public section

noncomputable section

namespace Cert.Proof

open Idealize.ShloMosaic Idealize.SL.Sem

/-- The reference uses no semaphore, and writes none of its arguments. -/
theorem reference_frame : Cert.quiescent_ReferenceIdeal := fun m ρ _ =>
  (θ_run _ _ _).mono (fun r h => ⟨fun c => (h c).2.2.2.2.2, sem_eq_zero_of_no_sems (by decide) r.2⟩) (Cert.ReferenceIdeal.Value.run (F := Ideal) m ρ)

/-- Under the precondition every argument is an array of real numbers. -/
theorem real (m : (ℓ : Loc Cert.KernelIdeal.nD Cert.KernelIdeal.τ Cert.KernelIdeal.sig) → Buf (Elt Ideal) ℓ)
    (h : Cert.Pre_KernelIdeal_finite m) (c : Dev Cert.KernelIdeal.nD) : Same.Real m c := by
  obtain ⟨r0, r1, r2, r3, r4, r5, r6, r7⟩ := Finite.real_args _ _ _ _ _ _ _ _ (h c)
  exact ⟨r0, r1, r2, r3, r4, r5, r6, r7⟩

/-- An index of a three-axis array, by its coordinates. -/
theorem idx3 {a b c : ℕ} (i : (⟨3, ![a, b, c]⟩ : Shape).Idx) : i = ix3 (i 0) (i 1) (i 2) := by
  funext x
  match x with
  | ⟨0, _⟩ => rfl
  | ⟨1, _⟩ => rfl
  | ⟨2, _⟩ => rfl

open Cert.KernelIdeal.Gen Cert.ReferenceIdeal.Read Same in
theorem equal : Cert.algebraic_KernelIdeal_ReferenceIdeal_on_rows_real_pre_finite := by
  intro m g m' g' hp ha
  refine ⟨fun c => val_main_v249 (F := Ideal) (A0 m c) (A1 m c) (A2 m c) (A3 m c) (A4 m c) (A5 m c) (A6 m c) (A7 m c),
    fun c => val_main_v251 (F := Ideal) (A0 m c) (A1 m c) (A2 m c) (A3 m c) (A4 m c) (A5 m c) (A6 m c) (A7 m c),
    fun c => val_main_v85 (F := Ideal) (A1 m c) (A4 m c), fun c => val_main_v166 (F := Ideal) (A2 m c) (A5 m c),
    fun c => val_main_v247 (F := Ideal) (A3 m c) (A6 m c), ?_, ?_⟩
  · refine (θ_run _ _ _).mono (fun r h c => ?_) (Cert.KernelIdeal.Value.run_blocks (F := Ideal) m g)
    obtain ⟨h0, h1, h2, h3, h4, hk⟩ := h c
    have H := real m hp c
    refine ⟨fun i hi => ?_, fun i hi => ?_, fun i _ => ?_, fun i _ => ?_, fun i _ => ?_, hk⟩
    · rw [idx3 i] at hi ⊢
      exact (congrFun h0 _).trans (avg m c H _ _ _ (Finite.mask0 _ _ _ _ _ _ _ _ _ _ _ hi))
    · rw [idx3 i] at hi ⊢
      exact (congrFun h1 _).trans (lse m c H _ _ _ (Finite.mask1 _ _ _ _ _ _ _ _ _ _ _ hi))
    · rw [idx3 i]
      exact (congrFun h2 _).trans (moved0 m c H _ _ _)
    · rw [idx3 i]
      exact (congrFun h3 _).trans (moved1 m c H _ _ _)
    · rw [idx3 i]
      exact (congrFun h4 _).trans (moved2 m c H _ _ _)
  · refine (θ_run _ _ _).mono (fun r h c => ?_) (Cert.ReferenceIdeal.Value.run (F := Ideal) m' g')
    obtain ⟨h0, h1, h2, h3, h4, hk⟩ := h c
    obtain ⟨e0, e1, e2, e3, e4, e5, e6, e7⟩ := ha c
    have f0 := h0.trans (val_main_v249_eq (StableHlo.launchContents m' c))
    have f1 := h1.trans (val_main_v251_eq (StableHlo.launchContents m' c))
    have f2 := h2.trans (val_main_v85_eq (StableHlo.launchContents m' c))
    have f3 := h3.trans (val_main_v166_eq (StableHlo.launchContents m' c))
    have f4 := h4.trans (val_main_v247_eq (StableHlo.launchContents m' c))
    simp only [StableHlo.launchContents_devRef, e0, e1, e2, e3, e4, e5, e6, e7] at f0 f1 f2 f3 f4
    exact ⟨fun i _ => congrFun f0 i, fun i _ => congrFun f1 i, fun i _ => congrFun f2 i, fun i _ => congrFun f3 i, fun i _ => congrFun f4 i, hk⟩

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite.Gen.facts, Cert.Pre_finite2.Gen.facts, Cert.Pre_finite6.Gen.facts, Cert.Pre_finite7.Gen.facts, Cert.On_rows_real.Gen.facts, Cert.On_rows_step.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Kernel2.Post.frame m ρ, fun m ρ _ => Cert.Kernel2Ideal.Post.frame m ρ, fun m ρ _ => Cert.Kernel2Ideal.Post.frame m ρ,
  PostEqual.reference2_frame, fun m ρ _ => PostEqual.reference2_frame m ρ trivial,
  fun m ρ _ => Cert.Kernel3.Mem.frame m ρ, fun m ρ _ => Cert.Kernel3Ideal.Mem.frame m ρ, MemEqual.reference3_frame,
  fun m ρ _ => Cert.Kernel4.Gen.frame m ρ, fun m ρ _ => Cert.Kernel4Ideal.Gen.frame m ρ, ProjEqual.reference4_frame,
  fun m ρ _ => Cert.Kernel5.Gen.frame m ρ, fun m ρ _ => Cert.Kernel5Ideal.Gen.frame m ρ, FfnEqual.reference5_frame,
  fun m ρ _ => Cert.Kernel6.Gen.frame m ρ, fun m ρ _ => Cert.Kernel6Ideal.Gen.frame m ρ, fun m ρ _ => Cert.Kernel6Ideal.Gen.frame m ρ,
  MixEqual.reference6_frame, fun m ρ _ => MixEqual.reference6_frame m ρ trivial,
  fun m ρ _ => Cert.Kernel7.Gen.frame m ρ, fun m ρ _ => Cert.Kernel7Ideal.Gen.frame m ρ, fun m ρ _ => Cert.Kernel7Ideal.Gen.frame m ρ,
  AttnEqual.reference7_frame, fun m ρ _ => AttnEqual.reference7_frame m ρ trivial,
  trivial, equal, trivial, PostEqual.equal2, trivial, MemEqual.equal3, trivial, ProjEqual.equal4, trivial, FfnEqual.equal5, trivial, MixEqual.equal6,
  trivial, AttnEqual.equal7⟩

end Cert.Proof

end
